-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v171_0)) (v1 : (c : Dev Cert.KernelIdeal.nD) → Buf (Elt Ideal) ((c.tc : Thread Cert.KernelIdeal.nD Cert.KernelIdeal.τ).loc Cert.KernelIdeal.main_v171_1)) (v2 : (c : Dev Cert.KernelIdeal.nD) → Buf (Elt Ideal) ((c.tc : Thread Cert.KernelIdeal.nD Cert.KernelIdeal.τ).loc Cert.KernelIdeal.main_v171_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v171_0) = v0 c
          ∧ r.2.mem ((c.tc : Thread Cert.KernelIdeal.nD Cert.KernelIdeal.τ).loc Cert.KernelIdeal.main_v171_1) = v1 c
          ∧ r.2.mem ((c.tc : Thread Cert.KernelIdeal.nD Cert.KernelIdeal.τ).loc Cert.KernelIdeal.main_v171_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v210) = v0 c
          ∧ r.2.mem ((c.tc : Thread Cert.ReferenceIdeal.nD Cert.ReferenceIdeal.τ).loc Cert.ReferenceIdeal.main_v211) = v1 c
          ∧ r.2.mem ((c.tc : Thread Cert.ReferenceIdeal.nD Cert.ReferenceIdeal.τ).loc Cert.ReferenceIdeal.main_v212) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v5_0)) (v1 : (c : Dev Cert.Kernel2Ideal.nD) → Buf (Elt Ideal) ((c.tc : Thread Cert.Kernel2Ideal.nD Cert.Kernel2Ideal.τ).loc Cert.Kernel2Ideal.main_v5_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5_0) = v0 c
          ∧ r.2.mem ((c.tc : Thread Cert.Kernel2Ideal.nD Cert.Kernel2Ideal.τ).loc Cert.Kernel2Ideal.main_v5_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v14) = v0 c
          ∧ r.2.mem ((c.tc : Thread Cert.Reference2Ideal.nD Cert.Reference2Ideal.τ).loc Cert.Reference2Ideal.main_v15) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v5) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v5) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v10) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) →
    ∃ (v0 : (c : Dev Cert.Kernel5Ideal.nD) → Buf (Elt Ideal) ((c.tc : Thread Cert.Kernel5Ideal.nD Cert.Kernel5Ideal.τ).loc Cert.Kernel5Ideal.main_v5_0)) (v1 : (c : Dev Cert.Kernel5Ideal.nD) → Buf (Elt Ideal) ((c.tc : Thread Cert.Kernel5Ideal.nD Cert.Kernel5Ideal.τ).loc Cert.Kernel5Ideal.main_v5_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v5_0) = v0 c
          ∧ r.2.mem ((c.tc : Thread Cert.Kernel5Ideal.nD Cert.Kernel5Ideal.τ).loc Cert.Kernel5Ideal.main_v5_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v7) = v0 c
          ∧ r.2.mem ((c.tc : Thread Cert.Reference5Ideal.nD Cert.Reference5Ideal.τ).loc Cert.Reference5Ideal.main_v8) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)) →
    ∃ (v0 : (c : Dev Cert.Kernel6Ideal.nD) → Buf (Elt Ideal) ((c.tc : Thread Cert.Kernel6Ideal.nD Cert.Kernel6Ideal.τ).loc Cert.Kernel6Ideal.main_v6_0)) (v1 : (c : Dev Cert.Kernel6Ideal.nD) → Buf (Elt Ideal) ((c.tc : Thread Cert.Kernel6Ideal.nD Cert.Kernel6Ideal.τ).loc Cert.Kernel6Ideal.main_v6_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v6_0) = v0 c
          ∧ r.2.mem ((c.tc : Thread Cert.Kernel6Ideal.nD Cert.Kernel6Ideal.τ).loc Cert.Kernel6Ideal.main_v6_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v45) = v0 c
          ∧ r.2.mem ((c.tc : Thread Cert.Reference6Ideal.nD Cert.Reference6Ideal.τ).loc Cert.Reference6Ideal.main_v46) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)) →
    ∃ (v0 : (c : Dev Cert.Kernel7Ideal.nD) → Buf (Elt Ideal) ((c.tc : Thread Cert.Kernel7Ideal.nD Cert.Kernel7Ideal.τ).loc Cert.Kernel7Ideal.main_v4_0)) (v1 : (c : Dev Cert.Kernel7Ideal.nD) → Buf (Elt Ideal) ((c.tc : Thread Cert.Kernel7Ideal.nD Cert.Kernel7Ideal.τ).loc Cert.Kernel7Ideal.main_v4_1)) (v2 : (c : Dev Cert.Kernel7Ideal.nD) → Buf (Elt Ideal) ((c.tc : Thread Cert.Kernel7Ideal.nD Cert.Kernel7Ideal.τ).loc Cert.Kernel7Ideal.main_v4_2)) (v3 : (c : Dev Cert.Kernel7Ideal.nD) → Buf (Elt Ideal) ((c.tc : Thread Cert.Kernel7Ideal.nD Cert.Kernel7Ideal.τ).loc Cert.Kernel7Ideal.main_v4_3)) (v4 : (c : Dev Cert.Kernel7Ideal.nD) → Buf (Elt Ideal) ((c.tc : Thread Cert.Kernel7Ideal.nD Cert.Kernel7Ideal.τ).loc Cert.Kernel7Ideal.main_v4_4)) (v5 : (c : Dev Cert.Kernel7Ideal.nD) → Buf (Elt Ideal) ((c.tc : Thread Cert.Kernel7Ideal.nD Cert.Kernel7Ideal.τ).loc Cert.Kernel7Ideal.main_v4_5)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v4_0) = v0 c
          ∧ r.2.mem ((c.tc : Thread Cert.Kernel7Ideal.nD Cert.Kernel7Ideal.τ).loc Cert.Kernel7Ideal.main_v4_1) = v1 c
          ∧ r.2.mem ((c.tc : Thread Cert.Kernel7Ideal.nD Cert.Kernel7Ideal.τ).loc Cert.Kernel7Ideal.main_v4_2) = v2 c
          ∧ r.2.mem ((c.tc : Thread Cert.Kernel7Ideal.nD Cert.Kernel7Ideal.τ).loc Cert.Kernel7Ideal.main_v4_3) = v3 c
          ∧ r.2.mem ((c.tc : Thread Cert.Kernel7Ideal.nD Cert.Kernel7Ideal.τ).loc Cert.Kernel7Ideal.main_v4_4) = v4 c
          ∧ r.2.mem ((c.tc : Thread Cert.Kernel7Ideal.nD Cert.Kernel7Ideal.τ).loc Cert.Kernel7Ideal.main_v4_5) = v5 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v74) = v0 c
          ∧ r.2.mem ((c.tc : Thread Cert.Reference7Ideal.nD Cert.Reference7Ideal.τ).loc Cert.Reference7Ideal.main_v75) = v1 c
          ∧ r.2.mem ((c.tc : Thread Cert.Reference7Ideal.nD Cert.Reference7Ideal.τ).loc Cert.Reference7Ideal.main_v52) = v2 c
          ∧ r.2.mem ((c.tc : Thread Cert.Reference7Ideal.nD Cert.Reference7Ideal.τ).loc Cert.Reference7Ideal.main_v76) = v3 c
          ∧ r.2.mem ((c.tc : Thread Cert.Reference7Ideal.nD Cert.Reference7Ideal.τ).loc Cert.Reference7Ideal.main_v73) = v4 c
          ∧ r.2.mem ((c.tc : Thread Cert.Reference7Ideal.nD Cert.Reference7Ideal.τ).loc Cert.Reference7Ideal.main_v46) = v5 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Pre_finite.lean ====
abbrev S8192x512 : Shape := ⟨2, ![8192, 512]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel

variable [Facts]

def fn_part1 {F : FTy → Type} [FloatOps F] (main_v13 : IVec S_ 1) (main_v16 : IVec S8192x512 1) : IVec S_ 1 :=
  let main_c_5 : IVec S_ 1 := constantI S_ 1 1#1
  let main_v17 : IVec S_ 1 := (fun x v => Host.reduce IntOp.andi x v reducesTo_S8192x512_S_d0_1 h_S_) main_v16 main_c_5
  let main_v18 : IVec S_ 1 := andi main_v13 main_v17
  main_v18

def fn {F : FTy → Type} [FloatOps F] (main_arg0 : FVec F S8192x512 .f32) (main_arg1 : FVec F S8192x512 .f32) (main_arg2 : FVec F S8192x512 .f32) (main_arg3 : FVec F S8192x512 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x512 .f32 := Host.absf main_arg1
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : IVec S_ 1 := andi main_v3 main_v7
  let main_v9 : FVec F S8192x512 .f32 := Host.absf main_arg2
  let main_cst_2 : FVec F S_ .f32 := constant S_ .f32 0x7F800000#32
  let main_v10 : FVec F S8192x512 .f32 := broadcastInDim S8192x512 ![] bcast_S_S8192x512 main_cst_2
  let main_v11 : IVec S8192x512 1 := cmpf .olt main_v9 main_v10
  let main_c_3 : IVec S_ 1 := constantI S_ 1 1#1
  let main_v12 : IVec S_ 1 := (fun x v => Host.reduce IntOp.andi x v reducesTo_S8192x512_S_d0_1 h_S_) main_v11 main_c_3
  let main_v13 : IVec S_ 1 := andi main_v8 main_v12
  let main_v14 : FVec F S8192x512 .f32 := Host.absf main_arg3
  let main_cst_4 : FVec F S_ .f32 := constant S_ .f32 0x7F800000#32
  let main_v15 : FVec F S8192x512 .f32 := broadcastInDim S8192x512 ![] bcast_S_S8192x512 main_cst_4
  let main_v16 : IVec S8192x512 1 := cmpf .olt main_v14 main_v15
  fn_part1 (F := F) main_v13 main_v16
-- ==== Kernel.lean ====
abbrev S8192x512 : Shape := ⟨2, ![8192, 512]⟩
abbrev S64 : Shape := ⟨1, ![64]⟩
abbrev S_ : Shape := ⟨0, ![]⟩
abbrev S8192 : Shape := ⟨1, ![8192]⟩
abbrev S8192x1 : Shape := ⟨2, ![8192, 1]⟩
abbrev S1x64 : Shape := ⟨2, ![1, 64]⟩
abbrev S8192x64 : Shape := ⟨2, ![8192, 64]⟩
abbrev S8192x128 : Shape := ⟨2, ![8192, 128]⟩
abbrev S1x8192x4x128 : Shape := ⟨4, ![1, 8192, 4, 128]⟩
abbrev S1x8192x1x64 : Shape := ⟨4, ![1, 8192, 1, 64]⟩
abbrev S1x8192x4x64 : Shape := ⟨4, ![1, 8192, 4, 64]⟩
abbrev S3 : Shape := ⟨1, ![3]⟩
abbrev S1 : Shape := ⟨1, ![1]⟩
abbrev S4 : Shape := ⟨1, ![4]⟩
abbrev S32 : Shape := ⟨1, ![32]⟩
abbrev S32x1 : Shape := ⟨2, ![32, 1]⟩
abbrev S1x8192 : Shape := ⟨2, ![1, 8192]⟩
abbrev S32x8192 : Shape := ⟨2, ![32, 8192]⟩
abbrev S1x32x8192 : Shape := ⟨3, ![1, 32, 8192]⟩
abbrev S4x1x1 : Shape := ⟨3, ![4, 1, 1]⟩
abbrev S4x32x8192 : Shape := ⟨3, ![4, 32, 8192]⟩
abbrev S8192x4x128 : Shape := ⟨3, ![8192, 4, 128]⟩
abbrev S4x8192x128 : Shape := ⟨3, ![4, 8192, 128]⟩
abbrev S4x1x8192x128 : Shape := ⟨4, ![4, 1, 8192, 128]⟩
abbrev S4x32x8192x1 : Shape := ⟨4, ![4, 32, 8192, 1]⟩
abbrev S4x32x8192x128 : Shape := ⟨4, ![4, 32, 8192, 128]⟩
abbrev S4x32x128x128 : Shape := ⟨4, ![4, 32, 128, 128]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S1x256x256 : Shape := ⟨3, ![1, 256, 256]⟩
abbrev S4x256x256 : Shape := ⟨3, ![4, 256, 256]⟩
abbrev S4x1 : Shape := ⟨2, ![4, 1]⟩
abbrev S4x256 : Shape := ⟨2, ![4, 256]⟩
abbrev S4x8x128 : Shape := ⟨3, ![4, 8, 128]⟩
abbrev S4x256x1 : Shape := ⟨3, ![4, 256, 1]⟩
abbrev S4x256x128 : Shape := ⟨3, ![4, 256, 128]⟩
abbrev S512x512 : Shape := ⟨2, ![512, 512]⟩
abbrev S4x2x128x128 : Shape := ⟨4, ![4, 2, 128, 128]⟩
abbrev S512x128 : Shape := ⟨2, ![512, 128]⟩
abbrev S4x128x128 : Shape := ⟨3, ![4, 128, 128]⟩
abbrev S1x256x128 : Shape := ⟨3, ![1, 256, 128]⟩
abbrev S256x128 : Shape := ⟨2, ![256, 128]⟩
abbrev S1x128x128 : Shape := ⟨3, ![1, 128, 128]⟩
abbrev S128x128 : Shape := ⟨2, ![128, 128]⟩
abbrev S1x1x128x128 : Shape := ⟨4, ![1, 1, 128, 128]⟩
abbrev S1x1x128 : Shape := ⟨3, ![1, 1, 128]⟩
abbrev S1x128 : Shape := ⟨2, ![1, 128]⟩

abbrev nBuf : Space → Nat
  | .hbm => 248
  | .vmem => 25
  | .smem => 0
  | _ => 0

abbrev hbmTy0_0 (i : Nat) : BufTy := match i % 128 with
  | 0 => ⟨S8192x512, .f32⟩
  | 1 => ⟨S8192x512, .f32⟩
  | 2 => ⟨S8192x512, .f32⟩
  | 3 => ⟨S8192x512, .f32⟩
  | 4 => ⟨S64, .f32⟩
  | 5 => ⟨S64, .f32⟩
  | 6 => ⟨S_, .f32⟩
  | 7 => ⟨S64, .f32⟩
  | 8 => ⟨S64, .f32⟩
  | 9 => ⟨S_, .f32⟩
  | 10 => ⟨S64, .f32⟩
  | 11 => ⟨S64, .f32⟩
  | 12 => ⟨S8192, .f32⟩
  | 13 => ⟨S8192x1, .f32⟩
  | 14 => ⟨S1x64, .f32⟩
  | 15 => ⟨S8192x64, .f32⟩
  | 16 => ⟨S8192x64, .f32⟩
  | 17 => ⟨S8192x64, .f32⟩
  | 18 => ⟨S8192x64, .f32⟩
  | 19 => ⟨S8192x64, .f32⟩
  | 20 => ⟨S8192x128, .f32⟩
  | 21 => ⟨S8192x64, .f32⟩
  | 22 => ⟨S8192x128, .f32⟩
  | 23 => ⟨S1x8192x4x128, .f32⟩
  | 24 => ⟨S64, .f32⟩
  | 25 => ⟨S64, .f32⟩
  | 26 => ⟨S_, .f32⟩
  | 27 => ⟨S64, .f32⟩
  | 28 => ⟨S64, .f32⟩
  | 29 => ⟨S_, .f32⟩
  | 30 => ⟨S64, .f32⟩
  | 31 => ⟨S64, .f32⟩
  | 32 => ⟨S8192, .f32⟩
  | 33 => ⟨S8192x1, .f32⟩
  | 34 => ⟨S1x64, .f32⟩
  | 35 => ⟨S8192x64, .f32⟩
  | 36 => ⟨S8192x64, .f32⟩
  | 37 => ⟨S8192x64, .f32⟩
  | 38 => ⟨S8192x64, .f32⟩
  | 39 => ⟨S1x8192x1x64, .f32⟩
  | 40 => ⟨S8192x64, .f32⟩
  | 41 => ⟨S1x8192x1x64, .f32⟩
  | 42 => ⟨S1x8192x4x64, .f32⟩
  | 43 => ⟨S1x8192x4x64, .f32⟩
  | 44 => ⟨S1x8192x4x64, .f32⟩
  | 45 => ⟨S1x8192x4x64, .f32⟩
  | 46 => ⟨S1x8192x4x64, .f32⟩
  | 47 => ⟨S1x8192x4x64, .f32⟩
  | 48 => ⟨S1x8192x4x64, .f32⟩
  | 49 => ⟨S1x8192x4x64, .f32⟩
  | 50 => ⟨S1x8192x4x64, .f32⟩
  | 51 => ⟨S1x8192x4x64, .f32⟩
  | 52 => ⟨S1x8192x4x64, .f32⟩
  | 53 => ⟨S1x8192x4x64, .f32⟩
  | 54 => ⟨S1x8192x4x128, .f32⟩
  | 55 => ⟨S8192x512, .f32⟩
  | 56 => ⟨S1x8192x4x128, .f32⟩
  | 57 => ⟨S64, .f32⟩
  | 58 => ⟨S64, .f32⟩
  | 59 => ⟨S_, .f32⟩
  | 60 => ⟨S64, .f32⟩
  | 61 => ⟨S64, .f32⟩
  | 62 => ⟨S_, .f32⟩
  | 63 => ⟨S64, .f32⟩
  | 64 => ⟨S64, .f32⟩
  | 65 => ⟨S8192, .f32⟩
  | 66 => ⟨S8192x1, .f32⟩
  | 67 => ⟨S1x64, .f32⟩
  | 68 => ⟨S8192x64, .f32⟩
  | 69 => ⟨S8192x64, .f32⟩
  | 70 => ⟨S8192x64, .f32⟩
  | 71 => ⟨S8192x64, .f32⟩
  | 72 => ⟨S1x8192x1x64, .f32⟩
  | 73 => ⟨S8192x64, .f32⟩
  | 74 => ⟨S1x8192x1x64, .f32⟩
  | 75 => ⟨S1x8192x4x64, .f32⟩
  | 76 => ⟨S1x8192x4x64, .f32⟩
  | 77 => ⟨S1x8192x4x64, .f32⟩
  | 78 => ⟨S1x8192x4x64, .f32⟩
  | 79 => ⟨S1x8192x4x64, .f32⟩
  | 80 => ⟨S1x8192x4x64, .f32⟩
  | 81 => ⟨S1x8192x4x64, .f32⟩
  | 82 => ⟨S1x8192x4x64, .f32⟩
  | 83 => ⟨S1x8192x4x64, .f32⟩
  | 84 => ⟨S1x8192x4x64, .f32⟩
  | 85 => ⟨S1x8192x4x64, .f32⟩
  | 86 => ⟨S1x8192x4x64, .f32⟩
  | 87 => ⟨S1x8192x4x128, .f32⟩
  | 88 => ⟨S_, .f32⟩
  | 89 => ⟨S1x8192x4x128, .f32⟩
  | 90 => ⟨S1x8192x4x128, .f32⟩
  | 91 => ⟨S8192x512, .f32⟩
  | 92 => ⟨S_, .f32⟩
  | 93 => ⟨S_, .f32⟩
  | 94 => ⟨S_, .f32⟩
  | 95 => ⟨S_, .f32⟩
  | 96 => ⟨S_, .f32⟩
  | 97 => ⟨S_, .f32⟩
  | 98 => ⟨S_, .f32⟩
  | 99 => ⟨S3, .f32⟩
  | 100 => ⟨S_, .f32⟩
  | 101 => ⟨S3, .f32⟩
  | 102 => ⟨S3, .f32⟩
  | 103 => ⟨S1, .f32⟩
  | 104 => ⟨S_, .f32⟩
  | 105 => ⟨S3, .f32⟩
  | 106 => ⟨S3, .f32⟩
  | 107 => ⟨S3, .f32⟩
  | 108 => ⟨S3, .f32⟩
  | 109 => ⟨S1, .f32⟩
  | 110 => ⟨S3, .f32⟩
  | 111 => ⟨S3, .f32⟩
  | 112 => ⟨S3, .f32⟩
  | 113 => ⟨S1, .f32⟩
  | 114 => ⟨S4, .f32⟩
  | 115 => ⟨S4, .f32⟩
  | 116 => ⟨S_, .f32⟩
  | 117 => ⟨S4, .f32⟩
  | 118 => ⟨S4, .f32⟩
  | 119 => ⟨S4, .f32⟩
  | 120 => ⟨S32, .f32⟩
  | 121 => ⟨S32x1, .f32⟩
  | 122 => ⟨S_, .f32⟩
  | 123 => ⟨S32x1, .f32⟩
  | 124 => ⟨S32x1, .f32⟩
  | 125 => ⟨S_, .f32⟩
  | 126 => ⟨S32x1, .f32⟩
  | 127 => ⟨S32x1, .f32⟩
  | _ => ⟨S8192x512, .f32⟩

abbrev hbmTy0_1 (i : Nat) : BufTy := match i % 128 with
  | 0 => ⟨S8192, .f32⟩
  | 1 => ⟨S1x8192, .f32⟩
  | 2 => ⟨S32x8192, .f32⟩
  | 3 => ⟨S32x8192, .f32⟩
  | 4 => ⟨S32x8192, .f32⟩
  | 5 => ⟨S1x32x8192, .f32⟩
  | 6 => ⟨S_, .f32⟩
  | 7 => ⟨S1x32x8192, .f32⟩
  | 8 => ⟨S1x32x8192, .i1⟩
  | 9 => ⟨S_, .f32⟩
  | 10 => ⟨S32x8192, .f32⟩
  | 11 => ⟨S32x8192, .f32⟩
  | 12 => ⟨S1x32x8192, .f32⟩
  | 13 => ⟨S4x1x1, .f32⟩
  | 14 => ⟨S4x32x8192, .f32⟩
  | 15 => ⟨S4x32x8192, .f32⟩
  | 16 => ⟨S4x32x8192, .f32⟩
  | 17 => ⟨S4x32x8192, .f32⟩
  | 18 => ⟨S_, .f32⟩
  | 19 => ⟨S_, .f32⟩
  | 20 => ⟨S4x32x8192, .i1⟩
  | 21 => ⟨S4x32x8192, .f32⟩
  | 22 => ⟨S4x32x8192, .f32⟩
  | 23 => ⟨S8192x4x128, .f32⟩
  | 24 => ⟨S8192x4x128, .f32⟩
  | 25 => ⟨S4x8192x128, .f32⟩
  | 26 => ⟨S4x1x8192x128, .f32⟩
  | 27 => ⟨S4x32x8192x1, .f32⟩
  | 28 => ⟨S4x32x8192x128, .f32⟩
  | 29 => ⟨S4x32x8192x128, .f32⟩
  | 30 => ⟨S4x32x8192x128, .f32⟩
  | 31 => ⟨S4x32x128x128, .f32⟩
  | 32 => ⟨S4x32x128x128, .f32⟩
  | 33 => ⟨S8192x512, .bf16⟩
  | 34 => ⟨S8192x512, .bf16⟩
  | 35 => ⟨S8192x512, .bf16⟩
  | 36 => ⟨S8192x512, .bf16⟩
  | 37 => ⟨S_, .f32⟩
  | 38 => ⟨S_, .f32⟩
  | 39 => ⟨S_, .f32⟩
  | 40 => ⟨S_, .f32⟩
  | 41 => ⟨S_, .f32⟩
  | 42 => ⟨S_, .f32⟩
  | 43 => ⟨S_, .f32⟩
  | 44 => ⟨S3, .f32⟩
  | 45 => ⟨S_, .f32⟩
  | 46 => ⟨S3, .f32⟩
  | 47 => ⟨S3, .f32⟩
  | 48 => ⟨S1, .f32⟩
  | 49 => ⟨S_, .f32⟩
  | 50 => ⟨S3, .f32⟩
  | 51 => ⟨S3, .f32⟩
  | 52 => ⟨S3, .f32⟩
  | 53 => ⟨S3, .f32⟩
  | 54 => ⟨S1, .f32⟩
  | 55 => ⟨S3, .f32⟩
  | 56 => ⟨S3, .f32⟩
  | 57 => ⟨S3, .f32⟩
  | 58 => ⟨S1, .f32⟩
  | 59 => ⟨S4, .f32⟩
  | 60 => ⟨S4, .f32⟩
  | 61 => ⟨S_, .f32⟩
  | 62 => ⟨S4, .f32⟩
  | 63 => ⟨S4, .f32⟩
  | 64 => ⟨S4, .f32⟩
  | 65 => ⟨S256, .f32⟩
  | 66 => ⟨S256x1, .f32⟩
  | 67 => ⟨S1x256, .f32⟩
  | 68 => ⟨S256x256, .f32⟩
  | 69 => ⟨S256x256, .f32⟩
  | 70 => ⟨S256x256, .f32⟩
  | 71 => ⟨S1x256x256, .f32⟩
  | 72 => ⟨S_, .f32⟩
  | 73 => ⟨S1x256x256, .f32⟩
  | 74 => ⟨S1x256x256, .i1⟩
  | 75 => ⟨S_, .f32⟩
  | 76 => ⟨S256x256, .f32⟩
  | 77 => ⟨S256x256, .f32⟩
  | 78 => ⟨S1x256x256, .f32⟩
  | 79 => ⟨S4x1x1, .f32⟩
  | 80 => ⟨S4x256x256, .f32⟩
  | 81 => ⟨S4x256x256, .f32⟩
  | 82 => ⟨S4x256x256, .f32⟩
  | 83 => ⟨S4x256x256, .f32⟩
  | 84 => ⟨S_, .f32⟩
  | 85 => ⟨S_, .f32⟩
  | 86 => ⟨S4x256x256, .i1⟩
  | 87 => ⟨S4x256x256, .f32⟩
  | 88 => ⟨S4x256x256, .f32⟩
  | 89 => ⟨S_, .f32⟩
  | 90 => ⟨S256, .f32⟩
  | 91 => ⟨S256, .f32⟩
  | 92 => ⟨S1x256, .f32⟩
  | 93 => ⟨S4x1, .f32⟩
  | 94 => ⟨S4x256, .f32⟩
  | 95 => ⟨S4x256, .f32⟩
  | 96 => ⟨S4x256, .f32⟩
  | 97 => ⟨S4x256, .f32⟩
  | 98 => ⟨S_, .f32⟩
  | 99 => ⟨S256, .f32⟩
  | 100 => ⟨S256, .f32⟩
  | 101 => ⟨S1x256, .f32⟩
  | 102 => ⟨S4x1, .f32⟩
  | 103 => ⟨S4x256, .f32⟩
  | 104 => ⟨S4x256, .f32⟩
  | 105 => ⟨S4x256, .f32⟩
  | 106 => ⟨S4x256, .f32⟩
  | 107 => ⟨S_, .f32⟩
  | 108 => ⟨S4, .f32⟩
  | 109 => ⟨S4, .f32⟩
  | 110 => ⟨S4, .f32⟩
  | 111 => ⟨S4x1x1, .f32⟩
  | 112 => ⟨S4x8x128, .f32⟩
  | 113 => ⟨S4x256x1, .f32⟩
  | 114 => ⟨S4x256x128, .f32⟩
  | 115 => ⟨S4x256x1, .f32⟩
  | 116 => ⟨S4x256x128, .f32⟩
  | 117 => ⟨S8192x512, .bf16⟩
  | 118 => ⟨S8192x512, .bf16⟩
  | 119 => ⟨S8192x512, .bf16⟩
  | _ => ⟨S8192x512, .f32⟩

abbrev hbmTy (i : Nat) : BufTy := match i / 128 with
  | 0 => hbmTy0_0 i
  | 1 => hbmTy0_1 i
  | _ => ⟨S8192x512, .f32⟩

abbrev bufTy : (tb : Table) → Fin (tcTables nBuf tb) → BufTy
  | .hbm, ⟨i, _⟩ => hbmTy i
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S4x2x128x128, .f32⟩
  | .local _ .vmem, ⟨9, _⟩ => ⟨S4x2x128x128, .f32⟩
  | .local _ .vmem, ⟨10, _⟩ => ⟨S4x256x256, .f32⟩
  | .local _ .vmem, ⟨11, _⟩ => ⟨S4x256x128, .f32⟩
  | .local _ .vmem, ⟨12, _⟩ => ⟨S4x256x128, .f32⟩
  | .local _ .vmem, ⟨13, _⟩ => ⟨S4x8x128, .f32⟩
  | .local _ .vmem, ⟨14, _⟩ => ⟨S512x128, .f32⟩
  | .local _ .vmem, ⟨15, _⟩ => ⟨S512x128, .f32⟩
  | .local _ .vmem, ⟨16, _⟩ => ⟨S512x128, .f32⟩
  | .local _ .vmem, ⟨17, _⟩ => ⟨S512x128, .f32⟩
  | .local _ .vmem, ⟨18, _⟩ => ⟨S512x512, .bf16⟩
  | .local _ .vmem, ⟨19, _⟩ => ⟨S512x512, .bf16⟩
  | .local _ .vmem, ⟨20, _⟩ => ⟨S512x512, .bf16⟩
  | .local _ .vmem, ⟨21, _⟩ => ⟨S512x512, .bf16⟩
  | .local _ .vmem, ⟨22, _⟩ => ⟨S512x512, .bf16⟩
  | .local _ .vmem, ⟨23, _⟩ => ⟨S512x512, .bf16⟩
  | .local _ .vmem, ⟨24, _⟩ => ⟨S4x128x128, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_1 : Ref sig .tc := ⟨.hbm, 26, rfl⟩
abbrev main_v20 : Ref sig .tc := ⟨.hbm, 27, rfl⟩
abbrev main_v21 : Ref sig .tc := ⟨.hbm, 28, rfl⟩
abbrev main_cst_2 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_cst_3 : Ref sig .tc := ⟨.hbm, 59, rfl⟩
abbrev main_v51 : Ref sig .tc := ⟨.hbm, 60, rfl⟩
abbrev main_v52 : Ref sig .tc := ⟨.hbm, 61, rfl⟩
abbrev main_cst_4 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_cst_5 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_cst_6 : Ref sig .tc := ⟨.hbm, 92, rfl⟩
abbrev main_cst_7 : Ref sig .tc := ⟨.hbm, 93, rfl⟩
abbrev main_call0_v0 : Ref sig .tc := ⟨.hbm, 94, rfl⟩
abbrev main_call0_v1 : Ref sig .tc := ⟨.hbm, 95, rfl⟩
abbrev main_call0_v2 : Ref sig .tc := ⟨.hbm, 96, rfl⟩
abbrev main_call0_cst : Ref sig .tc := ⟨.hbm, 97, rfl⟩
abbrev main_call0_v3 : Ref sig .tc := ⟨.hbm, 98, rfl⟩
abbrev main_call0_v4 : Ref sig .tc := ⟨.hbm, 99, rfl⟩
abbrev main_call0_cst_0 : Ref sig .tc := ⟨.hbm, 100, rfl⟩
abbrev main_call0_v5 : Ref sig .tc := ⟨.hbm, 101, rfl⟩
abbrev main_call0_v6 : Ref sig .tc := ⟨.hbm, 102, rfl⟩
abbrev main_call0_v7 : Ref sig .tc := ⟨.hbm, 103, rfl⟩
abbrev main_call0_cst_1 : Ref sig .tc := ⟨.hbm, 104, rfl⟩
abbrev main_call0_v8 : Ref sig .tc := ⟨.hbm, 105, rfl⟩
abbrev main_call0_v9 : Ref sig .tc := ⟨.hbm, 106, rfl⟩
abbrev main_call0_v10 : Ref sig .tc := ⟨.hbm, 107, rfl⟩
abbrev main_call0_v11 : Ref sig .tc := ⟨.hbm, 108, rfl⟩
abbrev main_call0_v12 : Ref sig .tc := ⟨.hbm, 109, rfl⟩
abbrev main_call0_v13 : Ref sig .tc := ⟨.hbm, 110, rfl⟩
abbrev main_call0_v14 : Ref sig .tc := ⟨.hbm, 111, rfl⟩
abbrev main_call0_v15 : Ref sig .tc := ⟨.hbm, 112, rfl⟩
abbrev main_call0_v16 : Ref sig .tc := ⟨.hbm, 113, rfl⟩
abbrev main_v81 : Ref sig .tc := ⟨.hbm, 114, rfl⟩
abbrev main_v82 : Ref sig .tc := ⟨.hbm, 115, rfl⟩
abbrev main_cst_8 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_cst_9 : Ref sig .tc := ⟨.hbm, 122, rfl⟩
abbrev main_v88 : Ref sig .tc := ⟨.hbm, 123, rfl⟩
abbrev main_v89 : Ref sig .tc := ⟨.hbm, 124, rfl⟩
abbrev main_cst_10 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_cst_11 : Ref sig .tc := ⟨.hbm, 134, rfl⟩
abbrev main_v98 : Ref sig .tc := ⟨.hbm, 135, rfl⟩
abbrev main_v99 : Ref sig .tc := ⟨.hbm, 136, rfl⟩
abbrev main_cst_12 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_cst_13 : Ref sig .tc := ⟨.hbm, 146, rfl⟩
abbrev main_call1_v0 : Ref sig .tc := ⟨.hbm, 147, rfl⟩
abbrev main_call1_v1 : Ref sig .tc := ⟨.hbm, 148, rfl⟩
abbrev main_call1_v2 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_cst_14 : Ref sig .tc := ⟨.hbm, 165, rfl⟩
abbrev main_cst_15 : Ref sig .tc := ⟨.hbm, 166, rfl⟩
abbrev main_call2_v0 : Ref sig .tc := ⟨.hbm, 167, rfl⟩
abbrev main_call2_v1 : Ref sig .tc := ⟨.hbm, 168, rfl⟩
abbrev main_call2_v2 : Ref sig .tc := ⟨.hbm, 169, rfl⟩
abbrev main_call2_cst : Ref sig .tc := ⟨.hbm, 170, rfl⟩
abbrev main_call2_v3 : Ref sig .tc := ⟨.hbm, 171, rfl⟩
abbrev main_call2_v4 : Ref sig .tc := ⟨.hbm, 172, rfl⟩
abbrev main_call2_cst_0 : Ref sig .tc := ⟨.hbm, 173, rfl⟩
abbrev main_call2_v5 : Ref sig .tc := ⟨.hbm, 174, rfl⟩
abbrev main_call2_v6 : Ref sig .tc := ⟨.hbm, 175, rfl⟩
abbrev main_call2_v7 : Ref sig .tc := ⟨.hbm, 176, rfl⟩
abbrev main_call2_cst_1 : Ref sig .tc := ⟨.hbm, 177, rfl⟩
abbrev main_call2_v8 : Ref sig .tc := ⟨.hbm, 178, rfl⟩
abbrev main_call2_v9 : Ref sig .tc := ⟨.hbm, 179, rfl⟩
abbrev main_call2_v10 : Ref sig .tc := ⟨.hbm, 180, rfl⟩
abbrev main_call2_v11 : Ref sig .tc := ⟨.hbm, 181, rfl⟩
abbrev main_call2_v12 : Ref sig .tc := ⟨.hbm, 182, rfl⟩
abbrev main_call2_v13 : Ref sig .tc := ⟨.hbm, 183, rfl⟩
abbrev main_call2_v14 : Ref sig .tc := ⟨.hbm, 184, rfl⟩
abbrev main_call2_v15 : Ref sig .tc := ⟨.hbm, 185, rfl⟩
abbrev main_call2_v16 : Ref sig .tc := ⟨.hbm, 186, rfl⟩
abbrev main_v123 : Ref sig .tc := ⟨.hbm, 187, rfl⟩
abbrev main_v124 : Ref sig .tc := ⟨.hbm, 188, rfl⟩
abbrev main_cst_16 : Ref sig .tc := ⟨.hbm, 189, rfl⟩
abbrev main_v125 : Ref sig .tc := ⟨.hbm, 190, rfl⟩
abbrev main_v126 : Ref sig .tc := ⟨.hbm, 191, rfl⟩
abbrev main_v127 : Ref sig .tc := ⟨.hbm, 192, rfl⟩
abbrev main_v128 : Ref sig .tc := ⟨.hbm, 193, rfl⟩
abbrev main_v129 : Ref sig .tc := ⟨.hbm, 194, rfl⟩
abbrev main_v130 : Ref sig .tc := ⟨.hbm, 195, rfl⟩
abbrev main_v131 : Ref sig .tc := ⟨.hbm, 196, rfl⟩
abbrev main_v132 : Ref sig .tc := ⟨.hbm, 197, rfl⟩
abbrev main_v133 : Ref sig .tc := ⟨.hbm, 198, rfl⟩
abbrev main_v134 : Ref sig .tc := ⟨.hbm, 199, rfl⟩
abbrev main_cst_17 : Ref sig .tc := ⟨.hbm, 200, rfl⟩
abbrev main_v135 : Ref sig .tc := ⟨.hbm, 201, rfl⟩
abbrev main_v136 : Ref sig .tc := ⟨.hbm, 202, rfl⟩
abbrev main_cst_18 : Ref sig .tc := ⟨.hbm, 203, rfl⟩
abbrev main_v137 : Ref sig .tc := ⟨.hbm, 204, rfl⟩
abbrev main_v138 : Ref sig .tc := ⟨.hbm, 205, rfl⟩
abbrev main_v139 : Ref sig .tc := ⟨.hbm, 206, rfl⟩
abbrev main_v140 : Ref sig .tc := ⟨.hbm, 207, rfl⟩
abbrev main_v141 : Ref sig .tc := ⟨.hbm, 208, rfl⟩
abbrev main_v142 : Ref sig .tc := ⟨.hbm, 209, rfl⟩
abbrev main_v143 : Ref sig .tc := ⟨.hbm, 210, rfl⟩
abbrev main_v144 : Ref sig .tc := ⟨.hbm, 211, rfl⟩
abbrev main_cst_19 : Ref sig .tc := ⟨.hbm, 212, rfl⟩
abbrev main_call3_v0 : Ref sig .tc := ⟨.hbm, 213, rfl⟩
abbrev main_call3_v1 : Ref sig .tc := ⟨.hbm, 214, rfl⟩
abbrev main_call3_v2 : Ref sig .tc := ⟨.hbm, 215, rfl⟩
abbrev main_v145 : Ref sig .tc := ⟨.hbm, 216, rfl⟩
abbrev main_cst_20 : Ref sig .tc := ⟨.hbm, 217, rfl⟩
abbrev main_v146 : Ref sig .tc := ⟨.hbm, 218, rfl⟩
abbrev main_v147 : Ref sig .tc := ⟨.hbm, 219, rfl⟩
abbrev main_v148 : Ref sig .tc := ⟨.hbm, 220, rfl⟩
abbrev main_v149 : Ref sig .tc := ⟨.hbm, 221, rfl⟩
abbrev main_v150 : Ref sig .tc := ⟨.hbm, 222, rfl⟩
abbrev main_v151 : Ref sig .tc := ⟨.hbm, 223, rfl⟩
abbrev main_v152 : Ref sig .tc := ⟨.hbm, 224, rfl⟩
abbrev main_v153 : Ref sig .tc := ⟨.hbm, 225, rfl⟩
abbrev main_cst_21 : Ref sig .tc := ⟨.hbm, 226, rfl⟩
abbrev main_v154 : Ref sig .tc := ⟨.hbm, 227, rfl⟩
abbrev main_v155 : Ref sig .tc := ⟨.hbm, 228, rfl⟩
abbrev main_v156 : Ref sig .tc := ⟨.hbm, 229, rfl⟩
abbrev main_v157 : Ref sig .tc := ⟨.hbm, 230, rfl⟩
abbrev main_v158 : Ref sig .tc := ⟨.hbm, 231, rfl⟩
abbrev main_v159 : Ref sig .tc := ⟨.hbm, 232, rfl⟩
abbrev main_v160 : Ref sig .tc := ⟨.hbm, 233, rfl⟩
abbrev main_v161 : Ref sig .tc := ⟨.hbm, 234, rfl⟩
abbrev main_cst_22 : Ref sig .tc := ⟨.hbm, 235, rfl⟩
abbrev main_v162 : Ref sig .tc := ⟨.hbm, 236, rfl⟩
abbrev main_v163 : Ref sig .tc := ⟨.hbm, 237, rfl⟩
abbrev main_v164 : Ref sig .tc := ⟨.hbm, 238, rfl⟩
abbrev main_v165 : Ref sig .tc := ⟨.hbm, 239, rfl⟩
abbrev main_v166 : Ref sig .tc := ⟨.hbm, 240, rfl⟩
abbrev main_v167 : Ref sig .tc := ⟨.hbm, 241, rfl⟩
abbrev main_v168 : Ref sig .tc := ⟨.hbm, 242, rfl⟩
abbrev main_v169 : Ref sig .tc := ⟨.hbm, 243, rfl⟩
abbrev main_v170 : Ref sig .tc := ⟨.hbm, 244, rfl⟩
abbrev main_v171_0 : Ref sig .tc := ⟨.hbm, 245, rfl⟩
abbrev main_v171_1 : Ref sig .tc := ⟨.hbm, 246, rfl⟩
abbrev main_v171_2 : Ref sig .tc := ⟨.hbm, 247, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_4 (i : grid0.Coords) : Fin 4 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  let c0_i32_2 : BitVec 32 := 0#32
  ![c0_i32.toNat, v0.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_13 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x2x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x256x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x256x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== ReferenceIdeal.lean ====
abbrev S8192x512 : Shape := ⟨2, ![8192, 512]⟩
abbrev S1x8192x4x128 : Shape := ⟨4, ![1, 8192, 4, 128]⟩
abbrev S64 : Shape := ⟨1, ![64]⟩
abbrev S_ : Shape := ⟨0, ![]⟩
abbrev S8192 : Shape := ⟨1, ![8192]⟩
abbrev S8192x1 : Shape := ⟨2, ![8192, 1]⟩
abbrev S1x64 : Shape := ⟨2, ![1, 64]⟩
abbrev S8192x64 : Shape := ⟨2, ![8192, 64]⟩
abbrev S1x8192x1x64 : Shape := ⟨4, ![1, 8192, 1, 64]⟩
abbrev S1x8192x4x64 : Shape := ⟨4, ![1, 8192, 4, 64]⟩
abbrev S3 : Shape := ⟨1, ![3]⟩
abbrev S1 : Shape := ⟨1, ![1]⟩
abbrev S4 : Shape := ⟨1, ![4]⟩
abbrev S1x64x128x4x128 : Shape := ⟨5, ![1, 64, 128, 4, 128]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S4x1x1 : Shape := ⟨3, ![4, 1, 1]⟩
abbrev S4x128x128 : Shape := ⟨3, ![4, 128, 128]⟩
abbrev S1x64x4x128x128 : Shape := ⟨5, ![1, 64, 4, 128, 128]⟩
abbrev S1x1x4x128x128 : Shape := ⟨5, ![1, 1, 4, 128, 128]⟩
abbrev S4x1 : Shape := ⟨2, ![4, 1]⟩
abbrev S4x128 : Shape := ⟨2, ![4, 128]⟩
abbrev S128x4 : Shape := ⟨2, ![128, 4]⟩
abbrev S128x4x1 : Shape := ⟨3, ![128, 4, 1]⟩
abbrev S1x1x128x4x1 : Shape := ⟨5, ![1, 1, 128, 4, 1]⟩
abbrev S1x4x1x1 : Shape := ⟨4, ![1, 4, 1, 1]⟩
abbrev S1x4x128x128 : Shape := ⟨4, ![1, 4, 128, 128]⟩
abbrev S64x1x4x128x128 : Shape := ⟨5, ![64, 1, 4, 128, 128]⟩

abbrev nBuf : Space → Nat
  | .hbm => 316
  | .vmem => 0
  | .smem => 0
  | _ => 0

abbrev hbmTy0_0 (i : Nat) : BufTy := match i % 128 with
  | 0 => ⟨S8192x512, .f32⟩
  | 1 => ⟨S8192x512, .f32⟩
  | 2 => ⟨S8192x512, .f32⟩
  | 3 => ⟨S8192x512, .f32⟩
  | 4 => ⟨S1x8192x4x128, .f32⟩
  | 5 => ⟨S64, .f32⟩
  | 6 => ⟨S64, .f32⟩
  | 7 => ⟨S_, .f32⟩
  | 8 => ⟨S64, .f32⟩
  | 9 => ⟨S64, .f32⟩
  | 10 => ⟨S_, .f32⟩
  | 11 => ⟨S64, .f32⟩
  | 12 => ⟨S64, .f32⟩
  | 13 => ⟨S8192, .f32⟩
  | 14 => ⟨S8192x1, .f32⟩
  | 15 => ⟨S1x64, .f32⟩
  | 16 => ⟨S8192x64, .f32⟩
  | 17 => ⟨S8192x64, .f32⟩
  | 18 => ⟨S8192x64, .f32⟩
  | 19 => ⟨S8192x64, .f32⟩
  | 20 => ⟨S1x8192x1x64, .f32⟩
  | 21 => ⟨S8192x64, .f32⟩
  | 22 => ⟨S1x8192x1x64, .f32⟩
  | 23 => ⟨S1x8192x4x64, .f32⟩
  | 24 => ⟨S1x8192x4x64, .f32⟩
  | 25 => ⟨S1x8192x4x64, .f32⟩
  | 26 => ⟨S1x8192x4x64, .f32⟩
  | 27 => ⟨S1x8192x4x64, .f32⟩
  | 28 => ⟨S1x8192x4x64, .f32⟩
  | 29 => ⟨S1x8192x4x64, .f32⟩
  | 30 => ⟨S1x8192x4x64, .f32⟩
  | 31 => ⟨S1x8192x4x64, .f32⟩
  | 32 => ⟨S1x8192x4x64, .f32⟩
  | 33 => ⟨S1x8192x4x64, .f32⟩
  | 34 => ⟨S1x8192x4x64, .f32⟩
  | 35 => ⟨S1x8192x4x128, .f32⟩
  | 36 => ⟨S1x8192x4x128, .f32⟩
  | 37 => ⟨S64, .f32⟩
  | 38 => ⟨S64, .f32⟩
  | 39 => ⟨S_, .f32⟩
  | 40 => ⟨S64, .f32⟩
  | 41 => ⟨S64, .f32⟩
  | 42 => ⟨S_, .f32⟩
  | 43 => ⟨S64, .f32⟩
  | 44 => ⟨S64, .f32⟩
  | 45 => ⟨S8192, .f32⟩
  | 46 => ⟨S8192x1, .f32⟩
  | 47 => ⟨S1x64, .f32⟩
  | 48 => ⟨S8192x64, .f32⟩
  | 49 => ⟨S8192x64, .f32⟩
  | 50 => ⟨S8192x64, .f32⟩
  | 51 => ⟨S8192x64, .f32⟩
  | 52 => ⟨S1x8192x1x64, .f32⟩
  | 53 => ⟨S8192x64, .f32⟩
  | 54 => ⟨S1x8192x1x64, .f32⟩
  | 55 => ⟨S1x8192x4x64, .f32⟩
  | 56 => ⟨S1x8192x4x64, .f32⟩
  | 57 => ⟨S1x8192x4x64, .f32⟩
  | 58 => ⟨S1x8192x4x64, .f32⟩
  | 59 => ⟨S1x8192x4x64, .f32⟩
  | 60 => ⟨S1x8192x4x64, .f32⟩
  | 61 => ⟨S1x8192x4x64, .f32⟩
  | 62 => ⟨S1x8192x4x64, .f32⟩
  | 63 => ⟨S1x8192x4x64, .f32⟩
  | 64 => ⟨S1x8192x4x64, .f32⟩
  | 65 => ⟨S1x8192x4x64, .f32⟩
  | 66 => ⟨S1x8192x4x64, .f32⟩
  | 67 => ⟨S1x8192x4x128, .f32⟩
  | 68 => ⟨S_, .f32⟩
  | 69 => ⟨S1x8192x4x128, .f32⟩
  | 70 => ⟨S1x8192x4x128, .f32⟩
  | 71 => ⟨S1x8192x4x128, .f32⟩
  | 72 => ⟨S_, .f32⟩
  | 73 => ⟨S_, .f32⟩
  | 74 => ⟨S_, .f32⟩
  | 75 => ⟨S_, .f32⟩
  | 76 => ⟨S_, .f32⟩
  | 77 => ⟨S_, .f32⟩
  | 78 => ⟨S_, .f32⟩
  | 79 => ⟨S3, .f32⟩
  | 80 => ⟨S_, .f32⟩
  | 81 => ⟨S3, .f32⟩
  | 82 => ⟨S3, .f32⟩
  | 83 => ⟨S1, .f32⟩
  | 84 => ⟨S_, .f32⟩
  | 85 => ⟨S3, .f32⟩
  | 86 => ⟨S3, .f32⟩
  | 87 => ⟨S3, .f32⟩
  | 88 => ⟨S3, .f32⟩
  | 89 => ⟨S1, .f32⟩
  | 90 => ⟨S3, .f32⟩
  | 91 => ⟨S3, .f32⟩
  | 92 => ⟨S3, .f32⟩
  | 93 => ⟨S1, .f32⟩
  | 94 => ⟨S4, .f32⟩
  | 95 => ⟨S4, .f32⟩
  | 96 => ⟨S_, .f32⟩
  | 97 => ⟨S4, .f32⟩
  | 98 => ⟨S4, .f32⟩
  | 99 => ⟨S4, .f32⟩
  | 100 => ⟨S1x64x128x4x128, .f32⟩
  | 101 => ⟨S1x64x128x4x128, .f32⟩
  | 102 => ⟨S1x64x128x4x128, .f32⟩
  | 103 => ⟨S128, .f32⟩
  | 104 => ⟨S128x1, .f32⟩
  | 105 => ⟨S1x128, .f32⟩
  | 106 => ⟨S128x128, .f32⟩
  | 107 => ⟨S128x128, .f32⟩
  | 108 => ⟨S128x128, .f32⟩
  | 109 => ⟨S1x128x128, .f32⟩
  | 110 => ⟨S_, .f32⟩
  | 111 => ⟨S1x128x128, .f32⟩
  | 112 => ⟨S1x128x128, .i1⟩
  | 113 => ⟨S_, .f32⟩
  | 114 => ⟨S128x128, .f32⟩
  | 115 => ⟨S128x128, .f32⟩
  | 116 => ⟨S1x128x128, .f32⟩
  | 117 => ⟨S4x1x1, .f32⟩
  | 118 => ⟨S4x128x128, .f32⟩
  | 119 => ⟨S4x128x128, .f32⟩
  | 120 => ⟨S4x128x128, .f32⟩
  | 121 => ⟨S4x128x128, .f32⟩
  | 122 => ⟨S_, .f32⟩
  | 123 => ⟨S_, .f32⟩
  | 124 => ⟨S4x128x128, .i1⟩
  | 125 => ⟨S4x128x128, .f32⟩
  | 126 => ⟨S4x128x128, .f32⟩
  | 127 => ⟨S1x64x4x128x128, .f32⟩
  | _ => ⟨S8192x512, .f32⟩

abbrev hbmTy0_1 (i : Nat) : BufTy := match i % 128 with
  | 0 => ⟨S1x1x4x128x128, .f32⟩
  | 1 => ⟨S1x64x4x128x128, .f32⟩
  | 2 => ⟨S1x64x4x128x128, .f32⟩
  | 3 => ⟨S1x64x4x128x128, .f32⟩
  | 4 => ⟨S1x64x128x4x128, .f32⟩
  | 5 => ⟨S_, .f32⟩
  | 6 => ⟨S128, .f32⟩
  | 7 => ⟨S128, .f32⟩
  | 8 => ⟨S1x128, .f32⟩
  | 9 => ⟨S4x1, .f32⟩
  | 10 => ⟨S4x128, .f32⟩
  | 11 => ⟨S4x128, .f32⟩
  | 12 => ⟨S4x128, .f32⟩
  | 13 => ⟨S4x128, .f32⟩
  | 14 => ⟨S128x4, .f32⟩
  | 15 => ⟨S128x4x1, .f32⟩
  | 16 => ⟨S1x1x128x4x1, .f32⟩
  | 17 => ⟨S1x64x128x4x128, .f32⟩
  | 18 => ⟨S1x64x128x4x128, .f32⟩
  | 19 => ⟨S1x64x4x128x128, .f32⟩
  | 20 => ⟨S_, .f32⟩
  | 21 => ⟨S4, .f32⟩
  | 22 => ⟨S4, .f32⟩
  | 23 => ⟨S4, .f32⟩
  | 24 => ⟨S1x4x1x1, .f32⟩
  | 25 => ⟨S_, .f32⟩
  | 26 => ⟨S1x4x128x128, .f32⟩
  | 27 => ⟨S64x1x4x128x128, .f32⟩
  | 28 => ⟨S_, .f32⟩
  | 29 => ⟨S64x1x4x128x128, .f32⟩
  | 30 => ⟨S_, .i32⟩
  | 31 => ⟨S64x1x4x128x128, .f32⟩
  | 32 => ⟨S1x4x1x1, .f32⟩
  | 33 => ⟨S_, .i32⟩
  | 34 => ⟨S1x4x128x128, .f32⟩
  | 35 => ⟨S64x1x4x128x128, .f32⟩
  | 36 => ⟨S_, .i32⟩
  | 37 => ⟨S_, .i1⟩
  | 38 => ⟨S_, .i32⟩
  | 39 => ⟨S_, .i32⟩
  | 40 => ⟨S_, .i32⟩
  | 41 => ⟨S_, .i32⟩
  | 42 => ⟨S1x1x4x128x128, .f32⟩
  | 43 => ⟨S1x4x128x128, .f32⟩
  | 44 => ⟨S1x4x128x128, .f32⟩
  | 45 => ⟨S1x4x128x128, .f32⟩
  | 46 => ⟨S1x4x128x128, .f32⟩
  | 47 => ⟨S1x1x4x128x128, .f32⟩
  | 48 => ⟨S_, .i32⟩
  | 49 => ⟨S_, .i32⟩
  | 50 => ⟨S_, .i32⟩
  | 51 => ⟨S_, .i32⟩
  | 52 => ⟨S64x1x4x128x128, .f32⟩
  | 53 => ⟨S_, .i32⟩
  | 54 => ⟨S_, .i32⟩
  | 55 => ⟨S1x64x4x128x128, .f32⟩
  | 56 => ⟨S_, .f32⟩
  | 57 => ⟨S128, .f32⟩
  | 58 => ⟨S128, .f32⟩
  | 59 => ⟨S1x128, .f32⟩
  | 60 => ⟨S4x1, .f32⟩
  | 61 => ⟨S4x128, .f32⟩
  | 62 => ⟨S4x128, .f32⟩
  | 63 => ⟨S4x128, .f32⟩
  | 64 => ⟨S4x128, .f32⟩
  | 65 => ⟨S1x64x4x128x128, .f32⟩
  | 66 => ⟨S1x64x128x4x128, .f32⟩
  | 67 => ⟨S128x4, .f32⟩
  | 68 => ⟨S128x4x1, .f32⟩
  | 69 => ⟨S1x1x128x4x1, .f32⟩
  | 70 => ⟨S1x64x128x4x128, .f32⟩
  | 71 => ⟨S1x64x128x4x128, .f32⟩
  | 72 => ⟨S1x64x128x4x128, .f32⟩
  | 73 => ⟨S1x8192x4x128, .f32⟩
  | 74 => ⟨S8192x512, .f32⟩
  | 75 => ⟨S_, .f32⟩
  | 76 => ⟨S1x4x128x128, .f32⟩
  | 77 => ⟨S1x8192x4x128, .f32⟩
  | 78 => ⟨S1x64x128x4x128, .f32⟩
  | 79 => ⟨S1x64x128x4x128, .f32⟩
  | 80 => ⟨S1x64x128x4x128, .f32⟩
  | 81 => ⟨S1x64x4x128x128, .f32⟩
  | 82 => ⟨S1x64x4x128x128, .f32⟩
  | 83 => ⟨S1x64x128x4x128, .f32⟩
  | 84 => ⟨S1x64x4x128x128, .f32⟩
  | 85 => ⟨S1x64x4x128x128, .f32⟩
  | 86 => ⟨S64x1x4x128x128, .f32⟩
  | 87 => ⟨S_, .f32⟩
  | 88 => ⟨S1x4x128x128, .f32⟩
  | 89 => ⟨S_, .f32⟩
  | 90 => ⟨S64x1x4x128x128, .f32⟩
  | 91 => ⟨S_, .i32⟩
  | 92 => ⟨S64x1x4x128x128, .f32⟩
  | 93 => ⟨S1x4x1x1, .f32⟩
  | 94 => ⟨S_, .i32⟩
  | 95 => ⟨S1x4x128x128, .f32⟩
  | 96 => ⟨S64x1x4x128x128, .f32⟩
  | 97 => ⟨S_, .i32⟩
  | 98 => ⟨S_, .i1⟩
  | 99 => ⟨S_, .i32⟩
  | 100 => ⟨S_, .i32⟩
  | 101 => ⟨S_, .i32⟩
  | 102 => ⟨S_, .i32⟩
  | 103 => ⟨S_, .i32⟩
  | 104 => ⟨S_, .i32⟩
  | 105 => ⟨S_, .i32⟩
  | 106 => ⟨S_, .i32⟩
  | 107 => ⟨S1x1x4x128x128, .f32⟩
  | 108 => ⟨S1x4x128x128, .f32⟩
  | 109 => ⟨S1x4x128x128, .f32⟩
  | 110 => ⟨S1x4x128x128, .f32⟩
  | 111 => ⟨S1x4x128x128, .f32⟩
  | 112 => ⟨S1x1x4x128x128, .f32⟩
  | 113 => ⟨S_, .i32⟩
  | 114 => ⟨S_, .i32⟩
  | 115 => ⟨S_, .i32⟩
  | 116 => ⟨S_, .i32⟩
  | 117 => ⟨S64x1x4x128x128, .f32⟩
  | 118 => ⟨S_, .i32⟩
  | 119 => ⟨S_, .i32⟩
  | 120 => ⟨S1x64x4x128x128, .f32⟩
  | 121 => ⟨S1x64x4x128x128, .f32⟩
  | 122 => ⟨S1x64x128x4x128, .f32⟩
  | 123 => ⟨S1x64x4x128x128, .f32⟩
  | 124 => ⟨S1x64x128x4x128, .f32⟩
  | 125 => ⟨S1x64x128x4x128, .f32⟩
  | 126 => ⟨S1x64x128x4x128, .f32⟩
  | 127 => ⟨S1x64x4x128x128, .f32⟩
  | _ => ⟨S8192x512, .f32⟩

abbrev hbmTy0_2 (i : Nat) : BufTy := match i % 128 with
  | 0 => ⟨S1x64x4x128x128, .f32⟩
  | 1 => ⟨S1x64x4x128x128, .f32⟩
  | 2 => ⟨S1x64x128x4x128, .f32⟩
  | 3 => ⟨S1x64x128x4x128, .f32⟩
  | 4 => ⟨S1x64x4x128x128, .f32⟩
  | 5 => ⟨S1x64x4x128x128, .f32⟩
  | 6 => ⟨S1x64x4x128x128, .f32⟩
  | 7 => ⟨S1x64x128x4x128, .f32⟩
  | 8 => ⟨S1x64x128x4x128, .f32⟩
  | 9 => ⟨S1x64x4x128x128, .f32⟩
  | 10 => ⟨S1x64x128x4x128, .f32⟩
  | 11 => ⟨S1x64x128x4x128, .f32⟩
  | 12 => ⟨S1x8192x4x128, .f32⟩
  | 13 => ⟨S1x8192x4x128, .f32⟩
  | 14 => ⟨S1x8192x4x128, .f32⟩
  | 15 => ⟨S8192x512, .f32⟩
  | 16 => ⟨S_, .f32⟩
  | 17 => ⟨S1x8192x4x128, .f32⟩
  | 18 => ⟨S1x8192x4x128, .f32⟩
  | 19 => ⟨S1x8192x4x64, .f32⟩
  | 20 => ⟨S1x8192x4x64, .f32⟩
  | 21 => ⟨S1x8192x4x64, .f32⟩
  | 22 => ⟨S1x8192x4x64, .f32⟩
  | 23 => ⟨S1x8192x4x64, .f32⟩
  | 24 => ⟨S1x8192x4x64, .f32⟩
  | 25 => ⟨S1x8192x4x64, .f32⟩
  | 26 => ⟨S1x8192x4x64, .f32⟩
  | 27 => ⟨S1x8192x4x64, .f32⟩
  | 28 => ⟨S1x8192x4x64, .f32⟩
  | 29 => ⟨S1x8192x4x64, .f32⟩
  | 30 => ⟨S1x8192x4x64, .f32⟩
  | 31 => ⟨S1x8192x4x64, .f32⟩
  | 32 => ⟨S_, .f32⟩
  | 33 => ⟨S1x8192x4x128, .f32⟩
  | 34 => ⟨S_, .f32⟩
  | 35 => ⟨S1x8192x4x128, .f32⟩
  | 36 => ⟨S1x8192x4x128, .f32⟩
  | 37 => ⟨S8192x512, .f32⟩
  | 38 => ⟨S1x8192x4x64, .f32⟩
  | 39 => ⟨S1x8192x4x64, .f32⟩
  | 40 => ⟨S1x8192x4x64, .f32⟩
  | 41 => ⟨S1x8192x4x64, .f32⟩
  | 42 => ⟨S1x8192x4x64, .f32⟩
  | 43 => ⟨S1x8192x4x64, .f32⟩
  | 44 => ⟨S1x8192x4x64, .f32⟩
  | 45 => ⟨S1x8192x4x64, .f32⟩
  | 46 => ⟨S1x8192x4x64, .f32⟩
  | 47 => ⟨S1x8192x4x64, .f32⟩
  | 48 => ⟨S1x8192x4x64, .f32⟩
  | 49 => ⟨S1x8192x4x64, .f32⟩
  | 50 => ⟨S1x8192x4x64, .f32⟩
  | 51 => ⟨S_, .f32⟩
  | 52 => ⟨S1x8192x4x128, .f32⟩
  | 53 => ⟨S_, .f32⟩
  | 54 => ⟨S1x8192x4x128, .f32⟩
  | 55 => ⟨S1x8192x4x128, .f32⟩
  | 56 => ⟨S8192x512, .f32⟩
  | 57 => ⟨S8192x512, .bf16⟩
  | 58 => ⟨S8192x512, .bf16⟩
  | 59 => ⟨S8192x512, .bf16⟩
  | _ => ⟨S8192x512, .f32⟩

abbrev hbmTy (i : Nat) : BufTy := match i / 128 with
  | 0 => hbmTy0_0 i
  | 1 => hbmTy0_1 i
  | 2 => hbmTy0_2 i
  | _ => ⟨S8192x512, .f32⟩

abbrev bufTy : (tb : Table) → Fin (tcTables nBuf tb) → BufTy
  | .hbm, ⟨i, _⟩ => hbmTy i
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_cst_1 : Ref sig .tc := ⟨.hbm, 39, rfl⟩
abbrev main_v33 : Ref sig .tc := ⟨.hbm, 40, rfl⟩
abbrev main_v34 : Ref sig .tc := ⟨.hbm, 41, rfl⟩
abbrev main_cst_2 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_cst_3 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_cst_4 : Ref sig .tc := ⟨.hbm, 72, rfl⟩
abbrev main_cst_5 : Ref sig .tc := ⟨.hbm, 73, rfl⟩
abbrev main_call0_v0 : Ref sig .tc := ⟨.hbm, 74, rfl⟩
abbrev main_call0_v1 : Ref sig .tc := ⟨.hbm, 75, rfl⟩
abbrev main_call0_v2 : Ref sig .tc := ⟨.hbm, 76, rfl⟩
abbrev main_call0_cst : Ref sig .tc := ⟨.hbm, 77, rfl⟩
abbrev main_call0_v3 : Ref sig .tc := ⟨.hbm, 78, rfl⟩
abbrev main_call0_v4 : Ref sig .tc := ⟨.hbm, 79, rfl⟩
abbrev main_call0_cst_0 : Ref sig .tc := ⟨.hbm, 80, rfl⟩
abbrev main_call0_v5 : Ref sig .tc := ⟨.hbm, 81, rfl⟩
abbrev main_call0_v6 : Ref sig .tc := ⟨.hbm, 82, rfl⟩
abbrev main_call0_v7 : Ref sig .tc := ⟨.hbm, 83, rfl⟩
abbrev main_call0_cst_1 : Ref sig .tc := ⟨.hbm, 84, rfl⟩
abbrev main_call0_v8 : Ref sig .tc := ⟨.hbm, 85, rfl⟩
abbrev main_call0_v9 : Ref sig .tc := ⟨.hbm, 86, rfl⟩
abbrev main_call0_v10 : Ref sig .tc := ⟨.hbm, 87, rfl⟩
abbrev main_call0_v11 : Ref sig .tc := ⟨.hbm, 88, rfl⟩
abbrev main_call0_v12 : Ref sig .tc := ⟨.hbm, 89, rfl⟩
abbrev main_call0_v13 : Ref sig .tc := ⟨.hbm, 90, rfl⟩
abbrev main_call0_v14 : Ref sig .tc := ⟨.hbm, 91, rfl⟩
abbrev main_call0_v15 : Ref sig .tc := ⟨.hbm, 92, rfl⟩
abbrev main_call0_v16 : Ref sig .tc := ⟨.hbm, 93, rfl⟩
abbrev main_v63 : Ref sig .tc := ⟨.hbm, 94, rfl⟩
abbrev main_v64 : Ref sig .tc := ⟨.hbm, 95, rfl⟩
abbrev main_cst_6 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_cst_7 : Ref sig .tc := ⟨.hbm, 110, rfl⟩
abbrev main_v78 : Ref sig .tc := ⟨.hbm, 111, rfl⟩
abbrev main_v79 : Ref sig .tc := ⟨.hbm, 112, rfl⟩
abbrev main_cst_8 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_cst_9 : Ref sig .tc := ⟨.hbm, 122, rfl⟩
abbrev main_call1_v0 : Ref sig .tc := ⟨.hbm, 123, rfl⟩
abbrev main_call1_v1 : Ref sig .tc := ⟨.hbm, 124, rfl⟩
abbrev main_call1_v2 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_cst_10 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_cst_11 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_cst_12 : Ref sig .tc := ⟨.hbm, 153, rfl⟩
abbrev main_v113 : Ref sig .tc := ⟨.hbm, 154, rfl⟩
abbrev main_v114 : Ref sig .tc := ⟨.hbm, 155, rfl⟩
abbrev main_cst_13 : Ref sig .tc := ⟨.hbm, 156, rfl⟩
abbrev main_v115 : Ref sig .tc := ⟨.hbm, 157, rfl⟩
abbrev main_c : Ref sig .tc := ⟨.hbm, 158, rfl⟩
abbrev main_v116_0 : Ref sig .tc := ⟨.hbm, 159, rfl⟩
abbrev main_v116_1 : Ref sig .tc := ⟨.hbm, 160, rfl⟩
abbrev main_v116_2 : Ref sig .tc := ⟨.hbm, 161, rfl⟩
abbrev main_v116_3 : Ref sig .tc := ⟨.hbm, 162, rfl⟩
abbrev main_v116_4 : Ref sig .tc := ⟨.hbm, 163, rfl⟩
abbrev main_while0c_c_28 : Ref sig .tc := ⟨.hbm, 164, rfl⟩
abbrev main_while0c_v213 : Ref sig .tc := ⟨.hbm, 165, rfl⟩
abbrev main_while0b_call2_c : Ref sig .tc := ⟨.hbm, 166, rfl⟩
abbrev main_while0b_call2_c_0 : Ref sig .tc := ⟨.hbm, 167, rfl⟩
abbrev main_while0b_call2_c_1 : Ref sig .tc := ⟨.hbm, 168, rfl⟩
abbrev main_while0b_call2_c_2 : Ref sig .tc := ⟨.hbm, 169, rfl⟩
abbrev main_while0b_call2_v0 : Ref sig .tc := ⟨.hbm, 170, rfl⟩
abbrev main_while0b_v213 : Ref sig .tc := ⟨.hbm, 171, rfl⟩
abbrev main_while0b_v214 : Ref sig .tc := ⟨.hbm, 172, rfl⟩
abbrev main_while0b_v215 : Ref sig .tc := ⟨.hbm, 173, rfl⟩
abbrev main_while0b_v216 : Ref sig .tc := ⟨.hbm, 174, rfl⟩
abbrev main_while0b_call3_v0 : Ref sig .tc := ⟨.hbm, 175, rfl⟩
abbrev main_while0b_call3_c : Ref sig .tc := ⟨.hbm, 176, rfl⟩
abbrev main_while0b_call3_c_0 : Ref sig .tc := ⟨.hbm, 177, rfl⟩
abbrev main_while0b_call3_c_1 : Ref sig .tc := ⟨.hbm, 178, rfl⟩
abbrev main_while0b_call3_c_2 : Ref sig .tc := ⟨.hbm, 179, rfl⟩
abbrev main_while0b_v217 : Ref sig .tc := ⟨.hbm, 180, rfl⟩
abbrev main_while0b_c_28 : Ref sig .tc := ⟨.hbm, 181, rfl⟩
abbrev main_while0b_v218 : Ref sig .tc := ⟨.hbm, 182, rfl⟩
abbrev main_v117 : Ref sig .tc := ⟨.hbm, 183, rfl⟩
abbrev main_cst_14 : Ref sig .tc := ⟨.hbm, 184, rfl⟩
abbrev main_v118 : Ref sig .tc := ⟨.hbm, 185, rfl⟩
abbrev main_v119 : Ref sig .tc := ⟨.hbm, 186, rfl⟩
abbrev main_v120 : Ref sig .tc := ⟨.hbm, 187, rfl⟩
abbrev main_v121 : Ref sig .tc := ⟨.hbm, 188, rfl⟩
abbrev main_v122 : Ref sig .tc := ⟨.hbm, 189, rfl⟩
abbrev main_v123 : Ref sig .tc := ⟨.hbm, 190, rfl⟩
abbrev main_v124 : Ref sig .tc := ⟨.hbm, 191, rfl⟩
abbrev main_v125 : Ref sig .tc := ⟨.hbm, 192, rfl⟩
abbrev main_v126 : Ref sig .tc := ⟨.hbm, 193, rfl⟩
abbrev main_v127 : Ref sig .tc := ⟨.hbm, 194, rfl⟩
abbrev main_v128 : Ref sig .tc := ⟨.hbm, 195, rfl⟩
abbrev main_v129 : Ref sig .tc := ⟨.hbm, 196, rfl⟩
abbrev main_v130 : Ref sig .tc := ⟨.hbm, 197, rfl⟩
abbrev main_v131 : Ref sig .tc := ⟨.hbm, 198, rfl⟩
abbrev main_v132 : Ref sig .tc := ⟨.hbm, 199, rfl⟩
abbrev main_v133 : Ref sig .tc := ⟨.hbm, 200, rfl⟩
abbrev main_v134 : Ref sig .tc := ⟨.hbm, 201, rfl⟩
abbrev main_v135 : Ref sig .tc := ⟨.hbm, 202, rfl⟩
abbrev main_cst_15 : Ref sig .tc := ⟨.hbm, 203, rfl⟩
abbrev main_v136 : Ref sig .tc := ⟨.hbm, 204, rfl⟩
abbrev main_v137 : Ref sig .tc := ⟨.hbm, 205, rfl⟩
abbrev main_v138 : Ref sig .tc := ⟨.hbm, 206, rfl⟩
abbrev main_v139 : Ref sig .tc := ⟨.hbm, 207, rfl⟩
abbrev main_v140 : Ref sig .tc := ⟨.hbm, 208, rfl⟩
abbrev main_v141 : Ref sig .tc := ⟨.hbm, 209, rfl⟩
abbrev main_v142 : Ref sig .tc := ⟨.hbm, 210, rfl⟩
abbrev main_v143 : Ref sig .tc := ⟨.hbm, 211, rfl⟩
abbrev main_v144 : Ref sig .tc := ⟨.hbm, 212, rfl⟩
abbrev main_v145 : Ref sig .tc := ⟨.hbm, 213, rfl⟩
abbrev main_v146 : Ref sig .tc := ⟨.hbm, 214, rfl⟩
abbrev main_cst_16 : Ref sig .tc := ⟨.hbm, 215, rfl⟩
abbrev main_v147 : Ref sig .tc := ⟨.hbm, 216, rfl⟩
abbrev main_cst_17 : Ref sig .tc := ⟨.hbm, 217, rfl⟩
abbrev main_v148 : Ref sig .tc := ⟨.hbm, 218, rfl⟩
abbrev main_c_18 : Ref sig .tc := ⟨.hbm, 219, rfl⟩
abbrev main_v149_0 : Ref sig .tc := ⟨.hbm, 220, rfl⟩
abbrev main_v149_1 : Ref sig .tc := ⟨.hbm, 221, rfl⟩
abbrev main_v149_2 : Ref sig .tc := ⟨.hbm, 222, rfl⟩
abbrev main_v149_3 : Ref sig .tc := ⟨.hbm, 223, rfl⟩
abbrev main_v149_4 : Ref sig .tc := ⟨.hbm, 224, rfl⟩
abbrev main_while1c_c_28 : Ref sig .tc := ⟨.hbm, 225, rfl⟩
abbrev main_while1c_v213 : Ref sig .tc := ⟨.hbm, 226, rfl⟩
abbrev main_while1b_c_28 : Ref sig .tc := ⟨.hbm, 227, rfl⟩
abbrev main_while1b_v213 : Ref sig .tc := ⟨.hbm, 228, rfl⟩
abbrev main_while1b_c_29 : Ref sig .tc := ⟨.hbm, 229, rfl⟩
abbrev main_while1b_v214 : Ref sig .tc := ⟨.hbm, 230, rfl⟩
abbrev main_while1b_call4_c : Ref sig .tc := ⟨.hbm, 231, rfl⟩
abbrev main_while1b_call4_c_0 : Ref sig .tc := ⟨.hbm, 232, rfl⟩
abbrev main_while1b_call4_c_1 : Ref sig .tc := ⟨.hbm, 233, rfl⟩
abbrev main_while1b_call4_c_2 : Ref sig .tc := ⟨.hbm, 234, rfl⟩
abbrev main_while1b_call4_v0 : Ref sig .tc := ⟨.hbm, 235, rfl⟩
abbrev main_while1b_v215 : Ref sig .tc := ⟨.hbm, 236, rfl⟩
abbrev main_while1b_v216 : Ref sig .tc := ⟨.hbm, 237, rfl⟩
abbrev main_while1b_v217 : Ref sig .tc := ⟨.hbm, 238, rfl⟩
abbrev main_while1b_v218 : Ref sig .tc := ⟨.hbm, 239, rfl⟩
abbrev main_while1b_call5_v0 : Ref sig .tc := ⟨.hbm, 240, rfl⟩
abbrev main_while1b_call5_c : Ref sig .tc := ⟨.hbm, 241, rfl⟩
abbrev main_while1b_call5_c_0 : Ref sig .tc := ⟨.hbm, 242, rfl⟩
abbrev main_while1b_call5_c_1 : Ref sig .tc := ⟨.hbm, 243, rfl⟩
abbrev main_while1b_call5_c_2 : Ref sig .tc := ⟨.hbm, 244, rfl⟩
abbrev main_while1b_v219 : Ref sig .tc := ⟨.hbm, 245, rfl⟩
abbrev main_while1b_c_30 : Ref sig .tc := ⟨.hbm, 246, rfl⟩
abbrev main_while1b_v220 : Ref sig .tc := ⟨.hbm, 247, rfl⟩
abbrev main_v150 : Ref sig .tc := ⟨.hbm, 248, rfl⟩
abbrev main_v151 : Ref sig .tc := ⟨.hbm, 249, rfl⟩
abbrev main_v152 : Ref sig .tc := ⟨.hbm, 250, rfl⟩
abbrev main_v153 : Ref sig .tc := ⟨.hbm, 251, rfl⟩
abbrev main_v154 : Ref sig .tc := ⟨.hbm, 252, rfl⟩
abbrev main_v155 : Ref sig .tc := ⟨.hbm, 253, rfl⟩
abbrev main_v156 : Ref sig .tc := ⟨.hbm, 254, rfl⟩
abbrev main_v157 : Ref sig .tc := ⟨.hbm, 255, rfl⟩
abbrev main_v158 : Ref sig .tc := ⟨.hbm, 256, rfl⟩
abbrev main_v159 : Ref sig .tc := ⟨.hbm, 257, rfl⟩
abbrev main_v160 : Ref sig .tc := ⟨.hbm, 258, rfl⟩
abbrev main_v161 : Ref sig .tc := ⟨.hbm, 259, rfl⟩
abbrev main_v162 : Ref sig .tc := ⟨.hbm, 260, rfl⟩
abbrev main_v163 : Ref sig .tc := ⟨.hbm, 261, rfl⟩
abbrev main_v164 : Ref sig .tc := ⟨.hbm, 262, rfl⟩
abbrev main_v165 : Ref sig .tc := ⟨.hbm, 263, rfl⟩
abbrev main_v166 : Ref sig .tc := ⟨.hbm, 264, rfl⟩
abbrev main_v167 : Ref sig .tc := ⟨.hbm, 265, rfl⟩
abbrev main_v168 : Ref sig .tc := ⟨.hbm, 266, rfl⟩
abbrev main_v169 : Ref sig .tc := ⟨.hbm, 267, rfl⟩
abbrev main_v170 : Ref sig .tc := ⟨.hbm, 268, rfl⟩
abbrev main_v171 : Ref sig .tc := ⟨.hbm, 269, rfl⟩
abbrev main_v172 : Ref sig .tc := ⟨.hbm, 270, rfl⟩
abbrev main_v173 : Ref sig .tc := ⟨.hbm, 271, rfl⟩
abbrev main_cst_19 : Ref sig .tc := ⟨.hbm, 272, rfl⟩
abbrev main_v174 : Ref sig .tc := ⟨.hbm, 273, rfl⟩
abbrev main_v175 : Ref sig .tc := ⟨.hbm, 274, rfl⟩
abbrev main_v176 : Ref sig .tc := ⟨.hbm, 275, rfl⟩
abbrev main_v177 : Ref sig .tc := ⟨.hbm, 276, rfl⟩
abbrev main_v178 : Ref sig .tc := ⟨.hbm, 277, rfl⟩
abbrev main_v179 : Ref sig .tc := ⟨.hbm, 278, rfl⟩
abbrev main_v180 : Ref sig .tc := ⟨.hbm, 279, rfl⟩
abbrev main_v181 : Ref sig .tc := ⟨.hbm, 280, rfl⟩
abbrev main_v182 : Ref sig .tc := ⟨.hbm, 281, rfl⟩
abbrev main_v183 : Ref sig .tc := ⟨.hbm, 282, rfl⟩
abbrev main_v184 : Ref sig .tc := ⟨.hbm, 283, rfl⟩
abbrev main_v185 : Ref sig .tc := ⟨.hbm, 284, rfl⟩
abbrev main_v186 : Ref sig .tc := ⟨.hbm, 285, rfl⟩
abbrev main_v187 : Ref sig .tc := ⟨.hbm, 286, rfl⟩
abbrev main_v188 : Ref sig .tc := ⟨.hbm, 287, rfl⟩
abbrev main_cst_20 : Ref sig .tc := ⟨.hbm, 288, rfl⟩
abbrev main_v189 : Ref sig .tc := ⟨.hbm, 289, rfl⟩
abbrev main_cst_21 : Ref sig .tc := ⟨.hbm, 290, rfl⟩
abbrev main_v190 : Ref sig .tc := ⟨.hbm, 291, rfl⟩
abbrev main_v191 : Ref sig .tc := ⟨.hbm, 292, rfl⟩
abbrev main_v192 : Ref sig .tc := ⟨.hbm, 293, rfl⟩
abbrev main_v193 : Ref sig .tc := ⟨.hbm, 294, rfl⟩
abbrev main_v194 : Ref sig .tc := ⟨.hbm, 295, rfl⟩
abbrev main_v195 : Ref sig .tc := ⟨.hbm, 296, rfl⟩
abbrev main_v196 : Ref sig .tc := ⟨.hbm, 297, rfl⟩
abbrev main_v197 : Ref sig .tc := ⟨.hbm, 298, rfl⟩
abbrev main_v198 : Ref sig .tc := ⟨.hbm, 299, rfl⟩
abbrev main_v199 : Ref sig .tc := ⟨.hbm, 300, rfl⟩
abbrev main_v200 : Ref sig .tc := ⟨.hbm, 301, rfl⟩
abbrev main_v201 : Ref sig .tc := ⟨.hbm, 302, rfl⟩
abbrev main_v202 : Ref sig .tc := ⟨.hbm, 303, rfl⟩
abbrev main_v203 : Ref sig .tc := ⟨.hbm, 304, rfl⟩
abbrev main_v204 : Ref sig .tc := ⟨.hbm, 305, rfl⟩
abbrev main_v205 : Ref sig .tc := ⟨.hbm, 306, rfl⟩
abbrev main_cst_22 : Ref sig .tc := ⟨.hbm, 307, rfl⟩
abbrev main_v206 : Ref sig .tc := ⟨.hbm, 308, rfl⟩
abbrev main_cst_23 : Ref sig .tc := ⟨.hbm, 309, rfl⟩
abbrev main_v207 : Ref sig .tc := ⟨.hbm, 310, rfl⟩
abbrev main_v208 : Ref sig .tc := ⟨.hbm, 311, rfl⟩
abbrev main_v209 : Ref sig .tc := ⟨.hbm, 312, rfl⟩
abbrev main_v210 : Ref sig .tc := ⟨.hbm, 313, rfl⟩
abbrev main_v211 : Ref sig .tc := ⟨.hbm, 314, rfl⟩
abbrev main_v212 : Ref sig .tc := ⟨.hbm, 315, rfl⟩

abbrev nD : Nat := 1
abbrev τ : Topo := Topo.v7x

variable {F : FTy → Type} [FloatOps F]

abbrev main_while0_count : Scf.Loop 32 := ⟨0#32, 64#32, 1#32⟩

abbrev main_while1_count : Scf.Loop 32 := ⟨0#32, 64#32, 1#32⟩
-- ==== Kernel2.lean ====
abbrev S8192x4096 : Shape := ⟨2, ![8192, 4096]⟩
abbrev S4096x1024 : Shape := ⟨2, ![4096, 1024]⟩
abbrev S8192x1024 : Shape := ⟨2, ![8192, 1024]⟩
abbrev S_ : Shape := ⟨0, ![]⟩
abbrev S1024x1024 : Shape := ⟨2, ![1024, 1024]⟩

abbrev nBuf : Space → Nat
  | .hbm => 12
  | .vmem => 11
  | .smem => 0
  | _ => 0

abbrev bufTy : (tb : Table) → Fin (tcTables nBuf tb) → BufTy
  | .hbm, ⟨0, _⟩ => ⟨S8192x4096, .f32⟩
  | .hbm, ⟨1, _⟩ => ⟨S4096x1024, .f32⟩
  | .hbm, ⟨2, _⟩ => ⟨S8192x1024, .f32⟩
  | .hbm, ⟨3, _⟩ => ⟨S_, .f32⟩
  | .hbm, ⟨4, _⟩ => ⟨S8192x4096, .f32⟩
  | .hbm, ⟨5, _⟩ => ⟨S8192x4096, .f32⟩
  | .hbm, ⟨6, _⟩ => ⟨S8192x4096, .f32⟩
  | .hbm, ⟨7, _⟩ => ⟨S8192x1024, .bf16⟩
  | .hbm, ⟨8, _⟩ => ⟨S8192x4096, .bf16⟩
  | .hbm, ⟨9, _⟩ => ⟨S4096x1024, .bf16⟩
  | .hbm, ⟨10, _⟩ => ⟨S8192x4096, .bf16⟩
  | .hbm, ⟨11, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v23 : BitVec 1 := Scalar.cmpi .eq arg1 c7_i32
  let v24 : BitVec 32 := Scalar.extui v23
  let c0_i32_14 : BitVec 32 := 0#32
  let v25 : BitVec 1 := Scalar.cmpi .ne v24 c0_i32_14
  v25

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference2Ideal.lean ====
abbrev S8192x4096 : Shape := ⟨2, ![8192, 4096]⟩
abbrev S4096x1024 : Shape := ⟨2, ![4096, 1024]⟩
abbrev S8192x1024 : Shape := ⟨2, ![8192, 1024]⟩
abbrev S_ : Shape := ⟨0, ![]⟩
abbrev S1024x4096 : Shape := ⟨2, ![1024, 4096]⟩

abbrev nBuf : Space → Nat
  | .hbm => 25
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x1024, .f32⟩
  | .hbm, ⟨2, _⟩ => ⟨S8192x1024, .f32⟩
  | .hbm, ⟨3, _⟩ => ⟨S_, .f32⟩
  | .hbm, ⟨4, _⟩ => ⟨S8192x4096, .f32⟩
  | .hbm, ⟨5, _⟩ => ⟨S8192x4096, .f32⟩
  | .hbm, ⟨6, _⟩ => ⟨S_, .f32⟩
  | .hbm, ⟨7, _⟩ => ⟨S8192x4096, .f32⟩
  | .hbm, ⟨8, _⟩ => ⟨S8192x4096, .i1⟩
  | .hbm, ⟨9, _⟩ => ⟨S_, .f32⟩
  | .hbm, ⟨10, _⟩ => ⟨S8192x4096, .f32⟩
  | .hbm, ⟨11, _⟩ => ⟨S8192x4096, .f32⟩
  | .hbm, ⟨12, _⟩ => ⟨S_, .f32⟩
  | .hbm, ⟨13, _⟩ => ⟨S8192x4096, .f32⟩
  | .hbm, ⟨14, _⟩ => ⟨S8192x4096, .f32⟩
  | .hbm, ⟨15, _⟩ => ⟨S8192x1024, .f32⟩
  | .hbm, ⟨16, _⟩ => ⟨S1024x4096, .f32⟩
  | .hbm, ⟨17, _⟩ => ⟨S4096x1024, .f32⟩
  | .hbm, ⟨18, _⟩ => ⟨S8192x4096, .f32⟩
  | .hbm, ⟨19, _⟩ => ⟨S8192x4096, .f32⟩
  | .hbm, ⟨20, _⟩ => ⟨S_, .f32⟩
  | .hbm, ⟨21, _⟩ => ⟨S8192x4096, .f32⟩
  | .hbm, ⟨22, _⟩ => ⟨S8192x4096, .f32⟩
  | .hbm, ⟨23, _⟩ => ⟨S8192x4096, .bf16⟩
  | .hbm, ⟨24, _⟩ => ⟨S4096x1024, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩

abbrev nD : Nat := 1
abbrev τ : Topo := Topo.v7x

variable {F : FTy → Type} [FloatOps F]
-- ==== Kernel3.lean ====
abbrev S8192x1024 : Shape := ⟨2, ![8192, 1024]⟩
abbrev S1024x4096 : Shape := ⟨2, ![1024, 4096]⟩
abbrev S8192x4096 : Shape := ⟨2, ![8192, 4096]⟩
abbrev S8x1024x512 : Shape := ⟨3, ![8, 1024, 512]⟩
abbrev S2048x1024 : Shape := ⟨2, ![2048, 1024]⟩
abbrev S2x1024x512 : Shape := ⟨3, ![2, 1024, 512]⟩
abbrev S1024x1024 : Shape := ⟨2, ![1024, 1024]⟩
abbrev S1024x512 : Shape := ⟨2, ![1024, 512]⟩
abbrev S1x1024x512 : Shape := ⟨3, ![1, 1024, 512]⟩

abbrev nBuf : Space → Nat
  | .hbm => 6
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024x4096, .f32⟩
  | .hbm, ⟨2, _⟩ => ⟨S8192x4096, .f32⟩
  | .hbm, ⟨3, _⟩ => ⟨S8192x1024, .bf16⟩
  | .hbm, ⟨4, _⟩ => ⟨S8192x4096, .bf16⟩
  | .hbm, ⟨5, _⟩ => ⟨S8x1024x512, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S2x1024x512, .bf16⟩
  | .local _ .vmem, ⟨5, _⟩ => ⟨S2x1024x512, .bf16⟩
  | .local _ .vmem, ⟨6, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference3Ideal.lean ====
abbrev S8192x1024 : Shape := ⟨2, ![8192, 1024]⟩
abbrev S1024x4096 : Shape := ⟨2, ![1024, 4096]⟩
abbrev S8192x4096 : Shape := ⟨2, ![8192, 4096]⟩
abbrev S4096x1024 : Shape := ⟨2, ![4096, 1024]⟩
abbrev S1024x8x512 : Shape := ⟨3, ![1024, 8, 512]⟩
abbrev S8x1024x512 : Shape := ⟨3, ![8, 1024, 512]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x4096, .f32⟩
  | .hbm, ⟨2, _⟩ => ⟨S8192x4096, .f32⟩
  | .hbm, ⟨3, _⟩ => ⟨S8192x4096, .f32⟩
  | .hbm, ⟨4, _⟩ => ⟨S4096x1024, .f32⟩
  | .hbm, ⟨5, _⟩ => ⟨S1024x4096, .f32⟩
  | .hbm, ⟨6, _⟩ => ⟨S1024x8x512, .f32⟩
  | .hbm, ⟨7, _⟩ => ⟨S8x1024x512, .f32⟩
  | .hbm, ⟨8, _⟩ => ⟨S8x1024x512, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel4.lean ====
abbrev S8192x1024 : Shape := ⟨2, ![8192, 1024]⟩
abbrev S1024x2560 : Shape := ⟨2, ![1024, 2560]⟩
abbrev S8192x512 : Shape := ⟨2, ![8192, 512]⟩
abbrev S2560x1024 : Shape := ⟨2, ![2560, 1024]⟩
abbrev S1024x512 : Shape := ⟨2, ![1024, 512]⟩
abbrev S1024x1024 : Shape := ⟨2, ![1024, 1024]⟩
abbrev S512x1024 : Shape := ⟨2, ![512, 1024]⟩

abbrev nBuf : Space → Nat
  | .hbm => 13
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S1024x2560, .f32⟩
  | .hbm, ⟨2, _⟩ => ⟨S8192x512, .f32⟩
  | .hbm, ⟨3, _⟩ => ⟨S8192x512, .f32⟩
  | .hbm, ⟨4, _⟩ => ⟨S8192x512, .f32⟩
  | .hbm, ⟨5, _⟩ => ⟨S8192x512, .f32⟩
  | .hbm, ⟨6, _⟩ => ⟨S8192x512, .f32⟩
  | .hbm, ⟨7, _⟩ => ⟨S8192x512, .bf16⟩
  | .hbm, ⟨8, _⟩ => ⟨S8192x512, .bf16⟩
  | .hbm, ⟨9, _⟩ => ⟨S8192x512, .bf16⟩
  | .hbm, ⟨10, _⟩ => ⟨S8192x512, .bf16⟩
  | .hbm, ⟨11, _⟩ => ⟨S8192x1024, .bf16⟩
  | .hbm, ⟨12, _⟩ => ⟨S2560x1024, .bf16⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .f32⟩
  | .local _ .vmem, ⟨9, _⟩ => ⟨S1024x512, .f32⟩
  | .local _ .vmem, ⟨10, _⟩ => ⟨S1024x1024, .bf16⟩
  | .local _ .vmem, ⟨11, _⟩ => ⟨S1024x1024, .bf16⟩
  | .local _ .vmem, ⟨12, _⟩ => ⟨S2560x1024, .bf16⟩
  | .local _ .vmem, ⟨13, _⟩ => ⟨S2560x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v45 : BitVec 1 := Scalar.cmpi .eq arg0 c7_i32
  let v46 : BitVec 32 := Scalar.extui v45
  let c0_i32_32 : BitVec 32 := 0#32
  let v47 : BitVec 1 := Scalar.cmpi .ne v46 c0_i32_32
  v47

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S2560x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference4Ideal.lean ====
abbrev S8192x1024 : Shape := ⟨2, ![8192, 1024]⟩
abbrev S1024x2560 : Shape := ⟨2, ![1024, 2560]⟩
abbrev S8192x512 : Shape := ⟨2, ![8192, 512]⟩
abbrev S8192x2560 : Shape := ⟨2, ![8192, 2560]⟩
abbrev S2560x1024 : Shape := ⟨2, ![2560, 1024]⟩

abbrev nBuf : Space → Nat
  | .hbm => 18
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x2560, .f32⟩
  | .hbm, ⟨2, _⟩ => ⟨S8192x512, .f32⟩
  | .hbm, ⟨3, _⟩ => ⟨S8192x512, .f32⟩
  | .hbm, ⟨4, _⟩ => ⟨S8192x512, .f32⟩
  | .hbm, ⟨5, _⟩ => ⟨S8192x512, .f32⟩
  | .hbm, ⟨6, _⟩ => ⟨S8192x512, .f32⟩
  | .hbm, ⟨7, _⟩ => ⟨S8192x2560, .f32⟩
  | .hbm, ⟨8, _⟩ => ⟨S8192x512, .f32⟩
  | .hbm, ⟨9, _⟩ => ⟨S8192x512, .f32⟩
  | .hbm, ⟨10, _⟩ => ⟨S8192x512, .f32⟩
  | .hbm, ⟨11, _⟩ => ⟨S8192x512, .f32⟩
  | .hbm, ⟨12, _⟩ => ⟨S8192x512, .f32⟩
  | .hbm, ⟨13, _⟩ => ⟨S8192x2560, .f32⟩
  | .hbm, ⟨14, _⟩ => ⟨S2560x1024, .f32⟩
  | .hbm, ⟨15, _⟩ => ⟨S1024x2560, .f32⟩
  | .hbm, ⟨16, _⟩ => ⟨S2560x1024, .f32⟩
  | .hbm, ⟨17, _⟩ => ⟨S2560x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩

abbrev nD : Nat := 1
abbrev τ : Topo := Topo.v7x

variable {F : FTy → Type} [FloatOps F]
-- ==== Kernel5.lean ====
abbrev S8192x512 : Shape := ⟨2, ![8192, 512]⟩
abbrev S1024x1024 : Shape := ⟨2, ![1024, 1024]⟩
abbrev S8192x1024 : Shape := ⟨2, ![8192, 1024]⟩
abbrev S512x1024 : Shape := ⟨2, ![512, 1024]⟩
abbrev S2048x512 : Shape := ⟨2, ![2048, 512]⟩
abbrev S2048x1024 : Shape := ⟨2, ![2048, 1024]⟩

abbrev nBuf : Space → Nat
  | .hbm => 14
  | .vmem => 14
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S1024x1024, .f32⟩
  | .hbm, ⟨3, _⟩ => ⟨S8192x1024, .f32⟩
  | .hbm, ⟨4, _⟩ => ⟨S8192x512, .f32⟩
  | .hbm, ⟨5, _⟩ => ⟨S512x1024, .f32⟩
  | .hbm, ⟨6, _⟩ => ⟨S8192x1024, .f32⟩
  | .hbm, ⟨7, _⟩ => ⟨S8192x512, .bf16⟩
  | .hbm, ⟨8, _⟩ => ⟨S8192x512, .bf16⟩
  | .hbm, ⟨9, _⟩ => ⟨S8192x1024, .bf16⟩
  | .hbm, ⟨10, _⟩ => ⟨S8192x512, .bf16⟩
  | .hbm, ⟨11, _⟩ => ⟨S8192x1024, .bf16⟩
  | .hbm, ⟨12, _⟩ => ⟨S1024x1024, .bf16⟩
  | .hbm, ⟨13, _⟩ => ⟨S512x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S2048x1024, .bf16⟩
  | .local _ .vmem, ⟨5, _⟩ => ⟨S2048x1024, .bf16⟩
  | .local _ .vmem, ⟨6, _⟩ => ⟨S2048x512, .bf16⟩
  | .local _ .vmem, ⟨7, _⟩ => ⟨S2048x512, .bf16⟩
  | .local _ .vmem, ⟨8, _⟩ => ⟨S2048x1024, .bf16⟩
  | .local _ .vmem, ⟨9, _⟩ => ⟨S2048x1024, .bf16⟩
  | .local _ .vmem, ⟨10, _⟩ => ⟨S1024x1024, .bf16⟩
  | .local _ .vmem, ⟨11, _⟩ => ⟨S512x1024, .bf16⟩
  | .local _ .vmem, ⟨12, _⟩ => ⟨S1024x1024, .f32⟩
  | .local _ .vmem, ⟨13, _⟩ => ⟨S512x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c3_i32 : BitVec 32 := 3#32
  let v31 : BitVec 1 := Scalar.cmpi .eq arg0 c3_i32
  let v32 : BitVec 32 := Scalar.extui v31
  let c0_i32_23 : BitVec 32 := 0#32
  let v33 : BitVec 1 := Scalar.cmpi .ne v32 c0_i32_23
  v33

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference5Ideal.lean ====
abbrev S8192x512 : Shape := ⟨2, ![8192, 512]⟩
abbrev S1024x1024 : Shape := ⟨2, ![1024, 1024]⟩
abbrev S8192x1024 : Shape := ⟨2, ![8192, 1024]⟩
abbrev S512x1024 : Shape := ⟨2, ![512, 1024]⟩
abbrev S1024x512 : Shape := ⟨2, ![1024, 512]⟩

abbrev nBuf : Space → Nat
  | .hbm => 16
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S1024x1024, .f32⟩
  | .hbm, ⟨3, _⟩ => ⟨S8192x1024, .f32⟩
  | .hbm, ⟨4, _⟩ => ⟨S8192x512, .f32⟩
  | .hbm, ⟨5, _⟩ => ⟨S512x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S1024x1024, .f32⟩
  | .hbm, ⟨10, _⟩ => ⟨S1024x1024, .f32⟩
  | .hbm, ⟨11, _⟩ => ⟨S8192x1024, .f32⟩
  | .hbm, ⟨12, _⟩ => ⟨S1024x512, .f32⟩
  | .hbm, ⟨13, _⟩ => ⟨S512x1024, .f32⟩
  | .hbm, ⟨14, _⟩ => ⟨S1024x1024, .bf16⟩
  | .hbm, ⟨15, _⟩ => ⟨S512x1024, .bf16⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩

abbrev nD : Nat := 1
abbrev τ : Topo := Topo.v7x

variable {F : FTy → Type} [FloatOps F]
-- ==== Kernel6.lean ====
abbrev S8192x1024 : Shape := ⟨2, ![8192, 1024]⟩
abbrev S1x1024 : Shape := ⟨2, ![1, 1024]⟩
abbrev S1024x2560 : Shape := ⟨2, ![1024, 2560]⟩
abbrev S8192x512 : Shape := ⟨2, ![8192, 512]⟩
abbrev S2560x1024 : Shape := ⟨2, ![2560, 1024]⟩
abbrev S512x512 : Shape := ⟨2, ![512, 512]⟩
abbrev S512x1024 : Shape := ⟨2, ![512, 1024]⟩
abbrev S256x512 : Shape := ⟨2, ![256, 512]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 17
  | .vmem => 19
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x2560, .f32⟩
  | .hbm, ⟨3, _⟩ => ⟨S8192x1024, .f32⟩
  | .hbm, ⟨4, _⟩ => ⟨S8192x512, .f32⟩
  | .hbm, ⟨5, _⟩ => ⟨S8192x512, .f32⟩
  | .hbm, ⟨6, _⟩ => ⟨S8192x512, .f32⟩
  | .hbm, ⟨7, _⟩ => ⟨S8192x512, .f32⟩
  | .hbm, ⟨8, _⟩ => ⟨S8192x512, .f32⟩
  | .hbm, ⟨9, _⟩ => ⟨S8192x512, .bf16⟩
  | .hbm, ⟨10, _⟩ => ⟨S8192x512, .bf16⟩
  | .hbm, ⟨11, _⟩ => ⟨S8192x512, .bf16⟩
  | .hbm, ⟨12, _⟩ => ⟨S8192x512, .bf16⟩
  | .hbm, ⟨13, _⟩ => ⟨S2560x1024, .f32⟩
  | .hbm, ⟨14, _⟩ => ⟨S2560x1024, .bf16⟩
  | .hbm, ⟨15, _⟩ => ⟨S8192x1024, .f32⟩
  | .hbm, ⟨16, _⟩ => ⟨S1x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .f32⟩
  | .local _ .vmem, ⟨9, _⟩ => ⟨S512x512, .f32⟩
  | .local _ .vmem, ⟨10, _⟩ => ⟨S2560x1024, .bf16⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S1x1024, .f32⟩
  | .local _ .vmem, ⟨16, _⟩ => ⟨S512x1024, .f32⟩
  | .local _ .vmem, ⟨17, _⟩ => ⟨S512x1024, .f32⟩
  | .local _ .vmem, ⟨18, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6_0 : Ref sig .tc := ⟨.hbm, 15, rfl⟩
abbrev main_v6_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem9_1 : DmaSem sig := 17
abbrev cc0_sem10_0 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2560x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference6Ideal.lean ====
abbrev S8192x1024 : Shape := ⟨2, ![8192, 1024]⟩
abbrev S1x1024 : Shape := ⟨2, ![1, 1024]⟩
abbrev S1024x2560 : Shape := ⟨2, ![1024, 2560]⟩
abbrev S8192x512 : Shape := ⟨2, ![8192, 512]⟩
abbrev S1024 : Shape := ⟨1, ![1024]⟩
abbrev S_ : Shape := ⟨0, ![]⟩
abbrev S8192 : Shape := ⟨1, ![8192]⟩
abbrev S8192x1 : Shape := ⟨2, ![8192, 1]⟩
abbrev S8192x2560 : Shape := ⟨2, ![8192, 2560]⟩

abbrev nBuf : Space → Nat
  | .hbm => 65
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x2560, .f32⟩
  | .hbm, ⟨3, _⟩ => ⟨S8192x1024, .f32⟩
  | .hbm, ⟨4, _⟩ => ⟨S8192x512, .f32⟩
  | .hbm, ⟨5, _⟩ => ⟨S8192x512, .f32⟩
  | .hbm, ⟨6, _⟩ => ⟨S8192x512, .f32⟩
  | .hbm, ⟨7, _⟩ => ⟨S8192x512, .f32⟩
  | .hbm, ⟨8, _⟩ => ⟨S8192x512, .f32⟩
  | .hbm, ⟨9, _⟩ => ⟨S1024, .f32⟩
  | .hbm, ⟨10, _⟩ => ⟨S8192x1024, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S8192x1024, .f32⟩
  | .hbm, ⟨26, _⟩ => ⟨S8192x1024, .f32⟩
  | .hbm, ⟨27, _⟩ => ⟨S1x1024, .f32⟩
  | .hbm, ⟨28, _⟩ => ⟨S8192x1024, .f32⟩
  | .hbm, ⟨29, _⟩ => ⟨S8192x1024, .f32⟩
  | .hbm, ⟨30, _⟩ => ⟨S8192x2560, .f32⟩
  | .hbm, ⟨31, _⟩ => ⟨S8192x512, .f32⟩
  | .hbm, ⟨32, _⟩ => ⟨S8192x512, .f32⟩
  | .hbm, ⟨33, _⟩ => ⟨S8192x512, .f32⟩
  | .hbm, ⟨34, _⟩ => ⟨S8192x512, .f32⟩
  | .hbm, ⟨35, _⟩ => ⟨S8192x512, .f32⟩
  | .hbm, ⟨36, _⟩ => ⟨S8192x2560, .f32⟩
  | .hbm, ⟨37, _⟩ => ⟨S8192x1024, .f32⟩
  | .hbm, ⟨38, _⟩ => ⟨S8192x1024, .f32⟩
  | .hbm, ⟨39, _⟩ => ⟨S_, .f32⟩
  | .hbm, ⟨40, _⟩ => ⟨S1024, .f32⟩
  | .hbm, ⟨41, _⟩ => ⟨S1x1024, .f32⟩
  | .hbm, ⟨42, _⟩ => ⟨S8192x1024, .f32⟩
  | .hbm, ⟨43, _⟩ => ⟨S8192x1024, .f32⟩
  | .hbm, ⟨44, _⟩ => ⟨S_, .f32⟩
  | .hbm, ⟨45, _⟩ => ⟨S1024, .f32⟩
  | .hbm, ⟨46, _⟩ => ⟨S8192x1024, .f32⟩
  | .hbm, ⟨47, _⟩ => ⟨S_, .f32⟩
  | .hbm, ⟨48, _⟩ => ⟨S8192, .f32⟩
  | .hbm, ⟨49, _⟩ => ⟨S8192x1, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1, .f32⟩
  | .hbm, ⟨54, _⟩ => ⟨S_, .f32⟩
  | .hbm, ⟨55, _⟩ => ⟨S8192x1, .f32⟩
  | .hbm, ⟨56, _⟩ => ⟨S8192x1, .f32⟩
  | .hbm, ⟨57, _⟩ => ⟨S_, .f32⟩
  | .hbm, ⟨58, _⟩ => ⟨S8192, .f32⟩
  | .hbm, ⟨59, _⟩ => ⟨S8192x1024, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S8192x1024, .f32⟩
  | .hbm, ⟨64, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_3 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_4 : Ref sig .tc := ⟨.hbm, 44, rfl⟩
abbrev main_v30 : Ref sig .tc := ⟨.hbm, 45, rfl⟩
abbrev main_v31 : Ref sig .tc := ⟨.hbm, 46, rfl⟩
abbrev main_cst_5 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_6 : Ref sig .tc := ⟨.hbm, 54, rfl⟩
abbrev main_v38 : Ref sig .tc := ⟨.hbm, 55, rfl⟩
abbrev main_v39 : Ref sig .tc := ⟨.hbm, 56, rfl⟩
abbrev main_cst_7 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩

abbrev nD : Nat := 1
abbrev τ : Topo := Topo.v7x

variable {F : FTy → Type} [FloatOps F]
-- ==== Kernel7.lean ====
abbrev S8192x1024 : Shape := ⟨2, ![8192, 1024]⟩
abbrev S1x1024 : Shape := ⟨2, ![1, 1024]⟩
abbrev S1024x4096 : Shape := ⟨2, ![1024, 4096]⟩
abbrev S4096x1024 : Shape := ⟨2, ![4096, 1024]⟩
abbrev S1024x8x512 : Shape := ⟨3, ![1024, 8, 512]⟩
abbrev S8x1024x512 : Shape := ⟨3, ![8, 1024, 512]⟩
abbrev S8192x4096 : Shape := ⟨2, ![8192, 4096]⟩
abbrev S512x1024 : Shape := ⟨2, ![512, 1024]⟩
abbrev S512x4096 : Shape := ⟨2, ![512, 4096]⟩
abbrev S256x1024 : Shape := ⟨2, ![256, 1024]⟩
abbrev S256 : Shape := ⟨1, ![256]⟩
abbrev S256x1 : Shape := ⟨2, ![256, 1]⟩
abbrev S1x1024x512 : Shape := ⟨3, ![1, 1024, 512]⟩
abbrev S1024x512 : Shape := ⟨2, ![1024, 512]⟩
abbrev S256x512 : Shape := ⟨2, ![256, 512]⟩
abbrev S256x4096 : Shape := ⟨2, ![256, 4096]⟩
abbrev S1024 : Shape := ⟨1, ![1024]⟩

abbrev nBuf : Space → Nat
  | .hbm => 16
  | .vmem => 18
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S1024x4096, .f32⟩
  | .hbm, ⟨5, _⟩ => ⟨S4096x1024, .f32⟩
  | .hbm, ⟨6, _⟩ => ⟨S1024x8x512, .f32⟩
  | .hbm, ⟨7, _⟩ => ⟨S8x1024x512, .f32⟩
  | .hbm, ⟨8, _⟩ => ⟨S8x1024x512, .bf16⟩
  | .hbm, ⟨9, _⟩ => ⟨S4096x1024, .bf16⟩
  | .hbm, ⟨10, _⟩ => ⟨S8192x1024, .bf16⟩
  | .hbm, ⟨11, _⟩ => ⟨S8192x4096, .bf16⟩
  | .hbm, ⟨12, _⟩ => ⟨S8192x1024, .f32⟩
  | .hbm, ⟨13, _⟩ => ⟨S8192x1024, .bf16⟩
  | .hbm, ⟨14, _⟩ => ⟨S1x1024, .f32⟩
  | .hbm, ⟨15, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S8x1024x512, .bf16⟩
  | .local _ .vmem, ⟨7, _⟩ => ⟨S4096x1024, .bf16⟩
  | .local _ .vmem, ⟨8, _⟩ => ⟨S512x1024, .bf16⟩
  | .local _ .vmem, ⟨9, _⟩ => ⟨S512x1024, .bf16⟩
  | .local _ .vmem, ⟨10, _⟩ => ⟨S512x4096, .bf16⟩
  | .local _ .vmem, ⟨11, _⟩ => ⟨S512x4096, .bf16⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | .local _ .vmem, ⟨16, _⟩ => ⟨S1x1024, .f32⟩
  | .local _ .vmem, ⟨17, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v4_3 : Ref sig .tc := ⟨.hbm, 13, rfl⟩
abbrev main_v4_4 : Ref sig .tc := ⟨.hbm, 14, rfl⟩
abbrev main_v4_5 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg11_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem11_0 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4096x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== Reference7Ideal.lean ====
abbrev S8192x1024 : Shape := ⟨2, ![8192, 1024]⟩
abbrev S1x1024 : Shape := ⟨2, ![1, 1024]⟩
abbrev S1024x4096 : Shape := ⟨2, ![1024, 4096]⟩
abbrev S4096x1024 : Shape := ⟨2, ![4096, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S8192x4096 : Shape := ⟨2, ![8192, 4096]⟩

abbrev nBuf : Space → Nat
  | .hbm => 106
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S1024x4096, .f32⟩
  | .hbm, ⟨5, _⟩ => ⟨S4096x1024, .f32⟩
  | .hbm, ⟨6, _⟩ => ⟨S1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S1x1024, .f32⟩
  | .hbm, ⟨21, _⟩ => ⟨S8192x1024, .f32⟩
  | .hbm, ⟨22, _⟩ => ⟨S8192x1024, .f32⟩
  | .hbm, ⟨23, _⟩ => ⟨S8192x4096, .f32⟩
  | .hbm, ⟨24, _⟩ => ⟨S_, .f32⟩
  | .hbm, ⟨25, _⟩ => ⟨S8192x4096, .f32⟩
  | .hbm, ⟨26, _⟩ => ⟨S8192x4096, .f32⟩
  | .hbm, ⟨27, _⟩ => ⟨S8192x4096, .f32⟩
  | .hbm, ⟨28, _⟩ => ⟨S8192x1024, .f32⟩
  | .hbm, ⟨29, _⟩ => ⟨S1024, .f32⟩
  | .hbm, ⟨30, _⟩ => ⟨S8192x1024, .f32⟩
  | .hbm, ⟨31, _⟩ => ⟨S_, .f32⟩
  | .hbm, ⟨32, _⟩ => ⟨S8192, .f32⟩
  | .hbm, ⟨33, _⟩ => ⟨S8192x1, .f32⟩
  | .hbm, ⟨34, _⟩ => ⟨S_, .f32⟩
  | .hbm, ⟨35, _⟩ => ⟨S8192x1, .f32⟩
  | .hbm, ⟨36, _⟩ => ⟨S8192x1, .f32⟩
  | .hbm, ⟨37, _⟩ => ⟨S_, .f32⟩
  | .hbm, ⟨38, _⟩ => ⟨S8192x1, .f32⟩
  | .hbm, ⟨39, _⟩ => ⟨S8192x1, .f32⟩
  | .hbm, ⟨40, _⟩ => ⟨S8192x1, .f32⟩
  | .hbm, ⟨41, _⟩ => ⟨S8192x1, .f32⟩
  | .hbm, ⟨42, _⟩ => ⟨S_, .f32⟩
  | .hbm, ⟨43, _⟩ => ⟨S8192x1, .f32⟩
  | .hbm, ⟨44, _⟩ => ⟨S8192x1, .f32⟩
  | .hbm, ⟨45, _⟩ => ⟨S8192x1024, .f32⟩
  | .hbm, ⟨46, _⟩ => ⟨S8192x1024, .f32⟩
  | .hbm, ⟨47, _⟩ => ⟨S1x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S_, .f32⟩
  | .hbm, ⟨54, _⟩ => ⟨S8192x1024, .f32⟩
  | .hbm, ⟨55, _⟩ => ⟨S8192x1024, .f32⟩
  | .hbm, ⟨56, _⟩ => ⟨S_, .f32⟩
  | .hbm, ⟨57, _⟩ => ⟨S8192, .f32⟩
  | .hbm, ⟨58, _⟩ => ⟨S_, .f32⟩
  | .hbm, ⟨59, _⟩ => ⟨S8192, .f32⟩
  | .hbm, ⟨60, _⟩ => ⟨S8192, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S1024, .f32⟩
  | .hbm, ⟨67, _⟩ => ⟨S1x1024, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S8192, .f32⟩
  | .hbm, ⟨72, _⟩ => ⟨S_, .f32⟩
  | .hbm, ⟨73, _⟩ => ⟨S8192, .f32⟩
  | .hbm, ⟨74, _⟩ => ⟨S8192, .f32⟩
  | .hbm, ⟨75, _⟩ => ⟨S8192x1024, .f32⟩
  | .hbm, ⟨76, _⟩ => ⟨S8192x1024, .f32⟩
  | .hbm, ⟨77, _⟩ => ⟨S8192x1024, .f32⟩
  | .hbm, ⟨78, _⟩ => ⟨S_, .f32⟩
  | .hbm, ⟨79, _⟩ => ⟨S1024, .f32⟩
  | .hbm, ⟨80, _⟩ => ⟨S1x1024, .f32⟩
  | .hbm, ⟨81, _⟩ => ⟨S8192x1024, .f32⟩
  | .hbm, ⟨82, _⟩ => ⟨S8192x1024, .f32⟩
  | .hbm, ⟨83, _⟩ => ⟨S_, .f32⟩
  | .hbm, ⟨84, _⟩ => ⟨S1024, .f32⟩
  | .hbm, ⟨85, _⟩ => ⟨S8192x1024, .f32⟩
  | .hbm, ⟨86, _⟩ => ⟨S_, .f32⟩
  | .hbm, ⟨87, _⟩ => ⟨S8192, .f32⟩
  | .hbm, ⟨88, _⟩ => ⟨S8192x1, .f32⟩
  | .hbm, ⟨89, _⟩ => ⟨S8192x1024, .f32⟩
  | .hbm, ⟨90, _⟩ => ⟨S8192x1024, .f32⟩
  | .hbm, ⟨91, _⟩ => ⟨S8192x1, .f32⟩
  | .hbm, ⟨92, _⟩ => ⟨S_, .f32⟩
  | .hbm, ⟨93, _⟩ => ⟨S8192x1, .f32⟩
  | .hbm, ⟨94, _⟩ => ⟨S8192x1, .f32⟩
  | .hbm, ⟨95, _⟩ => ⟨S_, .f32⟩
  | .hbm, ⟨96, _⟩ => ⟨S8192, .f32⟩
  | .hbm, ⟨97, _⟩ => ⟨S8192x1024, .f32⟩
  | .hbm, ⟨98, _⟩ => ⟨S8192x1024, .f32⟩
  | .hbm, ⟨99, _⟩ => ⟨S8192x1024, .f32⟩
  | .hbm, ⟨100, _⟩ => ⟨S8192x1024, .f32⟩
  | .hbm, ⟨101, _⟩ => ⟨S8192x1024, .f32⟩
  | .hbm, ⟨102, _⟩ => ⟨S1x1024, .f32⟩
  | .hbm, ⟨103, _⟩ => ⟨S8192x1024, .bf16⟩
  | .hbm, ⟨104, _⟩ => ⟨S8192x4096, .bf16⟩
  | .hbm, ⟨105, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_call0_cst : Ref sig .tc := ⟨.hbm, 24, rfl⟩
abbrev main_call0_v0 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_2 : Ref sig .tc := ⟨.hbm, 31, rfl⟩
abbrev main_v20 : Ref sig .tc := ⟨.hbm, 32, rfl⟩
abbrev main_v21 : Ref sig .tc := ⟨.hbm, 33, rfl⟩
abbrev main_cst_3 : Ref sig .tc := ⟨.hbm, 34, rfl⟩
abbrev main_v22 : Ref sig .tc := ⟨.hbm, 35, rfl⟩
abbrev main_v23 : Ref sig .tc := ⟨.hbm, 36, rfl⟩
abbrev main_cst_4 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_5 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_6 : Ref sig .tc := ⟨.hbm, 53, rfl⟩
abbrev main_v38 : Ref sig .tc := ⟨.hbm, 54, rfl⟩
abbrev main_v39 : Ref sig .tc := ⟨.hbm, 55, rfl⟩
abbrev main_cst_7 : Ref sig .tc := ⟨.hbm, 56, rfl⟩
abbrev main_v40 : Ref sig .tc := ⟨.hbm, 57, rfl⟩
abbrev main_cst_8 : Ref sig .tc := ⟨.hbm, 58, rfl⟩
abbrev main_v41 : Ref sig .tc := ⟨.hbm, 59, rfl⟩
abbrev main_v42 : Ref sig .tc := ⟨.hbm, 60, rfl⟩
abbrev main_cst_9 : Ref sig .tc := ⟨.hbm, 61, rfl⟩
abbrev main_v43 : Ref sig .tc := ⟨.hbm, 62, rfl⟩
abbrev main_cst_10 : Ref sig .tc := ⟨.hbm, 63, rfl⟩
abbrev main_v44 : Ref sig .tc := ⟨.hbm, 64, rfl⟩
abbrev main_cst_11 : Ref sig .tc := ⟨.hbm, 65, rfl⟩
abbrev main_v45 : Ref sig .tc := ⟨.hbm, 66, rfl⟩
abbrev main_v46 : Ref sig .tc := ⟨.hbm, 67, rfl⟩
abbrev main_cst_12 : Ref sig .tc := ⟨.hbm, 68, rfl⟩
abbrev main_cst_13 : Ref sig .tc := ⟨.hbm, 69, rfl⟩
abbrev main_v47 : Ref sig .tc := ⟨.hbm, 70, rfl⟩
abbrev main_v48 : Ref sig .tc := ⟨.hbm, 71, rfl⟩
abbrev main_cst_14 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst_15 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_cst_16 : Ref sig .tc := ⟨.hbm, 83, rfl⟩
abbrev main_v58 : Ref sig .tc := ⟨.hbm, 84, rfl⟩
abbrev main_v59 : Ref sig .tc := ⟨.hbm, 85, rfl⟩
abbrev main_cst_17 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_cst_18 : Ref sig .tc := ⟨.hbm, 92, rfl⟩
abbrev main_v65 : Ref sig .tc := ⟨.hbm, 93, rfl⟩
abbrev main_v66 : Ref sig .tc := ⟨.hbm, 94, rfl⟩
abbrev main_cst_19 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩

abbrev nD : Nat := 1
abbrev τ : Topo := Topo.v7x

variable {F : FTy → Type} [FloatOps F]
-- ==== Proof.Decay.lean ====
/- Decayed sums over a sequence, and how each splits at a chunk: the real mathematics both programs share. -/
module

public import Idealize.ShloMosaic.Lib.Pointwise

@[expose] public section

noncomputable section

namespace Ret

open Finset

variable (lg : ℝ) (L : ℕ) (f : ℕ → ℝ)

/-- What token `t` sees of `f` at itself and before, faded by `exp lg` a step. -/
def past (t : ℕ) : ℝ := ∑ s ∈ range L, if s ≤ t then Real.exp (((t : ℝ) - s) * lg) * f s else 0
/-- The state that token `T` finds: `f` at the tokens before it. -/
def before (T : ℕ) : ℝ := ∑ s ∈ range L, if s < T then Real.exp (((T : ℝ) - 1 - s) * lg) * f s else 0
/-- What comes back to token `t` from itself and later. -/
def future (t : ℕ) : ℝ := ∑ s ∈ range L, if t ≤ s then Real.exp (((s : ℝ) - t) * lg) * f s else 0
/-- What comes back to the token before `T` from `T` on. -/
def after (T : ℕ) : ℝ := ∑ s ∈ range L, if T ≤ s then Real.exp (((s : ℝ) + 1 - T) * lg) * f s else 0

/-- The weight inside a chunk: token `i` on token `j`. -/
def mask (i j : ℕ) : ℝ := if j ≤ i then Real.exp (((i : ℝ) - j) * lg) else 0

theorem cut3 {C n m : ℕ} (g : ℕ → ℝ) : ∑ s ∈ range (n * C + (C + m)), g s
    = (∑ s ∈ range (n * C), g s) + ((∑ j : Fin C, g (n * C + j)) + ∑ r ∈ range m, g (n * C + (C + r))) := by
  rw [sum_range_add, sum_range_add, sum_range (fun x => g (n * C + x)) (n := C)]

variable {lg L f}

theorem past_split {C n m : ℕ} (hL : L = n * C + (C + m)) (i : Fin C) :
    past lg L f (n * C + i) = (∑ j : Fin C, mask lg i j * f (n * C + j))
      + Real.exp (((i : ℕ) + 1 : ℝ) * lg) * before lg L f (n * C) := by
  unfold past before
  rw [hL, cut3, cut3]
  rw [sum_eq_zero (s := range m) (f := fun r => if n * C + (C + r) ≤ n * C + (i : ℕ) then _ else _) (fun r _ => if_neg (by have := i.2; omega)),
    sum_eq_zero (s := range m) (f := fun r => if n * C + (C + r) < n * C then _ else _) (fun r _ => if_neg (by omega)),
    sum_eq_zero (s := univ) (f := fun j : Fin C => if n * C + (j : ℕ) < n * C then _ else _) (fun r _ => if_neg (by omega))]
  rw [add_zero, add_zero, add_zero, add_comm, mul_sum]
  congr 1
  · refine sum_congr rfl fun j _ => ?_
    unfold mask
    by_cases h : (j : ℕ) ≤ i
    · rw [if_pos (by omega), if_pos h]; push_cast; congr 2; ring_nf
    · rw [if_neg (by omega), if_neg h, zero_mul]
  · refine sum_congr rfl fun s hs => ?_
    have hs := mem_range.mp hs
    rw [if_pos (by omega), if_pos hs, ← mul_assoc, ← Real.exp_add]; push_cast; congr 2; ring_nf

theorem before_zero : before lg L f 0 = 0 := sum_eq_zero fun _ _ => if_neg (by omega)

theorem before_succ {C n m : ℕ} (hL : L = n * C + (C + m)) :
    before lg L f ((n + 1) * C) = Real.exp ((C : ℝ) * lg) * before lg L f (n * C)
      + ∑ j : Fin C, Real.exp (((C : ℝ) - 1 - (j : ℕ)) * lg) * f (n * C + j) := by
  unfold before
  rw [hL, cut3, cut3]
  rw [sum_eq_zero (s := range m) (f := fun r => if n * C + (C + r) < (n + 1) * C then _ else _) (fun r _ => if_neg (by rw [Nat.add_mul]; omega)),
    sum_eq_zero (s := range m) (f := fun r => if n * C + (C + r) < n * C then _ else _) (fun r _ => if_neg (by omega)),
    sum_eq_zero (s := univ) (f := fun j : Fin C => if n * C + (j : ℕ) < n * C then _ else _) (fun r _ => if_neg (by omega))]
  rw [add_zero, add_zero, add_zero, mul_sum]
  congr 1
  · refine sum_congr rfl fun s hs => ?_
    have hs := mem_range.mp hs
    rw [if_pos (by rw [Nat.add_mul]; omega), if_pos hs, ← mul_assoc, ← Real.exp_add]; push_cast; congr 2; ring_nf
  · refine sum_congr rfl fun j _ => ?_
    rw [if_pos (by have := j.2; rw [Nat.add_mul]; omega)]; push_cast; congr 2; ring_nf

theorem future_split {C n m : ℕ} (hL : L = n * C + (C + m)) (j : Fin C) :
    future lg L f (n * C + j) = (∑ i : Fin C, mask lg i j * f (n * C + i))
      + Real.exp (((C : ℝ) - 1 - (j : ℕ)) * lg) * after lg L f ((n + 1) * C) := by
  unfold future after
  rw [hL, cut3, cut3]
  rw [sum_eq_zero (s := range (n * C)) (f := fun s => if n * C + (j : ℕ) ≤ s then _ else _) (fun r hr => if_neg (by have := mem_range.mp hr; omega)),
    sum_eq_zero (s := range (n * C)) (f := fun s => if (n + 1) * C ≤ s then _ else _) (fun r hr => if_neg (by have := mem_range.mp hr; rw [Nat.add_mul]; omega)),
    sum_eq_zero (s := univ) (f := fun i : Fin C => if (n + 1) * C ≤ n * C + (i : ℕ) then _ else _) (fun r _ => if_neg (by have := r.2; rw [Nat.add_mul]; omega))]
  rw [zero_add, zero_add, zero_add, mul_sum]
  congr 1
  · refine sum_congr rfl fun i _ => ?_
    unfold mask
    by_cases h : (j : ℕ) ≤ i
    · rw [if_pos (by omega), if_pos h]; push_cast; congr 2; ring_nf
    · rw [if_neg (by omega), if_neg h, zero_mul]
  · refine sum_congr rfl fun s hs => ?_
    rw [if_pos (by have := j.2; omega), if_pos (by rw [Nat.add_mul]; omega), ← mul_assoc, ← Real.exp_add]
    push_cast; congr 2; ring_nf

theorem after_end : after lg L f L = 0 := sum_eq_zero fun s hs => if_neg (by have := mem_range.mp hs; omega)

theorem after_step {C n m : ℕ} (hL : L = n * C + (C + m)) :
    after lg L f (n * C) = Real.exp ((C : ℝ) * lg) * after lg L f ((n + 1) * C)
      + ∑ i : Fin C, Real.exp (((i : ℕ) + 1 : ℝ) * lg) * f (n * C + i) := by
  unfold after
  rw [hL, cut3, cut3]
  rw [sum_eq_zero (s := range (n * C)) (f := fun s => if n * C ≤ s then _ else _) (fun r hr => if_neg (by have := mem_range.mp hr; omega)),
    sum_eq_zero (s := range (n * C)) (f := fun s => if (n + 1) * C ≤ s then _ else _) (fun r hr => if_neg (by have := mem_range.mp hr; rw [Nat.add_mul]; omega)),
    sum_eq_zero (s := univ) (f := fun i : Fin C => if (n + 1) * C ≤ n * C + (i : ℕ) then _ else _) (fun r _ => if_neg (by have := r.2; rw [Nat.add_mul]; omega))]
  rw [zero_add, zero_add, zero_add, mul_sum, add_comm]
  congr 1
  · refine sum_congr rfl fun s hs => ?_
    rw [if_pos (by omega), if_pos (by rw [Nat.add_mul]; omega), ← mul_assoc, ← Real.exp_add]; push_cast; congr 2; ring_nf
  · refine sum_congr rfl fun j _ => ?_
    rw [if_pos (by omega)]; push_cast; congr 2; ring_nf

/-! Linear in what is summed. -/

theorem before_mul_sum {E : ℕ} (a : Fin E → ℝ) (g : Fin E → ℕ → ℝ) (T : ℕ) :
    ∑ e, a e * before lg L (g e) T = before lg L (fun s => ∑ e, a e * g e s) T := by
  unfold before
  simp only [mul_sum]
  rw [sum_comm]
  refine sum_congr rfl fun s _ => ?_
  split
  · exact sum_congr rfl fun e _ => by ring
  · simp

theorem after_mul_sum {E : ℕ} (a : Fin E → ℝ) (g : Fin E → ℕ → ℝ) (T : ℕ) :
    ∑ e, a e * after lg L (g e) T = after lg L (fun s => ∑ e, a e * g e s) T := by
  unfold after
  simp only [mul_sum]
  rw [sum_comm]
  refine sum_congr rfl fun s _ => ?_
  split
  · exact sum_congr rfl fun e _ => by ring
  · simp

end Ret

end
-- ==== Proof.Shared.lean ====
/- The real numbers both programs compute with: the fading rates, the rotary angles, the arguments and their rotation. -/
module

public import proofs.«01_k».proof.Proof.Gen.ReferenceIdeal
public import proofs.«01_k».proof.Proof.Decay
public import Idealize.ShloMosaic.Lib.IdealHost

@[expose] public section

set_option maxRecDepth 16384

noncomputable section

namespace Ret

open Idealize.ShloMosaic Cert.ReferenceIdeal Cert.ReferenceIdeal.Gen

/-- Three entries, then one. -/
def cat31 (a : FVec Ideal S3 .f32) (b : FVec Ideal S1 .f32) : FVec Ideal S4 .f32 := concatenate S4 0 [⟨S3, a⟩, ⟨S1, b⟩] concatenates_S3_S1_S4_d0

/-- The four heads' exponents, equally spaced. -/
def spaced : FVec Ideal S4 .f32 :=
  let lo : FVec Ideal S_ .f32 := constant (F := Ideal) S_ .f32 0xC05DCE9E#32
  let hi : FVec Ideal S_ .f32 := constant (F := Ideal) S_ .f32 0xC0C7A05B#32
  let part : FVec Ideal S3 .f32 := Host.divf (F := Ideal) (s := S3) (φ := .f32) (sitofp (F := Ideal) .f32 (iotaInDim S3 32 0)) (broadcastInDim S3 ![] bcast_S_S3 (constant (F := Ideal) S_ .f32 0x40400000#32))
  cat31 (addf (F := Ideal) (s := S3) (φ := .f32)
      (mulf (F := Ideal) (s := S3) (φ := .f32) (broadcastInDim S3 ![0] bcast_S1_S3_0 (shapeCast S1 lo shapeCasts_S_S1))
        (subf (F := Ideal) (s := S3) (φ := .f32) (broadcastInDim S3 ![] bcast_S_S3 (constant (F := Ideal) S_ .f32 0x3F800000#32)) part))
      (mulf (F := Ideal) (s := S3) (φ := .f32) (broadcastInDim S3 ![0] bcast_S1_S3_0 (shapeCast S1 hi shapeCasts_S_S1)) part))
    (broadcastInDim S1 ![] bcast_S_S1 hi)

/-- The logarithm of each head's fading rate. -/
def lgV : FVec Ideal S4 .f32 :=
  Host.log (F := Ideal) (s := S4) (φ := .f32) (subf (F := Ideal) (s := S4) (φ := .f32) (broadcastInDim S4 ![] bcast_S_S4 (constant (F := Ideal) S_ .f32 0x3F800000#32))
    (Host.exp (F := Ideal) (s := S4) (φ := .f32) spaced))

/-- The angle of token `t` at pair `a`. -/
def angV : FVec Ideal S8192x64 .f32 :=
  mulf (F := Ideal) (s := S8192x64) (φ := .f32)
    (broadcastInDim S8192x64 ![0, 1] bcast_S8192x1_S8192x64_0_1 (broadcastInDim S8192x1 ![0] bcast_S8192_S8192x1_0 (sitofp (F := Ideal) .f32 (iotaInDim S8192 32 0))))
    (broadcastInDim S8192x64 ![0, 1] bcast_S1x64_S8192x64_0_1 (broadcastInDim S1x64 ![1] bcast_S64_S1x64_1
      (Host.powf (F := Ideal) (s := S64) (φ := .f32) (broadcastInDim S64 ![] bcast_S_S64 (constant (F := Ideal) S_ .f32 0x461C4000#32))
        (Host.divf (F := Ideal) (s := S64) (φ := .f32) (Host.negf (F := Ideal) (s := S64) (φ := .f32) (sitofp (F := Ideal) .f32 (iotaInDim S64 32 0)))
          (broadcastInDim S64 ![] bcast_S_S64 (constant (F := Ideal) S_ .f32 0x42800000#32))))))

/-! ## Literals and integers -/

theorem lit_3 : Ideal.ofBits .f32 0x40400000#32 = ((3 : ℝ) : EReal) := by
  simp [Ideal.ofBits, Ideal.ieee, -EReal.coe_mul]; norm_num
theorem lit_64 : Ideal.ofBits .f32 0x42800000#32 = ((64 : ℝ) : EReal) := by
  simp [Ideal.ofBits, Ideal.ieee, -EReal.coe_mul]; norm_num
theorem lit_127 : Ideal.ofBits .f32 0x42FE0000#32 = ((127 : ℝ) : EReal) := by
  simp [Ideal.ofBits, Ideal.ieee, -EReal.coe_mul]; norm_num
theorem lit_128 : Ideal.ofBits .f32 0x43000000#32 = ((128 : ℝ) : EReal) := by
  simp [Ideal.ofBits, Ideal.ieee, -EReal.coe_mul]; norm_num
theorem lit_255 : Ideal.ofBits .f32 0x437F0000#32 = ((255 : ℝ) : EReal) := by
  simp [Ideal.ofBits, Ideal.ieee, -EReal.coe_mul]; norm_num
theorem lit_256 : Ideal.ofBits .f32 0x43800000#32 = ((256 : ℝ) : EReal) := by
  simp [Ideal.ofBits, Ideal.ieee, -EReal.coe_mul]; norm_num
theorem lit_base : Ideal.ofBits .f32 0x461C4000#32 = ((10000 : ℝ) : EReal) := by
  simp [Ideal.ofBits, Ideal.ieee, -EReal.coe_mul]; norm_num
theorem lit_lo : ∃ r : ℝ, r < 0 ∧ Ideal.ofBits .f32 0xC05DCE9E#32 = (r : EReal) := by
  refine ⟨-(14536350 / 4194304), by norm_num, ?_⟩
  simp [Ideal.ofBits, Ideal.ieee, -EReal.coe_mul, -EReal.coe_neg]; norm_num
theorem lit_hi : ∃ r : ℝ, r < 0 ∧ Ideal.ofBits .f32 0xC0C7A05B#32 = (r : EReal) := by
  refine ⟨-(13082715 / 2097152), by norm_num, ?_⟩
  simp [Ideal.ofBits, Ideal.ieee, -EReal.coe_mul, -EReal.coe_neg]; norm_num
/-- The literal `128 ^ (-1/2)` both programs scale the keys by. -/
def sc : ℝ := 11863283 / 134217728
theorem lit_scale : Ideal.ofBits .f32 0x3DB504F3#32 = (sc : EReal) := by
  unfold sc
  simp [Ideal.ofBits, Ideal.ieee, -EReal.coe_mul]; norm_num

/-- A counter below `2 ^ 31`, as the real number it is. -/
theorem count_real (n : ℕ) (h : n < 2 ^ 31) : FloatOps.sitofp (F := Ideal) FTy.f32 (BitVec.ofNat 32 n) = ((n : ℝ) : EReal) := by
  have : (BitVec.ofNat 32 n).toInt = (n : ℤ) := by
    rw [BitVec.toInt_eq_toNat_of_lt] <;> simp <;> omega
  show (((BitVec.ofNat 32 n).toInt : ℝ) : EReal) = _
  rw [this]; simp

theorem div_real (x y : ℝ) (h : y ≠ 0) : Ideal.div (x : EReal) (y : EReal) = ((x * y⁻¹ : ℝ) : EReal) := by
  unfold Ideal.div
  rw [if_neg (by exact_mod_cast h), ← EReal.coe_inv, ← EReal.coe_mul]

theorem exp_real (x : ℝ) : Ideal.exp (x : EReal) = ((Real.exp x : ℝ) : EReal) := rfl

theorem sum_real {ι : Type} (s : Finset ι) (g : ι → ℝ) : ∑ i ∈ s, ((g i : ℝ) : EReal) = ((∑ i ∈ s, g i : ℝ) : EReal) := by
  classical
  induction s using Finset.induction_on with
  | empty => simp
  | insert a s ha ih => rw [Finset.sum_insert ha, Finset.sum_insert ha, ih, EReal.coe_add]

theorem ang_real (t : Fin 8192) (a : Fin 64) : ∃ r : ℝ, angV (ix2 t a) = (r : EReal) := by
  unfold angV
  pointwise
  rw [count_real _ (by have := t.2; omega), count_real _ (by have := a.2; omega), lit_64, lit_base, ← EReal.coe_neg,
    div_real _ _ (by norm_num)]
  exact ⟨_, (EReal.coe_mul _ _).symm⟩

theorem log_real (x : ℝ) (h : x < 0) : ∃ r : ℝ, Ideal.log (1 - Ideal.exp (x : EReal)) = (r : EReal) := by
  have h1 : ¬ 1 - Real.exp x ≤ 0 := by have := Real.exp_lt_exp.mpr h; rw [Real.exp_zero] at this; linarith
  refine ⟨Real.log (1 - Real.exp x), ?_⟩
  rw [exp_real, ← EReal.coe_one, ← EReal.coe_sub]
  show (if 1 - Real.exp x ≤ 0 then (⊥ : EReal) else _) = _
  rw [if_neg h1]

theorem lg_real (h : Fin 4) : ∃ r : ℝ, lgV (ix1 h) = (r : EReal) := by
  unfold lgV spaced cat31
  pointwise
  obtain ⟨lo, hlo, elo⟩ := lit_lo
  obtain ⟨hi, hhi, ehi⟩ := lit_hi
  rw [show (3227373214#32 : BitVec 32) = 0xC05DCE9E#32 from rfl, show (3234308187#32 : BitVec 32) = 0xC0C7A05B#32 from rfl, elo, ehi,
    count_real _ (by have := h.2; omega), show (1077936128#32 : BitVec 32) = 0x40400000#32 from rfl, lit_3, div_real _ _ (by norm_num)]
  split
  · rename_i h3
    rw [← EReal.coe_one, ← EReal.coe_sub, ← EReal.coe_mul, ← EReal.coe_mul, ← EReal.coe_add, EReal.coe_one]
    apply log_real
    have h0 : (0 : ℝ) ≤ ((h : ℕ) : ℝ) * 3⁻¹ := by positivity
    have h1 : ((h : ℕ) : ℝ) * 3⁻¹ < 1 := by
      have : ((h : ℕ) : ℝ) < 3 := by exact_mod_cast h3
      linarith
    nlinarith
  · exact log_real _ hhi

/-! ## The data -/

def lg (h : Fin 4) : ℝ := (lg_real h).choose
theorem lg_eq (h : Fin 4) : lgV (ix1 h) = (lg h : EReal) := (lg_real h).choose_spec

/-- Cosine and sine of token `t`'s angle at pair `a`. -/
def co (t : ℕ) (a : Fin 64) : ℝ := if h : t < 8192 then Real.cos (ang_real ⟨t, h⟩ a).choose else 0
def si (t : ℕ) (a : Fin 64) : ℝ := if h : t < 8192 then Real.sin (ang_real ⟨t, h⟩ a).choose else 0

theorem co_eq (t : Fin 8192) (a : Fin 64) : Ideal.cos (angV (ix2 t a)) = (co t a : EReal) := by
  unfold co; rw [dif_pos t.2]; exact congrArg Ideal.cos (ang_real t a).choose_spec
theorem si_eq (t : Fin 8192) (a : Fin 64) : Ideal.sin (angV (ix2 t a)) = (si t a : EReal) := by
  unfold si; rw [dif_pos t.2]; exact congrArg Ideal.sin (ang_real t a).choose_spec

abbrev Arr := FVec Ideal S8192x512 .f32

/-- Every entry is a real number. -/
def AllReal (x : Arr) : Prop := ∀ i, ∃ r : ℝ, x i = (r : EReal)

/-- Entry `d` of head `h` at token `t`, as a real number. -/
def ent (x : Arr) (h : Fin 4) (t : ℕ) (d : Fin 128) : ℝ :=
  if ht : t < 8192 then (x (ix2 ⟨t, ht⟩ ⟨h * 128 + d, by omega⟩) : EReal).toReal else 0

theorem ent_eq {x : Arr} (hx : AllReal x) (h : Fin 4) (t : Fin 8192) (d : Fin 128) (hd : (h : ℕ) * 128 + d < 512) :
    (x (ix2 t ⟨h * 128 + d, hd⟩) : EReal) = (ent x h t d : EReal) := by
  unfold ent; rw [dif_pos t.2]
  obtain ⟨r, hr⟩ := hx (ix2 t ⟨h * 128 + d, hd⟩)
  rw [show (⟨(t : ℕ), t.2⟩ : Fin 8192) = t from rfl, hr, EReal.toReal_coe]

/-- A head's entries turned by the angles of token `t`. -/
def rot (t : ℕ) (x : Fin 128 → ℝ) (d : Fin 128) : ℝ :=
  if h : (d : ℕ) < 64 then x d * co t ⟨d, h⟩ - x ⟨64 + d, by omega⟩ * si t ⟨d, h⟩
  else x ⟨d - 64, by omega⟩ * si t ⟨d - 64, by omega⟩ + x d * co t ⟨d - 64, by omega⟩

/-- The turn taken back: the transpose of `rot`. -/
def unrot (t : ℕ) (x : Fin 128 → ℝ) (d : Fin 128) : ℝ :=
  if h : (d : ℕ) < 64 then x ⟨64 + d, by omega⟩ * si t ⟨d, h⟩ + x d * co t ⟨d, h⟩
  else x d * co t ⟨d - 64, by omega⟩ - x ⟨d - 64, by omega⟩ * si t ⟨d - 64, by omega⟩

/-- The heads of `x`, turned. -/
def ropeV (x : Arr) : FVec Ideal S1x8192x4x128 .f32 :=
  let y : FVec Ideal S1x8192x4x128 .f32 := shapeCast S1x8192x4x128 x shapeCasts_S8192x512_S1x8192x4x128
  let c : FVec Ideal S1x8192x4x64 .f32 := broadcastInDim S1x8192x4x64 ![0, 1, 2, 3] bcast_S1x8192x1x64_S1x8192x4x64_0_1_2_3
    (broadcastInDim S1x8192x1x64 ![1, 3] bcast_S8192x64_S1x8192x1x64_1_3 (Host.cos (F := Ideal) (s := S8192x64) (φ := .f32) angV))
  let s : FVec Ideal S1x8192x4x64 .f32 := broadcastInDim S1x8192x4x64 ![0, 1, 2, 3] bcast_S1x8192x1x64_S1x8192x4x64_0_1_2_3
    (broadcastInDim S1x8192x1x64 ![1, 3] bcast_S8192x64_S1x8192x1x64_1_3 (Host.sin (F := Ideal) (s := S8192x64) (φ := .f32) angV))
  let a : FVec Ideal S1x8192x4x64 .f32 := extractStridedSlice S1x8192x4x64 ![0, 0, 0, 0] y slices_S1x8192x4x128_S1x8192x4x64_0_0_0_0
  let b : FVec Ideal S1x8192x4x64 .f32 := extractStridedSlice S1x8192x4x64 ![0, 0, 0, 64] y slices_S1x8192x4x128_S1x8192x4x64_0_0_0_64
  concatenate S1x8192x4x128 3 [⟨S1x8192x4x64, subf (F := Ideal) (s := S1x8192x4x64) (φ := .f32) (mulf (F := Ideal) (s := S1x8192x4x64) (φ := .f32) a c) (mulf (F := Ideal) (s := S1x8192x4x64) (φ := .f32) b s)⟩,
    ⟨S1x8192x4x64, addf (F := Ideal) (s := S1x8192x4x64) (φ := .f32) (mulf (F := Ideal) (s := S1x8192x4x64) (φ := .f32) a s) (mulf (F := Ideal) (s := S1x8192x4x64) (φ := .f32) b c)⟩] concatenates_S1x8192x4x64_S1x8192x4x64_S1x8192x4x128_d3

/-- Token `t`'s turned entries. -/
def roped (x : Arr) (h : Fin 4) (t : ℕ) (d : Fin 128) : ℝ := rot t (ent x h t) d

theorem ropeV_apply {x : Arr} (hx : AllReal x) (z : Fin 1) (t : Fin 8192) (h : Fin 4) (d : Fin 128) :
    ropeV x (ix4 z t h d) = (roped x h t d : EReal) := by
  unfold ropeV roped rot
  pointwise
  simp only [co_eq, si_eq]
  split
  · rename_i h1
    rw [ent_eq hx h t d, ent_eq hx h t ⟨64 + d, by omega⟩, ← EReal.coe_mul, ← EReal.coe_mul, ← EReal.coe_sub]
  · rename_i h1
    rw [ent_eq hx h t ⟨d - 64, by omega⟩, ent_eq hx h t ⟨64 + (d - 64), by omega⟩, ← EReal.coe_mul, ← EReal.coe_mul, ← EReal.coe_add]
    rw [show (⟨64 + (d - 64), by omega⟩ : Fin 128) = d from Fin.ext (by simp; omega)]

end Ret

end
-- ==== Proof.Finite.lean ====
/- What the precondition says: every entry of the four arrays is a real number. -/
module

public import proofs.«01_k».proof.Pre_finite
public import proofs.«01_k».proof.Proof.Shared
public import Idealize.ShloMosaic.Lib.ReduceAll
public import Idealize.ShloMosaic.Lib.Affine
public import Idealize.ShloMosaic.Lib.IdealHost

@[expose] public section

set_option maxRecDepth 16384

noncomputable section

namespace Cert.Pre_finite

open Idealize.ShloMosaic Ret

theorem facts : Facts where
  bcast_S_S8192x512 := by decide
  reducesTo_S8192x512_S_d0_1 := by decide
  h_S_ := by decide

instance : Subsingleton S_.Idx := ⟨fun a b => funext fun k => k.elim0⟩

theorem and_split {a b : BitVec 1} (h : a &&& b = 1#1) : a = 1#1 ∧ b = 1#1 := by
  revert a b; decide

theorem real_of_lt {x : EReal} (h : Ideal.cmp .olt (max x (-x)) (Ideal.ofBits .f32 0x7F800000#32) = 1#1) :
    ∃ r : ℝ, x = (r : EReal) := by
  have top : Ideal.ofBits .f32 0x7F800000#32 = (⊤ : EReal) := by simp [Ideal.ofBits, Ideal.ieee]
  rw [top] at h
  have lt : max x (-x) < ⊤ := by
    by_contra hn
    simp [Ideal.cmp, hn] at h
  refine ⟨x.toReal, (EReal.coe_toReal (fun e => ?_) (fun e => ?_)).symm⟩
  · simp [e] at lt
  · simp [e] at lt

variable [Facts]
open Facts

/-- `jnp.all(jnp.abs(x) < jnp.inf)`. -/
def all (x : Arr) : IVec S_ 1 :=
  Host.reduce IntOp.andi (cmpf .olt (Host.absf x) (broadcastInDim S8192x512 ![] bcast_S_S8192x512 (constant (F := Ideal) S_ .f32 0x7F800000#32)))
    (constantI S_ 1 1#1) reducesTo_S8192x512_S_d0_1 h_S_

theorem all_real {x : Arr} (h : ∀ j, all x j = 1#1) : AllReal x := fun i =>
  real_of_lt (Host.reduce_andi_all _ _ _ _ (fun k => k.elim0) (h _) i)

theorem real {x0 x1 x2 x3 : Arr} (h : fn (F := Ideal) x0 x1 x2 x3 = fun _ => 1#1) :
    AllReal x0 ∧ AllReal x1 ∧ AllReal x2 ∧ AllReal x3 := by
  have e (j : S_.Idx) : (all x0 j &&& all x1 j &&& all x2 j) &&& all x3 j = 1#1 := congrFun h j
  exact ⟨all_real fun j => (and_split (and_split (and_split (e j)).1).1).1, all_real fun j => (and_split (and_split (and_split (e j)).1).1).2,
    all_real fun j => (and_split (and_split (e j)).1).2, all_real fun j => (and_split (e j)).2⟩

end Cert.Pre_finite

end
-- ==== Proof.Ssa.lean ====
/- Reading a straight line of host operations one operation at a time. Every buffer of a line is written once, after
   the buffers it is computed from; so at the end of the line, and in any later contents that agree with it off the
   buffers written later, each result is its operation's function of its operands' contents. -/
module

public import Idealize.ShloMosaic.Lib.Pipeline.Regions
public import Idealize.ShloMosaic.Lib.StableHlo.RunLoop

@[expose] public section

noncomputable section

namespace Idealize.ShloMosaic.StableHlo

variable {τ : Topo} {sig : RefSig} {Val : EltTy → Type}

/-- The contents `Z` agree, off the references `L` written later, with the end of the line `ops` run from `V`, and `W`
    names what each operation of the line writes. -/
structure Line (Z V : Valuation τ sig Val) (ops : List (HloOp τ sig Val)) (W L : List (Ref sig .tc)) : Prop where
  writes : ops.map HloOp.writes = W.map fun r => {Proc.devRef (τ := τ) .tc r}
  reads : ∀ r : Ref sig .tc, r ∉ L → Z (Proc.devRef .tc r) = after ops V (Proc.devRef .tc r)

/-- A list of references with their indices computed. -/
structure Tape (A : List (Ref sig .tc)) (K : List ℕ) : Prop where
  keys : (A.map fun r => r.idx.val) = K

/-- The index at position `p` does not return from position `n` on. -/
def Tape.last (K : List ℕ) (p n : ℕ) : Bool := (K.drop n).all fun k => !(Nat.beq k (K.getD p 0))

theorem Tape.not_mem {A : List (Ref sig .tc)} {K : List ℕ} (T : Tape A K) {p n : ℕ} {x : Ref sig .tc} (hx : A[p]? = some x)
    (h : Tape.last K p n = true) : x ∉ A.drop n := fun hm => by
  have hk : x.idx.val ∈ K.drop n := by
    rw [← T.keys, ← List.map_drop]
    exact List.mem_map_of_mem hm
  have hp : K.getD p 0 = x.idx.val := by
    rw [← T.keys, List.getD_eq_getElem?_getD, List.getElem?_map, hx]; rfl
  have := List.all_eq_true.mp h _ hk
  rw [hp] at this
  rw [show Nat.beq x.idx.val x.idx.val = true from Nat.beq_refl _] at this
  exact Bool.noConfusion this

/-- A reference of the tape not met again is not among those a line that lies at position `o` of it writes from `n` on. -/
theorem Tape.off {A : List (Ref sig .tc)} {K : List ℕ} (T : Tape A K) {W L : List (Ref sig .tc)} (o : ℕ) (hWL : W ++ L = A.drop o)
    (n p : ℕ) {x : Ref sig .tc} (hn : n ≤ W.length) (hx : A[p]? = some x) (h : Tape.last K p (o + n) = true) : x ∉ W.drop n ++ L := by
  rw [← List.drop_append_of_le_length hn, hWL, List.drop_drop]
  exact T.not_mem hx h

namespace Line

variable {Z V : Valuation τ sig Val} {ops : List (HloOp τ sig Val)} {W L : List (Ref sig .tc)}

private theorem drop_keep (h : Line Z V ops W L) (i : ℕ) (X : Valuation τ sig Val) {r : Ref sig .tc} (hr : r ∉ W.drop i) :
    after (ops.drop i) X (Proc.devRef .tc r) = X (Proc.devRef .tc r) := by
  refine after_of_writes_sub (ops.drop i) X (forall_writes_sub_of_map (W := W.drop i) ?_) hr
  rw [List.map_drop, List.map_drop, h.writes]

private theorem split (i : ℕ) (X : Valuation τ sig Val) : after ops X = after (ops.drop i) (after (ops.take i) X) := by
  conv_lhs => rw [← List.take_append_drop i ops]
  rw [after_append]

/-- A buffer neither written by the line nor later is as it was before the line. -/
theorem keep (h : Line Z V ops W L) {r : Ref sig .tc} (hr : r ∉ W ++ L) : Z (Proc.devRef .tc r) = V (Proc.devRef .tc r) := by
  rw [List.mem_append, not_or] at hr
  rw [h.reads r hr.2]
  exact h.drop_keep 0 V (by simpa using hr.1)

/-- Before operation `i` a buffer not written from there on is as it is in `Z`. -/
theorem before (h : Line Z V ops W L) (i : ℕ) {r : Ref sig .tc} (hr : r ∉ W.drop i ++ L) :
    after (ops.take i) V (Proc.devRef .tc r) = Z (Proc.devRef .tc r) := by
  rw [List.mem_append, not_or] at hr
  exact ((h.reads r hr.2).trans ((congrFun (split i V) _).trans (h.drop_keep i _ hr.1))).symm

/-- A buffer not written after operation `i` holds that operation's result. -/
theorem result (h : Line Z V ops W L) (i : ℕ) {op : HloOp τ sig Val} (hop : ops[i]? = some op) {y : Ref sig .tc}
    (hy : y ∉ W.drop (i + 1) ++ L) : Z (Proc.devRef .tc y) = op.result (after (ops.take i) V) (Proc.devRef .tc y) := by
  rw [List.mem_append, not_or] at hy
  obtain ⟨hi, rfl⟩ := List.getElem?_eq_some_iff.mp hop
  rw [h.reads y hy.2, split i V, List.drop_eq_getElem_cons hi, after_cons]
  exact h.drop_keep (i + 1) _ hy.1

theorem nullary (h : Line Z V ops W L) (i : ℕ) {y : Ref sig .tc} {v : y.ty.Contents Val} {hy}
    (hop : ops[i]? = some (StableHlo.nullary y v hy)) (wy : y ∉ W.drop (i + 1) ++ L) : Z (Proc.devRef .tc y) = v := by
  rw [h.result i hop wy, nullary_result]

theorem unary (h : Line Z V ops W L) (i : ℕ) {x y : Ref sig .tc} {f : x.ty.Contents Val → y.ty.Contents Val} {hx hy}
    (hop : ops[i]? = some (StableHlo.unary x y f hx hy)) (wy : y ∉ W.drop (i + 1) ++ L) (wx : x ∉ W.drop i ++ L) :
    Z (Proc.devRef .tc y) = f (Z (Proc.devRef .tc x)) := by
  rw [h.result i hop wy, unary_result, h.before i wx]

theorem binary (h : Line Z V ops W L) (i : ℕ) {a b y : Ref sig .tc} {f : a.ty.Contents Val → b.ty.Contents Val → y.ty.Contents Val}
    {ha hb hy} (hop : ops[i]? = some (StableHlo.binary a b y f ha hb hy)) (wy : y ∉ W.drop (i + 1) ++ L)
    (wa : a ∉ W.drop i ++ L) (wb : b ∉ W.drop i ++ L) :
    Z (Proc.devRef .tc y) = f (Z (Proc.devRef .tc a)) (Z (Proc.devRef .tc b)) := by
  rw [h.result i hop wy, binary_result, h.before i wa, h.before i wb]

theorem ternary (h : Line Z V ops W L) (i : ℕ) {c a b y : Ref sig .tc}
    {f : c.ty.Contents Val → a.ty.Contents Val → b.ty.Contents Val → y.ty.Contents Val}
    {hc ha hb hy} (hop : ops[i]? = some (StableHlo.ternary c a b y f hc ha hb hy)) (wy : y ∉ W.drop (i + 1) ++ L)
    (wc : c ∉ W.drop i ++ L) (wa : a ∉ W.drop i ++ L) (wb : b ∉ W.drop i ++ L) :
    Z (Proc.devRef .tc y) = f (Z (Proc.devRef .tc c)) (Z (Proc.devRef .tc a)) (Z (Proc.devRef .tc b)) := by
  rw [h.result i hop wy, ternary_result, h.before i wc, h.before i wa, h.before i wb]

theorem reshape (h : Line Z V ops W L) (i : ℕ) {x y : Ref sig .tc} {he hn hx hy}
    (hop : ops[i]? = some (StableHlo.reshape x y he hn hx hy)) (wy : y ∉ W.drop (i + 1) ++ L) (wx : x ∉ W.drop i ++ L) :
    Z (Proc.devRef .tc y) = fun j => he ▸ shapeCast y.ty.shape (Z (Proc.devRef .tc x)) hn j := by
  rw [h.result i hop wy, reshape_result, h.before i wx]

theorem unaryIndexed (h : Line Z V ops W L) (i : ℕ) {a y : Ref sig .tc} {n : ℕ} {ix : Fin n → Ref sig .tc} {T : BufTy}
    {f : a.ty.Contents Val → (Fin n → T.Contents Val) → y.ty.Contents Val} {hT ha hix hy}
    (hop : ops[i]? = some (StableHlo.unaryIndexed a ix T y f hT ha hix hy)) (wy : y ∉ W.drop (i + 1) ++ L)
    (wa : a ∉ W.drop i ++ L) (wix : ∀ k, ix k ∉ W.drop i ++ L) :
    Z (Proc.devRef .tc y) = f (Z (Proc.devRef .tc a))
      (fun k => cast (congrArg (fun U : BufTy => U.Contents Val) (hT k)) (Z (Proc.devRef .tc (ix k)))) := by
  rw [h.result i hop wy, unaryIndexed_result, h.before i wa]
  congr 1
  funext k
  rw [h.before i (wix k)]

theorem binaryIndexed (h : Line Z V ops W L) (i : ℕ) {a b y : Ref sig .tc} {n : ℕ} {ix : Fin n → Ref sig .tc} {T : BufTy}
    {f : a.ty.Contents Val → b.ty.Contents Val → (Fin n → T.Contents Val) → y.ty.Contents Val} {hT ha hb hix hy}
    (hop : ops[i]? = some (StableHlo.binaryIndexed a b ix T y f hT ha hb hix hy)) (wy : y ∉ W.drop (i + 1) ++ L)
    (wa : a ∉ W.drop i ++ L) (wb : b ∉ W.drop i ++ L) (wix : ∀ k, ix k ∉ W.drop i ++ L) :
    Z (Proc.devRef .tc y) = f (Z (Proc.devRef .tc a)) (Z (Proc.devRef .tc b))
      (fun k => cast (congrArg (fun U : BufTy => U.Contents Val) (hT k)) (Z (Proc.devRef .tc (ix k)))) := by
  rw [h.result i hop wy, binaryIndexed_result, h.before i wa, h.before i wb]
  congr 1
  funext k
  rw [h.before i (wix k)]

end Line

end Idealize.ShloMosaic.StableHlo

end
-- ==== Proof.KernEqs.lean ====
/- What each host operation before the kernel leaves, as its operation on what its operands hold when the kernel starts. -/
module

public import proofs.«01_k».proof.Proof.Gen.KernelIdeal.Frame.Runs
public import proofs.«01_k».proof.Proof.Ssa
public import Idealize.ShloMosaic.PureOps.Ideal

@[expose] public section

set_option maxRecDepth 16384

noncomputable section

namespace Cert.KernelIdeal.Ops

open Idealize.ShloMosaic Idealize.ShloMosaic.TcCoe Idealize.ShloMosaic.StableHlo
open Cert.KernelIdeal Cert.KernelIdeal.Gen

variable (m : (ℓ : Loc nD τ sig) → Buf (Elt Ideal) ℓ) (c : Dev nD)

/-- What the host operations write, in order. -/
abbrev hostW : List (Ref sig .tc) := [main_v0, main_v1, main_cst, main_v2, main_v3, main_cst_0, main_v4, main_v5, main_v6, main_v7, main_v8, main_v9, main_v10, main_v11, main_v12, main_v13, main_v14, main_v15, main_v16, main_v17, main_v18, main_v19, main_cst_1, main_v20, main_v21, main_cst_2, main_v22, main_v23, main_v24, main_v25, main_v26, main_v27, main_v28, main_v29, main_v30, main_v31, main_v32, main_v33, main_v34, main_v35, main_v36, main_v37, main_v38, main_v39, main_v40, main_v41, main_v42, main_v43, main_v44, main_v45, main_v46, main_v47, main_v48, main_v49, main_v50, main_cst_3, main_v51, main_v52, main_cst_4, main_v53, main_v54, main_v55, main_v56, main_v57, main_v58, main_v59, main_v60, main_v61, main_v62, main_v63, main_v64, main_v65, main_v66, main_v67, main_v68, main_v69, main_v70, main_v71, main_v72, main_v73, main_v74, main_v75, main_v76, main_v77, main_cst_5, main_v78, main_v79, main_v80, main_cst_6, main_cst_7, main_call0_v0, main_call0_v1, main_call0_v2, main_call0_cst, main_call0_v3, main_call0_v4, main_call0_cst_0, main_call0_v5, main_call0_v6, main_call0_v7, main_call0_cst_1, main_call0_v8, main_call0_v9, main_call0_v10, main_call0_v11, main_call0_v12, main_call0_v13, main_call0_v14, main_call0_v15, main_call0_v16, main_v81, main_v82, main_cst_8, main_v83, main_v84, main_v85, main_v86, main_v87, main_cst_9, main_v88, main_v89, main_cst_10, main_v90, main_v91, main_v92, main_v93, main_v94, main_v95, main_v96, main_v97, main_cst_11, main_v98, main_v99, main_cst_12, main_v100, main_v101, main_v102, main_v103, main_v104, main_v105, main_v106, main_v107, main_cst_13, main_call1_v0, main_call1_v1, main_call1_v2, main_v108, main_v109, main_v110, main_v111, main_v112, main_v113, main_v114, main_v115, main_v116, main_v117, main_v118, main_v119, main_v120, main_v121, main_v122, main_cst_14, main_cst_15, main_call2_v0, main_call2_v1, main_call2_v2, main_call2_cst, main_call2_v3, main_call2_v4, main_call2_cst_0, main_call2_v5, main_call2_v6, main_call2_v7, main_call2_cst_1, main_call2_v8, main_call2_v9, main_call2_v10, main_call2_v11, main_call2_v12, main_call2_v13, main_call2_v14, main_call2_v15, main_call2_v16, main_v123, main_v124, main_cst_16, main_v125, main_v126, main_v127, main_v128, main_v129, main_v130, main_v131, main_v132, main_v133, main_v134, main_cst_17, main_v135, main_v136, main_cst_18, main_v137, main_v138, main_v139, main_v140, main_v141, main_v142, main_v143, main_v144, main_cst_19, main_call3_v0, main_call3_v1, main_call3_v2, main_v145, main_cst_20, main_v146, main_v147, main_v148, main_v149, main_v150, main_v151, main_v152, main_v153, main_cst_21, main_v154, main_v155, main_v156, main_v157, main_v158, main_v159, main_v160, main_v161, main_cst_22, main_v162, main_v163, main_v164, main_v165, main_v166, main_v167, main_v168, main_v169, main_v170]
/-- The host operations. -/
abbrev hostOps : List (HloOp τ sig (Elt Ideal)) :=
  List.flatten [hostOps0, hostOps0_1, hostOps0_2, hostOps0_3, hostOps0_4, hostOps0_5, hostOps0_6, hostOps0_7, hostOps0_8]
theorem host_map : hostOps.map HloOp.writes = hostW.map fun r => {Proc.devRef (τ := τ) .tc r} := rfl
theorem host_line : Line (after hostOps fun b => m (c, b)) (fun b => m (c, b)) hostOps hostW [] := ⟨host_map, fun _ _ => rfl⟩

/-- Three entries, then one. -/
def cat31 (a : FVec Ideal S3 .f32) (b : FVec Ideal S1 .f32) : FVec Ideal S4 .f32 := concatenate S4 0 [⟨S3, a⟩, ⟨S1, b⟩] concatenates_S3_S1_S4_d0

/-- What buffer `b` holds when the kernel starts. -/
abbrev H (b : Ref sig .tc) : b.ty.Contents (Elt Ideal) := after hostOps (fun b => m (c, b)) (Proc.devRef .tc b)

theorem H_eq (b : Ref sig .tc) : H m c b = V m c b := rfl
theorem H_arg0 : H m c main_arg0 = m ((c : Thread nD τ).loc main_arg0) := (host_line m c).keep (by decide +kernel)
theorem H_arg1 : H m c main_arg1 = m ((c : Thread nD τ).loc main_arg1) := (host_line m c).keep (by decide +kernel)
theorem H_arg2 : H m c main_arg2 = m ((c : Thread nD τ).loc main_arg2) := (host_line m c).keep (by decide +kernel)
theorem H_arg3 : H m c main_arg3 = m ((c : Thread nD τ).loc main_arg3) := (host_line m c).keep (by decide +kernel)

/-- The arguments, then everything written, in order, and their indices. -/
abbrev allW : List (Ref sig .tc) := [main_arg0, main_arg1, main_arg2, main_arg3] ++ hostW
def allK : List ℕ := [0, 1, 2, 3, 4, 5, 6, 7, 8, 9, 10, 11, 12, 13, 14, 15, 16, 17, 18, 19, 20, 21, 22, 23, 24, 25, 26, 27, 28, 29, 30, 31, 32, 33, 34, 35, 36, 37, 38, 39, 40, 41, 42, 43, 44, 45, 46, 47, 48, 49, 50, 51, 52, 53, 54, 55, 56, 57, 58, 59, 60, 61, 62, 63, 64, 65, 66, 67, 68, 69, 70, 71, 72, 73, 74, 75, 76, 77, 78, 79, 80, 81, 82, 83, 84, 85, 86, 87, 88, 89, 90, 91, 92, 93, 94, 95, 96, 97, 98, 99, 100, 101, 102, 103, 104, 105, 106, 107, 108, 109, 110, 111, 112, 113, 114, 115, 116, 117, 118, 119, 120, 121, 122, 123, 124, 125, 126, 127, 128, 129, 130, 131, 132, 133, 134, 135, 136, 137, 138, 139, 140, 141, 142, 143, 144, 145, 146, 147, 148, 149, 150, 151, 152, 153, 154, 155, 156, 157, 158, 159, 160, 161, 162, 163, 164, 165, 166, 167, 168, 169, 170, 171, 172, 173, 174, 175, 176, 177, 178, 179, 180, 181, 182, 183, 184, 185, 186, 187, 188, 189, 190, 191, 192, 193, 194, 195, 196, 197, 198, 199, 200, 201, 202, 203, 204, 205, 206, 207, 208, 209, 210, 211, 212, 213, 214, 215, 216, 217, 218, 219, 220, 221, 222, 223, 224, 225, 226, 227, 228, 229, 230, 231, 232, 233, 234, 235, 236, 237, 238, 239, 240, 241, 242, 243, 244]
theorem tape : Tape allW allK := ⟨by decide +kernel⟩
theorem host_off (n p : ℕ) {x : Ref sig .tc} (hn : n ≤ hostW.length := by decide +kernel) (hx : allW[p]? = some x := by rfl)
    (h : Tape.last allK p (4 + n) = true := by decide +kernel) : x ∉ hostW.drop n ++ [] := tape.off (W := hostW) (L := []) 4 (by rw [List.append_nil]; rfl) n p hn hx h

theorem e_v0 : (H m c main_v0 : FVec Ideal S64 .f32) = sitofp (F := Ideal) .f32 (iotaInDim S64 32 0) :=
  (host_line m c).nullary 0 rfl (host_off 1 4)
theorem e_v1 : (H m c main_v1 : FVec Ideal S64 .f32) = Host.negf (F := Ideal) (s := S64) (φ := .f32) (H m c main_v0 : FVec Ideal S64 .f32) :=
  (host_line m c).unary 1 rfl (host_off 2 5) (host_off 1 4)
theorem e_cst : (H m c main_cst : FVec Ideal S_ .f32) = constant (F := Ideal) S_ .f32 0x42800000#32 :=
  (host_line m c).nullary 2 rfl (host_off 3 6)
theorem e_v2 : (H m c main_v2 : FVec Ideal S64 .f32) = broadcastInDim S64 ![] bcast_S_S64 (H m c main_cst : FVec Ideal S_ .f32) :=
  (host_line m c).unary 3 rfl (host_off 4 7) (host_off 3 6)
theorem e_v3 : (H m c main_v3 : FVec Ideal S64 .f32) = Host.divf (F := Ideal) (s := S64) (φ := .f32) (H m c main_v1 : FVec Ideal S64 .f32) (H m c main_v2 : FVec Ideal S64 .f32) :=
  (host_line m c).binary 4 rfl (host_off 5 8) (host_off 4 5) (host_off 4 7)
theorem e_cst_0 : (H m c main_cst_0 : FVec Ideal S_ .f32) = constant (F := Ideal) S_ .f32 0x461C4000#32 :=
  (host_line m c).nullary 5 rfl (host_off 6 9)
theorem e_v4 : (H m c main_v4 : FVec Ideal S64 .f32) = broadcastInDim S64 ![] bcast_S_S64 (H m c main_cst_0 : FVec Ideal S_ .f32) :=
  (host_line m c).unary 6 rfl (host_off 7 10) (host_off 6 9)
theorem e_v5 : (H m c main_v5 : FVec Ideal S64 .f32) = Host.powf (F := Ideal) (s := S64) (φ := .f32) (H m c main_v4 : FVec Ideal S64 .f32) (H m c main_v3 : FVec Ideal S64 .f32) :=
  (host_line m c).binary 7 rfl (host_off 8 11) (host_off 7 10) (host_off 7 8)
theorem e_v6 : (H m c main_v6 : FVec Ideal S8192 .f32) = sitofp (F := Ideal) .f32 (iotaInDim S8192 32 0) :=
  (host_line m c).nullary 8 rfl (host_off 9 12)
theorem e_v7 : (H m c main_v7 : FVec Ideal S8192x1 .f32) = broadcastInDim S8192x1 ![0] bcast_S8192_S8192x1_0 (H m c main_v6 : FVec Ideal S8192 .f32) :=
  (host_line m c).unary 9 rfl (host_off 10 13) (host_off 9 12)
theorem e_v8 : (H m c main_v8 : FVec Ideal S1x64 .f32) = broadcastInDim S1x64 ![1] bcast_S64_S1x64_1 (H m c main_v5 : FVec Ideal S64 .f32) :=
  (host_line m c).unary 10 rfl (host_off 11 14) (host_off 10 11)
theorem e_v9 : (H m c main_v9 : FVec Ideal S8192x64 .f32) = broadcastInDim S8192x64 ![0, 1] bcast_S8192x1_S8192x64_0_1 (H m c main_v7 : FVec Ideal S8192x1 .f32) :=
  (host_line m c).unary 11 rfl (host_off 12 15) (host_off 11 13)
theorem e_v10 : (H m c main_v10 : FVec Ideal S8192x64 .f32) = broadcastInDim S8192x64 ![0, 1] bcast_S1x64_S8192x64_0_1 (H m c main_v8 : FVec Ideal S1x64 .f32) :=
  (host_line m c).unary 12 rfl (host_off 13 16) (host_off 12 14)
theorem e_v11 : (H m c main_v11 : FVec Ideal S8192x64 .f32) = mulf (F := Ideal) (s := S8192x64) (φ := .f32) (H m c main_v9 : FVec Ideal S8192x64 .f32) (H m c main_v10 : FVec Ideal S8192x64 .f32) :=
  (host_line m c).binary 13 rfl (host_off 14 17) (host_off 13 15) (host_off 13 16)
theorem e_v12 : (H m c main_v12 : FVec Ideal S8192x64 .f32) = Host.cos (F := Ideal) (s := S8192x64) (φ := .f32) (H m c main_v11 : FVec Ideal S8192x64 .f32) :=
  (host_line m c).unary 14 rfl (host_off 15 18) (host_off 14 17)
theorem e_v13 : (H m c main_v13 : FVec Ideal S8192x64 .f32) = Host.sin (F := Ideal) (s := S8192x64) (φ := .f32) (H m c main_v11 : FVec Ideal S8192x64 .f32) :=
  (host_line m c).unary 15 rfl (host_off 16 19) (host_off 15 17)
theorem e_v14 : (H m c main_v14 : FVec Ideal S8192x128 .f32) = concatenate S8192x128 1 [⟨S8192x64, (H m c main_v12 : FVec Ideal S8192x64 .f32)⟩, ⟨S8192x64, (H m c main_v12 : FVec Ideal S8192x64 .f32)⟩] concatenates_S8192x64_S8192x64_S8192x128_d1 :=
  ((host_line m c).binary 16 rfl (host_off 17 20) (host_off 16 18) (host_off 16 18)).trans rfl
theorem e_v15 : (H m c main_v15 : FVec Ideal S8192x64 .f32) = Host.negf (F := Ideal) (s := S8192x64) (φ := .f32) (H m c main_v13 : FVec Ideal S8192x64 .f32) :=
  (host_line m c).unary 17 rfl (host_off 18 21) (host_off 17 19)
theorem e_v16 : (H m c main_v16 : FVec Ideal S8192x128 .f32) = concatenate S8192x128 1 [⟨S8192x64, (H m c main_v15 : FVec Ideal S8192x64 .f32)⟩, ⟨S8192x64, (H m c main_v13 : FVec Ideal S8192x64 .f32)⟩] concatenates_S8192x64_S8192x64_S8192x128_d1 :=
  ((host_line m c).binary 18 rfl (host_off 19 22) (host_off 18 21) (host_off 18 19)).trans rfl
theorem e_v17 : (H m c main_v17 : FVec Ideal S1x8192x4x128 .f32) = shapeCast S1x8192x4x128 (H m c main_arg0 : FVec Ideal S8192x512 .f32) shapeCasts_S8192x512_S1x8192x4x128 :=
  ((host_line m c).reshape 19 rfl (host_off 20 23) (host_off 19 0)).trans rfl
theorem e_v18 : (H m c main_v18 : FVec Ideal S64 .f32) = sitofp (F := Ideal) .f32 (iotaInDim S64 32 0) :=
  (host_line m c).nullary 20 rfl (host_off 21 24)
theorem e_v19 : (H m c main_v19 : FVec Ideal S64 .f32) = Host.negf (F := Ideal) (s := S64) (φ := .f32) (H m c main_v18 : FVec Ideal S64 .f32) :=
  (host_line m c).unary 21 rfl (host_off 22 25) (host_off 21 24)
theorem e_cst_1 : (H m c main_cst_1 : FVec Ideal S_ .f32) = constant (F := Ideal) S_ .f32 0x42800000#32 :=
  (host_line m c).nullary 22 rfl (host_off 23 26)
theorem e_v20 : (H m c main_v20 : FVec Ideal S64 .f32) = broadcastInDim S64 ![] bcast_S_S64 (H m c main_cst_1 : FVec Ideal S_ .f32) :=
  (host_line m c).unary 23 rfl (host_off 24 27) (host_off 23 26)
theorem e_v21 : (H m c main_v21 : FVec Ideal S64 .f32) = Host.divf (F := Ideal) (s := S64) (φ := .f32) (H m c main_v19 : FVec Ideal S64 .f32) (H m c main_v20 : FVec Ideal S64 .f32) :=
  (host_line m c).binary 24 rfl (host_off 25 28) (host_off 24 25) (host_off 24 27)
theorem e_cst_2 : (H m c main_cst_2 : FVec Ideal S_ .f32) = constant (F := Ideal) S_ .f32 0x461C4000#32 :=
  (host_line m c).nullary 25 rfl (host_off 26 29)
theorem e_v22 : (H m c main_v22 : FVec Ideal S64 .f32) = broadcastInDim S64 ![] bcast_S_S64 (H m c main_cst_2 : FVec Ideal S_ .f32) :=
  (host_line m c).unary 26 rfl (host_off 27 30) (host_off 26 29)
theorem e_v23 : (H m c main_v23 : FVec Ideal S64 .f32) = Host.powf (F := Ideal) (s := S64) (φ := .f32) (H m c main_v22 : FVec Ideal S64 .f32) (H m c main_v21 : FVec Ideal S64 .f32) :=
  (host_line m c).binary 27 rfl (host_off 28 31) (host_off 27 30) (host_off 27 28)
theorem e_v24 : (H m c main_v24 : FVec Ideal S8192 .f32) = sitofp (F := Ideal) .f32 (iotaInDim S8192 32 0) :=
  (host_line m c).nullary 28 rfl (host_off 29 32)
theorem e_v25 : (H m c main_v25 : FVec Ideal S8192x1 .f32) = broadcastInDim S8192x1 ![0] bcast_S8192_S8192x1_0 (H m c main_v24 : FVec Ideal S8192 .f32) :=
  (host_line m c).unary 29 rfl (host_off 30 33) (host_off 29 32)
theorem e_v26 : (H m c main_v26 : FVec Ideal S1x64 .f32) = broadcastInDim S1x64 ![1] bcast_S64_S1x64_1 (H m c main_v23 : FVec Ideal S64 .f32) :=
  (host_line m c).unary 30 rfl (host_off 31 34) (host_off 30 31)
theorem e_v27 : (H m c main_v27 : FVec Ideal S8192x64 .f32) = broadcastInDim S8192x64 ![0, 1] bcast_S8192x1_S8192x64_0_1 (H m c main_v25 : FVec Ideal S8192x1 .f32) :=
  (host_line m c).unary 31 rfl (host_off 32 35) (host_off 31 33)
theorem e_v28 : (H m c main_v28 : FVec Ideal S8192x64 .f32) = broadcastInDim S8192x64 ![0, 1] bcast_S1x64_S8192x64_0_1 (H m c main_v26 : FVec Ideal S1x64 .f32) :=
  (host_line m c).unary 32 rfl (host_off 33 36) (host_off 32 34)
theorem e_v29 : (H m c main_v29 : FVec Ideal S8192x64 .f32) = mulf (F := Ideal) (s := S8192x64) (φ := .f32) (H m c main_v27 : FVec Ideal S8192x64 .f32) (H m c main_v28 : FVec Ideal S8192x64 .f32) :=
  (host_line m c).binary 33 rfl (host_off 34 37) (host_off 33 35) (host_off 33 36)
theorem e_v30 : (H m c main_v30 : FVec Ideal S8192x64 .f32) = Host.cos (F := Ideal) (s := S8192x64) (φ := .f32) (H m c main_v29 : FVec Ideal S8192x64 .f32) :=
  (host_line m c).unary 34 rfl (host_off 35 38) (host_off 34 37)
theorem e_v31 : (H m c main_v31 : FVec Ideal S1x8192x1x64 .f32) = broadcastInDim S1x8192x1x64 ![1, 3] bcast_S8192x64_S1x8192x1x64_1_3 (H m c main_v30 : FVec Ideal S8192x64 .f32) :=
  (host_line m c).unary 35 rfl (host_off 36 39) (host_off 35 38)
theorem e_v32 : (H m c main_v32 : FVec Ideal S8192x64 .f32) = Host.sin (F := Ideal) (s := S8192x64) (φ := .f32) (H m c main_v29 : FVec Ideal S8192x64 .f32) :=
  (host_line m c).unary 36 rfl (host_off 37 40) (host_off 36 37)
theorem e_v33 : (H m c main_v33 : FVec Ideal S1x8192x1x64 .f32) = broadcastInDim S1x8192x1x64 ![1, 3] bcast_S8192x64_S1x8192x1x64_1_3 (H m c main_v32 : FVec Ideal S8192x64 .f32) :=
  (host_line m c).unary 37 rfl (host_off 38 41) (host_off 37 40)
theorem e_v34 : (H m c main_v34 : FVec Ideal S1x8192x4x64 .f32) = extractStridedSlice S1x8192x4x64 ![0, 0, 0, 0] (H m c main_v17 : FVec Ideal S1x8192x4x128 .f32) slices_S1x8192x4x128_S1x8192x4x64_0_0_0_0 :=
  (host_line m c).unary 38 rfl (host_off 39 42) (host_off 38 23)
theorem e_v35 : (H m c main_v35 : FVec Ideal S1x8192x4x64 .f32) = extractStridedSlice S1x8192x4x64 ![0, 0, 0, 64] (H m c main_v17 : FVec Ideal S1x8192x4x128 .f32) slices_S1x8192x4x128_S1x8192x4x64_0_0_0_64 :=
  (host_line m c).unary 39 rfl (host_off 40 43) (host_off 39 23)
theorem e_v36 : (H m c main_v36 : FVec Ideal S1x8192x4x64 .f32) = broadcastInDim S1x8192x4x64 ![0, 1, 2, 3] bcast_S1x8192x1x64_S1x8192x4x64_0_1_2_3 (H m c main_v31 : FVec Ideal S1x8192x1x64 .f32) :=
  (host_line m c).unary 40 rfl (host_off 41 44) (host_off 40 39)
theorem e_v37 : (H m c main_v37 : FVec Ideal S1x8192x4x64 .f32) = mulf (F := Ideal) (s := S1x8192x4x64) (φ := .f32) (H m c main_v34 : FVec Ideal S1x8192x4x64 .f32) (H m c main_v36 : FVec Ideal S1x8192x4x64 .f32) :=
  (host_line m c).binary 41 rfl (host_off 42 45) (host_off 41 42) (host_off 41 44)
theorem e_v38 : (H m c main_v38 : FVec Ideal S1x8192x4x64 .f32) = broadcastInDim S1x8192x4x64 ![0, 1, 2, 3] bcast_S1x8192x1x64_S1x8192x4x64_0_1_2_3 (H m c main_v33 : FVec Ideal S1x8192x1x64 .f32) :=
  (host_line m c).unary 42 rfl (host_off 43 46) (host_off 42 41)
theorem e_v39 : (H m c main_v39 : FVec Ideal S1x8192x4x64 .f32) = mulf (F := Ideal) (s := S1x8192x4x64) (φ := .f32) (H m c main_v35 : FVec Ideal S1x8192x4x64 .f32) (H m c main_v38 : FVec Ideal S1x8192x4x64 .f32) :=
  (host_line m c).binary 43 rfl (host_off 44 47) (host_off 43 43) (host_off 43 46)
theorem e_v40 : (H m c main_v40 : FVec Ideal S1x8192x4x64 .f32) = subf (F := Ideal) (s := S1x8192x4x64) (φ := .f32) (H m c main_v37 : FVec Ideal S1x8192x4x64 .f32) (H m c main_v39 : FVec Ideal S1x8192x4x64 .f32) :=
  (host_line m c).binary 44 rfl (host_off 45 48) (host_off 44 45) (host_off 44 47)
theorem e_v41 : (H m c main_v41 : FVec Ideal S1x8192x4x64 .f32) = broadcastInDim S1x8192x4x64 ![0, 1, 2, 3] bcast_S1x8192x1x64_S1x8192x4x64_0_1_2_3 (H m c main_v33 : FVec Ideal S1x8192x1x64 .f32) :=
  (host_line m c).unary 45 rfl (host_off 46 49) (host_off 45 41)
theorem e_v42 : (H m c main_v42 : FVec Ideal S1x8192x4x64 .f32) = mulf (F := Ideal) (s := S1x8192x4x64) (φ := .f32) (H m c main_v34 : FVec Ideal S1x8192x4x64 .f32) (H m c main_v41 : FVec Ideal S1x8192x4x64 .f32) :=
  (host_line m c).binary 46 rfl (host_off 47 50) (host_off 46 42) (host_off 46 49)
theorem e_v43 : (H m c main_v43 : FVec Ideal S1x8192x4x64 .f32) = broadcastInDim S1x8192x4x64 ![0, 1, 2, 3] bcast_S1x8192x1x64_S1x8192x4x64_0_1_2_3 (H m c main_v31 : FVec Ideal S1x8192x1x64 .f32) :=
  (host_line m c).unary 47 rfl (host_off 48 51) (host_off 47 39)
theorem e_v44 : (H m c main_v44 : FVec Ideal S1x8192x4x64 .f32) = mulf (F := Ideal) (s := S1x8192x4x64) (φ := .f32) (H m c main_v35 : FVec Ideal S1x8192x4x64 .f32) (H m c main_v43 : FVec Ideal S1x8192x4x64 .f32) :=
  (host_line m c).binary 48 rfl (host_off 49 52) (host_off 48 43) (host_off 48 51)
theorem e_v45 : (H m c main_v45 : FVec Ideal S1x8192x4x64 .f32) = addf (F := Ideal) (s := S1x8192x4x64) (φ := .f32) (H m c main_v42 : FVec Ideal S1x8192x4x64 .f32) (H m c main_v44 : FVec Ideal S1x8192x4x64 .f32) :=
  (host_line m c).binary 49 rfl (host_off 50 53) (host_off 49 50) (host_off 49 52)
theorem e_v46 : (H m c main_v46 : FVec Ideal S1x8192x4x128 .f32) = concatenate S1x8192x4x128 3 [⟨S1x8192x4x64, (H m c main_v40 : FVec Ideal S1x8192x4x64 .f32)⟩, ⟨S1x8192x4x64, (H m c main_v45 : FVec Ideal S1x8192x4x64 .f32)⟩] concatenates_S1x8192x4x64_S1x8192x4x64_S1x8192x4x128_d3 :=
  ((host_line m c).binary 50 rfl (host_off 51 54) (host_off 50 48) (host_off 50 53)).trans rfl
theorem e_v47 : (H m c main_v47 : FVec Ideal S8192x512 .f32) = shapeCast S8192x512 (H m c main_v46 : FVec Ideal S1x8192x4x128 .f32) shapeCasts_S1x8192x4x128_S8192x512 :=
  ((host_line m c).reshape 51 rfl (host_off 52 55) (host_off 51 54)).trans rfl
theorem e_v48 : (H m c main_v48 : FVec Ideal S1x8192x4x128 .f32) = shapeCast S1x8192x4x128 (H m c main_arg1 : FVec Ideal S8192x512 .f32) shapeCasts_S8192x512_S1x8192x4x128 :=
  ((host_line m c).reshape 52 rfl (host_off 53 56) (host_off 52 1)).trans rfl
theorem e_v49 : (H m c main_v49 : FVec Ideal S64 .f32) = sitofp (F := Ideal) .f32 (iotaInDim S64 32 0) :=
  (host_line m c).nullary 53 rfl (host_off 54 57)
theorem e_v50 : (H m c main_v50 : FVec Ideal S64 .f32) = Host.negf (F := Ideal) (s := S64) (φ := .f32) (H m c main_v49 : FVec Ideal S64 .f32) :=
  (host_line m c).unary 54 rfl (host_off 55 58) (host_off 54 57)
theorem e_cst_3 : (H m c main_cst_3 : FVec Ideal S_ .f32) = constant (F := Ideal) S_ .f32 0x42800000#32 :=
  (host_line m c).nullary 55 rfl (host_off 56 59)
theorem e_v51 : (H m c main_v51 : FVec Ideal S64 .f32) = broadcastInDim S64 ![] bcast_S_S64 (H m c main_cst_3 : FVec Ideal S_ .f32) :=
  (host_line m c).unary 56 rfl (host_off 57 60) (host_off 56 59)
theorem e_v52 : (H m c main_v52 : FVec Ideal S64 .f32) = Host.divf (F := Ideal) (s := S64) (φ := .f32) (H m c main_v50 : FVec Ideal S64 .f32) (H m c main_v51 : FVec Ideal S64 .f32) :=
  (host_line m c).binary 57 rfl (host_off 58 61) (host_off 57 58) (host_off 57 60)
theorem e_cst_4 : (H m c main_cst_4 : FVec Ideal S_ .f32) = constant (F := Ideal) S_ .f32 0x461C4000#32 :=
  (host_line m c).nullary 58 rfl (host_off 59 62)
theorem e_v53 : (H m c main_v53 : FVec Ideal S64 .f32) = broadcastInDim S64 ![] bcast_S_S64 (H m c main_cst_4 : FVec Ideal S_ .f32) :=
  (host_line m c).unary 59 rfl (host_off 60 63) (host_off 59 62)
theorem e_v54 : (H m c main_v54 : FVec Ideal S64 .f32) = Host.powf (F := Ideal) (s := S64) (φ := .f32) (H m c main_v53 : FVec Ideal S64 .f32) (H m c main_v52 : FVec Ideal S64 .f32) :=
  (host_line m c).binary 60 rfl (host_off 61 64) (host_off 60 63) (host_off 60 61)
theorem e_v55 : (H m c main_v55 : FVec Ideal S8192 .f32) = sitofp (F := Ideal) .f32 (iotaInDim S8192 32 0) :=
  (host_line m c).nullary 61 rfl (host_off 62 65)
theorem e_v56 : (H m c main_v56 : FVec Ideal S8192x1 .f32) = broadcastInDim S8192x1 ![0] bcast_S8192_S8192x1_0 (H m c main_v55 : FVec Ideal S8192 .f32) :=
  (host_line m c).unary 62 rfl (host_off 63 66) (host_off 62 65)
theorem e_v57 : (H m c main_v57 : FVec Ideal S1x64 .f32) = broadcastInDim S1x64 ![1] bcast_S64_S1x64_1 (H m c main_v54 : FVec Ideal S64 .f32) :=
  (host_line m c).unary 63 rfl (host_off 64 67) (host_off 63 64)
theorem e_v58 : (H m c main_v58 : FVec Ideal S8192x64 .f32) = broadcastInDim S8192x64 ![0, 1] bcast_S8192x1_S8192x64_0_1 (H m c main_v56 : FVec Ideal S8192x1 .f32) :=
  (host_line m c).unary 64 rfl (host_off 65 68) (host_off 64 66)
theorem e_v59 : (H m c main_v59 : FVec Ideal S8192x64 .f32) = broadcastInDim S8192x64 ![0, 1] bcast_S1x64_S8192x64_0_1 (H m c main_v57 : FVec Ideal S1x64 .f32) :=
  (host_line m c).unary 65 rfl (host_off 66 69) (host_off 65 67)
theorem e_v60 : (H m c main_v60 : FVec Ideal S8192x64 .f32) = mulf (F := Ideal) (s := S8192x64) (φ := .f32) (H m c main_v58 : FVec Ideal S8192x64 .f32) (H m c main_v59 : FVec Ideal S8192x64 .f32) :=
  (host_line m c).binary 66 rfl (host_off 67 70) (host_off 66 68) (host_off 66 69)
theorem e_v61 : (H m c main_v61 : FVec Ideal S8192x64 .f32) = Host.cos (F := Ideal) (s := S8192x64) (φ := .f32) (H m c main_v60 : FVec Ideal S8192x64 .f32) :=
  (host_line m c).unary 67 rfl (host_off 68 71) (host_off 67 70)
theorem e_v62 : (H m c main_v62 : FVec Ideal S1x8192x1x64 .f32) = broadcastInDim S1x8192x1x64 ![1, 3] bcast_S8192x64_S1x8192x1x64_1_3 (H m c main_v61 : FVec Ideal S8192x64 .f32) :=
  (host_line m c).unary 68 rfl (host_off 69 72) (host_off 68 71)
theorem e_v63 : (H m c main_v63 : FVec Ideal S8192x64 .f32) = Host.sin (F := Ideal) (s := S8192x64) (φ := .f32) (H m c main_v60 : FVec Ideal S8192x64 .f32) :=
  (host_line m c).unary 69 rfl (host_off 70 73) (host_off 69 70)
theorem e_v64 : (H m c main_v64 : FVec Ideal S1x8192x1x64 .f32) = broadcastInDim S1x8192x1x64 ![1, 3] bcast_S8192x64_S1x8192x1x64_1_3 (H m c main_v63 : FVec Ideal S8192x64 .f32) :=
  (host_line m c).unary 70 rfl (host_off 71 74) (host_off 70 73)
theorem e_v65 : (H m c main_v65 : FVec Ideal S1x8192x4x64 .f32) = extractStridedSlice S1x8192x4x64 ![0, 0, 0, 0] (H m c main_v48 : FVec Ideal S1x8192x4x128 .f32) slices_S1x8192x4x128_S1x8192x4x64_0_0_0_0 :=
  (host_line m c).unary 71 rfl (host_off 72 75) (host_off 71 56)
theorem e_v66 : (H m c main_v66 : FVec Ideal S1x8192x4x64 .f32) = extractStridedSlice S1x8192x4x64 ![0, 0, 0, 64] (H m c main_v48 : FVec Ideal S1x8192x4x128 .f32) slices_S1x8192x4x128_S1x8192x4x64_0_0_0_64 :=
  (host_line m c).unary 72 rfl (host_off 73 76) (host_off 72 56)
theorem e_v67 : (H m c main_v67 : FVec Ideal S1x8192x4x64 .f32) = broadcastInDim S1x8192x4x64 ![0, 1, 2, 3] bcast_S1x8192x1x64_S1x8192x4x64_0_1_2_3 (H m c main_v62 : FVec Ideal S1x8192x1x64 .f32) :=
  (host_line m c).unary 73 rfl (host_off 74 77) (host_off 73 72)
theorem e_v68 : (H m c main_v68 : FVec Ideal S1x8192x4x64 .f32) = mulf (F := Ideal) (s := S1x8192x4x64) (φ := .f32) (H m c main_v65 : FVec Ideal S1x8192x4x64 .f32) (H m c main_v67 : FVec Ideal S1x8192x4x64 .f32) :=
  (host_line m c).binary 74 rfl (host_off 75 78) (host_off 74 75) (host_off 74 77)
theorem e_v69 : (H m c main_v69 : FVec Ideal S1x8192x4x64 .f32) = broadcastInDim S1x8192x4x64 ![0, 1, 2, 3] bcast_S1x8192x1x64_S1x8192x4x64_0_1_2_3 (H m c main_v64 : FVec Ideal S1x8192x1x64 .f32) :=
  (host_line m c).unary 75 rfl (host_off 76 79) (host_off 75 74)
theorem e_v70 : (H m c main_v70 : FVec Ideal S1x8192x4x64 .f32) = mulf (F := Ideal) (s := S1x8192x4x64) (φ := .f32) (H m c main_v66 : FVec Ideal S1x8192x4x64 .f32) (H m c main_v69 : FVec Ideal S1x8192x4x64 .f32) :=
  (host_line m c).binary 76 rfl (host_off 77 80) (host_off 76 76) (host_off 76 79)
theorem e_v71 : (H m c main_v71 : FVec Ideal S1x8192x4x64 .f32) = subf (F := Ideal) (s := S1x8192x4x64) (φ := .f32) (H m c main_v68 : FVec Ideal S1x8192x4x64 .f32) (H m c main_v70 : FVec Ideal S1x8192x4x64 .f32) :=
  (host_line m c).binary 77 rfl (host_off 78 81) (host_off 77 78) (host_off 77 80)
theorem e_v72 : (H m c main_v72 : FVec Ideal S1x8192x4x64 .f32) = broadcastInDim S1x8192x4x64 ![0, 1, 2, 3] bcast_S1x8192x1x64_S1x8192x4x64_0_1_2_3 (H m c main_v64 : FVec Ideal S1x8192x1x64 .f32) :=
  (host_line m c).unary 78 rfl (host_off 79 82) (host_off 78 74)
theorem e_v73 : (H m c main_v73 : FVec Ideal S1x8192x4x64 .f32) = mulf (F := Ideal) (s := S1x8192x4x64) (φ := .f32) (H m c main_v65 : FVec Ideal S1x8192x4x64 .f32) (H m c main_v72 : FVec Ideal S1x8192x4x64 .f32) :=
  (host_line m c).binary 79 rfl (host_off 80 83) (host_off 79 75) (host_off 79 82)
theorem e_v74 : (H m c main_v74 : FVec Ideal S1x8192x4x64 .f32) = broadcastInDim S1x8192x4x64 ![0, 1, 2, 3] bcast_S1x8192x1x64_S1x8192x4x64_0_1_2_3 (H m c main_v62 : FVec Ideal S1x8192x1x64 .f32) :=
  (host_line m c).unary 80 rfl (host_off 81 84) (host_off 80 72)
theorem e_v75 : (H m c main_v75 : FVec Ideal S1x8192x4x64 .f32) = mulf (F := Ideal) (s := S1x8192x4x64) (φ := .f32) (H m c main_v66 : FVec Ideal S1x8192x4x64 .f32) (H m c main_v74 : FVec Ideal S1x8192x4x64 .f32) :=
  (host_line m c).binary 81 rfl (host_off 82 85) (host_off 81 76) (host_off 81 84)
theorem e_v76 : (H m c main_v76 : FVec Ideal S1x8192x4x64 .f32) = addf (F := Ideal) (s := S1x8192x4x64) (φ := .f32) (H m c main_v73 : FVec Ideal S1x8192x4x64 .f32) (H m c main_v75 : FVec Ideal S1x8192x4x64 .f32) :=
  (host_line m c).binary 82 rfl (host_off 83 86) (host_off 82 83) (host_off 82 85)
theorem e_v77 : (H m c main_v77 : FVec Ideal S1x8192x4x128 .f32) = concatenate S1x8192x4x128 3 [⟨S1x8192x4x64, (H m c main_v71 : FVec Ideal S1x8192x4x64 .f32)⟩, ⟨S1x8192x4x64, (H m c main_v76 : FVec Ideal S1x8192x4x64 .f32)⟩] concatenates_S1x8192x4x64_S1x8192x4x64_S1x8192x4x128_d3 :=
  ((host_line m c).binary 83 rfl (host_off 84 87) (host_off 83 81) (host_off 83 86)).trans rfl
theorem e_cst_5 : (H m c main_cst_5 : FVec Ideal S_ .f32) = constant (F := Ideal) S_ .f32 0x3DB504F3#32 :=
  (host_line m c).nullary 84 rfl (host_off 85 88)
theorem e_v78 : (H m c main_v78 : FVec Ideal S1x8192x4x128 .f32) = broadcastInDim S1x8192x4x128 ![] bcast_S_S1x8192x4x128 (H m c main_cst_5 : FVec Ideal S_ .f32) :=
  (host_line m c).unary 85 rfl (host_off 86 89) (host_off 85 88)
theorem e_v79 : (H m c main_v79 : FVec Ideal S1x8192x4x128 .f32) = mulf (F := Ideal) (s := S1x8192x4x128) (φ := .f32) (H m c main_v77 : FVec Ideal S1x8192x4x128 .f32) (H m c main_v78 : FVec Ideal S1x8192x4x128 .f32) :=
  (host_line m c).binary 86 rfl (host_off 87 90) (host_off 86 87) (host_off 86 89)
theorem e_v80 : (H m c main_v80 : FVec Ideal S8192x512 .f32) = shapeCast S8192x512 (H m c main_v79 : FVec Ideal S1x8192x4x128 .f32) shapeCasts_S1x8192x4x128_S8192x512 :=
  ((host_line m c).reshape 87 rfl (host_off 88 91) (host_off 87 90)).trans rfl
theorem e_cst_6 : (H m c main_cst_6 : FVec Ideal S_ .f32) = constant (F := Ideal) S_ .f32 0xC05DCE9E#32 :=
  (host_line m c).nullary 88 rfl (host_off 89 92)
theorem e_cst_7 : (H m c main_cst_7 : FVec Ideal S_ .f32) = constant (F := Ideal) S_ .f32 0xC0C7A05B#32 :=
  (host_line m c).nullary 89 rfl (host_off 90 93)
theorem e_call0_v0 : (H m c main_call0_v0 : FVec Ideal S_ .f32) = (H m c main_cst_6 : FVec Ideal S_ .f32) :=
  ((host_line m c).unary 90 rfl (host_off 91 94) (host_off 90 92)).trans rfl
theorem e_call0_v1 : (H m c main_call0_v1 : FVec Ideal S_ .f32) = (H m c main_cst_7 : FVec Ideal S_ .f32) :=
  ((host_line m c).unary 91 rfl (host_off 92 95) (host_off 91 93)).trans rfl
theorem e_call0_v2 : (H m c main_call0_v2 : FVec Ideal S_ .f32) = subf (F := Ideal) (s := S_) (φ := .f32) (H m c main_call0_v1 : FVec Ideal S_ .f32) (H m c main_call0_v0 : FVec Ideal S_ .f32) :=
  (host_line m c).binary 92 rfl (host_off 93 96) (host_off 92 95) (host_off 92 94)
theorem e_call0_cst : (H m c main_call0_cst : FVec Ideal S_ .f32) = constant (F := Ideal) S_ .f32 0x40400000#32 :=
  (host_line m c).nullary 93 rfl (host_off 94 97)
theorem e_call0_v3 : (H m c main_call0_v3 : FVec Ideal S_ .f32) = Host.divf (F := Ideal) (s := S_) (φ := .f32) (H m c main_call0_v2 : FVec Ideal S_ .f32) (H m c main_call0_cst : FVec Ideal S_ .f32) :=
  (host_line m c).binary 94 rfl (host_off 95 98) (host_off 94 96) (host_off 94 97)
theorem e_call0_v4 : (H m c main_call0_v4 : FVec Ideal S3 .f32) = sitofp (F := Ideal) .f32 (iotaInDim S3 32 0) :=
  (host_line m c).nullary 95 rfl (host_off 96 99)
theorem e_call0_cst_0 : (H m c main_call0_cst_0 : FVec Ideal S_ .f32) = constant (F := Ideal) S_ .f32 0x40400000#32 :=
  (host_line m c).nullary 96 rfl (host_off 97 100)
theorem e_call0_v5 : (H m c main_call0_v5 : FVec Ideal S3 .f32) = broadcastInDim S3 ![] bcast_S_S3 (H m c main_call0_cst_0 : FVec Ideal S_ .f32) :=
  (host_line m c).unary 97 rfl (host_off 98 101) (host_off 97 100)
theorem e_call0_v6 : (H m c main_call0_v6 : FVec Ideal S3 .f32) = Host.divf (F := Ideal) (s := S3) (φ := .f32) (H m c main_call0_v4 : FVec Ideal S3 .f32) (H m c main_call0_v5 : FVec Ideal S3 .f32) :=
  (host_line m c).binary 98 rfl (host_off 99 102) (host_off 98 99) (host_off 98 101)
theorem e_call0_v7 : (H m c main_call0_v7 : FVec Ideal S1 .f32) = shapeCast S1 (H m c main_call0_v0 : FVec Ideal S_ .f32) shapeCasts_S_S1 :=
  ((host_line m c).reshape 99 rfl (host_off 100 103) (host_off 99 94)).trans rfl
theorem e_call0_cst_1 : (H m c main_call0_cst_1 : FVec Ideal S_ .f32) = constant (F := Ideal) S_ .f32 0x3F800000#32 :=
  (host_line m c).nullary 100 rfl (host_off 101 104)
theorem e_call0_v8 : (H m c main_call0_v8 : FVec Ideal S3 .f32) = broadcastInDim S3 ![] bcast_S_S3 (H m c main_call0_cst_1 : FVec Ideal S_ .f32) :=
  (host_line m c).unary 101 rfl (host_off 102 105) (host_off 101 104)
theorem e_call0_v9 : (H m c main_call0_v9 : FVec Ideal S3 .f32) = subf (F := Ideal) (s := S3) (φ := .f32) (H m c main_call0_v8 : FVec Ideal S3 .f32) (H m c main_call0_v6 : FVec Ideal S3 .f32) :=
  (host_line m c).binary 102 rfl (host_off 103 106) (host_off 102 105) (host_off 102 102)
theorem e_call0_v10 : (H m c main_call0_v10 : FVec Ideal S3 .f32) = broadcastInDim S3 ![0] bcast_S1_S3_0 (H m c main_call0_v7 : FVec Ideal S1 .f32) :=
  (host_line m c).unary 103 rfl (host_off 104 107) (host_off 103 103)
theorem e_call0_v11 : (H m c main_call0_v11 : FVec Ideal S3 .f32) = mulf (F := Ideal) (s := S3) (φ := .f32) (H m c main_call0_v10 : FVec Ideal S3 .f32) (H m c main_call0_v9 : FVec Ideal S3 .f32) :=
  (host_line m c).binary 104 rfl (host_off 105 108) (host_off 104 107) (host_off 104 106)
theorem e_call0_v12 : (H m c main_call0_v12 : FVec Ideal S1 .f32) = shapeCast S1 (H m c main_call0_v1 : FVec Ideal S_ .f32) shapeCasts_S_S1 :=
  ((host_line m c).reshape 105 rfl (host_off 106 109) (host_off 105 95)).trans rfl
theorem e_call0_v13 : (H m c main_call0_v13 : FVec Ideal S3 .f32) = broadcastInDim S3 ![0] bcast_S1_S3_0 (H m c main_call0_v12 : FVec Ideal S1 .f32) :=
  (host_line m c).unary 106 rfl (host_off 107 110) (host_off 106 109)
theorem e_call0_v14 : (H m c main_call0_v14 : FVec Ideal S3 .f32) = mulf (F := Ideal) (s := S3) (φ := .f32) (H m c main_call0_v13 : FVec Ideal S3 .f32) (H m c main_call0_v6 : FVec Ideal S3 .f32) :=
  (host_line m c).binary 107 rfl (host_off 108 111) (host_off 107 110) (host_off 107 102)
theorem e_call0_v15 : (H m c main_call0_v15 : FVec Ideal S3 .f32) = addf (F := Ideal) (s := S3) (φ := .f32) (H m c main_call0_v11 : FVec Ideal S3 .f32) (H m c main_call0_v14 : FVec Ideal S3 .f32) :=
  (host_line m c).binary 108 rfl (host_off 109 112) (host_off 108 108) (host_off 108 111)
theorem e_call0_v16 : (H m c main_call0_v16 : FVec Ideal S1 .f32) = broadcastInDim S1 ![] bcast_S_S1 (H m c main_call0_v1 : FVec Ideal S_ .f32) :=
  (host_line m c).unary 109 rfl (host_off 110 113) (host_off 109 95)
theorem e_v81 : (H m c main_v81 : FVec Ideal S4 .f32) = cat31 (H m c main_call0_v15 : FVec Ideal S3 .f32) (H m c main_call0_v16 : FVec Ideal S1 .f32) :=
  (host_line m c).binary (f := cat31) 110 rfl (host_off 111 114) (host_off 110 112) (host_off 110 113)
theorem e_v82 : (H m c main_v82 : FVec Ideal S4 .f32) = Host.exp (F := Ideal) (s := S4) (φ := .f32) (H m c main_v81 : FVec Ideal S4 .f32) :=
  (host_line m c).unary 111 rfl (host_off 112 115) (host_off 111 114)
theorem e_cst_8 : (H m c main_cst_8 : FVec Ideal S_ .f32) = constant (F := Ideal) S_ .f32 0x3F800000#32 :=
  (host_line m c).nullary 112 rfl (host_off 113 116)
theorem e_v83 : (H m c main_v83 : FVec Ideal S4 .f32) = broadcastInDim S4 ![] bcast_S_S4 (H m c main_cst_8 : FVec Ideal S_ .f32) :=
  (host_line m c).unary 113 rfl (host_off 114 117) (host_off 113 116)
theorem e_v84 : (H m c main_v84 : FVec Ideal S4 .f32) = subf (F := Ideal) (s := S4) (φ := .f32) (H m c main_v83 : FVec Ideal S4 .f32) (H m c main_v82 : FVec Ideal S4 .f32) :=
  (host_line m c).binary 114 rfl (host_off 115 118) (host_off 114 117) (host_off 114 115)
theorem e_v85 : (H m c main_v85 : FVec Ideal S4 .f32) = Host.log (F := Ideal) (s := S4) (φ := .f32) (H m c main_v84 : FVec Ideal S4 .f32) :=
  (host_line m c).unary 115 rfl (host_off 116 119) (host_off 115 118)
theorem e_v86 : (H m c main_v86 : FVec Ideal S32 .f32) = sitofp (F := Ideal) .f32 (iotaInDim S32 32 0) :=
  (host_line m c).nullary 116 rfl (host_off 117 120)
theorem e_v87 : (H m c main_v87 : FVec Ideal S32x1 .f32) = broadcastInDim S32x1 ![0] bcast_S32_S32x1_0 (H m c main_v86 : FVec Ideal S32 .f32) :=
  (host_line m c).unary 117 rfl (host_off 118 121) (host_off 117 120)
theorem e_cst_9 : (H m c main_cst_9 : FVec Ideal S_ .f32) = constant (F := Ideal) S_ .f32 0x43800000#32 :=
  (host_line m c).nullary 118 rfl (host_off 119 122)
theorem e_v88 : (H m c main_v88 : FVec Ideal S32x1 .f32) = broadcastInDim S32x1 ![] bcast_S_S32x1 (H m c main_cst_9 : FVec Ideal S_ .f32) :=
  (host_line m c).unary 119 rfl (host_off 120 123) (host_off 119 122)
theorem e_v89 : (H m c main_v89 : FVec Ideal S32x1 .f32) = mulf (F := Ideal) (s := S32x1) (φ := .f32) (H m c main_v88 : FVec Ideal S32x1 .f32) (H m c main_v87 : FVec Ideal S32x1 .f32) :=
  (host_line m c).binary 120 rfl (host_off 121 124) (host_off 120 123) (host_off 120 121)
theorem e_cst_10 : (H m c main_cst_10 : FVec Ideal S_ .f32) = constant (F := Ideal) S_ .f32 0x3F800000#32 :=
  (host_line m c).nullary 121 rfl (host_off 122 125)
theorem e_v90 : (H m c main_v90 : FVec Ideal S32x1 .f32) = broadcastInDim S32x1 ![] bcast_S_S32x1 (H m c main_cst_10 : FVec Ideal S_ .f32) :=
  (host_line m c).unary 122 rfl (host_off 123 126) (host_off 122 125)
theorem e_v91 : (H m c main_v91 : FVec Ideal S32x1 .f32) = subf (F := Ideal) (s := S32x1) (φ := .f32) (H m c main_v89 : FVec Ideal S32x1 .f32) (H m c main_v90 : FVec Ideal S32x1 .f32) :=
  (host_line m c).binary 123 rfl (host_off 124 127) (host_off 123 124) (host_off 123 126)
theorem e_v92 : (H m c main_v92 : FVec Ideal S8192 .f32) = sitofp (F := Ideal) .f32 (iotaInDim S8192 32 0) :=
  (host_line m c).nullary 124 rfl (host_off 125 128)
theorem e_v93 : (H m c main_v93 : FVec Ideal S1x8192 .f32) = broadcastInDim S1x8192 ![1] bcast_S8192_S1x8192_1 (H m c main_v92 : FVec Ideal S8192 .f32) :=
  (host_line m c).unary 125 rfl (host_off 126 129) (host_off 125 128)
theorem e_v94 : (H m c main_v94 : FVec Ideal S32x8192 .f32) = broadcastInDim S32x8192 ![0, 1] bcast_S32x1_S32x8192_0_1 (H m c main_v91 : FVec Ideal S32x1 .f32) :=
  (host_line m c).unary 126 rfl (host_off 127 130) (host_off 126 127)
theorem e_v95 : (H m c main_v95 : FVec Ideal S32x8192 .f32) = broadcastInDim S32x8192 ![0, 1] bcast_S1x8192_S32x8192_0_1 (H m c main_v93 : FVec Ideal S1x8192 .f32) :=
  (host_line m c).unary 127 rfl (host_off 128 131) (host_off 127 129)
theorem e_v96 : (H m c main_v96 : FVec Ideal S32x8192 .f32) = subf (F := Ideal) (s := S32x8192) (φ := .f32) (H m c main_v94 : FVec Ideal S32x8192 .f32) (H m c main_v95 : FVec Ideal S32x8192 .f32) :=
  (host_line m c).binary 128 rfl (host_off 129 132) (host_off 128 130) (host_off 128 131)
theorem e_v97 : (H m c main_v97 : FVec Ideal S1x32x8192 .f32) = broadcastInDim S1x32x8192 ![1, 2] bcast_S32x8192_S1x32x8192_1_2 (H m c main_v96 : FVec Ideal S32x8192 .f32) :=
  (host_line m c).unary 129 rfl (host_off 130 133) (host_off 129 132)
theorem e_cst_11 : (H m c main_cst_11 : FVec Ideal S_ .f32) = constant (F := Ideal) S_ .f32 0x00000000#32 :=
  (host_line m c).nullary 130 rfl (host_off 131 134)
theorem e_v98 : (H m c main_v98 : FVec Ideal S1x32x8192 .f32) = broadcastInDim S1x32x8192 ![] bcast_S_S1x32x8192 (H m c main_cst_11 : FVec Ideal S_ .f32) :=
  (host_line m c).unary 131 rfl (host_off 132 135) (host_off 131 134)
theorem e_v99 : (H m c main_v99 : IVec S1x32x8192 1) = cmpf (F := Ideal) (s := S1x32x8192) (φ := .f32) .oge (H m c main_v97 : FVec Ideal S1x32x8192 .f32) (H m c main_v98 : FVec Ideal S1x32x8192 .f32) :=
  (host_line m c).binary 132 rfl (host_off 133 136) (host_off 132 133) (host_off 132 135)
theorem e_cst_12 : (H m c main_cst_12 : FVec Ideal S_ .f32) = constant (F := Ideal) S_ .f32 0x00000000#32 :=
  (host_line m c).nullary 133 rfl (host_off 134 137)
theorem e_v100 : (H m c main_v100 : FVec Ideal S32x8192 .f32) = broadcastInDim S32x8192 ![] bcast_S_S32x8192 (H m c main_cst_12 : FVec Ideal S_ .f32) :=
  (host_line m c).unary 134 rfl (host_off 135 138) (host_off 134 137)
theorem e_v101 : (H m c main_v101 : FVec Ideal S32x8192 .f32) = maximumf (F := Ideal) (s := S32x8192) (φ := .f32) (H m c main_v96 : FVec Ideal S32x8192 .f32) (H m c main_v100 : FVec Ideal S32x8192 .f32) :=
  (host_line m c).binary 135 rfl (host_off 136 139) (host_off 135 132) (host_off 135 138)
theorem e_v102 : (H m c main_v102 : FVec Ideal S1x32x8192 .f32) = broadcastInDim S1x32x8192 ![1, 2] bcast_S32x8192_S1x32x8192_1_2 (H m c main_v101 : FVec Ideal S32x8192 .f32) :=
  (host_line m c).unary 136 rfl (host_off 137 140) (host_off 136 139)
theorem e_v103 : (H m c main_v103 : FVec Ideal S4x1x1 .f32) = broadcastInDim S4x1x1 ![0] bcast_S4_S4x1x1_0 (H m c main_v85 : FVec Ideal S4 .f32) :=
  (host_line m c).unary 137 rfl (host_off 138 141) (host_off 137 119)
theorem e_v104 : (H m c main_v104 : FVec Ideal S4x32x8192 .f32) = broadcastInDim S4x32x8192 ![0, 1, 2] bcast_S1x32x8192_S4x32x8192_0_1_2 (H m c main_v102 : FVec Ideal S1x32x8192 .f32) :=
  (host_line m c).unary 138 rfl (host_off 139 142) (host_off 138 140)
theorem e_v105 : (H m c main_v105 : FVec Ideal S4x32x8192 .f32) = broadcastInDim S4x32x8192 ![0, 1, 2] bcast_S4x1x1_S4x32x8192_0_1_2 (H m c main_v103 : FVec Ideal S4x1x1 .f32) :=
  (host_line m c).unary 139 rfl (host_off 140 143) (host_off 139 141)
theorem e_v106 : (H m c main_v106 : FVec Ideal S4x32x8192 .f32) = mulf (F := Ideal) (s := S4x32x8192) (φ := .f32) (H m c main_v104 : FVec Ideal S4x32x8192 .f32) (H m c main_v105 : FVec Ideal S4x32x8192 .f32) :=
  (host_line m c).binary 140 rfl (host_off 141 144) (host_off 140 142) (host_off 140 143)
theorem e_v107 : (H m c main_v107 : FVec Ideal S4x32x8192 .f32) = Host.exp (F := Ideal) (s := S4x32x8192) (φ := .f32) (H m c main_v106 : FVec Ideal S4x32x8192 .f32) :=
  (host_line m c).unary 141 rfl (host_off 142 145) (host_off 141 144)
theorem e_cst_13 : (H m c main_cst_13 : FVec Ideal S_ .f32) = constant (F := Ideal) S_ .f32 0x00000000#32 :=
  (host_line m c).nullary 142 rfl (host_off 143 146)
theorem e_call1_v0 : (H m c main_call1_v0 : FVec Ideal S_ .f32) = (H m c main_cst_13 : FVec Ideal S_ .f32) :=
  ((host_line m c).unary 143 rfl (host_off 144 147) (host_off 143 146)).trans rfl
theorem e_call1_v1 : (H m c main_call1_v1 : IVec S4x32x8192 1) = broadcastInDim S4x32x8192 ![0, 1, 2] bcast_S1x32x8192_S4x32x8192_0_1_2 (H m c main_v99 : IVec S1x32x8192 1) :=
  (host_line m c).unary 144 rfl (host_off 145 148) (host_off 144 136)
theorem e_call1_v2 : (H m c main_call1_v2 : FVec Ideal S4x32x8192 .f32) = broadcastInDim S4x32x8192 ![] bcast_S_S4x32x8192 (H m c main_call1_v0 : FVec Ideal S_ .f32) :=
  (host_line m c).unary 145 rfl (host_off 146 149) (host_off 145 147)
theorem e_v108 : (H m c main_v108 : FVec Ideal S4x32x8192 .f32) = select (H m c main_call1_v1 : IVec S4x32x8192 1) (H m c main_v107 : FVec Ideal S4x32x8192 .f32) (H m c main_call1_v2 : FVec Ideal S4x32x8192 .f32) :=
  (host_line m c).ternary 146 rfl (host_off 147 150) (host_off 146 148) (host_off 146 145) (host_off 146 149)
theorem e_v109 : (H m c main_v109 : FVec Ideal S8192x4x128 .f32) = shapeCast S8192x4x128 (H m c main_v80 : FVec Ideal S8192x512 .f32) shapeCasts_S8192x512_S8192x4x128 :=
  ((host_line m c).reshape 147 rfl (host_off 148 151) (host_off 147 91)).trans rfl
theorem e_v110 : (H m c main_v110 : FVec Ideal S8192x4x128 .f32) = shapeCast S8192x4x128 (H m c main_arg2 : FVec Ideal S8192x512 .f32) shapeCasts_S8192x512_S8192x4x128 :=
  ((host_line m c).reshape 148 rfl (host_off 149 152) (host_off 148 2)).trans rfl
theorem e_v111 : (H m c main_v111 : FVec Ideal S4x8192x128 .f32) = transpose S4x8192x128 [1, 0, 2] (H m c main_v110 : FVec Ideal S8192x4x128 .f32) transposes_S8192x4x128_S4x8192x128_1_0_2 :=
  (host_line m c).unary 149 rfl (host_off 150 153) (host_off 149 152)
theorem e_v112 : (H m c main_v112 : FVec Ideal S4x1x8192x128 .f32) = broadcastInDim S4x1x8192x128 ![0, 2, 3] bcast_S4x8192x128_S4x1x8192x128_0_2_3 (H m c main_v111 : FVec Ideal S4x8192x128 .f32) :=
  (host_line m c).unary 150 rfl (host_off 151 154) (host_off 150 153)
theorem e_v113 : (H m c main_v113 : FVec Ideal S4x32x8192x1 .f32) = broadcastInDim S4x32x8192x1 ![0, 1, 2] bcast_S4x32x8192_S4x32x8192x1_0_1_2 (H m c main_v108 : FVec Ideal S4x32x8192 .f32) :=
  (host_line m c).unary 151 rfl (host_off 152 155) (host_off 151 150)
theorem e_v114 : (H m c main_v114 : FVec Ideal S4x32x8192x128 .f32) = broadcastInDim S4x32x8192x128 ![0, 1, 2, 3] bcast_S4x1x8192x128_S4x32x8192x128_0_1_2_3 (H m c main_v112 : FVec Ideal S4x1x8192x128 .f32) :=
  (host_line m c).unary 152 rfl (host_off 153 156) (host_off 152 154)
theorem e_v115 : (H m c main_v115 : FVec Ideal S4x32x8192x128 .f32) = broadcastInDim S4x32x8192x128 ![0, 1, 2, 3] bcast_S4x32x8192x1_S4x32x8192x128_0_1_2_3 (H m c main_v113 : FVec Ideal S4x32x8192x1 .f32) :=
  (host_line m c).unary 153 rfl (host_off 154 157) (host_off 153 155)
theorem e_v116 : (H m c main_v116 : FVec Ideal S4x32x8192x128 .f32) = mulf (F := Ideal) (s := S4x32x8192x128) (φ := .f32) (H m c main_v114 : FVec Ideal S4x32x8192x128 .f32) (H m c main_v115 : FVec Ideal S4x32x8192x128 .f32) :=
  (host_line m c).binary 154 rfl (host_off 155 158) (host_off 154 156) (host_off 154 157)
theorem e_v117 : (H m c main_v117 : FVec Ideal S4x32x128x128 .f32) = Host.dotGeneral (F := Ideal) (φ₁ := .f32) (φ₂ := .f32) dot_S4x32x8192x128_S8192x4x128_S4x32x128x128_2_0_13_2_0_1 none (H m c main_v116 : FVec Ideal S4x32x8192x128 .f32) (H m c main_v109 : FVec Ideal S8192x4x128 .f32) :=
  (host_line m c).binary 155 rfl (host_off 156 159) (host_off 155 158) (host_off 155 151)
theorem e_v118 : (H m c main_v118 : FVec Ideal S4x32x128x128 .f32) = transpose S4x32x128x128 [0, 1, 3, 2] (H m c main_v117 : FVec Ideal S4x32x128x128 .f32) transposes_S4x32x128x128_S4x32x128x128_0_1_3_2 :=
  (host_line m c).unary 156 rfl (host_off 157 160) (host_off 156 159)
theorem e_v119 : (H m c main_v119 : FVec Ideal S8192x512 .bf16) = truncf (F := Ideal) (s := S8192x512) (φ := .f32) .bf16 (H m c main_v47 : FVec Ideal S8192x512 .f32) bitsLt_bf16_f32 :=
  (host_line m c).unary 157 rfl (host_off 158 161) (host_off 157 55)
theorem e_v120 : (H m c main_v120 : FVec Ideal S8192x512 .bf16) = truncf (F := Ideal) (s := S8192x512) (φ := .f32) .bf16 (H m c main_v80 : FVec Ideal S8192x512 .f32) bitsLt_bf16_f32 :=
  (host_line m c).unary 158 rfl (host_off 159 162) (host_off 158 91)
theorem e_v121 : (H m c main_v121 : FVec Ideal S8192x512 .bf16) = truncf (F := Ideal) (s := S8192x512) (φ := .f32) .bf16 (H m c main_arg2 : FVec Ideal S8192x512 .f32) bitsLt_bf16_f32 :=
  (host_line m c).unary 159 rfl (host_off 160 163) (host_off 159 2)
theorem e_v122 : (H m c main_v122 : FVec Ideal S8192x512 .bf16) = truncf (F := Ideal) (s := S8192x512) (φ := .f32) .bf16 (H m c main_arg3 : FVec Ideal S8192x512 .f32) bitsLt_bf16_f32 :=
  (host_line m c).unary 160 rfl (host_off 161 164) (host_off 160 3)
theorem e_cst_14 : (H m c main_cst_14 : FVec Ideal S_ .f32) = constant (F := Ideal) S_ .f32 0xC05DCE9E#32 :=
  (host_line m c).nullary 161 rfl (host_off 162 165)
theorem e_cst_15 : (H m c main_cst_15 : FVec Ideal S_ .f32) = constant (F := Ideal) S_ .f32 0xC0C7A05B#32 :=
  (host_line m c).nullary 162 rfl (host_off 163 166)
theorem e_call2_v0 : (H m c main_call2_v0 : FVec Ideal S_ .f32) = (H m c main_cst_14 : FVec Ideal S_ .f32) :=
  ((host_line m c).unary 163 rfl (host_off 164 167) (host_off 163 165)).trans rfl
theorem e_call2_v1 : (H m c main_call2_v1 : FVec Ideal S_ .f32) = (H m c main_cst_15 : FVec Ideal S_ .f32) :=
  ((host_line m c).unary 164 rfl (host_off 165 168) (host_off 164 166)).trans rfl
theorem e_call2_v2 : (H m c main_call2_v2 : FVec Ideal S_ .f32) = subf (F := Ideal) (s := S_) (φ := .f32) (H m c main_call2_v1 : FVec Ideal S_ .f32) (H m c main_call2_v0 : FVec Ideal S_ .f32) :=
  (host_line m c).binary 165 rfl (host_off 166 169) (host_off 165 168) (host_off 165 167)
theorem e_call2_cst : (H m c main_call2_cst : FVec Ideal S_ .f32) = constant (F := Ideal) S_ .f32 0x40400000#32 :=
  (host_line m c).nullary 166 rfl (host_off 167 170)
theorem e_call2_v3 : (H m c main_call2_v3 : FVec Ideal S_ .f32) = Host.divf (F := Ideal) (s := S_) (φ := .f32) (H m c main_call2_v2 : FVec Ideal S_ .f32) (H m c main_call2_cst : FVec Ideal S_ .f32) :=
  (host_line m c).binary 167 rfl (host_off 168 171) (host_off 167 169) (host_off 167 170)
theorem e_call2_v4 : (H m c main_call2_v4 : FVec Ideal S3 .f32) = sitofp (F := Ideal) .f32 (iotaInDim S3 32 0) :=
  (host_line m c).nullary 168 rfl (host_off 169 172)
theorem e_call2_cst_0 : (H m c main_call2_cst_0 : FVec Ideal S_ .f32) = constant (F := Ideal) S_ .f32 0x40400000#32 :=
  (host_line m c).nullary 169 rfl (host_off 170 173)
theorem e_call2_v5 : (H m c main_call2_v5 : FVec Ideal S3 .f32) = broadcastInDim S3 ![] bcast_S_S3 (H m c main_call2_cst_0 : FVec Ideal S_ .f32) :=
  (host_line m c).unary 170 rfl (host_off 171 174) (host_off 170 173)
theorem e_call2_v6 : (H m c main_call2_v6 : FVec Ideal S3 .f32) = Host.divf (F := Ideal) (s := S3) (φ := .f32) (H m c main_call2_v4 : FVec Ideal S3 .f32) (H m c main_call2_v5 : FVec Ideal S3 .f32) :=
  (host_line m c).binary 171 rfl (host_off 172 175) (host_off 171 172) (host_off 171 174)
theorem e_call2_v7 : (H m c main_call2_v7 : FVec Ideal S1 .f32) = shapeCast S1 (H m c main_call2_v0 : FVec Ideal S_ .f32) shapeCasts_S_S1 :=
  ((host_line m c).reshape 172 rfl (host_off 173 176) (host_off 172 167)).trans rfl
theorem e_call2_cst_1 : (H m c main_call2_cst_1 : FVec Ideal S_ .f32) = constant (F := Ideal) S_ .f32 0x3F800000#32 :=
  (host_line m c).nullary 173 rfl (host_off 174 177)
theorem e_call2_v8 : (H m c main_call2_v8 : FVec Ideal S3 .f32) = broadcastInDim S3 ![] bcast_S_S3 (H m c main_call2_cst_1 : FVec Ideal S_ .f32) :=
  (host_line m c).unary 174 rfl (host_off 175 178) (host_off 174 177)
theorem e_call2_v9 : (H m c main_call2_v9 : FVec Ideal S3 .f32) = subf (F := Ideal) (s := S3) (φ := .f32) (H m c main_call2_v8 : FVec Ideal S3 .f32) (H m c main_call2_v6 : FVec Ideal S3 .f32) :=
  (host_line m c).binary 175 rfl (host_off 176 179) (host_off 175 178) (host_off 175 175)
theorem e_call2_v10 : (H m c main_call2_v10 : FVec Ideal S3 .f32) = broadcastInDim S3 ![0] bcast_S1_S3_0 (H m c main_call2_v7 : FVec Ideal S1 .f32) :=
  (host_line m c).unary 176 rfl (host_off 177 180) (host_off 176 176)
theorem e_call2_v11 : (H m c main_call2_v11 : FVec Ideal S3 .f32) = mulf (F := Ideal) (s := S3) (φ := .f32) (H m c main_call2_v10 : FVec Ideal S3 .f32) (H m c main_call2_v9 : FVec Ideal S3 .f32) :=
  (host_line m c).binary 177 rfl (host_off 178 181) (host_off 177 180) (host_off 177 179)
theorem e_call2_v12 : (H m c main_call2_v12 : FVec Ideal S1 .f32) = shapeCast S1 (H m c main_call2_v1 : FVec Ideal S_ .f32) shapeCasts_S_S1 :=
  ((host_line m c).reshape 178 rfl (host_off 179 182) (host_off 178 168)).trans rfl
theorem e_call2_v13 : (H m c main_call2_v13 : FVec Ideal S3 .f32) = broadcastInDim S3 ![0] bcast_S1_S3_0 (H m c main_call2_v12 : FVec Ideal S1 .f32) :=
  (host_line m c).unary 179 rfl (host_off 180 183) (host_off 179 182)
theorem e_call2_v14 : (H m c main_call2_v14 : FVec Ideal S3 .f32) = mulf (F := Ideal) (s := S3) (φ := .f32) (H m c main_call2_v13 : FVec Ideal S3 .f32) (H m c main_call2_v6 : FVec Ideal S3 .f32) :=
  (host_line m c).binary 180 rfl (host_off 181 184) (host_off 180 183) (host_off 180 175)
theorem e_call2_v15 : (H m c main_call2_v15 : FVec Ideal S3 .f32) = addf (F := Ideal) (s := S3) (φ := .f32) (H m c main_call2_v11 : FVec Ideal S3 .f32) (H m c main_call2_v14 : FVec Ideal S3 .f32) :=
  (host_line m c).binary 181 rfl (host_off 182 185) (host_off 181 181) (host_off 181 184)
theorem e_call2_v16 : (H m c main_call2_v16 : FVec Ideal S1 .f32) = broadcastInDim S1 ![] bcast_S_S1 (H m c main_call2_v1 : FVec Ideal S_ .f32) :=
  (host_line m c).unary 182 rfl (host_off 183 186) (host_off 182 168)
theorem e_v123 : (H m c main_v123 : FVec Ideal S4 .f32) = cat31 (H m c main_call2_v15 : FVec Ideal S3 .f32) (H m c main_call2_v16 : FVec Ideal S1 .f32) :=
  (host_line m c).binary (f := cat31) 183 rfl (host_off 184 187) (host_off 183 185) (host_off 183 186)
theorem e_v124 : (H m c main_v124 : FVec Ideal S4 .f32) = Host.exp (F := Ideal) (s := S4) (φ := .f32) (H m c main_v123 : FVec Ideal S4 .f32) :=
  (host_line m c).unary 184 rfl (host_off 185 188) (host_off 184 187)
theorem e_cst_16 : (H m c main_cst_16 : FVec Ideal S_ .f32) = constant (F := Ideal) S_ .f32 0x3F800000#32 :=
  (host_line m c).nullary 185 rfl (host_off 186 189)
theorem e_v125 : (H m c main_v125 : FVec Ideal S4 .f32) = broadcastInDim S4 ![] bcast_S_S4 (H m c main_cst_16 : FVec Ideal S_ .f32) :=
  (host_line m c).unary 186 rfl (host_off 187 190) (host_off 186 189)
theorem e_v126 : (H m c main_v126 : FVec Ideal S4 .f32) = subf (F := Ideal) (s := S4) (φ := .f32) (H m c main_v125 : FVec Ideal S4 .f32) (H m c main_v124 : FVec Ideal S4 .f32) :=
  (host_line m c).binary 187 rfl (host_off 188 191) (host_off 187 190) (host_off 187 188)
theorem e_v127 : (H m c main_v127 : FVec Ideal S4 .f32) = Host.log (F := Ideal) (s := S4) (φ := .f32) (H m c main_v126 : FVec Ideal S4 .f32) :=
  (host_line m c).unary 188 rfl (host_off 189 192) (host_off 188 191)
theorem e_v128 : (H m c main_v128 : FVec Ideal S256 .f32) = sitofp (F := Ideal) .f32 (iotaInDim S256 32 0) :=
  (host_line m c).nullary 189 rfl (host_off 190 193)
theorem e_v129 : (H m c main_v129 : FVec Ideal S256x1 .f32) = broadcastInDim S256x1 ![0] bcast_S256_S256x1_0 (H m c main_v128 : FVec Ideal S256 .f32) :=
  (host_line m c).unary 190 rfl (host_off 191 194) (host_off 190 193)
theorem e_v130 : (H m c main_v130 : FVec Ideal S1x256 .f32) = broadcastInDim S1x256 ![1] bcast_S256_S1x256_1 (H m c main_v128 : FVec Ideal S256 .f32) :=
  (host_line m c).unary 191 rfl (host_off 192 195) (host_off 191 193)
theorem e_v131 : (H m c main_v131 : FVec Ideal S256x256 .f32) = broadcastInDim S256x256 ![0, 1] bcast_S256x1_S256x256_0_1 (H m c main_v129 : FVec Ideal S256x1 .f32) :=
  (host_line m c).unary 192 rfl (host_off 193 196) (host_off 192 194)
theorem e_v132 : (H m c main_v132 : FVec Ideal S256x256 .f32) = broadcastInDim S256x256 ![0, 1] bcast_S1x256_S256x256_0_1 (H m c main_v130 : FVec Ideal S1x256 .f32) :=
  (host_line m c).unary 193 rfl (host_off 194 197) (host_off 193 195)
theorem e_v133 : (H m c main_v133 : FVec Ideal S256x256 .f32) = subf (F := Ideal) (s := S256x256) (φ := .f32) (H m c main_v131 : FVec Ideal S256x256 .f32) (H m c main_v132 : FVec Ideal S256x256 .f32) :=
  (host_line m c).binary 194 rfl (host_off 195 198) (host_off 194 196) (host_off 194 197)
theorem e_v134 : (H m c main_v134 : FVec Ideal S1x256x256 .f32) = broadcastInDim S1x256x256 ![1, 2] bcast_S256x256_S1x256x256_1_2 (H m c main_v133 : FVec Ideal S256x256 .f32) :=
  (host_line m c).unary 195 rfl (host_off 196 199) (host_off 195 198)
theorem e_cst_17 : (H m c main_cst_17 : FVec Ideal S_ .f32) = constant (F := Ideal) S_ .f32 0x00000000#32 :=
  (host_line m c).nullary 196 rfl (host_off 197 200)
theorem e_v135 : (H m c main_v135 : FVec Ideal S1x256x256 .f32) = broadcastInDim S1x256x256 ![] bcast_S_S1x256x256 (H m c main_cst_17 : FVec Ideal S_ .f32) :=
  (host_line m c).unary 197 rfl (host_off 198 201) (host_off 197 200)
theorem e_v136 : (H m c main_v136 : IVec S1x256x256 1) = cmpf (F := Ideal) (s := S1x256x256) (φ := .f32) .oge (H m c main_v134 : FVec Ideal S1x256x256 .f32) (H m c main_v135 : FVec Ideal S1x256x256 .f32) :=
  (host_line m c).binary 198 rfl (host_off 199 202) (host_off 198 199) (host_off 198 201)
theorem e_cst_18 : (H m c main_cst_18 : FVec Ideal S_ .f32) = constant (F := Ideal) S_ .f32 0x00000000#32 :=
  (host_line m c).nullary 199 rfl (host_off 200 203)
theorem e_v137 : (H m c main_v137 : FVec Ideal S256x256 .f32) = broadcastInDim S256x256 ![] bcast_S_S256x256 (H m c main_cst_18 : FVec Ideal S_ .f32) :=
  (host_line m c).unary 200 rfl (host_off 201 204) (host_off 200 203)
theorem e_v138 : (H m c main_v138 : FVec Ideal S256x256 .f32) = maximumf (F := Ideal) (s := S256x256) (φ := .f32) (H m c main_v133 : FVec Ideal S256x256 .f32) (H m c main_v137 : FVec Ideal S256x256 .f32) :=
  (host_line m c).binary 201 rfl (host_off 202 205) (host_off 201 198) (host_off 201 204)
theorem e_v139 : (H m c main_v139 : FVec Ideal S1x256x256 .f32) = broadcastInDim S1x256x256 ![1, 2] bcast_S256x256_S1x256x256_1_2 (H m c main_v138 : FVec Ideal S256x256 .f32) :=
  (host_line m c).unary 202 rfl (host_off 203 206) (host_off 202 205)
theorem e_v140 : (H m c main_v140 : FVec Ideal S4x1x1 .f32) = broadcastInDim S4x1x1 ![0] bcast_S4_S4x1x1_0 (H m c main_v127 : FVec Ideal S4 .f32) :=
  (host_line m c).unary 203 rfl (host_off 204 207) (host_off 203 192)
theorem e_v141 : (H m c main_v141 : FVec Ideal S4x256x256 .f32) = broadcastInDim S4x256x256 ![0, 1, 2] bcast_S1x256x256_S4x256x256_0_1_2 (H m c main_v139 : FVec Ideal S1x256x256 .f32) :=
  (host_line m c).unary 204 rfl (host_off 205 208) (host_off 204 206)
theorem e_v142 : (H m c main_v142 : FVec Ideal S4x256x256 .f32) = broadcastInDim S4x256x256 ![0, 1, 2] bcast_S4x1x1_S4x256x256_0_1_2 (H m c main_v140 : FVec Ideal S4x1x1 .f32) :=
  (host_line m c).unary 205 rfl (host_off 206 209) (host_off 205 207)
theorem e_v143 : (H m c main_v143 : FVec Ideal S4x256x256 .f32) = mulf (F := Ideal) (s := S4x256x256) (φ := .f32) (H m c main_v141 : FVec Ideal S4x256x256 .f32) (H m c main_v142 : FVec Ideal S4x256x256 .f32) :=
  (host_line m c).binary 206 rfl (host_off 207 210) (host_off 206 208) (host_off 206 209)
theorem e_v144 : (H m c main_v144 : FVec Ideal S4x256x256 .f32) = Host.exp (F := Ideal) (s := S4x256x256) (φ := .f32) (H m c main_v143 : FVec Ideal S4x256x256 .f32) :=
  (host_line m c).unary 207 rfl (host_off 208 211) (host_off 207 210)
theorem e_cst_19 : (H m c main_cst_19 : FVec Ideal S_ .f32) = constant (F := Ideal) S_ .f32 0x00000000#32 :=
  (host_line m c).nullary 208 rfl (host_off 209 212)
theorem e_call3_v0 : (H m c main_call3_v0 : FVec Ideal S_ .f32) = (H m c main_cst_19 : FVec Ideal S_ .f32) :=
  ((host_line m c).unary 209 rfl (host_off 210 213) (host_off 209 212)).trans rfl
theorem e_call3_v1 : (H m c main_call3_v1 : IVec S4x256x256 1) = broadcastInDim S4x256x256 ![0, 1, 2] bcast_S1x256x256_S4x256x256_0_1_2 (H m c main_v136 : IVec S1x256x256 1) :=
  (host_line m c).unary 210 rfl (host_off 211 214) (host_off 210 202)
theorem e_call3_v2 : (H m c main_call3_v2 : FVec Ideal S4x256x256 .f32) = broadcastInDim S4x256x256 ![] bcast_S_S4x256x256 (H m c main_call3_v0 : FVec Ideal S_ .f32) :=
  (host_line m c).unary 211 rfl (host_off 212 215) (host_off 211 213)
theorem e_v145 : (H m c main_v145 : FVec Ideal S4x256x256 .f32) = select (H m c main_call3_v1 : IVec S4x256x256 1) (H m c main_v144 : FVec Ideal S4x256x256 .f32) (H m c main_call3_v2 : FVec Ideal S4x256x256 .f32) :=
  (host_line m c).ternary 212 rfl (host_off 213 216) (host_off 212 214) (host_off 212 211) (host_off 212 215)
theorem e_cst_20 : (H m c main_cst_20 : FVec Ideal S_ .f32) = constant (F := Ideal) S_ .f32 0x437F0000#32 :=
  (host_line m c).nullary 213 rfl (host_off 214 217)
theorem e_v146 : (H m c main_v146 : FVec Ideal S256 .f32) = broadcastInDim S256 ![] bcast_S_S256 (H m c main_cst_20 : FVec Ideal S_ .f32) :=
  (host_line m c).unary 214 rfl (host_off 215 218) (host_off 214 217)
theorem e_v147 : (H m c main_v147 : FVec Ideal S256 .f32) = subf (F := Ideal) (s := S256) (φ := .f32) (H m c main_v146 : FVec Ideal S256 .f32) (H m c main_v128 : FVec Ideal S256 .f32) :=
  (host_line m c).binary 215 rfl (host_off 216 219) (host_off 215 218) (host_off 215 193)
theorem e_v148 : (H m c main_v148 : FVec Ideal S1x256 .f32) = broadcastInDim S1x256 ![1] bcast_S256_S1x256_1 (H m c main_v147 : FVec Ideal S256 .f32) :=
  (host_line m c).unary 216 rfl (host_off 217 220) (host_off 216 219)
theorem e_v149 : (H m c main_v149 : FVec Ideal S4x1 .f32) = broadcastInDim S4x1 ![0] bcast_S4_S4x1_0 (H m c main_v127 : FVec Ideal S4 .f32) :=
  (host_line m c).unary 217 rfl (host_off 218 221) (host_off 217 192)
theorem e_v150 : (H m c main_v150 : FVec Ideal S4x256 .f32) = broadcastInDim S4x256 ![0, 1] bcast_S1x256_S4x256_0_1 (H m c main_v148 : FVec Ideal S1x256 .f32) :=
  (host_line m c).unary 218 rfl (host_off 219 222) (host_off 218 220)
theorem e_v151 : (H m c main_v151 : FVec Ideal S4x256 .f32) = broadcastInDim S4x256 ![0, 1] bcast_S4x1_S4x256_0_1 (H m c main_v149 : FVec Ideal S4x1 .f32) :=
  (host_line m c).unary 219 rfl (host_off 220 223) (host_off 219 221)
theorem e_v152 : (H m c main_v152 : FVec Ideal S4x256 .f32) = mulf (F := Ideal) (s := S4x256) (φ := .f32) (H m c main_v150 : FVec Ideal S4x256 .f32) (H m c main_v151 : FVec Ideal S4x256 .f32) :=
  (host_line m c).binary 220 rfl (host_off 221 224) (host_off 220 222) (host_off 220 223)
theorem e_v153 : (H m c main_v153 : FVec Ideal S4x256 .f32) = Host.exp (F := Ideal) (s := S4x256) (φ := .f32) (H m c main_v152 : FVec Ideal S4x256 .f32) :=
  (host_line m c).unary 221 rfl (host_off 222 225) (host_off 221 224)
theorem e_cst_21 : (H m c main_cst_21 : FVec Ideal S_ .f32) = constant (F := Ideal) S_ .f32 0x3F800000#32 :=
  (host_line m c).nullary 222 rfl (host_off 223 226)
theorem e_v154 : (H m c main_v154 : FVec Ideal S256 .f32) = broadcastInDim S256 ![] bcast_S_S256 (H m c main_cst_21 : FVec Ideal S_ .f32) :=
  (host_line m c).unary 223 rfl (host_off 224 227) (host_off 223 226)
theorem e_v155 : (H m c main_v155 : FVec Ideal S256 .f32) = addf (F := Ideal) (s := S256) (φ := .f32) (H m c main_v128 : FVec Ideal S256 .f32) (H m c main_v154 : FVec Ideal S256 .f32) :=
  (host_line m c).binary 224 rfl (host_off 225 228) (host_off 224 193) (host_off 224 227)
theorem e_v156 : (H m c main_v156 : FVec Ideal S1x256 .f32) = broadcastInDim S1x256 ![1] bcast_S256_S1x256_1 (H m c main_v155 : FVec Ideal S256 .f32) :=
  (host_line m c).unary 225 rfl (host_off 226 229) (host_off 225 228)
theorem e_v157 : (H m c main_v157 : FVec Ideal S4x1 .f32) = broadcastInDim S4x1 ![0] bcast_S4_S4x1_0 (H m c main_v127 : FVec Ideal S4 .f32) :=
  (host_line m c).unary 226 rfl (host_off 227 230) (host_off 226 192)
theorem e_v158 : (H m c main_v158 : FVec Ideal S4x256 .f32) = broadcastInDim S4x256 ![0, 1] bcast_S1x256_S4x256_0_1 (H m c main_v156 : FVec Ideal S1x256 .f32) :=
  (host_line m c).unary 227 rfl (host_off 228 231) (host_off 227 229)
theorem e_v159 : (H m c main_v159 : FVec Ideal S4x256 .f32) = broadcastInDim S4x256 ![0, 1] bcast_S4x1_S4x256_0_1 (H m c main_v157 : FVec Ideal S4x1 .f32) :=
  (host_line m c).unary 228 rfl (host_off 229 232) (host_off 228 230)
theorem e_v160 : (H m c main_v160 : FVec Ideal S4x256 .f32) = mulf (F := Ideal) (s := S4x256) (φ := .f32) (H m c main_v158 : FVec Ideal S4x256 .f32) (H m c main_v159 : FVec Ideal S4x256 .f32) :=
  (host_line m c).binary 229 rfl (host_off 230 233) (host_off 229 231) (host_off 229 232)
theorem e_v161 : (H m c main_v161 : FVec Ideal S4x256 .f32) = Host.exp (F := Ideal) (s := S4x256) (φ := .f32) (H m c main_v160 : FVec Ideal S4x256 .f32) :=
  (host_line m c).unary 230 rfl (host_off 231 234) (host_off 230 233)
theorem e_cst_22 : (H m c main_cst_22 : FVec Ideal S_ .f32) = constant (F := Ideal) S_ .f32 0x43800000#32 :=
  (host_line m c).nullary 231 rfl (host_off 232 235)
theorem e_v162 : (H m c main_v162 : FVec Ideal S4 .f32) = broadcastInDim S4 ![] bcast_S_S4 (H m c main_cst_22 : FVec Ideal S_ .f32) :=
  (host_line m c).unary 232 rfl (host_off 233 236) (host_off 232 235)
theorem e_v163 : (H m c main_v163 : FVec Ideal S4 .f32) = mulf (F := Ideal) (s := S4) (φ := .f32) (H m c main_v162 : FVec Ideal S4 .f32) (H m c main_v127 : FVec Ideal S4 .f32) :=
  (host_line m c).binary 233 rfl (host_off 234 237) (host_off 233 236) (host_off 233 192)
theorem e_v164 : (H m c main_v164 : FVec Ideal S4 .f32) = Host.exp (F := Ideal) (s := S4) (φ := .f32) (H m c main_v163 : FVec Ideal S4 .f32) :=
  (host_line m c).unary 234 rfl (host_off 235 238) (host_off 234 237)
theorem e_v165 : (H m c main_v165 : FVec Ideal S4x1x1 .f32) = broadcastInDim S4x1x1 ![0] bcast_S4_S4x1x1_0 (H m c main_v164 : FVec Ideal S4 .f32) :=
  (host_line m c).unary 235 rfl (host_off 236 239) (host_off 235 238)
theorem e_v166 : (H m c main_v166 : FVec Ideal S4x8x128 .f32) = broadcastInDim S4x8x128 ![0, 1, 2] bcast_S4x1x1_S4x8x128_0_1_2 (H m c main_v165 : FVec Ideal S4x1x1 .f32) :=
  (host_line m c).unary 236 rfl (host_off 237 240) (host_off 236 239)
theorem e_v167 : (H m c main_v167 : FVec Ideal S4x256x1 .f32) = broadcastInDim S4x256x1 ![0, 1] bcast_S4x256_S4x256x1_0_1 (H m c main_v161 : FVec Ideal S4x256 .f32) :=
  (host_line m c).unary 237 rfl (host_off 238 241) (host_off 237 234)
theorem e_v168 : (H m c main_v168 : FVec Ideal S4x256x128 .f32) = broadcastInDim S4x256x128 ![0, 1, 2] bcast_S4x256x1_S4x256x128_0_1_2 (H m c main_v167 : FVec Ideal S4x256x1 .f32) :=
  (host_line m c).unary 238 rfl (host_off 239 242) (host_off 238 241)
theorem e_v169 : (H m c main_v169 : FVec Ideal S4x256x1 .f32) = broadcastInDim S4x256x1 ![0, 1] bcast_S4x256_S4x256x1_0_1 (H m c main_v153 : FVec Ideal S4x256 .f32) :=
  (host_line m c).unary 239 rfl (host_off 240 243) (host_off 239 225)
theorem e_v170 : (H m c main_v170 : FVec Ideal S4x256x128 .f32) = broadcastInDim S4x256x128 ![0, 1, 2] bcast_S4x256x1_S4x256x128_0_1_2 (H m c main_v169 : FVec Ideal S4x256x1 .f32) :=
  (host_line m c).unary 240 rfl (host_off 241 244) (host_off 240 243)

end Cert.KernelIdeal.Ops

end
-- ==== Proof.Spec.lean ====
/- The three gradients as decayed sums over the whole sequence, and what each is chunk by chunk, for chunks of any size. -/
module

public import proofs.«01_k».proof.Proof.Shared

@[expose] public section

noncomputable section

namespace Ret

open Idealize.ShloMosaic

/-- One head of an array: tokens by entries. -/
abbrev Head := ℕ → Fin 128 → ℝ

/-- The scaled keys of a head. -/
def keys (x : Arr) (h : Fin 4) : Head := fun t d => roped x h t d * sc

/-- What token `s` puts into the state, and what token `s` sends back to it. -/
def put (k v : Head) (a b : Fin 128) (s : ℕ) : ℝ := k s a * v s b

/-- The gradients of query, key and value at a token, for a head that fades by `l`. -/
def dq (l : ℝ) (k v o : Head) (t : ℕ) (d : Fin 128) : ℝ := past l 8192 (fun s => (∑ e, o t e * v s e) * k s d) t
def dk (l : ℝ) (q v o : Head) (t : ℕ) (d : Fin 128) : ℝ := future l 8192 (fun s => (∑ e, o s e * v t e) * q s d) t
def dv (l : ℝ) (q k o : Head) (t : ℕ) (e : Fin 128) : ℝ := future l 8192 (fun s => (∑ d, q s d * k t d) * o s e) t

/-- The state before token `T`, and what comes back to it from `T` on. -/
def state (l : ℝ) (k v : Head) (T : ℕ) (a b : Fin 128) : ℝ := before l 8192 (put k v a b) T
def back (l : ℝ) (q o : Head) (T : ℕ) (a b : Fin 128) : ℝ := after l 8192 (put q o a b) T

variable (l : ℝ) (q k v o : Head)

theorem dq_chunk {C n r : ℕ} (hL : 8192 = n * C + (C + r)) (i : Fin C) (d : Fin 128) :
    dq l k v o (n * C + i) d
      = (∑ j : Fin C, ((∑ e, o (n * C + i) e * v (n * C + j) e) * mask l i j) * k (n * C + j) d)
        + ∑ e, (o (n * C + i) e * Real.exp (((i : ℕ) + 1 : ℝ) * l)) * state l k v (n * C) d e := by
  unfold dq
  rw [past_split hL i]
  congr 1
  · exact Finset.sum_congr rfl fun j _ => by ring
  · have := before_mul_sum (lg := l) (L := 8192) (fun e => o (n * C + i) e) (fun e => put k v d e) (n * C)
    unfold state
    rw [show (fun s => (∑ e, o (n * C + i) e * v s e) * k s d) = fun s => ∑ e, o (n * C + i) e * put k v d e s from
      funext fun s => by rw [Finset.sum_mul]; exact Finset.sum_congr rfl fun e _ => by unfold put; ring, ← this, Finset.mul_sum]
    exact Finset.sum_congr rfl fun e _ => by ring

theorem dk_chunk {C n r : ℕ} (hL : 8192 = n * C + (C + r)) (j : Fin C) (d : Fin 128) :
    dk l q v o (n * C + j) d
      = (∑ i : Fin C, ((∑ e, o (n * C + i) e * v (n * C + j) e) * mask l i j) * q (n * C + i) d)
        + ∑ e, (v (n * C + j) e * Real.exp (((C : ℝ) - 1 - (j : ℕ)) * l)) * back l q o ((n + 1) * C) d e := by
  unfold dk
  rw [future_split hL j]
  congr 1
  · exact Finset.sum_congr rfl fun i _ => by ring
  · have := after_mul_sum (lg := l) (L := 8192) (fun e => v (n * C + j) e) (fun e => put q o d e) ((n + 1) * C)
    unfold back
    rw [show (fun s => (∑ e, o s e * v (n * C + j) e) * q s d) = fun s => ∑ e, v (n * C + j) e * put q o d e s from
      funext fun s => by rw [Finset.sum_mul]; exact Finset.sum_congr rfl fun e _ => by unfold put; ring, ← this, Finset.mul_sum]
    exact Finset.sum_congr rfl fun e _ => by ring

theorem dv_chunk {C n r : ℕ} (hL : 8192 = n * C + (C + r)) (j : Fin C) (e : Fin 128) :
    dv l q k o (n * C + j) e
      = (∑ i : Fin C, ((∑ d, q (n * C + i) d * k (n * C + j) d) * mask l i j) * o (n * C + i) e)
        + (∑ d, k (n * C + j) d * back l q o ((n + 1) * C) d e) * Real.exp (((C : ℝ) - 1 - (j : ℕ)) * l) := by
  unfold dv
  rw [future_split hL j]
  congr 1
  · exact Finset.sum_congr rfl fun i _ => by ring
  · have := after_mul_sum (lg := l) (L := 8192) (fun d => k (n * C + j) d) (fun d => put q o d e) ((n + 1) * C)
    unfold back
    rw [show (fun s => (∑ d, q s d * k (n * C + j) d) * o s e) = fun s => ∑ d, k (n * C + j) d * put q o d e s from
      funext fun s => by rw [Finset.sum_mul]; exact Finset.sum_congr rfl fun e _ => by unfold put; ring, ← this]
    exact mul_comm _ _

theorem state_zero (a b : Fin 128) : state l k v 0 a b = 0 := before_zero
theorem back_end (a b : Fin 128) : back l q o 8192 a b = 0 := after_end

theorem state_succ {C n r : ℕ} (hL : 8192 = n * C + (C + r)) (a b : Fin 128) :
    state l k v ((n + 1) * C) a b = Real.exp ((C : ℝ) * l) * state l k v (n * C) a b
      + ∑ j : Fin C, k (n * C + j) a * (v (n * C + j) b * Real.exp (((C : ℝ) - 1 - (j : ℕ)) * l)) := by
  unfold state
  rw [before_succ hL]
  congr 1
  exact Finset.sum_congr rfl fun j _ => by unfold put; ring

theorem back_step {C n r : ℕ} (hL : 8192 = n * C + (C + r)) (a b : Fin 128) :
    back l q o (n * C) a b = Real.exp ((C : ℝ) * l) * back l q o ((n + 1) * C) a b
      + ∑ i : Fin C, q (n * C + i) a * (o (n * C + i) b * Real.exp (((i : ℕ) + 1 : ℝ) * l)) := by
  unfold back
  rw [after_step hL]
  congr 1
  exact Finset.sum_congr rfl fun j _ => by unfold put; ring

end Ret

end
-- ==== Proof.HostVal.lean ====
/- What the host operations before the kernel leave, as real numbers: the kernel's eleven operands. -/
module

public import proofs.«01_k».proof.Proof.KernEqs
public import proofs.«01_k».proof.Proof.Spec

@[expose] public section

set_option maxRecDepth 16384

noncomputable section

namespace Cert.KernelIdeal.Ops

open Idealize.ShloMosaic Idealize.ShloMosaic.TcCoe Idealize.ShloMosaic.StableHlo
open Cert.KernelIdeal Cert.KernelIdeal.Gen Ret

variable (m : (ℓ : Loc nD τ sig) → Buf (Elt Ideal) ℓ) (c : Dev nD)

/-- A weight that is faded from some offset on and absent before it. -/
theorem fade_real (x l : ℝ) (z : EReal) (hz : z = 0) :
    (if (0 : EReal) ≤ (x : EReal) then Ideal.exp (max (x : EReal) 0 * (l : EReal)) else z) = ((if 0 ≤ x then Real.exp (x * l) else 0 : ℝ) : EReal) := by
  by_cases h : 0 ≤ x
  · have h' : (0 : EReal) ≤ (x : EReal) := by exact_mod_cast h
    rw [if_pos h', if_pos h, max_eq_left h', ← EReal.coe_mul, exp_real]
  · rw [if_neg (fun h' => h (by exact_mod_cast h')), if_neg h, hz]; rfl

theorem h11 : (H m c main_v11 : FVec Ideal S8192x64 .f32) = angV := by
  rw [e_v11, e_v10, e_v9, e_v8, e_v7, e_v6, e_v5, e_v4, e_cst_0, e_v3, e_v2, e_cst, e_v1, e_v0]; rfl
theorem h29 : (H m c main_v29 : FVec Ideal S8192x64 .f32) = angV := by
  rw [e_v29, e_v28, e_v27, e_v26, e_v25, e_v24, e_v23, e_v22, e_cst_2, e_v21, e_v20, e_cst_1, e_v19, e_v18]; rfl
theorem h60 : (H m c main_v60 : FVec Ideal S8192x64 .f32) = angV := by
  rw [e_v60, e_v59, e_v58, e_v57, e_v56, e_v55, e_v54, e_v53, e_cst_4, e_v52, e_v51, e_cst_3, e_v50, e_v49]; rfl
theorem h46 : (H m c main_v46 : FVec Ideal S1x8192x4x128 .f32) = ropeV (H m c main_arg0 : Arr) := by
  rw [e_v46, e_v45, e_v44, e_v43, e_v42, e_v41, e_v40, e_v39, e_v38, e_v37, e_v36, e_v35, e_v34, e_v33, e_v32, e_v31, e_v30, h29, e_v17]; rfl
theorem h77 : (H m c main_v77 : FVec Ideal S1x8192x4x128 .f32) = ropeV (H m c main_arg1 : Arr) := by
  rw [e_v77, e_v76, e_v75, e_v74, e_v73, e_v72, e_v71, e_v70, e_v69, e_v68, e_v67, e_v66, e_v65, e_v64, e_v63, e_v62, e_v61, h60, e_v48]; rfl
theorem h85 : (H m c main_v85 : FVec Ideal S4 .f32) = lgV := by
  rw [e_v85, e_v84, e_v83, e_cst_8, e_v82, e_v81, e_call0_v16, e_call0_v15, e_call0_v14, e_call0_v13, e_call0_v12, e_call0_v11, e_call0_v10, e_call0_v9,
    e_call0_v8, e_call0_cst_1, e_call0_v7, e_call0_v6, e_call0_v5, e_call0_cst_0, e_call0_v4, e_call0_v1, e_call0_v0, e_cst_7, e_cst_6]; rfl
theorem h127 : (H m c main_v127 : FVec Ideal S4 .f32) = lgV := by
  rw [e_v127, e_v126, e_v125, e_cst_16, e_v124, e_v123, e_call2_v16, e_call2_v15, e_call2_v14, e_call2_v13, e_call2_v12, e_call2_v11, e_call2_v10, e_call2_v9,
    e_call2_v8, e_call2_cst_1, e_call2_v7, e_call2_v6, e_call2_v5, e_call2_cst_0, e_call2_v4, e_call2_v1, e_call2_v0, e_cst_15, e_cst_14]; rfl

/-- The four arguments: queries, keys, values, and what comes back. -/
abbrev A0 : Arr := H m c main_arg0
abbrev A1 : Arr := H m c main_arg1
abbrev A2 : Arr := H m c main_arg2
abbrev A3 : Arr := H m c main_arg3

variable (h0 : AllReal (A0 m c)) (h1 : AllReal (A1 m c)) (h2 : AllReal (A2 m c)) (h3 : AllReal (A3 m c))

abbrev q (h : Fin 4) : Head := roped (A0 m c) h
abbrev k (h : Fin 4) : Head := keys (A1 m c) h
abbrev v (h : Fin 4) : Head := ent (A2 m c) h
abbrev o (h : Fin 4) : Head := ent (A3 m c) h

include h0 in
theorem h119 (t : Fin 8192) (h : Fin 4) (d : Fin 128) : (H m c main_v119 : FVec Ideal S8192x512 .bf16) (ix2 t ⟨h * 128 + d, by omega⟩) = ((q m c h t d : ℝ) : EReal) := by
  rw [e_v119, e_v47, h46]
  pointwise
  rw [ropeV_apply h0]
include h1 in
theorem h80 (t : Fin 8192) (h : Fin 4) (d : Fin 128) : (H m c main_v80 : FVec Ideal S8192x512 .f32) (ix2 t ⟨h * 128 + d, by omega⟩) = ((k m c h t d : ℝ) : EReal) := by
  rw [e_v80, e_v79, e_v78, e_cst_5, h77]
  pointwise
  rw [ropeV_apply h1, lit_scale, ← EReal.coe_mul]; rfl
include h1 in
theorem h120 (t : Fin 8192) (h : Fin 4) (d : Fin 128) : (H m c main_v120 : FVec Ideal S8192x512 .bf16) (ix2 t ⟨h * 128 + d, by omega⟩) = ((k m c h t d : ℝ) : EReal) := by
  rw [e_v120]
  exact h80 m c h1 t h d
include h2 in
theorem h121 (t : Fin 8192) (h : Fin 4) (d : Fin 128) : (H m c main_v121 : FVec Ideal S8192x512 .bf16) (ix2 t ⟨h * 128 + d, by omega⟩) = ((v m c h t d : ℝ) : EReal) := by
  rw [e_v121]
  exact ent_eq h2 h t d (by omega)
include h3 in
theorem h122 (t : Fin 8192) (h : Fin 4) (d : Fin 128) : (H m c main_v122 : FVec Ideal S8192x512 .bf16) (ix2 t ⟨h * 128 + d, by omega⟩) = ((o m c h t d : ℝ) : EReal) := by
  rw [e_v122]
  exact ent_eq h3 h t d (by omega)
theorem h145 (h : Fin 4) (i j : Fin 256) : (H m c main_v145 : FVec Ideal S4x256x256 .f32) (ix3 h i j) = ((mask (lg h) i j : ℝ) : EReal) := by
  rw [e_v145, e_call3_v1, e_call3_v2, e_call3_v0, e_cst_19, e_v144, e_v143, e_v142, e_v141, e_v140, e_v139, e_v138, e_v137, e_cst_18, e_v136, e_v135, e_cst_17, e_v134, e_v133, e_v132, e_v131, e_v130, e_v129, e_v128, h127]
  pointwise
  rw [lg_eq, count_real _ (by have := i.2; omega), count_real _ (by have := j.2; omega)]
  have hij : (((i : ℕ) : ℝ) : EReal) - (((j : ℕ) : ℝ) : EReal) = ((((i : ℕ) : ℝ) - ((j : ℕ) : ℝ) : ℝ) : EReal) := (EReal.coe_sub _ _).symm
  rw [hij]
  refine (fade_real _ _ _ (by first | rfl | simp [Ideal.ofBits, Ideal.ieee])).trans ?_
  unfold mask
  have e : (0 : ℝ) ≤ ((i : ℕ) : ℝ) - ((j : ℕ) : ℝ) ↔ (j : ℕ) ≤ i := by rw [sub_nonneg]; exact_mod_cast Iff.rfl
  simp only [e]
theorem h108 (h : Fin 4) (n : Fin 32) (t : Fin 8192) : (H m c main_v108 : FVec Ideal S4x32x8192 .f32) (ix3 h n t) = ((if (t : ℕ) < n * 256 then Real.exp ((((n * 256 : ℕ) : ℝ) - 1 - (t : ℕ)) * lg h) else 0 : ℝ) : EReal) := by
  rw [e_v108, e_call1_v1, e_call1_v2, e_call1_v0, e_cst_13, e_v107, e_v106, e_v105, e_v104, e_v103, e_v102, e_v101, e_v100, e_cst_12, e_v99, e_v98, e_cst_11, e_v97, e_v96, e_v95, e_v94, e_v93, e_v92, e_v91, e_v90, e_cst_10, e_v89, e_v88, e_cst_9, e_v87, e_v86, h85]
  pointwise
  rw [lg_eq, count_real _ (by have := n.2; omega), count_real _ (by have := t.2; omega), lit_256]
  have hij : ((256 : ℝ) : EReal) * (((n : ℕ) : ℝ) : EReal) - 1 - (((t : ℕ) : ℝ) : EReal) = ((256 * ((n : ℕ) : ℝ) - 1 - ((t : ℕ) : ℝ) : ℝ) : EReal) := by
    rw [← EReal.coe_one, ← EReal.coe_mul, ← EReal.coe_sub, ← EReal.coe_sub]
  rw [hij]
  refine (fade_real _ _ _ (by first | rfl | simp [Ideal.ofBits, Ideal.ieee])).trans ?_
  have e : (0 : ℝ) ≤ 256 * ((n : ℕ) : ℝ) - 1 - ((t : ℕ) : ℝ) ↔ (t : ℕ) < n * 256 := by
    constructor
    · intro h
      have h' : (((t : ℕ) + 1 : ℕ) : ℝ) ≤ ((n * 256 : ℕ) : ℝ) := by push_cast; linarith
      exact Nat.lt_of_succ_le (by exact_mod_cast h')
    · intro h
      have h' : (((t : ℕ) + 1 : ℕ) : ℝ) ≤ ((n * 256 : ℕ) : ℝ) := by exact_mod_cast h
      push_cast at h'; linarith
  simp only [e]
  push_cast
  rw [mul_comm (256 : ℝ)]
include h1 in
include h2 in
theorem h118 (h : Fin 4) (n : Fin 32) (a b : Fin 128) : (H m c main_v118 : FVec Ideal S4x32x128x128 .f32) (ix4 h n a b) = ((state (lg h) (k m c h) (v m c h) (n * 256) a b : ℝ) : EReal) := by
  rw [e_v118, e_v117, e_v116, e_v115, e_v114, e_v113, e_v112, e_v111, e_v110, e_v109]
  pointwise
  simp only [h80 m c h1, ent_eq h2]
  refine (Finset.sum_congr rfl (fun t _ => (congrArg₂ (fun x y : EReal => x * y) (congrArg₂ (fun x y : EReal => x * y) rfl (h108 m c h n t)) rfl))).trans ?_
  simp only [← EReal.coe_mul, sum_real]
  refine congrArg _ ?_
  unfold state before
  rw [Finset.sum_range]
  refine Finset.sum_congr rfl fun t _ => ?_
  unfold put
  split <;> ring
theorem h14 (t : Fin 8192) (d : Fin 128) : (H m c main_v14 : FVec Ideal S8192x128 .f32) (ix2 t d) = ((if hd : (d : ℕ) < 64 then co t ⟨d, hd⟩ else co t ⟨d - 64, by omega⟩ : ℝ) : EReal) := by
  rw [e_v14, e_v12, h11]
  pointwise
  simp only [co_eq]
  split <;> rfl
theorem h16 (t : Fin 8192) (d : Fin 128) : (H m c main_v16 : FVec Ideal S8192x128 .f32) (ix2 t d) = ((if hd : (d : ℕ) < 64 then -si t ⟨d, hd⟩ else si t ⟨d - 64, by omega⟩ : ℝ) : EReal) := by
  rw [e_v16, e_v15, e_v13, h11]
  pointwise
  simp only [si_eq, ← EReal.coe_neg]
  split <;> rfl
theorem h153 (h : Fin 4) (j : Fin 256) : (H m c main_v153 : FVec Ideal S4x256 .f32) (ix2 h j) = ((Real.exp (((256 : ℕ) - 1 - (j : ℕ)) * lg h) : ℝ) : EReal) := by
  rw [e_v153, e_v152, e_v151, e_v150, e_v149, e_v148, e_v147, e_v146, e_cst_20, e_v128, h127]
  pointwise
  rw [lg_eq, count_real _ (by have := j.2; omega), lit_255, ← EReal.coe_sub, ← EReal.coe_mul, exp_real]
  norm_num
theorem h161 (h : Fin 4) (i : Fin 256) : (H m c main_v161 : FVec Ideal S4x256 .f32) (ix2 h i) = ((Real.exp (((i : ℕ) + 1) * lg h) : ℝ) : EReal) := by
  rw [e_v161, e_v160, e_v159, e_v158, e_v157, e_v156, e_v155, e_v154, e_cst_21, e_v128, h127]
  pointwise
  rw [lg_eq, count_real _ (by have := i.2; omega), ← EReal.coe_one, ← EReal.coe_add, ← EReal.coe_mul, exp_real]
theorem h166 (h : Fin 4) (y : Fin 8) (x : Fin 128) : (H m c main_v166 : FVec Ideal S4x8x128 .f32) (ix3 h y x) = ((Real.exp ((256 : ℕ) * lg h) : ℝ) : EReal) := by
  rw [e_v166, e_v165, e_v164, e_v163, e_v162, e_cst_22, h127]
  pointwise
  rw [lg_eq, lit_256, ← EReal.coe_mul, exp_real]
  norm_num
theorem h168 (h : Fin 4) (i : Fin 256) (d : Fin 128) : (H m c main_v168 : FVec Ideal S4x256x128 .f32) (ix3 h i d) = ((Real.exp (((i : ℕ) + 1) * lg h) : ℝ) : EReal) := by
  rw [e_v168, e_v167]
  pointwise
  rw [h161]
theorem h170 (h : Fin 4) (j : Fin 256) (d : Fin 128) : (H m c main_v170 : FVec Ideal S4x256x128 .f32) (ix3 h j d) = ((Real.exp (((256 : ℕ) - 1 - (j : ℕ)) * lg h) : ℝ) : EReal) := by
  rw [e_v170, e_v169]
  pointwise
  rw [h153]

end Cert.KernelIdeal.Ops

end
-- ==== Proof.Pieces.lean ====
/- What one grid point stores, in one vocabulary for its four heads and two chunks. -/
module

public import proofs.«01_k».proof.Proof.Gen.KernelIdeal.Value
public import Idealize.ShloMosaic.Lib.Pipeline.ReadBack
public import Idealize.ShloMosaic.Lib.IdealHost

@[expose] public section

set_option maxRecDepth 16384

noncomputable section

namespace Cert.KernelIdeal.Val

open Idealize.ShloMosaic Idealize.ShloMosaic.TcCoe Idealize.ShloMosaic.StableHlo
open Cert.KernelIdeal Cert.KernelIdeal.Gen

/-! ## The rectangles a head and a chunk load and store -/

theorem in_rc (h : Fin 4) (c : Fin 2) : ∀ a, (![256 * c.val, 128 * h.val] : Fin 2 → ℕ) a + (![256, 128] : Fin 2 → ℕ) a ≤ S512x512.size a := by
  intro a; have := h.2; have := c.2; fin_cases a
  · show 256 * c.val + 256 ≤ 512; omega
  · show 128 * h.val + 128 ≤ 512; omega
def rc (h : Fin 4) (c : Fin 2) : Rect S512x512 := Rect.unit ![256 * c.val, 128 * h.val] ![256, 128] (in_rc h c)
theorem in_rp (h : Fin 4) (c : Fin 2) : ∀ a, (![h.val, c.val, 0, 0] : Fin 4 → ℕ) a + (![1, 1, 128, 128] : Fin 4 → ℕ) a ≤ S4x2x128x128.size a := by
  intro a; have := h.2; have := c.2; fin_cases a
  · show h.val + 1 ≤ 4; omega
  · show c.val + 1 ≤ 2; omega
  · exact Nat.le_refl 128
  · exact Nat.le_refl 128
def rp (h : Fin 4) (c : Fin 2) : Rect S4x2x128x128 := Rect.unit ![h.val, c.val, 0, 0] ![1, 1, 128, 128] (in_rp h c)
theorem in_rm (h : Fin 4) : ∀ a, (![h.val, 0, 0] : Fin 3 → ℕ) a + (![1, 256, 256] : Fin 3 → ℕ) a ≤ S4x256x256.size a := by
  intro a; have := h.2; fin_cases a
  · show h.val + 1 ≤ 4; omega
  · exact Nat.le_refl 256
  · exact Nat.le_refl 256
def rm (h : Fin 4) : Rect S4x256x256 := Rect.unit ![h.val, 0, 0] ![1, 256, 256] (in_rm h)
theorem in_rz (h : Fin 4) : ∀ a, (![h.val, 0, 0] : Fin 3 → ℕ) a + (![1, 256, 128] : Fin 3 → ℕ) a ≤ S4x256x128.size a := by
  intro a; have := h.2; fin_cases a
  · show h.val + 1 ≤ 4; omega
  · exact Nat.le_refl 256
  · exact Nat.le_refl 128
def rz (h : Fin 4) : Rect S4x256x128 := Rect.unit ![h.val, 0, 0] ![1, 256, 128] (in_rz h)
theorem in_rg (h : Fin 4) : ∀ a, (![h.val, 0, 0] : Fin 3 → ℕ) a + (![1, 1, 128] : Fin 3 → ℕ) a ≤ S4x8x128.size a := by
  intro a; have := h.2; fin_cases a
  · show h.val + 1 ≤ 4; omega
  · show 0 + 1 ≤ 8; omega
  · exact Nat.le_refl 128
def rg (h : Fin 4) : Rect S4x8x128 := Rect.unit ![h.val, 0, 0] ![1, 1, 128] (in_rg h)
theorem in_rs (h : Fin 4) : ∀ a, (![h.val, 0, 0] : Fin 3 → ℕ) a + (![1, 128, 128] : Fin 3 → ℕ) a ≤ S4x128x128.size a := by
  intro a; have := h.2; fin_cases a
  · show h.val + 1 ≤ 4; omega
  · exact Nat.le_refl 128
  · exact Nat.le_refl 128
def rs (h : Fin 4) : Rect S4x128x128 := Rect.unit ![h.val, 0, 0] ![1, 128, 128] (in_rs h)
theorem in_rt (c : Fin 2) : ∀ a, (![256 * c.val, 0] : Fin 2 → ℕ) a + (![256, 128] : Fin 2 → ℕ) a ≤ S512x128.size a := by
  intro a; have := c.2; fin_cases a
  · show 256 * c.val + 256 ≤ 512; omega
  · exact Nat.le_refl 128
def rt (c : Fin 2) : Rect S512x128 := Rect.unit ![256 * c.val, 0] ![256, 128] (in_rt c)

/-! ## One chunk of one head, over the arrays it has loaded -/

/-- The products of every pair of rows, each kept by the weight of its pair. -/
def pairs (dm : FVec Ideal S256x256 .f32) (x y : FVec Ideal S256x128 .bf16) : FVec Ideal S256x256 .bf16 :=
  truncf .bf16 (mulf (matmul dot_S256x128_S256x128_S256x256_1_1_0_0_n_n none x y (constant S256x256 .f32 0x00000000#32)) dm) bitsLt_bf16_f32
/-- Rows, each scaled by its weight. -/
def scaled (x : FVec Ideal S256x128 .bf16) (w : FVec Ideal S256x128 .f32) : FVec Ideal S256x128 .bf16 :=
  truncf .bf16 (mulf (extf .f32 x bitsLt_bf16_f32) w) bitsLt_bf16_f32
/-- The gradient of a chunk's queries. -/
def mDq (dm : FVec Ideal S256x256 .f32) (k v o : FVec Ideal S256x128 .bf16) (xi : FVec Ideal S256x128 .f32) (st : FVec Ideal S128x128 .f32) : FVec Ideal S256x128 .f32 :=
  addf (matmul dot_S256x256_S256x128_S256x128_1_0_0_1_n_n none (pairs dm o v) k (constant S256x128 .f32 0x00000000#32))
    (matmul dot_S256x128_S128x128_S256x128_1_1_0_0_n_n none (scaled o xi) (truncf .bf16 st bitsLt_bf16_f32) (constant S256x128 .f32 0x00000000#32))
/-- The gradient of a chunk's keys. -/
def mDk (dm : FVec Ideal S256x256 .f32) (q v o : FVec Ideal S256x128 .bf16) (ze : FVec Ideal S256x128 .f32) (g : FVec Ideal S128x128 .f32) : FVec Ideal S256x128 .f32 :=
  addf (matmul dot_S256x256_S256x128_S256x128_0_0_1_1_n_n none (pairs dm o v) q (constant S256x128 .f32 0x00000000#32))
    (matmul dot_S256x128_S128x128_S256x128_1_1_0_0_n_n none (scaled v ze) (truncf .bf16 g bitsLt_bf16_f32) (constant S256x128 .f32 0x00000000#32))
/-- The gradient of a chunk's values. -/
def mDv (dm : FVec Ideal S256x256 .f32) (q k o : FVec Ideal S256x128 .bf16) (ze : FVec Ideal S256x128 .f32) (g : FVec Ideal S128x128 .f32) : FVec Ideal S256x128 .f32 :=
  addf (matmul dot_S256x256_S256x128_S256x128_0_0_1_1_n_n none (pairs dm q k) o (constant S256x128 .f32 0x00000000#32))
    (mulf (matmul dot_S256x128_S128x128_S256x128_1_0_0_1_n_n none k (truncf .bf16 g bitsLt_bf16_f32) (constant S256x128 .f32 0x00000000#32)) ze)
/-- The gradient of the state before a chunk. -/
def mG (gc : FVec Ideal S128x128 .f32) (q o : FVec Ideal S256x128 .bf16) (xi : FVec Ideal S256x128 .f32) (g : FVec Ideal S128x128 .f32) : FVec Ideal S128x128 .f32 :=
  addf (mulf gc g) (matmul dot_S256x128_S256x128_S128x128_0_0_1_1_n_n none q (scaled o xi) (constant S128x128 .f32 0x00000000#32))
/-- The rotation taken back. -/
def mRot (x cs sn : FVec Ideal S256x128 .f32) : FVec Ideal S256x128 .f32 :=
  subf (mulf x cs) (mulf (dynamicRotate 1 64#32 none x rotates_S256x128_d1) sn)

/-! ## The loads of head `h`, chunk `c` -/

def row (x : Vec Ideal S512x512 .bf16) (h : Fin 4) (c : Fin 2) : FVec Ideal S256x128 .bf16 :=
  shapeCast S256x128 (View.ld x (rc h c) : Vec Ideal S256x128 .bf16) shapeCasts_S256x128_S256x128
def lSt (x : Vec Ideal S4x2x128x128 .f32) (h : Fin 4) (c : Fin 2) : FVec Ideal S128x128 .f32 :=
  shapeCast S128x128 (View.ld x (rp h c) : Vec Ideal S1x1x128x128 .f32) shapeCasts_S1x1x128x128_S128x128
def lDm (x : Vec Ideal S4x256x256 .f32) (h : Fin 4) : FVec Ideal S256x256 .f32 :=
  shapeCast S256x256 (View.ld x (rm h) : Vec Ideal S1x256x256 .f32) shapeCasts_S1x256x256_S256x256
def lXi (x : Vec Ideal S4x256x128 .f32) (h : Fin 4) : FVec Ideal S256x128 .f32 :=
  shapeCast S256x128 (View.ld x (rz h) : Vec Ideal S1x256x128 .f32) shapeCasts_S1x256x128_S256x128
def lGc (x : Vec Ideal S4x8x128 .f32) (h : Fin 4) : FVec Ideal S128x128 .f32 :=
  broadcastTo S128x128 (shapeCast S1x128 (View.ld x (rg h) : Vec Ideal S1x1x128 .f32) shapeCasts_S1x1x128_S1x128) broadcasts_S1x128_S128x128
def lG (x : Vec Ideal S4x128x128 .f32) (h : Fin 4) : FVec Ideal S128x128 .f32 :=
  shapeCast S128x128 (View.ld x (rs h) : Vec Ideal S1x128x128 .f32) shapeCasts_S1x128x128_S128x128
def lCs (x : Vec Ideal S512x128 .f32) (c : Fin 2) : FVec Ideal S256x128 .f32 :=
  shapeCast S256x128 (View.ld x (rt c) : Vec Ideal S256x128 .f32) shapeCasts_S256x128_S256x128

section
variable (x0 x1 x2 x3 : Vec Ideal S512x512 .bf16) (x4 : Vec Ideal S4x2x128x128 .f32) (x5 : Vec Ideal S4x256x256 .f32) (x6 x7 : Vec Ideal S4x256x128 .f32)
  (x8 : Vec Ideal S4x8x128 .f32) (x9 x10 : Vec Ideal S512x128 .f32) (g : Vec Ideal S4x128x128 .f32)

/-- The state's gradient that chunk `c` of head `h` starts from: the later chunk from what the point before left, the earlier one from the later one. -/
def gAt (h : Fin 4) (c : Fin 2) : FVec Ideal S128x128 .f32 :=
  match c with
  | 1 => lG g h
  | 0 => mG (lGc x8 h) (row x0 h 1) (row x3 h 1) (lXi x6 h) (lG g h)
def pDq (h : Fin 4) (c : Fin 2) : FVec Ideal S256x128 .bf16 :=
  truncf .bf16 (mRot (mDq (lDm x5 h) (row x1 h c) (row x2 h c) (row x3 h c) (lXi x6 h) (lSt x4 h c)) (lCs x9 c) (lCs x10 c)) bitsLt_bf16_f32
def pDk (h : Fin 4) (c : Fin 2) : FVec Ideal S256x128 .bf16 :=
  truncf .bf16 (mulf (mRot (mDk (lDm x5 h) (row x0 h c) (row x2 h c) (row x3 h c) (lXi x7 h) (gAt x0 x3 x6 x8 g h c)) (lCs x9 c) (lCs x10 c))
    (broadcast S256x128 (Scalar.ofBits .f32 0x3DB504F3#32 : Ideal .f32))) bitsLt_bf16_f32
def pDv (h : Fin 4) (c : Fin 2) : FVec Ideal S256x128 .bf16 :=
  truncf .bf16 (mDv (lDm x5 h) (row x0 h c) (row x1 h c) (row x3 h c) (lXi x7 h) (gAt x0 x3 x6 x8 g h c)) bitsLt_bf16_f32
def pG (h : Fin 4) : FVec Ideal S1x128x128 .f32 :=
  shapeCast S1x128x128 (mG (lGc x8 h) (row x0 h 0) (row x3 h 0) (lXi x6 h) (gAt x0 x3 x6 x8 g h 0)) shapeCasts_S128x128_S1x128x128

/-- The pieces of a block of eight, one per head and chunk, the last stored first. -/
def eight (p : (h : Fin 4) → (c : Fin 2) → FVec Ideal S256x128 .bf16) : List (View.Piece (Elt Ideal) S512x512 .bf16) :=
  [⟨rc 3 0, p 3 0⟩, ⟨rc 3 1, p 3 1⟩, ⟨rc 2 0, p 2 0⟩, ⟨rc 2 1, p 2 1⟩, ⟨rc 1 0, p 1 0⟩, ⟨rc 1 1, p 1 1⟩, ⟨rc 0 0, p 0 0⟩, ⟨rc 0 1, p 0 1⟩]
/-- The pieces of the state, one per head. -/
def four (p : Fin 4 → FVec Ideal S1x128x128 .f32) : List (View.Piece (Elt Ideal) S4x128x128 .f32) :=
  [⟨rs 3, p 3⟩, ⟨rs 2, p 2⟩, ⟨rs 1, p 1⟩, ⟨rs 0, p 0⟩]
/-- The first point's store of zeros over the whole state. -/
def zeroed : List (View.Piece (Elt Ideal) S4x128x128 .f32) := [⟨Rect.unit ![0, 0, 0] ![4, 128, 128] inb_S4x128x128_S4x128x128_0_0_0, k0_pay5 (F := Ideal)⟩]
end

theorem out0_B_11_eq (c : Dev nD) (i : grid0.Coords) (arg1 : Memref sig .tc .vmem S512x512 .bf16) (harg1 : arg1.IsWhole) (arg2 : Memref sig .tc .vmem S512x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S4x2x128x128 .f32) (harg5 : arg5.IsWhole) (arg6 : Memref sig .tc .vmem S4x256x256 .f32) (harg6 : arg6.IsWhole) (arg7 : Memref sig .tc .vmem S4x256x128 .f32) (harg7 : arg7.IsWhole) (arg8 : Memref sig .tc .vmem S4x256x128 .f32) (harg8 : arg8.IsWhole) (arg9 : Memref sig .tc .vmem S4x8x128 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S512x512 .bf16) (harg12 : arg12.IsWhole) (arg13 : Memref sig .tc .vmem S512x512 .bf16) (harg13 : arg13.IsWhole) (arg14 : Memref sig .tc .vmem S512x512 .bf16) (harg14 : arg14.IsWhole) (arg15 : Memref sig .tc .vmem S4x128x128 .f32) (harg15 : arg15.IsWhole) (hc0 : ¬cond0_0 i)
    (x0 : Vec Ideal S512x512 .bf16) (x1 : Vec Ideal S512x512 .bf16) (x2 : Vec Ideal S512x512 .bf16) (x3 : Vec Ideal S512x512 .bf16) (x4 : Vec Ideal S4x2x128x128 .f32) (x5 : Vec Ideal S4x256x256 .f32) (x6 : Vec Ideal S4x256x128 .f32) (x7 : Vec Ideal S4x256x128 .f32) (x8 : Vec Ideal S4x8x128 .f32) (x9 : Vec Ideal S512x128 .f32) (x10 : Vec Ideal S512x128 .f32) (xs0 : Vec Ideal S4x128x128 .f32) :
    out0_B_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 xs0 = View.canon (eight (pDq x1 x2 x3 x4 x5 x6 x9 x10)) := by
  unfold out0_B_11
  rw [View.read_writes_eq_canon _ _ _ (cover0_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 xs0)]
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg15.read_unread]
  rfl
theorem out0_B_12_eq (c : Dev nD) (i : grid0.Coords) (arg1 : Memref sig .tc .vmem S512x512 .bf16) (harg1 : arg1.IsWhole) (arg2 : Memref sig .tc .vmem S512x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S4x2x128x128 .f32) (harg5 : arg5.IsWhole) (arg6 : Memref sig .tc .vmem S4x256x256 .f32) (harg6 : arg6.IsWhole) (arg7 : Memref sig .tc .vmem S4x256x128 .f32) (harg7 : arg7.IsWhole) (arg8 : Memref sig .tc .vmem S4x256x128 .f32) (harg8 : arg8.IsWhole) (arg9 : Memref sig .tc .vmem S4x8x128 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S512x512 .bf16) (harg12 : arg12.IsWhole) (arg13 : Memref sig .tc .vmem S512x512 .bf16) (harg13 : arg13.IsWhole) (arg14 : Memref sig .tc .vmem S512x512 .bf16) (harg14 : arg14.IsWhole) (arg15 : Memref sig .tc .vmem S4x128x128 .f32) (harg15 : arg15.IsWhole) (hc0 : ¬cond0_0 i)
    (x0 : Vec Ideal S512x512 .bf16) (x1 : Vec Ideal S512x512 .bf16) (x2 : Vec Ideal S512x512 .bf16) (x3 : Vec Ideal S512x512 .bf16) (x4 : Vec Ideal S4x2x128x128 .f32) (x5 : Vec Ideal S4x256x256 .f32) (x6 : Vec Ideal S4x256x128 .f32) (x7 : Vec Ideal S4x256x128 .f32) (x8 : Vec Ideal S4x8x128 .f32) (x9 : Vec Ideal S512x128 .f32) (x10 : Vec Ideal S512x128 .f32) (xs0 : Vec Ideal S4x128x128 .f32) :
    out0_B_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 xs0 = View.canon (eight (pDk x0 x2 x3 x5 x6 x7 x8 x9 x10 xs0)) := by
  unfold out0_B_12
  rw [View.read_writes_eq_canon _ _ _ (cover0_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 xs0)]
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg15.read_unread]
  rfl
theorem out0_B_13_eq (c : Dev nD) (i : grid0.Coords) (arg1 : Memref sig .tc .vmem S512x512 .bf16) (harg1 : arg1.IsWhole) (arg2 : Memref sig .tc .vmem S512x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S4x2x128x128 .f32) (harg5 : arg5.IsWhole) (arg6 : Memref sig .tc .vmem S4x256x256 .f32) (harg6 : arg6.IsWhole) (arg7 : Memref sig .tc .vmem S4x256x128 .f32) (harg7 : arg7.IsWhole) (arg8 : Memref sig .tc .vmem S4x256x128 .f32) (harg8 : arg8.IsWhole) (arg9 : Memref sig .tc .vmem S4x8x128 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S512x512 .bf16) (harg12 : arg12.IsWhole) (arg13 : Memref sig .tc .vmem S512x512 .bf16) (harg13 : arg13.IsWhole) (arg14 : Memref sig .tc .vmem S512x512 .bf16) (harg14 : arg14.IsWhole) (arg15 : Memref sig .tc .vmem S4x128x128 .f32) (harg15 : arg15.IsWhole) (hc0 : ¬cond0_0 i)
    (x0 : Vec Ideal S512x512 .bf16) (x1 : Vec Ideal S512x512 .bf16) (x2 : Vec Ideal S512x512 .bf16) (x3 : Vec Ideal S512x512 .bf16) (x4 : Vec Ideal S4x2x128x128 .f32) (x5 : Vec Ideal S4x256x256 .f32) (x6 : Vec Ideal S4x256x128 .f32) (x7 : Vec Ideal S4x256x128 .f32) (x8 : Vec Ideal S4x8x128 .f32) (x9 : Vec Ideal S512x128 .f32) (x10 : Vec Ideal S512x128 .f32) (xs0 : Vec Ideal S4x128x128 .f32) :
    out0_B_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 xs0 = View.canon (eight (pDv x0 x1 x3 x5 x6 x7 x8 xs0)) := by
  unfold out0_B_13
  rw [View.read_writes_eq_canon _ _ _ (cover0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 xs0)]
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg15.read_unread]
  rfl
theorem sout0_B_0_eq (c : Dev nD) (i : grid0.Coords) (arg1 : Memref sig .tc .vmem S512x512 .bf16) (harg1 : arg1.IsWhole) (arg2 : Memref sig .tc .vmem S512x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S4x2x128x128 .f32) (harg5 : arg5.IsWhole) (arg6 : Memref sig .tc .vmem S4x256x256 .f32) (harg6 : arg6.IsWhole) (arg7 : Memref sig .tc .vmem S4x256x128 .f32) (harg7 : arg7.IsWhole) (arg8 : Memref sig .tc .vmem S4x256x128 .f32) (harg8 : arg8.IsWhole) (arg9 : Memref sig .tc .vmem S4x8x128 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S512x512 .bf16) (harg12 : arg12.IsWhole) (arg13 : Memref sig .tc .vmem S512x512 .bf16) (harg13 : arg13.IsWhole) (arg14 : Memref sig .tc .vmem S512x512 .bf16) (harg14 : arg14.IsWhole) (arg15 : Memref sig .tc .vmem S4x128x128 .f32) (harg15 : arg15.IsWhole) (hc0 : ¬cond0_0 i)
    (x0 : Vec Ideal S512x512 .bf16) (x1 : Vec Ideal S512x512 .bf16) (x2 : Vec Ideal S512x512 .bf16) (x3 : Vec Ideal S512x512 .bf16) (x4 : Vec Ideal S4x2x128x128 .f32) (x5 : Vec Ideal S4x256x256 .f32) (x6 : Vec Ideal S4x256x128 .f32) (x7 : Vec Ideal S4x256x128 .f32) (x8 : Vec Ideal S4x8x128 .f32) (x9 : Vec Ideal S512x128 .f32) (x10 : Vec Ideal S512x128 .f32) (xs0 : Vec Ideal S4x128x128 .f32) :
    sout0_B_0 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 xs0 = View.canon (four (pG x0 x3 x6 x8 xs0)) := by
  unfold sout0_B_0
  rw [View.read_writes_eq_canon _ _ _ (scover0_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 xs0)]
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg15.read_unread]
  rfl
theorem out0_A_11_eq (c : Dev nD) (i : grid0.Coords) (arg1 : Memref sig .tc .vmem S512x512 .bf16) (harg1 : arg1.IsWhole) (arg2 : Memref sig .tc .vmem S512x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S4x2x128x128 .f32) (harg5 : arg5.IsWhole) (arg6 : Memref sig .tc .vmem S4x256x256 .f32) (harg6 : arg6.IsWhole) (arg7 : Memref sig .tc .vmem S4x256x128 .f32) (harg7 : arg7.IsWhole) (arg8 : Memref sig .tc .vmem S4x256x128 .f32) (harg8 : arg8.IsWhole) (arg9 : Memref sig .tc .vmem S4x8x128 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S512x512 .bf16) (harg12 : arg12.IsWhole) (arg13 : Memref sig .tc .vmem S512x512 .bf16) (harg13 : arg13.IsWhole) (arg14 : Memref sig .tc .vmem S512x512 .bf16) (harg14 : arg14.IsWhole) (arg15 : Memref sig .tc .vmem S4x128x128 .f32) (harg15 : arg15.IsWhole) (hc0 : cond0_0 i)
    (x0 : Vec Ideal S512x512 .bf16) (x1 : Vec Ideal S512x512 .bf16) (x2 : Vec Ideal S512x512 .bf16) (x3 : Vec Ideal S512x512 .bf16) (x4 : Vec Ideal S4x2x128x128 .f32) (x5 : Vec Ideal S4x256x256 .f32) (x6 : Vec Ideal S4x256x128 .f32) (x7 : Vec Ideal S4x256x128 .f32) (x8 : Vec Ideal S4x8x128 .f32) (x9 : Vec Ideal S512x128 .f32) (x10 : Vec Ideal S512x128 .f32) :
    out0_A_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 = View.canon (eight (pDq x1 x2 x3 x4 x5 x6 x9 x10)) := by
  unfold out0_A_11
  rw [View.read_writes_eq_canon _ _ _ (cover0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10)]
  unfold kernelRun0_A
  dsimp only
  sl_unfold_words
  simp (disch := decide) only [View.readAt_eq_ld, harg1.read_unread, harg2.read_unread, harg3.read_unread, harg4.read_unread, harg5.read_unread, harg6.read_unread, harg7.read_unread, harg8.read_unread, harg9.read_unread, harg10.read_unread, harg11.read_unread, View.readCov_fill]
  rfl
theorem out0_A_12_eq (c : Dev nD) (i : grid0.Coords) (arg1 : Memref sig .tc .vmem S512x512 .bf16) (harg1 : arg1.IsWhole) (arg2 : Memref sig .tc .vmem S512x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S4x2x128x128 .f32) (harg5 : arg5.IsWhole) (arg6 : Memref sig .tc .vmem S4x256x256 .f32) (harg6 : arg6.IsWhole) (arg7 : Memref sig .tc .vmem S4x256x128 .f32) (harg7 : arg7.IsWhole) (arg8 : Memref sig .tc .vmem S4x256x128 .f32) (harg8 : arg8.IsWhole) (arg9 : Memref sig .tc .vmem S4x8x128 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S512x512 .bf16) (harg12 : arg12.IsWhole) (arg13 : Memref sig .tc .vmem S512x512 .bf16) (harg13 : arg13.IsWhole) (arg14 : Memref sig .tc .vmem S512x512 .bf16) (harg14 : arg14.IsWhole) (arg15 : Memref sig .tc .vmem S4x128x128 .f32) (harg15 : arg15.IsWhole) (hc0 : cond0_0 i)
    (x0 : Vec Ideal S512x512 .bf16) (x1 : Vec Ideal S512x512 .bf16) (x2 : Vec Ideal S512x512 .bf16) (x3 : Vec Ideal S512x512 .bf16) (x4 : Vec Ideal S4x2x128x128 .f32) (x5 : Vec Ideal S4x256x256 .f32) (x6 : Vec Ideal S4x256x128 .f32) (x7 : Vec Ideal S4x256x128 .f32) (x8 : Vec Ideal S4x8x128 .f32) (x9 : Vec Ideal S512x128 .f32) (x10 : Vec Ideal S512x128 .f32) :
    out0_A_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 = View.canon (eight (pDk x0 x2 x3 x5 x6 x7 x8 x9 x10 (k0_pay5 (F := Ideal)))) := by
  unfold out0_A_12
  rw [View.read_writes_eq_canon _ _ _ (cover0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10)]
  unfold kernelRun0_A
  dsimp only
  sl_unfold_words
  simp (disch := first | rfl | decide) only [↓View.readCov_skip]
  simp (disch := decide) only [View.readAt_eq_ld, harg1.read_unread, harg2.read_unread, harg3.read_unread, harg4.read_unread, harg5.read_unread, harg6.read_unread, harg7.read_unread, harg8.read_unread, harg9.read_unread, harg10.read_unread, harg11.read_unread, View.readCov_fill]
  rfl
theorem out0_A_13_eq (c : Dev nD) (i : grid0.Coords) (arg1 : Memref sig .tc .vmem S512x512 .bf16) (harg1 : arg1.IsWhole) (arg2 : Memref sig .tc .vmem S512x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S4x2x128x128 .f32) (harg5 : arg5.IsWhole) (arg6 : Memref sig .tc .vmem S4x256x256 .f32) (harg6 : arg6.IsWhole) (arg7 : Memref sig .tc .vmem S4x256x128 .f32) (harg7 : arg7.IsWhole) (arg8 : Memref sig .tc .vmem S4x256x128 .f32) (harg8 : arg8.IsWhole) (arg9 : Memref sig .tc .vmem S4x8x128 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S512x512 .bf16) (harg12 : arg12.IsWhole) (arg13 : Memref sig .tc .vmem S512x512 .bf16) (harg13 : arg13.IsWhole) (arg14 : Memref sig .tc .vmem S512x512 .bf16) (harg14 : arg14.IsWhole) (arg15 : Memref sig .tc .vmem S4x128x128 .f32) (harg15 : arg15.IsWhole) (hc0 : cond0_0 i)
    (x0 : Vec Ideal S512x512 .bf16) (x1 : Vec Ideal S512x512 .bf16) (x2 : Vec Ideal S512x512 .bf16) (x3 : Vec Ideal S512x512 .bf16) (x4 : Vec Ideal S4x2x128x128 .f32) (x5 : Vec Ideal S4x256x256 .f32) (x6 : Vec Ideal S4x256x128 .f32) (x7 : Vec Ideal S4x256x128 .f32) (x8 : Vec Ideal S4x8x128 .f32) (x9 : Vec Ideal S512x128 .f32) (x10 : Vec Ideal S512x128 .f32) :
    out0_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 = View.canon (eight (pDv x0 x1 x3 x5 x6 x7 x8 (k0_pay5 (F := Ideal)))) := by
  unfold out0_A_13
  rw [View.read_writes_eq_canon _ _ _ (cover0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10)]
  unfold kernelRun0_A
  dsimp only
  sl_unfold_words
  simp (disch := first | rfl | decide) only [↓View.readCov_skip]
  simp (disch := decide) only [View.readAt_eq_ld, harg1.read_unread, harg2.read_unread, harg3.read_unread, harg4.read_unread, harg5.read_unread, harg6.read_unread, harg7.read_unread, harg8.read_unread, harg9.read_unread, harg10.read_unread, harg11.read_unread, View.readCov_fill]
  rfl
theorem sout0_A_0_eq (c : Dev nD) (i : grid0.Coords) (arg1 : Memref sig .tc .vmem S512x512 .bf16) (harg1 : arg1.IsWhole) (arg2 : Memref sig .tc .vmem S512x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S4x2x128x128 .f32) (harg5 : arg5.IsWhole) (arg6 : Memref sig .tc .vmem S4x256x256 .f32) (harg6 : arg6.IsWhole) (arg7 : Memref sig .tc .vmem S4x256x128 .f32) (harg7 : arg7.IsWhole) (arg8 : Memref sig .tc .vmem S4x256x128 .f32) (harg8 : arg8.IsWhole) (arg9 : Memref sig .tc .vmem S4x8x128 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S512x512 .bf16) (harg12 : arg12.IsWhole) (arg13 : Memref sig .tc .vmem S512x512 .bf16) (harg13 : arg13.IsWhole) (arg14 : Memref sig .tc .vmem S512x512 .bf16) (harg14 : arg14.IsWhole) (arg15 : Memref sig .tc .vmem S4x128x128 .f32) (harg15 : arg15.IsWhole) (hc0 : cond0_0 i)
    (x0 : Vec Ideal S512x512 .bf16) (x1 : Vec Ideal S512x512 .bf16) (x2 : Vec Ideal S512x512 .bf16) (x3 : Vec Ideal S512x512 .bf16) (x4 : Vec Ideal S4x2x128x128 .f32) (x5 : Vec Ideal S4x256x256 .f32) (x6 : Vec Ideal S4x256x128 .f32) (x7 : Vec Ideal S4x256x128 .f32) (x8 : Vec Ideal S4x8x128 .f32) (x9 : Vec Ideal S512x128 .f32) (x10 : Vec Ideal S512x128 .f32) :
    sout0_A_0 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 = View.canon (four (pG x0 x3 x6 x8 (k0_pay5 (F := Ideal))) ++ zeroed) := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10)]
  unfold kernelRun0_A
  dsimp only
  sl_unfold_words
  simp (disch := first | rfl | decide) only [↓View.readCov_skip]
  simp (disch := decide) only [View.readAt_eq_ld, harg1.read_unread, harg2.read_unread, harg3.read_unread, harg4.read_unread, harg5.read_unread, harg6.read_unread, harg7.read_unread, harg8.read_unread, harg9.read_unread, harg10.read_unread, harg11.read_unread, View.readCov_fill]
  rfl
end Cert.KernelIdeal.Val

end
-- ==== Proof.ChunkVal.lean ====
/- One chunk of one head, as real numbers. -/
module

public import proofs.«01_k».proof.Proof.Pieces
public import proofs.«01_k».proof.Proof.Spec

@[expose] public section

set_option maxRecDepth 16384

noncomputable section

namespace Cert.KernelIdeal.Val

open Idealize.ShloMosaic Idealize.ShloMosaic.TcCoe Idealize.ShloMosaic.StableHlo
open Cert.KernelIdeal Cert.KernelIdeal.Gen Ret

section
variable {dm : FVec Ideal S256x256 .f32} {x y z : FVec Ideal S256x128 .bf16} {w : FVec Ideal S256x128 .f32} {st gc : FVec Ideal S128x128 .f32}
  {D : Fin 256 → Fin 256 → ℝ} {X Y Z : Fin 256 → Fin 128 → ℝ} {W : Fin 256 → Fin 128 → ℝ} {S : Fin 128 → Fin 128 → ℝ} {C : ℝ}
  (hd : ∀ i j, dm (ix2 i j) = (D i j : EReal)) (hx : ∀ i e, x (ix2 i e) = (X i e : EReal)) (hy : ∀ i e, y (ix2 i e) = (Y i e : EReal))
  (hz : ∀ i e, z (ix2 i e) = (Z i e : EReal)) (hw : ∀ i e, w (ix2 i e) = (W i e : EReal)) (hs : ∀ a b, st (ix2 a b) = (S a b : EReal))
  (hc : ∀ a b, gc (ix2 a b) = (C : EReal))

include hd hx hy in
theorem pairs_real (i j : Fin 256) : pairs dm x y (ix2 i j) = (((∑ e, X i e * Y j e) * D i j : ℝ) : EReal) := by
  unfold pairs
  pointwise
  simp only [hx, hy, hd, ← EReal.coe_mul, sum_real]

include hx hw in
theorem scaled_real (i : Fin 256) (e : Fin 128) : scaled x w (ix2 i e) = ((X i e * W i e : ℝ) : EReal) := by
  unfold scaled
  pointwise
  simp only [hx, hw, ← EReal.coe_mul]

include hd hx hy hz hw hs in
theorem mDq_real (i : Fin 256) (d : Fin 128) :
    mDq dm x y z w st (ix2 i d) = (((∑ j, ((∑ e, Z i e * Y j e) * D i j) * X j d) + ∑ e, (Z i e * W i e) * S d e : ℝ) : EReal) := by
  unfold mDq
  pointwise
  simp only [pairs_real hd hz hy, scaled_real hz hw, hx, hs, ← EReal.coe_mul, sum_real, ← EReal.coe_add]

include hd hx hy hz hw hs in
theorem mDk_real (j : Fin 256) (d : Fin 128) :
    mDk dm x y z w st (ix2 j d) = (((∑ i, ((∑ e, Z i e * Y j e) * D i j) * X i d) + ∑ e, (Y j e * W j e) * S d e : ℝ) : EReal) := by
  unfold mDk
  pointwise
  simp only [pairs_real hd hz hy, scaled_real hy hw, hx, hs, ← EReal.coe_mul, sum_real, ← EReal.coe_add]

include hd hx hy hz hw hs in
theorem mDv_real (j : Fin 256) (e : Fin 128) :
    mDv dm x y z w st (ix2 j e) = (((∑ i, ((∑ d, X i d * Y j d) * D i j) * Z i e) + (∑ d, Y j d * S d e) * W j e : ℝ) : EReal) := by
  unfold mDv
  pointwise
  simp only [pairs_real hd hx hy, hy, hz, hs, hw, ← EReal.coe_mul, sum_real, ← EReal.coe_add]

include hx hz hw hs hc in
theorem mG_real (a b : Fin 128) : mG gc x z w st (ix2 a b) = ((C * S a b + ∑ i, X i a * (Z i b * W i b) : ℝ) : EReal) := by
  unfold mG
  pointwise
  simp only [scaled_real hz hw, hx, hs, hc, ← EReal.coe_mul, sum_real, ← EReal.coe_add]
end

/-- The cosine and the sine, with its sign, that entry `d` of token `t` is turned by. -/
def csR (t : ℕ) (d : Fin 128) : ℝ := if hd : (d : ℕ) < 64 then co t ⟨d, hd⟩ else co t ⟨d - 64, by omega⟩
def snR (t : ℕ) (d : Fin 128) : ℝ := if hd : (d : ℕ) < 64 then -si t ⟨d, hd⟩ else si t ⟨d - 64, by omega⟩

theorem mRot_real {x cs sn : FVec Ideal S256x128 .f32} {X : Fin 256 → Fin 128 → ℝ} {T : Fin 256 → ℕ} (hx : ∀ i e, x (ix2 i e) = (X i e : EReal))
    (hc : ∀ i e, cs (ix2 i e) = (csR (T i) e : EReal)) (hn : ∀ i e, sn (ix2 i e) = (snR (T i) e : EReal)) (i : Fin 256) (d : Fin 128) :
    mRot x cs sn (ix2 i d) = ((unrot (T i) (X i) d : ℝ) : EReal) := by
  unfold mRot
  pointwise
  rw [hx, hx, hc, hn, ← EReal.coe_mul, ← EReal.coe_mul, ← EReal.coe_sub]
  congr 1
  unfold unrot csR snR
  by_cases h : (d : ℕ) < 64
  · rw [dif_pos h, dif_pos h, dif_pos h, show (⟨(d.val + 128 - 64) % 128, by omega⟩ : Fin 128) = ⟨64 + d, by omega⟩ from Fin.ext (by dsimp only; omega)]
    ring
  · rw [dif_neg h, dif_neg h, dif_neg h, show (⟨(d.val + 128 - 64) % 128, by omega⟩ : Fin 128) = ⟨d - 64, by omega⟩ from Fin.ext (by dsimp only; omega)]

/-! ## The loads -/

theorem row_apply (x : Vec Ideal S512x512 .bf16) (h : Fin 4) (c : Fin 2) (i : Fin 256) (d : Fin 128) :
    row x h c (ix2 i d) = x (ix2 ⟨256 * c + i, by omega⟩ ⟨h * 128 + d, by omega⟩) := by
  have key : ∀ y : FVec Ideal S256x128 .bf16, shapeCast S256x128 y shapeCasts_S256x128_S256x128 (ix2 i d) = y (ix2 i d) := fun y => by rw [shapeCast_self]
  refine (key _).trans (congrArg x (funext fun a => Fin.ext ?_))
  fin_cases a
  · show 256 * c.val + 1 * i.val = _; rw [Nat.one_mul]; rfl
  · show 128 * h.val + 1 * d.val = _; rw [Nat.one_mul, Nat.mul_comm]; rfl
theorem lCs_apply (x : Vec Ideal S512x128 .f32) (c : Fin 2) (i : Fin 256) (d : Fin 128) :
    lCs x c (ix2 i d) = x (ix2 ⟨256 * c + i, by omega⟩ d) := by
  have key : ∀ y : FVec Ideal S256x128 .f32, shapeCast S256x128 y shapeCasts_S256x128_S256x128 (ix2 i d) = y (ix2 i d) := fun y => by rw [shapeCast_self]
  refine (key _).trans (congrArg x (funext fun a => Fin.ext ?_))
  fin_cases a
  · show 256 * c.val + 1 * i.val = _; rw [Nat.one_mul]; rfl
  · show 0 + 1 * d.val = _; rw [Nat.one_mul, Nat.zero_add]; rfl
theorem lSt_apply (x : Vec Ideal S4x2x128x128 .f32) (h : Fin 4) (c : Fin 2) (a b : Fin 128) : lSt x h c (ix2 a b) = x (ix4 h c a b) := by
  have key : ∀ y : FVec Ideal S1x1x128x128 .f32, shapeCast S128x128 y shapeCasts_S1x1x128x128_S128x128 (ix2 a b) = y (ix4 (0 : Fin 1) (0 : Fin 1) a b) := fun y => by pointwise
  refine (key _).trans (congrArg x (funext fun k => Fin.ext ?_))
  fin_cases k
  · show h.val + 1 * 0 = _; rfl
  · show c.val + 1 * 0 = _; rfl
  · show 0 + 1 * a.val = _; rw [Nat.one_mul, Nat.zero_add]; rfl
  · show 0 + 1 * b.val = _; rw [Nat.one_mul, Nat.zero_add]; rfl
theorem lDm_apply (x : Vec Ideal S4x256x256 .f32) (h : Fin 4) (a : Fin 256) (b : Fin 256) : lDm x h (ix2 a b) = x (ix3 h a b) := by
  have key : ∀ y : FVec Ideal S1x256x256 .f32, shapeCast S256x256 y shapeCasts_S1x256x256_S256x256 (ix2 a b) = y (ix3 (0 : Fin 1) a b) := fun y => by pointwise
  refine (key _).trans (congrArg x (funext fun k => Fin.ext ?_))
  fin_cases k
  · show h.val + 1 * 0 = _; rfl
  · show 0 + 1 * a.val = _; rw [Nat.one_mul, Nat.zero_add]; rfl
  · show 0 + 1 * b.val = _; rw [Nat.one_mul, Nat.zero_add]; rfl
theorem lXi_apply (x : Vec Ideal S4x256x128 .f32) (h : Fin 4) (a : Fin 256) (b : Fin 128) : lXi x h (ix2 a b) = x (ix3 h a b) := by
  have key : ∀ y : FVec Ideal S1x256x128 .f32, shapeCast S256x128 y shapeCasts_S1x256x128_S256x128 (ix2 a b) = y (ix3 (0 : Fin 1) a b) := fun y => by pointwise
  refine (key _).trans (congrArg x (funext fun k => Fin.ext ?_))
  fin_cases k
  · show h.val + 1 * 0 = _; rfl
  · show 0 + 1 * a.val = _; rw [Nat.one_mul, Nat.zero_add]; rfl
  · show 0 + 1 * b.val = _; rw [Nat.one_mul, Nat.zero_add]; rfl
theorem lG_apply (x : Vec Ideal S4x128x128 .f32) (h : Fin 4) (a : Fin 128) (b : Fin 128) : lG x h (ix2 a b) = x (ix3 h a b) := by
  have key : ∀ y : FVec Ideal S1x128x128 .f32, shapeCast S128x128 y shapeCasts_S1x128x128_S128x128 (ix2 a b) = y (ix3 (0 : Fin 1) a b) := fun y => by pointwise
  refine (key _).trans (congrArg x (funext fun k => Fin.ext ?_))
  fin_cases k
  · show h.val + 1 * 0 = _; rfl
  · show 0 + 1 * a.val = _; rw [Nat.one_mul, Nat.zero_add]; rfl
  · show 0 + 1 * b.val = _; rw [Nat.one_mul, Nat.zero_add]; rfl
theorem lGc_apply (x : Vec Ideal S4x8x128 .f32) (h : Fin 4) (a b : Fin 128) : lGc x h (ix2 a b) = x (ix3 h (0 : Fin 8) b) := by
  have key : ∀ y : FVec Ideal S1x1x128 .f32, broadcastTo S128x128 (shapeCast S1x128 y shapeCasts_S1x1x128_S1x128) broadcasts_S1x128_S128x128 (ix2 a b)
      = y (ix3 (0 : Fin 1) (0 : Fin 1) b) := fun y => by pointwise
  refine (key _).trans (congrArg x (funext fun k => Fin.ext ?_))
  fin_cases k
  · show h.val + 1 * 0 = _; rfl
  · rfl
  · show 0 + 1 * b.val = _; rw [Nat.one_mul, Nat.zero_add]; rfl

/-! ## A block of 512 tokens -/

/-- What the eleven loaded blocks hold at block `b`. -/
structure Reads (l : Fin 4 → ℝ) (Q K V O : Fin 4 → Head) (b : ℕ) (x0 x1 x2 x3 : Vec Ideal S512x512 .bf16) (x4 : Vec Ideal S4x2x128x128 .f32)
    (x5 : Vec Ideal S4x256x256 .f32) (x6 x7 : Vec Ideal S4x256x128 .f32) (x8 : Vec Ideal S4x8x128 .f32) (x9 x10 : Vec Ideal S512x128 .f32) : Prop where
  lt : b < 16
  q : ∀ (r : Fin 512) (h : Fin 4) (d : Fin 128), x0 (ix2 r ⟨h * 128 + d, by omega⟩) = ((Q h (512 * b + r) d : ℝ) : EReal)
  k : ∀ (r : Fin 512) (h : Fin 4) (d : Fin 128), x1 (ix2 r ⟨h * 128 + d, by omega⟩) = ((K h (512 * b + r) d : ℝ) : EReal)
  v : ∀ (r : Fin 512) (h : Fin 4) (d : Fin 128), x2 (ix2 r ⟨h * 128 + d, by omega⟩) = ((V h (512 * b + r) d : ℝ) : EReal)
  o : ∀ (r : Fin 512) (h : Fin 4) (d : Fin 128), x3 (ix2 r ⟨h * 128 + d, by omega⟩) = ((O h (512 * b + r) d : ℝ) : EReal)
  st : ∀ (h : Fin 4) (c : Fin 2) (a e : Fin 128), x4 (ix4 h c a e) = ((state (l h) (K h) (V h) ((2 * b + c) * 256) a e : ℝ) : EReal)
  dm : ∀ (h : Fin 4) (i j : Fin 256), x5 (ix3 h i j) = ((mask (l h) i j : ℝ) : EReal)
  xi : ∀ (h : Fin 4) (i : Fin 256) (d : Fin 128), x6 (ix3 h i d) = ((Real.exp (((i : ℕ) + 1 : ℝ) * l h) : ℝ) : EReal)
  ze : ∀ (h : Fin 4) (j : Fin 256) (d : Fin 128), x7 (ix3 h j d) = ((Real.exp ((((256 : ℕ) : ℝ) - 1 - (j : ℕ)) * l h) : ℝ) : EReal)
  gc : ∀ (h : Fin 4) (y : Fin 8) (d : Fin 128), x8 (ix3 h y d) = ((Real.exp (((256 : ℕ) : ℝ) * l h) : ℝ) : EReal)
  cs : ∀ (r : Fin 512) (d : Fin 128), x9 (ix2 r d) = ((csR (512 * b + r) d : ℝ) : EReal)
  sn : ∀ (r : Fin 512) (d : Fin 128), x10 (ix2 r d) = ((snR (512 * b + r) d : ℝ) : EReal)

section
variable {l : Fin 4 → ℝ} {Q K V O : Fin 4 → Head} {b : ℕ} {x0 x1 x2 x3 : Vec Ideal S512x512 .bf16} {x4 : Vec Ideal S4x2x128x128 .f32}
    {x5 : Vec Ideal S4x256x256 .f32} {x6 x7 : Vec Ideal S4x256x128 .f32} {x8 : Vec Ideal S4x8x128 .f32} {x9 x10 : Vec Ideal S512x128 .f32}
    {g : Vec Ideal S4x128x128 .f32} (R : Reads l Q K V O b x0 x1 x2 x3 x4 x5 x6 x7 x8 x9 x10)
    (hg : ∀ (h : Fin 4) (a e : Fin 128), g (ix3 h a e) = ((back (l h) (Q h) (O h) ((b + 1) * 512) a e : ℝ) : EReal))

theorem tok (b : ℕ) (c : Fin 2) (i : Fin 256) : 512 * b + (256 * c.val + i.val) = (2 * b + c.val) * 256 + i.val := by omega

theorem row_real {x : Vec Ideal S512x512 .bf16} {X : Fin 4 → Head}
    (hx : ∀ (r : Fin 512) (h : Fin 4) (d : Fin 128), x (ix2 r ⟨h * 128 + d, by omega⟩) = ((X h (512 * b + r) d : ℝ) : EReal))
    (h : Fin 4) (c : Fin 2) (i : Fin 256) (d : Fin 128) : row x h c (ix2 i d) = ((X h ((2 * b + c) * 256 + i) d : ℝ) : EReal) := by
  rw [row_apply, hx, ← tok]

include R hg in
theorem gAt_real (h : Fin 4) (c : Fin 2) (a e : Fin 128) :
    gAt x0 x3 x6 x8 g h c (ix2 a e) = ((back (l h) (Q h) (O h) ((2 * b + c + 1) * 256) a e : ℝ) : EReal) := by
  have hb := R.lt
  have h1 : ∀ a e, lG g h (ix2 a e) = ((back (l h) (Q h) (O h) ((2 * b + 1 + 1) * 256) a e : ℝ) : EReal) := fun a e => by
    rw [lG_apply, hg, show (b + 1) * 512 = (2 * b + 1 + 1) * 256 by omega]
  match c with
  | 1 => exact h1 a e
  | 0 =>
    show mG (lGc x8 h) (row x0 h 1) (row x3 h 1) (lXi x6 h) (lG g h) (ix2 a e) = _
    rw [mG_real (row_real R.q h 1) (row_real R.o h 1) (fun i d => (lXi_apply x6 h i d).trans (R.xi h i d)) h1
      (fun a e => (lGc_apply x8 h a e).trans (R.gc h 0 e))]
    exact congrArg _ (back_step (C := 256) (r := 8192 - ((2 * b + 1) * 256 + 256)) (l h) (Q h) (O h) (n := 2 * b + 1) (by omega) a e).symm

include R in
theorem pDq_real (h : Fin 4) (c : Fin 2) (i : Fin 256) (d : Fin 128) :
    pDq x1 x2 x3 x4 x5 x6 x9 x10 h c (ix2 i d)
      = ((unrot (512 * b + (256 * c + i)) (dq (l h) (K h) (V h) (O h) (512 * b + (256 * c + i))) d : ℝ) : EReal) := by
  have hb := R.lt
  unfold pDq
  show mRot _ _ _ (ix2 i d) = _
  refine mRot_real (X := fun i => dq (l h) (K h) (V h) (O h) (512 * b + (256 * c + i))) (T := fun i => 512 * b + (256 * c + i)) (fun i e => ?_)
    (fun i e => (lCs_apply x9 c i e).trans (R.cs _ e)) (fun i e => (lCs_apply x10 c i e).trans (R.sn _ e)) i d
  rw [mDq_real (fun i j => (lDm_apply x5 h i j).trans (R.dm h i j)) (row_real R.k h c) (row_real R.v h c) (row_real R.o h c)
    (fun i d => (lXi_apply x6 h i d).trans (R.xi h i d)) (fun a e => (lSt_apply x4 h c a e).trans (R.st h c a e)), tok,
    dq_chunk (C := 256) (r := 8192 - ((2 * b + c) * 256 + 256)) (l h) (K h) (V h) (O h) (n := 2 * b + c) (by omega) i e]

include R hg in
theorem pDk_real (h : Fin 4) (c : Fin 2) (i : Fin 256) (d : Fin 128) :
    pDk x0 x2 x3 x5 x6 x7 x8 x9 x10 g h c (ix2 i d)
      = ((unrot (512 * b + (256 * c + i)) (fun d => dk (l h) (Q h) (V h) (O h) (512 * b + (256 * c + i)) d * sc) d : ℝ) : EReal) := by
  have hb := R.lt
  unfold pDk
  show mRot _ _ _ (ix2 i d) * Ideal.ofBits .f32 0x3DB504F3#32 = _
  rw [mRot_real (X := fun i => dk (l h) (Q h) (V h) (O h) (512 * b + (256 * c + i))) (T := fun i => 512 * b + (256 * c + i)) (fun i e => ?_)
    (fun i e => (lCs_apply x9 c i e).trans (R.cs _ e)) (fun i e => (lCs_apply x10 c i e).trans (R.sn _ e)) i d, lit_scale, ← EReal.coe_mul]
  · congr 1
    unfold unrot
    split <;> ring
  rw [mDk_real (fun i j => (lDm_apply x5 h i j).trans (R.dm h i j)) (row_real R.q h c) (row_real R.v h c) (row_real R.o h c)
    (fun i d => (lXi_apply x7 h i d).trans (R.ze h i d)) (gAt_real R hg h c), tok,
    dk_chunk (C := 256) (r := 8192 - ((2 * b + c) * 256 + 256)) (l h) (Q h) (V h) (O h) (n := 2 * b + c) (by omega) i e]

include R hg in
theorem pDv_real (h : Fin 4) (c : Fin 2) (i : Fin 256) (d : Fin 128) :
    pDv x0 x1 x3 x5 x6 x7 x8 g h c (ix2 i d) = ((dv (l h) (Q h) (K h) (O h) (512 * b + (256 * c + i)) d : ℝ) : EReal) := by
  have hb := R.lt
  unfold pDv
  show mDv _ _ _ _ _ _ (ix2 i d) = _
  rw [mDv_real (fun i j => (lDm_apply x5 h i j).trans (R.dm h i j)) (row_real R.q h c) (row_real R.k h c) (row_real R.o h c)
    (fun i d => (lXi_apply x7 h i d).trans (R.ze h i d)) (gAt_real R hg h c), tok,
    dv_chunk (C := 256) (r := 8192 - ((2 * b + c) * 256 + 256)) (l h) (Q h) (K h) (O h) (n := 2 * b + c) (by omega) i d]

include R hg in
theorem pG_real (h : Fin 4) (z : Fin 1) (a e : Fin 128) :
    pG x0 x3 x6 x8 g h (ix3 z a e) = ((back (l h) (Q h) (O h) (b * 512) a e : ℝ) : EReal) := by
  have hb := R.lt
  unfold pG
  pointwise
  rw [mG_real (row_real R.q h 0) (row_real R.o h 0) (fun i d => (lXi_apply x6 h i d).trans (R.xi h i d)) (gAt_real R hg h 0)
      (fun a e => (lGc_apply x8 h a e).trans (R.gc h 0 e)), show b * 512 = (2 * b + (0 : Fin 2).val) * 256 by simp; omega]
  exact congrArg _ (back_step (C := 256) (r := 8192 - ((2 * b + 0) * 256 + 256)) (l h) (Q h) (O h) (n := 2 * b + 0) (by omega) a e).symm

/-! ## The three blocks and the state a point leaves -/

theorem rc_emb (h : Fin 4) (c : Fin 2) (i : Fin 256) (d : Fin 128) :
    (rc h c).emb (ix2 i d) = ix2 (⟨256 * c + i, by omega⟩ : Fin 512) (⟨h * 128 + d, by omega⟩ : Fin 512) := by
  refine funext fun a => Fin.ext ?_
  fin_cases a
  · show 256 * c.val + 1 * i.val = _; rw [Nat.one_mul]; rfl
  · show 128 * h.val + 1 * d.val = _; rw [Nat.one_mul, Nat.mul_comm]; rfl

theorem canon_eight (p : (h : Fin 4) → (c : Fin 2) → FVec Ideal S256x128 .bf16) (G : S512x512.Idx → EReal)
    (hp : ∀ h c i d, p h c (ix2 i d) = G (ix2 (⟨256 * c + i, by omega⟩ : Fin 512) (⟨h * 128 + d, by omega⟩ : Fin 512))) (y : S512x512.Idx) :
    View.canon (eight p) y = G y := by
  have hq : ∀ h c (x : (rc h c).shape.Idx), p h c x = G ((rc h c).emb x) := fun h c x => by
    obtain ⟨i, d, rfl⟩ : ∃ (i : Fin 256) (d : Fin 128), x = ix2 i d := ⟨x 0, x 1, funext fun a => by fin_cases a <;> rfl⟩
    rw [hp, rc_emb]
  refine View.canon_apply_of_pieces (Val := Elt Ideal) (e := .bf16) G (eight p) ?_ y ?_
  · unfold eight
    simp only [List.forall_mem_cons]
    exact ⟨hq 3 0, hq 3 1, hq 2 0, hq 2 1, hq 1 0, hq 1 1, hq 0 0, hq 0 1, fun _ h => absurd h List.not_mem_nil⟩
  · have h0 : (y 0).val < 512 := (y 0).2
    have h1 : (y 1).val < 512 := (y 1).2
    have hm : ∀ h c, (⟨rc h c, p h c⟩ : View.Piece (Elt Ideal) S512x512 .bf16) ∈ eight p := fun h c => by
      unfold eight; fin_cases h <;> fin_cases c <;> simp
    refine ⟨_, hm ⟨(y 1).val / 128, by omega⟩ ⟨(y 0).val / 256, by omega⟩, ?_⟩
    refine (Rect.mem_set_unit (inb := in_rc _ _)).mpr fun a => ?_
    fin_cases a
    · show 256 * ((y 0).val / 256) ≤ (y 0).val ∧ (y 0).val < 256 * ((y 0).val / 256) + 256; omega
    · show 128 * ((y 1).val / 128) ≤ (y 1).val ∧ (y 1).val < 128 * ((y 1).val / 128) + 128; omega

theorem canon_four (p : Fin 4 → FVec Ideal S1x128x128 .f32) (G : S4x128x128.Idx → EReal)
    (hp : ∀ h z a e, p h (ix3 z a e) = G (ix3 h a e)) (L : List (View.Piece (Elt Ideal) S4x128x128 .f32)) (y : S4x128x128.Idx) :
    View.canon (four p ++ L) y = G y := by
  have hq : ∀ h (x : (rs h).shape.Idx), p h x = G ((rs h).emb x) := fun h x => by
    obtain ⟨z, a, e, rfl⟩ : ∃ (z : Fin 1) (a e : Fin 128), x = ix3 z a e := ⟨x 0, x 1, x 2, funext fun a => by fin_cases a <;> rfl⟩
    rw [hp]
    refine congrArg G (funext fun k => Fin.ext ?_)
    fin_cases k
    · show h.val = h.val + 1 * z.val; omega
    · show a.val = 0 + 1 * a.val; omega
    · show e.val = 0 + 1 * e.val; omega
  refine View.canon_append_of_pieces (Val := Elt Ideal) (e := .f32) G L (four p) ?_ y ?_
  · unfold four
    simp only [List.forall_mem_cons]
    exact ⟨hq 3, hq 2, hq 1, hq 0, fun _ h => absurd h List.not_mem_nil⟩
  · have h0 : (y 0).val < 4 := (y 0).2
    have h1 : (y 1).val < 128 := (y 1).2
    have h2 : (y 2).val < 128 := (y 2).2
    have hm : ∀ h, (⟨rs h, p h⟩ : View.Piece (Elt Ideal) S4x128x128 .f32) ∈ four p := fun h => by
      unfold four; fin_cases h <;> simp
    refine ⟨_, hm ⟨(y 0).val, h0⟩, ?_⟩
    refine (Rect.mem_set_unit (inb := in_rs _)).mpr fun a => ?_
    fin_cases a
    · show (y 0).val ≤ (y 0).val ∧ (y 0).val < (y 0).val + 1; omega
    · show 0 ≤ (y 1).val ∧ (y 1).val < 0 + 128; omega
    · show 0 ≤ (y 2).val ∧ (y 2).val < 0 + 128; omega
end

end Cert.KernelIdeal.Val

end
-- ==== Proof.KernVal.lean ====
/- The kernel's three results, as real numbers. -/
module

public import proofs.«01_k».proof.Proof.HostVal
public import proofs.«01_k».proof.Proof.ChunkVal

@[expose] public section

set_option maxRecDepth 16384

noncomputable section

namespace Cert.KernelIdeal.Val

open Idealize.ShloMosaic Idealize.ShloMosaic.TcCoe Idealize.ShloMosaic.StableHlo
open Cert.KernelIdeal Cert.KernelIdeal.Gen Cert.KernelIdeal.Ops Ret

variable (m : (ℓ : Loc nD τ sig) → Buf (Elt Ideal) ℓ) (c : Dev nD)

theorem lt16 (t : Fin cfg0.N) : t.val < 16 := lt_of_lt_of_eq t.2 N_0

/-! ## The blocks of the operands -/

theorem idx0 : ∀ t : Fin grid0.N, win0_0.index t 0 = 15 - t.val ∧ win0_0.index t 1 = 0 := by decide +kernel
theorem b0 (t : Fin cfg0.N) (r a : Fin 512) : (iblk m c 0 t : Vec Ideal S512x512 .bf16) (ix2 r a)
    = (H m c main_v119 : FVec Ideal S8192x512 .bf16) (ix2 (⟨512 * (15 - t.val) + r, by omega⟩ : Fin 8192) a) := by
  unfold iblk
  rw [View.read_apply]
  refine congrArg (H m c main_v119 : FVec Ideal S8192x512 .bf16) (funext fun k => Fin.ext ?_)
  fin_cases k
  · show win0_0.index t 0 * 512 + 1 * r.val = 512 * (15 - t.val) + r.val; rw [(idx0 t).1]; omega
  · show win0_0.index t 1 * 512 + 1 * a.val = a.val; rw [(idx0 t).2]; omega
theorem idx1 : ∀ t : Fin grid0.N, win0_1.index t 0 = 15 - t.val ∧ win0_1.index t 1 = 0 := by decide +kernel
theorem b1 (t : Fin cfg0.N) (r a : Fin 512) : (iblk m c 1 t : Vec Ideal S512x512 .bf16) (ix2 r a)
    = (H m c main_v120 : FVec Ideal S8192x512 .bf16) (ix2 (⟨512 * (15 - t.val) + r, by omega⟩ : Fin 8192) a) := by
  unfold iblk
  rw [View.read_apply]
  refine congrArg (H m c main_v120 : FVec Ideal S8192x512 .bf16) (funext fun k => Fin.ext ?_)
  fin_cases k
  · show win0_1.index t 0 * 512 + 1 * r.val = 512 * (15 - t.val) + r.val; rw [(idx1 t).1]; omega
  · show win0_1.index t 1 * 512 + 1 * a.val = a.val; rw [(idx1 t).2]; omega
theorem idx2 : ∀ t : Fin grid0.N, win0_2.index t 0 = 15 - t.val ∧ win0_2.index t 1 = 0 := by decide +kernel
theorem b2 (t : Fin cfg0.N) (r a : Fin 512) : (iblk m c 2 t : Vec Ideal S512x512 .bf16) (ix2 r a)
    = (H m c main_v121 : FVec Ideal S8192x512 .bf16) (ix2 (⟨512 * (15 - t.val) + r, by omega⟩ : Fin 8192) a) := by
  unfold iblk
  rw [View.read_apply]
  refine congrArg (H m c main_v121 : FVec Ideal S8192x512 .bf16) (funext fun k => Fin.ext ?_)
  fin_cases k
  · show win0_2.index t 0 * 512 + 1 * r.val = 512 * (15 - t.val) + r.val; rw [(idx2 t).1]; omega
  · show win0_2.index t 1 * 512 + 1 * a.val = a.val; rw [(idx2 t).2]; omega
theorem idx3 : ∀ t : Fin grid0.N, win0_3.index t 0 = 15 - t.val ∧ win0_3.index t 1 = 0 := by decide +kernel
theorem b3 (t : Fin cfg0.N) (r a : Fin 512) : (iblk m c 3 t : Vec Ideal S512x512 .bf16) (ix2 r a)
    = (H m c main_v122 : FVec Ideal S8192x512 .bf16) (ix2 (⟨512 * (15 - t.val) + r, by omega⟩ : Fin 8192) a) := by
  unfold iblk
  rw [View.read_apply]
  refine congrArg (H m c main_v122 : FVec Ideal S8192x512 .bf16) (funext fun k => Fin.ext ?_)
  fin_cases k
  · show win0_3.index t 0 * 512 + 1 * r.val = 512 * (15 - t.val) + r.val; rw [(idx3 t).1]; omega
  · show win0_3.index t 1 * 512 + 1 * a.val = a.val; rw [(idx3 t).2]; omega
theorem idx4 : ∀ t : Fin grid0.N, win0_4.index t 0 = 0 ∧ win0_4.index t 1 = 15 - t.val ∧ win0_4.index t 2 = 0 ∧ win0_4.index t 3 = 0 := by decide +kernel
theorem b4 (t : Fin cfg0.N) (h : Fin 4) (n : Fin 2) (a b : Fin 128) : (iblk m c 4 t : Vec Ideal S4x2x128x128 .f32) (ix4 h n a b)
    = (H m c main_v118 : FVec Ideal S4x32x128x128 .f32) (ix4 h (⟨2 * (15 - t.val) + n, by omega⟩ : Fin 32) a b) := by
  unfold iblk
  rw [View.read_apply]
  refine congrArg (H m c main_v118 : FVec Ideal S4x32x128x128 .f32) (funext fun k => Fin.ext ?_)
  fin_cases k
  · show win0_4.index t 0 * 4 + 1 * h.val = h.val; rw [(idx4 t).1]; omega
  · show win0_4.index t 1 * 2 + 1 * n.val = 2 * (15 - t.val) + n.val; rw [(idx4 t).2.1]; omega
  · show win0_4.index t 2 * 128 + 1 * a.val = a.val; rw [(idx4 t).2.2.1]; omega
  · show win0_4.index t 3 * 128 + 1 * b.val = b.val; rw [(idx4 t).2.2.2]; omega
theorem idx5 : ∀ t : Fin grid0.N, win0_5.index t 0 = 0 ∧ win0_5.index t 1 = 0 ∧ win0_5.index t 2 = 0 := by decide +kernel
theorem b5 (t : Fin cfg0.N) (h : Fin 4) (a : Fin 256) (b : Fin 256) : (iblk m c 5 t : Vec Ideal S4x256x256 .f32) (ix3 h a b)
    = (H m c main_v145 : FVec Ideal S4x256x256 .f32) (ix3 h a b) := by
  unfold iblk
  rw [View.read_apply]
  refine congrArg (H m c main_v145 : FVec Ideal S4x256x256 .f32) (funext fun k => Fin.ext ?_)
  fin_cases k
  · show win0_5.index t 0 * 4 + 1 * h.val = h.val; rw [(idx5 t).1]; omega
  · show win0_5.index t 1 * 256 + 1 * a.val = a.val; rw [(idx5 t).2.1]; omega
  · show win0_5.index t 2 * 256 + 1 * b.val = b.val; rw [(idx5 t).2.2]; omega
theorem idx6 : ∀ t : Fin grid0.N, win0_6.index t 0 = 0 ∧ win0_6.index t 1 = 0 ∧ win0_6.index t 2 = 0 := by decide +kernel
theorem b6 (t : Fin cfg0.N) (h : Fin 4) (a : Fin 256) (b : Fin 128) : (iblk m c 6 t : Vec Ideal S4x256x128 .f32) (ix3 h a b)
    = (H m c main_v168 : FVec Ideal S4x256x128 .f32) (ix3 h a b) := by
  unfold iblk
  rw [View.read_apply]
  refine congrArg (H m c main_v168 : FVec Ideal S4x256x128 .f32) (funext fun k => Fin.ext ?_)
  fin_cases k
  · show win0_6.index t 0 * 4 + 1 * h.val = h.val; rw [(idx6 t).1]; omega
  · show win0_6.index t 1 * 256 + 1 * a.val = a.val; rw [(idx6 t).2.1]; omega
  · show win0_6.index t 2 * 128 + 1 * b.val = b.val; rw [(idx6 t).2.2]; omega
theorem idx7 : ∀ t : Fin grid0.N, win0_7.index t 0 = 0 ∧ win0_7.index t 1 = 0 ∧ win0_7.index t 2 = 0 := by decide +kernel
theorem b7 (t : Fin cfg0.N) (h : Fin 4) (a : Fin 256) (b : Fin 128) : (iblk m c 7 t : Vec Ideal S4x256x128 .f32) (ix3 h a b)
    = (H m c main_v170 : FVec Ideal S4x256x128 .f32) (ix3 h a b) := by
  unfold iblk
  rw [View.read_apply]
  refine congrArg (H m c main_v170 : FVec Ideal S4x256x128 .f32) (funext fun k => Fin.ext ?_)
  fin_cases k
  · show win0_7.index t 0 * 4 + 1 * h.val = h.val; rw [(idx7 t).1]; omega
  · show win0_7.index t 1 * 256 + 1 * a.val = a.val; rw [(idx7 t).2.1]; omega
  · show win0_7.index t 2 * 128 + 1 * b.val = b.val; rw [(idx7 t).2.2]; omega
theorem idx8 : ∀ t : Fin grid0.N, win0_8.index t 0 = 0 ∧ win0_8.index t 1 = 0 ∧ win0_8.index t 2 = 0 := by decide +kernel
theorem b8 (t : Fin cfg0.N) (h : Fin 4) (a : Fin 8) (b : Fin 128) : (iblk m c 8 t : Vec Ideal S4x8x128 .f32) (ix3 h a b)
    = (H m c main_v166 : FVec Ideal S4x8x128 .f32) (ix3 h a b) := by
  unfold iblk
  rw [View.read_apply]
  refine congrArg (H m c main_v166 : FVec Ideal S4x8x128 .f32) (funext fun k => Fin.ext ?_)
  fin_cases k
  · show win0_8.index t 0 * 4 + 1 * h.val = h.val; rw [(idx8 t).1]; omega
  · show win0_8.index t 1 * 8 + 1 * a.val = a.val; rw [(idx8 t).2.1]; omega
  · show win0_8.index t 2 * 128 + 1 * b.val = b.val; rw [(idx8 t).2.2]; omega
theorem idx9 : ∀ t : Fin grid0.N, win0_9.index t 0 = 15 - t.val ∧ win0_9.index t 1 = 0 := by decide +kernel
theorem b9 (t : Fin cfg0.N) (r : Fin 512) (a : Fin 128) : (iblk m c 9 t : Vec Ideal S512x128 .f32) (ix2 r a)
    = (H m c main_v14 : FVec Ideal S8192x128 .f32) (ix2 (⟨512 * (15 - t.val) + r, by omega⟩ : Fin 8192) a) := by
  unfold iblk
  rw [View.read_apply]
  refine congrArg (H m c main_v14 : FVec Ideal S8192x128 .f32) (funext fun k => Fin.ext ?_)
  fin_cases k
  · show win0_9.index t 0 * 512 + 1 * r.val = 512 * (15 - t.val) + r.val; rw [(idx9 t).1]; omega
  · show win0_9.index t 1 * 128 + 1 * a.val = a.val; rw [(idx9 t).2]; omega
theorem idx10 : ∀ t : Fin grid0.N, win0_10.index t 0 = 15 - t.val ∧ win0_10.index t 1 = 0 := by decide +kernel
theorem b10 (t : Fin cfg0.N) (r : Fin 512) (a : Fin 128) : (iblk m c 10 t : Vec Ideal S512x128 .f32) (ix2 r a)
    = (H m c main_v16 : FVec Ideal S8192x128 .f32) (ix2 (⟨512 * (15 - t.val) + r, by omega⟩ : Fin 8192) a) := by
  unfold iblk
  rw [View.read_apply]
  refine congrArg (H m c main_v16 : FVec Ideal S8192x128 .f32) (funext fun k => Fin.ext ?_)
  fin_cases k
  · show win0_10.index t 0 * 512 + 1 * r.val = 512 * (15 - t.val) + r.val; rw [(idx10 t).1]; omega
  · show win0_10.index t 1 * 128 + 1 * a.val = a.val; rw [(idx10 t).2]; omega

section
variable (h0 : AllReal (A0 m c)) (h1 : AllReal (A1 m c)) (h2 : AllReal (A2 m c)) (h3 : AllReal (A3 m c))
include h0 h1 h2 h3

theorem reads (t : Fin cfg0.N) : Reads lg (q m c) (k m c) (v m c) (o m c) (15 - t.val) (iblk m c 0 t) (iblk m c 1 t) (iblk m c 2 t) (iblk m c 3 t) (iblk m c 4 t)
    (iblk m c 5 t) (iblk m c 6 t) (iblk m c 7 t) (iblk m c 8 t) (iblk m c 9 t) (iblk m c 10 t) where
  lt := by omega
  q r h d := (b0 m c t r _).trans (h119 m c h0 _ h d)
  k r h d := (b1 m c t r _).trans (h120 m c h1 _ h d)
  v r h d := (b2 m c t r _).trans (h121 m c h2 _ h d)
  o r h d := (b3 m c t r _).trans (h122 m c h3 _ h d)
  st h n a b := (b4 m c t h n a b).trans (h118 m c h1 h2 h _ a b)
  dm h i j := (b5 m c t h i j).trans (h145 m c h i j)
  xi h i d := (b6 m c t h i d).trans (h168 m c h i d)
  ze h j d := (b7 m c t h j d).trans (h170 m c h j d)
  gc h y d := (b8 m c t h y d).trans (h166 m c h y d)
  cs r d := (b9 m c t r d).trans (h14 m c _ d)
  sn r d := (b10 m c t r d).trans (h16 m c _ d)

/-! ## The points, one after another -/

omit h0 h1 h2 h3
/-- What the point before left of the state's gradient. -/
abbrev gB (t : Fin cfg0.N) : Vec Ideal S4x128x128 .f32 := (outsAt0 m c (t.val - 1) (by omega)).2.2.2
/-- What the first point starts from. -/
abbrev gA : Vec Ideal S4x128x128 .f32 := k0_pay5 (F := Ideal)
abbrev PT := Vec Ideal S512x512 .bf16 × Vec Ideal S512x512 .bf16 × Vec Ideal S512x512 .bf16 × Vec Ideal S4x128x128 .f32

def out1 (t : Fin cfg0.N)  : S512x512.Idx → EReal := View.canon (eight (pDq (iblk m c 1 t) (iblk m c 2 t) (iblk m c 3 t) (iblk m c 4 t) (iblk m c 5 t) (iblk m c 6 t) (iblk m c 9 t) (iblk m c 10 t)))
def out2 (t : Fin cfg0.N) (g : Vec Ideal S4x128x128 .f32) : S512x512.Idx → EReal := View.canon (eight (pDk (iblk m c 0 t) (iblk m c 2 t) (iblk m c 3 t) (iblk m c 5 t) (iblk m c 6 t) (iblk m c 7 t) (iblk m c 8 t) (iblk m c 9 t) (iblk m c 10 t) g))
def out3 (t : Fin cfg0.N) (g : Vec Ideal S4x128x128 .f32) : S512x512.Idx → EReal := View.canon (eight (pDv (iblk m c 0 t) (iblk m c 1 t) (iblk m c 3 t) (iblk m c 5 t) (iblk m c 6 t) (iblk m c 7 t) (iblk m c 8 t) g))
def out4 (t : Fin cfg0.N) (g : Vec Ideal S4x128x128 .f32) (L : List (View.Piece (Elt Ideal) S4x128x128 .f32)) : S4x128x128.Idx → EReal :=
  View.canon (four (pG (iblk m c 0 t) (iblk m c 3 t) (iblk m c 6 t) (iblk m c 8 t) g) ++ L)

theorem atA1 (t : Fin cfg0.N) (h0 : t.val % 16 = 0) : (outsAt0 m c t.val t.isLt).1 = out1 m c t :=
  (congrArg Prod.fst (outsAt0_A m c t h0)).trans (out0_A_11_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t))
theorem atA2 (t : Fin cfg0.N) (h0 : t.val % 16 = 0) : (outsAt0 m c t.val t.isLt).2.1 = out2 m c t gA :=
  (congrArg (fun p : PT => p.2.1) (outsAt0_A m c t h0)).trans (out0_A_12_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t))
theorem atA3 (t : Fin cfg0.N) (h0 : t.val % 16 = 0) : (outsAt0 m c t.val t.isLt).2.2.1 = out3 m c t gA :=
  (congrArg (fun p : PT => p.2.2.1) (outsAt0_A m c t h0)).trans (out0_A_13_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t))
theorem atA4 (t : Fin cfg0.N) (h0 : t.val % 16 = 0) : (outsAt0 m c t.val t.isLt).2.2.2 = out4 m c t gA zeroed := by
  have e := congrArg (fun p : PT => p.2.2.2) (outsAt0_A m c t h0)
  dsimp only at e
  exact e.trans (sout0_A_0_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t))
theorem atB1 (t : Fin cfg0.N) (h0 : ¬t.val % 16 = 0) : (outsAt0 m c t.val t.isLt).1 = out1 m c t :=
  (congrArg Prod.fst (outsAt0_B m c t h0)).trans (out0_B_11_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.2.2)
theorem atB2 (t : Fin cfg0.N) (h0 : ¬t.val % 16 = 0) : (outsAt0 m c t.val t.isLt).2.1 = out2 m c t (gB m c t) :=
  (congrArg (fun p : PT => p.2.1) (outsAt0_B m c t h0)).trans (out0_B_12_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.2.2)
theorem atB3 (t : Fin cfg0.N) (h0 : ¬t.val % 16 = 0) : (outsAt0 m c t.val t.isLt).2.2.1 = out3 m c t (gB m c t) :=
  (congrArg (fun p : PT => p.2.2.1) (outsAt0_B m c t h0)).trans (out0_B_13_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.2.2)
theorem atB4 (t : Fin cfg0.N) (h0 : ¬t.val % 16 = 0) : (outsAt0 m c t.val t.isLt).2.2.2 = out4 m c t (gB m c t) [] :=
  (congrArg (fun p : PT => p.2.2.2) (outsAt0_B m c t h0)).trans (sout0_B_0_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.2.2)

include h0 h1 h2 h3
theorem out4_real (t : Fin cfg0.N) (g : Vec Ideal S4x128x128 .f32) (L : List (View.Piece (Elt Ideal) S4x128x128 .f32))
    (hg : ∀ (h : Fin 4) (a e : Fin 128), g (ix3 h a e) = ((back (lg h) (q m c h) (o m c h) ((15 - t.val + 1) * 512) a e : ℝ) : EReal))
    (h : Fin 4) (a e : Fin 128) : out4 m c t g L (ix3 h a e) = ((back (lg h) (q m c h) (o m c h) ((15 - t.val) * 512) a e : ℝ) : EReal) := by
  have := canon_four (pG (iblk m c 0 t) (iblk m c 3 t) (iblk m c 6 t) (iblk m c 8 t) g)
    (fun y => ((back (lg (y 0)) (q m c (y 0)) (o m c (y 0)) ((15 - t.val) * 512) (y 1) (y 2) : ℝ) : EReal))
    (fun h z a e => pG_real (reads m c h0 h1 h2 h3 t) hg h z a e) L (ix3 h a e)
  exact this

omit h0 h1 h2 h3 in
theorem gA_real (h : Fin 4) (a e : Fin 128) : gA (ix3 h a e) = ((back (lg h) (q m c h) (o m c h) 8192 a e : ℝ) : EReal) := by
  rw [back_end]
  unfold gA k0_pay5
  rw [shapeCast_self]
  exact Ideal.ofBits_zero .f32

theorem left : ∀ (n : ℕ) (hn : n < cfg0.N) (h : Fin 4) (a e : Fin 128),
    (outsAt0 m c n hn).2.2.2 (ix3 h a e) = ((back (lg h) (q m c h) (o m c h) ((15 - n) * 512) a e : ℝ) : EReal)
  | 0, hn => fun h a e => (congrFun (atA4 m c ⟨0, hn⟩ rfl) _).trans (out4_real m c h0 h1 h2 h3 ⟨0, hn⟩ gA _ (gA_real m c) h a e)
  | n + 1, hn => fun h a e => by
    have hN := lt16 ⟨n + 1, hn⟩
    dsimp only at hN
    have hB : ¬(⟨n + 1, hn⟩ : Fin cfg0.N).val % 16 = 0 := by dsimp only; omega
    refine (congrFun (atB4 m c ⟨n + 1, hn⟩ hB) _).trans (out4_real m c h0 h1 h2 h3 ⟨n + 1, hn⟩ _ _ (fun h a e => ?_) h a e)
    rw [show (15 - (⟨n + 1, hn⟩ : Fin cfg0.N).val + 1) = 15 - n by dsimp only; omega]
    exact left n (Nat.lt_of_succ_lt hn) h a e

theorem point (t : Fin cfg0.N) : ∃ g : Vec Ideal S4x128x128 .f32,
    (∀ (h : Fin 4) (a e : Fin 128), g (ix3 h a e) = ((back (lg h) (q m c h) (o m c h) ((15 - t.val + 1) * 512) a e : ℝ) : EReal))
    ∧ (outsAt0 m c t.val t.isLt).1 = out1 m c t ∧ (outsAt0 m c t.val t.isLt).2.1 = out2 m c t g ∧ (outsAt0 m c t.val t.isLt).2.2.1 = out3 m c t g := by
  have hN := lt16 t
  by_cases h : t.val % 16 = 0
  · refine ⟨gA, fun k a e => ?_, atA1 m c t h, atA2 m c t h, atA3 m c t h⟩
    rw [show (15 - t.val + 1) * 512 = 8192 by omega]
    exact gA_real m c k a e
  · refine ⟨gB m c t, fun k a e => ?_, atB1 m c t h, atB2 m c t h, atB3 m c t h⟩
    rw [show 15 - t.val + 1 = 15 - (t.val - 1) by omega]
    exact left m c h0 h1 h2 h3 (t.val - 1) _ k a e

/-! ## The results -/

omit h0 h1 h2 h3 in
theorem idx11 : ∀ t : Fin grid0.N, win0_11.index t 0 = 15 - t.val ∧ win0_11.index t 1 = 0 := by decide +kernel
/-- The gradient of the queries, at token `t`, head `h`, entry `d`. -/
def dqR (t : ℕ) (h : Fin 4) (d : Fin 128) : ℝ := unrot t (dq (lg h) (k m c h) (v m c h) (o m c h) t) d
/-- … as the array of the whole sequence. -/
def dqRV : FVec Ideal S8192x512 .bf16 := fun y =>
  ((dqR m c (y 0).val ⟨(y 1).val / 128, by have : (y 1).val < 512 := (y 1).2; omega⟩ ⟨(y 1).val % 128, by omega⟩ : ℝ) : EReal)
theorem flushed11 (t : Fin cfg0.N) : (dats m 0 c).flushed 11 t = ((cfg0.win 11).blk t).view.read (Elt Ideal) (dqRV m c) := by
  obtain ⟨g, hg, e1, e2, e3⟩ := point m c h0 h1 h2 h3 t
  rw [Value.flushed11, e1]
  funext y
  rw [View.read_apply]
  have ht := lt16 t
  show View.canon (eight _) y = dqRV m c (((cfg0.win 11).blk t).view.emb y)
  refine canon_eight _ (fun y : S512x512.Idx => dqRV m c (((cfg0.win 11).blk t).view.emb y)) (fun h n i d => ?_) y
  refine (pDq_real (reads m c h0 h1 h2 h3 t) h n i d).trans ?_
  have hy : ((cfg0.win 11).blk t).view.emb (ix2 (⟨256 * n + i, by omega⟩ : Fin 512) (⟨h * 128 + d, by omega⟩ : Fin 512))
      = (ix2 (⟨512 * (15 - t.val) + (256 * n + i), by omega⟩ : Fin 8192) (⟨h * 128 + d, by omega⟩ : Fin 512) : S8192x512.Idx) := by
    refine funext fun k => Fin.ext ?_
    fin_cases k
    · show win0_11.index t 0 * 512 + 1 * (256 * n.val + i.val) = 512 * (15 - t.val) + (256 * n.val + i.val); rw [(idx11 t).1]; omega
    · show win0_11.index t 1 * 512 + 1 * (h.val * 128 + d.val) = h.val * 128 + d.val; rw [(idx11 t).2]; omega
  refine Eq.trans ?_ (congrArg (dqRV m c) hy).symm
  show ((dqR m c _ h d : ℝ) : EReal) = ((dqR m c _ ⟨(h.val * 128 + d.val) / 128, _⟩ ⟨(h.val * 128 + d.val) % 128, _⟩ : ℝ) : EReal)
  rw [show (⟨(h.val * 128 + d.val) / 128, by omega⟩ : Fin 4) = h from Fin.ext (by dsimp only; omega),
    show (⟨(h.val * 128 + d.val) % 128, by omega⟩ : Fin 128) = d from Fin.ext (by dsimp only; omega)]
  rfl
theorem result11 : (dats m 0 c).arrAt 11 cfg0.N = dqRV m c := by
  refine (dats m 0 c).arrAt_eq_of_cover 11 (dqRV m c) (fun t _ => flushed11 m c h0 h1 h2 h3 t) fun y => ?_
  have hy0 : (y 0).val < 8192 := (y 0).2
  have hy1 : (y 1).val < 512 := (y 1).2
  refine ⟨⟨15 - (y 0).val / 512, lt_of_lt_of_eq (by omega) N_0.symm⟩, flush0_11 _, ?_⟩
  refine Finset.mem_map.mpr ⟨(ix2 (⟨(y 0).val % 512, by omega⟩ : Fin 512) (⟨(y 1).val, hy1⟩ : Fin 512) : S512x512.Idx), Finset.mem_univ _, ?_⟩
  refine funext fun k => Fin.ext ?_
  fin_cases k
  · show win0_11.index _ 0 * 512 + 1 * ((y 0).val % 512) = (y 0).val; rw [(idx11 _).1]; dsimp only; omega
  · show win0_11.index _ 1 * 512 + 1 * (y 1).val = (y 1).val; rw [(idx11 _).2]; omega

omit h0 h1 h2 h3 in
theorem idx12 : ∀ t : Fin grid0.N, win0_12.index t 0 = 15 - t.val ∧ win0_12.index t 1 = 0 := by decide +kernel
/-- The gradient of the keys, at token `t`, head `h`, entry `d`. -/
def dkR (t : ℕ) (h : Fin 4) (d : Fin 128) : ℝ := unrot t (fun d => dk (lg h) (q m c h) (v m c h) (o m c h) t d * sc) d
/-- … as the array of the whole sequence. -/
def dkRV : FVec Ideal S8192x512 .bf16 := fun y =>
  ((dkR m c (y 0).val ⟨(y 1).val / 128, by have : (y 1).val < 512 := (y 1).2; omega⟩ ⟨(y 1).val % 128, by omega⟩ : ℝ) : EReal)
theorem flushed12 (t : Fin cfg0.N) : (dats m 0 c).flushed 12 t = ((cfg0.win 12).blk t).view.read (Elt Ideal) (dkRV m c) := by
  obtain ⟨g, hg, e1, e2, e3⟩ := point m c h0 h1 h2 h3 t
  rw [Value.flushed12, e2]
  funext y
  rw [View.read_apply]
  have ht := lt16 t
  show View.canon (eight _) y = dkRV m c (((cfg0.win 12).blk t).view.emb y)
  refine canon_eight _ (fun y : S512x512.Idx => dkRV m c (((cfg0.win 12).blk t).view.emb y)) (fun h n i d => ?_) y
  refine (pDk_real (reads m c h0 h1 h2 h3 t) hg h n i d).trans ?_
  have hy : ((cfg0.win 12).blk t).view.emb (ix2 (⟨256 * n + i, by omega⟩ : Fin 512) (⟨h * 128 + d, by omega⟩ : Fin 512))
      = (ix2 (⟨512 * (15 - t.val) + (256 * n + i), by omega⟩ : Fin 8192) (⟨h * 128 + d, by omega⟩ : Fin 512) : S8192x512.Idx) := by
    refine funext fun k => Fin.ext ?_
    fin_cases k
    · show win0_12.index t 0 * 512 + 1 * (256 * n.val + i.val) = 512 * (15 - t.val) + (256 * n.val + i.val); rw [(idx12 t).1]; omega
    · show win0_12.index t 1 * 512 + 1 * (h.val * 128 + d.val) = h.val * 128 + d.val; rw [(idx12 t).2]; omega
  refine Eq.trans ?_ (congrArg (dkRV m c) hy).symm
  show ((dkR m c _ h d : ℝ) : EReal) = ((dkR m c _ ⟨(h.val * 128 + d.val) / 128, _⟩ ⟨(h.val * 128 + d.val) % 128, _⟩ : ℝ) : EReal)
  rw [show (⟨(h.val * 128 + d.val) / 128, by omega⟩ : Fin 4) = h from Fin.ext (by dsimp only; omega),
    show (⟨(h.val * 128 + d.val) % 128, by omega⟩ : Fin 128) = d from Fin.ext (by dsimp only; omega)]
  rfl
theorem result12 : (dats m 0 c).arrAt 12 cfg0.N = dkRV m c := by
  refine (dats m 0 c).arrAt_eq_of_cover 12 (dkRV m c) (fun t _ => flushed12 m c h0 h1 h2 h3 t) fun y => ?_
  have hy0 : (y 0).val < 8192 := (y 0).2
  have hy1 : (y 1).val < 512 := (y 1).2
  refine ⟨⟨15 - (y 0).val / 512, lt_of_lt_of_eq (by omega) N_0.symm⟩, flush0_12 _, ?_⟩
  refine Finset.mem_map.mpr ⟨(ix2 (⟨(y 0).val % 512, by omega⟩ : Fin 512) (⟨(y 1).val, hy1⟩ : Fin 512) : S512x512.Idx), Finset.mem_univ _, ?_⟩
  refine funext fun k => Fin.ext ?_
  fin_cases k
  · show win0_12.index _ 0 * 512 + 1 * ((y 0).val % 512) = (y 0).val; rw [(idx12 _).1]; dsimp only; omega
  · show win0_12.index _ 1 * 512 + 1 * (y 1).val = (y 1).val; rw [(idx12 _).2]; omega

omit h0 h1 h2 h3 in
theorem idx13 : ∀ t : Fin grid0.N, win0_13.index t 0 = 15 - t.val ∧ win0_13.index t 1 = 0 := by decide +kernel
/-- The gradient of the values, at token `t`, head `h`, entry `d`. -/
def dvR (t : ℕ) (h : Fin 4) (d : Fin 128) : ℝ := dv (lg h) (q m c h) (k m c h) (o m c h) t d
/-- … as the array of the whole sequence. -/
def dvRV : FVec Ideal S8192x512 .bf16 := fun y =>
  ((dvR m c (y 0).val ⟨(y 1).val / 128, by have : (y 1).val < 512 := (y 1).2; omega⟩ ⟨(y 1).val % 128, by omega⟩ : ℝ) : EReal)
theorem flushed13 (t : Fin cfg0.N) : (dats m 0 c).flushed 13 t = ((cfg0.win 13).blk t).view.read (Elt Ideal) (dvRV m c) := by
  obtain ⟨g, hg, e1, e2, e3⟩ := point m c h0 h1 h2 h3 t
  rw [Value.flushed13, e3]
  funext y
  rw [View.read_apply]
  have ht := lt16 t
  show View.canon (eight _) y = dvRV m c (((cfg0.win 13).blk t).view.emb y)
  refine canon_eight _ (fun y : S512x512.Idx => dvRV m c (((cfg0.win 13).blk t).view.emb y)) (fun h n i d => ?_) y
  refine (pDv_real (reads m c h0 h1 h2 h3 t) hg h n i d).trans ?_
  have hy : ((cfg0.win 13).blk t).view.emb (ix2 (⟨256 * n + i, by omega⟩ : Fin 512) (⟨h * 128 + d, by omega⟩ : Fin 512))
      = (ix2 (⟨512 * (15 - t.val) + (256 * n + i), by omega⟩ : Fin 8192) (⟨h * 128 + d, by omega⟩ : Fin 512) : S8192x512.Idx) := by
    refine funext fun k => Fin.ext ?_
    fin_cases k
    · show win0_13.index t 0 * 512 + 1 * (256 * n.val + i.val) = 512 * (15 - t.val) + (256 * n.val + i.val); rw [(idx13 t).1]; omega
    · show win0_13.index t 1 * 512 + 1 * (h.val * 128 + d.val) = h.val * 128 + d.val; rw [(idx13 t).2]; omega
  refine Eq.trans ?_ (congrArg (dvRV m c) hy).symm
  show ((dvR m c _ h d : ℝ) : EReal) = ((dvR m c _ ⟨(h.val * 128 + d.val) / 128, _⟩ ⟨(h.val * 128 + d.val) % 128, _⟩ : ℝ) : EReal)
  rw [show (⟨(h.val * 128 + d.val) / 128, by omega⟩ : Fin 4) = h from Fin.ext (by dsimp only; omega),
    show (⟨(h.val * 128 + d.val) % 128, by omega⟩ : Fin 128) = d from Fin.ext (by dsimp only; omega)]
  rfl
theorem result13 : (dats m 0 c).arrAt 13 cfg0.N = dvRV m c := by
  refine (dats m 0 c).arrAt_eq_of_cover 13 (dvRV m c) (fun t _ => flushed13 m c h0 h1 h2 h3 t) fun y => ?_
  have hy0 : (y 0).val < 8192 := (y 0).2
  have hy1 : (y 1).val < 512 := (y 1).2
  refine ⟨⟨15 - (y 0).val / 512, lt_of_lt_of_eq (by omega) N_0.symm⟩, flush0_13 _, ?_⟩
  refine Finset.mem_map.mpr ⟨(ix2 (⟨(y 0).val % 512, by omega⟩ : Fin 512) (⟨(y 1).val, hy1⟩ : Fin 512) : S512x512.Idx), Finset.mem_univ _, ?_⟩
  refine funext fun k => Fin.ext ?_
  fin_cases k
  · show win0_13.index _ 0 * 512 + 1 * ((y 0).val % 512) = (y 0).val; rw [(idx13 _).1]; dsimp only; omega
  · show win0_13.index _ 1 * 512 + 1 * (y 1).val = (y 1).val; rw [(idx13 _).2]; omega

end

end Cert.KernelIdeal.Val

end
-- ==== Proof.RefOps.lean ====
/- The reference program's host operations in order, cut at its windows, its calls and its two loops, and the program as
   the chain of these stretches. -/
module

public import proofs.«01_k».proof.Proof.Gen.ReferenceIdeal
public import Idealize.ShloMosaic.Lib.Pipeline.Regions
public import Idealize.ShloMosaic.Lib.StableHlo.RunLoop

@[expose] public section

set_option maxRecDepth 4096

noncomputable section

namespace Cert.ReferenceIdeal.Ops

open Idealize.ShloMosaic Idealize.ShloMosaic.TcCoe Idealize.ShloMosaic.StableHlo
open Idealize.SL Idealize.SL.RA Idealize.SL.BI
open scoped Idealize.SL.BI
open Idealize.SL.BI.BIBase Idealize.SL.Sem
open Cert.ReferenceIdeal Cert.ReferenceIdeal.Gen

variable {F : FTy → Type} [FloatOps F]

/-- The contents of an array of floats. -/
abbrev C (F : FTy → Type) (s : Shape) : Type := (⟨s, .f32⟩ : BufTy).Contents (Elt F)

set_option maxHeartbeats 40000000 in
abbrev part0a : List (HloOp τ sig (Elt F)) :=
  [ reshape main_arg0 main_v0 (rfl : (.f32 : EltTy) = .f32) shapeCasts_S8192x512_S1x8192x4x128,
    nullary main_v1 (sitofp .f32 (iotaInDim S64 32 0)),
    unary main_v1 main_v2 (Host.negf : C F S64 → C F S64),
    nullary main_cst (constant S_ .f32 0x42800000#32),
    unary main_cst main_v3 (broadcastInDim S64 ![] bcast_S_S64 : C F S_ → C F S64),
    binary main_v2 main_v3 main_v4 (Host.divf : C F S64 → C F S64 → C F S64),
    nullary main_cst_0 (constant S_ .f32 0x461C4000#32),
    unary main_cst_0 main_v5 (broadcastInDim S64 ![] bcast_S_S64 : C F S_ → C F S64),
    binary main_v5 main_v4 main_v6 (Host.powf : C F S64 → C F S64 → C F S64),
    nullary main_v7 (sitofp .f32 (iotaInDim S8192 32 0)),
    unary main_v7 main_v8 (broadcastInDim S8192x1 ![0] bcast_S8192_S8192x1_0 : C F S8192 → C F S8192x1),
    unary main_v6 main_v9 (broadcastInDim S1x64 ![1] bcast_S64_S1x64_1 : C F S64 → C F S1x64),
    unary main_v8 main_v10 (broadcastInDim S8192x64 ![0, 1] bcast_S8192x1_S8192x64_0_1 : C F S8192x1 → C F S8192x64),
    unary main_v9 main_v11 (broadcastInDim S8192x64 ![0, 1] bcast_S1x64_S8192x64_0_1 : C F S1x64 → C F S8192x64),
    binary main_v10 main_v11 main_v12 (mulf : C F S8192x64 → C F S8192x64 → C F S8192x64),
    unary main_v12 main_v13 (Host.cos : C F S8192x64 → C F S8192x64),
    unary main_v13 main_v14 (broadcastInDim S1x8192x1x64 ![1, 3] bcast_S8192x64_S1x8192x1x64_1_3 : C F S8192x64 → C F S1x8192x1x64),
    unary main_v12 main_v15 (Host.sin : C F S8192x64 → C F S8192x64),
    unary main_v15 main_v16 (broadcastInDim S1x8192x1x64 ![1, 3] bcast_S8192x64_S1x8192x1x64_1_3 : C F S8192x64 → C F S1x8192x1x64),
    unary main_v0 main_v17 ((extractStridedSlice S1x8192x4x64 ![0, 0, 0, 0] · slices_S1x8192x4x128_S1x8192x4x64_0_0_0_0) : C F S1x8192x4x128 → C F S1x8192x4x64),
    unary main_v0 main_v18 ((extractStridedSlice S1x8192x4x64 ![0, 0, 0, 64] · slices_S1x8192x4x128_S1x8192x4x64_0_0_0_64) : C F S1x8192x4x128 → C F S1x8192x4x64),
    unary main_v14 main_v19 (broadcastInDim S1x8192x4x64 ![0, 1, 2, 3] bcast_S1x8192x1x64_S1x8192x4x64_0_1_2_3 : C F S1x8192x1x64 → C F S1x8192x4x64),
    binary main_v17 main_v19 main_v20 (mulf : C F S1x8192x4x64 → C F S1x8192x4x64 → C F S1x8192x4x64),
    unary main_v16 main_v21 (broadcastInDim S1x8192x4x64 ![0, 1, 2, 3] bcast_S1x8192x1x64_S1x8192x4x64_0_1_2_3 : C F S1x8192x1x64 → C F S1x8192x4x64),
    binary main_v18 main_v21 main_v22 (mulf : C F S1x8192x4x64 → C F S1x8192x4x64 → C F S1x8192x4x64),
    binary main_v20 main_v22 main_v23 (subf : C F S1x8192x4x64 → C F S1x8192x4x64 → C F S1x8192x4x64),
    unary main_v16 main_v24 (broadcastInDim S1x8192x4x64 ![0, 1, 2, 3] bcast_S1x8192x1x64_S1x8192x4x64_0_1_2_3 : C F S1x8192x1x64 → C F S1x8192x4x64),
    binary main_v17 main_v24 main_v25 (mulf : C F S1x8192x4x64 → C F S1x8192x4x64 → C F S1x8192x4x64),
    unary main_v14 main_v26 (broadcastInDim S1x8192x4x64 ![0, 1, 2, 3] bcast_S1x8192x1x64_S1x8192x4x64_0_1_2_3 : C F S1x8192x1x64 → C F S1x8192x4x64),
    binary main_v18 main_v26 main_v27 (mulf : C F S1x8192x4x64 → C F S1x8192x4x64 → C F S1x8192x4x64),
    binary main_v25 main_v27 main_v28 (addf : C F S1x8192x4x64 → C F S1x8192x4x64 → C F S1x8192x4x64),
    binary main_v23 main_v28 main_v29 ((fun a b => concatenate S1x8192x4x128 3 [⟨S1x8192x4x64, a⟩, ⟨S1x8192x4x64, b⟩] concatenates_S1x8192x4x64_S1x8192x4x64_S1x8192x4x128_d3) : C F S1x8192x4x64 → C F S1x8192x4x64 → C F S1x8192x4x128),
    reshape main_arg1 main_v30 (rfl : (.f32 : EltTy) = .f32) shapeCasts_S8192x512_S1x8192x4x128,
    nullary main_v31 (sitofp .f32 (iotaInDim S64 32 0)),
    unary main_v31 main_v32 (Host.negf : C F S64 → C F S64),
    nullary main_cst_1 (constant S_ .f32 0x42800000#32),
    unary main_cst_1 main_v33 (broadcastInDim S64 ![] bcast_S_S64 : C F S_ → C F S64),
    binary main_v32 main_v33 main_v34 (Host.divf : C F S64 → C F S64 → C F S64),
    nullary main_cst_2 (constant S_ .f32 0x461C4000#32),
    unary main_cst_2 main_v35 (broadcastInDim S64 ![] bcast_S_S64 : C F S_ → C F S64),
    binary main_v35 main_v34 main_v36 (Host.powf : C F S64 → C F S64 → C F S64),
    nullary main_v37 (sitofp .f32 (iotaInDim S8192 32 0)),
    unary main_v37 main_v38 (broadcastInDim S8192x1 ![0] bcast_S8192_S8192x1_0 : C F S8192 → C F S8192x1),
    unary main_v36 main_v39 (broadcastInDim S1x64 ![1] bcast_S64_S1x64_1 : C F S64 → C F S1x64),
    unary main_v38 main_v40 (broadcastInDim S8192x64 ![0, 1] bcast_S8192x1_S8192x64_0_1 : C F S8192x1 → C F S8192x64),
    unary main_v39 main_v41 (broadcastInDim S8192x64 ![0, 1] bcast_S1x64_S8192x64_0_1 : C F S1x64 → C F S8192x64),
    binary main_v40 main_v41 main_v42 (mulf : C F S8192x64 → C F S8192x64 → C F S8192x64),
    unary main_v42 main_v43 (Host.cos : C F S8192x64 → C F S8192x64),
    unary main_v43 main_v44 (broadcastInDim S1x8192x1x64 ![1, 3] bcast_S8192x64_S1x8192x1x64_1_3 : C F S8192x64 → C F S1x8192x1x64),
    unary main_v42 main_v45 (Host.sin : C F S8192x64 → C F S8192x64),
    unary main_v45 main_v46 (broadcastInDim S1x8192x1x64 ![1, 3] bcast_S8192x64_S1x8192x1x64_1_3 : C F S8192x64 → C F S1x8192x1x64),
    unary main_v30 main_v47 ((extractStridedSlice S1x8192x4x64 ![0, 0, 0, 0] · slices_S1x8192x4x128_S1x8192x4x64_0_0_0_0) : C F S1x8192x4x128 → C F S1x8192x4x64),
    unary main_v30 main_v48 ((extractStridedSlice S1x8192x4x64 ![0, 0, 0, 64] · slices_S1x8192x4x128_S1x8192x4x64_0_0_0_64) : C F S1x8192x4x128 → C F S1x8192x4x64),
    unary main_v44 main_v49 (broadcastInDim S1x8192x4x64 ![0, 1, 2, 3] bcast_S1x8192x1x64_S1x8192x4x64_0_1_2_3 : C F S1x8192x1x64 → C F S1x8192x4x64),
    binary main_v47 main_v49 main_v50 (mulf : C F S1x8192x4x64 → C F S1x8192x4x64 → C F S1x8192x4x64),
    unary main_v46 main_v51 (broadcastInDim S1x8192x4x64 ![0, 1, 2, 3] bcast_S1x8192x1x64_S1x8192x4x64_0_1_2_3 : C F S1x8192x1x64 → C F S1x8192x4x64),
    binary main_v48 main_v51 main_v52 (mulf : C F S1x8192x4x64 → C F S1x8192x4x64 → C F S1x8192x4x64),
    binary main_v50 main_v52 main_v53 (subf : C F S1x8192x4x64 → C F S1x8192x4x64 → C F S1x8192x4x64),
    unary main_v46 main_v54 (broadcastInDim S1x8192x4x64 ![0, 1, 2, 3] bcast_S1x8192x1x64_S1x8192x4x64_0_1_2_3 : C F S1x8192x1x64 → C F S1x8192x4x64),
    binary main_v47 main_v54 main_v55 (mulf : C F S1x8192x4x64 → C F S1x8192x4x64 → C F S1x8192x4x64) ]

theorem part0a_sub : (part0a : List (HloOp τ sig (Elt F))).Forall fun op => op.bufs ⊆ StableHlo.tcRefs τ sig :=
  ⟨reshape_bufs_sub .., nullary_bufs_sub .., unary_bufs_sub .., nullary_bufs_sub .., unary_bufs_sub .., binary_bufs_sub .., nullary_bufs_sub .., unary_bufs_sub .., binary_bufs_sub .., nullary_bufs_sub .., unary_bufs_sub .., unary_bufs_sub .., unary_bufs_sub .., unary_bufs_sub .., binary_bufs_sub .., unary_bufs_sub .., unary_bufs_sub .., unary_bufs_sub .., unary_bufs_sub .., unary_bufs_sub .., unary_bufs_sub .., unary_bufs_sub .., binary_bufs_sub .., unary_bufs_sub .., binary_bufs_sub .., binary_bufs_sub .., unary_bufs_sub .., binary_bufs_sub .., unary_bufs_sub .., binary_bufs_sub .., binary_bufs_sub .., binary_bufs_sub .., reshape_bufs_sub .., nullary_bufs_sub .., unary_bufs_sub .., nullary_bufs_sub .., unary_bufs_sub .., binary_bufs_sub .., nullary_bufs_sub .., unary_bufs_sub .., binary_bufs_sub .., nullary_bufs_sub .., unary_bufs_sub .., unary_bufs_sub .., unary_bufs_sub .., unary_bufs_sub .., binary_bufs_sub .., unary_bufs_sub .., unary_bufs_sub .., unary_bufs_sub .., unary_bufs_sub .., unary_bufs_sub .., unary_bufs_sub .., unary_bufs_sub .., binary_bufs_sub .., unary_bufs_sub .., binary_bufs_sub .., binary_bufs_sub .., unary_bufs_sub .., binary_bufs_sub ..⟩

theorem part0a_fresh : (part0a : List (HloOp τ sig (Elt F))).Forall fun op => op.fresh = ∅ :=
  forall_fresh_of_map rfl

set_option maxHeartbeats 40000000 in
abbrev part1a : List (HloOp τ sig (Elt F)) :=
  [ unary main_v44 main_v56 (broadcastInDim S1x8192x4x64 ![0, 1, 2, 3] bcast_S1x8192x1x64_S1x8192x4x64_0_1_2_3 : C F S1x8192x1x64 → C F S1x8192x4x64),
    binary main_v48 main_v56 main_v57 (mulf : C F S1x8192x4x64 → C F S1x8192x4x64 → C F S1x8192x4x64),
    binary main_v55 main_v57 main_v58 (addf : C F S1x8192x4x64 → C F S1x8192x4x64 → C F S1x8192x4x64),
    binary main_v53 main_v58 main_v59 ((fun a b => concatenate S1x8192x4x128 3 [⟨S1x8192x4x64, a⟩, ⟨S1x8192x4x64, b⟩] concatenates_S1x8192x4x64_S1x8192x4x64_S1x8192x4x128_d3) : C F S1x8192x4x64 → C F S1x8192x4x64 → C F S1x8192x4x128),
    nullary main_cst_3 (constant S_ .f32 0x3DB504F3#32),
    unary main_cst_3 main_v60 (broadcastInDim S1x8192x4x128 ![] bcast_S_S1x8192x4x128 : C F S_ → C F S1x8192x4x128),
    binary main_v59 main_v60 main_v61 (mulf : C F S1x8192x4x128 → C F S1x8192x4x128 → C F S1x8192x4x128),
    reshape main_arg2 main_v62 (rfl : (.f32 : EltTy) = .f32) shapeCasts_S8192x512_S1x8192x4x128,
    nullary main_cst_4 (constant S_ .f32 0xC05DCE9E#32),
    nullary main_cst_5 (constant S_ .f32 0xC0C7A05B#32) ]

theorem part1a_sub : (part1a : List (HloOp τ sig (Elt F))).Forall fun op => op.bufs ⊆ StableHlo.tcRefs τ sig :=
  ⟨unary_bufs_sub .., binary_bufs_sub .., binary_bufs_sub .., binary_bufs_sub .., nullary_bufs_sub .., unary_bufs_sub .., binary_bufs_sub .., reshape_bufs_sub .., nullary_bufs_sub .., nullary_bufs_sub ..⟩

theorem part1a_fresh : (part1a : List (HloOp τ sig (Elt F))).Forall fun op => op.fresh = ∅ :=
  forall_fresh_of_map rfl

set_option maxHeartbeats 40000000 in
abbrev part1b : List (HloOp τ sig (Elt F)) :=
  [ TRef.unary (.of main_cst_4 : TRef sig ⟨S_, .f32⟩) (.of main_call0_v0 : TRef sig ⟨S_, .f32⟩) id,
    TRef.unary (.of main_cst_5 : TRef sig ⟨S_, .f32⟩) (.of main_call0_v1 : TRef sig ⟨S_, .f32⟩) id,
    TRef.binary (.of main_call0_v1 : TRef sig ⟨S_, .f32⟩) (.of main_call0_v0 : TRef sig ⟨S_, .f32⟩) (.of main_call0_v2 : TRef sig ⟨S_, .f32⟩) subf,
    TRef.nullary (.of main_call0_cst : TRef sig ⟨S_, .f32⟩) (constant S_ .f32 0x40400000#32),
    TRef.binary (.of main_call0_v2 : TRef sig ⟨S_, .f32⟩) (.of main_call0_cst : TRef sig ⟨S_, .f32⟩) (.of main_call0_v3 : TRef sig ⟨S_, .f32⟩) Host.divf,
    TRef.nullary (.of main_call0_v4 : TRef sig ⟨S3, .f32⟩) (sitofp .f32 (iotaInDim S3 32 0)),
    TRef.nullary (.of main_call0_cst_0 : TRef sig ⟨S_, .f32⟩) (constant S_ .f32 0x40400000#32),
    TRef.unary (.of main_call0_cst_0 : TRef sig ⟨S_, .f32⟩) (.of main_call0_v5 : TRef sig ⟨S3, .f32⟩) (broadcastInDim S3 ![] bcast_S_S3),
    TRef.binary (.of main_call0_v4 : TRef sig ⟨S3, .f32⟩) (.of main_call0_v5 : TRef sig ⟨S3, .f32⟩) (.of main_call0_v6 : TRef sig ⟨S3, .f32⟩) Host.divf,
    TRef.reshape (.of main_call0_v0 : TRef sig ⟨S_, .f32⟩) (.of main_call0_v7 : TRef sig ⟨S1, .f32⟩) (rfl : (.f32 : EltTy) = .f32) shapeCasts_S_S1,
    TRef.nullary (.of main_call0_cst_1 : TRef sig ⟨S_, .f32⟩) (constant S_ .f32 0x3F800000#32),
    TRef.unary (.of main_call0_cst_1 : TRef sig ⟨S_, .f32⟩) (.of main_call0_v8 : TRef sig ⟨S3, .f32⟩) (broadcastInDim S3 ![] bcast_S_S3),
    TRef.binary (.of main_call0_v8 : TRef sig ⟨S3, .f32⟩) (.of main_call0_v6 : TRef sig ⟨S3, .f32⟩) (.of main_call0_v9 : TRef sig ⟨S3, .f32⟩) subf,
    TRef.unary (.of main_call0_v7 : TRef sig ⟨S1, .f32⟩) (.of main_call0_v10 : TRef sig ⟨S3, .f32⟩) (broadcastInDim S3 ![0] bcast_S1_S3_0),
    TRef.binary (.of main_call0_v10 : TRef sig ⟨S3, .f32⟩) (.of main_call0_v9 : TRef sig ⟨S3, .f32⟩) (.of main_call0_v11 : TRef sig ⟨S3, .f32⟩) mulf,
    TRef.reshape (.of main_call0_v1 : TRef sig ⟨S_, .f32⟩) (.of main_call0_v12 : TRef sig ⟨S1, .f32⟩) (rfl : (.f32 : EltTy) = .f32) shapeCasts_S_S1,
    TRef.unary (.of main_call0_v12 : TRef sig ⟨S1, .f32⟩) (.of main_call0_v13 : TRef sig ⟨S3, .f32⟩) (broadcastInDim S3 ![0] bcast_S1_S3_0),
    TRef.binary (.of main_call0_v13 : TRef sig ⟨S3, .f32⟩) (.of main_call0_v6 : TRef sig ⟨S3, .f32⟩) (.of main_call0_v14 : TRef sig ⟨S3, .f32⟩) mulf,
    TRef.binary (.of main_call0_v11 : TRef sig ⟨S3, .f32⟩) (.of main_call0_v14 : TRef sig ⟨S3, .f32⟩) (.of main_call0_v15 : TRef sig ⟨S3, .f32⟩) addf,
    TRef.unary (.of main_call0_v1 : TRef sig ⟨S_, .f32⟩) (.of main_call0_v16 : TRef sig ⟨S1, .f32⟩) (broadcastInDim S1 ![] bcast_S_S1),
    TRef.binary (.of main_call0_v15 : TRef sig ⟨S3, .f32⟩) (.of main_call0_v16 : TRef sig ⟨S1, .f32⟩) (.of main_v63 : TRef sig ⟨S4, .f32⟩) (fun a b => concatenate S4 0 [⟨S3, a⟩, ⟨S1, b⟩] concatenates_S3_S1_S4_d0) ]

theorem part1b_sub : (part1b : List (HloOp τ sig (Elt F))).Forall fun op => op.bufs ⊆ StableHlo.tcRefs τ sig :=
  ⟨unary_bufs_sub .., unary_bufs_sub .., binary_bufs_sub .., nullary_bufs_sub .., binary_bufs_sub .., nullary_bufs_sub .., nullary_bufs_sub .., unary_bufs_sub .., binary_bufs_sub .., reshape_bufs_sub .., nullary_bufs_sub .., unary_bufs_sub .., binary_bufs_sub .., unary_bufs_sub .., binary_bufs_sub .., reshape_bufs_sub .., unary_bufs_sub .., binary_bufs_sub .., binary_bufs_sub .., unary_bufs_sub .., binary_bufs_sub ..⟩

theorem part1b_fresh : (part1b : List (HloOp τ sig (Elt F))).Forall fun op => op.fresh = ∅ :=
  forall_fresh_of_map rfl

set_option maxHeartbeats 40000000 in
abbrev part1c : List (HloOp τ sig (Elt F)) :=
  [ unary main_v63 main_v64 (Host.exp : C F S4 → C F S4),
    nullary main_cst_6 (constant S_ .f32 0x3F800000#32),
    unary main_cst_6 main_v65 (broadcastInDim S4 ![] bcast_S_S4 : C F S_ → C F S4),
    binary main_v65 main_v64 main_v66 (subf : C F S4 → C F S4 → C F S4),
    unary main_v66 main_v67 (Host.log : C F S4 → C F S4),
    reshape main_v29 main_v68 (rfl : (.f32 : EltTy) = .f32) shapeCasts_S1x8192x4x128_S1x64x128x4x128,
    reshape main_v61 main_v69 (rfl : (.f32 : EltTy) = .f32) shapeCasts_S1x8192x4x128_S1x64x128x4x128,
    reshape main_v62 main_v70 (rfl : (.f32 : EltTy) = .f32) shapeCasts_S1x8192x4x128_S1x64x128x4x128,
    nullary main_v71 (sitofp .f32 (iotaInDim S128 32 0)),
    unary main_v71 main_v72 (broadcastInDim S128x1 ![0] bcast_S128_S128x1_0 : C F S128 → C F S128x1),
    unary main_v71 main_v73 (broadcastInDim S1x128 ![1] bcast_S128_S1x128_1 : C F S128 → C F S1x128),
    unary main_v72 main_v74 (broadcastInDim S128x128 ![0, 1] bcast_S128x1_S128x128_0_1 : C F S128x1 → C F S128x128),
    unary main_v73 main_v75 (broadcastInDim S128x128 ![0, 1] bcast_S1x128_S128x128_0_1 : C F S1x128 → C F S128x128),
    binary main_v74 main_v75 main_v76 (subf : C F S128x128 → C F S128x128 → C F S128x128),
    unary main_v76 main_v77 (broadcastInDim S1x128x128 ![1, 2] bcast_S128x128_S1x128x128_1_2 : C F S128x128 → C F S1x128x128),
    nullary main_cst_7 (constant S_ .f32 0x00000000#32),
    unary main_cst_7 main_v78 (broadcastInDim S1x128x128 ![] bcast_S_S1x128x128 : C F S_ → C F S1x128x128),
    binary main_v77 main_v78 main_v79 (cmpf .oge : C F S1x128x128 → C F S1x128x128 → (⟨S1x128x128, .i1⟩ : BufTy).Contents (Elt F)),
    nullary main_cst_8 (constant S_ .f32 0x00000000#32),
    unary main_cst_8 main_v80 (broadcastInDim S128x128 ![] bcast_S_S128x128 : C F S_ → C F S128x128),
    binary main_v76 main_v80 main_v81 (maximumf : C F S128x128 → C F S128x128 → C F S128x128),
    unary main_v81 main_v82 (broadcastInDim S1x128x128 ![1, 2] bcast_S128x128_S1x128x128_1_2 : C F S128x128 → C F S1x128x128),
    unary main_v67 main_v83 (broadcastInDim S4x1x1 ![0] bcast_S4_S4x1x1_0 : C F S4 → C F S4x1x1),
    unary main_v82 main_v84 (broadcastInDim S4x128x128 ![0, 1, 2] bcast_S1x128x128_S4x128x128_0_1_2 : C F S1x128x128 → C F S4x128x128),
    unary main_v83 main_v85 (broadcastInDim S4x128x128 ![0, 1, 2] bcast_S4x1x1_S4x128x128_0_1_2 : C F S4x1x1 → C F S4x128x128),
    binary main_v84 main_v85 main_v86 (mulf : C F S4x128x128 → C F S4x128x128 → C F S4x128x128),
    unary main_v86 main_v87 (Host.exp : C F S4x128x128 → C F S4x128x128),
    nullary main_cst_9 (constant S_ .f32 0x00000000#32) ]

theorem part1c_sub : (part1c : List (HloOp τ sig (Elt F))).Forall fun op => op.bufs ⊆ StableHlo.tcRefs τ sig :=
  ⟨unary_bufs_sub .., nullary_bufs_sub .., unary_bufs_sub .., binary_bufs_sub .., unary_bufs_sub .., reshape_bufs_sub .., reshape_bufs_sub .., reshape_bufs_sub .., nullary_bufs_sub .., unary_bufs_sub .., unary_bufs_sub .., unary_bufs_sub .., unary_bufs_sub .., binary_bufs_sub .., unary_bufs_sub .., nullary_bufs_sub .., unary_bufs_sub .., binary_bufs_sub .., nullary_bufs_sub .., unary_bufs_sub .., binary_bufs_sub .., unary_bufs_sub .., unary_bufs_sub .., unary_bufs_sub .., unary_bufs_sub .., binary_bufs_sub .., unary_bufs_sub .., nullary_bufs_sub ..⟩

theorem part1c_fresh : (part1c : List (HloOp τ sig (Elt F))).Forall fun op => op.fresh = ∅ :=
  forall_fresh_of_map rfl

set_option maxHeartbeats 40000000 in
abbrev part1d : List (HloOp τ sig (Elt F)) :=
  [ TRef.unary (.of main_cst_9 : TRef sig ⟨S_, .f32⟩) (.of main_call1_v0 : TRef sig ⟨S_, .f32⟩) id,
    TRef.unary (.of main_v79 : TRef sig ⟨S1x128x128, .i1⟩) (.of main_call1_v1 : TRef sig ⟨S4x128x128, .i1⟩) (broadcastInDim S4x128x128 ![0, 1, 2] bcast_S1x128x128_S4x128x128_0_1_2),
    TRef.unary (.of main_call1_v0 : TRef sig ⟨S_, .f32⟩) (.of main_call1_v2 : TRef sig ⟨S4x128x128, .f32⟩) (broadcastInDim S4x128x128 ![] bcast_S_S4x128x128),
    TRef.ternary (.of main_call1_v1 : TRef sig ⟨S4x128x128, .i1⟩) (.of main_v87 : TRef sig ⟨S4x128x128, .f32⟩) (.of main_call1_v2 : TRef sig ⟨S4x128x128, .f32⟩) (.of main_v88 : TRef sig ⟨S4x128x128, .f32⟩) select ]

theorem part1d_sub : (part1d : List (HloOp τ sig (Elt F))).Forall fun op => op.bufs ⊆ StableHlo.tcRefs τ sig :=
  ⟨unary_bufs_sub .., unary_bufs_sub .., unary_bufs_sub .., ternary_bufs_sub ..⟩

theorem part1d_fresh : (part1d : List (HloOp τ sig (Elt F))).Forall fun op => op.fresh = ∅ :=
  forall_fresh_of_map rfl

set_option maxHeartbeats 40000000 in
abbrev part1e : List (HloOp τ sig (Elt F)) :=
  [ binary main_v68 main_v69 main_v89 ((fun l r => Host.dotGeneral dot_S1x64x128x4x128_S1x64x128x4x128_S1x64x4x128x128_4_4_2_2_013_013 none l r) : C F S1x64x128x4x128 → C F S1x64x128x4x128 → C F S1x64x4x128x128),
    unary main_v88 main_v90 (broadcastInDim S1x1x4x128x128 ![2, 3, 4] bcast_S4x128x128_S1x1x4x128x128_2_3_4 : C F S4x128x128 → C F S1x1x4x128x128),
    unary main_v90 main_v91 (broadcastInDim S1x64x4x128x128 ![0, 1, 2, 3, 4] bcast_S1x1x4x128x128_S1x64x4x128x128_0_1_2_3_4 : C F S1x1x4x128x128 → C F S1x64x4x128x128),
    binary main_v89 main_v91 main_v92 (mulf : C F S1x64x4x128x128 → C F S1x64x4x128x128 → C F S1x64x4x128x128),
    binary main_v70 main_v92 main_v93 ((fun l r => Host.dotGeneral dot_S1x64x128x4x128_S1x64x4x128x128_S1x64x4x128x128_2_4_4_3_013_012 none l r) : C F S1x64x128x4x128 → C F S1x64x4x128x128 → C F S1x64x4x128x128),
    unary main_v93 main_v94 ((transpose S1x64x128x4x128 [0, 1, 4, 2, 3] · transposes_S1x64x4x128x128_S1x64x128x4x128_0_1_4_2_3) : C F S1x64x4x128x128 → C F S1x64x128x4x128),
    nullary main_cst_10 (constant S_ .f32 0x42FE0000#32),
    unary main_cst_10 main_v95 (broadcastInDim S128 ![] bcast_S_S128 : C F S_ → C F S128),
    binary main_v95 main_v71 main_v96 (subf : C F S128 → C F S128 → C F S128),
    unary main_v96 main_v97 (broadcastInDim S1x128 ![1] bcast_S128_S1x128_1 : C F S128 → C F S1x128),
    unary main_v67 main_v98 (broadcastInDim S4x1 ![0] bcast_S4_S4x1_0 : C F S4 → C F S4x1),
    unary main_v97 main_v99 (broadcastInDim S4x128 ![0, 1] bcast_S1x128_S4x128_0_1 : C F S1x128 → C F S4x128),
    unary main_v98 main_v100 (broadcastInDim S4x128 ![0, 1] bcast_S4x1_S4x128_0_1 : C F S4x1 → C F S4x128),
    binary main_v99 main_v100 main_v101 (mulf : C F S4x128 → C F S4x128 → C F S4x128),
    unary main_v101 main_v102 (Host.exp : C F S4x128 → C F S4x128),
    unary main_v102 main_v103 ((transpose S128x4 [1, 0] · transposes_S4x128_S128x4_1_0) : C F S4x128 → C F S128x4),
    unary main_v103 main_v104 (broadcastInDim S128x4x1 ![0, 1] bcast_S128x4_S128x4x1_0_1 : C F S128x4 → C F S128x4x1),
    unary main_v104 main_v105 (broadcastInDim S1x1x128x4x1 ![2, 3, 4] bcast_S128x4x1_S1x1x128x4x1_2_3_4 : C F S128x4x1 → C F S1x1x128x4x1),
    unary main_v105 main_v106 (broadcastInDim S1x64x128x4x128 ![0, 1, 2, 3, 4] bcast_S1x1x128x4x1_S1x64x128x4x128_0_1_2_3_4 : C F S1x1x128x4x1 → C F S1x64x128x4x128),
    binary main_v70 main_v106 main_v107 (mulf : C F S1x64x128x4x128 → C F S1x64x128x4x128 → C F S1x64x128x4x128) ]

theorem part1e_sub : (part1e : List (HloOp τ sig (Elt F))).Forall fun op => op.bufs ⊆ StableHlo.tcRefs τ sig :=
  ⟨binary_bufs_sub .., unary_bufs_sub .., unary_bufs_sub .., binary_bufs_sub .., binary_bufs_sub .., unary_bufs_sub .., nullary_bufs_sub .., unary_bufs_sub .., binary_bufs_sub .., unary_bufs_sub .., unary_bufs_sub .., unary_bufs_sub .., unary_bufs_sub .., binary_bufs_sub .., unary_bufs_sub .., unary_bufs_sub .., unary_bufs_sub .., unary_bufs_sub .., unary_bufs_sub .., binary_bufs_sub ..⟩

theorem part1e_fresh : (part1e : List (HloOp τ sig (Elt F))).Forall fun op => op.fresh = ∅ :=
  forall_fresh_of_map rfl

set_option maxHeartbeats 40000000 in
abbrev part2a : List (HloOp τ sig (Elt F)) :=
  [ binary main_v69 main_v107 main_v108 ((fun l r => Host.dotGeneral dot_S1x64x128x4x128_S1x64x128x4x128_S1x64x4x128x128_2_2_4_4_013_013 none l r) : C F S1x64x128x4x128 → C F S1x64x128x4x128 → C F S1x64x4x128x128),
    nullary main_cst_11 (constant S_ .f32 0x43000000#32),
    unary main_cst_11 main_v109 (broadcastInDim S4 ![] bcast_S_S4 : C F S_ → C F S4),
    binary main_v109 main_v67 main_v110 (mulf : C F S4 → C F S4 → C F S4),
    unary main_v110 main_v111 (Host.exp : C F S4 → C F S4),
    unary main_v111 main_v112 (broadcastInDim S1x4x1x1 ![1] bcast_S4_S1x4x1x1_1 : C F S4 → C F S1x4x1x1),
    nullary main_cst_12 (constant S_ .f32 0x00000000#32),
    unary main_cst_12 main_v113 (broadcastInDim S1x4x128x128 ![] bcast_S_S1x4x128x128 : C F S_ → C F S1x4x128x128),
    unary main_v108 main_v114 ((transpose S64x1x4x128x128 [1, 0, 2, 3, 4] · transposes_S1x64x4x128x128_S64x1x4x128x128_1_0_2_3_4) : C F S1x64x4x128x128 → C F S64x1x4x128x128),
    nullary main_cst_13 (constant S_ .f32 0x00000000#32),
    unary main_cst_13 main_v115 (broadcastInDim S64x1x4x128x128 ![] bcast_S_S64x1x4x128x128 : C F S_ → C F S64x1x4x128x128),
    nullary main_c (constantI S_ 32 0#32),
    unary main_v114 main_v116_0 id,
    unary main_v112 main_v116_1 id,
    unary main_c main_v116_2 id,
    unary main_v113 main_v116_3 id,
    unary main_v115 main_v116_4 id ]

theorem part2a_sub : (part2a : List (HloOp τ sig (Elt F))).Forall fun op => op.bufs ⊆ StableHlo.tcRefs τ sig :=
  ⟨binary_bufs_sub .., nullary_bufs_sub .., unary_bufs_sub .., binary_bufs_sub .., unary_bufs_sub .., unary_bufs_sub .., nullary_bufs_sub .., unary_bufs_sub .., unary_bufs_sub .., nullary_bufs_sub .., unary_bufs_sub .., nullary_bufs_sub .., unary_bufs_sub .., unary_bufs_sub .., unary_bufs_sub .., unary_bufs_sub .., unary_bufs_sub ..⟩

theorem part2a_fresh : (part2a : List (HloOp τ sig (Elt F))).Forall fun op => op.fresh = ∅ :=
  forall_fresh_of_map rfl

set_option maxHeartbeats 40000000 in
abbrev part2b : List (HloOp τ sig (Elt F)) :=
  [ unary main_v116_4 main_v117 ((transpose S1x64x4x128x128 [1, 0, 2, 3, 4] · transposes_S64x1x4x128x128_S1x64x4x128x128_1_0_2_3_4) : C F S64x1x4x128x128 → C F S1x64x4x128x128),
    nullary main_cst_14 (constant S_ .f32 0x3F800000#32),
    unary main_cst_14 main_v118 (broadcastInDim S128 ![] bcast_S_S128 : C F S_ → C F S128),
    binary main_v71 main_v118 main_v119 (addf : C F S128 → C F S128 → C F S128),
    unary main_v119 main_v120 (broadcastInDim S1x128 ![1] bcast_S128_S1x128_1 : C F S128 → C F S1x128),
    unary main_v67 main_v121 (broadcastInDim S4x1 ![0] bcast_S4_S4x1_0 : C F S4 → C F S4x1),
    unary main_v120 main_v122 (broadcastInDim S4x128 ![0, 1] bcast_S1x128_S4x128_0_1 : C F S1x128 → C F S4x128),
    unary main_v121 main_v123 (broadcastInDim S4x128 ![0, 1] bcast_S4x1_S4x128_0_1 : C F S4x1 → C F S4x128),
    binary main_v122 main_v123 main_v124 (mulf : C F S4x128 → C F S4x128 → C F S4x128),
    unary main_v124 main_v125 (Host.exp : C F S4x128 → C F S4x128),
    binary main_v117 main_v68 main_v126 ((fun l r => Host.dotGeneral dot_S1x64x4x128x128_S1x64x128x4x128_S1x64x4x128x128_3_4_4_2_012_013 none l r) : C F S1x64x4x128x128 → C F S1x64x128x4x128 → C F S1x64x4x128x128),
    unary main_v126 main_v127 ((transpose S1x64x128x4x128 [0, 1, 4, 2, 3] · transposes_S1x64x4x128x128_S1x64x128x4x128_0_1_4_2_3) : C F S1x64x4x128x128 → C F S1x64x128x4x128),
    unary main_v125 main_v128 ((transpose S128x4 [1, 0] · transposes_S4x128_S128x4_1_0) : C F S4x128 → C F S128x4),
    unary main_v128 main_v129 (broadcastInDim S128x4x1 ![0, 1] bcast_S128x4_S128x4x1_0_1 : C F S128x4 → C F S128x4x1),
    unary main_v129 main_v130 (broadcastInDim S1x1x128x4x1 ![2, 3, 4] bcast_S128x4x1_S1x1x128x4x1_2_3_4 : C F S128x4x1 → C F S1x1x128x4x1),
    unary main_v130 main_v131 (broadcastInDim S1x64x128x4x128 ![0, 1, 2, 3, 4] bcast_S1x1x128x4x1_S1x64x128x4x128_0_1_2_3_4 : C F S1x1x128x4x1 → C F S1x64x128x4x128),
    binary main_v127 main_v131 main_v132 (mulf : C F S1x64x128x4x128 → C F S1x64x128x4x128 → C F S1x64x128x4x128),
    binary main_v94 main_v132 main_v133 (addf : C F S1x64x128x4x128 → C F S1x64x128x4x128 → C F S1x64x128x4x128),
    reshape main_v133 main_v134 (rfl : (.f32 : EltTy) = .f32) shapeCasts_S1x64x128x4x128_S1x8192x4x128,
    reshape main_v134 main_v135 (rfl : (.f32 : EltTy) = .f32) shapeCasts_S1x8192x4x128_S8192x512,
    nullary main_cst_15 (constant S_ .f32 0x00000000#32),
    unary main_cst_15 main_v136 (broadcastInDim S1x4x128x128 ![] bcast_S_S1x4x128x128 : C F S_ → C F S1x4x128x128),
    reshape main_arg3 main_v137 (rfl : (.f32 : EltTy) = .f32) shapeCasts_S8192x512_S1x8192x4x128,
    reshape main_v137 main_v138 (rfl : (.f32 : EltTy) = .f32) shapeCasts_S1x8192x4x128_S1x64x128x4x128,
    unary main_v130 main_v139 (broadcastInDim S1x64x128x4x128 ![0, 1, 2, 3, 4] bcast_S1x1x128x4x1_S1x64x128x4x128_0_1_2_3_4 : C F S1x1x128x4x1 → C F S1x64x128x4x128),
    binary main_v138 main_v139 main_v140 (mulf : C F S1x64x128x4x128 → C F S1x64x128x4x128 → C F S1x64x128x4x128),
    unary main_v140 main_v141 ((transpose S1x64x4x128x128 [0, 1, 3, 4, 2] · transposes_S1x64x128x4x128_S1x64x4x128x128_0_1_3_4_2) : C F S1x64x128x4x128 → C F S1x64x4x128x128),
    binary main_v141 main_v117 main_v142 ((fun l r => Host.dotGeneral dot_S1x64x4x128x128_S1x64x4x128x128_S1x64x4x128x128_3_4_4_3_012_012 none l r) : C F S1x64x4x128x128 → C F S1x64x4x128x128 → C F S1x64x4x128x128),
    unary main_v142 main_v143 ((transpose S1x64x128x4x128 [0, 1, 3, 2, 4] · transposes_S1x64x4x128x128_S1x64x128x4x128_0_1_3_2_4) : C F S1x64x4x128x128 → C F S1x64x128x4x128),
    binary main_v141 main_v68 main_v144 ((fun l r => Host.dotGeneral dot_S1x64x4x128x128_S1x64x128x4x128_S1x64x4x128x128_4_2_3_4_012_013 none l r) : C F S1x64x4x128x128 → C F S1x64x128x4x128 → C F S1x64x4x128x128),
    unary main_v144 main_v145 ((transpose S1x64x4x128x128 [0, 1, 2, 4, 3] · transposes_S1x64x4x128x128_S1x64x4x128x128_0_1_2_4_3) : C F S1x64x4x128x128 → C F S1x64x4x128x128),
    unary main_v145 main_v146 ((transpose S64x1x4x128x128 [1, 0, 2, 3, 4] · transposes_S1x64x4x128x128_S64x1x4x128x128_1_0_2_3_4) : C F S1x64x4x128x128 → C F S64x1x4x128x128),
    nullary main_cst_16 (constant S_ .f32 0x00000000#32),
    unary main_cst_16 main_v147 (broadcastInDim S1x4x128x128 ![] bcast_S_S1x4x128x128 : C F S_ → C F S1x4x128x128),
    nullary main_cst_17 (constant S_ .f32 0x00000000#32),
    unary main_cst_17 main_v148 (broadcastInDim S64x1x4x128x128 ![] bcast_S_S64x1x4x128x128 : C F S_ → C F S64x1x4x128x128),
    nullary main_c_18 (constantI S_ 32 0#32),
    unary main_v146 main_v149_0 id,
    unary main_v112 main_v149_1 id,
    unary main_c_18 main_v149_2 id,
    unary main_v147 main_v149_3 id,
    unary main_v148 main_v149_4 id ]

theorem part2b_sub : (part2b : List (HloOp τ sig (Elt F))).Forall fun op => op.bufs ⊆ StableHlo.tcRefs τ sig :=
  ⟨unary_bufs_sub .., nullary_bufs_sub .., unary_bufs_sub .., binary_bufs_sub .., unary_bufs_sub .., unary_bufs_sub .., unary_bufs_sub .., unary_bufs_sub .., binary_bufs_sub .., unary_bufs_sub .., binary_bufs_sub .., unary_bufs_sub .., unary_bufs_sub .., unary_bufs_sub .., unary_bufs_sub .., unary_bufs_sub .., binary_bufs_sub .., binary_bufs_sub .., reshape_bufs_sub .., reshape_bufs_sub .., nullary_bufs_sub .., unary_bufs_sub .., reshape_bufs_sub .., reshape_bufs_sub .., unary_bufs_sub .., binary_bufs_sub .., unary_bufs_sub .., binary_bufs_sub .., unary_bufs_sub .., binary_bufs_sub .., unary_bufs_sub .., unary_bufs_sub .., nullary_bufs_sub .., unary_bufs_sub .., nullary_bufs_sub .., unary_bufs_sub .., nullary_bufs_sub .., unary_bufs_sub .., unary_bufs_sub .., unary_bufs_sub .., unary_bufs_sub .., unary_bufs_sub ..⟩

theorem part2b_fresh : (part2b : List (HloOp τ sig (Elt F))).Forall fun op => op.fresh = ∅ :=
  forall_fresh_of_map rfl

set_option maxHeartbeats 40000000 in
abbrev part3a : List (HloOp τ sig (Elt F)) :=
  [ unary main_v149_4 main_v150 ((transpose S1x64x4x128x128 [1, 0, 2, 3, 4] · transposes_S64x1x4x128x128_S1x64x4x128x128_1_0_2_3_4) : C F S64x1x4x128x128 → C F S1x64x4x128x128),
    binary main_v150 main_v69 main_v151 ((fun l r => Host.dotGeneral dot_S1x64x4x128x128_S1x64x128x4x128_S1x64x4x128x128_3_4_4_2_012_013 none l r) : C F S1x64x4x128x128 → C F S1x64x128x4x128 → C F S1x64x4x128x128),
    unary main_v151 main_v152 ((transpose S1x64x128x4x128 [0, 1, 4, 2, 3] · transposes_S1x64x4x128x128_S1x64x128x4x128_0_1_4_2_3) : C F S1x64x4x128x128 → C F S1x64x128x4x128),
    binary main_v150 main_v107 main_v153 ((fun l r => Host.dotGeneral dot_S1x64x4x128x128_S1x64x128x4x128_S1x64x4x128x128_4_4_3_2_012_013 none l r) : C F S1x64x4x128x128 → C F S1x64x128x4x128 → C F S1x64x4x128x128),
    unary main_v153 main_v154 ((transpose S1x64x128x4x128 [0, 1, 4, 2, 3] · transposes_S1x64x4x128x128_S1x64x128x4x128_0_1_4_2_3) : C F S1x64x4x128x128 → C F S1x64x128x4x128),
    unary main_v105 main_v155 (broadcastInDim S1x64x128x4x128 ![0, 1, 2, 3, 4] bcast_S1x1x128x4x1_S1x64x128x4x128_0_1_2_3_4 : C F S1x1x128x4x1 → C F S1x64x128x4x128),
    binary main_v152 main_v155 main_v156 (mulf : C F S1x64x128x4x128 → C F S1x64x128x4x128 → C F S1x64x128x4x128),
    unary main_v138 main_v157 ((transpose S1x64x4x128x128 [0, 1, 3, 4, 2] · transposes_S1x64x128x4x128_S1x64x4x128x128_0_1_3_4_2) : C F S1x64x128x4x128 → C F S1x64x4x128x128),
    binary main_v157 main_v70 main_v158 ((fun l r => Host.dotGeneral dot_S1x64x4x128x128_S1x64x128x4x128_S1x64x4x128x128_3_4_4_2_012_013 none l r) : C F S1x64x4x128x128 → C F S1x64x128x4x128 → C F S1x64x4x128x128),
    binary main_v157 main_v92 main_v159 ((fun l r => Host.dotGeneral dot_S1x64x4x128x128_S1x64x4x128x128_S1x64x4x128x128_4_3_3_4_012_012 none l r) : C F S1x64x4x128x128 → C F S1x64x4x128x128 → C F S1x64x4x128x128),
    unary main_v159 main_v160 ((transpose S1x64x128x4x128 [0, 1, 4, 2, 3] · transposes_S1x64x4x128x128_S1x64x128x4x128_0_1_4_2_3) : C F S1x64x4x128x128 → C F S1x64x128x4x128),
    binary main_v156 main_v160 main_v161 (addf : C F S1x64x128x4x128 → C F S1x64x128x4x128 → C F S1x64x128x4x128),
    unary main_v90 main_v162 (broadcastInDim S1x64x4x128x128 ![0, 1, 2, 3, 4] bcast_S1x1x4x128x128_S1x64x4x128x128_0_1_2_3_4 : C F S1x1x4x128x128 → C F S1x64x4x128x128),
    binary main_v158 main_v162 main_v163 (mulf : C F S1x64x4x128x128 → C F S1x64x4x128x128 → C F S1x64x4x128x128),
    binary main_v163 main_v68 main_v164 ((fun l r => Host.dotGeneral dot_S1x64x4x128x128_S1x64x128x4x128_S1x64x4x128x128_3_2_4_4_012_013 none l r) : C F S1x64x4x128x128 → C F S1x64x128x4x128 → C F S1x64x4x128x128),
    unary main_v164 main_v165 ((transpose S1x64x128x4x128 [0, 1, 3, 2, 4] · transposes_S1x64x4x128x128_S1x64x128x4x128_0_1_3_2_4) : C F S1x64x4x128x128 → C F S1x64x128x4x128),
    binary main_v154 main_v165 main_v166 (addf : C F S1x64x128x4x128 → C F S1x64x128x4x128 → C F S1x64x128x4x128),
    binary main_v163 main_v69 main_v167 ((fun l r => Host.dotGeneral dot_S1x64x4x128x128_S1x64x128x4x128_S1x64x4x128x128_4_2_3_4_012_013 none l r) : C F S1x64x4x128x128 → C F S1x64x128x4x128 → C F S1x64x4x128x128),
    unary main_v167 main_v168 ((transpose S1x64x128x4x128 [0, 1, 3, 2, 4] · transposes_S1x64x4x128x128_S1x64x128x4x128_0_1_3_2_4) : C F S1x64x4x128x128 → C F S1x64x128x4x128),
    binary main_v143 main_v168 main_v169 (addf : C F S1x64x128x4x128 → C F S1x64x128x4x128 → C F S1x64x128x4x128),
    reshape main_v161 main_v170 (rfl : (.f32 : EltTy) = .f32) shapeCasts_S1x64x128x4x128_S1x8192x4x128,
    reshape main_v166 main_v171 (rfl : (.f32 : EltTy) = .f32) shapeCasts_S1x64x128x4x128_S1x8192x4x128,
    reshape main_v169 main_v172 (rfl : (.f32 : EltTy) = .f32) shapeCasts_S1x64x128x4x128_S1x8192x4x128,
    reshape main_v170 main_v173 (rfl : (.f32 : EltTy) = .f32) shapeCasts_S1x8192x4x128_S8192x512,
    nullary main_cst_19 (constant S_ .f32 0x3DB504F3#32),
    unary main_cst_19 main_v174 (broadcastInDim S1x8192x4x128 ![] bcast_S_S1x8192x4x128 : C F S_ → C F S1x8192x4x128),
    binary main_v171 main_v174 main_v175 (mulf : C F S1x8192x4x128 → C F S1x8192x4x128 → C F S1x8192x4x128),
    unary main_v175 main_v176 ((extractStridedSlice S1x8192x4x64 ![0, 0, 0, 0] · slices_S1x8192x4x128_S1x8192x4x64_0_0_0_0) : C F S1x8192x4x128 → C F S1x8192x4x64),
    unary main_v175 main_v177 ((extractStridedSlice S1x8192x4x64 ![0, 0, 0, 64] · slices_S1x8192x4x128_S1x8192x4x64_0_0_0_64) : C F S1x8192x4x128 → C F S1x8192x4x64),
    unary main_v44 main_v178 (broadcastInDim S1x8192x4x64 ![0, 1, 2, 3] bcast_S1x8192x1x64_S1x8192x4x64_0_1_2_3 : C F S1x8192x1x64 → C F S1x8192x4x64),
    binary main_v177 main_v178 main_v179 (mulf : C F S1x8192x4x64 → C F S1x8192x4x64 → C F S1x8192x4x64),
    unary main_v46 main_v180 (broadcastInDim S1x8192x4x64 ![0, 1, 2, 3] bcast_S1x8192x1x64_S1x8192x4x64_0_1_2_3 : C F S1x8192x1x64 → C F S1x8192x4x64),
    binary main_v177 main_v180 main_v181 (mulf : C F S1x8192x4x64 → C F S1x8192x4x64 → C F S1x8192x4x64),
    unary main_v176 main_v182 (Host.negf : C F S1x8192x4x64 → C F S1x8192x4x64),
    unary main_v46 main_v183 (broadcastInDim S1x8192x4x64 ![0, 1, 2, 3] bcast_S1x8192x1x64_S1x8192x4x64_0_1_2_3 : C F S1x8192x1x64 → C F S1x8192x4x64),
    binary main_v182 main_v183 main_v184 (mulf : C F S1x8192x4x64 → C F S1x8192x4x64 → C F S1x8192x4x64),
    binary main_v179 main_v184 main_v185 (addf : C F S1x8192x4x64 → C F S1x8192x4x64 → C F S1x8192x4x64),
    unary main_v44 main_v186 (broadcastInDim S1x8192x4x64 ![0, 1, 2, 3] bcast_S1x8192x1x64_S1x8192x4x64_0_1_2_3 : C F S1x8192x1x64 → C F S1x8192x4x64),
    binary main_v176 main_v186 main_v187 (mulf : C F S1x8192x4x64 → C F S1x8192x4x64 → C F S1x8192x4x64),
    binary main_v181 main_v187 main_v188 (addf : C F S1x8192x4x64 → C F S1x8192x4x64 → C F S1x8192x4x64),
    nullary main_cst_20 (constant S_ .f32 0x00000000#32),
    binary main_v185 main_cst_20 main_v189 ((fun x v => pad S1x8192x4x128 ![0, 0, 0, 64] ![0, 0, 0, 0] ![0, 0, 0, 0] x v pads_S1x8192x4x64_S1x8192x4x128_000_000_000_6400 h_S_) : C F S1x8192x4x64 → C F S_ → C F S1x8192x4x128),
    nullary main_cst_21 (constant S_ .f32 0x00000000#32),
    binary main_v188 main_cst_21 main_v190 ((fun x v => pad S1x8192x4x128 ![0, 0, 0, 0] ![0, 0, 0, 64] ![0, 0, 0, 0] x v pads_S1x8192x4x64_S1x8192x4x128_000_000_000_0640 h_S_) : C F S1x8192x4x64 → C F S_ → C F S1x8192x4x128),
    binary main_v189 main_v190 main_v191 (addf : C F S1x8192x4x128 → C F S1x8192x4x128 → C F S1x8192x4x128),
    reshape main_v191 main_v192 (rfl : (.f32 : EltTy) = .f32) shapeCasts_S1x8192x4x128_S8192x512,
    unary main_v172 main_v193 ((extractStridedSlice S1x8192x4x64 ![0, 0, 0, 0] · slices_S1x8192x4x128_S1x8192x4x64_0_0_0_0) : C F S1x8192x4x128 → C F S1x8192x4x64),
    unary main_v172 main_v194 ((extractStridedSlice S1x8192x4x64 ![0, 0, 0, 64] · slices_S1x8192x4x128_S1x8192x4x64_0_0_0_64) : C F S1x8192x4x128 → C F S1x8192x4x64),
    unary main_v14 main_v195 (broadcastInDim S1x8192x4x64 ![0, 1, 2, 3] bcast_S1x8192x1x64_S1x8192x4x64_0_1_2_3 : C F S1x8192x1x64 → C F S1x8192x4x64),
    binary main_v194 main_v195 main_v196 (mulf : C F S1x8192x4x64 → C F S1x8192x4x64 → C F S1x8192x4x64),
    unary main_v16 main_v197 (broadcastInDim S1x8192x4x64 ![0, 1, 2, 3] bcast_S1x8192x1x64_S1x8192x4x64_0_1_2_3 : C F S1x8192x1x64 → C F S1x8192x4x64),
    binary main_v194 main_v197 main_v198 (mulf : C F S1x8192x4x64 → C F S1x8192x4x64 → C F S1x8192x4x64),
    unary main_v193 main_v199 (Host.negf : C F S1x8192x4x64 → C F S1x8192x4x64),
    unary main_v16 main_v200 (broadcastInDim S1x8192x4x64 ![0, 1, 2, 3] bcast_S1x8192x1x64_S1x8192x4x64_0_1_2_3 : C F S1x8192x1x64 → C F S1x8192x4x64),
    binary main_v199 main_v200 main_v201 (mulf : C F S1x8192x4x64 → C F S1x8192x4x64 → C F S1x8192x4x64),
    binary main_v196 main_v201 main_v202 (addf : C F S1x8192x4x64 → C F S1x8192x4x64 → C F S1x8192x4x64),
    unary main_v14 main_v203 (broadcastInDim S1x8192x4x64 ![0, 1, 2, 3] bcast_S1x8192x1x64_S1x8192x4x64_0_1_2_3 : C F S1x8192x1x64 → C F S1x8192x4x64),
    binary main_v193 main_v203 main_v204 (mulf : C F S1x8192x4x64 → C F S1x8192x4x64 → C F S1x8192x4x64),
    binary main_v198 main_v204 main_v205 (addf : C F S1x8192x4x64 → C F S1x8192x4x64 → C F S1x8192x4x64) ]

theorem part3a_sub : (part3a : List (HloOp τ sig (Elt F))).Forall fun op => op.bufs ⊆ StableHlo.tcRefs τ sig :=
  ⟨unary_bufs_sub .., binary_bufs_sub .., unary_bufs_sub .., binary_bufs_sub .., unary_bufs_sub .., unary_bufs_sub .., binary_bufs_sub .., unary_bufs_sub .., binary_bufs_sub .., binary_bufs_sub .., unary_bufs_sub .., binary_bufs_sub .., unary_bufs_sub .., binary_bufs_sub .., binary_bufs_sub .., unary_bufs_sub .., binary_bufs_sub .., binary_bufs_sub .., unary_bufs_sub .., binary_bufs_sub .., reshape_bufs_sub .., reshape_bufs_sub .., reshape_bufs_sub .., reshape_bufs_sub .., nullary_bufs_sub .., unary_bufs_sub .., binary_bufs_sub .., unary_bufs_sub .., unary_bufs_sub .., unary_bufs_sub .., binary_bufs_sub .., unary_bufs_sub .., binary_bufs_sub .., unary_bufs_sub .., unary_bufs_sub .., binary_bufs_sub .., binary_bufs_sub .., unary_bufs_sub .., binary_bufs_sub .., binary_bufs_sub .., nullary_bufs_sub .., binary_bufs_sub .., nullary_bufs_sub .., binary_bufs_sub .., binary_bufs_sub .., reshape_bufs_sub .., unary_bufs_sub .., unary_bufs_sub .., unary_bufs_sub .., binary_bufs_sub .., unary_bufs_sub .., binary_bufs_sub .., unary_bufs_sub .., unary_bufs_sub .., binary_bufs_sub .., binary_bufs_sub .., unary_bufs_sub .., binary_bufs_sub .., binary_bufs_sub ..⟩

theorem part3a_fresh : (part3a : List (HloOp τ sig (Elt F))).Forall fun op => op.fresh = ∅ :=
  forall_fresh_of_map rfl

set_option maxHeartbeats 40000000 in
abbrev part4a : List (HloOp τ sig (Elt F)) :=
  [ nullary main_cst_22 (constant S_ .f32 0x00000000#32),
    binary main_v202 main_cst_22 main_v206 ((fun x v => pad S1x8192x4x128 ![0, 0, 0, 64] ![0, 0, 0, 0] ![0, 0, 0, 0] x v pads_S1x8192x4x64_S1x8192x4x128_000_000_000_6400 h_S_) : C F S1x8192x4x64 → C F S_ → C F S1x8192x4x128),
    nullary main_cst_23 (constant S_ .f32 0x00000000#32),
    binary main_v205 main_cst_23 main_v207 ((fun x v => pad S1x8192x4x128 ![0, 0, 0, 0] ![0, 0, 0, 64] ![0, 0, 0, 0] x v pads_S1x8192x4x64_S1x8192x4x128_000_000_000_0640 h_S_) : C F S1x8192x4x64 → C F S_ → C F S1x8192x4x128),
    binary main_v206 main_v207 main_v208 (addf : C F S1x8192x4x128 → C F S1x8192x4x128 → C F S1x8192x4x128),
    reshape main_v208 main_v209 (rfl : (.f32 : EltTy) = .f32) shapeCasts_S1x8192x4x128_S8192x512,
    unary main_v209 main_v210 ((truncf .bf16 · bitsLt_bf16_f32) : C F S8192x512 → (⟨S8192x512, .bf16⟩ : BufTy).Contents (Elt F)),
    unary main_v192 main_v211 ((truncf .bf16 · bitsLt_bf16_f32) : C F S8192x512 → (⟨S8192x512, .bf16⟩ : BufTy).Contents (Elt F)),
    unary main_v173 main_v212 ((truncf .bf16 · bitsLt_bf16_f32) : C F S8192x512 → (⟨S8192x512, .bf16⟩ : BufTy).Contents (Elt F)) ]

theorem part4a_sub : (part4a : List (HloOp τ sig (Elt F))).Forall fun op => op.bufs ⊆ StableHlo.tcRefs τ sig :=
  ⟨nullary_bufs_sub .., binary_bufs_sub .., nullary_bufs_sub .., binary_bufs_sub .., binary_bufs_sub .., reshape_bufs_sub .., unary_bufs_sub .., unary_bufs_sub .., unary_bufs_sub ..⟩

theorem part4a_fresh : (part4a : List (HloOp τ sig (Elt F))).Forall fun op => op.fresh = ∅ :=
  forall_fresh_of_map rfl

set_option maxHeartbeats 40000000 in
abbrev trip0a : List (HloOp τ sig (Elt F)) :=
  [ TRef.nullary (.of main_while0b_call2_c : TRef sig ⟨S_, .i32⟩) (constantI S_ 32 0#32),
    TRef.nullary (.of main_while0b_call2_c_0 : TRef sig ⟨S_, .i32⟩) (constantI S_ 32 0#32),
    TRef.nullary (.of main_while0b_call2_c_1 : TRef sig ⟨S_, .i32⟩) (constantI S_ 32 0#32),
    TRef.nullary (.of main_while0b_call2_c_2 : TRef sig ⟨S_, .i32⟩) (constantI S_ 32 0#32),
    TRef.unaryIndexed (.of main_v116_0 : TRef sig ⟨S64x1x4x128x128, .f32⟩) ![(.of main_v116_2 : TRef sig ⟨S_, .i32⟩), (.of main_while0b_call2_c : TRef sig ⟨S_, .i32⟩), (.of main_while0b_call2_c_0 : TRef sig ⟨S_, .i32⟩), (.of main_while0b_call2_c_1 : TRef sig ⟨S_, .i32⟩), (.of main_while0b_call2_c_2 : TRef sig ⟨S_, .i32⟩)] (.of main_while0b_call2_v0 : TRef sig ⟨S1x1x4x128x128, .f32⟩) (fun x i => Host.dynamicSlice S1x1x4x128x128 x (fun k => (i k (Shape.Idx.first h_S_)).toInt) sliceFits_S64x1x4x128x128_S1x1x4x128x128),
    TRef.reshape (.of main_while0b_call2_v0 : TRef sig ⟨S1x1x4x128x128, .f32⟩) (.of main_while0b_v213 : TRef sig ⟨S1x4x128x128, .f32⟩) (rfl : (.f32 : EltTy) = .f32) shapeCasts_S1x1x4x128x128_S1x4x128x128 ]

theorem trip0a_sub : (trip0a : List (HloOp τ sig (Elt F))).Forall fun op => op.bufs ⊆ StableHlo.tcRefs τ sig :=
  ⟨nullary_bufs_sub .., nullary_bufs_sub .., nullary_bufs_sub .., nullary_bufs_sub .., unaryIndexed_bufs_sub .., reshape_bufs_sub ..⟩

theorem trip0a_fresh : (trip0a : List (HloOp τ sig (Elt F))).Forall fun op => op.fresh = ∅ :=
  forall_fresh_of_map rfl

set_option maxHeartbeats 40000000 in
abbrev trip0b : List (HloOp τ sig (Elt F)) :=
  [ unary main_v116_1 main_while0b_v214 (broadcastInDim S1x4x128x128 ![0, 1, 2, 3] bcast_S1x4x1x1_S1x4x128x128_0_1_2_3 : C F S1x4x1x1 → C F S1x4x128x128),
    binary main_while0b_v214 main_v116_3 main_while0b_v215 (mulf : C F S1x4x128x128 → C F S1x4x128x128 → C F S1x4x128x128),
    binary main_while0b_v215 main_while0b_v213 main_while0b_v216 (addf : C F S1x4x128x128 → C F S1x4x128x128 → C F S1x4x128x128) ]

theorem trip0b_sub : (trip0b : List (HloOp τ sig (Elt F))).Forall fun op => op.bufs ⊆ StableHlo.tcRefs τ sig :=
  ⟨unary_bufs_sub .., binary_bufs_sub .., binary_bufs_sub ..⟩

theorem trip0b_fresh : (trip0b : List (HloOp τ sig (Elt F))).Forall fun op => op.fresh = ∅ :=
  forall_fresh_of_map rfl

set_option maxHeartbeats 40000000 in
abbrev trip0c : List (HloOp τ sig (Elt F)) :=
  [ TRef.unary (.of main_v116_3 : TRef sig ⟨S1x4x128x128, .f32⟩) (.of main_while0b_call3_v0 : TRef sig ⟨S1x1x4x128x128, .f32⟩) (broadcastInDim S1x1x4x128x128 ![1, 2, 3, 4] bcast_S1x4x128x128_S1x1x4x128x128_1_2_3_4),
    TRef.nullary (.of main_while0b_call3_c : TRef sig ⟨S_, .i32⟩) (constantI S_ 32 0#32),
    TRef.nullary (.of main_while0b_call3_c_0 : TRef sig ⟨S_, .i32⟩) (constantI S_ 32 0#32),
    TRef.nullary (.of main_while0b_call3_c_1 : TRef sig ⟨S_, .i32⟩) (constantI S_ 32 0#32),
    TRef.nullary (.of main_while0b_call3_c_2 : TRef sig ⟨S_, .i32⟩) (constantI S_ 32 0#32),
    TRef.binaryIndexed (.of main_v116_4 : TRef sig ⟨S64x1x4x128x128, .f32⟩) (.of main_while0b_call3_v0 : TRef sig ⟨S1x1x4x128x128, .f32⟩) ![(.of main_v116_2 : TRef sig ⟨S_, .i32⟩), (.of main_while0b_call3_c : TRef sig ⟨S_, .i32⟩), (.of main_while0b_call3_c_0 : TRef sig ⟨S_, .i32⟩), (.of main_while0b_call3_c_1 : TRef sig ⟨S_, .i32⟩), (.of main_while0b_call3_c_2 : TRef sig ⟨S_, .i32⟩)] (.of main_while0b_v217 : TRef sig ⟨S64x1x4x128x128, .f32⟩) (fun x u i => Host.dynamicUpdateSlice x u (fun k => (i k (Shape.Idx.first h_S_)).toInt) updateFits_S64x1x4x128x128_S1x1x4x128x128) ]

theorem trip0c_sub : (trip0c : List (HloOp τ sig (Elt F))).Forall fun op => op.bufs ⊆ StableHlo.tcRefs τ sig :=
  ⟨unary_bufs_sub .., nullary_bufs_sub .., nullary_bufs_sub .., nullary_bufs_sub .., nullary_bufs_sub .., binaryIndexed_bufs_sub ..⟩

theorem trip0c_fresh : (trip0c : List (HloOp τ sig (Elt F))).Forall fun op => op.fresh = ∅ :=
  forall_fresh_of_map rfl

set_option maxHeartbeats 40000000 in
abbrev trip0d : List (HloOp τ sig (Elt F)) :=
  [ nullary main_while0b_c_28 (constantI S_ 32 1#32),
    binary main_v116_2 main_while0b_c_28 main_while0b_v218 (addi : (⟨S_, .i32⟩ : BufTy).Contents (Elt F) → (⟨S_, .i32⟩ : BufTy).Contents (Elt F) → (⟨S_, .i32⟩ : BufTy).Contents (Elt F)),
    unary main_while0b_v218 main_v116_2 id,
    unary main_while0b_v216 main_v116_3 id,
    unary main_while0b_v217 main_v116_4 id ]

theorem trip0d_sub : (trip0d : List (HloOp τ sig (Elt F))).Forall fun op => op.bufs ⊆ StableHlo.tcRefs τ sig :=
  ⟨nullary_bufs_sub .., binary_bufs_sub .., unary_bufs_sub .., unary_bufs_sub .., unary_bufs_sub ..⟩

theorem trip0d_fresh : (trip0d : List (HloOp τ sig (Elt F))).Forall fun op => op.fresh = ∅ :=
  forall_fresh_of_map rfl

set_option maxHeartbeats 40000000 in
abbrev trip1a : List (HloOp τ sig (Elt F)) :=
  [ nullary main_while1b_c_28 (constantI S_ 32 64#32),
    binary main_while1b_c_28 main_v149_2 main_while1b_v213 (subi : (⟨S_, .i32⟩ : BufTy).Contents (Elt F) → (⟨S_, .i32⟩ : BufTy).Contents (Elt F) → (⟨S_, .i32⟩ : BufTy).Contents (Elt F)),
    nullary main_while1b_c_29 (constantI S_ 32 1#32),
    binary main_while1b_v213 main_while1b_c_29 main_while1b_v214 (subi : (⟨S_, .i32⟩ : BufTy).Contents (Elt F) → (⟨S_, .i32⟩ : BufTy).Contents (Elt F) → (⟨S_, .i32⟩ : BufTy).Contents (Elt F)) ]

theorem trip1a_sub : (trip1a : List (HloOp τ sig (Elt F))).Forall fun op => op.bufs ⊆ StableHlo.tcRefs τ sig :=
  ⟨nullary_bufs_sub .., binary_bufs_sub .., nullary_bufs_sub .., binary_bufs_sub ..⟩

theorem trip1a_fresh : (trip1a : List (HloOp τ sig (Elt F))).Forall fun op => op.fresh = ∅ :=
  forall_fresh_of_map rfl

set_option maxHeartbeats 40000000 in
abbrev trip1b : List (HloOp τ sig (Elt F)) :=
  [ TRef.nullary (.of main_while1b_call4_c : TRef sig ⟨S_, .i32⟩) (constantI S_ 32 0#32),
    TRef.nullary (.of main_while1b_call4_c_0 : TRef sig ⟨S_, .i32⟩) (constantI S_ 32 0#32),
    TRef.nullary (.of main_while1b_call4_c_1 : TRef sig ⟨S_, .i32⟩) (constantI S_ 32 0#32),
    TRef.nullary (.of main_while1b_call4_c_2 : TRef sig ⟨S_, .i32⟩) (constantI S_ 32 0#32),
    TRef.unaryIndexed (.of main_v149_0 : TRef sig ⟨S64x1x4x128x128, .f32⟩) ![(.of main_while1b_v214 : TRef sig ⟨S_, .i32⟩), (.of main_while1b_call4_c : TRef sig ⟨S_, .i32⟩), (.of main_while1b_call4_c_0 : TRef sig ⟨S_, .i32⟩), (.of main_while1b_call4_c_1 : TRef sig ⟨S_, .i32⟩), (.of main_while1b_call4_c_2 : TRef sig ⟨S_, .i32⟩)] (.of main_while1b_call4_v0 : TRef sig ⟨S1x1x4x128x128, .f32⟩) (fun x i => Host.dynamicSlice S1x1x4x128x128 x (fun k => (i k (Shape.Idx.first h_S_)).toInt) sliceFits_S64x1x4x128x128_S1x1x4x128x128),
    TRef.reshape (.of main_while1b_call4_v0 : TRef sig ⟨S1x1x4x128x128, .f32⟩) (.of main_while1b_v215 : TRef sig ⟨S1x4x128x128, .f32⟩) (rfl : (.f32 : EltTy) = .f32) shapeCasts_S1x1x4x128x128_S1x4x128x128 ]

theorem trip1b_sub : (trip1b : List (HloOp τ sig (Elt F))).Forall fun op => op.bufs ⊆ StableHlo.tcRefs τ sig :=
  ⟨nullary_bufs_sub .., nullary_bufs_sub .., nullary_bufs_sub .., nullary_bufs_sub .., unaryIndexed_bufs_sub .., reshape_bufs_sub ..⟩

theorem trip1b_fresh : (trip1b : List (HloOp τ sig (Elt F))).Forall fun op => op.fresh = ∅ :=
  forall_fresh_of_map rfl

set_option maxHeartbeats 40000000 in
abbrev trip1c : List (HloOp τ sig (Elt F)) :=
  [ unary main_v149_1 main_while1b_v216 (broadcastInDim S1x4x128x128 ![0, 1, 2, 3] bcast_S1x4x1x1_S1x4x128x128_0_1_2_3 : C F S1x4x1x1 → C F S1x4x128x128),
    binary main_while1b_v216 main_v149_3 main_while1b_v217 (mulf : C F S1x4x128x128 → C F S1x4x128x128 → C F S1x4x128x128),
    binary main_while1b_v215 main_while1b_v217 main_while1b_v218 (addf : C F S1x4x128x128 → C F S1x4x128x128 → C F S1x4x128x128) ]

theorem trip1c_sub : (trip1c : List (HloOp τ sig (Elt F))).Forall fun op => op.bufs ⊆ StableHlo.tcRefs τ sig :=
  ⟨unary_bufs_sub .., binary_bufs_sub .., binary_bufs_sub ..⟩

theorem trip1c_fresh : (trip1c : List (HloOp τ sig (Elt F))).Forall fun op => op.fresh = ∅ :=
  forall_fresh_of_map rfl

set_option maxHeartbeats 40000000 in
abbrev trip1d : List (HloOp τ sig (Elt F)) :=
  [ TRef.unary (.of main_v149_3 : TRef sig ⟨S1x4x128x128, .f32⟩) (.of main_while1b_call5_v0 : TRef sig ⟨S1x1x4x128x128, .f32⟩) (broadcastInDim S1x1x4x128x128 ![1, 2, 3, 4] bcast_S1x4x128x128_S1x1x4x128x128_1_2_3_4),
    TRef.nullary (.of main_while1b_call5_c : TRef sig ⟨S_, .i32⟩) (constantI S_ 32 0#32),
    TRef.nullary (.of main_while1b_call5_c_0 : TRef sig ⟨S_, .i32⟩) (constantI S_ 32 0#32),
    TRef.nullary (.of main_while1b_call5_c_1 : TRef sig ⟨S_, .i32⟩) (constantI S_ 32 0#32),
    TRef.nullary (.of main_while1b_call5_c_2 : TRef sig ⟨S_, .i32⟩) (constantI S_ 32 0#32),
    TRef.binaryIndexed (.of main_v149_4 : TRef sig ⟨S64x1x4x128x128, .f32⟩) (.of main_while1b_call5_v0 : TRef sig ⟨S1x1x4x128x128, .f32⟩) ![(.of main_while1b_v214 : TRef sig ⟨S_, .i32⟩), (.of main_while1b_call5_c : TRef sig ⟨S_, .i32⟩), (.of main_while1b_call5_c_0 : TRef sig ⟨S_, .i32⟩), (.of main_while1b_call5_c_1 : TRef sig ⟨S_, .i32⟩), (.of main_while1b_call5_c_2 : TRef sig ⟨S_, .i32⟩)] (.of main_while1b_v219 : TRef sig ⟨S64x1x4x128x128, .f32⟩) (fun x u i => Host.dynamicUpdateSlice x u (fun k => (i k (Shape.Idx.first h_S_)).toInt) updateFits_S64x1x4x128x128_S1x1x4x128x128) ]

theorem trip1d_sub : (trip1d : List (HloOp τ sig (Elt F))).Forall fun op => op.bufs ⊆ StableHlo.tcRefs τ sig :=
  ⟨unary_bufs_sub .., nullary_bufs_sub .., nullary_bufs_sub .., nullary_bufs_sub .., nullary_bufs_sub .., binaryIndexed_bufs_sub ..⟩

theorem trip1d_fresh : (trip1d : List (HloOp τ sig (Elt F))).Forall fun op => op.fresh = ∅ :=
  forall_fresh_of_map rfl

set_option maxHeartbeats 40000000 in
abbrev trip1e : List (HloOp τ sig (Elt F)) :=
  [ nullary main_while1b_c_30 (constantI S_ 32 1#32),
    binary main_v149_2 main_while1b_c_30 main_while1b_v220 (addi : (⟨S_, .i32⟩ : BufTy).Contents (Elt F) → (⟨S_, .i32⟩ : BufTy).Contents (Elt F) → (⟨S_, .i32⟩ : BufTy).Contents (Elt F)),
    unary main_while1b_v220 main_v149_2 id,
    unary main_while1b_v218 main_v149_3 id,
    unary main_while1b_v219 main_v149_4 id ]

theorem trip1e_sub : (trip1e : List (HloOp τ sig (Elt F))).Forall fun op => op.bufs ⊆ StableHlo.tcRefs τ sig :=
  ⟨nullary_bufs_sub .., binary_bufs_sub .., unary_bufs_sub .., unary_bufs_sub .., unary_bufs_sub ..⟩

theorem trip1e_fresh : (trip1e : List (HloOp τ sig (Elt F))).Forall fun op => op.fresh = ∅ :=
  forall_fresh_of_map rfl

theorem main_part0_chain (c : Dev nD) : main_part0 (F := F) c = (Pipeline.chainK
  [  ]
  (StableHlo.seq part0a) : Prog (TpuEff nD τ sig (Elt F) (HostLoop.Sig (Pipeline.Sig Λ₀ (Fin 0) fun p => (pcfgs (F := F) p).Adm) 2) .tc) PUnit) := by
  chain_rfl

theorem main_part1_chain (c : Dev nD) : main_part1 (F := F) c = (Pipeline.chainK
  [ StableHlo.seq part1a, StableHlo.seq part1b, StableHlo.seq part1c, StableHlo.seq part1d ]
  (StableHlo.seq part1e) : Prog (TpuEff nD τ sig (Elt F) (HostLoop.Sig (Pipeline.Sig Λ₀ (Fin 0) fun p => (pcfgs (F := F) p).Adm) 2) .tc) PUnit) := by
  rewrite [StableHlo.chainK_seq_cons, Pipeline.chainK_cons, StableHlo.chainK_seq_cons, Pipeline.chainK_cons]
  chain_rfl

theorem main_part2_chain (c : Dev nD) : main_part2 (F := F) c = (Pipeline.chainK
  [ StableHlo.seq part2a, HostLoop.enter 0 ]
  (StableHlo.seq part2b) : Prog (TpuEff nD τ sig (Elt F) (HostLoop.Sig (Pipeline.Sig Λ₀ (Fin 0) fun p => (pcfgs (F := F) p).Adm) 2) .tc) PUnit) := by
  rewrite [StableHlo.chainK_seq_cons, Pipeline.chainK_cons]
  chain_rfl

theorem main_part3_chain (c : Dev nD) : main_part3 (F := F) c = (Pipeline.chainK
  [ HostLoop.enter 1 ]
  (StableHlo.seq part3a) : Prog (TpuEff nD τ sig (Elt F) (HostLoop.Sig (Pipeline.Sig Λ₀ (Fin 0) fun p => (pcfgs (F := F) p).Adm) 2) .tc) PUnit) := by
  rewrite [Pipeline.chainK_cons]
  chain_rfl

theorem main_part4_chain (c : Dev nD) : main_part4 (F := F) c = (Pipeline.chain
  [ StableHlo.seq part4a ] : Prog (TpuEff nD τ sig (Elt F) (HostLoop.Sig (Pipeline.Sig Λ₀ (Fin 0) fun p => (pcfgs (F := F) p).Adm) 2) .tc) PUnit) := by
  rewrite [StableHlo.chain_seq_cons]
  chain_rfl

/-- The stretches before the first loop. -/
abbrev preI : List (List (HloOp τ sig (Elt F))) := [part0a, part1a, part1b, part1c, part1d, part1e, part2a]

theorem preI_plain : Plain (preI (F := F)) := .cons part0a_sub (hf := List.forall_iff_forall_mem.mp part0a_fresh) (.cons part1a_sub (hf := List.forall_iff_forall_mem.mp part1a_fresh) (.cons part1b_sub (hf := List.forall_iff_forall_mem.mp part1b_fresh) (.cons part1c_sub (hf := List.forall_iff_forall_mem.mp part1c_fresh) (.cons part1d_sub (hf := List.forall_iff_forall_mem.mp part1d_fresh) (.cons part1e_sub (hf := List.forall_iff_forall_mem.mp part1e_fresh) (.cons part2a_sub (hf := List.forall_iff_forall_mem.mp part2a_fresh) (.nil)))))))

/-- The stretch between the two loops. -/
abbrev midI : List (List (HloOp τ sig (Elt F))) := [part2b]

theorem midI_plain : Plain (midI (F := F)) := .cons part2b_sub (hf := List.forall_iff_forall_mem.mp part2b_fresh) (.nil)

/-- The stretches after the second loop. -/
abbrev postI : List (List (HloOp τ sig (Elt F))) := [part3a, part4a]

theorem postI_plain : Plain (postI (F := F)) := .cons part3a_sub (hf := List.forall_iff_forall_mem.mp part3a_fresh) (.cons part4a_sub (hf := List.forall_iff_forall_mem.mp part4a_fresh) (.nil))

/-- The first loop's body. -/
abbrev body0 : List (List (HloOp τ sig (Elt F))) := [trip0a, trip0b, trip0c, trip0d]

theorem body0_plain : Plain (body0 (F := F)) := .cons trip0a_sub (hf := List.forall_iff_forall_mem.mp trip0a_fresh) (.cons trip0b_sub (hf := List.forall_iff_forall_mem.mp trip0b_fresh) (.cons trip0c_sub (hf := List.forall_iff_forall_mem.mp trip0c_fresh) (.cons trip0d_sub (hf := List.forall_iff_forall_mem.mp trip0d_fresh) (.nil))))

/-- The second loop's body. -/
abbrev body1 : List (List (HloOp τ sig (Elt F))) := [trip1a, trip1b, trip1c, trip1d, trip1e]

theorem body1_plain : Plain (body1 (F := F)) := .cons trip1a_sub (hf := List.forall_iff_forall_mem.mp trip1a_fresh) (.cons trip1b_sub (hf := List.forall_iff_forall_mem.mp trip1b_fresh) (.cons trip1c_sub (hf := List.forall_iff_forall_mem.mp trip1c_fresh) (.cons trip1d_sub (hf := List.forall_iff_forall_mem.mp trip1d_fresh) (.cons trip1e_sub (hf := List.forall_iff_forall_mem.mp trip1e_fresh) (.nil)))))

/-- The program is the chain of its stretches and its two loops. -/
theorem main_chain (c : Dev nD) : main (F := F) c = (Pipeline.chain
  ((preI.map fun ops => (seq ops : Prog (TpuEff nD τ sig (Elt F) (HostLoop.Sig (Pipeline.Sig Λ₀ (Fin 0) fun p => (pcfgs (F := F) p).Adm) 2) .tc) PUnit)) ++ HostLoop.enter 0 ::
    ((midI.map fun ops => (seq ops : Prog (TpuEff nD τ sig (Elt F) (HostLoop.Sig (Pipeline.Sig Λ₀ (Fin 0) fun p => (pcfgs (F := F) p).Adm) 2) .tc) PUnit)) ++ HostLoop.enter 1 :: postI.map fun ops => (seq ops : Prog (TpuEff nD τ sig (Elt F) (HostLoop.Sig (Pipeline.Sig Λ₀ (Fin 0) fun p => (pcfgs (F := F) p).Adm) 2) .tc) PUnit))) : Prog (TpuEff nD τ sig (Elt F) (HostLoop.Sig (Pipeline.Sig Λ₀ (Fin 0) fun p => (pcfgs (F := F) p).Adm) 2) .tc) PUnit) := by
  show (main_part0 (F := F) c >>= fun _ => main_part1 (F := F) c >>= fun _ => main_part2 (F := F) c >>= fun _ => main_part3 (F := F) c >>= fun _ => main_part4 (F := F) c) = _
  rewrite [main_part4_chain, main_part3_chain, Pipeline.chainK_bind_chain, main_part2_chain, Pipeline.chainK_bind_chain, main_part1_chain, Pipeline.chainK_bind_chain, main_part0_chain, Pipeline.chainK_bind_chain]
  chain_rfl

theorem body0_chain : main_while0_body (F := F) = (Pipeline.chain ((body0 (F := F)).map fun ops => (seq ops : Prog (TpuEff nD τ sig (Elt F) (HostLoop.Sig (Pipeline.Sig Λ₀ (Fin 0) fun p => (pcfgs (F := F) p).Adm) 2) .tc) PUnit)) : Prog (TpuEff nD τ sig (Elt F) (HostLoop.Sig (Pipeline.Sig Λ₀ (Fin 0) fun p => (pcfgs (F := F) p).Adm) 2) .tc) PUnit) := by
  simp only [List.map_cons, List.map_nil]
  rewrite [Pipeline.chain_cons, StableHlo.chain_seq_cons, Pipeline.chain_cons, StableHlo.chain_seq_cons]
  chain_rfl

theorem body1_chain : main_while1_body (F := F) = (Pipeline.chain ((body1 (F := F)).map fun ops => (seq ops : Prog (TpuEff nD τ sig (Elt F) (HostLoop.Sig (Pipeline.Sig Λ₀ (Fin 0) fun p => (pcfgs (F := F) p).Adm) 2) .tc) PUnit)) : Prog (TpuEff nD τ sig (Elt F) (HostLoop.Sig (Pipeline.Sig Λ₀ (Fin 0) fun p => (pcfgs (F := F) p).Adm) 2) .tc) PUnit) := by
  simp only [List.map_cons, List.map_nil]
  rewrite [StableHlo.chain_seq_cons, Pipeline.chain_cons, StableHlo.chain_seq_cons, Pipeline.chain_cons, StableHlo.chain_seq_cons]
  chain_rfl

/-- The operations of loop 0's condition. -/
abbrev cond0 : List (HloOp τ sig (Elt F)) :=
  [ nullary main_while0c_c_28 (constantI S_ 32 64#32),
    binary main_v116_2 main_while0c_c_28 main_while0c_v213 (cmpi .slt : (⟨S_, .i32⟩ : BufTy).Contents (Elt F) → (⟨S_, .i32⟩ : BufTy).Contents (Elt F) → (⟨S_, .i1⟩ : BufTy).Contents (Elt F)) ]

/-- The operations of loop 1's condition. -/
abbrev cond1 : List (HloOp τ sig (Elt F)) :=
  [ nullary main_while1c_c_28 (constantI S_ 32 64#32),
    binary main_v149_2 main_while1c_c_28 main_while1c_v213 (cmpi .slt : (⟨S_, .i32⟩ : BufTy).Contents (Elt F) → (⟨S_, .i32⟩ : BufTy).Contents (Elt F) → (⟨S_, .i1⟩ : BufTy).Contents (Elt F)) ]

end Cert.ReferenceIdeal.Ops

end
-- ==== Proof.TwoLoops.lean ====
/- The run of a host program that is five stretches long: operations, a counted loop, operations, a second counted
   loop, operations. It composes the library's segments (`segsOf`, `loopSeg`) for both loops and reads the buffers at
   the end, as the library's `run_loop` does for one. -/
module

public import Idealize.ShloMosaic.Lib.Pipeline.Regions
public import Idealize.ShloMosaic.Lib.StableHlo.RunLoop
public import Idealize.ShloMosaic.Lib.Quiescent

@[expose] public section

noncomputable section

namespace Idealize.ShloMosaic.StableHlo.TwoLoops

open Idealize.ShloMosaic Idealize.ShloMosaic.TcCoe Idealize.ShloMosaic.StableHlo
open Idealize.SL Idealize.SL.RA Idealize.SL.BI
open scoped Idealize.SL.BI
open Idealize.SL.BI.BIBase Idealize.SL.BI.Laws Idealize.SL.ProofMode Idealize.SL.Sem Idealize.ShloMosaic.Rounds
open Idealize.ShloMosaic.Pipeline (CSeg Ticket PCfg ucRefs)

variable {nD : Nat} {τ : Topo} {sig : RefSig} {F : FTy → Type} {Λ₀ : SL.Sem.Labels}

local notation "𝕄" => MT nD τ sig Unit (Elt F) ℕ (Option PUnit) ℕ

/-- One counted loop over host operations: its label, its two regions, their operations and its trip count. -/
structure Counted (pcs : Fin 0 → PCfg sig Λ₀ (Elt F)) (nD : Nat) (τ : Topo) (nL : Nat)
    (loops : Fin nL → Prog (TpuEff nD τ sig (Elt F) (HostLoop.Sig (Pipeline.Sig Λ₀ (Fin 0) fun p => (pcs p).Adm) nL) .tc) PUnit) where
  l : Fin nL
  cond : Prog (TpuEff nD τ sig (Elt F) (HostLoop.Sig (Pipeline.Sig Λ₀ (Fin 0) fun p => (pcs p).Adm) nL) .tc) (Elt F .i1)
  body : Prog (TpuEff nD τ sig (Elt F) (HostLoop.Sig (Pipeline.Sig Λ₀ (Fin 0) fun p => (pcs p).Adm) nL) .tc) PUnit
  hloops : loops l = HostLoop.step l cond body
  condOps : List (HloOp τ sig (Elt F))
  bodyI : List (List (HloOp τ sig (Elt F)))
  hbodyI : Plain bodyI
  hbody : body = Pipeline.chain (bodyI.map fun ops => (seq ops : Prog _ PUnit))
  n : ℕ

section

variable {pcs : Fin 0 → PCfg sig Λ₀ (Elt F)} {defs₀ : Defs nD τ sig (Elt F) Λ₀} {nL : Nat}
  {loops : Fin nL → Prog (TpuEff nD τ sig (Elt F) (HostLoop.Sig (Pipeline.Sig Λ₀ (Fin 0) fun p => (pcs p).Adm) nL) .tc) PUnit}

/-- The buffers when the loop has been left: its trips, then the condition that fails. -/
abbrev Counted.out (k : Counted pcs nD τ nL loops) (W₀ : Dev nD → Valuation τ sig (Elt F)) (c : Dev nD) : Valuation τ sig (Elt F) :=
  after k.condOps (atTrip k.condOps k.bodyI W₀ k.n c)

variable (pcs) in
/-- No pipeline: nothing is admitted. -/
abbrev none_adm : (p : Fin 0) → (pcs p).Adm := fun p => p.elim0

variable (pcs) in
/-- No pipeline: there is no ticket. -/
abbrev none_tk : Fin 0 → Ticket (Ix := Unit) (Name := ℕ) (U := Option PUnit) (Lvl := ℕ) (nD := nD) (τ := τ) pcs (none_adm pcs) := fun j => j.elim0

/-- No cell carries an index. -/
abbrev none_ix : GSem nD τ sig → Finset Unit := fun _ => ∅

/-- Every level is zero. -/
abbrev zero_lv : GSem nD τ sig → Unit → ℕ := fun _ _ => 0

/-- What stays beside the buffers: the core owes nothing. -/
abbrev Owed (c : Dev nD) : sProp 𝕄 := iprop(∃ W, owes (c : Thread nD τ) (0 : CellTallies nD τ sig Unit) W)

/-- A condition proved over the buffers alone holds with the debt carried along. -/
theorem withOwed {cond : Prog (TpuEff nD τ sig (Elt F) (HostLoop.Sig (Pipeline.Sig Λ₀ (Fin 0) fun p => (pcs p).Adm) nL) .tc) (Elt F .i1)}
    {condOps : List (HloOp τ sig (Elt F))} {bodyI : List (List (HloOp τ sig (Elt F)))} {W₀ : Dev nD → Valuation τ sig (Elt F)} {n : ℕ}
    (hcond : CondSpec pcs defs₀ loops cond condOps bodyI W₀ n) :
    LoopCond pcs defs₀ Variants.none loops Owed cond condOps bodyI W₀ n := by
  intro k hk c bd
  have hc := hcond k hk c bd
  have hv : ∀ v : Elt F .i1,
      iprop(iprop(⌜v = 1#1 ↔ k < n⌝ ∗ boundary (c : Thread nD τ) ∗ held (c : Thread nD τ) (ucRefs τ sig) (after condOps (atTrip condOps bodyI W₀ k c))) ∗ Owed c)
        ⊢ iprop(⌜v = 1#1 ↔ k < n⌝ ∗ boundary (c : Thread nD τ) ∗ held (c : Thread nD τ) (ucRefs τ sig) (after condOps (atTrip condOps bodyI W₀ k c)) ∗ Owed c) := by
    intro v
    iintro ⟨⟨%h, Hb, Hh⟩, HR⟩
    isplitr; · ipureintro; exact h
    isplitl [Hb]; · iexact Hb
    isplitl [Hh] <;> iassumption
  refine BIBase.Entails.trans ?_ (((sep_mono_left hc).trans (wp_frame_r _ _ _)).trans (wp_mono _ _ _ hv))
  iintro ⟨Hb, Hh, HR⟩
  isplitl [Hb Hh]; · isplitl [Hb] <;> iassumption
  iexact HR

/-- A counted loop as a segment from the buffers at `W₀`. -/
def Counted.seg (k : Counted pcs nD τ nL loops) (W₀ : Dev nD → Valuation τ sig (Elt F))
    (h : CondSpec pcs defs₀ loops k.cond k.condOps k.bodyI W₀ k.n) :
    CSeg pcs (none_adm pcs) defs₀ Variants.none none_ix zero_lv loops (none_tk pcs) :=
  loopSeg _ _ _ _ _ _ _ _ k.l k.cond k.body k.hloops k.condOps k.bodyI k.hbodyI k.hbody k.n W₀ Owed (withOwed h)

/-- A list of stretches as segments from the buffers at `V`. -/
abbrev stretches (items : List (List (HloOp τ sig (Elt F)))) (h : Plain items) (V : Dev nD → Valuation τ sig (Elt F)) :
    List (CSeg pcs (none_adm pcs) defs₀ Variants.none none_ix zero_lv loops (none_tk pcs)) :=
  segsOf _ _ _ _ _ _ _ _ Owed items h V

end

/-- The buffers at the first loop's entry, at the second's, and at the end. -/
abbrev at0 (preI : List (List (HloOp τ sig (Elt F)))) (m : (ℓ : Loc nD τ sig) → Buf (Elt F) ℓ) (c : Dev nD) : Valuation τ sig (Elt F) :=
  afterL preI (launchContents m c)

/-- From any memory with zero counters the program terminates with every unscoped buffer at the fold of its five
    stretches, and, since its signature declares no counter, with every counter zero. -/
theorem run [∀ e, Nonempty (Elt F e)]
    (pcs : Fin 0 → PCfg sig Λ₀ (Elt F)) (defs₀ : Defs nD τ sig (Elt F) Λ₀) {nL : Nat}
    (loops : Fin nL → Prog (TpuEff nD τ sig (Elt F) (HostLoop.Sig (Pipeline.Sig Λ₀ (Fin 0) fun p => (pcs p).Adm) nL) .tc) PUnit)
    (main : Dev nD → Prog (TpuEff nD τ sig (Elt F) (HostLoop.Sig (Pipeline.Sig Λ₀ (Fin 0) fun p => (pcs p).Adm) nL) .tc) PUnit)
    (k₀ k₁ : Counted pcs nD τ nL loops)
    (preI midI postI : List (List (HloOp τ sig (Elt F)))) (hpre : Plain preI) (hmid : Plain midI) (hpost : Plain postI)
    (hmain : ∀ c, main c = Pipeline.chain ((preI.map fun ops => (seq ops : Prog _ PUnit)) ++ HostLoop.enter k₀.l ::
      ((midI.map fun ops => (seq ops : Prog _ PUnit)) ++ HostLoop.enter k₁.l :: postI.map fun ops => (seq ops : Prog _ PUnit))))
    (m : (ℓ : Loc nD τ sig) → Buf (Elt F) ℓ) (ρ : Dev nD → PrngReg)
    (h₀ : CondSpec pcs defs₀ loops k₀.cond k₀.condOps k₀.bodyI (at0 preI m) k₀.n)
    (h₁ : CondSpec pcs defs₀ loops k₁.cond k₁.condOps k₁.bodyI (fun c => afterL midI (k₀.out (at0 preI m) c)) k₁.n)
    (hsem : sig.nSem + sig.nDmaSem = 0) :
    θ_run (HostLoop.defs loops (Pipeline.defs pcs defs₀)) (onTc (τ := τ) main) ⟨m, fun _ => 0, ρ⟩
      (fun r => (∀ (c : Dev nD) (b : Ref sig .tc), (Proc.devRef .tc b : DevRef τ sig).isScoped = false →
        r.2.mem ((c.tc : Thread nD τ).loc b)
          = afterL postI (k₁.out (fun c => afterL midI (k₀.out (at0 preI m) c)) c) (Proc.devRef .tc b))
        ∧ r.2.sem = fun _ => 0) := by
  let E₁ : Dev nD → Valuation τ sig (Elt F) := fun c => afterL midI (k₀.out (at0 preI m) c)
  let Z : Dev nD → Valuation τ sig (Elt F) := fun c => afterL postI (k₁.out E₁ c)
  let segs : List (CSeg pcs (none_adm pcs) defs₀ Variants.none none_ix zero_lv loops (none_tk pcs)) :=
    stretches preI hpre (launchContents m) ++ k₀.seg (at0 preI m) h₀ ::
      (stretches midI hmid (k₀.out (at0 preI m)) ++ k₁.seg E₁ h₁ :: stretches postI hpost (k₁.out E₁))
  have hprog : segs.map CSeg.prog = (preI.map fun ops => (seq ops : Prog _ PUnit)) ++ HostLoop.enter k₀.l ::
      ((midI.map fun ops => (seq ops : Prog _ PUnit)) ++ HostLoop.enter k₁.l :: postI.map fun ops => (seq ops : Prog _ PUnit)) := by
    simp only [segs, List.map_append, List.map_cons, stretches, segsOf_prog]
    rfl
  have hch : CSeg.Chains (fun c => iprop(held (c : Thread nD τ) (ucRefs τ sig) (launchContents m c) ∗ Owed c)) segs
      (fun c => iprop(held (c : Thread nD τ) (ucRefs τ sig) (Z c) ∗ Owed c)) :=
    CSeg.Chains.append (segsOf_chains _ _ _ _ _ _ _ _ Owed preI hpre _)
      ⟨fun _ => .rfl, CSeg.Chains.append (segsOf_chains _ _ _ _ _ _ _ _ Owed midI hmid _)
        ⟨fun _ => .rfl, segsOf_chains _ _ _ _ _ _ _ _ Owed postI hpost _⟩⟩
  refine Pipeline.θ_run_regions_loop_kit (Ix := Unit) (Name := ℕ) (U := Option PUnit) (Lvl := ℕ) (J := Fin 0) (P := Fin 0) (Val := Elt F)
    pcs (none_adm pcs) (fun k => k.1.elim0) defs₀ Variants.none none_ix zero_lv loops (none_tk pcs) m ρ main segs
    (fun c Q => ?_) (CSeg.pairwise_disjoint_of_T_empty _ fun s _ => Finset.eq_empty_of_isEmpty s.T)
    (O₀ := 0) (hL := fun _ _ => rfl) (G := fun _ => iprop(emp)) (u₀ := 1) (hu₀ := ?_)
    (T₀ := fun c => iprop(held (c : Thread nD τ) (ucRefs τ sig) (launchContents m c) ∗ Owed c))
    (Tₙ := fun c => iprop(held (c : Thread nD τ) (ucRefs τ sig) (Z c))) (hch := hch) (hinit := ?_)
    (QY := fun c s => ∀ b ∈ ucRefs τ sig, s.mem ((c : Dev nD), b) = Z c b) (hfin := fun c s' => ?_)
    (hQ := fun r h => ⟨fun c b hb => h c _ (devRef_mem_ucRefs b hb), sem_eq_zero_of_no_sems hsem _⟩)
  · rw [hmain c, ← hprog]
    exact .rfl
  · iintro -
    imodintro
    isplitl []
    · rw [Finset.univ_eq_empty, BI.bigSep_empty]; iempintro
    · iapply (show (BI.emp : sProp 𝕄) ⊢ bigSep Finset.univ (fun _ : Dev nD => (BI.emp : sProp 𝕄)) from by rw [BI.bigSep_emp_const])
      iempintro
  · refine Pipeline.initEach none_ix zero_lv fun c => ?_
    rw [show unscopedBufs c (fun b => m ((c : Thread nD τ).loc b)) = held (c : Thread nD τ) (ucRefs τ sig) (launchContents m c) from Pipeline.unscopedBufs_held c (launchContents m c)]
    iintro ⟨⟨Hh, -, HO, -, -, -⟩, -⟩
    imodintro
    isplitl [Hh]; · iexact Hh
    iexists ∅; iexact HO
  · unfold held
    iintro ⟨Hh, HSI⟩
    ihave Hr := (pointsTo_read_all (ucRefs τ sig) (fun b => ((c : Dev nD), b)) (fun b => Z c b) s') $$ [Hh HSI]
    · isplitl [Hh] <;> iassumption
    icases Hr with ⟨%h, HSI⟩
    imodintro
    isplitr; · ipureintro; exact h
    iexact HSI

end Idealize.ShloMosaic.StableHlo.TwoLoops

end
-- ==== Proof.RefRun.lean ====
/- The reference run: its two loops' conditions, their counters, and the contents of every buffer at the end. -/
module

public import proofs.«01_k».proof.Proof.RefOps
public import proofs.«01_k».proof.Proof.TwoLoops
public import proofs.«01_k».proof.Proof.Ssa
public import Idealize.ShloMosaic.Lib.StableHlo.RunRead
public import Idealize.ShloMosaic.Lib.Scf.ExitTest
public import Idealize.ShloMosaic.Lib.Scf.Counter

@[expose] public section

set_option maxRecDepth 16384

noncomputable section

namespace Cert.ReferenceIdeal.Ops

open Idealize.ShloMosaic Idealize.ShloMosaic.TcCoe Idealize.ShloMosaic.StableHlo
open Idealize.SL Idealize.SL.RA Idealize.SL.BI
open scoped Idealize.SL.BI
open Idealize.SL.BI.BIBase Idealize.SL.BI.Laws Idealize.SL.ProofMode Idealize.SL.Sem
open Idealize.ShloMosaic.Pipeline (ucRefs sub_ucRefs)
open Cert.ReferenceIdeal Cert.ReferenceIdeal.Gen
open Idealize.ShloMosaic.StableHlo.TwoLoops

variable {F : FTy → Type} [FloatOps F]

/-- What the operations before the first loop write, in order. -/
abbrev preW : List (Ref sig .tc) := [main_v0, main_v1, main_v2, main_cst, main_v3, main_v4, main_cst_0, main_v5, main_v6, main_v7, main_v8, main_v9, main_v10, main_v11, main_v12, main_v13, main_v14, main_v15, main_v16, main_v17, main_v18, main_v19, main_v20, main_v21, main_v22, main_v23, main_v24, main_v25, main_v26, main_v27, main_v28, main_v29, main_v30, main_v31, main_v32, main_cst_1, main_v33, main_v34, main_cst_2, main_v35, main_v36, main_v37, main_v38, main_v39, main_v40, main_v41, main_v42, main_v43, main_v44, main_v45, main_v46, main_v47, main_v48, main_v49, main_v50, main_v51, main_v52, main_v53, main_v54, main_v55, main_v56, main_v57, main_v58, main_v59, main_cst_3, main_v60, main_v61, main_v62, main_cst_4, main_cst_5, main_call0_v0, main_call0_v1, main_call0_v2, main_call0_cst, main_call0_v3, main_call0_v4, main_call0_cst_0, main_call0_v5, main_call0_v6, main_call0_v7, main_call0_cst_1, main_call0_v8, main_call0_v9, main_call0_v10, main_call0_v11, main_call0_v12, main_call0_v13, main_call0_v14, main_call0_v15, main_call0_v16, main_v63, main_v64, main_cst_6, main_v65, main_v66, main_v67, main_v68, main_v69, main_v70, main_v71, main_v72, main_v73, main_v74, main_v75, main_v76, main_v77, main_cst_7, main_v78, main_v79, main_cst_8, main_v80, main_v81, main_v82, main_v83, main_v84, main_v85, main_v86, main_v87, main_cst_9, main_call1_v0, main_call1_v1, main_call1_v2, main_v88, main_v89, main_v90, main_v91, main_v92, main_v93, main_v94, main_cst_10, main_v95, main_v96, main_v97, main_v98, main_v99, main_v100, main_v101, main_v102, main_v103, main_v104, main_v105, main_v106, main_v107, main_v108, main_cst_11, main_v109, main_v110, main_v111, main_v112, main_cst_12, main_v113, main_v114, main_cst_13, main_v115, main_c, main_v116_0, main_v116_1, main_v116_2, main_v116_3, main_v116_4]

/-- What the operations between the loops write. -/
abbrev midW : List (Ref sig .tc) := [main_v117, main_cst_14, main_v118, main_v119, main_v120, main_v121, main_v122, main_v123, main_v124, main_v125, main_v126, main_v127, main_v128, main_v129, main_v130, main_v131, main_v132, main_v133, main_v134, main_v135, main_cst_15, main_v136, main_v137, main_v138, main_v139, main_v140, main_v141, main_v142, main_v143, main_v144, main_v145, main_v146, main_cst_16, main_v147, main_cst_17, main_v148, main_c_18, main_v149_0, main_v149_1, main_v149_2, main_v149_3, main_v149_4]

/-- What the operations after the second loop write. -/
abbrev postW : List (Ref sig .tc) := [main_v150, main_v151, main_v152, main_v153, main_v154, main_v155, main_v156, main_v157, main_v158, main_v159, main_v160, main_v161, main_v162, main_v163, main_v164, main_v165, main_v166, main_v167, main_v168, main_v169, main_v170, main_v171, main_v172, main_v173, main_cst_19, main_v174, main_v175, main_v176, main_v177, main_v178, main_v179, main_v180, main_v181, main_v182, main_v183, main_v184, main_v185, main_v186, main_v187, main_v188, main_cst_20, main_v189, main_cst_21, main_v190, main_v191, main_v192, main_v193, main_v194, main_v195, main_v196, main_v197, main_v198, main_v199, main_v200, main_v201, main_v202, main_v203, main_v204, main_v205, main_cst_22, main_v206, main_cst_23, main_v207, main_v208, main_v209, main_v210, main_v211, main_v212]

/-- What loop 0's body writes before it stores what it carries. -/
abbrev stepW0 : List (Ref sig .tc) := [main_while0b_call2_c, main_while0b_call2_c_0, main_while0b_call2_c_1, main_while0b_call2_c_2, main_while0b_call2_v0, main_while0b_v213, main_while0b_v214, main_while0b_v215, main_while0b_v216, main_while0b_call3_v0, main_while0b_call3_c, main_while0b_call3_c_0, main_while0b_call3_c_1, main_while0b_call3_c_2, main_while0b_v217, main_while0b_c_28, main_while0b_v218]

/-- What loop 0 carries and changes. -/
abbrev carryW0 : List (Ref sig .tc) := [main_v116_2, main_v116_3, main_v116_4]

/-- What loop 1's body writes before it stores what it carries. -/
abbrev stepW1 : List (Ref sig .tc) := [main_while1b_c_28, main_while1b_v213, main_while1b_c_29, main_while1b_v214, main_while1b_call4_c, main_while1b_call4_c_0, main_while1b_call4_c_1, main_while1b_call4_c_2, main_while1b_call4_v0, main_while1b_v215, main_while1b_v216, main_while1b_v217, main_while1b_v218, main_while1b_call5_v0, main_while1b_call5_c, main_while1b_call5_c_0, main_while1b_call5_c_1, main_while1b_call5_c_2, main_while1b_v219, main_while1b_c_30, main_while1b_v220]

/-- What loop 1 carries and changes. -/
abbrev carryW1 : List (Ref sig .tc) := [main_v149_2, main_v149_3, main_v149_4]

abbrev condW0 : List (Ref sig .tc) := [main_while0c_c_28, main_while0c_v213]
abbrev condW1 : List (Ref sig .tc) := [main_while1c_c_28, main_while1c_v213]

/-- Everything written by a loop. -/
abbrev loopW0 : List (Ref sig .tc) := condW0 ++ (stepW0 ++ carryW0)
abbrev loopW1 : List (Ref sig .tc) := condW1 ++ (stepW1 ++ carryW1)

/-- Loop 0's body before its last three copies, and these copies. -/
abbrev step0 : List (HloOp τ sig (Elt F)) := trip0a ++ (trip0b ++ (trip0c ++ trip0d.take 2))
abbrev carry0 : List (HloOp τ sig (Elt F)) := trip0d.drop 2

theorem step0_map : (step0 (F := F)).map HloOp.writes = stepW0.map fun r => {Proc.devRef (τ := τ) .tc r} := rfl
theorem carry0_map : (carry0 (F := F)).map HloOp.writes = carryW0.map fun r => {Proc.devRef (τ := τ) .tc r} := rfl
theorem cond0_map : (cond0 (F := F)).map HloOp.writes = condW0.map fun r => {Proc.devRef (τ := τ) .tc r} := rfl
theorem body0_eq (V : Valuation τ sig (Elt F)) : afterL (body0 (F := F)) V = after carry0 (after step0 V) := rfl

/-- Loop 1's body before its last three copies, and these copies. -/
abbrev step1 : List (HloOp τ sig (Elt F)) := trip1a ++ (trip1b ++ (trip1c ++ (trip1d ++ trip1e.take 2)))
abbrev carry1 : List (HloOp τ sig (Elt F)) := trip1e.drop 2

theorem step1_map : (step1 (F := F)).map HloOp.writes = stepW1.map fun r => {Proc.devRef (τ := τ) .tc r} := rfl
theorem carry1_map : (carry1 (F := F)).map HloOp.writes = carryW1.map fun r => {Proc.devRef (τ := τ) .tc r} := rfl
theorem cond1_map : (cond1 (F := F)).map HloOp.writes = condW1.map fun r => {Proc.devRef (τ := τ) .tc r} := rfl
theorem body1_eq (V : Valuation τ sig (Elt F)) : afterL (body1 (F := F)) V = after carry1 (after step1 V) := rfl

theorem pre_map : (preI (F := F)).flatten.map HloOp.writes = preW.map fun r => {Proc.devRef (τ := τ) .tc r} := rfl

theorem mid_map : (midI (F := F)).flatten.map HloOp.writes = midW.map fun r => {Proc.devRef (τ := τ) .tc r} := rfl

theorem post_map : (postI (F := F)).flatten.map HloOp.writes = postW.map fun r => {Proc.devRef (τ := τ) .tc r} := rfl

theorem afterL_flatten (L : List (List (HloOp τ sig (Elt F)))) (V : Valuation τ sig (Elt F)) : afterL L V = after L.flatten V := by
  induction L generalizing V with
  | nil => rfl
  | cons a L ih => rw [afterL_cons, ih, List.flatten_cons, after_append]

theorem keep_of_map {ops : List (HloOp τ sig (Elt F))} {W : List (Ref sig .tc)}
    (h : ops.map HloOp.writes = W.map fun r => {Proc.devRef (τ := τ) .tc r}) (V : Valuation τ sig (Elt F)) {r : Ref sig .tc}
    (hr : r ∉ W) : after ops V (Proc.devRef .tc r) = V (Proc.devRef .tc r) :=
  after_of_writes_sub ops V (forall_writes_sub_of_map h) hr

variable (m : (ℓ : Loc nD τ sig) → Buf (Elt F) ℓ)

/-- Every buffer before the first loop. -/
abbrev E0 (c : Dev nD) : Valuation τ sig (Elt F) := at0 preI m c

/-- Every buffer before the `n`-th trip of loop 0 entered at `E`. -/
abbrev at0K (E : Dev nD → Valuation τ sig (Elt F)) (n : ℕ) (c : Dev nD) : Valuation τ sig (Elt F) := atTrip cond0 body0 E n c

theorem at0K_succ (E : Dev nD → Valuation τ sig (Elt F)) (n : ℕ) (c : Dev nD) :
    at0K E (n + 1) c = after carry0 (after step0 (after cond0 (at0K E n c))) := rfl

theorem at0K_keep (E : Dev nD → Valuation τ sig (Elt F)) (c : Dev nD) {r : Ref sig .tc} (hr : r ∉ loopW0) :
    ∀ n, at0K E n c (Proc.devRef .tc r) = E c (Proc.devRef .tc r)
  | 0 => rfl
  | n + 1 => by
    have h := hr
    rw [List.mem_append, not_or, List.mem_append, not_or] at h
    rw [at0K_succ, keep_of_map carry0_map _ h.2.2, keep_of_map step0_map _ h.2.1, keep_of_map cond0_map _ h.1]
    exact at0K_keep E c hr n

/-- Every buffer before the `n`-th trip of loop 1 entered at `E`. -/
abbrev at1K (E : Dev nD → Valuation τ sig (Elt F)) (n : ℕ) (c : Dev nD) : Valuation τ sig (Elt F) := atTrip cond1 body1 E n c

theorem at1K_succ (E : Dev nD → Valuation τ sig (Elt F)) (n : ℕ) (c : Dev nD) :
    at1K E (n + 1) c = after carry1 (after step1 (after cond1 (at1K E n c))) := rfl

theorem at1K_keep (E : Dev nD → Valuation τ sig (Elt F)) (c : Dev nD) {r : Ref sig .tc} (hr : r ∉ loopW1) :
    ∀ n, at1K E n c (Proc.devRef .tc r) = E c (Proc.devRef .tc r)
  | 0 => rfl
  | n + 1 => by
    have h := hr
    rw [List.mem_append, not_or, List.mem_append, not_or] at h
    rw [at1K_succ, keep_of_map carry1_map _ h.2.2, keep_of_map step1_map _ h.2.1, keep_of_map cond1_map _ h.1]
    exact at1K_keep E c hr n

/-- The counter of loop 0 is one more after a trip. -/
theorem step0_line (V : Valuation τ sig (Elt F)) : Line (after step0 V) V step0 stepW0 [] := ⟨step0_map, fun _ _ => rfl⟩
theorem carry0_line (V : Valuation τ sig (Elt F)) : Line (after carry0 V) V carry0 carryW0 [] := ⟨carry0_map, fun _ _ => rfl⟩

theorem at0K_ctr_succ (E : Dev nD → Valuation τ sig (Elt F)) (n : ℕ) (c : Dev nD) :
    at0K E (n + 1) c (Proc.devRef .tc main_v116_2) = addi (at0K E n c (Proc.devRef .tc main_v116_2)) (constantI S_ 32 1#32) := by
  rw [at0K_succ]
  have h1 := (carry0_line (after step0 (after cond0 (at0K E n c)))).unary 0 rfl (by decide +kernel) (by decide +kernel)
  have h2 := (step0_line (after cond0 (at0K E n c))).binary 16 rfl (by decide +kernel) (by decide +kernel) (by decide +kernel)
  have h3 := (step0_line (after cond0 (at0K E n c))).nullary 15 rfl (by decide +kernel)
  have h4 := (step0_line (after cond0 (at0K E n c))).keep (r := main_v116_2) (by decide +kernel)
  have h5 := (carry0_line (after step0 (after cond0 (at0K E n c)))).before 0 (r := main_while0b_v218) (by decide +kernel)
  have h6 := keep_of_map cond0_map (at0K E n c) (r := main_v116_2) (by decide +kernel)
  exact h1.trans (h5.symm.trans (h2.trans (congrArg₂ addi (h4.trans h6) h3)))

theorem at0K_ctr (E : Dev nD → Valuation τ sig (Elt F)) (c : Dev nD) (h0 : E c (Proc.devRef .tc main_v116_2) = fun _ => (0#32 : BitVec 32)) :
    ∀ n, at0K E n c (Proc.devRef .tc main_v116_2) = fun _ => Scf.iv 0#32 1#32 n
  | 0 => by rw [Scf.iv_zero]; exact h0
  | n + 1 => by rw [at0K_ctr_succ, at0K_ctr E c h0 n, Scf.iv_succ]; rfl

/-- The counter of loop 1 is one more after a trip. -/
theorem step1_line (V : Valuation τ sig (Elt F)) : Line (after step1 V) V step1 stepW1 [] := ⟨step1_map, fun _ _ => rfl⟩
theorem carry1_line (V : Valuation τ sig (Elt F)) : Line (after carry1 V) V carry1 carryW1 [] := ⟨carry1_map, fun _ _ => rfl⟩

theorem at1K_ctr_succ (E : Dev nD → Valuation τ sig (Elt F)) (n : ℕ) (c : Dev nD) :
    at1K E (n + 1) c (Proc.devRef .tc main_v149_2) = addi (at1K E n c (Proc.devRef .tc main_v149_2)) (constantI S_ 32 1#32) := by
  rw [at1K_succ]
  have h1 := (carry1_line (after step1 (after cond1 (at1K E n c)))).unary 0 rfl (by decide +kernel) (by decide +kernel)
  have h2 := (step1_line (after cond1 (at1K E n c))).binary 20 rfl (by decide +kernel) (by decide +kernel) (by decide +kernel)
  have h3 := (step1_line (after cond1 (at1K E n c))).nullary 19 rfl (by decide +kernel)
  have h4 := (step1_line (after cond1 (at1K E n c))).keep (r := main_v149_2) (by decide +kernel)
  have h5 := (carry1_line (after step1 (after cond1 (at1K E n c)))).before 0 (r := main_while1b_v220) (by decide +kernel)
  have h6 := keep_of_map cond1_map (at1K E n c) (r := main_v149_2) (by decide +kernel)
  exact h1.trans (h5.symm.trans (h2.trans (congrArg₂ addi (h4.trans h6) h3)))

theorem at1K_ctr (E : Dev nD → Valuation τ sig (Elt F)) (c : Dev nD) (h0 : E c (Proc.devRef .tc main_v149_2) = fun _ => (0#32 : BitVec 32)) :
    ∀ n, at1K E n c (Proc.devRef .tc main_v149_2) = fun _ => Scf.iv 0#32 1#32 n
  | 0 => by rw [Scf.iv_zero]; exact h0
  | n + 1 => by rw [at1K_ctr_succ, at1K_ctr E c h0 n, Scf.iv_succ]; rfl

set_option backward.isDefEq.respectTransparency.types false in
/-- Loop 0's condition holds at trip `k` iff `k < 64`. -/
theorem cond0_spec (E : Dev nD → Valuation τ sig (Elt F)) (hE : ∀ c, E c (Proc.devRef .tc main_v116_2) = fun _ => (0#32 : BitVec 32)) :
    CondSpec (pcfgs (F := F)) defs₀ loops (main_while0_cond (F := F)) cond0 body0 E 64 := by
  intro k hk c bd
  have hctr := at0K_ctr E c (hE c) k
  unfold main_while0_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (at0K E k c) main_v116_2 HostLoop.idx0)
        (HloOp.result _ (at0K E k c) main_while0c_c_28 HostLoop.idx0) = 1#1) (k < 64)
    rw [nullary_result_ne _ _ _ _ (by decide), nullary_result, hctr]
    exact Scf.cmpi_slt_iv_ub_iff (lb := 0#32) (ub := 64#32) (st := 1#32) (by decide) (show k ≤ Scf.trips 0#32 64#32 1#32 from hk)
  isplitl [Hb]; · iexact Hb
  rw [after_cons, after_cons, after_nil]; iexact Hh

/-- Loop 0, of 64 trips. -/
abbrev loop0 : Counted (pcfgs (F := F)) nD τ 2 loops :=
  ⟨0, main_while0_cond, main_while0_body, rfl, cond0, body0, body0_plain, body0_chain, 64⟩

set_option backward.isDefEq.respectTransparency.types false in
/-- Loop 1's condition holds at trip `k` iff `k < 64`. -/
theorem cond1_spec (E : Dev nD → Valuation τ sig (Elt F)) (hE : ∀ c, E c (Proc.devRef .tc main_v149_2) = fun _ => (0#32 : BitVec 32)) :
    CondSpec (pcfgs (F := F)) defs₀ loops (main_while1_cond (F := F)) cond1 body1 E 64 := by
  intro k hk c bd
  have hctr := at1K_ctr E c (hE c) k
  unfold main_while1_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (at1K E k c) main_v149_2 HostLoop.idx0)
        (HloOp.result _ (at1K E k c) main_while1c_c_28 HostLoop.idx0) = 1#1) (k < 64)
    rw [nullary_result_ne _ _ _ _ (by decide), nullary_result, hctr]
    exact Scf.cmpi_slt_iv_ub_iff (lb := 0#32) (ub := 64#32) (st := 1#32) (by decide) (show k ≤ Scf.trips 0#32 64#32 1#32 from hk)
  isplitl [Hb]; · iexact Hb
  rw [after_cons, after_cons, after_nil]; iexact Hh

/-- Loop 1, of 64 trips. -/
abbrev loop1 : Counted (pcfgs (F := F)) nD τ 2 loops :=
  ⟨1, main_while1_cond, main_while1_body, rfl, cond1, body1, body1_plain, body1_chain, 64⟩

/-- Every buffer after the first loop, before the second, after it, and at the end. -/
abbrev X0 (c : Dev nD) : Valuation τ sig (Elt F) := loop0.out (E0 m) c
abbrev E1 (c : Dev nD) : Valuation τ sig (Elt F) := afterL midI (X0 m c)
abbrev X1 (c : Dev nD) : Valuation τ sig (Elt F) := loop1.out (E1 m) c
abbrev Fin' (c : Dev nD) : Valuation τ sig (Elt F) := afterL postI (X1 m c)

theorem X0_eq (c : Dev nD) {r : Ref sig .tc} (hr : r ∉ condW0) : X0 m c (Proc.devRef .tc r) = at0K (E0 m) 64 c (Proc.devRef .tc r) :=
  keep_of_map cond0_map _ hr
theorem X1_eq (c : Dev nD) {r : Ref sig .tc} (hr : r ∉ condW1) : X1 m c (Proc.devRef .tc r) = at1K (E1 m) 64 c (Proc.devRef .tc r) :=
  keep_of_map cond1_map _ hr
theorem X0_keep (c : Dev nD) {r : Ref sig .tc} (hr : r ∉ loopW0) : X0 m c (Proc.devRef .tc r) = E0 m c (Proc.devRef .tc r) :=
  (X0_eq m c fun h => hr (List.mem_append_left _ h)).trans (at0K_keep _ c hr 64)
theorem X1_keep (c : Dev nD) {r : Ref sig .tc} (hr : r ∉ loopW1) : X1 m c (Proc.devRef .tc r) = E1 m c (Proc.devRef .tc r) :=
  (X1_eq m c fun h => hr (List.mem_append_left _ h)).trans (at1K_keep _ c hr 64)

theorem pre_line0 (c : Dev nD) : Line (E0 m c) (launchContents m c) preI.flatten preW [] :=
  ⟨pre_map, fun _ _ => congrFun (afterL_flatten preI _) _⟩
theorem mid_line0 (c : Dev nD) : Line (E1 m c) (X0 m c) midI.flatten midW [] :=
  ⟨mid_map, fun _ _ => congrFun (afterL_flatten midI _) _⟩
theorem post_line (c : Dev nD) : Line (Fin' m c) (X1 m c) postI.flatten postW [] :=
  ⟨post_map, fun _ _ => congrFun (afterL_flatten postI _) _⟩
theorem mid_line (c : Dev nD) : Line (Fin' m c) (X0 m c) midI.flatten midW (loopW1 ++ postW) :=
  ⟨mid_map, fun r hr => by
    rw [List.mem_append, not_or] at hr
    exact ((post_line m c).keep (r := r) (by rw [List.append_nil]; exact hr.2)).trans
      ((X1_keep m c hr.1).trans (congrFun (afterL_flatten midI _) _))⟩
theorem pre_line (c : Dev nD) : Line (Fin' m c) (launchContents m c) preI.flatten preW (loopW0 ++ (midW ++ (loopW1 ++ postW))) :=
  ⟨pre_map, fun r hr => by
    rw [List.mem_append, not_or] at hr
    exact ((mid_line m c).keep hr.2).trans ((X0_keep m c hr.1).trans (congrFun (afterL_flatten preI _) _))⟩

theorem E0_ctr (c : Dev nD) : E0 m c (Proc.devRef .tc main_v116_2) = fun _ => (0#32 : BitVec 32) :=
  ((pre_line0 m c).unary 157 rfl (by decide +kernel) (by decide +kernel)).trans
    ((pre_line0 m c).nullary 154 rfl (by decide +kernel))
theorem E1_ctr (c : Dev nD) : E1 m c (Proc.devRef .tc main_v149_2) = fun _ => (0#32 : BitVec 32) :=
  ((mid_line0 m c).unary 39 rfl (by decide +kernel) (by decide +kernel)).trans
    ((mid_line0 m c).nullary 36 rfl (by decide +kernel))

variable [∀ e, Nonempty (Elt F e)]

/-- The reference runs, leaves every buffer at `Fin'`, and signals nothing. -/
theorem run (ρ : Dev nD → PrngReg) : θ_run defs (onTc (main (F := F))) ⟨m, fun _ => 0, ρ⟩ (fun r =>
    (∀ (c : Dev nD) (b : Ref sig .tc), (Proc.devRef (τ := τ) .tc b).isScoped = false → r.2.mem ((c.tc).loc b) = Fin' m c (Proc.devRef .tc b))
      ∧ r.2.sem = fun _ => 0) :=
  TwoLoops.run pcfgs defs₀ loops main loop0 loop1 preI midI postI preI_plain midI_plain postI_plain main_chain m ρ
    (cond0_spec _ (E0_ctr m)) (cond1_spec _ (E1_ctr m)) rfl

end Cert.ReferenceIdeal.Ops

end
-- ==== Proof.RefEqs.lean ====
/- What each host operation of the reference leaves, as its operation on what its operands hold at the end. -/
module

public import proofs.«01_k».proof.Proof.RefRun
public import Idealize.ShloMosaic.PureOps.Ideal

@[expose] public section

set_option maxRecDepth 16384

noncomputable section

namespace Cert.ReferenceIdeal.Ops

open Idealize.ShloMosaic Idealize.ShloMosaic.TcCoe Idealize.ShloMosaic.StableHlo
open Cert.ReferenceIdeal Cert.ReferenceIdeal.Gen

variable (m : (ℓ : Loc nD τ sig) → Buf (Elt Ideal) ℓ) (c : Dev nD)

/-- Three entries, then one. -/
def cat31 (a : FVec Ideal S3 .f32) (b : FVec Ideal S1 .f32) : FVec Ideal S4 .f32 := concatenate S4 0 [⟨S3, a⟩, ⟨S1, b⟩] concatenates_S3_S1_S4_d0

/-- What buffer `b` holds at the end of the reference. -/
abbrev R (b : Ref sig .tc) : b.ty.Contents (Elt Ideal) := Fin' m c (Proc.devRef .tc b)

theorem R_arg0 : R m c main_arg0 = m ((c.tc : Thread nD τ).loc main_arg0) := (pre_line m c).keep (by decide +kernel)
theorem R_arg1 : R m c main_arg1 = m ((c.tc : Thread nD τ).loc main_arg1) := (pre_line m c).keep (by decide +kernel)
theorem R_arg2 : R m c main_arg2 = m ((c.tc : Thread nD τ).loc main_arg2) := (pre_line m c).keep (by decide +kernel)
theorem R_arg3 : R m c main_arg3 = m ((c.tc : Thread nD τ).loc main_arg3) := (pre_line m c).keep (by decide +kernel)

/-- The arguments, then everything written, in order, and their indices. -/
abbrev argW : List (Ref sig .tc) := [main_arg0, main_arg1, main_arg2, main_arg3]
abbrev allW : List (Ref sig .tc) := argW ++ (preW ++ (loopW0 ++ (midW ++ (loopW1 ++ postW))))
def allK : List ℕ := [0, 1, 2, 3, 4, 5, 6, 7, 8, 9, 10, 11, 12, 13, 14, 15, 16, 17, 18, 19, 20, 21, 22, 23, 24, 25, 26, 27, 28, 29, 30, 31, 32, 33, 34, 35, 36, 37, 38, 39, 40, 41, 42, 43, 44, 45, 46, 47, 48, 49, 50, 51, 52, 53, 54, 55, 56, 57, 58, 59, 60, 61, 62, 63, 64, 65, 66, 67, 68, 69, 70, 71, 72, 73, 74, 75, 76, 77, 78, 79, 80, 81, 82, 83, 84, 85, 86, 87, 88, 89, 90, 91, 92, 93, 94, 95, 96, 97, 98, 99, 100, 101, 102, 103, 104, 105, 106, 107, 108, 109, 110, 111, 112, 113, 114, 115, 116, 117, 118, 119, 120, 121, 122, 123, 124, 125, 126, 127, 128, 129, 130, 131, 132, 133, 134, 135, 136, 137, 138, 139, 140, 141, 142, 143, 144, 145, 146, 147, 148, 149, 150, 151, 152, 153, 154, 155, 156, 157, 158, 159, 160, 161, 162, 163, 164, 165, 166, 167, 168, 169, 170, 171, 172, 173, 174, 175, 176, 177, 178, 179, 180, 181, 182, 161, 162, 163, 183, 184, 185, 186, 187, 188, 189, 190, 191, 192, 193, 194, 195, 196, 197, 198, 199, 200, 201, 202, 203, 204, 205, 206, 207, 208, 209, 210, 211, 212, 213, 214, 215, 216, 217, 218, 219, 220, 221, 222, 223, 224, 225, 226, 227, 228, 229, 230, 231, 232, 233, 234, 235, 236, 237, 238, 239, 240, 241, 242, 243, 244, 245, 246, 247, 222, 223, 224, 248, 249, 250, 251, 252, 253, 254, 255, 256, 257, 258, 259, 260, 261, 262, 263, 264, 265, 266, 267, 268, 269, 270, 271, 272, 273, 274, 275, 276, 277, 278, 279, 280, 281, 282, 283, 284, 285, 286, 287, 288, 289, 290, 291, 292, 293, 294, 295, 296, 297, 298, 299, 300, 301, 302, 303, 304, 305, 306, 307, 308, 309, 310, 311, 312, 313, 314, 315]
theorem tape : Tape allW allK := ⟨by decide +kernel⟩

theorem pre_off (n p : ℕ) {x : Ref sig .tc} (hn : n ≤ preW.length := by decide +kernel) (hx : allW[p]? = some x := by rfl)
    (h : Tape.last allK p (4 + n) = true := by decide +kernel) : x ∉ preW.drop n ++ (loopW0 ++ (midW ++ (loopW1 ++ postW))) := tape.off (W := preW) (L := loopW0 ++ (midW ++ (loopW1 ++ postW))) 4 rfl n p hn hx h

theorem mid_off (n p : ℕ) {x : Ref sig .tc} (hn : n ≤ midW.length := by decide +kernel) (hx : allW[p]? = some x := by rfl)
    (h : Tape.last allK p (186 + n) = true := by decide +kernel) : x ∉ midW.drop n ++ (loopW1 ++ postW) := tape.off (W := midW) (L := loopW1 ++ postW) 186 rfl n p hn hx h

theorem post_off (n p : ℕ) {x : Ref sig .tc} (hn : n ≤ postW.length := by decide +kernel) (hx : allW[p]? = some x := by rfl)
    (h : Tape.last allK p (254 + n) = true := by decide +kernel) : x ∉ postW.drop n ++ ([]) := tape.off (W := postW) (L := []) 254 rfl n p hn hx h

theorem e_v0 : (R m c main_v0 : FVec Ideal S1x8192x4x128 .f32) = shapeCast S1x8192x4x128 (R m c main_arg0 : FVec Ideal S8192x512 .f32) shapeCasts_S8192x512_S1x8192x4x128 :=
  ((pre_line m c).reshape 0 rfl (pre_off 1 4) (pre_off 0 0)).trans rfl
theorem e_v1 : (R m c main_v1 : FVec Ideal S64 .f32) = sitofp (F := Ideal) .f32 (iotaInDim S64 32 0) :=
  (pre_line m c).nullary 1 rfl (pre_off 2 5)
theorem e_v2 : (R m c main_v2 : FVec Ideal S64 .f32) = Host.negf (F := Ideal) (s := S64) (φ := .f32) (R m c main_v1 : FVec Ideal S64 .f32) :=
  (pre_line m c).unary 2 rfl (pre_off 3 6) (pre_off 2 5)
theorem e_cst : (R m c main_cst : FVec Ideal S_ .f32) = constant (F := Ideal) S_ .f32 0x42800000#32 :=
  (pre_line m c).nullary 3 rfl (pre_off 4 7)
theorem e_v3 : (R m c main_v3 : FVec Ideal S64 .f32) = broadcastInDim S64 ![] bcast_S_S64 (R m c main_cst : FVec Ideal S_ .f32) :=
  (pre_line m c).unary 4 rfl (pre_off 5 8) (pre_off 4 7)
theorem e_v4 : (R m c main_v4 : FVec Ideal S64 .f32) = Host.divf (F := Ideal) (s := S64) (φ := .f32) (R m c main_v2 : FVec Ideal S64 .f32) (R m c main_v3 : FVec Ideal S64 .f32) :=
  (pre_line m c).binary 5 rfl (pre_off 6 9) (pre_off 5 6) (pre_off 5 8)
theorem e_cst_0 : (R m c main_cst_0 : FVec Ideal S_ .f32) = constant (F := Ideal) S_ .f32 0x461C4000#32 :=
  (pre_line m c).nullary 6 rfl (pre_off 7 10)
theorem e_v5 : (R m c main_v5 : FVec Ideal S64 .f32) = broadcastInDim S64 ![] bcast_S_S64 (R m c main_cst_0 : FVec Ideal S_ .f32) :=
  (pre_line m c).unary 7 rfl (pre_off 8 11) (pre_off 7 10)
theorem e_v6 : (R m c main_v6 : FVec Ideal S64 .f32) = Host.powf (F := Ideal) (s := S64) (φ := .f32) (R m c main_v5 : FVec Ideal S64 .f32) (R m c main_v4 : FVec Ideal S64 .f32) :=
  (pre_line m c).binary 8 rfl (pre_off 9 12) (pre_off 8 11) (pre_off 8 9)
theorem e_v7 : (R m c main_v7 : FVec Ideal S8192 .f32) = sitofp (F := Ideal) .f32 (iotaInDim S8192 32 0) :=
  (pre_line m c).nullary 9 rfl (pre_off 10 13)
theorem e_v8 : (R m c main_v8 : FVec Ideal S8192x1 .f32) = broadcastInDim S8192x1 ![0] bcast_S8192_S8192x1_0 (R m c main_v7 : FVec Ideal S8192 .f32) :=
  (pre_line m c).unary 10 rfl (pre_off 11 14) (pre_off 10 13)
theorem e_v9 : (R m c main_v9 : FVec Ideal S1x64 .f32) = broadcastInDim S1x64 ![1] bcast_S64_S1x64_1 (R m c main_v6 : FVec Ideal S64 .f32) :=
  (pre_line m c).unary 11 rfl (pre_off 12 15) (pre_off 11 12)
theorem e_v10 : (R m c main_v10 : FVec Ideal S8192x64 .f32) = broadcastInDim S8192x64 ![0, 1] bcast_S8192x1_S8192x64_0_1 (R m c main_v8 : FVec Ideal S8192x1 .f32) :=
  (pre_line m c).unary 12 rfl (pre_off 13 16) (pre_off 12 14)
theorem e_v11 : (R m c main_v11 : FVec Ideal S8192x64 .f32) = broadcastInDim S8192x64 ![0, 1] bcast_S1x64_S8192x64_0_1 (R m c main_v9 : FVec Ideal S1x64 .f32) :=
  (pre_line m c).unary 13 rfl (pre_off 14 17) (pre_off 13 15)
theorem e_v12 : (R m c main_v12 : FVec Ideal S8192x64 .f32) = mulf (F := Ideal) (s := S8192x64) (φ := .f32) (R m c main_v10 : FVec Ideal S8192x64 .f32) (R m c main_v11 : FVec Ideal S8192x64 .f32) :=
  (pre_line m c).binary 14 rfl (pre_off 15 18) (pre_off 14 16) (pre_off 14 17)
theorem e_v13 : (R m c main_v13 : FVec Ideal S8192x64 .f32) = Host.cos (F := Ideal) (s := S8192x64) (φ := .f32) (R m c main_v12 : FVec Ideal S8192x64 .f32) :=
  (pre_line m c).unary 15 rfl (pre_off 16 19) (pre_off 15 18)
theorem e_v14 : (R m c main_v14 : FVec Ideal S1x8192x1x64 .f32) = broadcastInDim S1x8192x1x64 ![1, 3] bcast_S8192x64_S1x8192x1x64_1_3 (R m c main_v13 : FVec Ideal S8192x64 .f32) :=
  (pre_line m c).unary 16 rfl (pre_off 17 20) (pre_off 16 19)
theorem e_v15 : (R m c main_v15 : FVec Ideal S8192x64 .f32) = Host.sin (F := Ideal) (s := S8192x64) (φ := .f32) (R m c main_v12 : FVec Ideal S8192x64 .f32) :=
  (pre_line m c).unary 17 rfl (pre_off 18 21) (pre_off 17 18)
theorem e_v16 : (R m c main_v16 : FVec Ideal S1x8192x1x64 .f32) = broadcastInDim S1x8192x1x64 ![1, 3] bcast_S8192x64_S1x8192x1x64_1_3 (R m c main_v15 : FVec Ideal S8192x64 .f32) :=
  (pre_line m c).unary 18 rfl (pre_off 19 22) (pre_off 18 21)
theorem e_v17 : (R m c main_v17 : FVec Ideal S1x8192x4x64 .f32) = extractStridedSlice S1x8192x4x64 ![0, 0, 0, 0] (R m c main_v0 : FVec Ideal S1x8192x4x128 .f32) slices_S1x8192x4x128_S1x8192x4x64_0_0_0_0 :=
  (pre_line m c).unary 19 rfl (pre_off 20 23) (pre_off 19 4)
theorem e_v18 : (R m c main_v18 : FVec Ideal S1x8192x4x64 .f32) = extractStridedSlice S1x8192x4x64 ![0, 0, 0, 64] (R m c main_v0 : FVec Ideal S1x8192x4x128 .f32) slices_S1x8192x4x128_S1x8192x4x64_0_0_0_64 :=
  (pre_line m c).unary 20 rfl (pre_off 21 24) (pre_off 20 4)
theorem e_v19 : (R m c main_v19 : FVec Ideal S1x8192x4x64 .f32) = broadcastInDim S1x8192x4x64 ![0, 1, 2, 3] bcast_S1x8192x1x64_S1x8192x4x64_0_1_2_3 (R m c main_v14 : FVec Ideal S1x8192x1x64 .f32) :=
  (pre_line m c).unary 21 rfl (pre_off 22 25) (pre_off 21 20)
theorem e_v20 : (R m c main_v20 : FVec Ideal S1x8192x4x64 .f32) = mulf (F := Ideal) (s := S1x8192x4x64) (φ := .f32) (R m c main_v17 : FVec Ideal S1x8192x4x64 .f32) (R m c main_v19 : FVec Ideal S1x8192x4x64 .f32) :=
  (pre_line m c).binary 22 rfl (pre_off 23 26) (pre_off 22 23) (pre_off 22 25)
theorem e_v21 : (R m c main_v21 : FVec Ideal S1x8192x4x64 .f32) = broadcastInDim S1x8192x4x64 ![0, 1, 2, 3] bcast_S1x8192x1x64_S1x8192x4x64_0_1_2_3 (R m c main_v16 : FVec Ideal S1x8192x1x64 .f32) :=
  (pre_line m c).unary 23 rfl (pre_off 24 27) (pre_off 23 22)
theorem e_v22 : (R m c main_v22 : FVec Ideal S1x8192x4x64 .f32) = mulf (F := Ideal) (s := S1x8192x4x64) (φ := .f32) (R m c main_v18 : FVec Ideal S1x8192x4x64 .f32) (R m c main_v21 : FVec Ideal S1x8192x4x64 .f32) :=
  (pre_line m c).binary 24 rfl (pre_off 25 28) (pre_off 24 24) (pre_off 24 27)
theorem e_v23 : (R m c main_v23 : FVec Ideal S1x8192x4x64 .f32) = subf (F := Ideal) (s := S1x8192x4x64) (φ := .f32) (R m c main_v20 : FVec Ideal S1x8192x4x64 .f32) (R m c main_v22 : FVec Ideal S1x8192x4x64 .f32) :=
  (pre_line m c).binary 25 rfl (pre_off 26 29) (pre_off 25 26) (pre_off 25 28)
theorem e_v24 : (R m c main_v24 : FVec Ideal S1x8192x4x64 .f32) = broadcastInDim S1x8192x4x64 ![0, 1, 2, 3] bcast_S1x8192x1x64_S1x8192x4x64_0_1_2_3 (R m c main_v16 : FVec Ideal S1x8192x1x64 .f32) :=
  (pre_line m c).unary 26 rfl (pre_off 27 30) (pre_off 26 22)
theorem e_v25 : (R m c main_v25 : FVec Ideal S1x8192x4x64 .f32) = mulf (F := Ideal) (s := S1x8192x4x64) (φ := .f32) (R m c main_v17 : FVec Ideal S1x8192x4x64 .f32) (R m c main_v24 : FVec Ideal S1x8192x4x64 .f32) :=
  (pre_line m c).binary 27 rfl (pre_off 28 31) (pre_off 27 23) (pre_off 27 30)
theorem e_v26 : (R m c main_v26 : FVec Ideal S1x8192x4x64 .f32) = broadcastInDim S1x8192x4x64 ![0, 1, 2, 3] bcast_S1x8192x1x64_S1x8192x4x64_0_1_2_3 (R m c main_v14 : FVec Ideal S1x8192x1x64 .f32) :=
  (pre_line m c).unary 28 rfl (pre_off 29 32) (pre_off 28 20)
theorem e_v27 : (R m c main_v27 : FVec Ideal S1x8192x4x64 .f32) = mulf (F := Ideal) (s := S1x8192x4x64) (φ := .f32) (R m c main_v18 : FVec Ideal S1x8192x4x64 .f32) (R m c main_v26 : FVec Ideal S1x8192x4x64 .f32) :=
  (pre_line m c).binary 29 rfl (pre_off 30 33) (pre_off 29 24) (pre_off 29 32)
theorem e_v28 : (R m c main_v28 : FVec Ideal S1x8192x4x64 .f32) = addf (F := Ideal) (s := S1x8192x4x64) (φ := .f32) (R m c main_v25 : FVec Ideal S1x8192x4x64 .f32) (R m c main_v27 : FVec Ideal S1x8192x4x64 .f32) :=
  (pre_line m c).binary 30 rfl (pre_off 31 34) (pre_off 30 31) (pre_off 30 33)
theorem e_v29 : (R m c main_v29 : FVec Ideal S1x8192x4x128 .f32) = concatenate S1x8192x4x128 3 [⟨S1x8192x4x64, (R m c main_v23 : FVec Ideal S1x8192x4x64 .f32)⟩, ⟨S1x8192x4x64, (R m c main_v28 : FVec Ideal S1x8192x4x64 .f32)⟩] concatenates_S1x8192x4x64_S1x8192x4x64_S1x8192x4x128_d3 :=
  ((pre_line m c).binary 31 rfl (pre_off 32 35) (pre_off 31 29) (pre_off 31 34)).trans rfl
theorem e_v30 : (R m c main_v30 : FVec Ideal S1x8192x4x128 .f32) = shapeCast S1x8192x4x128 (R m c main_arg1 : FVec Ideal S8192x512 .f32) shapeCasts_S8192x512_S1x8192x4x128 :=
  ((pre_line m c).reshape 32 rfl (pre_off 33 36) (pre_off 32 1)).trans rfl
theorem e_v31 : (R m c main_v31 : FVec Ideal S64 .f32) = sitofp (F := Ideal) .f32 (iotaInDim S64 32 0) :=
  (pre_line m c).nullary 33 rfl (pre_off 34 37)
theorem e_v32 : (R m c main_v32 : FVec Ideal S64 .f32) = Host.negf (F := Ideal) (s := S64) (φ := .f32) (R m c main_v31 : FVec Ideal S64 .f32) :=
  (pre_line m c).unary 34 rfl (pre_off 35 38) (pre_off 34 37)
theorem e_cst_1 : (R m c main_cst_1 : FVec Ideal S_ .f32) = constant (F := Ideal) S_ .f32 0x42800000#32 :=
  (pre_line m c).nullary 35 rfl (pre_off 36 39)
theorem e_v33 : (R m c main_v33 : FVec Ideal S64 .f32) = broadcastInDim S64 ![] bcast_S_S64 (R m c main_cst_1 : FVec Ideal S_ .f32) :=
  (pre_line m c).unary 36 rfl (pre_off 37 40) (pre_off 36 39)
theorem e_v34 : (R m c main_v34 : FVec Ideal S64 .f32) = Host.divf (F := Ideal) (s := S64) (φ := .f32) (R m c main_v32 : FVec Ideal S64 .f32) (R m c main_v33 : FVec Ideal S64 .f32) :=
  (pre_line m c).binary 37 rfl (pre_off 38 41) (pre_off 37 38) (pre_off 37 40)
theorem e_cst_2 : (R m c main_cst_2 : FVec Ideal S_ .f32) = constant (F := Ideal) S_ .f32 0x461C4000#32 :=
  (pre_line m c).nullary 38 rfl (pre_off 39 42)
theorem e_v35 : (R m c main_v35 : FVec Ideal S64 .f32) = broadcastInDim S64 ![] bcast_S_S64 (R m c main_cst_2 : FVec Ideal S_ .f32) :=
  (pre_line m c).unary 39 rfl (pre_off 40 43) (pre_off 39 42)
theorem e_v36 : (R m c main_v36 : FVec Ideal S64 .f32) = Host.powf (F := Ideal) (s := S64) (φ := .f32) (R m c main_v35 : FVec Ideal S64 .f32) (R m c main_v34 : FVec Ideal S64 .f32) :=
  (pre_line m c).binary 40 rfl (pre_off 41 44) (pre_off 40 43) (pre_off 40 41)
theorem e_v37 : (R m c main_v37 : FVec Ideal S8192 .f32) = sitofp (F := Ideal) .f32 (iotaInDim S8192 32 0) :=
  (pre_line m c).nullary 41 rfl (pre_off 42 45)
theorem e_v38 : (R m c main_v38 : FVec Ideal S8192x1 .f32) = broadcastInDim S8192x1 ![0] bcast_S8192_S8192x1_0 (R m c main_v37 : FVec Ideal S8192 .f32) :=
  (pre_line m c).unary 42 rfl (pre_off 43 46) (pre_off 42 45)
theorem e_v39 : (R m c main_v39 : FVec Ideal S1x64 .f32) = broadcastInDim S1x64 ![1] bcast_S64_S1x64_1 (R m c main_v36 : FVec Ideal S64 .f32) :=
  (pre_line m c).unary 43 rfl (pre_off 44 47) (pre_off 43 44)
theorem e_v40 : (R m c main_v40 : FVec Ideal S8192x64 .f32) = broadcastInDim S8192x64 ![0, 1] bcast_S8192x1_S8192x64_0_1 (R m c main_v38 : FVec Ideal S8192x1 .f32) :=
  (pre_line m c).unary 44 rfl (pre_off 45 48) (pre_off 44 46)
theorem e_v41 : (R m c main_v41 : FVec Ideal S8192x64 .f32) = broadcastInDim S8192x64 ![0, 1] bcast_S1x64_S8192x64_0_1 (R m c main_v39 : FVec Ideal S1x64 .f32) :=
  (pre_line m c).unary 45 rfl (pre_off 46 49) (pre_off 45 47)
theorem e_v42 : (R m c main_v42 : FVec Ideal S8192x64 .f32) = mulf (F := Ideal) (s := S8192x64) (φ := .f32) (R m c main_v40 : FVec Ideal S8192x64 .f32) (R m c main_v41 : FVec Ideal S8192x64 .f32) :=
  (pre_line m c).binary 46 rfl (pre_off 47 50) (pre_off 46 48) (pre_off 46 49)
theorem e_v43 : (R m c main_v43 : FVec Ideal S8192x64 .f32) = Host.cos (F := Ideal) (s := S8192x64) (φ := .f32) (R m c main_v42 : FVec Ideal S8192x64 .f32) :=
  (pre_line m c).unary 47 rfl (pre_off 48 51) (pre_off 47 50)
theorem e_v44 : (R m c main_v44 : FVec Ideal S1x8192x1x64 .f32) = broadcastInDim S1x8192x1x64 ![1, 3] bcast_S8192x64_S1x8192x1x64_1_3 (R m c main_v43 : FVec Ideal S8192x64 .f32) :=
  (pre_line m c).unary 48 rfl (pre_off 49 52) (pre_off 48 51)
theorem e_v45 : (R m c main_v45 : FVec Ideal S8192x64 .f32) = Host.sin (F := Ideal) (s := S8192x64) (φ := .f32) (R m c main_v42 : FVec Ideal S8192x64 .f32) :=
  (pre_line m c).unary 49 rfl (pre_off 50 53) (pre_off 49 50)
theorem e_v46 : (R m c main_v46 : FVec Ideal S1x8192x1x64 .f32) = broadcastInDim S1x8192x1x64 ![1, 3] bcast_S8192x64_S1x8192x1x64_1_3 (R m c main_v45 : FVec Ideal S8192x64 .f32) :=
  (pre_line m c).unary 50 rfl (pre_off 51 54) (pre_off 50 53)
theorem e_v47 : (R m c main_v47 : FVec Ideal S1x8192x4x64 .f32) = extractStridedSlice S1x8192x4x64 ![0, 0, 0, 0] (R m c main_v30 : FVec Ideal S1x8192x4x128 .f32) slices_S1x8192x4x128_S1x8192x4x64_0_0_0_0 :=
  (pre_line m c).unary 51 rfl (pre_off 52 55) (pre_off 51 36)
theorem e_v48 : (R m c main_v48 : FVec Ideal S1x8192x4x64 .f32) = extractStridedSlice S1x8192x4x64 ![0, 0, 0, 64] (R m c main_v30 : FVec Ideal S1x8192x4x128 .f32) slices_S1x8192x4x128_S1x8192x4x64_0_0_0_64 :=
  (pre_line m c).unary 52 rfl (pre_off 53 56) (pre_off 52 36)
theorem e_v49 : (R m c main_v49 : FVec Ideal S1x8192x4x64 .f32) = broadcastInDim S1x8192x4x64 ![0, 1, 2, 3] bcast_S1x8192x1x64_S1x8192x4x64_0_1_2_3 (R m c main_v44 : FVec Ideal S1x8192x1x64 .f32) :=
  (pre_line m c).unary 53 rfl (pre_off 54 57) (pre_off 53 52)
theorem e_v50 : (R m c main_v50 : FVec Ideal S1x8192x4x64 .f32) = mulf (F := Ideal) (s := S1x8192x4x64) (φ := .f32) (R m c main_v47 : FVec Ideal S1x8192x4x64 .f32) (R m c main_v49 : FVec Ideal S1x8192x4x64 .f32) :=
  (pre_line m c).binary 54 rfl (pre_off 55 58) (pre_off 54 55) (pre_off 54 57)
theorem e_v51 : (R m c main_v51 : FVec Ideal S1x8192x4x64 .f32) = broadcastInDim S1x8192x4x64 ![0, 1, 2, 3] bcast_S1x8192x1x64_S1x8192x4x64_0_1_2_3 (R m c main_v46 : FVec Ideal S1x8192x1x64 .f32) :=
  (pre_line m c).unary 55 rfl (pre_off 56 59) (pre_off 55 54)
theorem e_v52 : (R m c main_v52 : FVec Ideal S1x8192x4x64 .f32) = mulf (F := Ideal) (s := S1x8192x4x64) (φ := .f32) (R m c main_v48 : FVec Ideal S1x8192x4x64 .f32) (R m c main_v51 : FVec Ideal S1x8192x4x64 .f32) :=
  (pre_line m c).binary 56 rfl (pre_off 57 60) (pre_off 56 56) (pre_off 56 59)
theorem e_v53 : (R m c main_v53 : FVec Ideal S1x8192x4x64 .f32) = subf (F := Ideal) (s := S1x8192x4x64) (φ := .f32) (R m c main_v50 : FVec Ideal S1x8192x4x64 .f32) (R m c main_v52 : FVec Ideal S1x8192x4x64 .f32) :=
  (pre_line m c).binary 57 rfl (pre_off 58 61) (pre_off 57 58) (pre_off 57 60)
theorem e_v54 : (R m c main_v54 : FVec Ideal S1x8192x4x64 .f32) = broadcastInDim S1x8192x4x64 ![0, 1, 2, 3] bcast_S1x8192x1x64_S1x8192x4x64_0_1_2_3 (R m c main_v46 : FVec Ideal S1x8192x1x64 .f32) :=
  (pre_line m c).unary 58 rfl (pre_off 59 62) (pre_off 58 54)
theorem e_v55 : (R m c main_v55 : FVec Ideal S1x8192x4x64 .f32) = mulf (F := Ideal) (s := S1x8192x4x64) (φ := .f32) (R m c main_v47 : FVec Ideal S1x8192x4x64 .f32) (R m c main_v54 : FVec Ideal S1x8192x4x64 .f32) :=
  (pre_line m c).binary 59 rfl (pre_off 60 63) (pre_off 59 55) (pre_off 59 62)
theorem e_v56 : (R m c main_v56 : FVec Ideal S1x8192x4x64 .f32) = broadcastInDim S1x8192x4x64 ![0, 1, 2, 3] bcast_S1x8192x1x64_S1x8192x4x64_0_1_2_3 (R m c main_v44 : FVec Ideal S1x8192x1x64 .f32) :=
  (pre_line m c).unary 60 rfl (pre_off 61 64) (pre_off 60 52)
theorem e_v57 : (R m c main_v57 : FVec Ideal S1x8192x4x64 .f32) = mulf (F := Ideal) (s := S1x8192x4x64) (φ := .f32) (R m c main_v48 : FVec Ideal S1x8192x4x64 .f32) (R m c main_v56 : FVec Ideal S1x8192x4x64 .f32) :=
  (pre_line m c).binary 61 rfl (pre_off 62 65) (pre_off 61 56) (pre_off 61 64)
theorem e_v58 : (R m c main_v58 : FVec Ideal S1x8192x4x64 .f32) = addf (F := Ideal) (s := S1x8192x4x64) (φ := .f32) (R m c main_v55 : FVec Ideal S1x8192x4x64 .f32) (R m c main_v57 : FVec Ideal S1x8192x4x64 .f32) :=
  (pre_line m c).binary 62 rfl (pre_off 63 66) (pre_off 62 63) (pre_off 62 65)
theorem e_v59 : (R m c main_v59 : FVec Ideal S1x8192x4x128 .f32) = concatenate S1x8192x4x128 3 [⟨S1x8192x4x64, (R m c main_v53 : FVec Ideal S1x8192x4x64 .f32)⟩, ⟨S1x8192x4x64, (R m c main_v58 : FVec Ideal S1x8192x4x64 .f32)⟩] concatenates_S1x8192x4x64_S1x8192x4x64_S1x8192x4x128_d3 :=
  ((pre_line m c).binary 63 rfl (pre_off 64 67) (pre_off 63 61) (pre_off 63 66)).trans rfl
theorem e_cst_3 : (R m c main_cst_3 : FVec Ideal S_ .f32) = constant (F := Ideal) S_ .f32 0x3DB504F3#32 :=
  (pre_line m c).nullary 64 rfl (pre_off 65 68)
theorem e_v60 : (R m c main_v60 : FVec Ideal S1x8192x4x128 .f32) = broadcastInDim S1x8192x4x128 ![] bcast_S_S1x8192x4x128 (R m c main_cst_3 : FVec Ideal S_ .f32) :=
  (pre_line m c).unary 65 rfl (pre_off 66 69) (pre_off 65 68)
theorem e_v61 : (R m c main_v61 : FVec Ideal S1x8192x4x128 .f32) = mulf (F := Ideal) (s := S1x8192x4x128) (φ := .f32) (R m c main_v59 : FVec Ideal S1x8192x4x128 .f32) (R m c main_v60 : FVec Ideal S1x8192x4x128 .f32) :=
  (pre_line m c).binary 66 rfl (pre_off 67 70) (pre_off 66 67) (pre_off 66 69)
theorem e_v62 : (R m c main_v62 : FVec Ideal S1x8192x4x128 .f32) = shapeCast S1x8192x4x128 (R m c main_arg2 : FVec Ideal S8192x512 .f32) shapeCasts_S8192x512_S1x8192x4x128 :=
  ((pre_line m c).reshape 67 rfl (pre_off 68 71) (pre_off 67 2)).trans rfl
theorem e_cst_4 : (R m c main_cst_4 : FVec Ideal S_ .f32) = constant (F := Ideal) S_ .f32 0xC05DCE9E#32 :=
  (pre_line m c).nullary 68 rfl (pre_off 69 72)
theorem e_cst_5 : (R m c main_cst_5 : FVec Ideal S_ .f32) = constant (F := Ideal) S_ .f32 0xC0C7A05B#32 :=
  (pre_line m c).nullary 69 rfl (pre_off 70 73)
theorem e_call0_v0 : (R m c main_call0_v0 : FVec Ideal S_ .f32) = (id : FVec Ideal S_ .f32 → FVec Ideal S_ .f32) (R m c main_cst_4 : FVec Ideal S_ .f32) :=
  (pre_line m c).unary (f := (id : FVec Ideal S_ .f32 → FVec Ideal S_ .f32)) 70 rfl (pre_off 71 74) (pre_off 70 72)
theorem e_call0_v1 : (R m c main_call0_v1 : FVec Ideal S_ .f32) = (id : FVec Ideal S_ .f32 → FVec Ideal S_ .f32) (R m c main_cst_5 : FVec Ideal S_ .f32) :=
  (pre_line m c).unary (f := (id : FVec Ideal S_ .f32 → FVec Ideal S_ .f32)) 71 rfl (pre_off 72 75) (pre_off 71 73)
theorem e_call0_v2 : (R m c main_call0_v2 : FVec Ideal S_ .f32) = subf (F := Ideal) (s := S_) (φ := .f32) (R m c main_call0_v1 : FVec Ideal S_ .f32) (R m c main_call0_v0 : FVec Ideal S_ .f32) :=
  (pre_line m c).binary 72 rfl (pre_off 73 76) (pre_off 72 75) (pre_off 72 74)
theorem e_call0_cst : (R m c main_call0_cst : FVec Ideal S_ .f32) = constant (F := Ideal) S_ .f32 0x40400000#32 :=
  (pre_line m c).nullary 73 rfl (pre_off 74 77)
theorem e_call0_v3 : (R m c main_call0_v3 : FVec Ideal S_ .f32) = Host.divf (F := Ideal) (s := S_) (φ := .f32) (R m c main_call0_v2 : FVec Ideal S_ .f32) (R m c main_call0_cst : FVec Ideal S_ .f32) :=
  (pre_line m c).binary 74 rfl (pre_off 75 78) (pre_off 74 76) (pre_off 74 77)
theorem e_call0_v4 : (R m c main_call0_v4 : FVec Ideal S3 .f32) = sitofp (F := Ideal) .f32 (iotaInDim S3 32 0) :=
  (pre_line m c).nullary 75 rfl (pre_off 76 79)
theorem e_call0_cst_0 : (R m c main_call0_cst_0 : FVec Ideal S_ .f32) = constant (F := Ideal) S_ .f32 0x40400000#32 :=
  (pre_line m c).nullary 76 rfl (pre_off 77 80)
theorem e_call0_v5 : (R m c main_call0_v5 : FVec Ideal S3 .f32) = broadcastInDim S3 ![] bcast_S_S3 (R m c main_call0_cst_0 : FVec Ideal S_ .f32) :=
  (pre_line m c).unary 77 rfl (pre_off 78 81) (pre_off 77 80)
theorem e_call0_v6 : (R m c main_call0_v6 : FVec Ideal S3 .f32) = Host.divf (F := Ideal) (s := S3) (φ := .f32) (R m c main_call0_v4 : FVec Ideal S3 .f32) (R m c main_call0_v5 : FVec Ideal S3 .f32) :=
  (pre_line m c).binary 78 rfl (pre_off 79 82) (pre_off 78 79) (pre_off 78 81)
theorem e_call0_v7 : (R m c main_call0_v7 : FVec Ideal S1 .f32) = shapeCast S1 (R m c main_call0_v0 : FVec Ideal S_ .f32) shapeCasts_S_S1 :=
  ((pre_line m c).reshape 79 rfl (pre_off 80 83) (pre_off 79 74)).trans rfl
theorem e_call0_cst_1 : (R m c main_call0_cst_1 : FVec Ideal S_ .f32) = constant (F := Ideal) S_ .f32 0x3F800000#32 :=
  (pre_line m c).nullary 80 rfl (pre_off 81 84)
theorem e_call0_v8 : (R m c main_call0_v8 : FVec Ideal S3 .f32) = broadcastInDim S3 ![] bcast_S_S3 (R m c main_call0_cst_1 : FVec Ideal S_ .f32) :=
  (pre_line m c).unary 81 rfl (pre_off 82 85) (pre_off 81 84)
theorem e_call0_v9 : (R m c main_call0_v9 : FVec Ideal S3 .f32) = subf (F := Ideal) (s := S3) (φ := .f32) (R m c main_call0_v8 : FVec Ideal S3 .f32) (R m c main_call0_v6 : FVec Ideal S3 .f32) :=
  (pre_line m c).binary 82 rfl (pre_off 83 86) (pre_off 82 85) (pre_off 82 82)
theorem e_call0_v10 : (R m c main_call0_v10 : FVec Ideal S3 .f32) = broadcastInDim S3 ![0] bcast_S1_S3_0 (R m c main_call0_v7 : FVec Ideal S1 .f32) :=
  (pre_line m c).unary 83 rfl (pre_off 84 87) (pre_off 83 83)
theorem e_call0_v11 : (R m c main_call0_v11 : FVec Ideal S3 .f32) = mulf (F := Ideal) (s := S3) (φ := .f32) (R m c main_call0_v10 : FVec Ideal S3 .f32) (R m c main_call0_v9 : FVec Ideal S3 .f32) :=
  (pre_line m c).binary 84 rfl (pre_off 85 88) (pre_off 84 87) (pre_off 84 86)
theorem e_call0_v12 : (R m c main_call0_v12 : FVec Ideal S1 .f32) = shapeCast S1 (R m c main_call0_v1 : FVec Ideal S_ .f32) shapeCasts_S_S1 :=
  ((pre_line m c).reshape 85 rfl (pre_off 86 89) (pre_off 85 75)).trans rfl
theorem e_call0_v13 : (R m c main_call0_v13 : FVec Ideal S3 .f32) = broadcastInDim S3 ![0] bcast_S1_S3_0 (R m c main_call0_v12 : FVec Ideal S1 .f32) :=
  (pre_line m c).unary 86 rfl (pre_off 87 90) (pre_off 86 89)
theorem e_call0_v14 : (R m c main_call0_v14 : FVec Ideal S3 .f32) = mulf (F := Ideal) (s := S3) (φ := .f32) (R m c main_call0_v13 : FVec Ideal S3 .f32) (R m c main_call0_v6 : FVec Ideal S3 .f32) :=
  (pre_line m c).binary 87 rfl (pre_off 88 91) (pre_off 87 90) (pre_off 87 82)
theorem e_call0_v15 : (R m c main_call0_v15 : FVec Ideal S3 .f32) = addf (F := Ideal) (s := S3) (φ := .f32) (R m c main_call0_v11 : FVec Ideal S3 .f32) (R m c main_call0_v14 : FVec Ideal S3 .f32) :=
  (pre_line m c).binary 88 rfl (pre_off 89 92) (pre_off 88 88) (pre_off 88 91)
theorem e_call0_v16 : (R m c main_call0_v16 : FVec Ideal S1 .f32) = broadcastInDim S1 ![] bcast_S_S1 (R m c main_call0_v1 : FVec Ideal S_ .f32) :=
  (pre_line m c).unary 89 rfl (pre_off 90 93) (pre_off 89 75)
theorem e_v63 : (R m c main_v63 : FVec Ideal S4 .f32) = cat31 (R m c main_call0_v15 : FVec Ideal S3 .f32) (R m c main_call0_v16 : FVec Ideal S1 .f32) :=
  (pre_line m c).binary (f := cat31) 90 rfl (pre_off 91 94) (pre_off 90 92) (pre_off 90 93)
theorem e_v64 : (R m c main_v64 : FVec Ideal S4 .f32) = Host.exp (F := Ideal) (s := S4) (φ := .f32) (R m c main_v63 : FVec Ideal S4 .f32) :=
  (pre_line m c).unary 91 rfl (pre_off 92 95) (pre_off 91 94)
theorem e_cst_6 : (R m c main_cst_6 : FVec Ideal S_ .f32) = constant (F := Ideal) S_ .f32 0x3F800000#32 :=
  (pre_line m c).nullary 92 rfl (pre_off 93 96)
theorem e_v65 : (R m c main_v65 : FVec Ideal S4 .f32) = broadcastInDim S4 ![] bcast_S_S4 (R m c main_cst_6 : FVec Ideal S_ .f32) :=
  (pre_line m c).unary 93 rfl (pre_off 94 97) (pre_off 93 96)
theorem e_v66 : (R m c main_v66 : FVec Ideal S4 .f32) = subf (F := Ideal) (s := S4) (φ := .f32) (R m c main_v65 : FVec Ideal S4 .f32) (R m c main_v64 : FVec Ideal S4 .f32) :=
  (pre_line m c).binary 94 rfl (pre_off 95 98) (pre_off 94 97) (pre_off 94 95)
theorem e_v67 : (R m c main_v67 : FVec Ideal S4 .f32) = Host.log (F := Ideal) (s := S4) (φ := .f32) (R m c main_v66 : FVec Ideal S4 .f32) :=
  (pre_line m c).unary 95 rfl (pre_off 96 99) (pre_off 95 98)
theorem e_v68 : (R m c main_v68 : FVec Ideal S1x64x128x4x128 .f32) = shapeCast S1x64x128x4x128 (R m c main_v29 : FVec Ideal S1x8192x4x128 .f32) shapeCasts_S1x8192x4x128_S1x64x128x4x128 :=
  ((pre_line m c).reshape 96 rfl (pre_off 97 100) (pre_off 96 35)).trans rfl
theorem e_v69 : (R m c main_v69 : FVec Ideal S1x64x128x4x128 .f32) = shapeCast S1x64x128x4x128 (R m c main_v61 : FVec Ideal S1x8192x4x128 .f32) shapeCasts_S1x8192x4x128_S1x64x128x4x128 :=
  ((pre_line m c).reshape 97 rfl (pre_off 98 101) (pre_off 97 70)).trans rfl
theorem e_v70 : (R m c main_v70 : FVec Ideal S1x64x128x4x128 .f32) = shapeCast S1x64x128x4x128 (R m c main_v62 : FVec Ideal S1x8192x4x128 .f32) shapeCasts_S1x8192x4x128_S1x64x128x4x128 :=
  ((pre_line m c).reshape 98 rfl (pre_off 99 102) (pre_off 98 71)).trans rfl
theorem e_v71 : (R m c main_v71 : FVec Ideal S128 .f32) = sitofp (F := Ideal) .f32 (iotaInDim S128 32 0) :=
  (pre_line m c).nullary 99 rfl (pre_off 100 103)
theorem e_v72 : (R m c main_v72 : FVec Ideal S128x1 .f32) = broadcastInDim S128x1 ![0] bcast_S128_S128x1_0 (R m c main_v71 : FVec Ideal S128 .f32) :=
  (pre_line m c).unary 100 rfl (pre_off 101 104) (pre_off 100 103)
theorem e_v73 : (R m c main_v73 : FVec Ideal S1x128 .f32) = broadcastInDim S1x128 ![1] bcast_S128_S1x128_1 (R m c main_v71 : FVec Ideal S128 .f32) :=
  (pre_line m c).unary 101 rfl (pre_off 102 105) (pre_off 101 103)
theorem e_v74 : (R m c main_v74 : FVec Ideal S128x128 .f32) = broadcastInDim S128x128 ![0, 1] bcast_S128x1_S128x128_0_1 (R m c main_v72 : FVec Ideal S128x1 .f32) :=
  (pre_line m c).unary 102 rfl (pre_off 103 106) (pre_off 102 104)
theorem e_v75 : (R m c main_v75 : FVec Ideal S128x128 .f32) = broadcastInDim S128x128 ![0, 1] bcast_S1x128_S128x128_0_1 (R m c main_v73 : FVec Ideal S1x128 .f32) :=
  (pre_line m c).unary 103 rfl (pre_off 104 107) (pre_off 103 105)
theorem e_v76 : (R m c main_v76 : FVec Ideal S128x128 .f32) = subf (F := Ideal) (s := S128x128) (φ := .f32) (R m c main_v74 : FVec Ideal S128x128 .f32) (R m c main_v75 : FVec Ideal S128x128 .f32) :=
  (pre_line m c).binary 104 rfl (pre_off 105 108) (pre_off 104 106) (pre_off 104 107)
theorem e_v77 : (R m c main_v77 : FVec Ideal S1x128x128 .f32) = broadcastInDim S1x128x128 ![1, 2] bcast_S128x128_S1x128x128_1_2 (R m c main_v76 : FVec Ideal S128x128 .f32) :=
  (pre_line m c).unary 105 rfl (pre_off 106 109) (pre_off 105 108)
theorem e_cst_7 : (R m c main_cst_7 : FVec Ideal S_ .f32) = constant (F := Ideal) S_ .f32 0x00000000#32 :=
  (pre_line m c).nullary 106 rfl (pre_off 107 110)
theorem e_v78 : (R m c main_v78 : FVec Ideal S1x128x128 .f32) = broadcastInDim S1x128x128 ![] bcast_S_S1x128x128 (R m c main_cst_7 : FVec Ideal S_ .f32) :=
  (pre_line m c).unary 107 rfl (pre_off 108 111) (pre_off 107 110)
theorem e_v79 : (R m c main_v79 : IVec S1x128x128 1) = cmpf (F := Ideal) (s := S1x128x128) (φ := .f32) .oge (R m c main_v77 : FVec Ideal S1x128x128 .f32) (R m c main_v78 : FVec Ideal S1x128x128 .f32) :=
  (pre_line m c).binary 108 rfl (pre_off 109 112) (pre_off 108 109) (pre_off 108 111)
theorem e_cst_8 : (R m c main_cst_8 : FVec Ideal S_ .f32) = constant (F := Ideal) S_ .f32 0x00000000#32 :=
  (pre_line m c).nullary 109 rfl (pre_off 110 113)
theorem e_v80 : (R m c main_v80 : FVec Ideal S128x128 .f32) = broadcastInDim S128x128 ![] bcast_S_S128x128 (R m c main_cst_8 : FVec Ideal S_ .f32) :=
  (pre_line m c).unary 110 rfl (pre_off 111 114) (pre_off 110 113)
theorem e_v81 : (R m c main_v81 : FVec Ideal S128x128 .f32) = maximumf (F := Ideal) (s := S128x128) (φ := .f32) (R m c main_v76 : FVec Ideal S128x128 .f32) (R m c main_v80 : FVec Ideal S128x128 .f32) :=
  (pre_line m c).binary 111 rfl (pre_off 112 115) (pre_off 111 108) (pre_off 111 114)
theorem e_v82 : (R m c main_v82 : FVec Ideal S1x128x128 .f32) = broadcastInDim S1x128x128 ![1, 2] bcast_S128x128_S1x128x128_1_2 (R m c main_v81 : FVec Ideal S128x128 .f32) :=
  (pre_line m c).unary 112 rfl (pre_off 113 116) (pre_off 112 115)
theorem e_v83 : (R m c main_v83 : FVec Ideal S4x1x1 .f32) = broadcastInDim S4x1x1 ![0] bcast_S4_S4x1x1_0 (R m c main_v67 : FVec Ideal S4 .f32) :=
  (pre_line m c).unary 113 rfl (pre_off 114 117) (pre_off 113 99)
theorem e_v84 : (R m c main_v84 : FVec Ideal S4x128x128 .f32) = broadcastInDim S4x128x128 ![0, 1, 2] bcast_S1x128x128_S4x128x128_0_1_2 (R m c main_v82 : FVec Ideal S1x128x128 .f32) :=
  (pre_line m c).unary 114 rfl (pre_off 115 118) (pre_off 114 116)
theorem e_v85 : (R m c main_v85 : FVec Ideal S4x128x128 .f32) = broadcastInDim S4x128x128 ![0, 1, 2] bcast_S4x1x1_S4x128x128_0_1_2 (R m c main_v83 : FVec Ideal S4x1x1 .f32) :=
  (pre_line m c).unary 115 rfl (pre_off 116 119) (pre_off 115 117)
theorem e_v86 : (R m c main_v86 : FVec Ideal S4x128x128 .f32) = mulf (F := Ideal) (s := S4x128x128) (φ := .f32) (R m c main_v84 : FVec Ideal S4x128x128 .f32) (R m c main_v85 : FVec Ideal S4x128x128 .f32) :=
  (pre_line m c).binary 116 rfl (pre_off 117 120) (pre_off 116 118) (pre_off 116 119)
theorem e_v87 : (R m c main_v87 : FVec Ideal S4x128x128 .f32) = Host.exp (F := Ideal) (s := S4x128x128) (φ := .f32) (R m c main_v86 : FVec Ideal S4x128x128 .f32) :=
  (pre_line m c).unary 117 rfl (pre_off 118 121) (pre_off 117 120)
theorem e_cst_9 : (R m c main_cst_9 : FVec Ideal S_ .f32) = constant (F := Ideal) S_ .f32 0x00000000#32 :=
  (pre_line m c).nullary 118 rfl (pre_off 119 122)
theorem e_call1_v0 : (R m c main_call1_v0 : FVec Ideal S_ .f32) = (id : FVec Ideal S_ .f32 → FVec Ideal S_ .f32) (R m c main_cst_9 : FVec Ideal S_ .f32) :=
  (pre_line m c).unary (f := (id : FVec Ideal S_ .f32 → FVec Ideal S_ .f32)) 119 rfl (pre_off 120 123) (pre_off 119 122)
theorem e_call1_v1 : (R m c main_call1_v1 : IVec S4x128x128 1) = broadcastInDim S4x128x128 ![0, 1, 2] bcast_S1x128x128_S4x128x128_0_1_2 (R m c main_v79 : IVec S1x128x128 1) :=
  (pre_line m c).unary 120 rfl (pre_off 121 124) (pre_off 120 112)
theorem e_call1_v2 : (R m c main_call1_v2 : FVec Ideal S4x128x128 .f32) = broadcastInDim S4x128x128 ![] bcast_S_S4x128x128 (R m c main_call1_v0 : FVec Ideal S_ .f32) :=
  (pre_line m c).unary 121 rfl (pre_off 122 125) (pre_off 121 123)
theorem e_v88 : (R m c main_v88 : FVec Ideal S4x128x128 .f32) = select (R m c main_call1_v1 : IVec S4x128x128 1) (R m c main_v87 : FVec Ideal S4x128x128 .f32) (R m c main_call1_v2 : FVec Ideal S4x128x128 .f32) :=
  (pre_line m c).ternary 122 rfl (pre_off 123 126) (pre_off 122 124) (pre_off 122 121) (pre_off 122 125)
theorem e_v89 : (R m c main_v89 : FVec Ideal S1x64x4x128x128 .f32) = Host.dotGeneral (F := Ideal) (φ₁ := .f32) (φ₂ := .f32) dot_S1x64x128x4x128_S1x64x128x4x128_S1x64x4x128x128_4_4_2_2_013_013 none (R m c main_v68 : FVec Ideal S1x64x128x4x128 .f32) (R m c main_v69 : FVec Ideal S1x64x128x4x128 .f32) :=
  (pre_line m c).binary 123 rfl (pre_off 124 127) (pre_off 123 100) (pre_off 123 101)
theorem e_v90 : (R m c main_v90 : FVec Ideal S1x1x4x128x128 .f32) = broadcastInDim S1x1x4x128x128 ![2, 3, 4] bcast_S4x128x128_S1x1x4x128x128_2_3_4 (R m c main_v88 : FVec Ideal S4x128x128 .f32) :=
  (pre_line m c).unary 124 rfl (pre_off 125 128) (pre_off 124 126)
theorem e_v91 : (R m c main_v91 : FVec Ideal S1x64x4x128x128 .f32) = broadcastInDim S1x64x4x128x128 ![0, 1, 2, 3, 4] bcast_S1x1x4x128x128_S1x64x4x128x128_0_1_2_3_4 (R m c main_v90 : FVec Ideal S1x1x4x128x128 .f32) :=
  (pre_line m c).unary 125 rfl (pre_off 126 129) (pre_off 125 128)
theorem e_v92 : (R m c main_v92 : FVec Ideal S1x64x4x128x128 .f32) = mulf (F := Ideal) (s := S1x64x4x128x128) (φ := .f32) (R m c main_v89 : FVec Ideal S1x64x4x128x128 .f32) (R m c main_v91 : FVec Ideal S1x64x4x128x128 .f32) :=
  (pre_line m c).binary 126 rfl (pre_off 127 130) (pre_off 126 127) (pre_off 126 129)
theorem e_v93 : (R m c main_v93 : FVec Ideal S1x64x4x128x128 .f32) = Host.dotGeneral (F := Ideal) (φ₁ := .f32) (φ₂ := .f32) dot_S1x64x128x4x128_S1x64x4x128x128_S1x64x4x128x128_2_4_4_3_013_012 none (R m c main_v70 : FVec Ideal S1x64x128x4x128 .f32) (R m c main_v92 : FVec Ideal S1x64x4x128x128 .f32) :=
  (pre_line m c).binary 127 rfl (pre_off 128 131) (pre_off 127 102) (pre_off 127 130)
theorem e_v94 : (R m c main_v94 : FVec Ideal S1x64x128x4x128 .f32) = transpose S1x64x128x4x128 [0, 1, 4, 2, 3] (R m c main_v93 : FVec Ideal S1x64x4x128x128 .f32) transposes_S1x64x4x128x128_S1x64x128x4x128_0_1_4_2_3 :=
  (pre_line m c).unary 128 rfl (pre_off 129 132) (pre_off 128 131)
theorem e_cst_10 : (R m c main_cst_10 : FVec Ideal S_ .f32) = constant (F := Ideal) S_ .f32 0x42FE0000#32 :=
  (pre_line m c).nullary 129 rfl (pre_off 130 133)
theorem e_v95 : (R m c main_v95 : FVec Ideal S128 .f32) = broadcastInDim S128 ![] bcast_S_S128 (R m c main_cst_10 : FVec Ideal S_ .f32) :=
  (pre_line m c).unary 130 rfl (pre_off 131 134) (pre_off 130 133)
theorem e_v96 : (R m c main_v96 : FVec Ideal S128 .f32) = subf (F := Ideal) (s := S128) (φ := .f32) (R m c main_v95 : FVec Ideal S128 .f32) (R m c main_v71 : FVec Ideal S128 .f32) :=
  (pre_line m c).binary 131 rfl (pre_off 132 135) (pre_off 131 134) (pre_off 131 103)
theorem e_v97 : (R m c main_v97 : FVec Ideal S1x128 .f32) = broadcastInDim S1x128 ![1] bcast_S128_S1x128_1 (R m c main_v96 : FVec Ideal S128 .f32) :=
  (pre_line m c).unary 132 rfl (pre_off 133 136) (pre_off 132 135)
theorem e_v98 : (R m c main_v98 : FVec Ideal S4x1 .f32) = broadcastInDim S4x1 ![0] bcast_S4_S4x1_0 (R m c main_v67 : FVec Ideal S4 .f32) :=
  (pre_line m c).unary 133 rfl (pre_off 134 137) (pre_off 133 99)
theorem e_v99 : (R m c main_v99 : FVec Ideal S4x128 .f32) = broadcastInDim S4x128 ![0, 1] bcast_S1x128_S4x128_0_1 (R m c main_v97 : FVec Ideal S1x128 .f32) :=
  (pre_line m c).unary 134 rfl (pre_off 135 138) (pre_off 134 136)
theorem e_v100 : (R m c main_v100 : FVec Ideal S4x128 .f32) = broadcastInDim S4x128 ![0, 1] bcast_S4x1_S4x128_0_1 (R m c main_v98 : FVec Ideal S4x1 .f32) :=
  (pre_line m c).unary 135 rfl (pre_off 136 139) (pre_off 135 137)
theorem e_v101 : (R m c main_v101 : FVec Ideal S4x128 .f32) = mulf (F := Ideal) (s := S4x128) (φ := .f32) (R m c main_v99 : FVec Ideal S4x128 .f32) (R m c main_v100 : FVec Ideal S4x128 .f32) :=
  (pre_line m c).binary 136 rfl (pre_off 137 140) (pre_off 136 138) (pre_off 136 139)
theorem e_v102 : (R m c main_v102 : FVec Ideal S4x128 .f32) = Host.exp (F := Ideal) (s := S4x128) (φ := .f32) (R m c main_v101 : FVec Ideal S4x128 .f32) :=
  (pre_line m c).unary 137 rfl (pre_off 138 141) (pre_off 137 140)
theorem e_v103 : (R m c main_v103 : FVec Ideal S128x4 .f32) = transpose S128x4 [1, 0] (R m c main_v102 : FVec Ideal S4x128 .f32) transposes_S4x128_S128x4_1_0 :=
  (pre_line m c).unary 138 rfl (pre_off 139 142) (pre_off 138 141)
theorem e_v104 : (R m c main_v104 : FVec Ideal S128x4x1 .f32) = broadcastInDim S128x4x1 ![0, 1] bcast_S128x4_S128x4x1_0_1 (R m c main_v103 : FVec Ideal S128x4 .f32) :=
  (pre_line m c).unary 139 rfl (pre_off 140 143) (pre_off 139 142)
theorem e_v105 : (R m c main_v105 : FVec Ideal S1x1x128x4x1 .f32) = broadcastInDim S1x1x128x4x1 ![2, 3, 4] bcast_S128x4x1_S1x1x128x4x1_2_3_4 (R m c main_v104 : FVec Ideal S128x4x1 .f32) :=
  (pre_line m c).unary 140 rfl (pre_off 141 144) (pre_off 140 143)
theorem e_v106 : (R m c main_v106 : FVec Ideal S1x64x128x4x128 .f32) = broadcastInDim S1x64x128x4x128 ![0, 1, 2, 3, 4] bcast_S1x1x128x4x1_S1x64x128x4x128_0_1_2_3_4 (R m c main_v105 : FVec Ideal S1x1x128x4x1 .f32) :=
  (pre_line m c).unary 141 rfl (pre_off 142 145) (pre_off 141 144)
theorem e_v107 : (R m c main_v107 : FVec Ideal S1x64x128x4x128 .f32) = mulf (F := Ideal) (s := S1x64x128x4x128) (φ := .f32) (R m c main_v70 : FVec Ideal S1x64x128x4x128 .f32) (R m c main_v106 : FVec Ideal S1x64x128x4x128 .f32) :=
  (pre_line m c).binary 142 rfl (pre_off 143 146) (pre_off 142 102) (pre_off 142 145)
theorem e_v108 : (R m c main_v108 : FVec Ideal S1x64x4x128x128 .f32) = Host.dotGeneral (F := Ideal) (φ₁ := .f32) (φ₂ := .f32) dot_S1x64x128x4x128_S1x64x128x4x128_S1x64x4x128x128_2_2_4_4_013_013 none (R m c main_v69 : FVec Ideal S1x64x128x4x128 .f32) (R m c main_v107 : FVec Ideal S1x64x128x4x128 .f32) :=
  (pre_line m c).binary 143 rfl (pre_off 144 147) (pre_off 143 101) (pre_off 143 146)
theorem e_cst_11 : (R m c main_cst_11 : FVec Ideal S_ .f32) = constant (F := Ideal) S_ .f32 0x43000000#32 :=
  (pre_line m c).nullary 144 rfl (pre_off 145 148)
theorem e_v109 : (R m c main_v109 : FVec Ideal S4 .f32) = broadcastInDim S4 ![] bcast_S_S4 (R m c main_cst_11 : FVec Ideal S_ .f32) :=
  (pre_line m c).unary 145 rfl (pre_off 146 149) (pre_off 145 148)
theorem e_v110 : (R m c main_v110 : FVec Ideal S4 .f32) = mulf (F := Ideal) (s := S4) (φ := .f32) (R m c main_v109 : FVec Ideal S4 .f32) (R m c main_v67 : FVec Ideal S4 .f32) :=
  (pre_line m c).binary 146 rfl (pre_off 147 150) (pre_off 146 149) (pre_off 146 99)
theorem e_v111 : (R m c main_v111 : FVec Ideal S4 .f32) = Host.exp (F := Ideal) (s := S4) (φ := .f32) (R m c main_v110 : FVec Ideal S4 .f32) :=
  (pre_line m c).unary 147 rfl (pre_off 148 151) (pre_off 147 150)
theorem e_v112 : (R m c main_v112 : FVec Ideal S1x4x1x1 .f32) = broadcastInDim S1x4x1x1 ![1] bcast_S4_S1x4x1x1_1 (R m c main_v111 : FVec Ideal S4 .f32) :=
  (pre_line m c).unary 148 rfl (pre_off 149 152) (pre_off 148 151)
theorem e_cst_12 : (R m c main_cst_12 : FVec Ideal S_ .f32) = constant (F := Ideal) S_ .f32 0x00000000#32 :=
  (pre_line m c).nullary 149 rfl (pre_off 150 153)
theorem e_v113 : (R m c main_v113 : FVec Ideal S1x4x128x128 .f32) = broadcastInDim S1x4x128x128 ![] bcast_S_S1x4x128x128 (R m c main_cst_12 : FVec Ideal S_ .f32) :=
  (pre_line m c).unary 150 rfl (pre_off 151 154) (pre_off 150 153)
theorem e_v114 : (R m c main_v114 : FVec Ideal S64x1x4x128x128 .f32) = transpose S64x1x4x128x128 [1, 0, 2, 3, 4] (R m c main_v108 : FVec Ideal S1x64x4x128x128 .f32) transposes_S1x64x4x128x128_S64x1x4x128x128_1_0_2_3_4 :=
  (pre_line m c).unary 151 rfl (pre_off 152 155) (pre_off 151 147)
theorem e_cst_13 : (R m c main_cst_13 : FVec Ideal S_ .f32) = constant (F := Ideal) S_ .f32 0x00000000#32 :=
  (pre_line m c).nullary 152 rfl (pre_off 153 156)
theorem e_v115 : (R m c main_v115 : FVec Ideal S64x1x4x128x128 .f32) = broadcastInDim S64x1x4x128x128 ![] bcast_S_S64x1x4x128x128 (R m c main_cst_13 : FVec Ideal S_ .f32) :=
  (pre_line m c).unary 153 rfl (pre_off 154 157) (pre_off 153 156)
theorem e_c : (R m c main_c : IVec S_ 32) = constantI S_ 32 0#32 :=
  (pre_line m c).nullary 154 rfl (pre_off 155 158)
theorem e_v116_0 : (R m c main_v116_0 : FVec Ideal S64x1x4x128x128 .f32) = (id : FVec Ideal S64x1x4x128x128 .f32 → FVec Ideal S64x1x4x128x128 .f32) (R m c main_v114 : FVec Ideal S64x1x4x128x128 .f32) :=
  (pre_line m c).unary (f := (id : FVec Ideal S64x1x4x128x128 .f32 → FVec Ideal S64x1x4x128x128 .f32)) 155 rfl (pre_off 156 159) (pre_off 155 155)
theorem e_v116_1 : (R m c main_v116_1 : FVec Ideal S1x4x1x1 .f32) = (id : FVec Ideal S1x4x1x1 .f32 → FVec Ideal S1x4x1x1 .f32) (R m c main_v112 : FVec Ideal S1x4x1x1 .f32) :=
  (pre_line m c).unary (f := (id : FVec Ideal S1x4x1x1 .f32 → FVec Ideal S1x4x1x1 .f32)) 156 rfl (pre_off 157 160) (pre_off 156 152)
theorem e_v117 : (R m c main_v117 : FVec Ideal S1x64x4x128x128 .f32) = transpose S1x64x4x128x128 [1, 0, 2, 3, 4] (R m c main_v116_4 : FVec Ideal S64x1x4x128x128 .f32) transposes_S64x1x4x128x128_S1x64x4x128x128_1_0_2_3_4 :=
  (mid_line m c).unary 0 rfl (mid_off 1 186) (mid_off 0 185)
theorem e_cst_14 : (R m c main_cst_14 : FVec Ideal S_ .f32) = constant (F := Ideal) S_ .f32 0x3F800000#32 :=
  (mid_line m c).nullary 1 rfl (mid_off 2 187)
theorem e_v118 : (R m c main_v118 : FVec Ideal S128 .f32) = broadcastInDim S128 ![] bcast_S_S128 (R m c main_cst_14 : FVec Ideal S_ .f32) :=
  (mid_line m c).unary 2 rfl (mid_off 3 188) (mid_off 2 187)
theorem e_v119 : (R m c main_v119 : FVec Ideal S128 .f32) = addf (F := Ideal) (s := S128) (φ := .f32) (R m c main_v71 : FVec Ideal S128 .f32) (R m c main_v118 : FVec Ideal S128 .f32) :=
  (mid_line m c).binary 3 rfl (mid_off 4 189) (mid_off 3 103) (mid_off 3 188)
theorem e_v120 : (R m c main_v120 : FVec Ideal S1x128 .f32) = broadcastInDim S1x128 ![1] bcast_S128_S1x128_1 (R m c main_v119 : FVec Ideal S128 .f32) :=
  (mid_line m c).unary 4 rfl (mid_off 5 190) (mid_off 4 189)
theorem e_v121 : (R m c main_v121 : FVec Ideal S4x1 .f32) = broadcastInDim S4x1 ![0] bcast_S4_S4x1_0 (R m c main_v67 : FVec Ideal S4 .f32) :=
  (mid_line m c).unary 5 rfl (mid_off 6 191) (mid_off 5 99)
theorem e_v122 : (R m c main_v122 : FVec Ideal S4x128 .f32) = broadcastInDim S4x128 ![0, 1] bcast_S1x128_S4x128_0_1 (R m c main_v120 : FVec Ideal S1x128 .f32) :=
  (mid_line m c).unary 6 rfl (mid_off 7 192) (mid_off 6 190)
theorem e_v123 : (R m c main_v123 : FVec Ideal S4x128 .f32) = broadcastInDim S4x128 ![0, 1] bcast_S4x1_S4x128_0_1 (R m c main_v121 : FVec Ideal S4x1 .f32) :=
  (mid_line m c).unary 7 rfl (mid_off 8 193) (mid_off 7 191)
theorem e_v124 : (R m c main_v124 : FVec Ideal S4x128 .f32) = mulf (F := Ideal) (s := S4x128) (φ := .f32) (R m c main_v122 : FVec Ideal S4x128 .f32) (R m c main_v123 : FVec Ideal S4x128 .f32) :=
  (mid_line m c).binary 8 rfl (mid_off 9 194) (mid_off 8 192) (mid_off 8 193)
theorem e_v125 : (R m c main_v125 : FVec Ideal S4x128 .f32) = Host.exp (F := Ideal) (s := S4x128) (φ := .f32) (R m c main_v124 : FVec Ideal S4x128 .f32) :=
  (mid_line m c).unary 9 rfl (mid_off 10 195) (mid_off 9 194)
theorem e_v126 : (R m c main_v126 : FVec Ideal S1x64x4x128x128 .f32) = Host.dotGeneral (F := Ideal) (φ₁ := .f32) (φ₂ := .f32) dot_S1x64x4x128x128_S1x64x128x4x128_S1x64x4x128x128_3_4_4_2_012_013 none (R m c main_v117 : FVec Ideal S1x64x4x128x128 .f32) (R m c main_v68 : FVec Ideal S1x64x128x4x128 .f32) :=
  (mid_line m c).binary 10 rfl (mid_off 11 196) (mid_off 10 186) (mid_off 10 100)
theorem e_v127 : (R m c main_v127 : FVec Ideal S1x64x128x4x128 .f32) = transpose S1x64x128x4x128 [0, 1, 4, 2, 3] (R m c main_v126 : FVec Ideal S1x64x4x128x128 .f32) transposes_S1x64x4x128x128_S1x64x128x4x128_0_1_4_2_3 :=
  (mid_line m c).unary 11 rfl (mid_off 12 197) (mid_off 11 196)
theorem e_v128 : (R m c main_v128 : FVec Ideal S128x4 .f32) = transpose S128x4 [1, 0] (R m c main_v125 : FVec Ideal S4x128 .f32) transposes_S4x128_S128x4_1_0 :=
  (mid_line m c).unary 12 rfl (mid_off 13 198) (mid_off 12 195)
theorem e_v129 : (R m c main_v129 : FVec Ideal S128x4x1 .f32) = broadcastInDim S128x4x1 ![0, 1] bcast_S128x4_S128x4x1_0_1 (R m c main_v128 : FVec Ideal S128x4 .f32) :=
  (mid_line m c).unary 13 rfl (mid_off 14 199) (mid_off 13 198)
theorem e_v130 : (R m c main_v130 : FVec Ideal S1x1x128x4x1 .f32) = broadcastInDim S1x1x128x4x1 ![2, 3, 4] bcast_S128x4x1_S1x1x128x4x1_2_3_4 (R m c main_v129 : FVec Ideal S128x4x1 .f32) :=
  (mid_line m c).unary 14 rfl (mid_off 15 200) (mid_off 14 199)
theorem e_v131 : (R m c main_v131 : FVec Ideal S1x64x128x4x128 .f32) = broadcastInDim S1x64x128x4x128 ![0, 1, 2, 3, 4] bcast_S1x1x128x4x1_S1x64x128x4x128_0_1_2_3_4 (R m c main_v130 : FVec Ideal S1x1x128x4x1 .f32) :=
  (mid_line m c).unary 15 rfl (mid_off 16 201) (mid_off 15 200)
theorem e_v132 : (R m c main_v132 : FVec Ideal S1x64x128x4x128 .f32) = mulf (F := Ideal) (s := S1x64x128x4x128) (φ := .f32) (R m c main_v127 : FVec Ideal S1x64x128x4x128 .f32) (R m c main_v131 : FVec Ideal S1x64x128x4x128 .f32) :=
  (mid_line m c).binary 16 rfl (mid_off 17 202) (mid_off 16 197) (mid_off 16 201)
theorem e_v133 : (R m c main_v133 : FVec Ideal S1x64x128x4x128 .f32) = addf (F := Ideal) (s := S1x64x128x4x128) (φ := .f32) (R m c main_v94 : FVec Ideal S1x64x128x4x128 .f32) (R m c main_v132 : FVec Ideal S1x64x128x4x128 .f32) :=
  (mid_line m c).binary 17 rfl (mid_off 18 203) (mid_off 17 132) (mid_off 17 202)
theorem e_v134 : (R m c main_v134 : FVec Ideal S1x8192x4x128 .f32) = shapeCast S1x8192x4x128 (R m c main_v133 : FVec Ideal S1x64x128x4x128 .f32) shapeCasts_S1x64x128x4x128_S1x8192x4x128 :=
  ((mid_line m c).reshape 18 rfl (mid_off 19 204) (mid_off 18 203)).trans rfl
theorem e_v135 : (R m c main_v135 : FVec Ideal S8192x512 .f32) = shapeCast S8192x512 (R m c main_v134 : FVec Ideal S1x8192x4x128 .f32) shapeCasts_S1x8192x4x128_S8192x512 :=
  ((mid_line m c).reshape 19 rfl (mid_off 20 205) (mid_off 19 204)).trans rfl
theorem e_cst_15 : (R m c main_cst_15 : FVec Ideal S_ .f32) = constant (F := Ideal) S_ .f32 0x00000000#32 :=
  (mid_line m c).nullary 20 rfl (mid_off 21 206)
theorem e_v136 : (R m c main_v136 : FVec Ideal S1x4x128x128 .f32) = broadcastInDim S1x4x128x128 ![] bcast_S_S1x4x128x128 (R m c main_cst_15 : FVec Ideal S_ .f32) :=
  (mid_line m c).unary 21 rfl (mid_off 22 207) (mid_off 21 206)
theorem e_v137 : (R m c main_v137 : FVec Ideal S1x8192x4x128 .f32) = shapeCast S1x8192x4x128 (R m c main_arg3 : FVec Ideal S8192x512 .f32) shapeCasts_S8192x512_S1x8192x4x128 :=
  ((mid_line m c).reshape 22 rfl (mid_off 23 208) (mid_off 22 3)).trans rfl
theorem e_v138 : (R m c main_v138 : FVec Ideal S1x64x128x4x128 .f32) = shapeCast S1x64x128x4x128 (R m c main_v137 : FVec Ideal S1x8192x4x128 .f32) shapeCasts_S1x8192x4x128_S1x64x128x4x128 :=
  ((mid_line m c).reshape 23 rfl (mid_off 24 209) (mid_off 23 208)).trans rfl
theorem e_v139 : (R m c main_v139 : FVec Ideal S1x64x128x4x128 .f32) = broadcastInDim S1x64x128x4x128 ![0, 1, 2, 3, 4] bcast_S1x1x128x4x1_S1x64x128x4x128_0_1_2_3_4 (R m c main_v130 : FVec Ideal S1x1x128x4x1 .f32) :=
  (mid_line m c).unary 24 rfl (mid_off 25 210) (mid_off 24 200)
theorem e_v140 : (R m c main_v140 : FVec Ideal S1x64x128x4x128 .f32) = mulf (F := Ideal) (s := S1x64x128x4x128) (φ := .f32) (R m c main_v138 : FVec Ideal S1x64x128x4x128 .f32) (R m c main_v139 : FVec Ideal S1x64x128x4x128 .f32) :=
  (mid_line m c).binary 25 rfl (mid_off 26 211) (mid_off 25 209) (mid_off 25 210)
theorem e_v141 : (R m c main_v141 : FVec Ideal S1x64x4x128x128 .f32) = transpose S1x64x4x128x128 [0, 1, 3, 4, 2] (R m c main_v140 : FVec Ideal S1x64x128x4x128 .f32) transposes_S1x64x128x4x128_S1x64x4x128x128_0_1_3_4_2 :=
  (mid_line m c).unary 26 rfl (mid_off 27 212) (mid_off 26 211)
theorem e_v142 : (R m c main_v142 : FVec Ideal S1x64x4x128x128 .f32) = Host.dotGeneral (F := Ideal) (φ₁ := .f32) (φ₂ := .f32) dot_S1x64x4x128x128_S1x64x4x128x128_S1x64x4x128x128_3_4_4_3_012_012 none (R m c main_v141 : FVec Ideal S1x64x4x128x128 .f32) (R m c main_v117 : FVec Ideal S1x64x4x128x128 .f32) :=
  (mid_line m c).binary 27 rfl (mid_off 28 213) (mid_off 27 212) (mid_off 27 186)
theorem e_v143 : (R m c main_v143 : FVec Ideal S1x64x128x4x128 .f32) = transpose S1x64x128x4x128 [0, 1, 3, 2, 4] (R m c main_v142 : FVec Ideal S1x64x4x128x128 .f32) transposes_S1x64x4x128x128_S1x64x128x4x128_0_1_3_2_4 :=
  (mid_line m c).unary 28 rfl (mid_off 29 214) (mid_off 28 213)
theorem e_v144 : (R m c main_v144 : FVec Ideal S1x64x4x128x128 .f32) = Host.dotGeneral (F := Ideal) (φ₁ := .f32) (φ₂ := .f32) dot_S1x64x4x128x128_S1x64x128x4x128_S1x64x4x128x128_4_2_3_4_012_013 none (R m c main_v141 : FVec Ideal S1x64x4x128x128 .f32) (R m c main_v68 : FVec Ideal S1x64x128x4x128 .f32) :=
  (mid_line m c).binary 29 rfl (mid_off 30 215) (mid_off 29 212) (mid_off 29 100)
theorem e_v145 : (R m c main_v145 : FVec Ideal S1x64x4x128x128 .f32) = transpose S1x64x4x128x128 [0, 1, 2, 4, 3] (R m c main_v144 : FVec Ideal S1x64x4x128x128 .f32) transposes_S1x64x4x128x128_S1x64x4x128x128_0_1_2_4_3 :=
  (mid_line m c).unary 30 rfl (mid_off 31 216) (mid_off 30 215)
theorem e_v146 : (R m c main_v146 : FVec Ideal S64x1x4x128x128 .f32) = transpose S64x1x4x128x128 [1, 0, 2, 3, 4] (R m c main_v145 : FVec Ideal S1x64x4x128x128 .f32) transposes_S1x64x4x128x128_S64x1x4x128x128_1_0_2_3_4 :=
  (mid_line m c).unary 31 rfl (mid_off 32 217) (mid_off 31 216)
theorem e_cst_16 : (R m c main_cst_16 : FVec Ideal S_ .f32) = constant (F := Ideal) S_ .f32 0x00000000#32 :=
  (mid_line m c).nullary 32 rfl (mid_off 33 218)
theorem e_v147 : (R m c main_v147 : FVec Ideal S1x4x128x128 .f32) = broadcastInDim S1x4x128x128 ![] bcast_S_S1x4x128x128 (R m c main_cst_16 : FVec Ideal S_ .f32) :=
  (mid_line m c).unary 33 rfl (mid_off 34 219) (mid_off 33 218)
theorem e_cst_17 : (R m c main_cst_17 : FVec Ideal S_ .f32) = constant (F := Ideal) S_ .f32 0x00000000#32 :=
  (mid_line m c).nullary 34 rfl (mid_off 35 220)
theorem e_v148 : (R m c main_v148 : FVec Ideal S64x1x4x128x128 .f32) = broadcastInDim S64x1x4x128x128 ![] bcast_S_S64x1x4x128x128 (R m c main_cst_17 : FVec Ideal S_ .f32) :=
  (mid_line m c).unary 35 rfl (mid_off 36 221) (mid_off 35 220)
theorem e_c_18 : (R m c main_c_18 : IVec S_ 32) = constantI S_ 32 0#32 :=
  (mid_line m c).nullary 36 rfl (mid_off 37 222)
theorem e_v149_0 : (R m c main_v149_0 : FVec Ideal S64x1x4x128x128 .f32) = (id : FVec Ideal S64x1x4x128x128 .f32 → FVec Ideal S64x1x4x128x128 .f32) (R m c main_v146 : FVec Ideal S64x1x4x128x128 .f32) :=
  (mid_line m c).unary (f := (id : FVec Ideal S64x1x4x128x128 .f32 → FVec Ideal S64x1x4x128x128 .f32)) 37 rfl (mid_off 38 223) (mid_off 37 217)
theorem e_v149_1 : (R m c main_v149_1 : FVec Ideal S1x4x1x1 .f32) = (id : FVec Ideal S1x4x1x1 .f32 → FVec Ideal S1x4x1x1 .f32) (R m c main_v112 : FVec Ideal S1x4x1x1 .f32) :=
  (mid_line m c).unary (f := (id : FVec Ideal S1x4x1x1 .f32 → FVec Ideal S1x4x1x1 .f32)) 38 rfl (mid_off 39 224) (mid_off 38 152)
theorem e_v150 : (R m c main_v150 : FVec Ideal S1x64x4x128x128 .f32) = transpose S1x64x4x128x128 [1, 0, 2, 3, 4] (R m c main_v149_4 : FVec Ideal S64x1x4x128x128 .f32) transposes_S64x1x4x128x128_S1x64x4x128x128_1_0_2_3_4 :=
  (post_line m c).unary 0 rfl (post_off 1 254) (post_off 0 253)
theorem e_v151 : (R m c main_v151 : FVec Ideal S1x64x4x128x128 .f32) = Host.dotGeneral (F := Ideal) (φ₁ := .f32) (φ₂ := .f32) dot_S1x64x4x128x128_S1x64x128x4x128_S1x64x4x128x128_3_4_4_2_012_013 none (R m c main_v150 : FVec Ideal S1x64x4x128x128 .f32) (R m c main_v69 : FVec Ideal S1x64x128x4x128 .f32) :=
  (post_line m c).binary 1 rfl (post_off 2 255) (post_off 1 254) (post_off 1 101)
theorem e_v152 : (R m c main_v152 : FVec Ideal S1x64x128x4x128 .f32) = transpose S1x64x128x4x128 [0, 1, 4, 2, 3] (R m c main_v151 : FVec Ideal S1x64x4x128x128 .f32) transposes_S1x64x4x128x128_S1x64x128x4x128_0_1_4_2_3 :=
  (post_line m c).unary 2 rfl (post_off 3 256) (post_off 2 255)
theorem e_v153 : (R m c main_v153 : FVec Ideal S1x64x4x128x128 .f32) = Host.dotGeneral (F := Ideal) (φ₁ := .f32) (φ₂ := .f32) dot_S1x64x4x128x128_S1x64x128x4x128_S1x64x4x128x128_4_4_3_2_012_013 none (R m c main_v150 : FVec Ideal S1x64x4x128x128 .f32) (R m c main_v107 : FVec Ideal S1x64x128x4x128 .f32) :=
  (post_line m c).binary 3 rfl (post_off 4 257) (post_off 3 254) (post_off 3 146)
theorem e_v154 : (R m c main_v154 : FVec Ideal S1x64x128x4x128 .f32) = transpose S1x64x128x4x128 [0, 1, 4, 2, 3] (R m c main_v153 : FVec Ideal S1x64x4x128x128 .f32) transposes_S1x64x4x128x128_S1x64x128x4x128_0_1_4_2_3 :=
  (post_line m c).unary 4 rfl (post_off 5 258) (post_off 4 257)
theorem e_v155 : (R m c main_v155 : FVec Ideal S1x64x128x4x128 .f32) = broadcastInDim S1x64x128x4x128 ![0, 1, 2, 3, 4] bcast_S1x1x128x4x1_S1x64x128x4x128_0_1_2_3_4 (R m c main_v105 : FVec Ideal S1x1x128x4x1 .f32) :=
  (post_line m c).unary 5 rfl (post_off 6 259) (post_off 5 144)
theorem e_v156 : (R m c main_v156 : FVec Ideal S1x64x128x4x128 .f32) = mulf (F := Ideal) (s := S1x64x128x4x128) (φ := .f32) (R m c main_v152 : FVec Ideal S1x64x128x4x128 .f32) (R m c main_v155 : FVec Ideal S1x64x128x4x128 .f32) :=
  (post_line m c).binary 6 rfl (post_off 7 260) (post_off 6 256) (post_off 6 259)
theorem e_v157 : (R m c main_v157 : FVec Ideal S1x64x4x128x128 .f32) = transpose S1x64x4x128x128 [0, 1, 3, 4, 2] (R m c main_v138 : FVec Ideal S1x64x128x4x128 .f32) transposes_S1x64x128x4x128_S1x64x4x128x128_0_1_3_4_2 :=
  (post_line m c).unary 7 rfl (post_off 8 261) (post_off 7 209)
theorem e_v158 : (R m c main_v158 : FVec Ideal S1x64x4x128x128 .f32) = Host.dotGeneral (F := Ideal) (φ₁ := .f32) (φ₂ := .f32) dot_S1x64x4x128x128_S1x64x128x4x128_S1x64x4x128x128_3_4_4_2_012_013 none (R m c main_v157 : FVec Ideal S1x64x4x128x128 .f32) (R m c main_v70 : FVec Ideal S1x64x128x4x128 .f32) :=
  (post_line m c).binary 8 rfl (post_off 9 262) (post_off 8 261) (post_off 8 102)
theorem e_v159 : (R m c main_v159 : FVec Ideal S1x64x4x128x128 .f32) = Host.dotGeneral (F := Ideal) (φ₁ := .f32) (φ₂ := .f32) dot_S1x64x4x128x128_S1x64x4x128x128_S1x64x4x128x128_4_3_3_4_012_012 none (R m c main_v157 : FVec Ideal S1x64x4x128x128 .f32) (R m c main_v92 : FVec Ideal S1x64x4x128x128 .f32) :=
  (post_line m c).binary 9 rfl (post_off 10 263) (post_off 9 261) (post_off 9 130)
theorem e_v160 : (R m c main_v160 : FVec Ideal S1x64x128x4x128 .f32) = transpose S1x64x128x4x128 [0, 1, 4, 2, 3] (R m c main_v159 : FVec Ideal S1x64x4x128x128 .f32) transposes_S1x64x4x128x128_S1x64x128x4x128_0_1_4_2_3 :=
  (post_line m c).unary 10 rfl (post_off 11 264) (post_off 10 263)
theorem e_v161 : (R m c main_v161 : FVec Ideal S1x64x128x4x128 .f32) = addf (F := Ideal) (s := S1x64x128x4x128) (φ := .f32) (R m c main_v156 : FVec Ideal S1x64x128x4x128 .f32) (R m c main_v160 : FVec Ideal S1x64x128x4x128 .f32) :=
  (post_line m c).binary 11 rfl (post_off 12 265) (post_off 11 260) (post_off 11 264)
theorem e_v162 : (R m c main_v162 : FVec Ideal S1x64x4x128x128 .f32) = broadcastInDim S1x64x4x128x128 ![0, 1, 2, 3, 4] bcast_S1x1x4x128x128_S1x64x4x128x128_0_1_2_3_4 (R m c main_v90 : FVec Ideal S1x1x4x128x128 .f32) :=
  (post_line m c).unary 12 rfl (post_off 13 266) (post_off 12 128)
theorem e_v163 : (R m c main_v163 : FVec Ideal S1x64x4x128x128 .f32) = mulf (F := Ideal) (s := S1x64x4x128x128) (φ := .f32) (R m c main_v158 : FVec Ideal S1x64x4x128x128 .f32) (R m c main_v162 : FVec Ideal S1x64x4x128x128 .f32) :=
  (post_line m c).binary 13 rfl (post_off 14 267) (post_off 13 262) (post_off 13 266)
theorem e_v164 : (R m c main_v164 : FVec Ideal S1x64x4x128x128 .f32) = Host.dotGeneral (F := Ideal) (φ₁ := .f32) (φ₂ := .f32) dot_S1x64x4x128x128_S1x64x128x4x128_S1x64x4x128x128_3_2_4_4_012_013 none (R m c main_v163 : FVec Ideal S1x64x4x128x128 .f32) (R m c main_v68 : FVec Ideal S1x64x128x4x128 .f32) :=
  (post_line m c).binary 14 rfl (post_off 15 268) (post_off 14 267) (post_off 14 100)
theorem e_v165 : (R m c main_v165 : FVec Ideal S1x64x128x4x128 .f32) = transpose S1x64x128x4x128 [0, 1, 3, 2, 4] (R m c main_v164 : FVec Ideal S1x64x4x128x128 .f32) transposes_S1x64x4x128x128_S1x64x128x4x128_0_1_3_2_4 :=
  (post_line m c).unary 15 rfl (post_off 16 269) (post_off 15 268)
theorem e_v166 : (R m c main_v166 : FVec Ideal S1x64x128x4x128 .f32) = addf (F := Ideal) (s := S1x64x128x4x128) (φ := .f32) (R m c main_v154 : FVec Ideal S1x64x128x4x128 .f32) (R m c main_v165 : FVec Ideal S1x64x128x4x128 .f32) :=
  (post_line m c).binary 16 rfl (post_off 17 270) (post_off 16 258) (post_off 16 269)
theorem e_v167 : (R m c main_v167 : FVec Ideal S1x64x4x128x128 .f32) = Host.dotGeneral (F := Ideal) (φ₁ := .f32) (φ₂ := .f32) dot_S1x64x4x128x128_S1x64x128x4x128_S1x64x4x128x128_4_2_3_4_012_013 none (R m c main_v163 : FVec Ideal S1x64x4x128x128 .f32) (R m c main_v69 : FVec Ideal S1x64x128x4x128 .f32) :=
  (post_line m c).binary 17 rfl (post_off 18 271) (post_off 17 267) (post_off 17 101)
theorem e_v168 : (R m c main_v168 : FVec Ideal S1x64x128x4x128 .f32) = transpose S1x64x128x4x128 [0, 1, 3, 2, 4] (R m c main_v167 : FVec Ideal S1x64x4x128x128 .f32) transposes_S1x64x4x128x128_S1x64x128x4x128_0_1_3_2_4 :=
  (post_line m c).unary 18 rfl (post_off 19 272) (post_off 18 271)
theorem e_v169 : (R m c main_v169 : FVec Ideal S1x64x128x4x128 .f32) = addf (F := Ideal) (s := S1x64x128x4x128) (φ := .f32) (R m c main_v143 : FVec Ideal S1x64x128x4x128 .f32) (R m c main_v168 : FVec Ideal S1x64x128x4x128 .f32) :=
  (post_line m c).binary 19 rfl (post_off 20 273) (post_off 19 214) (post_off 19 272)
theorem e_v170 : (R m c main_v170 : FVec Ideal S1x8192x4x128 .f32) = shapeCast S1x8192x4x128 (R m c main_v161 : FVec Ideal S1x64x128x4x128 .f32) shapeCasts_S1x64x128x4x128_S1x8192x4x128 :=
  ((post_line m c).reshape 20 rfl (post_off 21 274) (post_off 20 265)).trans rfl
theorem e_v171 : (R m c main_v171 : FVec Ideal S1x8192x4x128 .f32) = shapeCast S1x8192x4x128 (R m c main_v166 : FVec Ideal S1x64x128x4x128 .f32) shapeCasts_S1x64x128x4x128_S1x8192x4x128 :=
  ((post_line m c).reshape 21 rfl (post_off 22 275) (post_off 21 270)).trans rfl
theorem e_v172 : (R m c main_v172 : FVec Ideal S1x8192x4x128 .f32) = shapeCast S1x8192x4x128 (R m c main_v169 : FVec Ideal S1x64x128x4x128 .f32) shapeCasts_S1x64x128x4x128_S1x8192x4x128 :=
  ((post_line m c).reshape 22 rfl (post_off 23 276) (post_off 22 273)).trans rfl
theorem e_v173 : (R m c main_v173 : FVec Ideal S8192x512 .f32) = shapeCast S8192x512 (R m c main_v170 : FVec Ideal S1x8192x4x128 .f32) shapeCasts_S1x8192x4x128_S8192x512 :=
  ((post_line m c).reshape 23 rfl (post_off 24 277) (post_off 23 274)).trans rfl
theorem e_cst_19 : (R m c main_cst_19 : FVec Ideal S_ .f32) = constant (F := Ideal) S_ .f32 0x3DB504F3#32 :=
  (post_line m c).nullary 24 rfl (post_off 25 278)
theorem e_v174 : (R m c main_v174 : FVec Ideal S1x8192x4x128 .f32) = broadcastInDim S1x8192x4x128 ![] bcast_S_S1x8192x4x128 (R m c main_cst_19 : FVec Ideal S_ .f32) :=
  (post_line m c).unary 25 rfl (post_off 26 279) (post_off 25 278)
theorem e_v175 : (R m c main_v175 : FVec Ideal S1x8192x4x128 .f32) = mulf (F := Ideal) (s := S1x8192x4x128) (φ := .f32) (R m c main_v171 : FVec Ideal S1x8192x4x128 .f32) (R m c main_v174 : FVec Ideal S1x8192x4x128 .f32) :=
  (post_line m c).binary 26 rfl (post_off 27 280) (post_off 26 275) (post_off 26 279)
theorem e_v176 : (R m c main_v176 : FVec Ideal S1x8192x4x64 .f32) = extractStridedSlice S1x8192x4x64 ![0, 0, 0, 0] (R m c main_v175 : FVec Ideal S1x8192x4x128 .f32) slices_S1x8192x4x128_S1x8192x4x64_0_0_0_0 :=
  (post_line m c).unary 27 rfl (post_off 28 281) (post_off 27 280)
theorem e_v177 : (R m c main_v177 : FVec Ideal S1x8192x4x64 .f32) = extractStridedSlice S1x8192x4x64 ![0, 0, 0, 64] (R m c main_v175 : FVec Ideal S1x8192x4x128 .f32) slices_S1x8192x4x128_S1x8192x4x64_0_0_0_64 :=
  (post_line m c).unary 28 rfl (post_off 29 282) (post_off 28 280)
theorem e_v178 : (R m c main_v178 : FVec Ideal S1x8192x4x64 .f32) = broadcastInDim S1x8192x4x64 ![0, 1, 2, 3] bcast_S1x8192x1x64_S1x8192x4x64_0_1_2_3 (R m c main_v44 : FVec Ideal S1x8192x1x64 .f32) :=
  (post_line m c).unary 29 rfl (post_off 30 283) (post_off 29 52)
theorem e_v179 : (R m c main_v179 : FVec Ideal S1x8192x4x64 .f32) = mulf (F := Ideal) (s := S1x8192x4x64) (φ := .f32) (R m c main_v177 : FVec Ideal S1x8192x4x64 .f32) (R m c main_v178 : FVec Ideal S1x8192x4x64 .f32) :=
  (post_line m c).binary 30 rfl (post_off 31 284) (post_off 30 282) (post_off 30 283)
theorem e_v180 : (R m c main_v180 : FVec Ideal S1x8192x4x64 .f32) = broadcastInDim S1x8192x4x64 ![0, 1, 2, 3] bcast_S1x8192x1x64_S1x8192x4x64_0_1_2_3 (R m c main_v46 : FVec Ideal S1x8192x1x64 .f32) :=
  (post_line m c).unary 31 rfl (post_off 32 285) (post_off 31 54)
theorem e_v181 : (R m c main_v181 : FVec Ideal S1x8192x4x64 .f32) = mulf (F := Ideal) (s := S1x8192x4x64) (φ := .f32) (R m c main_v177 : FVec Ideal S1x8192x4x64 .f32) (R m c main_v180 : FVec Ideal S1x8192x4x64 .f32) :=
  (post_line m c).binary 32 rfl (post_off 33 286) (post_off 32 282) (post_off 32 285)
theorem e_v182 : (R m c main_v182 : FVec Ideal S1x8192x4x64 .f32) = Host.negf (F := Ideal) (s := S1x8192x4x64) (φ := .f32) (R m c main_v176 : FVec Ideal S1x8192x4x64 .f32) :=
  (post_line m c).unary 33 rfl (post_off 34 287) (post_off 33 281)
theorem e_v183 : (R m c main_v183 : FVec Ideal S1x8192x4x64 .f32) = broadcastInDim S1x8192x4x64 ![0, 1, 2, 3] bcast_S1x8192x1x64_S1x8192x4x64_0_1_2_3 (R m c main_v46 : FVec Ideal S1x8192x1x64 .f32) :=
  (post_line m c).unary 34 rfl (post_off 35 288) (post_off 34 54)
theorem e_v184 : (R m c main_v184 : FVec Ideal S1x8192x4x64 .f32) = mulf (F := Ideal) (s := S1x8192x4x64) (φ := .f32) (R m c main_v182 : FVec Ideal S1x8192x4x64 .f32) (R m c main_v183 : FVec Ideal S1x8192x4x64 .f32) :=
  (post_line m c).binary 35 rfl (post_off 36 289) (post_off 35 287) (post_off 35 288)
theorem e_v185 : (R m c main_v185 : FVec Ideal S1x8192x4x64 .f32) = addf (F := Ideal) (s := S1x8192x4x64) (φ := .f32) (R m c main_v179 : FVec Ideal S1x8192x4x64 .f32) (R m c main_v184 : FVec Ideal S1x8192x4x64 .f32) :=
  (post_line m c).binary 36 rfl (post_off 37 290) (post_off 36 284) (post_off 36 289)
theorem e_v186 : (R m c main_v186 : FVec Ideal S1x8192x4x64 .f32) = broadcastInDim S1x8192x4x64 ![0, 1, 2, 3] bcast_S1x8192x1x64_S1x8192x4x64_0_1_2_3 (R m c main_v44 : FVec Ideal S1x8192x1x64 .f32) :=
  (post_line m c).unary 37 rfl (post_off 38 291) (post_off 37 52)
theorem e_v187 : (R m c main_v187 : FVec Ideal S1x8192x4x64 .f32) = mulf (F := Ideal) (s := S1x8192x4x64) (φ := .f32) (R m c main_v176 : FVec Ideal S1x8192x4x64 .f32) (R m c main_v186 : FVec Ideal S1x8192x4x64 .f32) :=
  (post_line m c).binary 38 rfl (post_off 39 292) (post_off 38 281) (post_off 38 291)
theorem e_v188 : (R m c main_v188 : FVec Ideal S1x8192x4x64 .f32) = addf (F := Ideal) (s := S1x8192x4x64) (φ := .f32) (R m c main_v181 : FVec Ideal S1x8192x4x64 .f32) (R m c main_v187 : FVec Ideal S1x8192x4x64 .f32) :=
  (post_line m c).binary 39 rfl (post_off 40 293) (post_off 39 286) (post_off 39 292)
theorem e_cst_20 : (R m c main_cst_20 : FVec Ideal S_ .f32) = constant (F := Ideal) S_ .f32 0x00000000#32 :=
  (post_line m c).nullary 40 rfl (post_off 41 294)
theorem e_v189 : (R m c main_v189 : FVec Ideal S1x8192x4x128 .f32) = pad S1x8192x4x128 ![0, 0, 0, 64] ![0, 0, 0, 0] ![0, 0, 0, 0] (R m c main_v185 : FVec Ideal S1x8192x4x64 .f32) (R m c main_cst_20 : FVec Ideal S_ .f32) pads_S1x8192x4x64_S1x8192x4x128_000_000_000_6400 h_S_ :=
  (post_line m c).binary 41 rfl (post_off 42 295) (post_off 41 290) (post_off 41 294)
theorem e_cst_21 : (R m c main_cst_21 : FVec Ideal S_ .f32) = constant (F := Ideal) S_ .f32 0x00000000#32 :=
  (post_line m c).nullary 42 rfl (post_off 43 296)
theorem e_v190 : (R m c main_v190 : FVec Ideal S1x8192x4x128 .f32) = pad S1x8192x4x128 ![0, 0, 0, 0] ![0, 0, 0, 64] ![0, 0, 0, 0] (R m c main_v188 : FVec Ideal S1x8192x4x64 .f32) (R m c main_cst_21 : FVec Ideal S_ .f32) pads_S1x8192x4x64_S1x8192x4x128_000_000_000_0640 h_S_ :=
  (post_line m c).binary 43 rfl (post_off 44 297) (post_off 43 293) (post_off 43 296)
theorem e_v191 : (R m c main_v191 : FVec Ideal S1x8192x4x128 .f32) = addf (F := Ideal) (s := S1x8192x4x128) (φ := .f32) (R m c main_v189 : FVec Ideal S1x8192x4x128 .f32) (R m c main_v190 : FVec Ideal S1x8192x4x128 .f32) :=
  (post_line m c).binary 44 rfl (post_off 45 298) (post_off 44 295) (post_off 44 297)
theorem e_v192 : (R m c main_v192 : FVec Ideal S8192x512 .f32) = shapeCast S8192x512 (R m c main_v191 : FVec Ideal S1x8192x4x128 .f32) shapeCasts_S1x8192x4x128_S8192x512 :=
  ((post_line m c).reshape 45 rfl (post_off 46 299) (post_off 45 298)).trans rfl
theorem e_v193 : (R m c main_v193 : FVec Ideal S1x8192x4x64 .f32) = extractStridedSlice S1x8192x4x64 ![0, 0, 0, 0] (R m c main_v172 : FVec Ideal S1x8192x4x128 .f32) slices_S1x8192x4x128_S1x8192x4x64_0_0_0_0 :=
  (post_line m c).unary 46 rfl (post_off 47 300) (post_off 46 276)
theorem e_v194 : (R m c main_v194 : FVec Ideal S1x8192x4x64 .f32) = extractStridedSlice S1x8192x4x64 ![0, 0, 0, 64] (R m c main_v172 : FVec Ideal S1x8192x4x128 .f32) slices_S1x8192x4x128_S1x8192x4x64_0_0_0_64 :=
  (post_line m c).unary 47 rfl (post_off 48 301) (post_off 47 276)
theorem e_v195 : (R m c main_v195 : FVec Ideal S1x8192x4x64 .f32) = broadcastInDim S1x8192x4x64 ![0, 1, 2, 3] bcast_S1x8192x1x64_S1x8192x4x64_0_1_2_3 (R m c main_v14 : FVec Ideal S1x8192x1x64 .f32) :=
  (post_line m c).unary 48 rfl (post_off 49 302) (post_off 48 20)
theorem e_v196 : (R m c main_v196 : FVec Ideal S1x8192x4x64 .f32) = mulf (F := Ideal) (s := S1x8192x4x64) (φ := .f32) (R m c main_v194 : FVec Ideal S1x8192x4x64 .f32) (R m c main_v195 : FVec Ideal S1x8192x4x64 .f32) :=
  (post_line m c).binary 49 rfl (post_off 50 303) (post_off 49 301) (post_off 49 302)
theorem e_v197 : (R m c main_v197 : FVec Ideal S1x8192x4x64 .f32) = broadcastInDim S1x8192x4x64 ![0, 1, 2, 3] bcast_S1x8192x1x64_S1x8192x4x64_0_1_2_3 (R m c main_v16 : FVec Ideal S1x8192x1x64 .f32) :=
  (post_line m c).unary 50 rfl (post_off 51 304) (post_off 50 22)
theorem e_v198 : (R m c main_v198 : FVec Ideal S1x8192x4x64 .f32) = mulf (F := Ideal) (s := S1x8192x4x64) (φ := .f32) (R m c main_v194 : FVec Ideal S1x8192x4x64 .f32) (R m c main_v197 : FVec Ideal S1x8192x4x64 .f32) :=
  (post_line m c).binary 51 rfl (post_off 52 305) (post_off 51 301) (post_off 51 304)
theorem e_v199 : (R m c main_v199 : FVec Ideal S1x8192x4x64 .f32) = Host.negf (F := Ideal) (s := S1x8192x4x64) (φ := .f32) (R m c main_v193 : FVec Ideal S1x8192x4x64 .f32) :=
  (post_line m c).unary 52 rfl (post_off 53 306) (post_off 52 300)
theorem e_v200 : (R m c main_v200 : FVec Ideal S1x8192x4x64 .f32) = broadcastInDim S1x8192x4x64 ![0, 1, 2, 3] bcast_S1x8192x1x64_S1x8192x4x64_0_1_2_3 (R m c main_v16 : FVec Ideal S1x8192x1x64 .f32) :=
  (post_line m c).unary 53 rfl (post_off 54 307) (post_off 53 22)
theorem e_v201 : (R m c main_v201 : FVec Ideal S1x8192x4x64 .f32) = mulf (F := Ideal) (s := S1x8192x4x64) (φ := .f32) (R m c main_v199 : FVec Ideal S1x8192x4x64 .f32) (R m c main_v200 : FVec Ideal S1x8192x4x64 .f32) :=
  (post_line m c).binary 54 rfl (post_off 55 308) (post_off 54 306) (post_off 54 307)
theorem e_v202 : (R m c main_v202 : FVec Ideal S1x8192x4x64 .f32) = addf (F := Ideal) (s := S1x8192x4x64) (φ := .f32) (R m c main_v196 : FVec Ideal S1x8192x4x64 .f32) (R m c main_v201 : FVec Ideal S1x8192x4x64 .f32) :=
  (post_line m c).binary 55 rfl (post_off 56 309) (post_off 55 303) (post_off 55 308)
theorem e_v203 : (R m c main_v203 : FVec Ideal S1x8192x4x64 .f32) = broadcastInDim S1x8192x4x64 ![0, 1, 2, 3] bcast_S1x8192x1x64_S1x8192x4x64_0_1_2_3 (R m c main_v14 : FVec Ideal S1x8192x1x64 .f32) :=
  (post_line m c).unary 56 rfl (post_off 57 310) (post_off 56 20)
theorem e_v204 : (R m c main_v204 : FVec Ideal S1x8192x4x64 .f32) = mulf (F := Ideal) (s := S1x8192x4x64) (φ := .f32) (R m c main_v193 : FVec Ideal S1x8192x4x64 .f32) (R m c main_v203 : FVec Ideal S1x8192x4x64 .f32) :=
  (post_line m c).binary 57 rfl (post_off 58 311) (post_off 57 300) (post_off 57 310)
theorem e_v205 : (R m c main_v205 : FVec Ideal S1x8192x4x64 .f32) = addf (F := Ideal) (s := S1x8192x4x64) (φ := .f32) (R m c main_v198 : FVec Ideal S1x8192x4x64 .f32) (R m c main_v204 : FVec Ideal S1x8192x4x64 .f32) :=
  (post_line m c).binary 58 rfl (post_off 59 312) (post_off 58 305) (post_off 58 311)
theorem e_cst_22 : (R m c main_cst_22 : FVec Ideal S_ .f32) = constant (F := Ideal) S_ .f32 0x00000000#32 :=
  (post_line m c).nullary 59 rfl (post_off 60 313)
theorem e_v206 : (R m c main_v206 : FVec Ideal S1x8192x4x128 .f32) = pad S1x8192x4x128 ![0, 0, 0, 64] ![0, 0, 0, 0] ![0, 0, 0, 0] (R m c main_v202 : FVec Ideal S1x8192x4x64 .f32) (R m c main_cst_22 : FVec Ideal S_ .f32) pads_S1x8192x4x64_S1x8192x4x128_000_000_000_6400 h_S_ :=
  (post_line m c).binary 60 rfl (post_off 61 314) (post_off 60 309) (post_off 60 313)
theorem e_cst_23 : (R m c main_cst_23 : FVec Ideal S_ .f32) = constant (F := Ideal) S_ .f32 0x00000000#32 :=
  (post_line m c).nullary 61 rfl (post_off 62 315)
theorem e_v207 : (R m c main_v207 : FVec Ideal S1x8192x4x128 .f32) = pad S1x8192x4x128 ![0, 0, 0, 0] ![0, 0, 0, 64] ![0, 0, 0, 0] (R m c main_v205 : FVec Ideal S1x8192x4x64 .f32) (R m c main_cst_23 : FVec Ideal S_ .f32) pads_S1x8192x4x64_S1x8192x4x128_000_000_000_0640 h_S_ :=
  (post_line m c).binary 62 rfl (post_off 63 316) (post_off 62 312) (post_off 62 315)
theorem e_v208 : (R m c main_v208 : FVec Ideal S1x8192x4x128 .f32) = addf (F := Ideal) (s := S1x8192x4x128) (φ := .f32) (R m c main_v206 : FVec Ideal S1x8192x4x128 .f32) (R m c main_v207 : FVec Ideal S1x8192x4x128 .f32) :=
  (post_line m c).binary 63 rfl (post_off 64 317) (post_off 63 314) (post_off 63 316)
theorem e_v209 : (R m c main_v209 : FVec Ideal S8192x512 .f32) = shapeCast S8192x512 (R m c main_v208 : FVec Ideal S1x8192x4x128 .f32) shapeCasts_S1x8192x4x128_S8192x512 :=
  ((post_line m c).reshape 64 rfl (post_off 65 318) (post_off 64 317)).trans rfl
theorem e_v210 : (R m c main_v210 : FVec Ideal S8192x512 .bf16) = truncf (F := Ideal) (s := S8192x512) (φ := .f32) .bf16 (R m c main_v209 : FVec Ideal S8192x512 .f32) bitsLt_bf16_f32 :=
  (post_line m c).unary 65 rfl (post_off 66 319) (post_off 65 318)
theorem e_v211 : (R m c main_v211 : FVec Ideal S8192x512 .bf16) = truncf (F := Ideal) (s := S8192x512) (φ := .f32) .bf16 (R m c main_v192 : FVec Ideal S8192x512 .f32) bitsLt_bf16_f32 :=
  (post_line m c).unary 66 rfl (post_off 67 320) (post_off 66 299)
theorem e_v212 : (R m c main_v212 : FVec Ideal S8192x512 .bf16) = truncf (F := Ideal) (s := S8192x512) (φ := .f32) .bf16 (R m c main_v173 : FVec Ideal S8192x512 .f32) bitsLt_bf16_f32 :=
  (post_line m c).unary 67 rfl (post_off 68 321) (post_off 67 277)

end Cert.ReferenceIdeal.Ops

end
-- ==== Proof.RefLoop.lean ====
/- What the reference's two loops leave: the states they collect, entry by entry. -/
module

public import Idealize.ShloMosaic.Lib.WordArith.Masks
public import proofs.«01_k».proof.Proof.RefRun
public import proofs.«01_k».proof.Proof.Shared
public import Idealize.ShloMosaic.Lib.DynamicIndex

@[expose] public section

set_option maxRecDepth 16384

noncomputable section

namespace Cert.ReferenceIdeal.Ops

open Idealize.ShloMosaic Idealize.ShloMosaic.TcCoe Idealize.ShloMosaic.StableHlo
open Cert.ReferenceIdeal Cert.ReferenceIdeal.Gen

/-- One chunk of a stack of 64, taken at `k`. -/
theorem take_apply (x : FVec Ideal S64x1x4x128x128 .f32) (start : Fin 5 → Int) (k : Fin 64)
    (hs : ∀ a, start a = ((![(k : ℕ), 0, 0, 0, 0] : Fin 5 → ℕ) a : Int)) (z : Fin 1) (h : Fin 4) (a b : Fin 128) :
    shapeCast S1x4x128x128 (Host.dynamicSlice S1x1x4x128x128 x start sliceFits_S64x1x4x128x128_S1x1x4x128x128) shapeCasts_S1x1x4x128x128_S1x4x128x128 (ix4 z h a b)
      = x (ix5 k z h a b) := by
  have hoff : S64x1x4x128x128.Slices ![(k : ℕ), 0, 0, 0, 0] S1x1x4x128x128 := by
    refine ⟨rfl, fun a => ?_⟩
    have := k.2
    fin_cases a <;> simp <;> omega
  rw [Host.dynamicSlice_eq_extractStridedSlice S1x1x4x128x128 x start ![(k : ℕ), 0, 0, 0, 0] sliceFits_S64x1x4x128x128_S1x1x4x128x128 hoff hs]
  pointwise
  rw [Subsingleton.elim z 0]

/-- A state as a stack of one. -/
def up (x : FVec Ideal S1x4x128x128 .f32) : FVec Ideal S1x1x4x128x128 .f32 := broadcastInDim S1x1x4x128x128 ![1, 2, 3, 4] bcast_S1x4x128x128_S1x1x4x128x128_1_2_3_4 x

/-- One chunk put into a stack of 64 at `k`. -/
theorem put_apply (x : FVec Ideal S64x1x4x128x128 .f32) (u : FVec Ideal S1x1x4x128x128 .f32) (start : Fin 5 → Int) (k : Fin 64)
    (hs : ∀ a, start a = ((![(k : ℕ), 0, 0, 0, 0] : Fin 5 → ℕ) a : Int)) (n : Fin 64) (z : Fin 1) (h : Fin 4) (a b : Fin 128) :
    Host.dynamicUpdateSlice x u start updateFits_S64x1x4x128x128_S1x1x4x128x128 (ix5 n z h a b)
      = if n = k then u (ix5 0 z h a b) else x (ix5 n z h a b) := by
  have hk := k.2
  have hoff : S64x1x4x128x128.Slices ![(k : ℕ), 0, 0, 0, 0] S1x1x4x128x128 := by
    refine ⟨rfl, fun a => ?_⟩
    fin_cases a <;> simp <;> omega
  rw [Host.dynamicUpdateSlice_eq_updateSlice x u start updateFits_S64x1x4x128x128_S1x1x4x128x128 ![(k : ℕ), 0, 0, 0, 0]
    (fun a => by rw [hs a]; fin_cases a <;> simp <;> omega) hoff]
  pointwise
  by_cases h1 : n = k
  · subst h1; simp [Subsingleton.elim z 0]
  · rw [if_neg h1, dif_neg]
    intro h2
    exact h1 (Fin.ext (by omega))

variable (E : Dev nD → Valuation τ sig (Elt Ideal)) (c : Dev nD)

/-- A trip of loop 0: the state fades and takes its chunk. -/
theorem trip0_state (h0 : E c (Proc.devRef .tc main_v116_2) = fun _ => (0#32 : BitVec 32)) (n : ℕ) :
    (at0K E (n + 1) c (Proc.devRef .tc main_v116_3) : FVec Ideal S1x4x128x128 .f32) = addf (F := Ideal) (s := S1x4x128x128) (φ := .f32) (mulf (F := Ideal) (s := S1x4x128x128) (φ := .f32) (broadcastInDim S1x4x128x128 ![0, 1, 2, 3] bcast_S1x4x1x1_S1x4x128x128_0_1_2_3 (at0K E n c (Proc.devRef .tc main_v116_1) : FVec Ideal S1x4x1x1 .f32)) (at0K E n c (Proc.devRef .tc main_v116_3) : FVec Ideal S1x4x128x128 .f32)) (shapeCast S1x4x128x128 (Host.dynamicSlice S1x1x4x128x128 (at0K E n c (Proc.devRef .tc main_v116_0) : FVec Ideal S64x1x4x128x128 .f32) (fun k => (((![fun _ => Scf.iv 0#32 1#32 n, fun _ => 0#32, fun _ => 0#32, fun _ => 0#32, fun _ => 0#32] : Fin 5 → IVec S_ 32) k) (Shape.Idx.first h_S_)).toInt) sliceFits_S64x1x4x128x128_S1x1x4x128x128) shapeCasts_S1x1x4x128x128_S1x4x128x128) := by
  have hctr := at0K_ctr E c h0 n
  rw [at0K_succ]
  set V := after cond0 (at0K E n c) with hV
  have L := step0_line V
  have M := carry0_line (after step0 V)
  have k0 : ∀ {r : Ref sig .tc}, r ∉ stepW0 ++ [] → r ∉ condW0 → after step0 V (Proc.devRef .tc r) = at0K E n c (Proc.devRef .tc r) :=
    fun h h' => (L.keep h).trans (keep_of_map cond0_map _ h')
  have i0 : after step0 V (Proc.devRef .tc main_while0b_call2_c) = fun _ => (0#32 : BitVec 32) := L.nullary 0 rfl (by decide +kernel)
  have i1 : after step0 V (Proc.devRef .tc main_while0b_call2_c_0) = fun _ => (0#32 : BitVec 32) := L.nullary 1 rfl (by decide +kernel)
  have i2 : after step0 V (Proc.devRef .tc main_while0b_call2_c_1) = fun _ => (0#32 : BitVec 32) := L.nullary 2 rfl (by decide +kernel)
  have i3 : after step0 V (Proc.devRef .tc main_while0b_call2_c_2) = fun _ => (0#32 : BitVec 32) := L.nullary 3 rfl (by decide +kernel)
  have h1 := M.unary 1 rfl (by decide +kernel) (by decide +kernel)
  have h1' := M.before 1 (r := main_while0b_v216) (by decide +kernel)
  have h2 := L.binary 8 rfl (by decide +kernel) (by decide +kernel) (by decide +kernel)
  have h3 := L.binary 7 rfl (by decide +kernel) (by decide +kernel) (by decide +kernel)
  have h4 := L.unary 6 rfl (by decide +kernel) (by decide +kernel)
  have h5 := L.reshape 5 rfl (by decide +kernel) (by decide +kernel)
  have h6 := L.unaryIndexed 4 rfl (by decide +kernel) (by decide +kernel) (by decide +kernel)
  have h6' := h6.trans (congrArg₂ (fun (x : FVec Ideal S64x1x4x128x128 .f32) (i : Fin 5 → IVec S_ 32) =>
      Host.dynamicSlice S1x1x4x128x128 x (fun k => (i k (Shape.Idx.first h_S_)).toInt) sliceFits_S64x1x4x128x128_S1x1x4x128x128)
    (k0 (r := main_v116_0) (by decide +kernel) (by decide +kernel))
    (y' := (![fun _ => Scf.iv 0#32 1#32 n, fun _ => 0#32, fun _ => 0#32, fun _ => 0#32, fun _ => 0#32] : Fin 5 → IVec S_ 32))
    (funext fun k => by
      fin_cases k
      · exact (k0 (r := main_v116_2) (by decide +kernel) (by decide +kernel)).trans hctr
      · exact i0
      · exact i1
      · exact i2
      · exact i3))
  exact h1.trans (h1'.symm.trans (h2.trans (congrArg₂ addf (h3.trans (congrArg₂ mulf
    (h4.trans (congrArg _ (k0 (by decide +kernel) (by decide +kernel)))) (k0 (by decide +kernel) (by decide +kernel))))
    (h5.trans (congrArg (fun x : FVec Ideal S1x1x4x128x128 .f32 => shapeCast S1x4x128x128 x shapeCasts_S1x1x4x128x128_S1x4x128x128) h6')))))

/-- A trip of loop 0: the state it found is stored. -/
theorem trip0_out (h0 : E c (Proc.devRef .tc main_v116_2) = fun _ => (0#32 : BitVec 32)) (n : ℕ) :
    (at0K E (n + 1) c (Proc.devRef .tc main_v116_4) : FVec Ideal S64x1x4x128x128 .f32) = Host.dynamicUpdateSlice (at0K E n c (Proc.devRef .tc main_v116_4) : FVec Ideal S64x1x4x128x128 .f32)
      (up (at0K E n c (Proc.devRef .tc main_v116_3) : FVec Ideal S1x4x128x128 .f32))
      (fun k => (((![fun _ => Scf.iv 0#32 1#32 n, fun _ => 0#32, fun _ => 0#32, fun _ => 0#32, fun _ => 0#32] : Fin 5 → IVec S_ 32) k) (Shape.Idx.first h_S_)).toInt) updateFits_S64x1x4x128x128_S1x1x4x128x128 := by
  have hctr := at0K_ctr E c h0 n
  rw [at0K_succ]
  set V := after cond0 (at0K E n c) with hV
  have L := step0_line V
  have M := carry0_line (after step0 V)
  have k0 : ∀ {r : Ref sig .tc}, r ∉ stepW0 ++ [] → r ∉ condW0 → after step0 V (Proc.devRef .tc r) = at0K E n c (Proc.devRef .tc r) :=
    fun h h' => (L.keep h).trans (keep_of_map cond0_map _ h')
  have i0 : after step0 V (Proc.devRef .tc main_while0b_call3_c) = fun _ => (0#32 : BitVec 32) := L.nullary 10 rfl (by decide +kernel)
  have i1 : after step0 V (Proc.devRef .tc main_while0b_call3_c_0) = fun _ => (0#32 : BitVec 32) := L.nullary 11 rfl (by decide +kernel)
  have i2 : after step0 V (Proc.devRef .tc main_while0b_call3_c_1) = fun _ => (0#32 : BitVec 32) := L.nullary 12 rfl (by decide +kernel)
  have i3 : after step0 V (Proc.devRef .tc main_while0b_call3_c_2) = fun _ => (0#32 : BitVec 32) := L.nullary 13 rfl (by decide +kernel)
  have h1 := M.unary 2 rfl (by decide +kernel) (by decide +kernel)
  have h1' := M.before 2 (r := main_while0b_v217) (by decide +kernel)
  have h4 := L.unary 9 rfl (by decide +kernel) (by decide +kernel)
  have h4' : after step0 V (Proc.devRef .tc main_while0b_call3_v0) = (up (at0K E n c (Proc.devRef .tc main_v116_3) : FVec Ideal S1x4x128x128 .f32)) :=
    h4.trans (congrArg up (k0 (r := main_v116_3) (by decide +kernel) (by decide +kernel)))
  have h6 := L.binaryIndexed 14 rfl (by decide +kernel) (by decide +kernel) (by decide +kernel) (by decide +kernel)
  have h6' := h6.trans (congrArg₂ (fun (x : (FVec Ideal S64x1x4x128x128 .f32) × (FVec Ideal S1x1x4x128x128 .f32)) (i : Fin 5 → IVec S_ 32) =>
      Host.dynamicUpdateSlice x.1 x.2 (fun k => (i k (Shape.Idx.first h_S_)).toInt) updateFits_S64x1x4x128x128_S1x1x4x128x128)
    (Prod.ext (k0 (r := main_v116_4) (by decide +kernel) (by decide +kernel)) h4' : ((_, _) : (FVec Ideal S64x1x4x128x128 .f32) × (FVec Ideal S1x1x4x128x128 .f32)) = (_, _))
    (y' := (![fun _ => Scf.iv 0#32 1#32 n, fun _ => 0#32, fun _ => 0#32, fun _ => 0#32, fun _ => 0#32] : Fin 5 → IVec S_ 32))
    (funext fun k => by
      fin_cases k
      · exact (k0 (r := main_v116_2) (by decide +kernel) (by decide +kernel)).trans hctr
      · exact i0
      · exact i1
      · exact i2
      · exact i3))
  exact h1.trans (h1'.symm.trans h6')

/-- A trip of loop 1: the state fades and takes its chunk. -/
theorem trip1_state (h0 : E c (Proc.devRef .tc main_v149_2) = fun _ => (0#32 : BitVec 32)) (n : ℕ) :
    (at1K E (n + 1) c (Proc.devRef .tc main_v149_3) : FVec Ideal S1x4x128x128 .f32) = addf (F := Ideal) (s := S1x4x128x128) (φ := .f32) (shapeCast S1x4x128x128 (Host.dynamicSlice S1x1x4x128x128 (at1K E n c (Proc.devRef .tc main_v149_0) : FVec Ideal S64x1x4x128x128 .f32) (fun k => (((![fun _ => 64#32 - Scf.iv 0#32 1#32 n - 1#32, fun _ => 0#32, fun _ => 0#32, fun _ => 0#32, fun _ => 0#32] : Fin 5 → IVec S_ 32) k) (Shape.Idx.first h_S_)).toInt) sliceFits_S64x1x4x128x128_S1x1x4x128x128) shapeCasts_S1x1x4x128x128_S1x4x128x128) (mulf (F := Ideal) (s := S1x4x128x128) (φ := .f32) (broadcastInDim S1x4x128x128 ![0, 1, 2, 3] bcast_S1x4x1x1_S1x4x128x128_0_1_2_3 (at1K E n c (Proc.devRef .tc main_v149_1) : FVec Ideal S1x4x1x1 .f32)) (at1K E n c (Proc.devRef .tc main_v149_3) : FVec Ideal S1x4x128x128 .f32)) := by
  have hctr := at1K_ctr E c h0 n
  rw [at1K_succ]
  set V := after cond1 (at1K E n c) with hV
  have L := step1_line V
  have M := carry1_line (after step1 V)
  have k0 : ∀ {r : Ref sig .tc}, r ∉ stepW1 ++ [] → r ∉ condW1 → after step1 V (Proc.devRef .tc r) = at1K E n c (Proc.devRef .tc r) :=
    fun h h' => (L.keep h).trans (keep_of_map cond1_map _ h')
  have hix : after step1 V (Proc.devRef .tc main_while1b_v214) = fun _ => (64#32 - Scf.iv 0#32 1#32 n - 1#32 : BitVec 32) :=
    (L.binary 3 rfl (by decide +kernel) (by decide +kernel) (by decide +kernel)).trans (congrArg₂ subi
      ((L.binary 1 rfl (by decide +kernel) (by decide +kernel) (by decide +kernel)).trans (congrArg₂ subi
        (L.nullary 0 rfl (by decide +kernel)) ((k0 (r := main_v149_2) (by decide +kernel) (by decide +kernel)).trans hctr)))
      (L.nullary 2 rfl (by decide +kernel)))
  have i0 : after step1 V (Proc.devRef .tc main_while1b_call4_c) = fun _ => (0#32 : BitVec 32) := L.nullary 4 rfl (by decide +kernel)
  have i1 : after step1 V (Proc.devRef .tc main_while1b_call4_c_0) = fun _ => (0#32 : BitVec 32) := L.nullary 5 rfl (by decide +kernel)
  have i2 : after step1 V (Proc.devRef .tc main_while1b_call4_c_1) = fun _ => (0#32 : BitVec 32) := L.nullary 6 rfl (by decide +kernel)
  have i3 : after step1 V (Proc.devRef .tc main_while1b_call4_c_2) = fun _ => (0#32 : BitVec 32) := L.nullary 7 rfl (by decide +kernel)
  have h1 := M.unary 1 rfl (by decide +kernel) (by decide +kernel)
  have h1' := M.before 1 (r := main_while1b_v218) (by decide +kernel)
  have h2 := L.binary 12 rfl (by decide +kernel) (by decide +kernel) (by decide +kernel)
  have h3 := L.binary 11 rfl (by decide +kernel) (by decide +kernel) (by decide +kernel)
  have h4 := L.unary 10 rfl (by decide +kernel) (by decide +kernel)
  have h5 := L.reshape 9 rfl (by decide +kernel) (by decide +kernel)
  have h6 := L.unaryIndexed 8 rfl (by decide +kernel) (by decide +kernel) (by decide +kernel)
  have h6' := h6.trans (congrArg₂ (fun (x : FVec Ideal S64x1x4x128x128 .f32) (i : Fin 5 → IVec S_ 32) =>
      Host.dynamicSlice S1x1x4x128x128 x (fun k => (i k (Shape.Idx.first h_S_)).toInt) sliceFits_S64x1x4x128x128_S1x1x4x128x128)
    (k0 (r := main_v149_0) (by decide +kernel) (by decide +kernel))
    (y' := (![fun _ => 64#32 - Scf.iv 0#32 1#32 n - 1#32, fun _ => 0#32, fun _ => 0#32, fun _ => 0#32, fun _ => 0#32] : Fin 5 → IVec S_ 32))
    (funext fun k => by
      fin_cases k
      · exact hix
      · exact i0
      · exact i1
      · exact i2
      · exact i3))
  exact h1.trans (h1'.symm.trans (h2.trans (congrArg₂ addf (h5.trans (congrArg (fun x : FVec Ideal S1x1x4x128x128 .f32 => shapeCast S1x4x128x128 x shapeCasts_S1x1x4x128x128_S1x4x128x128) h6'))
    (h3.trans (congrArg₂ mulf
    (h4.trans (congrArg _ (k0 (by decide +kernel) (by decide +kernel)))) (k0 (by decide +kernel) (by decide +kernel)))))))

/-- A trip of loop 1: the state it found is stored. -/
theorem trip1_out (h0 : E c (Proc.devRef .tc main_v149_2) = fun _ => (0#32 : BitVec 32)) (n : ℕ) :
    (at1K E (n + 1) c (Proc.devRef .tc main_v149_4) : FVec Ideal S64x1x4x128x128 .f32) = Host.dynamicUpdateSlice (at1K E n c (Proc.devRef .tc main_v149_4) : FVec Ideal S64x1x4x128x128 .f32)
      (up (at1K E n c (Proc.devRef .tc main_v149_3) : FVec Ideal S1x4x128x128 .f32))
      (fun k => (((![fun _ => 64#32 - Scf.iv 0#32 1#32 n - 1#32, fun _ => 0#32, fun _ => 0#32, fun _ => 0#32, fun _ => 0#32] : Fin 5 → IVec S_ 32) k) (Shape.Idx.first h_S_)).toInt) updateFits_S64x1x4x128x128_S1x1x4x128x128 := by
  have hctr := at1K_ctr E c h0 n
  rw [at1K_succ]
  set V := after cond1 (at1K E n c) with hV
  have L := step1_line V
  have M := carry1_line (after step1 V)
  have k0 : ∀ {r : Ref sig .tc}, r ∉ stepW1 ++ [] → r ∉ condW1 → after step1 V (Proc.devRef .tc r) = at1K E n c (Proc.devRef .tc r) :=
    fun h h' => (L.keep h).trans (keep_of_map cond1_map _ h')
  have hix : after step1 V (Proc.devRef .tc main_while1b_v214) = fun _ => (64#32 - Scf.iv 0#32 1#32 n - 1#32 : BitVec 32) :=
    (L.binary 3 rfl (by decide +kernel) (by decide +kernel) (by decide +kernel)).trans (congrArg₂ subi
      ((L.binary 1 rfl (by decide +kernel) (by decide +kernel) (by decide +kernel)).trans (congrArg₂ subi
        (L.nullary 0 rfl (by decide +kernel)) ((k0 (r := main_v149_2) (by decide +kernel) (by decide +kernel)).trans hctr)))
      (L.nullary 2 rfl (by decide +kernel)))
  have i0 : after step1 V (Proc.devRef .tc main_while1b_call5_c) = fun _ => (0#32 : BitVec 32) := L.nullary 14 rfl (by decide +kernel)
  have i1 : after step1 V (Proc.devRef .tc main_while1b_call5_c_0) = fun _ => (0#32 : BitVec 32) := L.nullary 15 rfl (by decide +kernel)
  have i2 : after step1 V (Proc.devRef .tc main_while1b_call5_c_1) = fun _ => (0#32 : BitVec 32) := L.nullary 16 rfl (by decide +kernel)
  have i3 : after step1 V (Proc.devRef .tc main_while1b_call5_c_2) = fun _ => (0#32 : BitVec 32) := L.nullary 17 rfl (by decide +kernel)
  have h1 := M.unary 2 rfl (by decide +kernel) (by decide +kernel)
  have h1' := M.before 2 (r := main_while1b_v219) (by decide +kernel)
  have h4 := L.unary 13 rfl (by decide +kernel) (by decide +kernel)
  have h4' : after step1 V (Proc.devRef .tc main_while1b_call5_v0) = (up (at1K E n c (Proc.devRef .tc main_v149_3) : FVec Ideal S1x4x128x128 .f32)) :=
    h4.trans (congrArg up (k0 (r := main_v149_3) (by decide +kernel) (by decide +kernel)))
  have h6 := L.binaryIndexed 18 rfl (by decide +kernel) (by decide +kernel) (by decide +kernel) (by decide +kernel)
  have h6' := h6.trans (congrArg₂ (fun (x : (FVec Ideal S64x1x4x128x128 .f32) × (FVec Ideal S1x1x4x128x128 .f32)) (i : Fin 5 → IVec S_ 32) =>
      Host.dynamicUpdateSlice x.1 x.2 (fun k => (i k (Shape.Idx.first h_S_)).toInt) updateFits_S64x1x4x128x128_S1x1x4x128x128)
    (Prod.ext (k0 (r := main_v149_4) (by decide +kernel) (by decide +kernel)) h4' : ((_, _) : (FVec Ideal S64x1x4x128x128 .f32) × (FVec Ideal S1x1x4x128x128 .f32)) = (_, _))
    (y' := (![fun _ => 64#32 - Scf.iv 0#32 1#32 n - 1#32, fun _ => 0#32, fun _ => 0#32, fun _ => 0#32, fun _ => 0#32] : Fin 5 → IVec S_ 32))
    (funext fun k => by
      fin_cases k
      · exact hix
      · exact i0
      · exact i1
      · exact i2
      · exact i3))
  exact h1.trans (h1'.symm.trans h6')

theorem start0 (n : ℕ) (hn : n < 64) : (Scf.iv 0#32 1#32 n).toInt = (n : Int) := by
  have h := WordArith.toNat_iv_zero_one n (by omega)
  rw [BitVec.toInt_eq_toNat_of_lt (by omega), h]

theorem start1 (n : ℕ) (hn : n < 64) : (64#32 - Scf.iv 0#32 1#32 n - 1#32).toInt = ((63 - n : ℕ) : Int) := by
  have h := WordArith.toNat_iv_zero_one n (by omega)
  have h2 : (64#32 - Scf.iv 0#32 1#32 n - 1#32).toNat = 63 - n := by
    rw [BitVec.toNat_sub, BitVec.toNat_sub, h]
    simp only [BitVec.toNat_ofNat]
    omega
  rw [BitVec.toInt_eq_toNat_of_lt (by omega), h2]

/-- What loop 0 has after `n` trips, from what it finds: real states `B` that fade by `γ` and take `S`. -/
theorem loop0_real (h0 : E c (Proc.devRef .tc main_v116_2) = fun _ => (0#32 : BitVec 32)) (γ : Fin 4 → ℝ)
    (S B : ℕ → Fin 4 → Fin 128 → Fin 128 → ℝ)
    (hγ : ∀ z h y x, (E c (Proc.devRef .tc main_v116_1) : FVec Ideal S1x4x1x1 .f32) (ix4 z h y x) = ((γ h : ℝ) : EReal))
    (hS : ∀ (n : Fin 64) z h a b, (E c (Proc.devRef .tc main_v116_0) : FVec Ideal S64x1x4x128x128 .f32) (ix5 n z h a b) = ((S n h a b : ℝ) : EReal))
    (hB0 : ∀ z h a b, (E c (Proc.devRef .tc main_v116_3) : FVec Ideal S1x4x128x128 .f32) (ix4 z h a b) = ((B 0 h a b : ℝ) : EReal))
    (hB : ∀ n < 64, ∀ h a b, B (n + 1) h a b = γ h * B n h a b + S n h a b) :
    ∀ n ≤ 64, (∀ z h a b, (at0K E n c (Proc.devRef .tc main_v116_3) : FVec Ideal S1x4x128x128 .f32) (ix4 z h a b) = ((B n h a b : ℝ) : EReal))
      ∧ ∀ (j : Fin 64) z h a b, (j : ℕ) < n → (at0K E n c (Proc.devRef .tc main_v116_4) : FVec Ideal S64x1x4x128x128 .f32) (ix5 j z h a b) = ((B j h a b : ℝ) : EReal)
  | 0, _ => ⟨hB0, fun j _ _ _ _ hj => absurd hj (by omega)⟩
  | n + 1, hn => by
    obtain ⟨ih1, ih2⟩ := loop0_real h0 γ S B hγ hS hB0 hB n (by omega)
    have hn : n < 64 := by omega
    have hst : ∀ a : Fin 5, (((![fun _ => Scf.iv 0#32 1#32 n, fun _ => 0#32, fun _ => 0#32, fun _ => 0#32, fun _ => 0#32] : Fin 5 → IVec S_ 32) a) (Shape.Idx.first h_S_)).toInt
        = ((![(((⟨n, hn⟩ : Fin 64) : ℕ)), 0, 0, 0, 0] : Fin 5 → ℕ) a : Int) := by
      intro a
      fin_cases a
      · exact start0 n hn
      all_goals rfl
    have k1 : (at0K E n c (Proc.devRef .tc main_v116_1) : FVec Ideal S1x4x1x1 .f32) = (E c (Proc.devRef .tc main_v116_1) : FVec Ideal S1x4x1x1 .f32) := at0K_keep E c (by decide +kernel) n
    have k0 : (at0K E n c (Proc.devRef .tc main_v116_0) : FVec Ideal S64x1x4x128x128 .f32) = (E c (Proc.devRef .tc main_v116_0) : FVec Ideal S64x1x4x128x128 .f32) := at0K_keep E c (by decide +kernel) n
    constructor
    · intro z h a b
      rw [trip0_state E c h0 n]
      refine (congrArg₂ (fun p q : EReal => p + q) (rfl : _ = _) (take_apply _ _ ⟨n, hn⟩ hst z h a b)).trans ?_
      pointwise
      rw [k0, k1, hS, hγ, ih1, hB n hn]
      rw [EReal.coe_add, EReal.coe_mul]
    · intro j z h a b hj
      rw [trip0_out E c h0 n]
      refine (put_apply _ _ _ ⟨n, hn⟩ hst j z h a b).trans ?_
      by_cases hjn : j = ⟨n, hn⟩
      · subst hjn
        rw [if_pos rfl]
        unfold up
        pointwise
        rw [ih1]
      · rw [if_neg hjn]
        exact ih2 j z h a b (by have : (j : ℕ) ≠ n := fun e => hjn (Fin.ext e); omega)

/-- What loop 1 has after `n` trips, from what it finds: real states `B` that fade by `γ` and take `S`. -/
theorem loop1_real (h0 : E c (Proc.devRef .tc main_v149_2) = fun _ => (0#32 : BitVec 32)) (γ : Fin 4 → ℝ)
    (S B : ℕ → Fin 4 → Fin 128 → Fin 128 → ℝ)
    (hγ : ∀ z h y x, (E c (Proc.devRef .tc main_v149_1) : FVec Ideal S1x4x1x1 .f32) (ix4 z h y x) = ((γ h : ℝ) : EReal))
    (hS : ∀ (n : Fin 64) z h a b, (E c (Proc.devRef .tc main_v149_0) : FVec Ideal S64x1x4x128x128 .f32) (ix5 n z h a b) = ((S n h a b : ℝ) : EReal))
    (hB0 : ∀ z h a b, (E c (Proc.devRef .tc main_v149_3) : FVec Ideal S1x4x128x128 .f32) (ix4 z h a b) = ((B 0 h a b : ℝ) : EReal))
    (hB : ∀ n < 64, ∀ h a b, B (n + 1) h a b = γ h * B n h a b + S (63 - n) h a b) :
    ∀ n ≤ 64, (∀ z h a b, (at1K E n c (Proc.devRef .tc main_v149_3) : FVec Ideal S1x4x128x128 .f32) (ix4 z h a b) = ((B n h a b : ℝ) : EReal))
      ∧ ∀ (j : Fin 64) z h a b, 63 < (j : ℕ) + n → (at1K E n c (Proc.devRef .tc main_v149_4) : FVec Ideal S64x1x4x128x128 .f32) (ix5 j z h a b) = ((B (63 - j) h a b : ℝ) : EReal)
  | 0, _ => ⟨hB0, fun j _ _ _ _ hj => absurd hj (by omega)⟩
  | n + 1, hn => by
    obtain ⟨ih1, ih2⟩ := loop1_real h0 γ S B hγ hS hB0 hB n (by omega)
    have hn : n < 64 := by omega
    have hst : ∀ a : Fin 5, (((![fun _ => 64#32 - Scf.iv 0#32 1#32 n - 1#32, fun _ => 0#32, fun _ => 0#32, fun _ => 0#32, fun _ => 0#32] : Fin 5 → IVec S_ 32) a) (Shape.Idx.first h_S_)).toInt
        = ((![(((⟨63 - n, by omega⟩ : Fin 64) : ℕ)), 0, 0, 0, 0] : Fin 5 → ℕ) a : Int) := by
      intro a
      fin_cases a
      · exact start1 n hn
      all_goals rfl
    have k1 : (at1K E n c (Proc.devRef .tc main_v149_1) : FVec Ideal S1x4x1x1 .f32) = (E c (Proc.devRef .tc main_v149_1) : FVec Ideal S1x4x1x1 .f32) := at1K_keep E c (by decide +kernel) n
    have k0 : (at1K E n c (Proc.devRef .tc main_v149_0) : FVec Ideal S64x1x4x128x128 .f32) = (E c (Proc.devRef .tc main_v149_0) : FVec Ideal S64x1x4x128x128 .f32) := at1K_keep E c (by decide +kernel) n
    constructor
    · intro z h a b
      rw [trip1_state E c h0 n]
      refine (congrArg₂ (fun p q : EReal => p + q) (take_apply _ _ ⟨63 - n, by omega⟩ hst z h a b) (rfl : _ = _)).trans ?_
      pointwise
      rw [k0, k1, hS, hγ, ih1, hB n hn]
      rw [EReal.coe_add, EReal.coe_mul]; exact add_comm _ _
    · intro j z h a b hj
      rw [trip1_out E c h0 n]
      refine (put_apply _ _ _ ⟨63 - n, by omega⟩ hst j z h a b).trans ?_
      by_cases hjn : j = ⟨63 - n, by omega⟩
      · rw [if_pos hjn, hjn]
        unfold up
        pointwise
        rw [ih1, show 63 - (63 - n) = n by omega]
      · rw [if_neg hjn]
        exact ih2 j z h a b (by have : (j : ℕ) ≠ 63 - n := fun e => hjn (Fin.ext e); omega)

end Cert.ReferenceIdeal.Ops

end
-- ==== Proof.RefVal.lean ====
/- What the reference's values are as real numbers, up to its three results. -/
module

public import proofs.«01_k».proof.Proof.RefEqs
public import proofs.«01_k».proof.Proof.RefLoop
public import proofs.«01_k».proof.Proof.Spec

@[expose] public section

set_option maxRecDepth 16384

noncomputable section

namespace Cert.ReferenceIdeal.Ops

open Idealize.ShloMosaic Idealize.ShloMosaic.TcCoe Idealize.ShloMosaic.StableHlo
open Cert.ReferenceIdeal Cert.ReferenceIdeal.Gen Ret

variable (m : (ℓ : Loc nD τ sig) → Buf (Elt Ideal) ℓ) (c : Dev nD)

theorem r12 : (R m c main_v12 : FVec Ideal S8192x64 .f32) = angV := by
  rw [e_v12, e_v11, e_v10, e_v9, e_v8, e_v7, e_v6, e_v5, e_cst_0, e_v4, e_v3, e_cst, e_v2, e_v1]; rfl
theorem r42 : (R m c main_v42 : FVec Ideal S8192x64 .f32) = angV := by
  rw [e_v42, e_v41, e_v40, e_v39, e_v38, e_v37, e_v36, e_v35, e_cst_2, e_v34, e_v33, e_cst_1, e_v32, e_v31]; rfl
theorem r67 : (R m c main_v67 : FVec Ideal S4 .f32) = lgV := by
  rw [e_v67, e_v66, e_v65, e_cst_6, e_v64, e_v63, e_call0_v16, e_call0_v15, e_call0_v14, e_call0_v13, e_call0_v12, e_call0_v11, e_call0_v10, e_call0_v9,
    e_call0_v8, e_call0_cst_1, e_call0_v7, e_call0_v6, e_call0_v5, e_call0_cst_0, e_call0_v4, e_call0_v1, e_call0_v0, e_cst_5, e_cst_4]; rfl
theorem r29 : (R m c main_v29 : FVec Ideal S1x8192x4x128 .f32) = ropeV (R m c main_arg0 : Arr) := by
  rw [e_v29, e_v28, e_v27, e_v26, e_v25, e_v24, e_v23, e_v22, e_v21, e_v20, e_v19, e_v18, e_v17, e_v16, e_v15, e_v14, e_v13, r12, e_v0]; rfl
theorem r59 : (R m c main_v59 : FVec Ideal S1x8192x4x128 .f32) = ropeV (R m c main_arg1 : Arr) := by
  rw [e_v59, e_v58, e_v57, e_v56, e_v55, e_v54, e_v53, e_v52, e_v51, e_v50, e_v49, e_v48, e_v47, e_v46, e_v45, e_v44, e_v43, r42, e_v30]; rfl

/-- The four arguments: queries, keys, values, and what comes back. -/
abbrev A0 : Arr := R m c main_arg0
abbrev A1 : Arr := R m c main_arg1
abbrev A2 : Arr := R m c main_arg2
abbrev A3 : Arr := R m c main_arg3

variable (h0 : AllReal (A0 m c)) (h1 : AllReal (A1 m c)) (h2 : AllReal (A2 m c)) (h3 : AllReal (A3 m c))

abbrev q (h : Fin 4) : Head := roped (A0 m c) h
abbrev k (h : Fin 4) : Head := keys (A1 m c) h
abbrev v (h : Fin 4) : Head := ent (A2 m c) h
abbrev o (h : Fin 4) : Head := ent (A3 m c) h

include h1 in
theorem r61 (z : Fin 1) (t : Fin 8192) (h : Fin 4) (d : Fin 128) : (R m c main_v61 : FVec Ideal S1x8192x4x128 .f32) (ix4 z t h d) = ((k m c h t d : ℝ) : EReal) := by
  rw [e_v61, e_v60, e_cst_3, r59]
  pointwise
  rw [ropeV_apply h1, lit_scale, ← EReal.coe_mul]; rfl
include h0 in
theorem r68 (z : Fin 1) (n : Fin 64) (i : Fin 128) (h : Fin 4) (d : Fin 128) : (R m c main_v68 : FVec Ideal S1x64x128x4x128 .f32) (ix5 z n i h d) = ((q m c h (n * 128 + i) d : ℝ) : EReal) := by
  rw [e_v68, r29]
  pointwise
  rw [ropeV_apply h0]
include h1 in
theorem r69 (z : Fin 1) (n : Fin 64) (i : Fin 128) (h : Fin 4) (d : Fin 128) : (R m c main_v69 : FVec Ideal S1x64x128x4x128 .f32) (ix5 z n i h d) = ((k m c h (n * 128 + i) d : ℝ) : EReal) := by
  rw [e_v69]
  pointwise
  rw [r61 m c h1]
include h2 in
theorem r70 (z : Fin 1) (n : Fin 64) (i : Fin 128) (h : Fin 4) (d : Fin 128) : (R m c main_v70 : FVec Ideal S1x64x128x4x128 .f32) (ix5 z n i h d) = ((v m c h (n * 128 + i) d : ℝ) : EReal) := by
  rw [e_v70, e_v62]
  pointwise
  exact ent_eq h2 h ⟨n * 128 + i, by omega⟩ d (by omega)
include h3 in
theorem r138 (z : Fin 1) (n : Fin 64) (i : Fin 128) (h : Fin 4) (d : Fin 128) : (R m c main_v138 : FVec Ideal S1x64x128x4x128 .f32) (ix5 z n i h d) = ((o m c h (n * 128 + i) d : ℝ) : EReal) := by
  rw [e_v138, e_v137]
  pointwise
  exact ent_eq h3 h ⟨n * 128 + i, by omega⟩ d (by omega)
theorem r88 (h : Fin 4) (i j : Fin 128) : (R m c main_v88 : FVec Ideal S4x128x128 .f32) (ix3 h i j) = ((mask (lg h) i j : ℝ) : EReal) := by
  rw [e_v88, e_call1_v1, e_call1_v2, e_call1_v0, e_cst_9, e_v87, e_v86, e_v85, e_v84, e_v83, e_v82, e_v81, e_v80, e_cst_8, e_v79, e_v78, e_cst_7, e_v77, e_v76, e_v75, e_v74, e_v73, e_v72, e_v71, r67]
  pointwise
  rw [lg_eq, count_real _ (by have := i.2; omega), count_real _ (by have := j.2; omega)]
  unfold mask
  have hij : (((i : ℕ) : ℝ) : EReal) - (((j : ℕ) : ℝ) : EReal) = ((((i : ℕ) : ℝ) - ((j : ℕ) : ℝ) : ℝ) : EReal) := (EReal.coe_sub _ _).symm
  rw [hij]
  by_cases hle : (j : ℕ) ≤ i
  · have hp : (0 : ℝ) ≤ ((i : ℕ) : ℝ) - ((j : ℕ) : ℝ) := sub_nonneg.mpr (by exact_mod_cast hle)
    have hp' : (0 : EReal) ≤ ((((i : ℕ) : ℝ) - ((j : ℕ) : ℝ) : ℝ) : EReal) := by exact_mod_cast hp
    rw [if_pos hp', if_pos hle, max_eq_left hp', ← EReal.coe_mul, exp_real]
  · have hp : ¬ (0 : ℝ) ≤ ((i : ℕ) : ℝ) - ((j : ℕ) : ℝ) := fun h => hle (by exact_mod_cast sub_nonneg.mp h)
    rw [if_neg (fun h => hp (by exact_mod_cast h)), if_neg hle]
    show Ideal.ofBits FTy.f32 0#32 = _
    simp [Ideal.ofBits, Ideal.ieee]
theorem r102 (h : Fin 4) (j : Fin 128) : (R m c main_v102 : FVec Ideal S4x128 .f32) (ix2 h j) = ((Real.exp (((128 : ℕ) - 1 - (j : ℕ)) * lg h) : ℝ) : EReal) := by
  rw [e_v102, e_v101, e_v100, e_v99, e_v98, e_v97, e_v96, e_v95, e_cst_10, e_v71, r67]
  pointwise
  rw [lg_eq, count_real _ (by have := j.2; omega), lit_127, ← EReal.coe_sub, ← EReal.coe_mul, exp_real]
  norm_num
theorem r112 (z : Fin 1) (h : Fin 4) (y x : Fin 1) : (R m c main_v112 : FVec Ideal S1x4x1x1 .f32) (ix4 z h y x) = ((Real.exp ((128 : ℕ) * lg h) : ℝ) : EReal) := by
  rw [e_v112, e_v111, e_v110, e_v109, e_cst_11, r67]
  pointwise
  rw [lg_eq, lit_128, ← EReal.coe_mul, exp_real]
  norm_num
theorem r125 (h : Fin 4) (i : Fin 128) : (R m c main_v125 : FVec Ideal S4x128 .f32) (ix2 h i) = ((Real.exp (((i : ℕ) + 1) * lg h) : ℝ) : EReal) := by
  rw [e_v125, e_v124, e_v123, e_v122, e_v121, e_v120, e_v119, e_v118, e_cst_14, e_v71, r67]
  pointwise
  rw [lg_eq, count_real _ (by have := i.2; omega), ← EReal.coe_one, ← EReal.coe_add, ← EReal.coe_mul, exp_real]
include h2 in
theorem r107 (z : Fin 1) (n : Fin 64) (i : Fin 128) (h : Fin 4) (d : Fin 128) : (R m c main_v107 : FVec Ideal S1x64x128x4x128 .f32) (ix5 z n i h d) = ((v m c h (n * 128 + i) d * Real.exp (((128 : ℕ) - 1 - (i : ℕ)) * lg h) : ℝ) : EReal) := by
  rw [e_v107, e_v106, e_v105, e_v104, e_v103]
  pointwise
  rw [r70 m c h2, r102, ← EReal.coe_mul]
include h3 in
theorem r140 (z : Fin 1) (n : Fin 64) (i : Fin 128) (h : Fin 4) (d : Fin 128) : (R m c main_v140 : FVec Ideal S1x64x128x4x128 .f32) (ix5 z n i h d) = ((o m c h (n * 128 + i) d * Real.exp (((i : ℕ) + 1) * lg h) : ℝ) : EReal) := by
  rw [e_v140, e_v139, e_v130, e_v129, e_v128]
  pointwise
  rw [r138 m c h3, r125, ← EReal.coe_mul]
include h0 in
include h1 in
theorem r92 (z : Fin 1) (n : Fin 64) (h : Fin 4) (i j : Fin 128) : (R m c main_v92 : FVec Ideal S1x64x4x128x128 .f32) (ix5 z n h i j) = (((∑ d, q m c h (n * 128 + i) d * k m c h (n * 128 + j) d) * mask (lg h) i j : ℝ) : EReal) := by
  have key : ∀ (x y : FVec Ideal S1x64x128x4x128 .f32) (w : FVec Ideal S4x128x128 .f32),
      mulf (F := Ideal) (s := S1x64x4x128x128) (φ := .f32) (Host.dotGeneral (F := Ideal) (φ₁ := .f32) (φ₂ := .f32) dot_S1x64x128x4x128_S1x64x128x4x128_S1x64x4x128x128_4_4_2_2_013_013 none x y)
        (broadcastInDim S1x64x4x128x128 ![0, 1, 2, 3, 4] bcast_S1x1x4x128x128_S1x64x4x128x128_0_1_2_3_4 (broadcastInDim S1x1x4x128x128 ![2, 3, 4] bcast_S4x128x128_S1x1x4x128x128_2_3_4 w)) (ix5 z n h i j)
        = (∑ d : Fin 128, x (ix5 z n i h d) * y (ix5 z n j h d)) * w (ix3 h i j) := by
    intro x y w
    pointwise
  rw [e_v92, e_v91, e_v90, e_v89]
  refine (key _ _ _).trans ?_
  simp only [r68 m c h0, r69 m c h1, ← EReal.coe_mul, sum_real]
  rw [r88, ← EReal.coe_mul]
include h2 in
include h3 in
theorem r163 (z : Fin 1) (n : Fin 64) (h : Fin 4) (i j : Fin 128) : (R m c main_v163 : FVec Ideal S1x64x4x128x128 .f32) (ix5 z n h i j) = (((∑ e, o m c h (n * 128 + i) e * v m c h (n * 128 + j) e) * mask (lg h) i j : ℝ) : EReal) := by
  rw [e_v163, e_v162, e_v90, e_v158, e_v157]
  pointwise
  simp only [r138 m c h3, r70 m c h2, ← EReal.coe_mul, sum_real]
  rw [r88, ← EReal.coe_mul]
include h1 in
include h2 in
theorem r114 (n : Fin 64) (z : Fin 1) (h : Fin 4) (a b : Fin 128) : (R m c main_v114 : FVec Ideal S64x1x4x128x128 .f32) (ix5 n z h a b) = ((∑ j : Fin 128, k m c h (n * 128 + j) a * (v m c h (n * 128 + j) b * Real.exp (((128 : ℕ) - 1 - (j : ℕ)) * lg h)) : ℝ) : EReal) := by
  rw [e_v114, e_v108]
  pointwise
  simp only [r69 m c h1, r107 m c h2, ← EReal.coe_mul, sum_real]
include h0 in
include h3 in
theorem r146 (n : Fin 64) (z : Fin 1) (h : Fin 4) (a b : Fin 128) : (R m c main_v146 : FVec Ideal S64x1x4x128x128 .f32) (ix5 n z h a b) = ((∑ i : Fin 128, q m c h (n * 128 + i) a * (o m c h (n * 128 + i) b * Real.exp (((i : ℕ) + 1) * lg h)) : ℝ) : EReal) := by
  rw [e_v146, e_v145, e_v144, e_v141]
  pointwise
  simp only [r68 m c h0, r140 m c h3, ← EReal.coe_mul, sum_real]
  exact congrArg _ (Finset.sum_congr rfl fun i _ => mul_comm _ _)
include h1 in
include h2 in
theorem r116_4 (n : Fin 64) (z : Fin 1) (h : Fin 4) (a b : Fin 128) : (R m c main_v116_4 : FVec Ideal S64x1x4x128x128 .f32) (ix5 n z h a b) = ((state (lg h) (k m c h) (v m c h) (n * 128) a b : ℝ) : EReal) := by
  have hk : (R m c main_v116_4 : FVec Ideal S64x1x4x128x128 .f32) = at0K (E0 m) 64 c (Proc.devRef .tc main_v116_4) :=
    ((mid_line m c).keep (by decide +kernel)).trans (X0_eq m c (by decide +kernel))
  have p0 : (E0 m c (Proc.devRef .tc main_v116_0) : FVec Ideal S64x1x4x128x128 .f32) = R m c main_v116_0 :=
    ((pre_line0 m c).reads main_v116_0 (by decide +kernel)).trans ((pre_line m c).reads main_v116_0 (by decide +kernel)).symm
  have p1 : (E0 m c (Proc.devRef .tc main_v116_1) : FVec Ideal S1x4x1x1 .f32) = R m c main_v116_1 :=
    ((pre_line0 m c).reads main_v116_1 (by decide +kernel)).trans ((pre_line m c).reads main_v116_1 (by decide +kernel)).symm
  have p3 : (E0 m c (Proc.devRef .tc main_v116_3) : FVec Ideal S1x4x128x128 .f32) = R m c main_v113 :=
    (((pre_line0 m c).unary 158 rfl (by decide +kernel) (by decide +kernel) : _ = (id : FVec Ideal S1x4x128x128 .f32 → _) (E0 m c (Proc.devRef .tc main_v113)))).trans
      (((pre_line0 m c).reads main_v113 (by decide +kernel)).trans ((pre_line m c).reads main_v113 (by decide +kernel)).symm)
  rw [hk]
  have := (loop0_real (E0 m) c (E0_ctr m c) (fun h => Real.exp ((128 : ℕ) * lg h))
    (fun n h a b => ∑ j : Fin 128, k m c h (n * 128 + j) a * (v m c h (n * 128 + j) b * Real.exp (((128 : ℕ) - 1 - (j : ℕ)) * lg h)))
    (fun n h a b => state (lg h) (k m c h) (v m c h) (n * 128) a b)
    (fun z h y x => (congrFun (p1.trans ((e_v116_1 m c).trans (id_eq _))) _).trans (r112 m c z h y x))
    (fun n z h a b => (congrFun (p0.trans ((e_v116_0 m c).trans (id_eq _))) _).trans (r114 m c h1 h2 n z h a b))
    (fun z h a b => by rw [p3, e_v113, e_cst_12]; pointwise; rw [state_zero]; rfl)
    (fun n hn h a b => state_succ (r := 8192 - (n + 1) * 128) _ _ _ (by omega) a b) 64 le_rfl).2 n z h a b n.2
  exact this
include h0 in
include h3 in
theorem r149_4 (n : Fin 64) (z : Fin 1) (h : Fin 4) (a b : Fin 128) : (R m c main_v149_4 : FVec Ideal S64x1x4x128x128 .f32) (ix5 n z h a b) = ((back (lg h) (q m c h) (o m c h) ((n + 1) * 128) a b : ℝ) : EReal) := by
  have hk : (R m c main_v149_4 : FVec Ideal S64x1x4x128x128 .f32) = at1K (E1 m) 64 c (Proc.devRef .tc main_v149_4) :=
    ((post_line m c).keep (by decide +kernel)).trans (X1_eq m c (by decide +kernel))
  have p0 : (E1 m c (Proc.devRef .tc main_v149_0) : FVec Ideal S64x1x4x128x128 .f32) = R m c main_v149_0 :=
    ((mid_line0 m c).reads main_v149_0 (by decide +kernel)).trans ((mid_line m c).reads main_v149_0 (by decide +kernel)).symm
  have p1 : (E1 m c (Proc.devRef .tc main_v149_1) : FVec Ideal S1x4x1x1 .f32) = R m c main_v149_1 :=
    ((mid_line0 m c).reads main_v149_1 (by decide +kernel)).trans ((mid_line m c).reads main_v149_1 (by decide +kernel)).symm
  have p3 : (E1 m c (Proc.devRef .tc main_v149_3) : FVec Ideal S1x4x128x128 .f32) = R m c main_v147 :=
    (((mid_line0 m c).unary 40 rfl (by decide +kernel) (by decide +kernel) : _ = (id : FVec Ideal S1x4x128x128 .f32 → _) (E1 m c (Proc.devRef .tc main_v147)))).trans
      (((mid_line0 m c).reads main_v147 (by decide +kernel)).trans ((mid_line m c).reads main_v147 (by decide +kernel)).symm)
  rw [hk]
  have := (loop1_real (E1 m) c (E1_ctr m c) (fun h => Real.exp ((128 : ℕ) * lg h))
    (fun n h a b => ∑ i : Fin 128, q m c h (n * 128 + i) a * (o m c h (n * 128 + i) b * Real.exp (((i : ℕ) + 1) * lg h)))
    (fun n h a b => back (lg h) (q m c h) (o m c h) ((64 - n) * 128) a b)
    (fun z h y x => (congrFun (p1.trans ((e_v149_1 m c).trans (id_eq _))) _).trans (r112 m c z h y x))
    (fun n z h a b => (congrFun (p0.trans ((e_v149_0 m c).trans (id_eq _))) _).trans (r146 m c h0 h3 n z h a b))
    (fun z h a b => by rw [p3, e_v147, e_cst_16]; pointwise; rw [back_end]; rfl)
    (fun n hn h a b => by
      have := back_step (n := 63 - n) (C := 128) (r := n * 128) (lg h) (q m c h) (o m c h) (by omega) a b
      rw [show 64 - (n + 1) = 63 - n by omega, show 64 - n = 63 - n + 1 by omega]
      exact this) 64 le_rfl).2 n z h a b (by omega)
  rw [show 64 - (63 - (n : ℕ)) = n + 1 by omega] at this
  exact this
include h1 in
include h2 in
theorem r117 (z : Fin 1) (n : Fin 64) (h : Fin 4) (i j : Fin 128) : (R m c main_v117 : FVec Ideal S1x64x4x128x128 .f32) (ix5 z n h i j) = ((state (lg h) (k m c h) (v m c h) (n * 128) i j : ℝ) : EReal) := by
  rw [e_v117]
  pointwise
  rw [r116_4 m c h1 h2]
include h0 in
include h3 in
theorem r150 (z : Fin 1) (n : Fin 64) (h : Fin 4) (i j : Fin 128) : (R m c main_v150 : FVec Ideal S1x64x4x128x128 .f32) (ix5 z n h i j) = ((back (lg h) (q m c h) (o m c h) ((n + 1) * 128) i j : ℝ) : EReal) := by
  rw [e_v150]
  pointwise
  rw [r149_4 m c h0 h3]
include h0 in
include h1 in
include h2 in
include h3 in
theorem r169 (z : Fin 1) (n : Fin 64) (i : Fin 128) (h : Fin 4) (d : Fin 128) : (R m c main_v169 : FVec Ideal S1x64x128x4x128 .f32) (ix5 z n i h d) = ((dq (lg h) (k m c h) (v m c h) (o m c h) (n * 128 + i) d : ℝ) : EReal) := by
  rw [e_v169, e_v168, e_v167, e_v143, e_v142, e_v141]
  pointwise
  simp only [r163 m c h2 h3, r69 m c h1, r140 m c h3, r117 m c h1 h2, ← EReal.coe_mul, sum_real, ← EReal.coe_add]
  rw [dq_chunk (C := 128) (r := 8192 - (n + 1) * 128) _ _ _ _ (by omega) i d, add_comm]
include h0 in
include h1 in
include h2 in
include h3 in
theorem r166 (z : Fin 1) (n : Fin 64) (i : Fin 128) (h : Fin 4) (d : Fin 128) : (R m c main_v166 : FVec Ideal S1x64x128x4x128 .f32) (ix5 z n i h d) = ((dk (lg h) (q m c h) (v m c h) (o m c h) (n * 128 + i) d : ℝ) : EReal) := by
  rw [e_v166, e_v165, e_v164, e_v154, e_v153]
  pointwise
  simp only [r163 m c h2 h3, r68 m c h0, r107 m c h2, r150 m c h0 h3, ← EReal.coe_mul, sum_real, ← EReal.coe_add]
  rw [dk_chunk (C := 128) (r := 8192 - (n + 1) * 128) _ _ _ _ (by omega) i d, add_comm]
  exact congrArg _ (congrArg₂ _ rfl (Finset.sum_congr rfl fun _ _ => mul_comm _ _))
theorem r155 (z : Fin 1) (n : Fin 64) (i : Fin 128) (h : Fin 4) (d : Fin 128) : (R m c main_v155 : FVec Ideal S1x64x128x4x128 .f32) (ix5 z n i h d) = ((Real.exp (((128 : ℕ) - 1 - (i : ℕ)) * lg h) : ℝ) : EReal) := by
  rw [e_v155, e_v105, e_v104, e_v103]
  pointwise
  rw [r102]
include h0 in
include h1 in
include h3 in
theorem r152 (z : Fin 1) (n : Fin 64) (i : Fin 128) (h : Fin 4) (d : Fin 128) : (R m c main_v152 : FVec Ideal S1x64x128x4x128 .f32) (ix5 z n i h d) = ((∑ a, back (lg h) (q m c h) (o m c h) ((n + 1) * 128) a d * k m c h (n * 128 + i) a : ℝ) : EReal) := by
  rw [e_v152, e_v151]
  pointwise
  simp only [r69 m c h1, r150 m c h0 h3, ← EReal.coe_mul, sum_real]
include h0 in
include h1 in
include h3 in
theorem r160 (z : Fin 1) (n : Fin 64) (i : Fin 128) (h : Fin 4) (d : Fin 128) : (R m c main_v160 : FVec Ideal S1x64x128x4x128 .f32) (ix5 z n i h d) = ((∑ j : Fin 128, o m c h (n * 128 + j) d * ((∑ a, q m c h (n * 128 + j) a * k m c h (n * 128 + i) a) * mask (lg h) j i) : ℝ) : EReal) := by
  rw [e_v160, e_v159, e_v157]
  pointwise
  simp only [r138 m c h3, r92 m c h0 h1, ← EReal.coe_mul, sum_real]
include h0 in
include h1 in
include h2 in
include h3 in
theorem r161 (z : Fin 1) (n : Fin 64) (i : Fin 128) (h : Fin 4) (d : Fin 128) : (R m c main_v161 : FVec Ideal S1x64x128x4x128 .f32) (ix5 z n i h d) = ((dv (lg h) (q m c h) (k m c h) (o m c h) (n * 128 + i) d : ℝ) : EReal) := by
  have key : ∀ x y w : FVec Ideal S1x64x128x4x128 .f32, addf (F := Ideal) (s := S1x64x128x4x128) (φ := .f32) (mulf (F := Ideal) (s := S1x64x128x4x128) (φ := .f32) x y) w (ix5 z n i h d)
      = x (ix5 z n i h d) * y (ix5 z n i h d) + w (ix5 z n i h d) := fun _ _ _ => rfl
  rw [e_v161, e_v156]
  refine (key _ _ _).trans ?_
  rw [r155, r152 m c h0 h1 h3, r160 m c h0 h1 h3, ← EReal.coe_mul, ← EReal.coe_add]
  rw [dv_chunk (C := 128) (r := 8192 - (n + 1) * 128) _ _ _ _ (by omega) i d, add_comm]
  refine congrArg _ (congrArg₂ _ (Finset.sum_congr rfl fun _ _ => mul_comm _ _) (congrArg₂ _ (Finset.sum_congr rfl fun _ _ => mul_comm _ _) rfl))
include h0 in
include h1 in
include h2 in
include h3 in
theorem r172 (z : Fin 1) (t : Fin 8192) (h : Fin 4) (d : Fin 128) : (R m c main_v172 : FVec Ideal S1x8192x4x128 .f32) (ix4 z t h d) = ((dq (lg h) (k m c h) (v m c h) (o m c h) t d : ℝ) : EReal) := by
  rw [e_v172]
  pointwise
  rw [r169 m c h0 h1 h2 h3]
  have e : (t : ℕ) / 128 * 128 + (t : ℕ) % 128 = t := Nat.div_add_mod' _ _
  simp only [e]
include h0 in
include h1 in
include h2 in
include h3 in
theorem r171 (z : Fin 1) (t : Fin 8192) (h : Fin 4) (d : Fin 128) : (R m c main_v171 : FVec Ideal S1x8192x4x128 .f32) (ix4 z t h d) = ((dk (lg h) (q m c h) (v m c h) (o m c h) t d : ℝ) : EReal) := by
  rw [e_v171]
  pointwise
  rw [r166 m c h0 h1 h2 h3]
  have e : (t : ℕ) / 128 * 128 + (t : ℕ) % 128 = t := Nat.div_add_mod' _ _
  simp only [e]
include h0 in
include h1 in
include h2 in
include h3 in
theorem r170 (z : Fin 1) (t : Fin 8192) (h : Fin 4) (d : Fin 128) : (R m c main_v170 : FVec Ideal S1x8192x4x128 .f32) (ix4 z t h d) = ((dv (lg h) (q m c h) (k m c h) (o m c h) t d : ℝ) : EReal) := by
  rw [e_v170]
  pointwise
  rw [r161 m c h0 h1 h2 h3]
  have e : (t : ℕ) / 128 * 128 + (t : ℕ) % 128 = t := Nat.div_add_mod' _ _
  simp only [e]
/-- The turn taken back, as the reference does it: the halves times the angles, each put back beside zeros. -/
def unropeV (x : FVec Ideal S1x8192x4x128 .f32) : FVec Ideal S1x8192x4x128 .f32 :=
  let c : FVec Ideal S1x8192x4x64 .f32 := broadcastInDim S1x8192x4x64 ![0, 1, 2, 3] bcast_S1x8192x1x64_S1x8192x4x64_0_1_2_3
    (broadcastInDim S1x8192x1x64 ![1, 3] bcast_S8192x64_S1x8192x1x64_1_3 (Host.cos (F := Ideal) (s := S8192x64) (φ := .f32) angV))
  let s : FVec Ideal S1x8192x4x64 .f32 := broadcastInDim S1x8192x4x64 ![0, 1, 2, 3] bcast_S1x8192x1x64_S1x8192x4x64_0_1_2_3
    (broadcastInDim S1x8192x1x64 ![1, 3] bcast_S8192x64_S1x8192x1x64_1_3 (Host.sin (F := Ideal) (s := S8192x64) (φ := .f32) angV))
  let a : FVec Ideal S1x8192x4x64 .f32 := extractStridedSlice S1x8192x4x64 ![0, 0, 0, 0] x slices_S1x8192x4x128_S1x8192x4x64_0_0_0_0
  let b : FVec Ideal S1x8192x4x64 .f32 := extractStridedSlice S1x8192x4x64 ![0, 0, 0, 64] x slices_S1x8192x4x128_S1x8192x4x64_0_0_0_64
  let p : FVec Ideal S_ .f32 := constant (F := Ideal) S_ .f32 0x00000000#32
  let hi : FVec Ideal S1x8192x4x64 .f32 := addf (F := Ideal) (s := S1x8192x4x64) (φ := .f32) (mulf (F := Ideal) (s := S1x8192x4x64) (φ := .f32) b c)
    (mulf (F := Ideal) (s := S1x8192x4x64) (φ := .f32) (Host.negf (F := Ideal) (s := S1x8192x4x64) (φ := .f32) a) s)
  let lo : FVec Ideal S1x8192x4x64 .f32 := addf (F := Ideal) (s := S1x8192x4x64) (φ := .f32) (mulf (F := Ideal) (s := S1x8192x4x64) (φ := .f32) b s)
    (mulf (F := Ideal) (s := S1x8192x4x64) (φ := .f32) a c)
  addf (F := Ideal) (s := S1x8192x4x128) (φ := .f32)
    (pad S1x8192x4x128 ![0, 0, 0, 64] ![0, 0, 0, 0] ![0, 0, 0, 0] hi p pads_S1x8192x4x64_S1x8192x4x128_000_000_000_6400 h_S_)
    (pad S1x8192x4x128 ![0, 0, 0, 0] ![0, 0, 0, 64] ![0, 0, 0, 0] lo p pads_S1x8192x4x64_S1x8192x4x128_000_000_000_0640 h_S_)

theorem unropeV_apply (x : FVec Ideal S1x8192x4x128 .f32) (f : Fin 4 → Head) (hx : ∀ z t h d, x (ix4 z t h d) = ((f h t d : ℝ) : EReal))
    (z : Fin 1) (t : Fin 8192) (h : Fin 4) (d : Fin 128) : unropeV x (ix4 z t h d) = ((unrot t (f h t) d : ℝ) : EReal) := by
  unfold unropeV unrot
  pointwise
  by_cases hd : (d : ℕ) < 64
  · rw [dif_neg (by omega), dif_pos hd, dif_pos hd]
    simp only [hx, co_eq, si_eq, ← EReal.coe_mul, ← EReal.coe_add, ← EReal.coe_neg]
    rw [zero_add]
  · have e2 : (d : ℕ) - 64 < 64 := by have := d.2; omega
    rw [dif_pos (by omega), dif_neg hd, dif_neg hd]
    simp only [hx, co_eq, si_eq, ← EReal.coe_mul, ← EReal.coe_add, ← EReal.coe_neg]
    rw [add_zero]
    congr 1
    rw [show (⟨64 + ((d : ℕ) - 64), by omega⟩ : Fin 128) = d from Fin.ext (by simp; omega)]
    ring

include h0 in
include h1 in
include h2 in
include h3 in
theorem r208 (z : Fin 1) (t : Fin 8192) (h : Fin 4) (d : Fin 128) : (R m c main_v208 : FVec Ideal S1x8192x4x128 .f32) (ix4 z t h d) = ((unrot t (dq (lg h) (k m c h) (v m c h) (o m c h) t) d : ℝ) : EReal) := by
  have e : (R m c main_v208 : FVec Ideal S1x8192x4x128 .f32) = unropeV (R m c main_v172) := by
    rw [e_v208, e_v207, e_v206, e_cst_22, e_cst_23, e_v205, e_v204, e_v203, e_v202, e_v201, e_v200, e_v199, e_v198, e_v197, e_v196, e_v195, e_v194, e_v193, e_v16, e_v15, e_v14, e_v13, r12]; rfl
  rw [e]
  exact unropeV_apply _ (fun h => dq (lg h) (k m c h) (v m c h) (o m c h)) (fun z t h d => r172 m c h0 h1 h2 h3 z t h d) z t h d
include h0 in
include h1 in
include h2 in
include h3 in
theorem r175 (z : Fin 1) (t : Fin 8192) (h : Fin 4) (d : Fin 128) : (R m c main_v175 : FVec Ideal S1x8192x4x128 .f32) (ix4 z t h d) = ((dk (lg h) (q m c h) (v m c h) (o m c h) t d * sc : ℝ) : EReal) := by
  have key : ∀ x : FVec Ideal S1x8192x4x128 .f32, mulf (F := Ideal) (s := S1x8192x4x128) (φ := .f32) x
      (broadcastInDim S1x8192x4x128 ![] bcast_S_S1x8192x4x128 (constant (F := Ideal) S_ .f32 0x3DB504F3#32)) (ix4 z t h d)
        = x (ix4 z t h d) * Ideal.ofBits .f32 0x3DB504F3#32 := by
    intro x
    pointwise
  rw [e_v175, e_v174, e_cst_19]
  refine (key _).trans ?_
  rw [r171 m c h0 h1 h2 h3, lit_scale, ← EReal.coe_mul]
include h0 in
include h1 in
include h2 in
include h3 in
theorem r191 (z : Fin 1) (t : Fin 8192) (h : Fin 4) (d : Fin 128) : (R m c main_v191 : FVec Ideal S1x8192x4x128 .f32) (ix4 z t h d) = ((unrot t (fun d => dk (lg h) (q m c h) (v m c h) (o m c h) t d * sc) d : ℝ) : EReal) := by
  have e : (R m c main_v191 : FVec Ideal S1x8192x4x128 .f32) = unropeV (R m c main_v175) := by
    rw [e_v191, e_v190, e_v189, e_cst_20, e_cst_21, e_v188, e_v187, e_v186, e_v185, e_v184, e_v183, e_v182, e_v181, e_v180, e_v179, e_v178, e_v177, e_v176, e_v46, e_v45, e_v44, e_v43, r42]; rfl
  rw [e]
  exact unropeV_apply _ (fun h t d => dk (lg h) (q m c h) (v m c h) (o m c h) t d * sc) (fun z t h d => r175 m c h0 h1 h2 h3 z t h d) z t h d
include h0 in
include h1 in
include h2 in
include h3 in
theorem r210 (t : Fin 8192) (a : Fin 512) : (R m c main_v210 : FVec Ideal S8192x512 .bf16) (ix2 t a) = ((unrot t (dq (lg ⟨a / 128, by omega⟩) (k m c ⟨a / 128, by omega⟩) (v m c ⟨a / 128, by omega⟩) (o m c ⟨a / 128, by omega⟩) t) ⟨a % 128, by omega⟩ : ℝ) : EReal) := by
  rw [e_v210, e_v209]
  pointwise
  rw [r208 m c h0 h1 h2 h3]
include h0 in
include h1 in
include h2 in
include h3 in
theorem r211 (t : Fin 8192) (a : Fin 512) : (R m c main_v211 : FVec Ideal S8192x512 .bf16) (ix2 t a) = ((unrot t (fun d => dk (lg ⟨a / 128, by omega⟩) (q m c ⟨a / 128, by omega⟩) (v m c ⟨a / 128, by omega⟩) (o m c ⟨a / 128, by omega⟩) t d * sc) ⟨a % 128, by omega⟩ : ℝ) : EReal) := by
  rw [e_v211, e_v192]
  pointwise
  rw [r191 m c h0 h1 h2 h3]
include h0 in
include h1 in
include h2 in
include h3 in
theorem r212 (t : Fin 8192) (a : Fin 512) : (R m c main_v212 : FVec Ideal S8192x512 .bf16) (ix2 t a) = ((dv (lg ⟨a / 128, by omega⟩) (q m c ⟨a / 128, by omega⟩) (k m c ⟨a / 128, by omega⟩) (o m c ⟨a / 128, by omega⟩) t ⟨a % 128, by omega⟩ : ℝ) : EReal) := by
  rw [e_v212, e_v173]
  pointwise
  rw [r170 m c h0 h1 h2 h3]

end Cert.ReferenceIdeal.Ops

end
-- ==== Proof.Same.lean ====
/- The two runs side by side: on equal, real arguments the kernel's three gradients are the reference's. -/
module

public import proofs.«01_k».proof.Defs
public import proofs.«01_k».proof.Proof.Finite
public import proofs.«01_k».proof.Proof.KernVal
public import proofs.«01_k».proof.Proof.RefVal

@[expose] public section

set_option maxRecDepth 16384

noncomputable section

namespace Cert.Same

open Idealize.ShloMosaic Idealize.ShloMosaic.TcCoe Idealize.SL.Sem Ret

/-- The reference keeps its arguments and signals nothing. -/
theorem ref_frame (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
        ∧ r.2.sem = fun _ => 0) :=
  (θ_run _ _ _).mono (fun _ h => ⟨fun c => ⟨(h.1 c _ rfl).trans (Cert.ReferenceIdeal.Ops.R_arg0 m c), (h.1 c _ rfl).trans (Cert.ReferenceIdeal.Ops.R_arg1 m c),
    (h.1 c _ rfl).trans (Cert.ReferenceIdeal.Ops.R_arg2 m c), (h.1 c _ rfl).trans (Cert.ReferenceIdeal.Ops.R_arg3 m c)⟩, h.2⟩) (Cert.ReferenceIdeal.Ops.run m ρ)

section
variable (m : (ℓ : Loc Cert.KernelIdeal.nD Cert.KernelIdeal.τ Cert.KernelIdeal.sig) → Buf (Elt Ideal) ℓ) (c : Dev Cert.KernelIdeal.nD)
variable (m' : (ℓ : Loc Cert.ReferenceIdeal.nD Cert.ReferenceIdeal.τ Cert.ReferenceIdeal.sig) → Buf (Elt Ideal) ℓ)

/-- The reference's argument `i` is the kernel's. -/
theorem arg0 (e : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) :
    Cert.ReferenceIdeal.Ops.A0 m' c = Cert.KernelIdeal.Ops.A0 m c :=
  (Cert.ReferenceIdeal.Ops.R_arg0 m' c).trans (e.trans (Cert.KernelIdeal.Ops.H_arg0 m c).symm)
theorem arg1 (e : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) :
    Cert.ReferenceIdeal.Ops.A1 m' c = Cert.KernelIdeal.Ops.A1 m c :=
  (Cert.ReferenceIdeal.Ops.R_arg1 m' c).trans (e.trans (Cert.KernelIdeal.Ops.H_arg1 m c).symm)
theorem arg2 (e : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) :
    Cert.ReferenceIdeal.Ops.A2 m' c = Cert.KernelIdeal.Ops.A2 m c :=
  (Cert.ReferenceIdeal.Ops.R_arg2 m' c).trans (e.trans (Cert.KernelIdeal.Ops.H_arg2 m c).symm)
theorem arg3 (e : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    Cert.ReferenceIdeal.Ops.A3 m' c = Cert.KernelIdeal.Ops.A3 m c :=
  (Cert.ReferenceIdeal.Ops.R_arg3 m' c).trans (e.trans (Cert.KernelIdeal.Ops.H_arg3 m c).symm)

variable (e0 : Cert.ReferenceIdeal.Ops.A0 m' c = Cert.KernelIdeal.Ops.A0 m c) (e1 : Cert.ReferenceIdeal.Ops.A1 m' c = Cert.KernelIdeal.Ops.A1 m c)
  (e2 : Cert.ReferenceIdeal.Ops.A2 m' c = Cert.KernelIdeal.Ops.A2 m c) (e3 : Cert.ReferenceIdeal.Ops.A3 m' c = Cert.KernelIdeal.Ops.A3 m c)
  (h0 : AllReal (Cert.KernelIdeal.Ops.A0 m c)) (h1 : AllReal (Cert.KernelIdeal.Ops.A1 m c))
  (h2 : AllReal (Cert.KernelIdeal.Ops.A2 m c)) (h3 : AllReal (Cert.KernelIdeal.Ops.A3 m c))

theorem ix2_eta (y : Cert.KernelIdeal.S8192x512.Idx) : y = ValueIdx.ix2 (y 0 : Fin 8192) (y 1 : Fin 512) := by
  funext k; fin_cases k <;> rfl

include e0 e1 e2 e3 h0 h1 h2 h3
theorem dq_same : (Cert.ReferenceIdeal.Ops.R m' c Cert.ReferenceIdeal.main_v210 : FVec Ideal Cert.ReferenceIdeal.S8192x512 .bf16)
    = Cert.KernelIdeal.Val.dqRV m c := by
  funext y
  refine (congrArg _ (ix2_eta y)).trans ((Cert.ReferenceIdeal.Ops.r210 m' c (e0 ▸ h0) (e1 ▸ h1) (e2 ▸ h2) (e3 ▸ h3) (y 0) (y 1)).trans ?_)
  unfold Cert.KernelIdeal.Val.dqRV Cert.KernelIdeal.Val.dqR
  unfold Cert.ReferenceIdeal.Ops.k Cert.ReferenceIdeal.Ops.v Cert.ReferenceIdeal.Ops.o
  rw [e1, e2, e3]
theorem dk_same : (Cert.ReferenceIdeal.Ops.R m' c Cert.ReferenceIdeal.main_v211 : FVec Ideal Cert.ReferenceIdeal.S8192x512 .bf16)
    = Cert.KernelIdeal.Val.dkRV m c := by
  funext y
  refine (congrArg _ (ix2_eta y)).trans ((Cert.ReferenceIdeal.Ops.r211 m' c (e0 ▸ h0) (e1 ▸ h1) (e2 ▸ h2) (e3 ▸ h3) (y 0) (y 1)).trans ?_)
  unfold Cert.KernelIdeal.Val.dkRV Cert.KernelIdeal.Val.dkR
  unfold Cert.ReferenceIdeal.Ops.q Cert.ReferenceIdeal.Ops.v Cert.ReferenceIdeal.Ops.o
  rw [e0, e2, e3]
theorem dv_same : (Cert.ReferenceIdeal.Ops.R m' c Cert.ReferenceIdeal.main_v212 : FVec Ideal Cert.ReferenceIdeal.S8192x512 .bf16)
    = Cert.KernelIdeal.Val.dvRV m c := by
  funext y
  refine (congrArg _ (ix2_eta y)).trans ((Cert.ReferenceIdeal.Ops.r212 m' c (e0 ▸ h0) (e1 ▸ h1) (e2 ▸ h2) (e3 ▸ h3) (y 0) (y 1)).trans ?_)
  unfold Cert.KernelIdeal.Val.dvRV Cert.KernelIdeal.Val.dvR
  unfold Cert.ReferenceIdeal.Ops.q Cert.ReferenceIdeal.Ops.k Cert.ReferenceIdeal.Ops.o
  rw [e0, e1, e3]
end

theorem algebraic : Cert.algebraic_KernelIdeal_ReferenceIdeal_pre_finite (hKernelIdeal := Cert.KernelIdeal.Gen.facts)
    (hReferenceIdeal := Cert.ReferenceIdeal.Gen.facts) (hPre_finite := Cert.Pre_finite.facts) := by
  intro m g m' g' hpre hargs
  have real (c : Dev Cert.KernelIdeal.nD) : AllReal (Cert.KernelIdeal.Ops.A0 m c) ∧ AllReal (Cert.KernelIdeal.Ops.A1 m c)
      ∧ AllReal (Cert.KernelIdeal.Ops.A2 m c) ∧ AllReal (Cert.KernelIdeal.Ops.A3 m c) := by
    have h := @Cert.Pre_finite.real Cert.Pre_finite.facts _ _ _ _ (hpre c)
    rw [← Cert.KernelIdeal.Ops.H_arg0 m c, ← Cert.KernelIdeal.Ops.H_arg1 m c, ← Cert.KernelIdeal.Ops.H_arg2 m c, ← Cert.KernelIdeal.Ops.H_arg3 m c] at h
    exact h
  refine ⟨fun c => Cert.KernelIdeal.Val.dqRV m c, fun c => Cert.KernelIdeal.Val.dkRV m c, fun c => Cert.KernelIdeal.Val.dvRV m c, ?_, ?_⟩
  · refine (θ_run _ _ _).mono (fun r h c => ?_) (Cert.KernelIdeal.Value.run_blocks m g)
    obtain ⟨r0, r1, r2, r3⟩ := real c
    obtain ⟨w0, w1, w2, ws⟩ := h c
    exact ⟨w0.trans (Cert.KernelIdeal.Val.result11 m c r0 r1 r2 r3), w1.trans (Cert.KernelIdeal.Val.result12 m c r0 r1 r2 r3),
      w2.trans (Cert.KernelIdeal.Val.result13 m c r0 r1 r2 r3), ws⟩
  · refine (θ_run _ _ _).mono (fun r h c => ?_) (θ_run_and (Cert.ReferenceIdeal.Ops.run m' g') (ref_frame m' g'))
    obtain ⟨r0, r1, r2, r3⟩ := real c
    obtain ⟨a0, a1, a2, a3⟩ := hargs c
    have e0 := arg0 m c m' a0
    have e1 := arg1 m c m' a1
    have e2 := arg2 m c m' a2
    have e3 := arg3 m c m' a3
    exact ⟨(h.1.1 c _ rfl).trans (dq_same m c m' e0 e1 e2 e3 r0 r1 r2 r3), (h.1.1 c _ rfl).trans (dk_same m c m' e0 e1 e2 e3 r0 r1 r2 r3),
      (h.1.1 c _ rfl).trans (dv_same m c m' e0 e1 e2 e3 r0 r1 r2 r3), h.2.1 c⟩

end Cert.Same

end
-- ==== Proof.IbPieces.lean ====
/- What one grid point of the gradient of the input of the projections stores. -/
module

public import proofs.«01_k».proof.Proof.Gen.Kernel6Ideal.Value
public import Idealize.ShloMosaic.Lib.Pipeline.ReadBack
public import Idealize.ShloMosaic.Lib.IdealHost

@[expose] public section

set_option maxRecDepth 16384

noncomputable section

namespace Cert.Kernel6Ideal.Val

open Idealize.ShloMosaic Idealize.ShloMosaic.TcCoe Idealize.ShloMosaic.StableHlo
open Cert.Kernel6Ideal Cert.Kernel6Ideal.Gen

theorem hz : (![0, 0] : Fin 2 → Nat) = fun _ => 0 := funext fun a => by fin_cases a <;> rfl
theorem hz3 : (![0, 0, 0] : Fin 3 → Nat) = fun _ => 0 := funext fun a => by fin_cases a <;> rfl

/-- A load of a part of what one store of the whole left reads that part of it. -/
theorem part {S : Shape} {e : EltTy} (v : View sig .tc .vmem S e) {off : Fin S.rank → Nat} (h : off = fun _ => 0) (inb : ∀ a, off a + S.size a ≤ S.size a)
    (w : S.Idx → Elt Ideal e) (L : List (View.Piece (Elt Ideal) S e)) (r : Rect S) :
    v.readCov ((⟨Rect.unit off S.size inb, w⟩ : View.Piece (Elt Ideal) S e) :: L) r.toLoadRect = View.ld w r := by
  subst h
  rw [View.readCov_eq_canon_ld _ _ _ (fun y => ⟨_, List.mem_cons_self, by show y ∈ (Rect.whole S).set; rw [Rect.set_whole]; exact Finset.mem_univ y⟩),
    View.canon_cons_unit_zero rfl]

/-- A load of the whole reads what the stores left. -/
theorem all {S : Shape} {e : EltTy} (v : View sig .tc .vmem S e) {off : Fin S.rank → Nat} (h : off = fun _ => 0) (inb : ∀ a, off a + S.size a ≤ S.size a)
    (L : List (View.Piece (Elt Ideal) S e)) : v.readCov L (Rect.unit off S.size inb).toLoadRect = View.canon L := by
  subst h
  rw [View.readCov_eq_canon']
  funext j
  exact congrArg (View.canon L) (funext fun a => Fin.ext (by show 0 + 1 * (j a).val = (j a).val; omega))
theorem in_hp (k : Fin 2) : ∀ a, (![256 * k.val, 0] : Fin 2 → ℕ) a + (![256, 512] : Fin 2 → ℕ) a ≤ S512x512.size a := by
  intro a; fin_cases a
  · show 256 * k.val + 256 ≤ 512; omega
  · show 0 + 512 ≤ 512; omega
/-- Half of the rows of a piece of the gradient of the projections. -/
abbrev hp (k : Fin 2) : Rect S512x512 := Rect.unit (s := S512x512) ![256 * k.val, 0] ![256, 512] (in_hp k)
theorem in_hr (k : Fin 2) : ∀ a, (![256 * k.val, 0] : Fin 2 → ℕ) a + (![256, 1024] : Fin 2 → ℕ) a ≤ S512x1024.size a := by
  intro a; fin_cases a
  · show 256 * k.val + 256 ≤ 512; omega
  · show 0 + 1024 ≤ 1024; omega
/-- Half of the rows of a block of tokens. -/
abbrev hr (k : Fin 2) : Rect S512x1024 := Rect.unit (s := S512x1024) ![256 * k.val, 0] ![256, 1024] (in_hr k)
theorem in_wq (j : Fin 5) : ∀ a, (![512 * j.val, 0] : Fin 2 → ℕ) a + (![512, 1024] : Fin 2 → ℕ) a ≤ S2560x1024.size a := by
  intro a; fin_cases a
  · show 512 * j.val + 512 ≤ 2560; omega
  · show 0 + 1024 ≤ 1024; omega
/-- The weights of one projection. -/
abbrev wq (j : Fin 5) : Rect S2560x1024 := Rect.unit (s := S2560x1024) ![512 * j.val, 0] ![512, 1024] (in_wq j)

section
variable (x0 : Vec Ideal S512x512 .bf16) (x1 : Vec Ideal S512x512 .bf16) (x2 : Vec Ideal S512x512 .bf16) (x3 : Vec Ideal S512x512 .bf16) (x4 : Vec Ideal S512x512 .f32) (x5 : Vec Ideal S2560x1024 .bf16) (x6 : Vec Ideal S512x1024 .f32) (x7 : Vec Ideal S512x1024 .f32) (x8 : Vec Ideal S1x1024 .f32)
/-- The gradient of the normalised input, first half: the first four projections' part. -/
def four : FVec Ideal S256x1024 .f32 := k0_pay5 (View.ld x0 (hp 0)) (View.ld x5 (wq 0)) (View.ld x1 (hp 0)) (View.ld x5 (wq 1)) (View.ld x2 (hp 0)) (View.ld x5 (wq 2)) (View.ld x3 (hp 0)) (View.ld x5 (wq 3))
/-- … and the fifth projection's. -/
def fifth : FVec Ideal S256x1024 .f32 := k0_pay6 (View.ld x4 (hp 0)) (View.ld x5 (wq 4))
/-- The gradient of the normalised input, second half. -/
def five : FVec Ideal S256x1024 .f32 := k0_pay11 (View.ld x0 (hp 1)) (View.ld x5 (wq 0)) (View.ld x1 (hp 1)) (View.ld x5 (wq 1)) (View.ld x2 (hp 1)) (View.ld x5 (wq 2)) (View.ld x3 (hp 1)) (View.ld x5 (wq 3)) (View.ld x4 (hp 1)) (View.ld x5 (wq 4))
/-- The two stores of the gradient of the input. -/
def two : List (View.Piece (Elt Ideal) S512x1024 .f32) :=
  [⟨hr 1, k0_pay2 (five x0 x1 x2 x3 x4 x5) (View.ld x6 (hr 1)) x8 (k0_pay12 (View.ld x6 (hr 1))) (View.ld x7 (hr 1))⟩,
   ⟨hr 0, k0_pay9 (four x0 x1 x2 x3 x5) (fifth x4 x5) (View.ld x6 (hr 0)) x8 (View.ld x7 (hr 0))⟩]
/-- What a point makes of the gradient of the scale. -/
def scale (z : Vec Ideal S1x1024 .f32) : FVec Ideal S1x1024 .f32 :=
  k0_pay3 (five x0 x1 x2 x3 x4 x5) (View.ld x6 (hr 1)) (k0_pay12 (View.ld x6 (hr 1))) (k0_pay10 (four x0 x1 x2 x3 x5) (fifth x4 x5) (View.ld x6 (hr 0)) z)
end

variable (x0 : Vec Ideal S512x512 .bf16) (x1 : Vec Ideal S512x512 .bf16) (x2 : Vec Ideal S512x512 .bf16) (x3 : Vec Ideal S512x512 .bf16) (x4 : Vec Ideal S512x512 .f32) (x5 : Vec Ideal S2560x1024 .bf16) (x6 : Vec Ideal S512x1024 .f32) (x7 : Vec Ideal S512x1024 .f32) (x8 : Vec Ideal S1x1024 .f32) (c : Dev nD) (i : grid0.Coords)
  (arg1 : Memref sig .tc .vmem S512x512 .bf16) (harg1 : arg1.IsWhole) (arg2 : Memref sig .tc .vmem S512x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .f32) (harg5 : arg5.IsWhole) (arg6 : Memref sig .tc .vmem S2560x1024 .bf16) (harg6 : arg6.IsWhole) (arg7 : Memref sig .tc .vmem S512x1024 .f32) (harg7 : arg7.IsWhole) (arg8 : Memref sig .tc .vmem S512x1024 .f32) (harg8 : arg8.IsWhole) (arg9 : Memref sig .tc .vmem S1x1024 .f32) (harg9 : arg9.IsWhole) (arg10 : Memref sig .tc .vmem S512x1024 .f32) (harg10 : arg10.IsWhole) (arg11 : Memref sig .tc .vmem S1x1024 .f32) (harg11 : arg11.IsWhole)

theorem out0_A_9_eq (hc0 : cond0_0 i) :
    out0_A_9 (F := Ideal) c i arg1 harg1 arg2 harg2 arg3 harg3 arg4 harg4 arg5 harg5 arg6 harg6 arg7 harg7 arg8 harg8 arg9 harg9 arg10 harg10 arg11 harg11 hc0 x0 x1 x2 x3 x4 x5 x6 x7 x8 = View.canon (two x0 x1 x2 x3 x4 x5 x6 x7 x8) := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 hc0 x0 x1 x2 x3 x4 x5 x6 x7 x8)]
  unfold kernelRun0_A
  dsimp only
  sl_unfold_words
  simp only [View.canon_unit_zero (S := S1x1024) hz, View.canon_cons_unit_zero (S := S1x1024) hz, View.readCov_unit_zero (S := S1x1024) _ hz, View.ld_unit_zero (S := S1x1024) hz, View.canon_unit_zero (S := S2560x1024) hz, View.canon_cons_unit_zero (S := S2560x1024) hz, View.readCov_unit_zero (S := S2560x1024) _ hz, View.ld_unit_zero (S := S2560x1024) hz, View.canon_unit_zero (S := S512x1024) hz, View.canon_cons_unit_zero (S := S512x1024) hz, View.readCov_unit_zero (S := S512x1024) _ hz, View.ld_unit_zero (S := S512x1024) hz, View.canon_unit_zero (S := S512x512) hz, View.canon_cons_unit_zero (S := S512x512) hz, View.readCov_unit_zero (S := S512x512) _ hz, View.ld_unit_zero (S := S512x512) hz, View.readAt_eq_ld, harg1.read_unread, harg2.read_unread, harg3.read_unread, harg4.read_unread, harg5.read_unread, harg6.read_unread, harg7.read_unread, harg8.read_unread, harg9.read_unread, harg10.read_unread, harg11.read_unread]
  rfl
theorem out0_B_9_eq (hc0 : ¬cond0_0 i)
    (xo10 : Vec Ideal S1x1024 .f32) :
    out0_B_9 (F := Ideal) c i arg1 harg1 arg2 harg2 arg3 harg3 arg4 harg4 arg5 harg5 arg6 harg6 arg7 harg7 arg8 harg8 arg9 harg9 arg10 harg10 arg11 harg11 hc0 x0 x1 x2 x3 x4 x5 x6 x7 x8 xo10 = View.canon (two x0 x1 x2 x3 x4 x5 x6 x7 x8) := by
  unfold out0_B_9
  rw [View.read_writes_eq_canon _ _ _ (cover0_B_9 c i arg1 harg1 arg2 harg2 arg3 harg3 arg4 harg4 arg5 harg5 arg6 harg6 arg7 harg7 arg8 harg8 arg9 harg9 arg10 harg10 arg11 harg11 hc0 x0 x1 x2 x3 x4 x5 x6 x7 x8 xo10)]
  unfold kernelRun0_B
  dsimp only
  sl_unfold_words
  simp only [View.canon_unit_zero (S := S1x1024) hz, View.canon_cons_unit_zero (S := S1x1024) hz, View.readCov_unit_zero (S := S1x1024) _ hz, View.ld_unit_zero (S := S1x1024) hz, View.canon_unit_zero (S := S2560x1024) hz, View.canon_cons_unit_zero (S := S2560x1024) hz, View.readCov_unit_zero (S := S2560x1024) _ hz, View.ld_unit_zero (S := S2560x1024) hz, View.canon_unit_zero (S := S512x1024) hz, View.canon_cons_unit_zero (S := S512x1024) hz, View.readCov_unit_zero (S := S512x1024) _ hz, View.ld_unit_zero (S := S512x1024) hz, View.canon_unit_zero (S := S512x512) hz, View.canon_cons_unit_zero (S := S512x512) hz, View.readCov_unit_zero (S := S512x512) _ hz, View.ld_unit_zero (S := S512x512) hz, View.readAt_eq_ld, harg1.read_unread, harg2.read_unread, harg3.read_unread, harg4.read_unread, harg5.read_unread, harg6.read_unread, harg7.read_unread, harg8.read_unread, harg9.read_unread, harg10.read_unread, harg11.read_unread]
  rfl
theorem out0_A_10_eq (hc0 : cond0_0 i) :
    out0_A_10 (F := Ideal) c i arg1 harg1 arg2 harg2 arg3 harg3 arg4 harg4 arg5 harg5 arg6 harg6 arg7 harg7 arg8 harg8 arg9 harg9 arg10 harg10 arg11 harg11 hc0 x0 x1 x2 x3 x4 x5 x6 x7 x8 = scale x0 x1 x2 x3 x4 x5 x6 (k0_pay4 (F := Ideal)) := by
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 hc0 x0 x1 x2 x3 x4 x5 x6 x7 x8)]
  unfold kernelRun0_A
  dsimp only
  sl_unfold_words
  simp only [all (S := S1x1024) _ hz, View.canon_unit_zero (S := S1x1024) hz, View.canon_cons_unit_zero (S := S1x1024) hz, View.readCov_unit_zero (S := S1x1024) _ hz, View.ld_unit_zero (S := S1x1024) hz, View.canon_unit_zero (S := S2560x1024) hz, View.canon_cons_unit_zero (S := S2560x1024) hz, View.readCov_unit_zero (S := S2560x1024) _ hz, View.ld_unit_zero (S := S2560x1024) hz, View.canon_unit_zero (S := S512x1024) hz, View.canon_cons_unit_zero (S := S512x1024) hz, View.readCov_unit_zero (S := S512x1024) _ hz, View.ld_unit_zero (S := S512x1024) hz, View.canon_unit_zero (S := S512x512) hz, View.canon_cons_unit_zero (S := S512x512) hz, View.readCov_unit_zero (S := S512x512) _ hz, View.ld_unit_zero (S := S512x512) hz, View.readAt_eq_ld, harg1.read_unread, harg2.read_unread, harg3.read_unread, harg4.read_unread, harg5.read_unread, harg6.read_unread, harg7.read_unread, harg8.read_unread, harg9.read_unread, harg10.read_unread, harg11.read_unread]
  rfl
theorem out0_B_10_eq (hc0 : ¬cond0_0 i)
    (xo10 : Vec Ideal S1x1024 .f32) :
    out0_B_10 (F := Ideal) c i arg1 harg1 arg2 harg2 arg3 harg3 arg4 harg4 arg5 harg5 arg6 harg6 arg7 harg7 arg8 harg8 arg9 harg9 arg10 harg10 arg11 harg11 hc0 x0 x1 x2 x3 x4 x5 x6 x7 x8 xo10 = scale x0 x1 x2 x3 x4 x5 x6 xo10 := by
  unfold out0_B_10
  rw [View.read_writes_eq_canon _ _ _ (cover0_B_10 c i arg1 harg1 arg2 harg2 arg3 harg3 arg4 harg4 arg5 harg5 arg6 harg6 arg7 harg7 arg8 harg8 arg9 harg9 arg10 harg10 arg11 harg11 hc0 x0 x1 x2 x3 x4 x5 x6 x7 x8 xo10)]
  unfold kernelRun0_B
  dsimp only
  sl_unfold_words
  simp only [all (S := S1x1024) _ hz, View.canon_unit_zero (S := S1x1024) hz, View.canon_cons_unit_zero (S := S1x1024) hz, View.readCov_unit_zero (S := S1x1024) _ hz, View.ld_unit_zero (S := S1x1024) hz, View.canon_unit_zero (S := S2560x1024) hz, View.canon_cons_unit_zero (S := S2560x1024) hz, View.readCov_unit_zero (S := S2560x1024) _ hz, View.ld_unit_zero (S := S2560x1024) hz, View.canon_unit_zero (S := S512x1024) hz, View.canon_cons_unit_zero (S := S512x1024) hz, View.readCov_unit_zero (S := S512x1024) _ hz, View.ld_unit_zero (S := S512x1024) hz, View.canon_unit_zero (S := S512x512) hz, View.canon_cons_unit_zero (S := S512x512) hz, View.readCov_unit_zero (S := S512x512) _ hz, View.ld_unit_zero (S := S512x512) hz, View.readAt_eq_ld, harg1.read_unread, harg2.read_unread, harg3.read_unread, harg4.read_unread, harg5.read_unread, harg6.read_unread, harg7.read_unread, harg8.read_unread, harg9.read_unread, harg10.read_unread, harg11.read_unread]
  rfl

end Cert.Kernel6Ideal.Val

end
-- ==== Proof.Tokens.lean ====
/- Sums over the tokens, taken a block of tokens at a time. -/
module

public import Idealize.ShloMosaic.Lib.IdealHost
public import Idealize.ShloMosaic.Lib.Pointwise

@[expose] public section

noncomputable section

namespace Tok

/-- The sum over the first `n` tokens. -/
def upTo {L : ℕ} (f : Fin L → EReal) (n : ℕ) : EReal := ∑ x ∈ Finset.range n, if h : x < L then f ⟨x, h⟩ else 0

theorem upTo_zero {L : ℕ} (f : Fin L → EReal) : upTo f 0 = 0 := by simp [upTo]

theorem upTo_all {L : ℕ} (f : Fin L → EReal) : upTo f L = ∑ x, f x := by
  unfold upTo
  rw [Finset.sum_range]
  exact Finset.sum_congr rfl fun x _ => by rw [dif_pos x.2]

/-- The sum over the tokens before a block and over the block is the sum over the tokens before the next. -/
theorem upTo_block {L : ℕ} (f : Fin L → EReal) (p B : ℕ) (g : Fin B → EReal) (h : p + B ≤ L)
    (hg : ∀ i : Fin B, g i = f ⟨p + i.val, by have := i.2; omega⟩) : upTo f p + ∑ i, g i = upTo f (p + B) := by
  unfold upTo
  rw [Finset.sum_range_add, Finset.sum_range (n := B)]
  refine congrArg _ (Finset.sum_congr rfl fun i _ => ?_)
  rw [hg i, dif_pos (by have := i.2; omega)]

/-- The first block's sum. -/
theorem upTo_first {L : ℕ} (f : Fin L → EReal) (B : ℕ) (g : Fin B → EReal) (h : B ≤ L)
    (hg : ∀ i : Fin B, g i = f ⟨i.val, by have := i.2; omega⟩) : 0 + ∑ i, g i = upTo f B := by
  have := upTo_block f 0 B g (by omega) fun i => (hg i).trans (congrArg f (Fin.ext (Nat.zero_add _).symm))
  rwa [upTo_zero, Nat.zero_add] at this

end Tok

end
-- ==== Proof.Rms.lean ====
/- The root of a mean of squares over a row, on the extended reals. -/
module

public import proofs.«01_k».proof.Proof.Tokens

@[expose] public section

noncomputable section

namespace Rms

open Idealize.ShloMosaic

/-- How many entries a row has. -/
theorem width : Ideal.ofBits .f32 0x44800000#32 = ((1024 : ℝ) : EReal) := by
  simp [Ideal.ofBits, Ideal.ieee, -EReal.coe_mul]; norm_num
theorem half : Ideal.ofBits .f32 0xBF000000#32 = ((-(1 / 2) : ℝ) : EReal) := by
  simp [Ideal.ofBits, Ideal.ieee, -EReal.coe_mul]; norm_num
theorem eps_nonneg : 0 ≤ Ideal.ofBits .f32 0x358637BD#32 := by
  have : Ideal.ofBits .f32 0x358637BD#32 = ((8796093 * (2 : ℝ) ^ (-43 : ℤ) : ℝ) : EReal) := by
    simp [Ideal.ofBits, Ideal.ieee, -EReal.coe_mul]
  rw [this]
  exact EReal.coe_nonneg.mpr (by positivity)

theorem div_width (x : EReal) : Ideal.div x (Ideal.ofBits .f32 0x44800000#32) = x * ((1024⁻¹ : ℝ) : EReal) := by
  rw [width]
  unfold Ideal.div
  rw [if_neg (by norm_num), ← EReal.coe_inv]

theorem sq_nonneg (x : EReal) : 0 ≤ x * x := by
  induction x with
  | bot => simp
  | top => simp
  | coe r => exact_mod_cast mul_self_nonneg r

/-- A row's mean of squares, a little above zero. -/
def var {n : ℕ} (x : Fin n → EReal) : EReal :=
  Ideal.div (∑ k, x k * x k) (Ideal.ofBits .f32 0x44800000#32) + Ideal.ofBits .f32 0x358637BD#32

/-- What comes back through a row's scaling, added to what comes back past it. -/
def grad {n : ℕ} (dh x dx g : Fin n → EReal) (b : Fin n) : EReal :=
  dx b + (Ideal.rsqrt (var x) * (dh b * g b)
    - x b * (Ideal.rsqrt (var x) * Ideal.rsqrt (var x) * Ideal.rsqrt (var x) * Ideal.div (∑ k, dh k * g k * x k) (Ideal.ofBits .f32 0x44800000#32)))

theorem grad_congr {n : ℕ} {dh dh' x x' dx dx' g : Fin n → EReal} (h : ∀ k, dh k = dh' k) (hx : ∀ k, x k = x' k) (hd : ∀ k, dx k = dx' k) (b : Fin n) :
    grad dh x dx g b = grad dh' x' dx' g b := by
  obtain rfl := funext h
  obtain rfl := funext hx
  obtain rfl := funext hd
  rfl

theorem var_nonneg {n : ℕ} (x : Fin n → EReal) : 0 ≤ var x := by
  unfold var
  rw [div_width]
  exact add_nonneg (mul_nonneg (Finset.sum_nonneg fun k _ => sq_nonneg _) (EReal.coe_nonneg.mpr (by norm_num))) eps_nonneg

theorem cube (v : EReal) (h : 0 ≤ v) : Ideal.rsqrt v * Ideal.rsqrt v * Ideal.rsqrt v = Ideal.div (Ideal.rsqrt v) v := by
  unfold Ideal.div
  induction v with
  | bot => exact absurd h (by simp)
  | top => simp
  | coe r =>
    have hr : 0 ≤ r := EReal.coe_nonneg.mp h
    rw [Ideal.rsqrt_coe, if_neg (not_lt.mpr hr)]
    by_cases h0 : r = 0
    · subst h0; simp
    · rw [if_neg h0, if_neg (by exact_mod_cast h0), ← EReal.coe_inv, ← EReal.coe_mul, ← EReal.coe_mul, ← EReal.coe_mul, ← mul_inv, Real.mul_self_sqrt hr, mul_comm]

theorem neg_halves (y : EReal) : ((-(1 / 2) : ℝ) : EReal) * y + ((-(1 / 2) : ℝ) : EReal) * y = -y := by
  induction y with
  | bot => rw [EReal.coe_mul_bot_of_neg (by norm_num)]; simp
  | top => rw [EReal.coe_mul_top_of_neg (by norm_num)]; simp
  | coe r => rw [← EReal.coe_mul, ← EReal.coe_add, ← EReal.coe_neg]; congr 1; ring

/-- What comes back through a row's scaling by the root, in the two orders of operations. -/
theorem back (x t dx s v : EReal) (h : 0 ≤ v) :
    dx + (Ideal.rsqrt v * t - x * (Ideal.rsqrt v * Ideal.rsqrt v * Ideal.rsqrt v * Ideal.div s (Ideal.ofBits .f32 0x44800000#32)))
      = dx + t * Ideal.rsqrt v
        + x * Ideal.div (s * (Ideal.ofBits .f32 0xBF000000#32 * Ideal.div (Ideal.rsqrt v) v)) (Ideal.ofBits .f32 0x44800000#32)
        + Ideal.div (s * (Ideal.ofBits .f32 0xBF000000#32 * Ideal.div (Ideal.rsqrt v) v)) (Ideal.ofBits .f32 0x44800000#32) * x := by
  rw [cube v h, div_width, div_width, half]
  generalize Ideal.div (Ideal.rsqrt v) v = c
  generalize ((1024⁻¹ : ℝ) : EReal) = k
  have e : x * (s * (((-(1 / 2) : ℝ) : EReal) * c) * k) = ((-(1 / 2) : ℝ) : EReal) * (x * (c * (s * k))) := by ac_rfl
  rw [mul_comm (s * _ * k) x, e, add_assoc, neg_halves, add_assoc, mul_comm t, sub_eq_add_neg]

end Rms

end
-- ==== Proof.IbVal.lean ====
/- The gradient of the input of the projections, and of the scale before them: what their arrays end holding, entry by entry. -/
module

public import proofs.«01_k».proof.Proof.IbPieces
public import proofs.«01_k».proof.Proof.Rms

@[expose] public section

set_option maxRecDepth 16384

noncomputable section

namespace Cert.Kernel6Ideal.Val

open Idealize.ShloMosaic Idealize.ShloMosaic.TcCoe Idealize.ShloMosaic.StableHlo
open Cert.Kernel6Ideal Cert.Kernel6Ideal.Gen

variable (m : (ℓ : Loc nD τ sig) → Buf (Elt Ideal) ℓ) (c : Dev nD)

theorem lt16 (t : Fin cfg0.N) : t.val < 16 := lt_of_lt_of_eq t.2 N_0

/-- What comes back of each projection, the weights, the inputs, what comes back past them, and the scale, as the call finds them. -/
abbrev dqV : FVec Ideal S8192x512 .bf16 := V m c main_v0
abbrev dkV : FVec Ideal S8192x512 .bf16 := V m c main_v1
abbrev dvV : FVec Ideal S8192x512 .bf16 := V m c main_v2
abbrev dgV : FVec Ideal S8192x512 .bf16 := V m c main_v3
abbrev duV : FVec Ideal S8192x512 .f32 := V m c main_arg8
abbrev wV : FVec Ideal S2560x1024 .bf16 := V m c main_v5
abbrev xV : FVec Ideal S8192x1024 .f32 := V m c main_arg0
abbrev dxV : FVec Ideal S8192x1024 .f32 := V m c main_arg3
abbrev gV : FVec Ideal S1x1024 .f32 := V m c main_arg1

theorem dqV_eq : dqV m c = truncf .bf16 (m ((c : Thread nD τ).loc main_arg4) : FVec Ideal S8192x512 .f32) bitsLt_bf16_f32 := by
  unfold dqV V
  simp only [hostOps0, List.flatten_cons, List.flatten_nil, List.append_nil, List.cons_append, List.nil_append, TRef.binary, TRef.nullary, TRef.unary, TRef.toBuf, TRef.ofBuf, cast_eq]
  after_results
theorem dkV_eq : dkV m c = truncf .bf16 (m ((c : Thread nD τ).loc main_arg5) : FVec Ideal S8192x512 .f32) bitsLt_bf16_f32 := by
  unfold dkV V
  simp only [hostOps0, List.flatten_cons, List.flatten_nil, List.append_nil, List.cons_append, List.nil_append, TRef.binary, TRef.nullary, TRef.unary, TRef.toBuf, TRef.ofBuf, cast_eq]
  after_results
theorem dvV_eq : dvV m c = truncf .bf16 (m ((c : Thread nD τ).loc main_arg6) : FVec Ideal S8192x512 .f32) bitsLt_bf16_f32 := by
  unfold dvV V
  simp only [hostOps0, List.flatten_cons, List.flatten_nil, List.append_nil, List.cons_append, List.nil_append, TRef.binary, TRef.nullary, TRef.unary, TRef.toBuf, TRef.ofBuf, cast_eq]
  after_results
theorem dgV_eq : dgV m c = truncf .bf16 (m ((c : Thread nD τ).loc main_arg7) : FVec Ideal S8192x512 .f32) bitsLt_bf16_f32 := by
  unfold dgV V
  simp only [hostOps0, List.flatten_cons, List.flatten_nil, List.append_nil, List.cons_append, List.nil_append, TRef.binary, TRef.nullary, TRef.unary, TRef.toBuf, TRef.ofBuf, cast_eq]
  after_results
theorem wV_eq : wV m c = truncf .bf16 (transpose S2560x1024 [1, 0] (m ((c : Thread nD τ).loc main_arg2) : FVec Ideal S1024x2560 .f32) transposes_S1024x2560_S2560x1024_1_0) bitsLt_bf16_f32 := by
  unfold wV V
  simp only [hostOps0, List.flatten_cons, List.flatten_nil, List.append_nil, List.cons_append, List.nil_append, TRef.binary, TRef.nullary, TRef.unary, TRef.toBuf, TRef.ofBuf, cast_eq]
  after_results
theorem duV_eq : duV m c = m ((c : Thread nD τ).loc main_arg8) := V_main_arg8 m c
theorem xV_eq : xV m c = m ((c : Thread nD τ).loc main_arg0) := V_main_arg0 m c
theorem dxV_eq : dxV m c = m ((c : Thread nD τ).loc main_arg3) := V_main_arg3 m c
theorem gV_eq : gV m c = m ((c : Thread nD τ).loc main_arg1) := V_main_arg1 m c

/-- Entry `(x, r)` of block `k` of the columns of what comes back. -/
def pV (k : Fin 5) (x : Fin 8192) (r : Fin 512) : EReal := match k with
  | 0 => dqV m c (ix2 x r) | 1 => dkV m c (ix2 x r) | 2 => dvV m c (ix2 x r) | 3 => dgV m c (ix2 x r) | 4 => duV m c (ix2 x r)

/-! ## The blocks of the operands -/

theorem idx0 : ∀ t : Fin grid0.N, win0_0.index t 0 = t.val ∧ win0_0.index t 1 = 0 := by decide +kernel
theorem b0 (t : Fin cfg0.N) (r : Fin 512) (a : Fin 512) : (iblk m c 0 t : Vec Ideal S512x512 .bf16) (ix2 r a) = dqV m c (ix2 (⟨512 * t.val + r, by have := lt16 t; omega⟩ : Fin 8192) a) := by
  unfold iblk
  rw [View.read_apply]
  refine congrArg (dqV m c) (funext fun k => Fin.ext ?_)
  fin_cases k
  · show win0_0.index t 0 * 512 + 1 * r.val = 512 * t.val + r.val; rw [(idx0 t).1]; omega
  · show win0_0.index t 1 * 512 + 1 * a.val = a.val; rw [(idx0 t).2]; omega
theorem idx1 : ∀ t : Fin grid0.N, win0_1.index t 0 = t.val ∧ win0_1.index t 1 = 0 := by decide +kernel
theorem b1 (t : Fin cfg0.N) (r : Fin 512) (a : Fin 512) : (iblk m c 1 t : Vec Ideal S512x512 .bf16) (ix2 r a) = dkV m c (ix2 (⟨512 * t.val + r, by have := lt16 t; omega⟩ : Fin 8192) a) := by
  unfold iblk
  rw [View.read_apply]
  refine congrArg (dkV m c) (funext fun k => Fin.ext ?_)
  fin_cases k
  · show win0_1.index t 0 * 512 + 1 * r.val = 512 * t.val + r.val; rw [(idx1 t).1]; omega
  · show win0_1.index t 1 * 512 + 1 * a.val = a.val; rw [(idx1 t).2]; omega
theorem idx2 : ∀ t : Fin grid0.N, win0_2.index t 0 = t.val ∧ win0_2.index t 1 = 0 := by decide +kernel
theorem b2 (t : Fin cfg0.N) (r : Fin 512) (a : Fin 512) : (iblk m c 2 t : Vec Ideal S512x512 .bf16) (ix2 r a) = dvV m c (ix2 (⟨512 * t.val + r, by have := lt16 t; omega⟩ : Fin 8192) a) := by
  unfold iblk
  rw [View.read_apply]
  refine congrArg (dvV m c) (funext fun k => Fin.ext ?_)
  fin_cases k
  · show win0_2.index t 0 * 512 + 1 * r.val = 512 * t.val + r.val; rw [(idx2 t).1]; omega
  · show win0_2.index t 1 * 512 + 1 * a.val = a.val; rw [(idx2 t).2]; omega
theorem idx3 : ∀ t : Fin grid0.N, win0_3.index t 0 = t.val ∧ win0_3.index t 1 = 0 := by decide +kernel
theorem b3 (t : Fin cfg0.N) (r : Fin 512) (a : Fin 512) : (iblk m c 3 t : Vec Ideal S512x512 .bf16) (ix2 r a) = dgV m c (ix2 (⟨512 * t.val + r, by have := lt16 t; omega⟩ : Fin 8192) a) := by
  unfold iblk
  rw [View.read_apply]
  refine congrArg (dgV m c) (funext fun k => Fin.ext ?_)
  fin_cases k
  · show win0_3.index t 0 * 512 + 1 * r.val = 512 * t.val + r.val; rw [(idx3 t).1]; omega
  · show win0_3.index t 1 * 512 + 1 * a.val = a.val; rw [(idx3 t).2]; omega
theorem idx4 : ∀ t : Fin grid0.N, win0_4.index t 0 = t.val ∧ win0_4.index t 1 = 0 := by decide +kernel
theorem b4 (t : Fin cfg0.N) (r : Fin 512) (a : Fin 512) : (iblk m c 4 t : Vec Ideal S512x512 .f32) (ix2 r a) = duV m c (ix2 (⟨512 * t.val + r, by have := lt16 t; omega⟩ : Fin 8192) a) := by
  unfold iblk
  rw [View.read_apply]
  refine congrArg (duV m c) (funext fun k => Fin.ext ?_)
  fin_cases k
  · show win0_4.index t 0 * 512 + 1 * r.val = 512 * t.val + r.val; rw [(idx4 t).1]; omega
  · show win0_4.index t 1 * 512 + 1 * a.val = a.val; rw [(idx4 t).2]; omega
theorem idx5 : ∀ t : Fin grid0.N, win0_5.index t 0 = 0 ∧ win0_5.index t 1 = 0 := by decide +kernel
theorem b5 (t : Fin cfg0.N) (r : Fin 2560) (a : Fin 1024) : (iblk m c 5 t : Vec Ideal S2560x1024 .bf16) (ix2 r a) = wV m c (ix2 r a) := by
  unfold iblk
  rw [View.read_apply]
  refine congrArg (wV m c) (funext fun k => Fin.ext ?_)
  fin_cases k
  · show win0_5.index t 0 * 2560 + 1 * r.val = r.val; rw [(idx5 t).1]; omega
  · show win0_5.index t 1 * 1024 + 1 * a.val = a.val; rw [(idx5 t).2]; omega
theorem idx6 : ∀ t : Fin grid0.N, win0_6.index t 0 = t.val ∧ win0_6.index t 1 = 0 := by decide +kernel
theorem b6 (t : Fin cfg0.N) (r : Fin 512) (a : Fin 1024) : (iblk m c 6 t : Vec Ideal S512x1024 .f32) (ix2 r a) = xV m c (ix2 (⟨512 * t.val + r, by have := lt16 t; omega⟩ : Fin 8192) a) := by
  unfold iblk
  rw [View.read_apply]
  refine congrArg (xV m c) (funext fun k => Fin.ext ?_)
  fin_cases k
  · show win0_6.index t 0 * 512 + 1 * r.val = 512 * t.val + r.val; rw [(idx6 t).1]; omega
  · show win0_6.index t 1 * 1024 + 1 * a.val = a.val; rw [(idx6 t).2]; omega
theorem idx7 : ∀ t : Fin grid0.N, win0_7.index t 0 = t.val ∧ win0_7.index t 1 = 0 := by decide +kernel
theorem b7 (t : Fin cfg0.N) (r : Fin 512) (a : Fin 1024) : (iblk m c 7 t : Vec Ideal S512x1024 .f32) (ix2 r a) = dxV m c (ix2 (⟨512 * t.val + r, by have := lt16 t; omega⟩ : Fin 8192) a) := by
  unfold iblk
  rw [View.read_apply]
  refine congrArg (dxV m c) (funext fun k => Fin.ext ?_)
  fin_cases k
  · show win0_7.index t 0 * 512 + 1 * r.val = 512 * t.val + r.val; rw [(idx7 t).1]; omega
  · show win0_7.index t 1 * 1024 + 1 * a.val = a.val; rw [(idx7 t).2]; omega
theorem idx8 : ∀ t : Fin grid0.N, win0_8.index t 0 = 0 ∧ win0_8.index t 1 = 0 := by decide +kernel
theorem b8 (t : Fin cfg0.N) (r : Fin 1) (a : Fin 1024) : (iblk m c 8 t : Vec Ideal S1x1024 .f32) (ix2 r a) = gV m c (ix2 r a) := by
  unfold iblk
  rw [View.read_apply]
  refine congrArg (gV m c) (funext fun k => Fin.ext ?_)
  fin_cases k
  · show win0_8.index t 0 * 1 + 1 * r.val = r.val; rw [(idx8 t).1]; omega
  · show win0_8.index t 1 * 1024 + 1 * a.val = a.val; rw [(idx8 t).2]; omega

/-! ## One grid point -/

/-- Row `r` of half `k`, and row `r` of the weights of projection `j`. -/
def row (k : Fin 2) (r : Fin 256) : Fin 512 := ⟨256 * k.val + r.val, by omega⟩
def wrow (j : Fin 5) (r : Fin 512) : Fin 2560 := ⟨512 * j.val + r.val, by omega⟩

theorem ld_p (x : FVec Ideal S512x512 .bf16) (k : Fin 2) (r : Fin 256) (j : Fin 512) :
    (View.ld (Val := Elt Ideal) (e' := .bf16) x (hp k) : FVec Ideal S256x512 .bf16) (ix2 r j) = x (ix2 (row k r) j) :=
  congrArg x (funext fun a => Fin.ext (by
    fin_cases a
    · show 256 * k.val + 1 * r.val = 256 * k.val + r.val; omega
    · show 0 + 1 * j.val = j.val; omega))
theorem ld_q (x : FVec Ideal S512x512 .f32) (k : Fin 2) (r : Fin 256) (j : Fin 512) :
    (View.ld (Val := Elt Ideal) (e' := .f32) x (hp k) : FVec Ideal S256x512 .f32) (ix2 r j) = x (ix2 (row k r) j) :=
  congrArg x (funext fun a => Fin.ext (by
    fin_cases a
    · show 256 * k.val + 1 * r.val = 256 * k.val + r.val; omega
    · show 0 + 1 * j.val = j.val; omega))
theorem ld_r (x : FVec Ideal S512x1024 .f32) (k : Fin 2) (r : Fin 256) (j : Fin 1024) :
    (View.ld (Val := Elt Ideal) (e' := .f32) x (hr k) : FVec Ideal S256x1024 .f32) (ix2 r j) = x (ix2 (row k r) j) :=
  congrArg x (funext fun a => Fin.ext (by
    fin_cases a
    · show 256 * k.val + 1 * r.val = 256 * k.val + r.val; omega
    · show 0 + 1 * j.val = j.val; omega))
theorem ld_w (x : FVec Ideal S2560x1024 .bf16) (k : Fin 5) (r : Fin 512) (j : Fin 1024) :
    (View.ld (Val := Elt Ideal) (e' := .bf16) x (wq k) : FVec Ideal S512x1024 .bf16) (ix2 r j) = x (ix2 (wrow k r) j) :=
  congrArg x (funext fun a => Fin.ext (by
    fin_cases a
    · show 512 * k.val + 1 * r.val = 512 * k.val + r.val; omega
    · show 0 + 1 * j.val = j.val; omega))

/-- The rows of half `k`. -/
abbrev lr (x : FVec Ideal S512x1024 .f32) (k : Fin 2) : FVec Ideal S256x1024 .f32 := View.ld (Val := Elt Ideal) (e' := .f32) x (hr k)

section
variable (x0 x1 x2 x3 : FVec Ideal S512x512 .bf16) (x4 : FVec Ideal S512x512 .f32) (x5 : FVec Ideal S2560x1024 .bf16) (x6 x7 : FVec Ideal S512x1024 .f32) (x8 : FVec Ideal S1x1024 .f32)

/-- The gradient of the normalised input at row `s`. -/
def dh (s : Fin 512) (b : Fin 1024) : EReal :=
  ∑ r, x0 (ix2 s r) * x5 (ix2 (wrow 0 r) b) + ∑ r, x1 (ix2 s r) * x5 (ix2 (wrow 1 r) b) + ∑ r, x2 (ix2 s r) * x5 (ix2 (wrow 2 r) b)
    + ∑ r, x3 (ix2 s r) * x5 (ix2 (wrow 3 r) b) + ∑ r, x4 (ix2 s r) * x5 (ix2 (wrow 4 r) b)

theorem pay5_at (p0 p1 p2 p3 : FVec Ideal S256x512 .bf16) (w0 w1 w2 w3 : FVec Ideal S512x1024 .bf16) (r : Fin 256) (b : Fin 1024) :
    (k0_pay5 p0 w0 p1 w1 p2 w2 p3 w3 : FVec Ideal S256x1024 .f32) (ix2 r b)
      = ∑ j, p0 (ix2 r j) * w0 (ix2 j b) + ∑ j, p1 (ix2 r j) * w1 (ix2 j b) + ∑ j, p2 (ix2 r j) * w2 (ix2 j b) + ∑ j, p3 (ix2 r j) * w3 (ix2 j b) := by
  pointwise [k0_pay5]
theorem pay6_at (p : FVec Ideal S256x512 .f32) (w : FVec Ideal S512x1024 .bf16) (r : Fin 256) (b : Fin 1024) :
    (k0_pay6 p w : FVec Ideal S256x1024 .f32) (ix2 r b) = ∑ j, p (ix2 r j) * w (ix2 j b) := by
  pointwise [k0_pay6]
theorem pay11_at (p0 p1 p2 p3 : FVec Ideal S256x512 .bf16) (p4 : FVec Ideal S256x512 .f32) (w0 w1 w2 w3 w4 : FVec Ideal S512x1024 .bf16) (r : Fin 256) (b : Fin 1024) :
    (k0_pay11 p0 w0 p1 w1 p2 w2 p3 w3 p4 w4 : FVec Ideal S256x1024 .f32) (ix2 r b)
      = ∑ j, p0 (ix2 r j) * w0 (ix2 j b) + ∑ j, p1 (ix2 r j) * w1 (ix2 j b) + ∑ j, p2 (ix2 r j) * w2 (ix2 j b) + ∑ j, p3 (ix2 r j) * w3 (ix2 j b)
        + ∑ j, p4 (ix2 r j) * w4 (ix2 j b) := by
  pointwise [k0_pay11]
theorem pay9_at (u v x dx : FVec Ideal S256x1024 .f32) (g : FVec Ideal S1x1024 .f32) (r : Fin 256) (b : Fin 1024) :
    (k0_pay9 u v x g dx : FVec Ideal S256x1024 .f32) (ix2 r b)
      = Rms.grad (fun k => u (ix2 r k) + v (ix2 r k)) (fun k => x (ix2 r k)) (fun k => dx (ix2 r k)) (fun k => g (ix2 0 k)) b := by
  unfold Rms.grad Rms.var
  pointwise [k0_pay9, k0_pay8, k0_pay7]
theorem pay2_at (u x dx : FVec Ideal S256x1024 .f32) (g : FVec Ideal S1x1024 .f32) (r : Fin 256) (b : Fin 1024) :
    (k0_pay2 u x g (k0_pay12 x) dx : FVec Ideal S256x1024 .f32) (ix2 r b)
      = Rms.grad (fun k => u (ix2 r k)) (fun k => x (ix2 r k)) (fun k => dx (ix2 r k)) (fun k => g (ix2 0 k)) b := by
  unfold Rms.grad Rms.var
  pointwise [k0_pay2, k0_pay1, k0_pay12]
theorem pay10_at (u v x : FVec Ideal S256x1024 .f32) (z : FVec Ideal S1x1024 .f32) (b : Fin 1024) :
    (k0_pay10 u v x z : FVec Ideal S1x1024 .f32) (ix2 0 b)
      = z (ix2 0 b) + ∑ r : Fin 256, (u (ix2 r b) + v (ix2 r b)) * x (ix2 r b) * Ideal.rsqrt (Rms.var fun k => x (ix2 r k)) := by
  unfold Rms.var
  pointwise [k0_pay10, k0_pay8, k0_pay7]
theorem pay3_at (u x : FVec Ideal S256x1024 .f32) (z : FVec Ideal S1x1024 .f32) (b : Fin 1024) :
    (k0_pay3 u x (k0_pay12 x) z : FVec Ideal S1x1024 .f32) (ix2 0 b)
      = z (ix2 0 b) + ∑ r : Fin 256, u (ix2 r b) * x (ix2 r b) * Ideal.rsqrt (Rms.var fun k => x (ix2 r k)) := by
  unfold Rms.var
  pointwise [k0_pay3, k0_pay1, k0_pay12]
theorem pay4_at (b : Fin 1024) : (k0_pay4 : FVec Ideal S1x1024 .f32) (ix2 0 b) = 0 := by
  pointwise [k0_pay4]

theorem first_at (r : Fin 256) (b : Fin 1024) : four x0 x1 x2 x3 x5 (ix2 r b) + fifth x4 x5 (ix2 r b) = dh x0 x1 x2 x3 x4 x5 (row 0 r) b := by
  unfold dh
  refine (congrArg₂ (· + ·) (pay5_at _ _ _ _ _ _ _ _ r b) (pay6_at _ _ r b)).trans ?_
  refine congrArg₂ (· + ·) (congrArg₂ (· + ·) (congrArg₂ (· + ·) (congrArg₂ (· + ·) ?_ ?_) ?_) ?_) ?_
  · exact Finset.sum_congr rfl fun j _ => congrArg₂ (· * ·) (ld_p x0 0 r j) (ld_w x5 0 j b)
  · exact Finset.sum_congr rfl fun j _ => congrArg₂ (· * ·) (ld_p x1 0 r j) (ld_w x5 1 j b)
  · exact Finset.sum_congr rfl fun j _ => congrArg₂ (· * ·) (ld_p x2 0 r j) (ld_w x5 2 j b)
  · exact Finset.sum_congr rfl fun j _ => congrArg₂ (· * ·) (ld_p x3 0 r j) (ld_w x5 3 j b)
  · exact Finset.sum_congr rfl fun j _ => congrArg₂ (· * ·) (ld_q x4 0 r j) (ld_w x5 4 j b)
theorem second_at (r : Fin 256) (b : Fin 1024) : five x0 x1 x2 x3 x4 x5 (ix2 r b) = dh x0 x1 x2 x3 x4 x5 (row 1 r) b := by
  unfold dh
  refine (pay11_at _ _ _ _ _ _ _ _ _ _ r b).trans ?_
  refine congrArg₂ (· + ·) (congrArg₂ (· + ·) (congrArg₂ (· + ·) (congrArg₂ (· + ·) ?_ ?_) ?_) ?_) ?_
  · exact Finset.sum_congr rfl fun j _ => congrArg₂ (· * ·) (ld_p x0 1 r j) (ld_w x5 0 j b)
  · exact Finset.sum_congr rfl fun j _ => congrArg₂ (· * ·) (ld_p x1 1 r j) (ld_w x5 1 j b)
  · exact Finset.sum_congr rfl fun j _ => congrArg₂ (· * ·) (ld_p x2 1 r j) (ld_w x5 2 j b)
  · exact Finset.sum_congr rfl fun j _ => congrArg₂ (· * ·) (ld_p x3 1 r j) (ld_w x5 3 j b)
  · exact Finset.sum_congr rfl fun j _ => congrArg₂ (· * ·) (ld_q x4 1 r j) (ld_w x5 4 j b)

/-- The gradient of the input at row `s`. -/
def gx (s : Fin 512) (b : Fin 1024) : EReal :=
  Rms.grad (dh x0 x1 x2 x3 x4 x5 s) (fun k => x6 (ix2 s k)) (fun k => x7 (ix2 s k)) (fun k => x8 (ix2 0 k)) b
/-- A row's term of the gradient of the scale. -/
def gs (s : Fin 512) (b : Fin 1024) : EReal := dh x0 x1 x2 x3 x4 x5 s b * x6 (ix2 s b) * Ideal.rsqrt (Rms.var fun k => x6 (ix2 s k))

theorem emb_r (k : Fin 2) (r : Fin 256) (b : Fin 1024) : (hr k).emb (ix2 r b) = (ix2 (row k r) b : S512x1024.Idx) :=
  funext fun a => Fin.ext (by
    fin_cases a
    · show 256 * k.val + 1 * r.val = 256 * k.val + r.val; omega
    · show 0 + 1 * b.val = b.val; omega)

theorem at_1 (r : Fin 256) (b : Fin 1024) :
    (k0_pay2 (five x0 x1 x2 x3 x4 x5) (lr x6 1) x8 (k0_pay12 (lr x6 1)) (lr x7 1) : FVec Ideal S256x1024 .f32) (ix2 r b)
      = gx x0 x1 x2 x3 x4 x5 x6 x7 x8 (row 1 r) b :=
  (pay2_at (five x0 x1 x2 x3 x4 x5) (lr x6 1) (lr x7 1) x8 r b).trans
    (Rms.grad_congr (fun k => second_at x0 x1 x2 x3 x4 x5 r k) (fun k => ld_r x6 1 r k) (fun k => ld_r x7 1 r k) b)
theorem at_0 (r : Fin 256) (b : Fin 1024) :
    (k0_pay9 (four x0 x1 x2 x3 x5) (fifth x4 x5) (lr x6 0) x8 (lr x7 0) : FVec Ideal S256x1024 .f32) (ix2 r b)
      = gx x0 x1 x2 x3 x4 x5 x6 x7 x8 (row 0 r) b :=
  (pay9_at (four x0 x1 x2 x3 x5) (fifth x4 x5) (lr x6 0) (lr x7 0) x8 r b).trans
    (Rms.grad_congr (fun k => first_at x0 x1 x2 x3 x4 x5 r k) (fun k => ld_r x6 0 r k) (fun k => ld_r x7 0 r k) b)

def gxA (y : S512x1024.Idx) : Elt Ideal .f32 := gx x0 x1 x2 x3 x4 x5 x6 x7 x8 (y 0) (y 1)

theorem two_at (L : List (View.Piece (Elt Ideal) S512x1024 .f32)) (y : S512x1024.Idx) :
    View.canon (two x0 x1 x2 x3 x4 x5 x6 x7 x8 ++ L) y = gx x0 x1 x2 x3 x4 x5 x6 x7 x8 (y 0) (y 1) := by
  refine (View.canon_append_of_pieces (Val := Elt Ideal) (e := .f32) (gxA x0 x1 x2 x3 x4 x5 x6 x7 x8) L (two x0 x1 x2 x3 x4 x5 x6 x7 x8) ?_ y ?_ : _ = gxA x0 x1 x2 x3 x4 x5 x6 x7 x8 y)
  · unfold two
    simp only [List.forall_mem_cons]
    refine ⟨fun q => ?_, fun q => ?_, fun _ h => absurd h List.not_mem_nil⟩
    all_goals
      obtain ⟨r, b, rfl⟩ : ∃ (r : Fin 256) (b : Fin 1024), q = ix2 r b := ⟨q 0, q 1, funext fun a => by fin_cases a <;> rfl⟩
    · refine Eq.trans ?_ (congrArg (gxA x0 x1 x2 x3 x4 x5 x6 x7 x8) (emb_r 1 r b)).symm
      exact at_1 x0 x1 x2 x3 x4 x5 x6 x7 x8 r b
    · refine Eq.trans ?_ (congrArg (gxA x0 x1 x2 x3 x4 x5 x6 x7 x8) (emb_r 0 r b)).symm
      exact at_0 x0 x1 x2 x3 x4 x5 x6 x7 x8 r b
  · have h0 : (y 0).val < 512 := (y 0).2
    have h1 : (y 1).val < 1024 := (y 1).2
    have hm : ∀ k : Fin 2, ∃ p ∈ two x0 x1 x2 x3 x4 x5 x6 x7 x8, p.1 = hr k := fun k => by
      unfold two; fin_cases k <;> simp
    obtain ⟨p, hp, e⟩ := hm ⟨(y 0).val / 256, by omega⟩
    refine ⟨p, hp, ?_⟩
    rw [e]
    refine (Rect.mem_set_unit (inb := in_hr _)).mpr fun a => ?_
    fin_cases a
    · show 256 * ((y 0).val / 256) ≤ (y 0).val ∧ (y 0).val < 256 * ((y 0).val / 256) + 256; omega
    · show 0 ≤ (y 1).val ∧ (y 1).val < 0 + 1024; omega

theorem scale_at (z : FVec Ideal S1x1024 .f32) (b : Fin 1024) :
    scale x0 x1 x2 x3 x4 x5 x6 z (ix2 0 b) = z (ix2 0 b) + ∑ r, gs x0 x1 x2 x3 x4 x5 x6 (row 0 r) b + ∑ r, gs x0 x1 x2 x3 x4 x5 x6 (row 1 r) b := by
  refine (pay3_at (five x0 x1 x2 x3 x4 x5) (lr x6 1) (k0_pay10 (four x0 x1 x2 x3 x5) (fifth x4 x5) (lr x6 0) z) b).trans (congrArg₂ (· + ·) ?_ ?_)
  · refine (pay10_at (four x0 x1 x2 x3 x5) (fifth x4 x5) (lr x6 0) z b).trans (congrArg (z (ix2 0 b) + ·) (Finset.sum_congr rfl fun r _ => ?_))
    exact congrArg₂ (· * ·) (congrArg₂ (· * ·) (first_at x0 x1 x2 x3 x4 x5 r b) (ld_r x6 0 r b)) (congrArg (fun v => Ideal.rsqrt (Rms.var v)) (funext fun k => ld_r x6 0 r k))
  · refine Finset.sum_congr rfl fun r _ => ?_
    exact congrArg₂ (· * ·) (congrArg₂ (· * ·) (second_at x0 x1 x2 x3 x4 x5 r b) (ld_r x6 1 r b)) (congrArg (fun v => Ideal.rsqrt (Rms.var v)) (funext fun k => ld_r x6 1 r k))
end

/-! ## The arrays -/

/-- The gradient of the normalised input, at token `x`. -/
def dhV (x : Fin 8192) (b : Fin 1024) : EReal :=
  ∑ r, pV m c 0 x r * wV m c (ix2 (wrow 0 r) b) + ∑ r, pV m c 1 x r * wV m c (ix2 (wrow 1 r) b) + ∑ r, pV m c 2 x r * wV m c (ix2 (wrow 2 r) b)
    + ∑ r, pV m c 3 x r * wV m c (ix2 (wrow 3 r) b) + ∑ r, pV m c 4 x r * wV m c (ix2 (wrow 4 r) b)
/-- Row `s` of block `t`. -/
def tok (t : Fin cfg0.N) (s : Fin 512) : Fin 8192 := ⟨512 * t.val + s, by have := lt16 t; omega⟩

theorem dh_at (t : Fin cfg0.N) (s : Fin 512) (b : Fin 1024) :
    dh (iblk m c 0 t) (iblk m c 1 t) (iblk m c 2 t) (iblk m c 3 t) (iblk m c 4 t) (iblk m c 5 t) s b = dhV m c (tok t s) b := by
  unfold dh dhV
  refine congrArg₂ (· + ·) (congrArg₂ (· + ·) (congrArg₂ (· + ·) (congrArg₂ (· + ·) ?_ ?_) ?_) ?_) ?_
  · exact Finset.sum_congr rfl fun r _ => congrArg₂ (· * ·) (b0 m c t s r) (b5 m c t _ b)
  · exact Finset.sum_congr rfl fun r _ => congrArg₂ (· * ·) (b1 m c t s r) (b5 m c t _ b)
  · exact Finset.sum_congr rfl fun r _ => congrArg₂ (· * ·) (b2 m c t s r) (b5 m c t _ b)
  · exact Finset.sum_congr rfl fun r _ => congrArg₂ (· * ·) (b3 m c t s r) (b5 m c t _ b)
  · exact Finset.sum_congr rfl fun r _ => congrArg₂ (· * ·) (b4 m c t s r) (b5 m c t _ b)

/-- The gradient of the input. -/
def gxV : FVec Ideal S8192x1024 .f32 := fun y =>
  Rms.grad (dhV m c (y 0)) (fun k => xV m c (ix2 (y 0 : Fin 8192) k)) (fun k => dxV m c (ix2 (y 0 : Fin 8192) k)) (fun k => gV m c (ix2 0 k)) (y 1)
/-- A token's term of the gradient of the scale. -/
def gsV (b : Fin 1024) (x : Fin 8192) : EReal := dhV m c x b * xV m c (ix2 x b) * Ideal.rsqrt (Rms.var fun k => xV m c (ix2 x k))

theorem gx_at (t : Fin cfg0.N) (s : Fin 512) (b : Fin 1024) :
    gx (iblk m c 0 t) (iblk m c 1 t) (iblk m c 2 t) (iblk m c 3 t) (iblk m c 4 t) (iblk m c 5 t) (iblk m c 6 t) (iblk m c 7 t) (iblk m c 8 t) s b = gxV m c (ix2 (tok t s) b) := by
  unfold gx gxV
  rw [show dh (iblk m c 0 t) (iblk m c 1 t) (iblk m c 2 t) (iblk m c 3 t) (iblk m c 4 t) (iblk m c 5 t) s = dhV m c (tok t s) from funext fun b => dh_at m c t s b,
    show (fun k => (iblk m c 6 t : FVec Ideal S512x1024 .f32) (ix2 s k)) = fun k => xV m c (ix2 (tok t s) k) from funext fun k => b6 m c t s k,
    show (fun k => (iblk m c 7 t : FVec Ideal S512x1024 .f32) (ix2 s k)) = fun k => dxV m c (ix2 (tok t s) k) from funext fun k => b7 m c t s k,
    show (fun k => (iblk m c 8 t : FVec Ideal S1x1024 .f32) (ix2 0 k)) = fun k => gV m c (ix2 0 k) from funext fun k => b8 m c t 0 k]
  rfl
theorem gs_at (t : Fin cfg0.N) (s : Fin 512) (b : Fin 1024) :
    gs (iblk m c 0 t) (iblk m c 1 t) (iblk m c 2 t) (iblk m c 3 t) (iblk m c 4 t) (iblk m c 5 t) (iblk m c 6 t) s b = gsV m c b (tok t s) := by
  unfold gs gsV
  rw [dh_at,
    show (fun k => (iblk m c 6 t : FVec Ideal S512x1024 .f32) (ix2 s k)) = fun k => xV m c (ix2 (tok t s) k) from funext fun k => b6 m c t s k]
  exact congrArg (fun v => dhV m c (tok t s) b * v * Ideal.rsqrt (Rms.var fun k => xV m c (ix2 (tok t s) k))) (b6 m c t s b)

/-- What a point writes of the gradient of the input. -/
theorem out9_eq (t : Fin cfg0.N) (y : S512x1024.Idx) : ((outsAt0 m c t.val t.isLt).1 : FVec Ideal S512x1024 .f32) y = gxV m c (ix2 (tok t (y 0)) (y 1 : Fin 1024)) := by
  by_cases h0 : t.val % 16 = 0
  · have e := congrArg (fun p : Vec Ideal S512x1024 .f32 × Vec Ideal S1x1024 .f32 => p.1) (outsAt0_A m c t h0)
    dsimp only at e
    exact (congrFun (e.trans (out0_A_9_eq ..)) y).trans (((congrArg (fun L => View.canon L y) (List.append_nil _).symm).trans (two_at _ _ _ _ _ _ _ _ _ [] y)).trans (gx_at m c t (y 0) (y 1)))
  · have e := congrArg (fun p : Vec Ideal S512x1024 .f32 × Vec Ideal S1x1024 .f32 => p.1) (outsAt0_B m c t h0)
    dsimp only at e
    exact (congrFun (e.trans (out0_B_9_eq ..)) y).trans (((congrArg (fun L => View.canon L y) (List.append_nil _).symm).trans (two_at _ _ _ _ _ _ _ _ _ [] y)).trans (gx_at m c t (y 0) (y 1)))

/-- What is accumulated once point `n` is done: the sum over the tokens up to its block's end. -/
def accAt (n : ℕ) (b : Fin 1024) : EReal := Tok.upTo (gsV m c b) (512 * n + 256 + 256)

/-- The contents of the accumulator after point `t`, over `z`. -/
abbrev nextAt (t : Fin cfg0.N) (z : FVec Ideal S1x1024 .f32) (b : Fin 1024) : EReal :=
  scale (iblk m c 0 t) (iblk m c 1 t) (iblk m c 2 t) (iblk m c 3 t) (iblk m c 4 t) (iblk m c 5 t) (iblk m c 6 t) z (ix2 0 b)

theorem step (t : Fin cfg0.N) (z : FVec Ideal S1x1024 .f32) (b : Fin 1024) (hzz : z (ix2 0 b) = Tok.upTo (gsV m c b) (512 * t.val)) :
    nextAt m c t z b = accAt m c t.val b := by
  have hl := lt16 t
  unfold nextAt accAt
  rw [scale_at, hzz, Tok.upTo_block (gsV m c b) (512 * t.val) 256 _ (by omega) fun i => ?_, Tok.upTo_block (gsV m c b) (512 * t.val + 256) 256 _ (by omega) fun i => ?_]
  · exact (gs_at m c t _ b).trans (congrArg (gsV m c b) (Fin.ext (by show 512 * t.val + (256 * 1 + i.val) = 512 * t.val + 256 + i.val; omega)))
  · exact (gs_at m c t _ b).trans (congrArg (gsV m c b) (Fin.ext (by show 512 * t.val + (256 * 0 + i.val) = 512 * t.val + i.val; omega)))

/-- What the accumulator holds after every point. -/
theorem acc_eq : ∀ (n : ℕ) (h : n < cfg0.N) (b : Fin 1024), ((outsAt0 m c n h).2 : FVec Ideal S1x1024 .f32) (ix2 0 b) = accAt m c n b
  | 0, h, b => by
    have e := congrArg (fun p : Vec Ideal S512x1024 .f32 × Vec Ideal S1x1024 .f32 => p.2) (outsAt0_A m c ⟨0, h⟩ rfl)
    dsimp only at e
    exact (congrFun (e.trans (out0_A_10_eq ..)) (ix2 0 b)).trans (step m c ⟨0, h⟩ _ b ((pay4_at b).trans (Tok.upTo_zero _).symm))
  | n + 1, h, b => by
    have hl := lt16 ⟨n + 1, h⟩
    dsimp only at hl
    have h0 : ¬(n + 1) % 16 = 0 := by omega
    have e := congrArg (fun p : Vec Ideal S512x1024 .f32 × Vec Ideal S1x1024 .f32 => p.2) (outsAt0_B m c ⟨n + 1, h⟩ h0)
    dsimp only at e
    refine (congrFun (e.trans (out0_B_10_eq ..)) (ix2 0 b)).trans (step m c ⟨n + 1, h⟩ _ b ((acc_eq n (Nat.lt_of_succ_lt h) b).trans ?_))
    unfold accAt
    dsimp only
    rw [show 512 * n + 256 + 256 = 512 * (n + 1) by omega]

/-- The gradient of the scale. -/
def gsR : FVec Ideal S1x1024 .f32 := fun y => ∑ x, gsV m c (y 1) x

theorem idx9 : ∀ t : Fin grid0.N, win0_9.index t 0 = t.val ∧ win0_9.index t 1 = 0 := by decide +kernel
theorem emb9 (t : Fin cfg0.N) (y : S512x1024.Idx) : ((cfg0.win 9).blk t).view.emb y = (ix2 (tok t (y 0)) (y 1 : Fin 1024) : S8192x1024.Idx) := by
  refine funext fun k => Fin.ext ?_
  fin_cases k
  · show win0_9.index t 0 * 512 + 1 * (y 0).val = 512 * t.val + (y 0).val; rw [(idx9 t).1]; omega
  · show win0_9.index t 1 * 1024 + 1 * (y 1).val = (y 1).val; rw [(idx9 t).2]; omega
theorem flushed9 (t : Fin cfg0.N) : (dats m 0 c).flushed 9 t = ((cfg0.win 9).blk t).view.read (Elt Ideal) (gxV m c) := by
  rw [Value.flushed9]
  funext y
  rw [View.read_apply]
  refine Eq.trans ?_ (congrArg (gxV m c) (emb9 t y)).symm
  exact out9_eq m c t y
theorem result9 : (dats m 0 c).arrAt 9 cfg0.N = gxV m c := by
  refine (dats m 0 c).arrAt_eq_of_cover 9 (gxV m c) (fun t _ => flushed9 m c t) fun y => ?_
  have hy0 : (y 0).val < 8192 := (y 0).2
  have hy1 : (y 1).val < 1024 := (y 1).2
  refine ⟨⟨(y 0).val / 512, lt_of_lt_of_eq (by omega) N_0.symm⟩, flush0_9 _, ?_⟩
  refine Finset.mem_map.mpr ⟨(ix2 (⟨(y 0).val % 512, by omega⟩ : Fin 512) (⟨(y 1).val, hy1⟩ : Fin 1024) : S512x1024.Idx), Finset.mem_univ _, ?_⟩
  refine (emb9 _ _).trans (funext fun k => Fin.ext ?_)
  fin_cases k
  · show 512 * ((y 0).val / 512) + (y 0).val % 512 = (y 0).val; omega
  · rfl

theorem idx10 : ∀ t : Fin grid0.N, win0_10.index t 0 = 0 ∧ win0_10.index t 1 = 0 := by decide +kernel
theorem emb10 (t : Fin cfg0.N) (y : S1x1024.Idx) : ((cfg0.win 10).blk t).view.emb y = y := by
  refine funext fun k => Fin.ext ?_
  fin_cases k
  · show win0_10.index t 0 * 1 + 1 * (y 0).val = (y 0).val; rw [(idx10 t).1]; omega
  · show win0_10.index t 1 * 1024 + 1 * (y 1).val = (y 1).val; rw [(idx10 t).2]; omega
theorem flushed10 (t : Fin cfg0.N) (h : (cfg0.win 10).flush t = true) : (dats m 0 c).flushed 10 t = ((cfg0.win 10).blk t).view.read (Elt Ideal) (gsR m c) := by
  rw [Value.flushed10]
  funext y
  rw [View.read_apply]
  refine Eq.trans ?_ (congrArg (gsR m c) (emb10 t y)).symm
  obtain ⟨b, rfl⟩ : ∃ b : Fin 1024, y = ix2 0 b := ⟨y 1, funext fun a => by
    fin_cases a
    · exact Fin.ext (by show (y 0).val = 0; have : (y 0).val < 1 := (y 0).2; omega)
    · rfl⟩
  refine (acc_eq m c t.val t.isLt b).trans ?_
  have ht := (flush0_10 t).mp h
  have hl := lt16 t
  unfold accAt
  rw [show 512 * t.val + 256 + 256 = 8192 by omega, Tok.upTo_all]
  rfl
theorem result10 : (dats m 0 c).arrAt 10 cfg0.N = gsR m c := by
  refine (dats m 0 c).arrAt_eq_of_cover 10 (gsR m c) (fun t h => flushed10 m c t h) fun y => ?_
  have h15 : 15 < cfg0.N := lt_of_lt_of_eq (by decide) N_0.symm
  refine ⟨⟨15, h15⟩, (flush0_10 ⟨15, h15⟩).mpr rfl, ?_⟩
  exact Finset.mem_map.mpr ⟨y, Finset.mem_univ _, emb10 ⟨15, h15⟩ y⟩

end Cert.Kernel6Ideal.Val

end
-- ==== Proof.IbSame.lean ====
/- The gradients of the input of the projections and of the scale before them: both programs end with the same arrays. -/
module

public import proofs.«01_k».proof.Proof.IbVal
public import proofs.«01_k».proof.Proof.Gen.Reference6Ideal.Run
public import proofs.«01_k».proof.Defs
public import Idealize.ShloMosaic.Lib.Quiescent

@[expose] public section

set_option maxRecDepth 16384

noncomputable section

namespace Cert.Same6

open Idealize.ShloMosaic Idealize.ShloMosaic.TcCoe Idealize.ShloMosaic.StableHlo Idealize.SL.Sem

section
open Cert.Reference6Ideal Cert.Reference6Ideal.Gen
/-- The reference's gradients: of the normalised input, and, over it, of the input and of the scale. -/
def refDh (x2 : FVec Ideal S1024x2560 .f32) (x4 x5 x6 x7 x8 : FVec Ideal S8192x512 .f32) : FVec Ideal S8192x1024 .f32 := Host.dotGeneral dot_S8192x2560_S1024x2560_S8192x1024_1_1_0_0_n_n none ((concatenate S8192x2560 1 [⟨S8192x512, (x4 : (⟨S8192x512, .f32⟩ : BufTy).Contents (Elt Ideal))⟩, ⟨S8192x512, (x5 : (⟨S8192x512, .f32⟩ : BufTy).Contents (Elt Ideal))⟩, ⟨S8192x512, (x6 : (⟨S8192x512, .f32⟩ : BufTy).Contents (Elt Ideal))⟩, ⟨S8192x512, (x7 : (⟨S8192x512, .f32⟩ : BufTy).Contents (Elt Ideal))⟩, ⟨S8192x512, (x8 : (⟨S8192x512, .f32⟩ : BufTy).Contents (Elt Ideal))⟩] concatenates_S8192x512_S8192x512_S8192x512_S8192x512_S8192x512_S8192x2560_d1 : FVec Ideal S8192x2560 .f32)) x2
def refGx (dh x0 : FVec Ideal S8192x1024 .f32) (x1 : FVec Ideal S1x1024 .f32) (x3 : FVec Ideal S8192x1024 .f32) : FVec Ideal S8192x1024 .f32 := addf (addf (addf x3 (mulf (mulf dh (broadcastInDim S8192x1024 ![0, 1] bcast_S1x1024_S8192x1024_0_1 (broadcastInDim S1x1024 ![1] bcast_S1024_S1x1024_1 (shapeCast _ x1 shapeCasts_S1x1024_S1024)))) (broadcastInDim S8192x1024 ![0, 1] bcast_S8192x1_S8192x1024_0_1 (Host.rsqrt (addf (Host.divf (broadcastInDim S8192x1 ![0] bcast_S8192_S8192x1_0 (Host.reduceAdd (mulf x0 x0) (constant (F := Ideal) S_ .f32 0x00000000#32) reducesTo_S8192x1024_S8192_d1 h_S_)) (broadcastInDim S8192x1 ![] bcast_S_S8192x1 (constant (F := Ideal) S_ .f32 0x44800000#32))) (broadcastInDim S8192x1 ![] bcast_S_S8192x1 (constant (F := Ideal) S_ .f32 0x358637BD#32))))))) (mulf x0 (broadcastInDim S8192x1024 ![0] bcast_S8192_S8192x1024_0 (Host.reduceAdd (Host.divf (mulf (shapeCast _ (Host.reduceAdd (mulf x0 (mulf dh (broadcastInDim S8192x1024 ![0, 1] bcast_S1x1024_S8192x1024_0_1 (broadcastInDim S1x1024 ![1] bcast_S1024_S1x1024_1 (shapeCast _ x1 shapeCasts_S1x1024_S1024))))) (constant (F := Ideal) S_ .f32 0x00000000#32) reducesTo_S8192x1024_S8192_d1 h_S_) shapeCasts_S8192_S8192x1) (mulf (broadcastInDim S8192x1 ![] bcast_S_S8192x1 (constant (F := Ideal) S_ .f32 0xBF000000#32)) (Host.divf (Host.rsqrt (addf (Host.divf (broadcastInDim S8192x1 ![0] bcast_S8192_S8192x1_0 (Host.reduceAdd (mulf x0 x0) (constant (F := Ideal) S_ .f32 0x00000000#32) reducesTo_S8192x1024_S8192_d1 h_S_)) (broadcastInDim S8192x1 ![] bcast_S_S8192x1 (constant (F := Ideal) S_ .f32 0x44800000#32))) (broadcastInDim S8192x1 ![] bcast_S_S8192x1 (constant (F := Ideal) S_ .f32 0x358637BD#32)))) (addf (Host.divf (broadcastInDim S8192x1 ![0] bcast_S8192_S8192x1_0 (Host.reduceAdd (mulf x0 x0) (constant (F := Ideal) S_ .f32 0x00000000#32) reducesTo_S8192x1024_S8192_d1 h_S_)) (broadcastInDim S8192x1 ![] bcast_S_S8192x1 (constant (F := Ideal) S_ .f32 0x44800000#32))) (broadcastInDim S8192x1 ![] bcast_S_S8192x1 (constant (F := Ideal) S_ .f32 0x358637BD#32)))))) (broadcastInDim S8192x1 ![] bcast_S_S8192x1 (constant (F := Ideal) S_ .f32 0x44800000#32))) (constant (F := Ideal) S_ .f32 0x00000000#32) reducesTo_S8192x1_S8192_d1 h_S_)))) (mulf (broadcastInDim S8192x1024 ![0] bcast_S8192_S8192x1024_0 (Host.reduceAdd (Host.divf (mulf (shapeCast _ (Host.reduceAdd (mulf x0 (mulf dh (broadcastInDim S8192x1024 ![0, 1] bcast_S1x1024_S8192x1024_0_1 (broadcastInDim S1x1024 ![1] bcast_S1024_S1x1024_1 (shapeCast _ x1 shapeCasts_S1x1024_S1024))))) (constant (F := Ideal) S_ .f32 0x00000000#32) reducesTo_S8192x1024_S8192_d1 h_S_) shapeCasts_S8192_S8192x1) (mulf (broadcastInDim S8192x1 ![] bcast_S_S8192x1 (constant (F := Ideal) S_ .f32 0xBF000000#32)) (Host.divf (Host.rsqrt (addf (Host.divf (broadcastInDim S8192x1 ![0] bcast_S8192_S8192x1_0 (Host.reduceAdd (mulf x0 x0) (constant (F := Ideal) S_ .f32 0x00000000#32) reducesTo_S8192x1024_S8192_d1 h_S_)) (broadcastInDim S8192x1 ![] bcast_S_S8192x1 (constant (F := Ideal) S_ .f32 0x44800000#32))) (broadcastInDim S8192x1 ![] bcast_S_S8192x1 (constant (F := Ideal) S_ .f32 0x358637BD#32)))) (addf (Host.divf (broadcastInDim S8192x1 ![0] bcast_S8192_S8192x1_0 (Host.reduceAdd (mulf x0 x0) (constant (F := Ideal) S_ .f32 0x00000000#32) reducesTo_S8192x1024_S8192_d1 h_S_)) (broadcastInDim S8192x1 ![] bcast_S_S8192x1 (constant (F := Ideal) S_ .f32 0x44800000#32))) (broadcastInDim S8192x1 ![] bcast_S_S8192x1 (constant (F := Ideal) S_ .f32 0x358637BD#32)))))) (broadcastInDim S8192x1 ![] bcast_S_S8192x1 (constant (F := Ideal) S_ .f32 0x44800000#32))) (constant (F := Ideal) S_ .f32 0x00000000#32) reducesTo_S8192x1_S8192_d1 h_S_)) x0)
def refGs (dh x0 : FVec Ideal S8192x1024 .f32) : FVec Ideal S1x1024 .f32 := broadcastInDim S1x1024 ![1] bcast_S1024_S1x1024_1 (Host.reduceAdd (shapeCast _ (Host.reduceAdd (mulf (mulf x0 (broadcastInDim S8192x1024 ![0, 1] bcast_S8192x1_S8192x1024_0_1 (Host.rsqrt (addf (Host.divf (broadcastInDim S8192x1 ![0] bcast_S8192_S8192x1_0 (Host.reduceAdd (mulf x0 x0) (constant (F := Ideal) S_ .f32 0x00000000#32) reducesTo_S8192x1024_S8192_d1 h_S_)) (broadcastInDim S8192x1 ![] bcast_S_S8192x1 (constant (F := Ideal) S_ .f32 0x44800000#32))) (broadcastInDim S8192x1 ![] bcast_S_S8192x1 (constant (F := Ideal) S_ .f32 0x358637BD#32)))))) dh) (constant (F := Ideal) S_ .f32 0x00000000#32) reducesTo_S8192x1024_S1024_d0 h_S_) shapeCasts_S1024_S1x1024) (constant (F := Ideal) S_ .f32 0x00000000#32) reducesTo_S1x1024_S1024_d0 h_S_)
/-- Entry `(x, r)` of block `k` of the columns. -/
def pick (x4 x5 x6 x7 x8 : FVec Ideal S8192x512 .f32) (k : Fin 5) (x : Fin 8192) (r : Fin 512) : EReal := match k with
  | 0 => x4 (ix2 x r) | 1 => x5 (ix2 x r) | 2 => x6 (ix2 x r) | 3 => x7 (ix2 x r) | 4 => x8 (ix2 x r)
/-- A sum over the columns, block by block. -/
theorem five_sums (f : Fin 2560 → EReal) : ∑ s, f s
    = ∑ r : Fin 512, f ⟨512 * 0 + r, by omega⟩ + ∑ r : Fin 512, f ⟨512 * 1 + r, by omega⟩ + ∑ r : Fin 512, f ⟨512 * 2 + r, by omega⟩
      + ∑ r : Fin 512, f ⟨512 * 3 + r, by omega⟩ + ∑ r : Fin 512, f ⟨512 * 4 + r, by omega⟩ := by
  refine (Fin.sum_univ_add (a := 2048) (b := 512) f).trans (congrArg₂ (· + ·) ?_ rfl)
  refine (Fin.sum_univ_add (a := 1536) (b := 512) _).trans (congrArg₂ (· + ·) ?_ rfl)
  refine (Fin.sum_univ_add (a := 1024) (b := 512) _).trans (congrArg₂ (· + ·) ?_ rfl)
  refine (Fin.sum_univ_add (a := 512) (b := 512) _).trans (congrArg₂ (· + ·) ?_ rfl)
  exact Finset.sum_congr rfl fun r _ => congrArg f (Fin.ext (by show r.val = 512 * 0 + r.val; omega))
theorem ref_dh (x2 : FVec Ideal S1024x2560 .f32) (x4 x5 x6 x7 x8 : FVec Ideal S8192x512 .f32) (x : Fin 8192) (b : Fin 1024) :
    refDh x2 x4 x5 x6 x7 x8 (ix2 x b)
      = ∑ r : Fin 512, x4 (ix2 x r) * x2 (ix2 b ⟨512 * 0 + r, by omega⟩) + ∑ r : Fin 512, x5 (ix2 x r) * x2 (ix2 b ⟨512 * 1 + r, by omega⟩)
        + ∑ r : Fin 512, x6 (ix2 x r) * x2 (ix2 b ⟨512 * 2 + r, by omega⟩) + ∑ r : Fin 512, x7 (ix2 x r) * x2 (ix2 b ⟨512 * 3 + r, by omega⟩)
        + ∑ r : Fin 512, x8 (ix2 x r) * x2 (ix2 b ⟨512 * 4 + r, by omega⟩) := by
  pointwise [refDh]
  rw [five_sums]
  refine congrArg₂ (· + ·) (congrArg₂ (· + ·) (congrArg₂ (· + ·) (congrArg₂ (· + ·) ?_ ?_) ?_) ?_) ?_
  all_goals refine Finset.sum_congr rfl fun r _ => congrArg₂ (· * ·) ?_ (congrArg (fun i => x2 (ix2 b i)) (Fin.ext (by dsimp only [Nat.mul_zero]; first | done | omega)))
  · rw [dif_pos (by have := r.2; dsimp only; omega)]
    exact congrArg (fun i => x4 (ix2 x i)) (Fin.ext (by dsimp only; omega))
  · rw [dif_neg (by have := r.2; dsimp only; omega), dif_pos (by have := r.2; dsimp only; omega)]
    exact congrArg (fun i => x5 (ix2 x i)) (Fin.ext (by dsimp only; omega))
  · rw [dif_neg (by have := r.2; dsimp only; omega), dif_neg (by have := r.2; dsimp only; omega), dif_pos (by have := r.2; dsimp only; omega)]
    exact congrArg (fun i => x6 (ix2 x i)) (Fin.ext (by dsimp only; omega))
  · rw [dif_neg (by have := r.2; dsimp only; omega), dif_neg (by have := r.2; dsimp only; omega), dif_neg (by have := r.2; dsimp only; omega), dif_pos (by have := r.2; dsimp only; omega)]
    exact congrArg (fun i => x7 (ix2 x i)) (Fin.ext (by dsimp only; omega))
  · rw [dif_neg (by have := r.2; dsimp only; omega), dif_neg (by have := r.2; dsimp only; omega), dif_neg (by have := r.2; dsimp only; omega), dif_neg (by have := r.2; dsimp only; omega)]
    exact congrArg (fun i => x8 (ix2 x i)) (Fin.ext (by dsimp only; omega))
theorem one_sum (v : EReal) : ∑ _x : Fin 1, v = v := by simp
theorem ref_gx (dh x0 : FVec Ideal S8192x1024 .f32) (x1 : FVec Ideal S1x1024 .f32) (x3 : FVec Ideal S8192x1024 .f32) (x : Fin 8192) (b : Fin 1024) :
    refGx dh x0 x1 x3 (ix2 x b) = Rms.grad (fun k => dh (ix2 x k)) (fun k => x0 (ix2 x k)) (fun k => x3 (ix2 x k)) (fun k => x1 (ix2 0 k)) b := by
  unfold Rms.grad
  rw [Rms.back _ _ _ _ _ (Rms.var_nonneg _)]
  simp only [mul_comm _ (x0 (ix2 x _))]
  unfold Rms.var
  pointwise [refGx]
  simp only [one_sum]
  exact congrArg₂ (· + ·) rfl (mul_comm _ _)
theorem ref_gs (dh x0 : FVec Ideal S8192x1024 .f32) (b : Fin 1024) :
    refGs dh x0 (ix2 0 b) = ∑ x : Fin 8192, dh (ix2 x b) * x0 (ix2 x b) * Ideal.rsqrt (Rms.var fun k => x0 (ix2 x k)) := by
  unfold Rms.var
  pointwise [refGs]
  simp only [one_sum]
  exact Finset.sum_congr rfl fun x _ => (mul_comm _ _).trans (mul_assoc _ _ _).symm
end

section
variable (m : (ℓ : Loc Cert.Kernel6Ideal.nD Cert.Kernel6Ideal.τ Cert.Kernel6Ideal.sig) → Buf (Elt Ideal) ℓ) (c : Dev Cert.Kernel6Ideal.nD)
open Cert.Kernel6Ideal Cert.Kernel6Ideal.Gen Cert.Kernel6Ideal.Val
/-- The arguments the call reads, as matrices. -/
abbrev xA : FVec Ideal S8192x1024 .f32 := m ((c : Thread nD τ).loc main_arg0)
abbrev gA : FVec Ideal S1x1024 .f32 := m ((c : Thread nD τ).loc main_arg1)
abbrev wA : FVec Ideal S1024x2560 .f32 := m ((c : Thread nD τ).loc main_arg2)
abbrev dA : FVec Ideal S8192x1024 .f32 := m ((c : Thread nD τ).loc main_arg3)
abbrev pA4 : FVec Ideal S8192x512 .f32 := m ((c : Thread nD τ).loc main_arg4)
abbrev pA5 : FVec Ideal S8192x512 .f32 := m ((c : Thread nD τ).loc main_arg5)
abbrev pA6 : FVec Ideal S8192x512 .f32 := m ((c : Thread nD τ).loc main_arg6)
abbrev pA7 : FVec Ideal S8192x512 .f32 := m ((c : Thread nD τ).loc main_arg7)
abbrev pA8 : FVec Ideal S8192x512 .f32 := m ((c : Thread nD τ).loc main_arg8)
theorem p_at (k : Fin 5) (x : Fin 8192) (r : Fin 512) : pV m c k x r = pick (pA4 m c) (pA5 m c) (pA6 m c) (pA7 m c) (pA8 m c) k x r :=
  match k with
  | 0 => congrFun (dqV_eq m c) _
  | 1 => congrFun (dkV_eq m c) _
  | 2 => congrFun (dvV_eq m c) _
  | 3 => congrFun (dgV_eq m c) _
  | 4 => congrFun (duV_eq m c) _
theorem w_at (s : Fin 2560) (b : Fin 1024) : wV m c (ix2 s b) = wA m c (ix2 b s) := by
  rw [wV_eq]; pointwise

abbrev refDhA : FVec Ideal S8192x1024 .f32 := refDh (wA m c) (pA4 m c) (pA5 m c) (pA6 m c) (pA7 m c) (pA8 m c)
theorem dh_same (x : Fin 8192) (b : Fin 1024) : refDhA m c (ix2 x b) = dhV m c x b := by
  refine (ref_dh _ _ _ _ _ _ x b).trans ?_
  unfold dhV
  refine congrArg₂ (· + ·) (congrArg₂ (· + ·) (congrArg₂ (· + ·) (congrArg₂ (· + ·) ?_ ?_) ?_) ?_) ?_
  · exact Finset.sum_congr rfl fun r _ => congrArg₂ (· * ·) (p_at m c 0 x r).symm (w_at m c (wrow 0 r) b).symm
  · exact Finset.sum_congr rfl fun r _ => congrArg₂ (· * ·) (p_at m c 1 x r).symm (w_at m c (wrow 1 r) b).symm
  · exact Finset.sum_congr rfl fun r _ => congrArg₂ (· * ·) (p_at m c 2 x r).symm (w_at m c (wrow 2 r) b).symm
  · exact Finset.sum_congr rfl fun r _ => congrArg₂ (· * ·) (p_at m c 3 x r).symm (w_at m c (wrow 3 r) b).symm
  · exact Finset.sum_congr rfl fun r _ => congrArg₂ (· * ·) (p_at m c 4 x r).symm (w_at m c (wrow 4 r) b).symm
theorem gx_same : refGx (refDhA m c) (xA m c) (gA m c) (dA m c) = gxV m c := by
  funext y
  obtain ⟨x, b, rfl⟩ : ∃ (x : Fin 8192) (b : Fin 1024), y = ix2 x b := ⟨y 0, y 1, by funext k; fin_cases k <;> rfl⟩
  refine (ref_gx _ _ _ _ x b).trans ?_
  unfold gxV
  rw [xV_eq, dxV_eq, gV_eq]
  exact Rms.grad_congr (fun k => dh_same m c x k) (fun _ => rfl) (fun _ => rfl) b
theorem gs_same : refGs (refDhA m c) (xA m c) = gsR m c := by
  funext y
  obtain ⟨b, rfl⟩ : ∃ b : Fin 1024, y = ix2 0 b := ⟨y 1, funext fun a => by
    fin_cases a
    · exact Fin.ext (by show (y 0).val = 0; have : (y 0).val < 1 := (y 0).2; omega)
    · rfl⟩
  refine (ref_gs _ _ b).trans ?_
  unfold gsR gsV
  rw [xV_eq]
  exact Finset.sum_congr rfl fun x _ => congrArg (fun v => v * xA m c (ix2 x b) * Ideal.rsqrt (Rms.var fun k => xA m c (ix2 x k))) (dh_same m c x b)
end

/-- The reference keeps its arguments and signals nothing. -/
theorem ref_frame (m : (ℓ : Loc Cert.Reference6Ideal.nD Cert.Reference6Ideal.τ Cert.Reference6Ideal.sig) → Buf (Elt Ideal) ℓ)
    (ρ : Dev Cert.Reference6Ideal.nD → PrngReg) :
    θ_run (Cert.Reference6Ideal.defs (F := Ideal)) (onTc (τ := Cert.Reference6Ideal.τ) (Cert.Reference6Ideal.main (F := Ideal))) ⟨m, fun _ => 0, ρ⟩
      (fun r => (∀ c : Dev Cert.Reference6Ideal.nD,
        r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
        ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
        ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
        ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
        ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
        ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
        ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
        ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
        ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8))
        ∧ r.2.sem = fun _ => 0) :=
  (θ_run (Cert.Reference6Ideal.defs (F := Ideal)) _ _).mono (fun r h => ⟨fun c => (h c).2.2, sem_eq_zero_of_no_sems (by decide) r.2⟩)
    (Cert.Reference6Ideal.Value.run (F := Ideal) m ρ)

theorem algebraic : Cert.algebraic_Kernel6Ideal_Reference6Ideal (hKernel6Ideal := Cert.Kernel6Ideal.Gen.facts)
    (hReference6Ideal := Cert.Reference6Ideal.Gen.facts) := by
  intro m g m' g' _ hargs
  refine ⟨fun c => Cert.Kernel6Ideal.Val.gxV m c, fun c => Cert.Kernel6Ideal.Val.gsR m c, ?_, ?_⟩
  · exact (θ_run (Cert.Kernel6Ideal.defs (F := Ideal)) _ _).mono (fun r h c => ⟨(h c).1.trans (Cert.Kernel6Ideal.Val.result9 m c), (h c).2.1.trans (Cert.Kernel6Ideal.Val.result10 m c), (h c).2.2⟩)
      (Cert.Kernel6Ideal.Value.run_blocks m g)
  · refine (θ_run (Cert.Reference6Ideal.defs (F := Ideal)) _ _).mono (fun r h c => ?_) (Cert.Reference6Ideal.Value.run (F := Ideal) m' g')
    obtain ⟨a0, a1, a2, a3, a4, a5, a6, a7, a8⟩ := hargs c
    refine ⟨(h c).1.trans (Eq.trans ?_ (gx_same m c)), (h c).2.1.trans (Eq.trans ?_ (gs_same m c)), (h c).2.2⟩
    · unfold Cert.Reference6Ideal.Value.res_main_v45; rw [a0, a1, a2, a3, a4, a5, a6, a7, a8]; rfl
    · rw [a0, a2, a4, a5, a6, a7, a8]; rfl

end Cert.Same6

end
-- ==== Proof.MlPieces.lean ====
/- What one grid point of the perceptron with the loss stores. -/
module

public import proofs.«01_k».proof.Proof.Gen.Kernel7Ideal.Value
public import Idealize.ShloMosaic.Lib.Pipeline.ReadBack
public import Idealize.ShloMosaic.Lib.IdealHost

@[expose] public section

set_option maxRecDepth 16384

noncomputable section

namespace Cert.Kernel7Ideal.Val

open Idealize.ShloMosaic Idealize.ShloMosaic.TcCoe Idealize.ShloMosaic.StableHlo
open Cert.Kernel7Ideal Cert.Kernel7Ideal.Gen

theorem hz : (![0, 0] : Fin 2 → Nat) = fun _ => 0 := funext fun a => by fin_cases a <;> rfl
theorem hz3 : (![0, 0, 0] : Fin 3 → Nat) = fun _ => 0 := funext fun a => by fin_cases a <;> rfl

/-- A load of a part of what one store of the whole left reads that part of it. -/
theorem part {S : Shape} {e : EltTy} (v : View sig .tc .vmem S e) {off : Fin S.rank → Nat} (h : off = fun _ => 0) (inb : ∀ a, off a + S.size a ≤ S.size a)
    (w : S.Idx → Elt Ideal e) (L : List (View.Piece (Elt Ideal) S e)) (r : Rect S) :
    v.readCov ((⟨Rect.unit off S.size inb, w⟩ : View.Piece (Elt Ideal) S e) :: L) r.toLoadRect = View.ld w r := by
  subst h
  rw [View.readCov_eq_canon_ld _ _ _ (fun y => ⟨_, List.mem_cons_self, by show y ∈ (Rect.whole S).set; rw [Rect.set_whole]; exact Finset.mem_univ y⟩),
    View.canon_cons_unit_zero rfl]

/-- A load of the whole reads what the stores left. -/
theorem all {S : Shape} {e : EltTy} (v : View sig .tc .vmem S e) {off : Fin S.rank → Nat} (h : off = fun _ => 0) (inb : ∀ a, off a + S.size a ≤ S.size a)
    (L : List (View.Piece (Elt Ideal) S e)) : v.readCov L (Rect.unit off S.size inb).toLoadRect = View.canon L := by
  subst h
  rw [View.readCov_eq_canon']
  funext j
  exact congrArg (View.canon L) (funext fun a => Fin.ext (by show 0 + 1 * (j a).val = (j a).val; omega))
theorem in_hr (k : Fin 2) : ∀ a, (![256 * k.val, 0] : Fin 2 → ℕ) a + (![256, 1024] : Fin 2 → ℕ) a ≤ S512x1024.size a := by
  intro a; fin_cases a
  · show 256 * k.val + 256 ≤ 512; omega
  · show 0 + 1024 ≤ 1024; omega
/-- Half of the rows of a block of tokens. -/
abbrev hr (k : Fin 2) : Rect S512x1024 := Rect.unit (s := S512x1024) ![256 * k.val, 0] ![256, 1024] (in_hr k)
theorem in_ha (k : Fin 2) : ∀ a, (![256 * k.val, 0] : Fin 2 → ℕ) a + (![256, 4096] : Fin 2 → ℕ) a ≤ S512x4096.size a := by
  intro a; fin_cases a
  · show 256 * k.val + 256 ≤ 512; omega
  · show 0 + 4096 ≤ 4096; omega
/-- Half of the rows of what the perceptron keeps. -/
abbrev ha (k : Fin 2) : Rect S512x4096 := Rect.unit (s := S512x4096) ![256 * k.val, 0] ![256, 4096] (in_ha k)
theorem in_hc (k : Fin 2) (j : Fin 8) : ∀ a, (![256 * k.val, 512 * j.val] : Fin 2 → ℕ) a + (![256, 512] : Fin 2 → ℕ) a ≤ S512x4096.size a := by
  intro a; fin_cases a
  · show 256 * k.val + 256 ≤ 512; omega
  · show 512 * j.val + 512 ≤ 4096; omega
/-- … and one slot of their columns. -/
abbrev hc (k : Fin 2) (j : Fin 8) : Rect S512x4096 := Rect.unit (s := S512x4096) ![256 * k.val, 512 * j.val] ![256, 512] (in_hc k j)
theorem in_wr (j : Fin 8) : ∀ a, (![j.val, 0, 0] : Fin 3 → ℕ) a + (![1, 1024, 512] : Fin 3 → ℕ) a ≤ S8x1024x512.size a := by
  intro a; fin_cases a
  · show j.val + 1 ≤ 8; omega
  · show 0 + 1024 ≤ 1024; omega
  · show 0 + 512 ≤ 512; omega
/-- One slot of the first weights. -/
abbrev wr (j : Fin 8) : Rect S8x1024x512 := Rect.unit (s := S8x1024x512) ![j.val, 0, 0] ![1, 1024, 512] (in_wr j)

section
variable (xr tr : FVec Ideal S256x1024 .f32) (a : FVec Ideal S256x4096 .bf16) (g : FVec Ideal S1x1024 .f32) (w : FVec Ideal S4096x1024 .bf16)
/-- What half a block's rows give: the gradient of the sum, that of the perceptron's output, and what they add to the scale's gradient and to the squares. -/
def dyP : FVec Ideal S256x1024 .f32 := k0_pay20 g (k0_pay16 a w) xr (k0_pay17 a w) tr
def dmP : FVec Ideal S256x1024 .bf16 := k0_pay2 g (k0_pay16 a w) (dyP xr tr a g w) (k0_pay45 a w) (Scalar.ofBits .f32 0x358637BD#32)
def dgP (z : FVec Ideal S1x1024 .f32) : FVec Ideal S1x1024 .f32 := k0_pay3 (k0_pay16 a w) (dyP xr tr a g w) (k0_pay45 a w) (Scalar.ofBits .f32 0x358637BD#32) z
def sqP (z : FVec Ideal S1x1024 .f32) : FVec Ideal S1x1024 .f32 := k0_pay19 g (k0_pay16 a w) xr (k0_pay17 a w) tr z
end

section
variable (x0 x1 : Vec Ideal S512x1024 .f32) (x2 x3 : Vec Ideal S1x1024 .f32) (x4 : Vec Ideal S8x1024x512 .bf16) (x5 : Vec Ideal S4096x1024 .bf16)
/-- The normalised rows of half `k`. -/
def hP (k : Fin 2) : FVec Ideal S256x1024 .bf16 := k0_pay6 (View.ld x0 (hr k)) x2
/-- The two stores of the normalised rows. -/
def hs : List (View.Piece (Elt Ideal) S512x1024 .bf16) := [⟨hr 1, hP x0 x2 1⟩, ⟨hr 0, hP x0 x2 0⟩]
/-- One store of what the perceptron keeps. -/
def piece (k : Fin 2) (j : Fin 8) : View.Piece (Elt Ideal) S512x4096 .bf16 := ⟨hc k j, k0_pay10 (hP x0 x2 k) (View.ld x4 (wr j))⟩
/-- The stores of the first half, and all of them. -/
def acts0 : List (View.Piece (Elt Ideal) S512x4096 .bf16) := [piece x0 x2 x4 0 7, piece x0 x2 x4 0 6, piece x0 x2 x4 0 5, piece x0 x2 x4 0 4, piece x0 x2 x4 0 3, piece x0 x2 x4 0 2, piece x0 x2 x4 0 1, piece x0 x2 x4 0 0]
def acts : List (View.Piece (Elt Ideal) S512x4096 .bf16) := [piece x0 x2 x4 1 7, piece x0 x2 x4 1 6, piece x0 x2 x4 1 5, piece x0 x2 x4 1 4, piece x0 x2 x4 1 3, piece x0 x2 x4 1 2, piece x0 x2 x4 1 1, piece x0 x2 x4 1 0, piece x0 x2 x4 0 7, piece x0 x2 x4 0 6, piece x0 x2 x4 0 5, piece x0 x2 x4 0 4, piece x0 x2 x4 0 3, piece x0 x2 x4 0 2, piece x0 x2 x4 0 1, piece x0 x2 x4 0 0]
/-- What is read back of each half. -/
def aP0 : FVec Ideal S256x4096 .bf16 := fun y => View.canon (acts0 x0 x2 x4) ((ha 0).toLoadRect.idx y)
def aP1 : FVec Ideal S256x4096 .bf16 := fun y => View.canon (acts x0 x2 x4) ((ha 1).toLoadRect.idx y)
/-- The two stores of either gradient. -/
def dys : List (View.Piece (Elt Ideal) S512x1024 .f32) :=
  [⟨hr 1, dyP (View.ld x0 (hr 1)) (View.ld x1 (hr 1)) (aP1 x0 x2 x4) x3 x5⟩, ⟨hr 0, dyP (View.ld x0 (hr 0)) (View.ld x1 (hr 0)) (aP0 x0 x2 x4) x3 x5⟩]
def dms : List (View.Piece (Elt Ideal) S512x1024 .bf16) :=
  [⟨hr 1, dmP (View.ld x0 (hr 1)) (View.ld x1 (hr 1)) (aP1 x0 x2 x4) x3 x5⟩, ⟨hr 0, dmP (View.ld x0 (hr 0)) (View.ld x1 (hr 0)) (aP0 x0 x2 x4) x3 x5⟩]
/-- The two sums after a point, over what they held. -/
def scale (z : FVec Ideal S1x1024 .f32) : FVec Ideal S1x1024 .f32 :=
  dgP (View.ld x0 (hr 1)) (View.ld x1 (hr 1)) (aP1 x0 x2 x4) x3 x5 (dgP (View.ld x0 (hr 0)) (View.ld x1 (hr 0)) (aP0 x0 x2 x4) x3 x5 z)
def squares (z : FVec Ideal S1x1024 .f32) : FVec Ideal S1x1024 .f32 :=
  sqP (View.ld x0 (hr 1)) (View.ld x1 (hr 1)) (aP1 x0 x2 x4) x3 x5 (sqP (View.ld x0 (hr 0)) (View.ld x1 (hr 0)) (aP0 x0 x2 x4) x3 x5 z)
end

section
variable (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S8x1024x512 .bf16) (harg5 : arg5.IsWhole) (arg6 : Memref sig .tc .vmem S4096x1024 .bf16) (harg6 : arg6.IsWhole) (arg7 : Memref sig .tc .vmem S512x1024 .bf16) (harg7 : arg7.IsWhole) (arg8 : Memref sig .tc .vmem S512x4096 .bf16) (harg8 : arg8.IsWhole) (arg9 : Memref sig .tc .vmem S512x1024 .f32) (harg9 : arg9.IsWhole) (arg10 : Memref sig .tc .vmem S512x1024 .bf16) (harg10 : arg10.IsWhole) (arg11 : Memref sig .tc .vmem S1x1024 .f32) (harg11 : arg11.IsWhole) (arg12 : Memref sig .tc .vmem S1x1024 .f32) (harg12 : arg12.IsWhole)
  (x0 : Vec Ideal S512x1024 .f32) (x1 : Vec Ideal S512x1024 .f32) (x2 : Vec Ideal S1x1024 .f32) (x3 : Vec Ideal S1x1024 .f32) (x4 : Vec Ideal S8x1024x512 .bf16) (x5 : Vec Ideal S4096x1024 .bf16)

theorem runA (hc0 : cond0_0 i) :
    View.canon (kernelRun0_A (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5).1 = View.canon (hs x0 x2)
      ∧ View.canon (kernelRun0_A (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5).2.1 = View.canon (acts x0 x2 x4)
      ∧ View.canon (kernelRun0_A (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5).2.2.1 = View.canon (dys x0 x1 x2 x3 x4 x5)
      ∧ View.canon (kernelRun0_A (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5).2.2.2.1 = View.canon (dms x0 x1 x2 x3 x4 x5)
      ∧ View.canon (kernelRun0_A (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5).2.2.2.2.1 = scale x0 x1 x2 x3 x4 x5 (k0_pay4 (F := Ideal))
      ∧ View.canon (kernelRun0_A (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5).2.2.2.2.2.1 = squares x0 x1 x2 x3 x4 x5 (k0_pay5 (F := Ideal)) := by
  unfold kernelRun0_A
  dsimp only
  sl_unfold_words
  refine ⟨?_, ?_, ?_, ?_, ?_, ?_⟩
  all_goals
    simp only [all (S := S1x1024) _ hz, View.canon_unit_zero (S := S1x1024) hz, View.canon_cons_unit_zero (S := S1x1024) hz, View.readCov_unit_zero (S := S1x1024) _ hz, View.ld_unit_zero (S := S1x1024) hz, all (S := S4096x1024) _ hz, View.canon_unit_zero (S := S4096x1024) hz, View.canon_cons_unit_zero (S := S4096x1024) hz, View.readCov_unit_zero (S := S4096x1024) _ hz, View.ld_unit_zero (S := S4096x1024) hz, View.readAt_eq_ld, View.readCov_eq_canon', harg1.read_unread, harg2.read_unread, harg3.read_unread, harg4.read_unread, harg5.read_unread, harg6.read_unread, harg7.read_unread, harg8.read_unread, harg9.read_unread, harg10.read_unread, harg11.read_unread, harg12.read_unread]
    rfl
theorem out0_A_6_eq (hc0 : cond0_0 i) : out0_A_6 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 = View.canon (hs x0 x2) :=
  (View.read_writes_eq_canon _ _ _ (cover0_A_6 c i arg1 harg1 arg2 harg2 arg3 harg3 arg4 harg4 arg5 harg5 arg6 harg6 arg7 harg7 arg8 harg8 arg9 harg9 arg10 harg10 arg11 harg11 arg12 harg12 hc0 x0 x1 x2 x3 x4 x5)).trans (runA c i arg1 harg1 arg2 harg2 arg3 harg3 arg4 harg4 arg5 harg5 arg6 harg6 arg7 harg7 arg8 harg8 arg9 harg9 arg10 harg10 arg11 harg11 arg12 harg12 x0 x1 x2 x3 x4 x5 hc0).1
theorem out0_A_7_eq (hc0 : cond0_0 i) : out0_A_7 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 = View.canon (acts x0 x2 x4) :=
  (View.read_writes_eq_canon _ _ _ (cover0_A_7 c i arg1 harg1 arg2 harg2 arg3 harg3 arg4 harg4 arg5 harg5 arg6 harg6 arg7 harg7 arg8 harg8 arg9 harg9 arg10 harg10 arg11 harg11 arg12 harg12 hc0 x0 x1 x2 x3 x4 x5)).trans (runA c i arg1 harg1 arg2 harg2 arg3 harg3 arg4 harg4 arg5 harg5 arg6 harg6 arg7 harg7 arg8 harg8 arg9 harg9 arg10 harg10 arg11 harg11 arg12 harg12 x0 x1 x2 x3 x4 x5 hc0).2.1
theorem out0_A_8_eq (hc0 : cond0_0 i) : out0_A_8 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 = View.canon (dys x0 x1 x2 x3 x4 x5) :=
  (View.read_writes_eq_canon _ _ _ (cover0_A_8 c i arg1 harg1 arg2 harg2 arg3 harg3 arg4 harg4 arg5 harg5 arg6 harg6 arg7 harg7 arg8 harg8 arg9 harg9 arg10 harg10 arg11 harg11 arg12 harg12 hc0 x0 x1 x2 x3 x4 x5)).trans (runA c i arg1 harg1 arg2 harg2 arg3 harg3 arg4 harg4 arg5 harg5 arg6 harg6 arg7 harg7 arg8 harg8 arg9 harg9 arg10 harg10 arg11 harg11 arg12 harg12 x0 x1 x2 x3 x4 x5 hc0).2.2.1
theorem out0_A_9_eq (hc0 : cond0_0 i) : out0_A_9 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 = View.canon (dms x0 x1 x2 x3 x4 x5) :=
  (View.read_writes_eq_canon _ _ _ (cover0_A_9 c i arg1 harg1 arg2 harg2 arg3 harg3 arg4 harg4 arg5 harg5 arg6 harg6 arg7 harg7 arg8 harg8 arg9 harg9 arg10 harg10 arg11 harg11 arg12 harg12 hc0 x0 x1 x2 x3 x4 x5)).trans (runA c i arg1 harg1 arg2 harg2 arg3 harg3 arg4 harg4 arg5 harg5 arg6 harg6 arg7 harg7 arg8 harg8 arg9 harg9 arg10 harg10 arg11 harg11 arg12 harg12 x0 x1 x2 x3 x4 x5 hc0).2.2.2.1
theorem out0_A_10_eq (hc0 : cond0_0 i) : out0_A_10 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 = scale x0 x1 x2 x3 x4 x5 (k0_pay4 (F := Ideal)) :=
  (View.read_writes_eq_canon _ _ _ (cover0_A_10 c i arg1 harg1 arg2 harg2 arg3 harg3 arg4 harg4 arg5 harg5 arg6 harg6 arg7 harg7 arg8 harg8 arg9 harg9 arg10 harg10 arg11 harg11 arg12 harg12 hc0 x0 x1 x2 x3 x4 x5)).trans (runA c i arg1 harg1 arg2 harg2 arg3 harg3 arg4 harg4 arg5 harg5 arg6 harg6 arg7 harg7 arg8 harg8 arg9 harg9 arg10 harg10 arg11 harg11 arg12 harg12 x0 x1 x2 x3 x4 x5 hc0).2.2.2.2.1
theorem out0_A_11_eq (hc0 : cond0_0 i) : out0_A_11 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 = squares x0 x1 x2 x3 x4 x5 (k0_pay5 (F := Ideal)) :=
  (View.read_writes_eq_canon _ _ _ (cover0_A_11 c i arg1 harg1 arg2 harg2 arg3 harg3 arg4 harg4 arg5 harg5 arg6 harg6 arg7 harg7 arg8 harg8 arg9 harg9 arg10 harg10 arg11 harg11 arg12 harg12 hc0 x0 x1 x2 x3 x4 x5)).trans (runA c i arg1 harg1 arg2 harg2 arg3 harg3 arg4 harg4 arg5 harg5 arg6 harg6 arg7 harg7 arg8 harg8 arg9 harg9 arg10 harg10 arg11 harg11 arg12 harg12 x0 x1 x2 x3 x4 x5 hc0).2.2.2.2.2
theorem runB (hc0 : ¬cond0_0 i) (xo10 : Vec Ideal S1x1024 .f32) (xo11 : Vec Ideal S1x1024 .f32) :
    View.canon (kernelRun0_B (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 xo10 xo11).1 = View.canon (hs x0 x2)
      ∧ View.canon (kernelRun0_B (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 xo10 xo11).2.1 = View.canon (acts x0 x2 x4)
      ∧ View.canon (kernelRun0_B (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 xo10 xo11).2.2.1 = View.canon (dys x0 x1 x2 x3 x4 x5)
      ∧ View.canon (kernelRun0_B (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 xo10 xo11).2.2.2.1 = View.canon (dms x0 x1 x2 x3 x4 x5)
      ∧ View.canon (kernelRun0_B (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 xo10 xo11).2.2.2.2.1 = scale x0 x1 x2 x3 x4 x5 xo10
      ∧ View.canon (kernelRun0_B (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 xo10 xo11).2.2.2.2.2.1 = squares x0 x1 x2 x3 x4 x5 xo11 := by
  unfold kernelRun0_B
  dsimp only
  sl_unfold_words
  refine ⟨?_, ?_, ?_, ?_, ?_, ?_⟩
  all_goals
    simp only [all (S := S1x1024) _ hz, View.canon_unit_zero (S := S1x1024) hz, View.canon_cons_unit_zero (S := S1x1024) hz, View.readCov_unit_zero (S := S1x1024) _ hz, View.ld_unit_zero (S := S1x1024) hz, all (S := S4096x1024) _ hz, View.canon_unit_zero (S := S4096x1024) hz, View.canon_cons_unit_zero (S := S4096x1024) hz, View.readCov_unit_zero (S := S4096x1024) _ hz, View.ld_unit_zero (S := S4096x1024) hz, View.readAt_eq_ld, View.readCov_eq_canon', harg1.read_unread, harg2.read_unread, harg3.read_unread, harg4.read_unread, harg5.read_unread, harg6.read_unread, harg7.read_unread, harg8.read_unread, harg9.read_unread, harg10.read_unread, harg11.read_unread, harg12.read_unread]
    rfl
theorem out0_B_6_eq (hc0 : ¬cond0_0 i) (xo10 : Vec Ideal S1x1024 .f32) (xo11 : Vec Ideal S1x1024 .f32) : out0_B_6 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 xo10 xo11 = View.canon (hs x0 x2) :=
  (View.read_writes_eq_canon _ _ _ (cover0_B_6 c i arg1 harg1 arg2 harg2 arg3 harg3 arg4 harg4 arg5 harg5 arg6 harg6 arg7 harg7 arg8 harg8 arg9 harg9 arg10 harg10 arg11 harg11 arg12 harg12 hc0 x0 x1 x2 x3 x4 x5 xo10 xo11)).trans (runB c i arg1 harg1 arg2 harg2 arg3 harg3 arg4 harg4 arg5 harg5 arg6 harg6 arg7 harg7 arg8 harg8 arg9 harg9 arg10 harg10 arg11 harg11 arg12 harg12 x0 x1 x2 x3 x4 x5 hc0 xo10 xo11).1
theorem out0_B_7_eq (hc0 : ¬cond0_0 i) (xo10 : Vec Ideal S1x1024 .f32) (xo11 : Vec Ideal S1x1024 .f32) : out0_B_7 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 xo10 xo11 = View.canon (acts x0 x2 x4) :=
  (View.read_writes_eq_canon _ _ _ (cover0_B_7 c i arg1 harg1 arg2 harg2 arg3 harg3 arg4 harg4 arg5 harg5 arg6 harg6 arg7 harg7 arg8 harg8 arg9 harg9 arg10 harg10 arg11 harg11 arg12 harg12 hc0 x0 x1 x2 x3 x4 x5 xo10 xo11)).trans (runB c i arg1 harg1 arg2 harg2 arg3 harg3 arg4 harg4 arg5 harg5 arg6 harg6 arg7 harg7 arg8 harg8 arg9 harg9 arg10 harg10 arg11 harg11 arg12 harg12 x0 x1 x2 x3 x4 x5 hc0 xo10 xo11).2.1
theorem out0_B_8_eq (hc0 : ¬cond0_0 i) (xo10 : Vec Ideal S1x1024 .f32) (xo11 : Vec Ideal S1x1024 .f32) : out0_B_8 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 xo10 xo11 = View.canon (dys x0 x1 x2 x3 x4 x5) :=
  (View.read_writes_eq_canon _ _ _ (cover0_B_8 c i arg1 harg1 arg2 harg2 arg3 harg3 arg4 harg4 arg5 harg5 arg6 harg6 arg7 harg7 arg8 harg8 arg9 harg9 arg10 harg10 arg11 harg11 arg12 harg12 hc0 x0 x1 x2 x3 x4 x5 xo10 xo11)).trans (runB c i arg1 harg1 arg2 harg2 arg3 harg3 arg4 harg4 arg5 harg5 arg6 harg6 arg7 harg7 arg8 harg8 arg9 harg9 arg10 harg10 arg11 harg11 arg12 harg12 x0 x1 x2 x3 x4 x5 hc0 xo10 xo11).2.2.1
theorem out0_B_9_eq (hc0 : ¬cond0_0 i) (xo10 : Vec Ideal S1x1024 .f32) (xo11 : Vec Ideal S1x1024 .f32) : out0_B_9 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 xo10 xo11 = View.canon (dms x0 x1 x2 x3 x4 x5) :=
  (View.read_writes_eq_canon _ _ _ (cover0_B_9 c i arg1 harg1 arg2 harg2 arg3 harg3 arg4 harg4 arg5 harg5 arg6 harg6 arg7 harg7 arg8 harg8 arg9 harg9 arg10 harg10 arg11 harg11 arg12 harg12 hc0 x0 x1 x2 x3 x4 x5 xo10 xo11)).trans (runB c i arg1 harg1 arg2 harg2 arg3 harg3 arg4 harg4 arg5 harg5 arg6 harg6 arg7 harg7 arg8 harg8 arg9 harg9 arg10 harg10 arg11 harg11 arg12 harg12 x0 x1 x2 x3 x4 x5 hc0 xo10 xo11).2.2.2.1
theorem out0_B_10_eq (hc0 : ¬cond0_0 i) (xo10 : Vec Ideal S1x1024 .f32) (xo11 : Vec Ideal S1x1024 .f32) : out0_B_10 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 xo10 xo11 = scale x0 x1 x2 x3 x4 x5 xo10 :=
  (View.read_writes_eq_canon _ _ _ (cover0_B_10 c i arg1 harg1 arg2 harg2 arg3 harg3 arg4 harg4 arg5 harg5 arg6 harg6 arg7 harg7 arg8 harg8 arg9 harg9 arg10 harg10 arg11 harg11 arg12 harg12 hc0 x0 x1 x2 x3 x4 x5 xo10 xo11)).trans (runB c i arg1 harg1 arg2 harg2 arg3 harg3 arg4 harg4 arg5 harg5 arg6 harg6 arg7 harg7 arg8 harg8 arg9 harg9 arg10 harg10 arg11 harg11 arg12 harg12 x0 x1 x2 x3 x4 x5 hc0 xo10 xo11).2.2.2.2.1
theorem out0_B_11_eq (hc0 : ¬cond0_0 i) (xo10 : Vec Ideal S1x1024 .f32) (xo11 : Vec Ideal S1x1024 .f32) : out0_B_11 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 xo10 xo11 = squares x0 x1 x2 x3 x4 x5 xo11 :=
  (View.read_writes_eq_canon _ _ _ (cover0_B_11 c i arg1 harg1 arg2 harg2 arg3 harg3 arg4 harg4 arg5 harg5 arg6 harg6 arg7 harg7 arg8 harg8 arg9 harg9 arg10 harg10 arg11 harg11 arg12 harg12 hc0 x0 x1 x2 x3 x4 x5 xo10 xo11)).trans (runB c i arg1 harg1 arg2 harg2 arg3 harg3 arg4 harg4 arg5 harg5 arg6 harg6 arg7 harg7 arg8 harg8 arg9 harg9 arg10 harg10 arg11 harg11 arg12 harg12 x0 x1 x2 x3 x4 x5 hc0 xo10 xo11).2.2.2.2.2
end

end Cert.Kernel7Ideal.Val

end
-- ==== Proof.MlVal.lean ====
/- The perceptron with the loss: what its arrays end holding, entry by entry. -/
module

public import proofs.«01_k».proof.Proof.MlPieces
public import proofs.«01_k».proof.Proof.Rms

@[expose] public section

set_option maxRecDepth 16384

noncomputable section

namespace Mlp

open Idealize.ShloMosaic

variable (X T g3 g4 : Fin 1024 → EReal) (w1 : Fin 1024 → Fin 4096 → EReal) (w2 : Fin 4096 → Fin 1024 → EReal)

/-- What the perceptron makes of one token, and what comes back of it: the normalised token, what is kept, the output, the distance from the target. -/
def h (b : Fin 1024) : EReal := X b * Ideal.rsqrt (Rms.var X) * g3 b
def act (s : Fin 4096) : EReal := max (∑ b, h X g3 b * w1 b s) 0 * max (∑ b, h X g3 b * w1 b s) 0
def out (b : Fin 1024) : EReal := ∑ s, act X g3 w1 s * w2 s b
def err (b : Fin 1024) : EReal := X b + out X g3 w1 w2 b * Ideal.rsqrt (Rms.var (out X g3 w1 w2)) * g4 b - T b
/-- The gradients, of the sum and of the perceptron's output. -/
def dy (b : Fin 1024) : EReal := err X T g3 g4 w1 w2 b * Ideal.ofBits .f32 0x3A800000#32
def dm (b : Fin 1024) : EReal := Rms.grad (dy X T g3 g4 w1 w2) (out X g3 w1 w2) (fun _ => 0) g4 b
/-- The token's terms of the scale's gradient and of the squares. -/
def dg (b : Fin 1024) : EReal := dy X T g3 g4 w1 w2 b * out X g3 w1 w2 b * Ideal.rsqrt (Rms.var (out X g3 w1 w2))
def sq (b : Fin 1024) : EReal := err X T g3 g4 w1 w2 b * err X T g3 g4 w1 w2 b

end Mlp

namespace Cert.Kernel7Ideal.Val

open Idealize.ShloMosaic Idealize.ShloMosaic.TcCoe Idealize.ShloMosaic.StableHlo
open Cert.Kernel7Ideal Cert.Kernel7Ideal.Gen

variable (m : (ℓ : Loc nD τ sig) → Buf (Elt Ideal) ℓ) (c : Dev nD)

theorem lt16 (t : Fin cfg0.N) : t.val < 16 := lt_of_lt_of_eq t.2 N_0

/-- The tokens, the targets, the two scales and the weights, as the call finds them. -/
abbrev xV : FVec Ideal S8192x1024 .f32 := V m c main_arg0
abbrev tV : FVec Ideal S8192x1024 .f32 := V m c main_arg1
abbrev g3V : FVec Ideal S1x1024 .f32 := V m c main_arg2
abbrev g4V : FVec Ideal S1x1024 .f32 := V m c main_arg3
abbrev w1V : FVec Ideal S8x1024x512 .bf16 := V m c main_v2
abbrev w2V : FVec Ideal S4096x1024 .bf16 := V m c main_v3

theorem w1V_eq : w1V m c = truncf .bf16 (transpose S8x1024x512 [1, 0, 2] (shapeCast S1024x8x512 (m ((c : Thread nD τ).loc main_arg4) : FVec Ideal S1024x4096 .f32) shapeCasts_S1024x4096_S1024x8x512) transposes_S1024x8x512_S8x1024x512_1_0_2) bitsLt_bf16_f32 := by
  unfold w1V V
  simp only [hostOps0, List.flatten_cons, List.flatten_nil, List.append_nil, List.cons_append, List.nil_append, TRef.binary, TRef.nullary, TRef.unary, TRef.toBuf, TRef.ofBuf, cast_eq]
  after_results
  all_goals rfl
theorem w2V_eq : w2V m c = truncf .bf16 (m ((c : Thread nD τ).loc main_arg5) : FVec Ideal S4096x1024 .f32) bitsLt_bf16_f32 := by
  unfold w2V V
  simp only [hostOps0, List.flatten_cons, List.flatten_nil, List.append_nil, List.cons_append, List.nil_append, TRef.binary, TRef.nullary, TRef.unary, TRef.toBuf, TRef.ofBuf, cast_eq]
  after_results
  all_goals rfl
theorem xV_eq : xV m c = m ((c : Thread nD τ).loc main_arg0) := V_main_arg0 m c
theorem tV_eq : tV m c = m ((c : Thread nD τ).loc main_arg1) := V_main_arg1 m c
theorem g3V_eq : g3V m c = m ((c : Thread nD τ).loc main_arg2) := V_main_arg2 m c
theorem g4V_eq : g4V m c = m ((c : Thread nD τ).loc main_arg3) := V_main_arg3 m c

/-! ## The blocks of the operands -/

/-- Row `s` of block `t`. -/
def tok (t : Fin cfg0.N) (s : Fin 512) : Fin 8192 := ⟨512 * t.val + s, by have := lt16 t; omega⟩

theorem idx0 : ∀ t : Fin grid0.N, win0_0.index t 0 = t.val ∧ win0_0.index t 1 = 0 := by decide +kernel
theorem b0 (t : Fin cfg0.N) (r : Fin 512) (a : Fin 1024) : (iblk m c 0 t : Vec Ideal S512x1024 .f32) (ix2 r a) = xV m c (ix2 (tok t r) a) := by
  unfold iblk
  rw [View.read_apply]
  refine congrArg (xV m c) (funext fun k => Fin.ext ?_)
  fin_cases k
  · show win0_0.index t 0 * 512 + 1 * r.val = 512 * t.val + r.val; rw [(idx0 t).1]; omega
  · show win0_0.index t 1 * 1024 + 1 * a.val = a.val; rw [(idx0 t).2]; omega
theorem idx1 : ∀ t : Fin grid0.N, win0_1.index t 0 = t.val ∧ win0_1.index t 1 = 0 := by decide +kernel
theorem b1 (t : Fin cfg0.N) (r : Fin 512) (a : Fin 1024) : (iblk m c 1 t : Vec Ideal S512x1024 .f32) (ix2 r a) = tV m c (ix2 (tok t r) a) := by
  unfold iblk
  rw [View.read_apply]
  refine congrArg (tV m c) (funext fun k => Fin.ext ?_)
  fin_cases k
  · show win0_1.index t 0 * 512 + 1 * r.val = 512 * t.val + r.val; rw [(idx1 t).1]; omega
  · show win0_1.index t 1 * 1024 + 1 * a.val = a.val; rw [(idx1 t).2]; omega
theorem idx2 : ∀ t : Fin grid0.N, win0_2.index t 0 = 0 ∧ win0_2.index t 1 = 0 := by decide +kernel
theorem b2 (t : Fin cfg0.N) (r : Fin 1) (a : Fin 1024) : (iblk m c 2 t : Vec Ideal S1x1024 .f32) (ix2 r a) = g3V m c (ix2 r a) := by
  unfold iblk
  rw [View.read_apply]
  refine congrArg (g3V m c) (funext fun k => Fin.ext ?_)
  fin_cases k
  · show win0_2.index t 0 * 1 + 1 * r.val = r.val; rw [(idx2 t).1]; omega
  · show win0_2.index t 1 * 1024 + 1 * a.val = a.val; rw [(idx2 t).2]; omega
theorem idx3 : ∀ t : Fin grid0.N, win0_3.index t 0 = 0 ∧ win0_3.index t 1 = 0 := by decide +kernel
theorem b3 (t : Fin cfg0.N) (r : Fin 1) (a : Fin 1024) : (iblk m c 3 t : Vec Ideal S1x1024 .f32) (ix2 r a) = g4V m c (ix2 r a) := by
  unfold iblk
  rw [View.read_apply]
  refine congrArg (g4V m c) (funext fun k => Fin.ext ?_)
  fin_cases k
  · show win0_3.index t 0 * 1 + 1 * r.val = r.val; rw [(idx3 t).1]; omega
  · show win0_3.index t 1 * 1024 + 1 * a.val = a.val; rw [(idx3 t).2]; omega
theorem idx5 : ∀ t : Fin grid0.N, win0_5.index t 0 = 0 ∧ win0_5.index t 1 = 0 := by decide +kernel
theorem b5 (t : Fin cfg0.N) (r : Fin 4096) (a : Fin 1024) : (iblk m c 5 t : Vec Ideal S4096x1024 .bf16) (ix2 r a) = w2V m c (ix2 r a) := by
  unfold iblk
  rw [View.read_apply]
  refine congrArg (w2V m c) (funext fun k => Fin.ext ?_)
  fin_cases k
  · show win0_5.index t 0 * 4096 + 1 * r.val = r.val; rw [(idx5 t).1]; omega
  · show win0_5.index t 1 * 1024 + 1 * a.val = a.val; rw [(idx5 t).2]; omega
theorem idx4 : ∀ t : Fin grid0.N, win0_4.index t 0 = 0 ∧ win0_4.index t 1 = 0 ∧ win0_4.index t 2 = 0 := by decide +kernel
theorem b4 (t : Fin cfg0.N) (j : Fin 8) (r : Fin 1024) (a : Fin 512) : (iblk m c 4 t : Vec Ideal S8x1024x512 .bf16) (ix3 j r a) = w1V m c (ix3 j r a) := by
  unfold iblk
  rw [View.read_apply]
  refine congrArg (w1V m c) (funext fun k => Fin.ext ?_)
  fin_cases k
  · show win0_4.index t 0 * 8 + 1 * j.val = j.val; rw [(idx4 t).1]; omega
  · show win0_4.index t 1 * 1024 + 1 * r.val = r.val; rw [(idx4 t).2.1]; omega
  · show win0_4.index t 2 * 512 + 1 * a.val = a.val; rw [(idx4 t).2.2]; omega

/-! ## One grid point -/

/-- Row `r` of half `k`. -/
def row (k : Fin 2) (r : Fin 256) : Fin 512 := ⟨256 * k.val + r.val, by omega⟩
/-- The first weights as a matrix. -/
def mat (w : FVec Ideal S8x1024x512 .bf16) (b : Fin 1024) (s : Fin 4096) : EReal := w (ix3 (⟨s.val / 512, by omega⟩ : Fin 8) b (⟨s.val % 512, by omega⟩ : Fin 512))

/-- The rows of half `k`. -/
abbrev lr (x : FVec Ideal S512x1024 .f32) (k : Fin 2) : FVec Ideal S256x1024 .f32 := View.ld (Val := Elt Ideal) (e' := .f32) x (hr k)
/-- Slot `j` of the first weights. -/
abbrev lw (w : FVec Ideal S8x1024x512 .bf16) (j : Fin 8) : FVec Ideal S1x1024x512 .bf16 := View.ld (Val := Elt Ideal) (e' := .bf16) w (wr j)

theorem ld_r (x : FVec Ideal S512x1024 .f32) (k : Fin 2) (r : Fin 256) (j : Fin 1024) : lr x k (ix2 r j) = x (ix2 (row k r) j) :=
  congrArg x (funext fun a => Fin.ext (by
    fin_cases a
    · show 256 * k.val + 1 * r.val = 256 * k.val + r.val; omega
    · show 0 + 1 * j.val = j.val; omega))
theorem ld_w (w : FVec Ideal S8x1024x512 .bf16) (k : Fin 8) (r : Fin 1024) (j : Fin 512) : lw w k (ix3 (0 : Fin 1) r j) = w (ix3 k r j) :=
  congrArg w (funext fun a => Fin.ext (by
    fin_cases a
    · show k.val + 1 * 0 = k.val; omega
    · show 0 + 1 * r.val = r.val; omega
    · show 0 + 1 * j.val = j.val; omega))

section
variable (xr tr : FVec Ideal S256x1024 .f32) (a : FVec Ideal S256x4096 .bf16) (g : FVec Ideal S1x1024 .f32) (w : FVec Ideal S4096x1024 .bf16)

/-- Half a block's outputs of the perceptron, and their distances from the target. -/
def mR (r : Fin 256) (b : Fin 1024) : EReal := ∑ s, a (ix2 r s) * w (ix2 s b)
def eR (r : Fin 256) (b : Fin 1024) : EReal := xr (ix2 r b) + mR a w r b * Ideal.rsqrt (Rms.var (mR a w r)) * g (ix2 0 b) - tr (ix2 r b)

theorem pay6_at (r : Fin 256) (b : Fin 1024) : (k0_pay6 xr g : FVec Ideal S256x1024 .bf16) (ix2 r b) = Mlp.h (fun k => xr (ix2 r k)) (fun k => g (ix2 0 k)) b := by
  unfold Mlp.h Rms.var
  pointwise [k0_pay6]
theorem pay10_at (h : FVec Ideal S256x1024 .bf16) (v : FVec Ideal S1x1024x512 .bf16) (r : Fin 256) (s : Fin 512) :
    (k0_pay10 h v : FVec Ideal S256x512 .bf16) (ix2 r s) = max (∑ b, h (ix2 r b) * v (ix3 0 b s)) 0 * max (∑ b, h (ix2 r b) * v (ix3 0 b s)) 0 := by
  pointwise [k0_pay10]
theorem pay18_at (r : Fin 256) (b : Fin 1024) : (k0_pay18 g (k0_pay16 a w) xr (k0_pay17 a w) tr : FVec Ideal S256x1024 .f32) (ix2 r b) = eR xr tr a g w r b := by
  unfold eR Rms.var mR
  pointwise [k0_pay18, k0_pay17, k0_pay16]
theorem dyP_at (r : Fin 256) (b : Fin 1024) : dyP xr tr a g w (ix2 r b) = eR xr tr a g w r b * Ideal.ofBits .f32 0x3A800000#32 := by
  refine Eq.trans ?_ (congrArg (· * Ideal.ofBits .f32 0x3A800000#32) (pay18_at xr tr a g w r b))
  unfold dyP k0_pay20
  generalize (k0_pay18 (F := Ideal) g (k0_pay16 a w) xr (k0_pay17 a w) tr) = e
  pointwise
theorem pay2_at (d : FVec Ideal S256x1024 .f32) (r : Fin 256) (b : Fin 1024) :
    (k0_pay2 g (k0_pay16 a w) d (k0_pay45 a w) (Scalar.ofBits .f32 0x358637BD#32) : FVec Ideal S256x1024 .bf16) (ix2 r b)
      = Rms.grad (fun k => d (ix2 r k)) (mR a w r) (fun _ => 0) (fun k => g (ix2 0 k)) b := by
  unfold Rms.grad Rms.var mR
  rw [zero_add]
  pointwise [k0_pay2, k0_pay1, k0_pay45, k0_pay41, k0_pay16]
theorem pay3_at (d : FVec Ideal S256x1024 .f32) (z : FVec Ideal S1x1024 .f32) (b : Fin 1024) :
    (k0_pay3 (k0_pay16 a w) d (k0_pay45 a w) (Scalar.ofBits .f32 0x358637BD#32) z : FVec Ideal S1x1024 .f32) (ix2 0 b)
      = z (ix2 0 b) + ∑ r : Fin 256, d (ix2 r b) * mR a w r b * Ideal.rsqrt (Rms.var (mR a w r)) := by
  unfold Rms.var mR
  pointwise [k0_pay3, k0_pay1, k0_pay45, k0_pay41, k0_pay16]
theorem sqP_at (z : FVec Ideal S1x1024 .f32) (b : Fin 1024) :
    sqP xr tr a g w z (ix2 0 b) = z (ix2 0 b) + ∑ r : Fin 256, eR xr tr a g w r b * eR xr tr a g w r b := by
  refine Eq.trans ?_ (congrArg (z (ix2 0 b) + ·) (Finset.sum_congr rfl fun r _ => congrArg (fun v => v * v) (pay18_at xr tr a g w r b)))
  unfold sqP k0_pay19
  generalize (k0_pay18 (F := Ideal) g (k0_pay16 a w) xr (k0_pay17 a w) tr) = e
  pointwise
end
theorem pay4_at (b : Fin 1024) : (k0_pay4 : FVec Ideal S1x1024 .f32) (ix2 0 b) = 0 := by
  pointwise [k0_pay4]
theorem pay5_at (b : Fin 1024) : (k0_pay5 : FVec Ideal S1x1024 .f32) (ix2 0 b) = 0 := by
  pointwise [k0_pay5]

section
variable (x0 x1 : FVec Ideal S512x1024 .f32) (x2 x3 : FVec Ideal S1x1024 .f32) (x4 : FVec Ideal S8x1024x512 .bf16) (x5 : FVec Ideal S4096x1024 .bf16)

/-- A token of the block, its target, the scales and the second weights. -/
abbrev xr (s : Fin 512) (b : Fin 1024) : EReal := x0 (ix2 s b)
abbrev gr (b : Fin 1024) : EReal := x2 (ix2 0 b)
abbrev wm (s : Fin 4096) (b : Fin 1024) : EReal := x5 (ix2 s b)

/-- The block's arrays. -/
def hB (y : S512x1024.Idx) : Elt Ideal .bf16 := Mlp.h (xr x0 (y 0)) (gr x2) (y 1)
def aB (y : S512x4096.Idx) : Elt Ideal .bf16 := Mlp.act (xr x0 (y 0)) (gr x2) (mat x4) (y 1)
def dyB (y : S512x1024.Idx) : Elt Ideal .f32 := Mlp.dy (xr x0 (y 0)) (xr x1 (y 0)) (gr x2) (gr x3) (mat x4) (wm x5) (y 1)
def dmB (y : S512x1024.Idx) : Elt Ideal .bf16 := Mlp.dm (xr x0 (y 0)) (xr x1 (y 0)) (gr x2) (gr x3) (mat x4) (wm x5) (y 1)

theorem emb_r (k : Fin 2) (r : Fin 256) (b : Fin 1024) : (hr k).emb (ix2 r b) = (ix2 (row k r) b : S512x1024.Idx) :=
  funext fun a => Fin.ext (by
    fin_cases a
    · show 256 * k.val + 1 * r.val = 256 * k.val + r.val; omega
    · show 0 + 1 * b.val = b.val; omega)
theorem emb_c (k : Fin 2) (j : Fin 8) (r : Fin 256) (s : Fin 512) : (hc k j).emb (ix2 r s) = (ix2 (row k r) (⟨512 * j.val + s.val, by omega⟩ : Fin 4096) : S512x4096.Idx) :=
  funext fun a => Fin.ext (by
    fin_cases a
    · show 256 * k.val + 1 * r.val = 256 * k.val + r.val; omega
    · show 512 * j.val + 1 * s.val = 512 * j.val + s.val; omega)
theorem idx_a (k : Fin 2) (r : Fin 256) (s : Fin 4096) : (ha k).toLoadRect.idx (ix2 r s) = (ix2 (row k r) s : S512x4096.Idx) :=
  funext fun a => Fin.ext (by
    fin_cases a
    · show 256 * k.val + 1 * r.val = 256 * k.val + r.val; omega
    · show 0 + 1 * s.val = s.val; omega)

theorem hP_at (k : Fin 2) (r : Fin 256) (b : Fin 1024) : hP x0 x2 k (ix2 r b) = Mlp.h (xr x0 (row k r)) (gr x2) b :=
  (pay6_at (lr x0 k) x2 r b).trans (congrArg (fun v => Mlp.h v (gr x2) b) (funext fun j => ld_r x0 k r j))
theorem piece_at (k : Fin 2) (j : Fin 8) (r : Fin 256) (s : Fin 512) :
    (k0_pay10 (hP x0 x2 k) (lw x4 j) : FVec Ideal S256x512 .bf16) (ix2 r s) = Mlp.act (xr x0 (row k r)) (gr x2) (mat x4) ⟨512 * j.val + s.val, by omega⟩ := by
  refine (pay10_at _ _ r s).trans ?_
  unfold Mlp.act
  refine congrArg (fun v => max v (0 : EReal) * max v 0) (Finset.sum_congr rfl fun b _ => congrArg₂ (· * ·) (hP_at x0 x2 k r b) ((ld_w x4 j b s).trans ?_))
  unfold mat
  congr 2
  · exact Fin.ext (by show j.val = (512 * j.val + s.val) / 512; omega)
  · exact Fin.ext (by show s.val = (512 * j.val + s.val) % 512; omega)

/-- Any of the stores agree with the block's array. -/
theorem acts_at (L : List (View.Piece (Elt Ideal) S512x4096 .bf16)) (hL : ∀ p ∈ L, ∃ k j, p = piece x0 x2 x4 k j) (y : S512x4096.Idx) (hy : ∃ p ∈ L, y ∈ p.1.set) :
    View.canon L y = aB x0 x2 x4 y := by
  have e : View.canon (L ++ []) y = aB x0 x2 x4 y := by
    refine View.canon_append_of_pieces (Val := Elt Ideal) (e := .bf16) (aB x0 x2 x4) [] L (fun p hp => ?_) y hy
    obtain ⟨k, j, rfl⟩ := hL p hp
    intro q
    obtain ⟨r, s, rfl⟩ : ∃ (r : Fin 256) (s : Fin 512), q = ix2 r s := ⟨q 0, q 1, funext fun a => by fin_cases a <;> rfl⟩
    refine Eq.trans ?_ (congrArg (aB x0 x2 x4) (emb_c k j r s)).symm
    exact piece_at x0 x2 x4 k j r s
  exact (congrArg (fun L => View.canon L y) (List.append_nil _).symm).trans e

theorem mem_c (k : Fin 2) (y : S512x4096.Idx) (h : (y 0).val / 256 = k.val) : y ∈ (hc k ⟨(y 1).val / 512, by have : (y 1).val < 4096 := (y 1).2; omega⟩).set := by
  have h1 : (y 1).val < 4096 := (y 1).2
  refine (Rect.mem_set_unit (inb := in_hc _ _)).mpr fun a => ?_
  fin_cases a
  · show 256 * k.val ≤ (y 0).val ∧ (y 0).val < 256 * k.val + 256; omega
  · show 512 * ((y 1).val / 512) ≤ (y 1).val ∧ (y 1).val < 512 * ((y 1).val / 512) + 512; omega

theorem of_acts0 : ∀ p ∈ acts0 x0 x2 x4, ∃ k j, p = piece x0 x2 x4 k j := by
  unfold acts0
  simp only [List.forall_mem_cons]
  refine ⟨⟨_, _, rfl⟩, ⟨_, _, rfl⟩, ⟨_, _, rfl⟩, ⟨_, _, rfl⟩, ⟨_, _, rfl⟩, ⟨_, _, rfl⟩, ⟨_, _, rfl⟩, ⟨_, _, rfl⟩, fun _ h => absurd h List.not_mem_nil⟩
theorem in_acts0 (j : Fin 8) : piece x0 x2 x4 0 j ∈ acts0 x0 x2 x4 := by
  unfold acts0
  fin_cases j <;> simp only [List.mem_cons, true_or, or_true, Fin.zero_eta, Fin.mk_one, Fin.reduceFinMk]
theorem of_acts : ∀ p ∈ acts x0 x2 x4, ∃ k j, p = piece x0 x2 x4 k j := by
  unfold acts
  simp only [List.forall_mem_cons]
  refine ⟨⟨_, _, rfl⟩, ⟨_, _, rfl⟩, ⟨_, _, rfl⟩, ⟨_, _, rfl⟩, ⟨_, _, rfl⟩, ⟨_, _, rfl⟩, ⟨_, _, rfl⟩, ⟨_, _, rfl⟩,
    ⟨_, _, rfl⟩, ⟨_, _, rfl⟩, ⟨_, _, rfl⟩, ⟨_, _, rfl⟩, ⟨_, _, rfl⟩, ⟨_, _, rfl⟩, ⟨_, _, rfl⟩, ⟨_, _, rfl⟩, fun _ h => absurd h List.not_mem_nil⟩
theorem in_acts (k : Fin 2) (j : Fin 8) : piece x0 x2 x4 k j ∈ acts x0 x2 x4 := by
  unfold acts
  fin_cases k <;> fin_cases j <;> simp only [List.mem_cons, true_or, or_true, Fin.zero_eta, Fin.mk_one, Fin.reduceFinMk]

theorem all_acts (y : S512x4096.Idx) : View.canon (acts x0 x2 x4) y = aB x0 x2 x4 y := by
  have h0 : (y 0).val < 512 := (y 0).2
  exact acts_at x0 x2 x4 _ (of_acts x0 x2 x4) y ⟨_, in_acts x0 x2 x4 ⟨(y 0).val / 256, by omega⟩ _, mem_c _ y rfl⟩
theorem aP0_at (r : Fin 256) (s : Fin 4096) : aP0 x0 x2 x4 (ix2 r s) = Mlp.act (xr x0 (row 0 r)) (gr x2) (mat x4) s := by
  unfold aP0
  rw [idx_a]
  exact acts_at x0 x2 x4 _ (of_acts0 x0 x2 x4) _ ⟨_, in_acts0 x0 x2 x4 _, mem_c 0 _ (by show (256 * 0 + r.val) / 256 = 0; omega)⟩
theorem aP1_at (r : Fin 256) (s : Fin 4096) : aP1 x0 x2 x4 (ix2 r s) = Mlp.act (xr x0 (row 1 r)) (gr x2) (mat x4) s := by
  unfold aP1
  rw [idx_a]
  exact all_acts x0 x2 x4 _

section
variable (k : Fin 2) (a : FVec Ideal S256x4096 .bf16) (ha : ∀ r s, a (ix2 r s) = Mlp.act (xr x0 (row k r)) (gr x2) (mat x4) s)
include ha
theorem mR_at (r : Fin 256) : mR a x5 r = Mlp.out (xr x0 (row k r)) (gr x2) (mat x4) (wm x5) :=
  funext fun b => Finset.sum_congr rfl fun s _ => congrArg (· * x5 (ix2 s b)) (ha r s)
theorem eR_at (r : Fin 256) (b : Fin 1024) : eR (lr x0 k) (lr x1 k) a x3 x5 r b = Mlp.err (xr x0 (row k r)) (xr x1 (row k r)) (gr x2) (gr x3) (mat x4) (wm x5) b := by
  unfold eR Mlp.err
  rw [mR_at x0 x2 x4 x5 k a ha]
  exact congrArg₂ (fun u v : EReal => u + Mlp.out (xr x0 (row k r)) (gr x2) (mat x4) (wm x5) b * Ideal.rsqrt (Rms.var (Mlp.out (xr x0 (row k r)) (gr x2) (mat x4) (wm x5))) * gr x3 b - v) (ld_r x0 k r b) (ld_r x1 k r b)
theorem dy_at (r : Fin 256) (b : Fin 1024) : dyP (lr x0 k) (lr x1 k) a x3 x5 (ix2 r b) = Mlp.dy (xr x0 (row k r)) (xr x1 (row k r)) (gr x2) (gr x3) (mat x4) (wm x5) b :=
  (dyP_at _ _ _ _ _ r b).trans (congrArg (· * Ideal.ofBits .f32 0x3A800000#32) (eR_at x0 x1 x2 x3 x4 x5 k a ha r b))
theorem dm_at (r : Fin 256) (b : Fin 1024) : dmP (lr x0 k) (lr x1 k) a x3 x5 (ix2 r b) = Mlp.dm (xr x0 (row k r)) (xr x1 (row k r)) (gr x2) (gr x3) (mat x4) (wm x5) b := by
  refine (pay2_at a x3 x5 _ r b).trans ?_
  unfold Mlp.dm
  rw [mR_at x0 x2 x4 x5 k a ha]
  exact Rms.grad_congr (fun j => dy_at x0 x1 x2 x3 x4 x5 k a ha r j) (fun _ => rfl) (fun _ => rfl) b
theorem dg_at (z : FVec Ideal S1x1024 .f32) (b : Fin 1024) : dgP (lr x0 k) (lr x1 k) a x3 x5 z (ix2 0 b)
    = z (ix2 0 b) + ∑ r : Fin 256, Mlp.dg (xr x0 (row k r)) (xr x1 (row k r)) (gr x2) (gr x3) (mat x4) (wm x5) b := by
  refine (pay3_at a x5 _ z b).trans (congrArg (z (ix2 0 b) + ·) (Finset.sum_congr rfl fun r _ => ?_))
  rw [mR_at x0 x2 x4 x5 k a ha]
  exact congrArg (· * Mlp.out (xr x0 (row k r)) (gr x2) (mat x4) (wm x5) b * Ideal.rsqrt (Rms.var (Mlp.out (xr x0 (row k r)) (gr x2) (mat x4) (wm x5)))) (dy_at x0 x1 x2 x3 x4 x5 k a ha r b)
theorem sq_at (z : FVec Ideal S1x1024 .f32) (b : Fin 1024) : sqP (lr x0 k) (lr x1 k) a x3 x5 z (ix2 0 b)
    = z (ix2 0 b) + ∑ r : Fin 256, Mlp.sq (xr x0 (row k r)) (xr x1 (row k r)) (gr x2) (gr x3) (mat x4) (wm x5) b :=
  (sqP_at _ _ _ _ _ z b).trans (congrArg (z (ix2 0 b) + ·) (Finset.sum_congr rfl fun r _ => congrArg (fun v => v * v) (eR_at x0 x1 x2 x3 x4 x5 k a ha r b)))
end

theorem mem_r (y : S512x1024.Idx) : y ∈ (hr ⟨(y 0).val / 256, by have : (y 0).val < 512 := (y 0).2; omega⟩).set := by
  have h0 : (y 0).val < 512 := (y 0).2
  have h1 : (y 1).val < 1024 := (y 1).2
  refine (Rect.mem_set_unit (inb := in_hr _)).mpr fun a => ?_
  fin_cases a
  · show 256 * ((y 0).val / 256) ≤ (y 0).val ∧ (y 0).val < 256 * ((y 0).val / 256) + 256; omega
  · show 0 ≤ (y 1).val ∧ (y 1).val < 0 + 1024; omega
/-- Two stores, one of each half, leave the array they both agree with. -/
theorem two {e : EltTy} (G : S512x1024.Idx → Elt Ideal e) (p : Fin 2 → S256x1024.Idx → Elt Ideal e) (h : ∀ k (r : Fin 256) (b : Fin 1024), p k (ix2 r b) = G (ix2 (row k r) b)) (y : S512x1024.Idx) :
    View.canon ([⟨hr 1, p 1⟩, ⟨hr 0, p 0⟩] : List (View.Piece (Elt Ideal) S512x1024 e)) y = G y := by
  have e' : View.canon (([⟨hr 1, p 1⟩, ⟨hr 0, p 0⟩] : List (View.Piece (Elt Ideal) S512x1024 e)) ++ []) y = G y := by
    refine View.canon_append_of_pieces (Val := Elt Ideal) G [] _ ?_ y ?_
    · simp only [List.forall_mem_cons]
      refine ⟨fun q => ?_, fun q => ?_, fun _ h => absurd h List.not_mem_nil⟩
      all_goals
        obtain ⟨r, b, rfl⟩ : ∃ (r : Fin 256) (b : Fin 1024), q = ix2 r b := ⟨q 0, q 1, funext fun a => by fin_cases a <;> rfl⟩
        exact (h _ r b).trans (congrArg G (emb_r _ r b)).symm
    · have hm : ∀ k : Fin 2, ∃ q ∈ ([⟨hr 1, p 1⟩, ⟨hr 0, p 0⟩] : List (View.Piece (Elt Ideal) S512x1024 e)), q.1 = hr k := fun k => by
        fin_cases k <;> simp
      obtain ⟨q, hq, e⟩ := hm ⟨(y 0).val / 256, by have : (y 0).val < 512 := (y 0).2; omega⟩
      exact ⟨q, hq, e ▸ mem_r y⟩
  exact e'

/-- What is read back of either half. -/
def aP : Fin 2 → FVec Ideal S256x4096 .bf16
  | 0 => aP0 x0 x2 x4
  | 1 => aP1 x0 x2 x4
theorem aP_at : ∀ (k : Fin 2) (r : Fin 256) (s : Fin 4096), aP x0 x2 x4 k (ix2 r s) = Mlp.act (xr x0 (row k r)) (gr x2) (mat x4) s
  | 0 => aP0_at x0 x2 x4
  | 1 => aP1_at x0 x2 x4
theorem hs_at (y : S512x1024.Idx) : View.canon (hs x0 x2) y = hB x0 x2 y :=
  two (e := .bf16) (hB x0 x2) (fun k => hP x0 x2 k) (fun k r b => hP_at x0 x2 k r b) y
theorem dys_at (y : S512x1024.Idx) : View.canon (dys x0 x1 x2 x3 x4 x5) y = dyB x0 x1 x2 x3 x4 x5 y :=
  two (e := .f32) (dyB x0 x1 x2 x3 x4 x5) (fun k => dyP (lr x0 k) (lr x1 k) (aP x0 x2 x4 k) x3 x5) (fun k r b => dy_at x0 x1 x2 x3 x4 x5 k _ (aP_at x0 x2 x4 k) r b) y
theorem dms_at (y : S512x1024.Idx) : View.canon (dms x0 x1 x2 x3 x4 x5) y = dmB x0 x1 x2 x3 x4 x5 y :=
  two (e := .bf16) (dmB x0 x1 x2 x3 x4 x5) (fun k => dmP (lr x0 k) (lr x1 k) (aP x0 x2 x4 k) x3 x5) (fun k r b => dm_at x0 x1 x2 x3 x4 x5 k _ (aP_at x0 x2 x4 k) r b) y
theorem scale_at (z : FVec Ideal S1x1024 .f32) (b : Fin 1024) : scale x0 x1 x2 x3 x4 x5 z (ix2 0 b)
    = z (ix2 0 b) + ∑ r : Fin 256, Mlp.dg (xr x0 (row 0 r)) (xr x1 (row 0 r)) (gr x2) (gr x3) (mat x4) (wm x5) b
      + ∑ r : Fin 256, Mlp.dg (xr x0 (row 1 r)) (xr x1 (row 1 r)) (gr x2) (gr x3) (mat x4) (wm x5) b :=
  (dg_at x0 x1 x2 x3 x4 x5 1 _ (aP1_at x0 x2 x4) _ b).trans (congrArg (· + ∑ r : Fin 256, Mlp.dg (xr x0 (row 1 r)) (xr x1 (row 1 r)) (gr x2) (gr x3) (mat x4) (wm x5) b)
    (dg_at x0 x1 x2 x3 x4 x5 0 _ (aP0_at x0 x2 x4) z b))
theorem squares_at (z : FVec Ideal S1x1024 .f32) (b : Fin 1024) : squares x0 x1 x2 x3 x4 x5 z (ix2 0 b)
    = z (ix2 0 b) + ∑ r : Fin 256, Mlp.sq (xr x0 (row 0 r)) (xr x1 (row 0 r)) (gr x2) (gr x3) (mat x4) (wm x5) b
      + ∑ r : Fin 256, Mlp.sq (xr x0 (row 1 r)) (xr x1 (row 1 r)) (gr x2) (gr x3) (mat x4) (wm x5) b :=
  (sq_at x0 x1 x2 x3 x4 x5 1 _ (aP1_at x0 x2 x4) _ b).trans (congrArg (· + ∑ r : Fin 256, Mlp.sq (xr x0 (row 1 r)) (xr x1 (row 1 r)) (gr x2) (gr x3) (mat x4) (wm x5) b)
    (sq_at x0 x1 x2 x3 x4 x5 0 _ (aP0_at x0 x2 x4) z b))
end

/-! ## The arrays -/

/-- A token, a target, the scales and the weights. -/
abbrev xT (x : Fin 8192) (b : Fin 1024) : EReal := xV m c (ix2 x b)
abbrev tT (x : Fin 8192) (b : Fin 1024) : EReal := tV m c (ix2 x b)
abbrev g3T (b : Fin 1024) : EReal := g3V m c (ix2 0 b)
abbrev g4T (b : Fin 1024) : EReal := g4V m c (ix2 0 b)
abbrev w1T : Fin 1024 → Fin 4096 → EReal := mat (w1V m c)
abbrev w2T (s : Fin 4096) (b : Fin 1024) : EReal := w2V m c (ix2 s b)

theorem x_at (t : Fin cfg0.N) (s : Fin 512) : xr (iblk m c 0 t) s = xT m c (tok t s) := funext fun b => b0 m c t s b
theorem t_at (t : Fin cfg0.N) (s : Fin 512) : xr (iblk m c 1 t) s = tT m c (tok t s) := funext fun b => b1 m c t s b
theorem g3_at (t : Fin cfg0.N) : gr (iblk m c 2 t) = g3T m c := funext fun b => b2 m c t 0 b
theorem g4_at (t : Fin cfg0.N) : gr (iblk m c 3 t) = g4T m c := funext fun b => b3 m c t 0 b
theorem w1_at (t : Fin cfg0.N) : mat (iblk m c 4 t) = w1T m c := funext fun b => funext fun s => b4 m c t _ b _
theorem w2_at (t : Fin cfg0.N) : wm (iblk m c 5 t) = w2T m c := funext fun s => funext fun b => b5 m c t s b

/-- What is kept, the gradients, and the two sums. -/
def hA : FVec Ideal S8192x1024 .bf16 := fun y => Mlp.h (xT m c (y 0)) (g3T m c) (y 1)
def aA : FVec Ideal S8192x4096 .bf16 := fun y => Mlp.act (xT m c (y 0)) (g3T m c) (w1T m c) (y 1)
def dyA : FVec Ideal S8192x1024 .f32 := fun y => Mlp.dy (xT m c (y 0)) (tT m c (y 0)) (g3T m c) (g4T m c) (w1T m c) (w2T m c) (y 1)
def dmA : FVec Ideal S8192x1024 .bf16 := fun y => Mlp.dm (xT m c (y 0)) (tT m c (y 0)) (g3T m c) (g4T m c) (w1T m c) (w2T m c) (y 1)
def dgT (b : Fin 1024) (x : Fin 8192) : EReal := Mlp.dg (xT m c x) (tT m c x) (g3T m c) (g4T m c) (w1T m c) (w2T m c) b
def sqT (b : Fin 1024) (x : Fin 8192) : EReal := Mlp.sq (xT m c x) (tT m c x) (g3T m c) (g4T m c) (w1T m c) (w2T m c) b
def dgA : FVec Ideal S1x1024 .f32 := fun y => ∑ x, dgT m c (y 1) x
def sqA : FVec Ideal S1x1024 .f32 := fun y => ∑ x, sqT m c (y 1) x

theorem hB_at (t : Fin cfg0.N) (s : Fin 512) (b : Fin 1024) : Mlp.h (xr (iblk m c 0 t) s) (gr (iblk m c 2 t)) b = Mlp.h (xT m c (tok t s)) (g3T m c) b := by rw [x_at, g3_at]
theorem aB_at (t : Fin cfg0.N) (s : Fin 512) (b : Fin 4096) : Mlp.act (xr (iblk m c 0 t) s) (gr (iblk m c 2 t)) (mat (iblk m c 4 t)) b = Mlp.act (xT m c (tok t s)) (g3T m c) (w1T m c) b := by rw [x_at, g3_at, w1_at]
theorem dyB_at (t : Fin cfg0.N) (s : Fin 512) (b : Fin 1024) : Mlp.dy (xr (iblk m c 0 t) s) (xr (iblk m c 1 t) s) (gr (iblk m c 2 t)) (gr (iblk m c 3 t)) (mat (iblk m c 4 t)) (wm (iblk m c 5 t)) b
    = Mlp.dy (xT m c (tok t s)) (tT m c (tok t s)) (g3T m c) (g4T m c) (w1T m c) (w2T m c) b := by rw [x_at, t_at, g3_at, g4_at, w1_at, w2_at]
theorem dmB_at (t : Fin cfg0.N) (s : Fin 512) (b : Fin 1024) : Mlp.dm (xr (iblk m c 0 t) s) (xr (iblk m c 1 t) s) (gr (iblk m c 2 t)) (gr (iblk m c 3 t)) (mat (iblk m c 4 t)) (wm (iblk m c 5 t)) b
    = Mlp.dm (xT m c (tok t s)) (tT m c (tok t s)) (g3T m c) (g4T m c) (w1T m c) (w2T m c) b := by rw [x_at, t_at, g3_at, g4_at, w1_at, w2_at]
theorem dgB_at (t : Fin cfg0.N) (s : Fin 512) (b : Fin 1024) :
    Mlp.dg (xr (iblk m c 0 t) s) (xr (iblk m c 1 t) s) (gr (iblk m c 2 t)) (gr (iblk m c 3 t)) (mat (iblk m c 4 t)) (wm (iblk m c 5 t)) b = dgT m c b (tok t s) := by
  unfold dgT
  rw [x_at, t_at, g3_at, g4_at, w1_at, w2_at]
theorem sqB_at (t : Fin cfg0.N) (s : Fin 512) (b : Fin 1024) :
    Mlp.sq (xr (iblk m c 0 t) s) (xr (iblk m c 1 t) s) (gr (iblk m c 2 t)) (gr (iblk m c 3 t)) (mat (iblk m c 4 t)) (wm (iblk m c 5 t)) b = sqT m c b (tok t s) := by
  unfold sqT
  rw [x_at, t_at, g3_at, g4_at, w1_at, w2_at]

/-- What the outputs hold after a point. -/
abbrev Outs : Type := Vec Ideal S512x1024 .bf16 × Vec Ideal S512x4096 .bf16 × Vec Ideal S512x1024 .f32 × Vec Ideal S512x1024 .bf16 × Vec Ideal S1x1024 .f32 × Vec Ideal S1x1024 .f32
theorem out6_eq (t : Fin cfg0.N) (y : S512x1024.Idx) : ((outsAt0 m c t.val t.isLt).1 : FVec Ideal S512x1024 .bf16) y = hA m c (ix2 (tok t (y 0)) (y 1 : Fin 1024)) := by
  by_cases h0 : t.val % 16 = 0
  · have e := congrArg (fun p : Outs => p.1) (outsAt0_A m c t h0)
    dsimp only at e
    exact (congrFun (e.trans (out0_A_6_eq ..)) y).trans ((hs_at _ _ y).trans (hB_at m c t (y 0) (y 1)))
  · have e := congrArg (fun p : Outs => p.1) (outsAt0_B m c t h0)
    dsimp only at e
    exact (congrFun (e.trans (out0_B_6_eq ..)) y).trans ((hs_at _ _ y).trans (hB_at m c t (y 0) (y 1)))
theorem out7_eq (t : Fin cfg0.N) (y : S512x4096.Idx) : ((outsAt0 m c t.val t.isLt).2.1 : FVec Ideal S512x4096 .bf16) y = aA m c (ix2 (tok t (y 0)) (y 1 : Fin 4096)) := by
  by_cases h0 : t.val % 16 = 0
  · have e := congrArg (fun p : Outs => p.2.1) (outsAt0_A m c t h0)
    dsimp only at e
    exact (congrFun (e.trans (out0_A_7_eq ..)) y).trans ((all_acts _ _ _ y).trans (aB_at m c t (y 0) (y 1)))
  · have e := congrArg (fun p : Outs => p.2.1) (outsAt0_B m c t h0)
    dsimp only at e
    exact (congrFun (e.trans (out0_B_7_eq ..)) y).trans ((all_acts _ _ _ y).trans (aB_at m c t (y 0) (y 1)))
theorem out8_eq (t : Fin cfg0.N) (y : S512x1024.Idx) : ((outsAt0 m c t.val t.isLt).2.2.1 : FVec Ideal S512x1024 .f32) y = dyA m c (ix2 (tok t (y 0)) (y 1 : Fin 1024)) := by
  by_cases h0 : t.val % 16 = 0
  · have e := congrArg (fun p : Outs => p.2.2.1) (outsAt0_A m c t h0)
    dsimp only at e
    exact (congrFun (e.trans (out0_A_8_eq ..)) y).trans ((dys_at _ _ _ _ _ _ y).trans (dyB_at m c t (y 0) (y 1)))
  · have e := congrArg (fun p : Outs => p.2.2.1) (outsAt0_B m c t h0)
    dsimp only at e
    exact (congrFun (e.trans (out0_B_8_eq ..)) y).trans ((dys_at _ _ _ _ _ _ y).trans (dyB_at m c t (y 0) (y 1)))
theorem out9_eq (t : Fin cfg0.N) (y : S512x1024.Idx) : ((outsAt0 m c t.val t.isLt).2.2.2.1 : FVec Ideal S512x1024 .bf16) y = dmA m c (ix2 (tok t (y 0)) (y 1 : Fin 1024)) := by
  by_cases h0 : t.val % 16 = 0
  · have e := congrArg (fun p : Outs => p.2.2.2.1) (outsAt0_A m c t h0)
    dsimp only at e
    exact (congrFun (e.trans (out0_A_9_eq ..)) y).trans ((dms_at _ _ _ _ _ _ y).trans (dmB_at m c t (y 0) (y 1)))
  · have e := congrArg (fun p : Outs => p.2.2.2.1) (outsAt0_B m c t h0)
    dsimp only at e
    exact (congrFun (e.trans (out0_B_9_eq ..)) y).trans ((dms_at _ _ _ _ _ _ y).trans (dmB_at m c t (y 0) (y 1)))

/-- The sum over the tokens up to the end of block `n`. -/
def accAt (f : Fin 8192 → EReal) (n : ℕ) : EReal := Tok.upTo f (512 * n + 256 + 256)
theorem step (f : Fin 8192 → EReal) (t : Fin cfg0.N) (z : EReal) (hzz : z = Tok.upTo f (512 * t.val)) :
    z + ∑ r, f (tok t (row 0 r)) + ∑ r, f (tok t (row 1 r)) = accAt f t.val := by
  have hl := lt16 t
  unfold accAt
  rw [hzz, Tok.upTo_block f (512 * t.val) 256 _ (by omega) fun i => ?_, Tok.upTo_block f (512 * t.val + 256) 256 _ (by omega) fun i => ?_]
  · exact congrArg f (Fin.ext (by show 512 * t.val + (256 * 1 + i.val) = 512 * t.val + 256 + i.val; omega))
  · exact congrArg f (Fin.ext (by show 512 * t.val + (256 * 0 + i.val) = 512 * t.val + i.val; omega))
theorem scale_step (t : Fin cfg0.N) (z : FVec Ideal S1x1024 .f32) (b : Fin 1024) (hzz : z (ix2 0 b) = Tok.upTo (dgT m c b) (512 * t.val)) :
    scale (iblk m c 0 t) (iblk m c 1 t) (iblk m c 2 t) (iblk m c 3 t) (iblk m c 4 t) (iblk m c 5 t) z (ix2 0 b) = accAt (dgT m c b) t.val := by
  refine (scale_at _ _ _ _ _ _ z b).trans (Eq.trans ?_ (step (dgT m c b) t _ hzz))
  exact congrArg₂ (· + ·) (congrArg (z (ix2 0 b) + ·) (Finset.sum_congr rfl fun r _ => dgB_at m c t _ b)) (Finset.sum_congr rfl fun r _ => dgB_at m c t _ b)
/-- What the accumulator holds after every point. -/
theorem acc10_eq : ∀ (n : ℕ) (h : n < cfg0.N) (b : Fin 1024), ((outsAt0 m c n h).2.2.2.2.1 : FVec Ideal S1x1024 .f32) (ix2 0 b) = accAt (dgT m c b) n
  | 0, h, b => by
    have e := congrArg (fun p : Outs => p.2.2.2.2.1) (outsAt0_A m c ⟨0, h⟩ rfl)
    dsimp only at e
    exact (congrFun (e.trans (out0_A_10_eq ..)) (ix2 0 b)).trans (scale_step m c ⟨0, h⟩ _ b ((pay4_at b).trans (Tok.upTo_zero _).symm))
  | n + 1, h, b => by
    have hl := lt16 ⟨n + 1, h⟩
    dsimp only at hl
    have h0 : ¬(n + 1) % 16 = 0 := by omega
    have e := congrArg (fun p : Outs => p.2.2.2.2.1) (outsAt0_B m c ⟨n + 1, h⟩ h0)
    dsimp only at e
    refine (congrFun (e.trans (out0_B_10_eq ..)) (ix2 0 b)).trans (scale_step m c ⟨n + 1, h⟩ _ b ((acc10_eq n (Nat.lt_of_succ_lt h) b).trans ?_))
    unfold accAt
    dsimp only
    rw [show 512 * n + 256 + 256 = 512 * (n + 1) by omega]
theorem squares_step (t : Fin cfg0.N) (z : FVec Ideal S1x1024 .f32) (b : Fin 1024) (hzz : z (ix2 0 b) = Tok.upTo (sqT m c b) (512 * t.val)) :
    squares (iblk m c 0 t) (iblk m c 1 t) (iblk m c 2 t) (iblk m c 3 t) (iblk m c 4 t) (iblk m c 5 t) z (ix2 0 b) = accAt (sqT m c b) t.val := by
  refine (squares_at _ _ _ _ _ _ z b).trans (Eq.trans ?_ (step (sqT m c b) t _ hzz))
  exact congrArg₂ (· + ·) (congrArg (z (ix2 0 b) + ·) (Finset.sum_congr rfl fun r _ => sqB_at m c t _ b)) (Finset.sum_congr rfl fun r _ => sqB_at m c t _ b)
/-- What the accumulator holds after every point. -/
theorem acc11_eq : ∀ (n : ℕ) (h : n < cfg0.N) (b : Fin 1024), ((outsAt0 m c n h).2.2.2.2.2 : FVec Ideal S1x1024 .f32) (ix2 0 b) = accAt (sqT m c b) n
  | 0, h, b => by
    have e := congrArg (fun p : Outs => p.2.2.2.2.2) (outsAt0_A m c ⟨0, h⟩ rfl)
    dsimp only at e
    exact (congrFun (e.trans (out0_A_11_eq ..)) (ix2 0 b)).trans (squares_step m c ⟨0, h⟩ _ b ((pay5_at b).trans (Tok.upTo_zero _).symm))
  | n + 1, h, b => by
    have hl := lt16 ⟨n + 1, h⟩
    dsimp only at hl
    have h0 : ¬(n + 1) % 16 = 0 := by omega
    have e := congrArg (fun p : Outs => p.2.2.2.2.2) (outsAt0_B m c ⟨n + 1, h⟩ h0)
    dsimp only at e
    refine (congrFun (e.trans (out0_B_11_eq ..)) (ix2 0 b)).trans (squares_step m c ⟨n + 1, h⟩ _ b ((acc11_eq n (Nat.lt_of_succ_lt h) b).trans ?_))
    unfold accAt
    dsimp only
    rw [show 512 * n + 256 + 256 = 512 * (n + 1) by omega]

theorem idx6 : ∀ t : Fin grid0.N, win0_6.index t 0 = t.val ∧ win0_6.index t 1 = 0 := by decide +kernel
theorem emb6 (t : Fin cfg0.N) (y : S512x1024.Idx) : ((cfg0.win 6).blk t).view.emb y = (ix2 (tok t (y 0)) (y 1 : Fin 1024) : S8192x1024.Idx) := by
  refine funext fun k => Fin.ext ?_
  fin_cases k
  · show win0_6.index t 0 * 512 + 1 * (y 0).val = 512 * t.val + (y 0).val; rw [(idx6 t).1]; omega
  · show win0_6.index t 1 * 1024 + 1 * (y 1).val = (y 1).val; rw [(idx6 t).2]; omega
theorem flushed6 (t : Fin cfg0.N) : (dats m 0 c).flushed 6 t = ((cfg0.win 6).blk t).view.read (Elt Ideal) (hA m c) := by
  rw [Value.flushed6]
  funext y
  rw [View.read_apply]
  refine Eq.trans ?_ (congrArg (hA m c) (emb6 t y)).symm
  exact out6_eq m c t y
theorem result6 : (dats m 0 c).arrAt 6 cfg0.N = hA m c := by
  refine (dats m 0 c).arrAt_eq_of_cover 6 (hA m c) (fun t _ => flushed6 m c t) fun y => ?_
  have hy0 : (y 0).val < 8192 := (y 0).2
  have hy1 : (y 1).val < 1024 := (y 1).2
  refine ⟨⟨(y 0).val / 512, lt_of_lt_of_eq (by omega) N_0.symm⟩, flush0_6 _, ?_⟩
  refine Finset.mem_map.mpr ⟨(ix2 (⟨(y 0).val % 512, by omega⟩ : Fin 512) (⟨(y 1).val, hy1⟩ : Fin 1024) : S512x1024.Idx), Finset.mem_univ _, ?_⟩
  refine (emb6 _ _).trans (funext fun k => Fin.ext ?_)
  fin_cases k
  · show 512 * ((y 0).val / 512) + (y 0).val % 512 = (y 0).val; omega
  · rfl

theorem idx7 : ∀ t : Fin grid0.N, win0_7.index t 0 = t.val ∧ win0_7.index t 1 = 0 := by decide +kernel
theorem emb7 (t : Fin cfg0.N) (y : S512x4096.Idx) : ((cfg0.win 7).blk t).view.emb y = (ix2 (tok t (y 0)) (y 1 : Fin 4096) : S8192x4096.Idx) := by
  refine funext fun k => Fin.ext ?_
  fin_cases k
  · show win0_7.index t 0 * 512 + 1 * (y 0).val = 512 * t.val + (y 0).val; rw [(idx7 t).1]; omega
  · show win0_7.index t 1 * 4096 + 1 * (y 1).val = (y 1).val; rw [(idx7 t).2]; omega
theorem flushed7 (t : Fin cfg0.N) : (dats m 0 c).flushed 7 t = ((cfg0.win 7).blk t).view.read (Elt Ideal) (aA m c) := by
  rw [Value.flushed7]
  funext y
  rw [View.read_apply]
  refine Eq.trans ?_ (congrArg (aA m c) (emb7 t y)).symm
  exact out7_eq m c t y
theorem result7 : (dats m 0 c).arrAt 7 cfg0.N = aA m c := by
  refine (dats m 0 c).arrAt_eq_of_cover 7 (aA m c) (fun t _ => flushed7 m c t) fun y => ?_
  have hy0 : (y 0).val < 8192 := (y 0).2
  have hy1 : (y 1).val < 4096 := (y 1).2
  refine ⟨⟨(y 0).val / 512, lt_of_lt_of_eq (by omega) N_0.symm⟩, flush0_7 _, ?_⟩
  refine Finset.mem_map.mpr ⟨(ix2 (⟨(y 0).val % 512, by omega⟩ : Fin 512) (⟨(y 1).val, hy1⟩ : Fin 4096) : S512x4096.Idx), Finset.mem_univ _, ?_⟩
  refine (emb7 _ _).trans (funext fun k => Fin.ext ?_)
  fin_cases k
  · show 512 * ((y 0).val / 512) + (y 0).val % 512 = (y 0).val; omega
  · rfl

theorem idx8 : ∀ t : Fin grid0.N, win0_8.index t 0 = t.val ∧ win0_8.index t 1 = 0 := by decide +kernel
theorem emb8 (t : Fin cfg0.N) (y : S512x1024.Idx) : ((cfg0.win 8).blk t).view.emb y = (ix2 (tok t (y 0)) (y 1 : Fin 1024) : S8192x1024.Idx) := by
  refine funext fun k => Fin.ext ?_
  fin_cases k
  · show win0_8.index t 0 * 512 + 1 * (y 0).val = 512 * t.val + (y 0).val; rw [(idx8 t).1]; omega
  · show win0_8.index t 1 * 1024 + 1 * (y 1).val = (y 1).val; rw [(idx8 t).2]; omega
theorem flushed8 (t : Fin cfg0.N) : (dats m 0 c).flushed 8 t = ((cfg0.win 8).blk t).view.read (Elt Ideal) (dyA m c) := by
  rw [Value.flushed8]
  funext y
  rw [View.read_apply]
  refine Eq.trans ?_ (congrArg (dyA m c) (emb8 t y)).symm
  exact out8_eq m c t y
theorem result8 : (dats m 0 c).arrAt 8 cfg0.N = dyA m c := by
  refine (dats m 0 c).arrAt_eq_of_cover 8 (dyA m c) (fun t _ => flushed8 m c t) fun y => ?_
  have hy0 : (y 0).val < 8192 := (y 0).2
  have hy1 : (y 1).val < 1024 := (y 1).2
  refine ⟨⟨(y 0).val / 512, lt_of_lt_of_eq (by omega) N_0.symm⟩, flush0_8 _, ?_⟩
  refine Finset.mem_map.mpr ⟨(ix2 (⟨(y 0).val % 512, by omega⟩ : Fin 512) (⟨(y 1).val, hy1⟩ : Fin 1024) : S512x1024.Idx), Finset.mem_univ _, ?_⟩
  refine (emb8 _ _).trans (funext fun k => Fin.ext ?_)
  fin_cases k
  · show 512 * ((y 0).val / 512) + (y 0).val % 512 = (y 0).val; omega
  · rfl

theorem idx9 : ∀ t : Fin grid0.N, win0_9.index t 0 = t.val ∧ win0_9.index t 1 = 0 := by decide +kernel
theorem emb9 (t : Fin cfg0.N) (y : S512x1024.Idx) : ((cfg0.win 9).blk t).view.emb y = (ix2 (tok t (y 0)) (y 1 : Fin 1024) : S8192x1024.Idx) := by
  refine funext fun k => Fin.ext ?_
  fin_cases k
  · show win0_9.index t 0 * 512 + 1 * (y 0).val = 512 * t.val + (y 0).val; rw [(idx9 t).1]; omega
  · show win0_9.index t 1 * 1024 + 1 * (y 1).val = (y 1).val; rw [(idx9 t).2]; omega
theorem flushed9 (t : Fin cfg0.N) : (dats m 0 c).flushed 9 t = ((cfg0.win 9).blk t).view.read (Elt Ideal) (dmA m c) := by
  rw [Value.flushed9]
  funext y
  rw [View.read_apply]
  refine Eq.trans ?_ (congrArg (dmA m c) (emb9 t y)).symm
  exact out9_eq m c t y
theorem result9 : (dats m 0 c).arrAt 9 cfg0.N = dmA m c := by
  refine (dats m 0 c).arrAt_eq_of_cover 9 (dmA m c) (fun t _ => flushed9 m c t) fun y => ?_
  have hy0 : (y 0).val < 8192 := (y 0).2
  have hy1 : (y 1).val < 1024 := (y 1).2
  refine ⟨⟨(y 0).val / 512, lt_of_lt_of_eq (by omega) N_0.symm⟩, flush0_9 _, ?_⟩
  refine Finset.mem_map.mpr ⟨(ix2 (⟨(y 0).val % 512, by omega⟩ : Fin 512) (⟨(y 1).val, hy1⟩ : Fin 1024) : S512x1024.Idx), Finset.mem_univ _, ?_⟩
  refine (emb9 _ _).trans (funext fun k => Fin.ext ?_)
  fin_cases k
  · show 512 * ((y 0).val / 512) + (y 0).val % 512 = (y 0).val; omega
  · rfl

theorem idx10 : ∀ t : Fin grid0.N, win0_10.index t 0 = 0 ∧ win0_10.index t 1 = 0 := by decide +kernel
theorem emb10 (t : Fin cfg0.N) (y : S1x1024.Idx) : ((cfg0.win 10).blk t).view.emb y = y := by
  refine funext fun k => Fin.ext ?_
  fin_cases k
  · show win0_10.index t 0 * 1 + 1 * (y 0).val = (y 0).val; rw [(idx10 t).1]; omega
  · show win0_10.index t 1 * 1024 + 1 * (y 1).val = (y 1).val; rw [(idx10 t).2]; omega
theorem flushed10 (t : Fin cfg0.N) (h : (cfg0.win 10).flush t = true) : (dats m 0 c).flushed 10 t = ((cfg0.win 10).blk t).view.read (Elt Ideal) (dgA m c) := by
  rw [Value.flushed10]
  funext y
  rw [View.read_apply]
  refine Eq.trans ?_ (congrArg (dgA m c) (emb10 t y)).symm
  obtain ⟨b, rfl⟩ : ∃ b : Fin 1024, y = ix2 0 b := ⟨y 1, funext fun a => by
    fin_cases a
    · exact Fin.ext (by show (y 0).val = 0; have : (y 0).val < 1 := (y 0).2; omega)
    · rfl⟩
  refine (acc10_eq m c t.val t.isLt b).trans ?_
  have ht := (flush0_10 t).mp h
  have hl := lt16 t
  unfold accAt
  rw [show 512 * t.val + 256 + 256 = 8192 by omega, Tok.upTo_all]
  rfl
theorem result10 : (dats m 0 c).arrAt 10 cfg0.N = dgA m c := by
  refine (dats m 0 c).arrAt_eq_of_cover 10 (dgA m c) (fun t h => flushed10 m c t h) fun y => ?_
  have h15 : 15 < cfg0.N := lt_of_lt_of_eq (by decide) N_0.symm
  refine ⟨⟨15, h15⟩, (flush0_10 ⟨15, h15⟩).mpr rfl, ?_⟩
  exact Finset.mem_map.mpr ⟨y, Finset.mem_univ _, emb10 ⟨15, h15⟩ y⟩

theorem idx11 : ∀ t : Fin grid0.N, win0_11.index t 0 = 0 ∧ win0_11.index t 1 = 0 := by decide +kernel
theorem emb11 (t : Fin cfg0.N) (y : S1x1024.Idx) : ((cfg0.win 11).blk t).view.emb y = y := by
  refine funext fun k => Fin.ext ?_
  fin_cases k
  · show win0_11.index t 0 * 1 + 1 * (y 0).val = (y 0).val; rw [(idx11 t).1]; omega
  · show win0_11.index t 1 * 1024 + 1 * (y 1).val = (y 1).val; rw [(idx11 t).2]; omega
theorem flushed11 (t : Fin cfg0.N) (h : (cfg0.win 11).flush t = true) : (dats m 0 c).flushed 11 t = ((cfg0.win 11).blk t).view.read (Elt Ideal) (sqA m c) := by
  rw [Value.flushed11]
  funext y
  rw [View.read_apply]
  refine Eq.trans ?_ (congrArg (sqA m c) (emb11 t y)).symm
  obtain ⟨b, rfl⟩ : ∃ b : Fin 1024, y = ix2 0 b := ⟨y 1, funext fun a => by
    fin_cases a
    · exact Fin.ext (by show (y 0).val = 0; have : (y 0).val < 1 := (y 0).2; omega)
    · rfl⟩
  refine (acc11_eq m c t.val t.isLt b).trans ?_
  have ht := (flush0_11 t).mp h
  have hl := lt16 t
  unfold accAt
  rw [show 512 * t.val + 256 + 256 = 8192 by omega, Tok.upTo_all]
  rfl
theorem result11 : (dats m 0 c).arrAt 11 cfg0.N = sqA m c := by
  refine (dats m 0 c).arrAt_eq_of_cover 11 (sqA m c) (fun t h => flushed11 m c t h) fun y => ?_
  have h15 : 15 < cfg0.N := lt_of_lt_of_eq (by decide) N_0.symm
  refine ⟨⟨15, h15⟩, (flush0_11 ⟨15, h15⟩).mpr rfl, ?_⟩
  exact Finset.mem_map.mpr ⟨y, Finset.mem_univ _, emb11 ⟨15, h15⟩ y⟩

end Cert.Kernel7Ideal.Val

end
-- ==== Proof.MlSame.lean ====
/- The perceptron with the loss: both programs end with the same arrays. -/
module

public import proofs.«01_k».proof.Proof.MlVal
public import proofs.«01_k».proof.Proof.Gen.Reference7Ideal.Run
public import proofs.«01_k».proof.Defs
public import Idealize.ShloMosaic.Lib.Quiescent

@[expose] public section

set_option maxRecDepth 16384

noncomputable section

namespace Cert.Same7

open Idealize.ShloMosaic Idealize.ShloMosaic.TcCoe Idealize.ShloMosaic.StableHlo Idealize.SL.Sem

section
open Cert.Reference7Ideal Cert.Reference7Ideal.Gen
/-- The reference, step by step: the normalised input, the activation, the output, the distance from the target. -/
def refH (x0 : FVec Ideal S8192x1024 .f32) (x2 : FVec Ideal S1x1024 .f32) : FVec Ideal S8192x1024 .f32 := mulf (mulf x0 (broadcastInDim S8192x1024 ![0, 1] bcast_S8192x1_S8192x1024_0_1 (Host.rsqrt (addf (Host.divf (broadcastInDim S8192x1 ![0] bcast_S8192_S8192x1_0 (Host.reduceAdd (mulf x0 x0) (constant (F := Ideal) S_ .f32 0x00000000#32) reducesTo_S8192x1024_S8192_d1 h_S_)) (broadcastInDim S8192x1 ![] bcast_S_S8192x1 (constant (F := Ideal) S_ .f32 0x44800000#32))) (broadcastInDim S8192x1 ![] bcast_S_S8192x1 (constant (F := Ideal) S_ .f32 0x358637BD#32)))))) (broadcastInDim S8192x1024 ![0, 1] bcast_S1x1024_S8192x1024_0_1 (broadcastInDim S1x1024 ![1] bcast_S1024_S1x1024_1 (shapeCast _ x2 shapeCasts_S1x1024_S1024)))
def refA (h : FVec Ideal S8192x1024 .f32) (x4 : FVec Ideal S1024x4096 .f32) : FVec Ideal S8192x4096 .f32 := mulf (maximumf (Host.dotGeneral dot_S8192x1024_S1024x4096_S8192x4096_1_0_0_1_n_n none h x4) (broadcastInDim S8192x4096 ![] bcast_S_S8192x4096 (constant (F := Ideal) S_ .f32 0x00000000#32))) (maximumf (Host.dotGeneral dot_S8192x1024_S1024x4096_S8192x4096_1_0_0_1_n_n none h x4) (broadcastInDim S8192x4096 ![] bcast_S_S8192x4096 (constant (F := Ideal) S_ .f32 0x00000000#32)))
def refY (a : FVec Ideal S8192x4096 .f32) (x5 : FVec Ideal S4096x1024 .f32) : FVec Ideal S8192x1024 .f32 := Host.dotGeneral dot_S8192x4096_S4096x1024_S8192x1024_1_0_0_1_n_n none a x5
def refE (x0 x1 y : FVec Ideal S8192x1024 .f32) (x3 : FVec Ideal S1x1024 .f32) : FVec Ideal S8192x1024 .f32 := subf (addf x0 (mulf (mulf y (broadcastInDim S8192x1024 ![0, 1] bcast_S8192x1_S8192x1024_0_1 (Host.rsqrt (addf (Host.divf (broadcastInDim S8192x1 ![0] bcast_S8192_S8192x1_0 (Host.reduceAdd (mulf y y) (constant (F := Ideal) S_ .f32 0x00000000#32) reducesTo_S8192x1024_S8192_d1 h_S_)) (broadcastInDim S8192x1 ![] bcast_S_S8192x1 (constant (F := Ideal) S_ .f32 0x44800000#32))) (broadcastInDim S8192x1 ![] bcast_S_S8192x1 (constant (F := Ideal) S_ .f32 0x358637BD#32)))))) (broadcastInDim S8192x1024 ![0, 1] bcast_S1x1024_S8192x1024_0_1 (broadcastInDim S1x1024 ![1] bcast_S1024_S1x1024_1 (shapeCast _ x3 shapeCasts_S1x1024_S1024))))) x1
/-- The squares, and the gradients of the sum, of the perceptron's output and of the scale. -/
def refSq (e : FVec Ideal S8192x1024 .f32) : FVec Ideal S1x1024 .f32 := broadcastInDim S1x1024 ![1] bcast_S1024_S1x1024_1 (Host.reduceAdd (mulf e e) (constant (F := Ideal) S_ .f32 0x00000000#32) reducesTo_S8192x1024_S1024_d0 h_S_)
def refDy (e : FVec Ideal S8192x1024 .f32) : FVec Ideal S8192x1024 .f32 := mulf (broadcastInDim S8192x1024 ![0] bcast_S8192_S8192x1024_0 (Host.divf (broadcastInDim S8192 ![] bcast_S_S8192 (mulf (constant (F := Ideal) S_ .f32 0x3F000000#32) (constant (F := Ideal) S_ .f32 0x3F800000#32))) (broadcastInDim S8192 ![] bcast_S_S8192 (constant (F := Ideal) S_ .f32 0x44800000#32)))) (mulf (broadcastInDim S8192x1024 ![] bcast_S_S8192x1024 (constant (F := Ideal) S_ .f32 0x40000000#32)) e)
def refDm (d y : FVec Ideal S8192x1024 .f32) (x3 : FVec Ideal S1x1024 .f32) : FVec Ideal S8192x1024 .f32 := addf (addf (mulf (mulf d (broadcastInDim S8192x1024 ![0, 1] bcast_S1x1024_S8192x1024_0_1 (broadcastInDim S1x1024 ![1] bcast_S1024_S1x1024_1 (shapeCast _ x3 shapeCasts_S1x1024_S1024)))) (broadcastInDim S8192x1024 ![0, 1] bcast_S8192x1_S8192x1024_0_1 (Host.rsqrt (addf (Host.divf (broadcastInDim S8192x1 ![0] bcast_S8192_S8192x1_0 (Host.reduceAdd (mulf y y) (constant (F := Ideal) S_ .f32 0x00000000#32) reducesTo_S8192x1024_S8192_d1 h_S_)) (broadcastInDim S8192x1 ![] bcast_S_S8192x1 (constant (F := Ideal) S_ .f32 0x44800000#32))) (broadcastInDim S8192x1 ![] bcast_S_S8192x1 (constant (F := Ideal) S_ .f32 0x358637BD#32)))))) (mulf y (broadcastInDim S8192x1024 ![0] bcast_S8192_S8192x1024_0 (Host.reduceAdd (Host.divf (mulf (shapeCast _ (Host.reduceAdd (mulf y (mulf d (broadcastInDim S8192x1024 ![0, 1] bcast_S1x1024_S8192x1024_0_1 (broadcastInDim S1x1024 ![1] bcast_S1024_S1x1024_1 (shapeCast _ x3 shapeCasts_S1x1024_S1024))))) (constant (F := Ideal) S_ .f32 0x00000000#32) reducesTo_S8192x1024_S8192_d1 h_S_) shapeCasts_S8192_S8192x1) (mulf (broadcastInDim S8192x1 ![] bcast_S_S8192x1 (constant (F := Ideal) S_ .f32 0xBF000000#32)) (Host.divf (Host.rsqrt (addf (Host.divf (broadcastInDim S8192x1 ![0] bcast_S8192_S8192x1_0 (Host.reduceAdd (mulf y y) (constant (F := Ideal) S_ .f32 0x00000000#32) reducesTo_S8192x1024_S8192_d1 h_S_)) (broadcastInDim S8192x1 ![] bcast_S_S8192x1 (constant (F := Ideal) S_ .f32 0x44800000#32))) (broadcastInDim S8192x1 ![] bcast_S_S8192x1 (constant (F := Ideal) S_ .f32 0x358637BD#32)))) (addf (Host.divf (broadcastInDim S8192x1 ![0] bcast_S8192_S8192x1_0 (Host.reduceAdd (mulf y y) (constant (F := Ideal) S_ .f32 0x00000000#32) reducesTo_S8192x1024_S8192_d1 h_S_)) (broadcastInDim S8192x1 ![] bcast_S_S8192x1 (constant (F := Ideal) S_ .f32 0x44800000#32))) (broadcastInDim S8192x1 ![] bcast_S_S8192x1 (constant (F := Ideal) S_ .f32 0x358637BD#32)))))) (broadcastInDim S8192x1 ![] bcast_S_S8192x1 (constant (F := Ideal) S_ .f32 0x44800000#32))) (constant (F := Ideal) S_ .f32 0x00000000#32) reducesTo_S8192x1_S8192_d1 h_S_)))) (mulf (broadcastInDim S8192x1024 ![0] bcast_S8192_S8192x1024_0 (Host.reduceAdd (Host.divf (mulf (shapeCast _ (Host.reduceAdd (mulf y (mulf d (broadcastInDim S8192x1024 ![0, 1] bcast_S1x1024_S8192x1024_0_1 (broadcastInDim S1x1024 ![1] bcast_S1024_S1x1024_1 (shapeCast _ x3 shapeCasts_S1x1024_S1024))))) (constant (F := Ideal) S_ .f32 0x00000000#32) reducesTo_S8192x1024_S8192_d1 h_S_) shapeCasts_S8192_S8192x1) (mulf (broadcastInDim S8192x1 ![] bcast_S_S8192x1 (constant (F := Ideal) S_ .f32 0xBF000000#32)) (Host.divf (Host.rsqrt (addf (Host.divf (broadcastInDim S8192x1 ![0] bcast_S8192_S8192x1_0 (Host.reduceAdd (mulf y y) (constant (F := Ideal) S_ .f32 0x00000000#32) reducesTo_S8192x1024_S8192_d1 h_S_)) (broadcastInDim S8192x1 ![] bcast_S_S8192x1 (constant (F := Ideal) S_ .f32 0x44800000#32))) (broadcastInDim S8192x1 ![] bcast_S_S8192x1 (constant (F := Ideal) S_ .f32 0x358637BD#32)))) (addf (Host.divf (broadcastInDim S8192x1 ![0] bcast_S8192_S8192x1_0 (Host.reduceAdd (mulf y y) (constant (F := Ideal) S_ .f32 0x00000000#32) reducesTo_S8192x1024_S8192_d1 h_S_)) (broadcastInDim S8192x1 ![] bcast_S_S8192x1 (constant (F := Ideal) S_ .f32 0x44800000#32))) (broadcastInDim S8192x1 ![] bcast_S_S8192x1 (constant (F := Ideal) S_ .f32 0x358637BD#32)))))) (broadcastInDim S8192x1 ![] bcast_S_S8192x1 (constant (F := Ideal) S_ .f32 0x44800000#32))) (constant (F := Ideal) S_ .f32 0x00000000#32) reducesTo_S8192x1_S8192_d1 h_S_)) y)
def refDg (d y : FVec Ideal S8192x1024 .f32) : FVec Ideal S1x1024 .f32 := broadcastInDim S1x1024 ![1] bcast_S1024_S1x1024_1 (Host.reduceAdd (shapeCast _ (Host.reduceAdd (mulf (mulf y (broadcastInDim S8192x1024 ![0, 1] bcast_S8192x1_S8192x1024_0_1 (Host.rsqrt (addf (Host.divf (broadcastInDim S8192x1 ![0] bcast_S8192_S8192x1_0 (Host.reduceAdd (mulf y y) (constant (F := Ideal) S_ .f32 0x00000000#32) reducesTo_S8192x1024_S8192_d1 h_S_)) (broadcastInDim S8192x1 ![] bcast_S_S8192x1 (constant (F := Ideal) S_ .f32 0x44800000#32))) (broadcastInDim S8192x1 ![] bcast_S_S8192x1 (constant (F := Ideal) S_ .f32 0x358637BD#32)))))) d) (constant (F := Ideal) S_ .f32 0x00000000#32) reducesTo_S8192x1024_S1024_d0 h_S_) shapeCasts_S1024_S1x1024) (constant (F := Ideal) S_ .f32 0x00000000#32) reducesTo_S1x1024_S1024_d0 h_S_)

theorem ref_h (x0 : FVec Ideal S8192x1024 .f32) (x2 : FVec Ideal S1x1024 .f32) (x : Fin 8192) (b : Fin 1024) : refH x0 x2 (ix2 x b) = Mlp.h (fun k => x0 (ix2 x k)) (fun k => x2 (ix2 0 k)) b := by
  unfold Mlp.h Rms.var
  pointwise [refH]
theorem ref_a (h : FVec Ideal S8192x1024 .f32) (x4 : FVec Ideal S1024x4096 .f32) (x : Fin 8192) (s : Fin 4096) :
    refA h x4 (ix2 x s) = max (∑ b, h (ix2 x b) * x4 (ix2 b s)) 0 * max (∑ b, h (ix2 x b) * x4 (ix2 b s)) 0 := by
  pointwise [refA]
theorem ref_y (a : FVec Ideal S8192x4096 .f32) (x5 : FVec Ideal S4096x1024 .f32) (x : Fin 8192) (b : Fin 1024) :
    refY a x5 (ix2 x b) = ∑ s, a (ix2 x s) * x5 (ix2 s b) := by
  pointwise [refY]
theorem ref_e (x0 x1 y : FVec Ideal S8192x1024 .f32) (x3 : FVec Ideal S1x1024 .f32) (x : Fin 8192) (b : Fin 1024) :
    refE x0 x1 y x3 (ix2 x b) = x0 (ix2 x b) + y (ix2 x b) * Ideal.rsqrt (Rms.var fun k => y (ix2 x k)) * x3 (ix2 0 b) - x1 (ix2 x b) := by
  unfold Rms.var
  pointwise [refE]
theorem ref_sq (e : FVec Ideal S8192x1024 .f32) (b : Fin 1024) : refSq e (ix2 0 b) = ∑ x : Fin 8192, e (ix2 x b) * e (ix2 x b) := by
  pointwise [refSq]
/-- Half of twice a thousandth. -/
theorem mean (v : EReal) : Ideal.div (Ideal.ofBits .f32 0x3F000000#32 * Ideal.ofBits .f32 0x3F800000#32) (Ideal.ofBits .f32 0x44800000#32) * (Ideal.ofBits .f32 0x40000000#32 * v)
    = v * Ideal.ofBits .f32 0x3A800000#32 := by
  have h1 : Ideal.ofBits .f32 0x3F000000#32 = ((2⁻¹ : ℝ) : EReal) := by simp [Ideal.ofBits, Ideal.ieee, -EReal.coe_mul]; norm_num
  have h2 : Ideal.ofBits .f32 0x3F800000#32 = ((1 : ℝ) : EReal) := by simp [Ideal.ofBits, Ideal.ieee, -EReal.coe_mul]; norm_num
  have h3 : Ideal.ofBits .f32 0x40000000#32 = ((2 : ℝ) : EReal) := by simp [Ideal.ofBits, Ideal.ieee, -EReal.coe_mul]; norm_num
  have h4 : Ideal.ofBits .f32 0x3A800000#32 = ((1024⁻¹ : ℝ) : EReal) := by simp [Ideal.ofBits, Ideal.ieee, -EReal.coe_mul]; norm_num
  rw [Rms.div_width, h1, h2, h3, h4, ← mul_assoc, mul_comm v, ← EReal.coe_mul, ← EReal.coe_mul, ← EReal.coe_mul]
  congr 2
  norm_num
theorem ref_dy (e : FVec Ideal S8192x1024 .f32) (x : Fin 8192) (b : Fin 1024) : refDy e (ix2 x b) = e (ix2 x b) * Ideal.ofBits .f32 0x3A800000#32 := by
  refine Eq.trans ?_ (mean _)
  pointwise [refDy]
theorem one_sum (v : EReal) : ∑ _x : Fin 1, v = v := by simp
theorem ref_dm (d y : FVec Ideal S8192x1024 .f32) (x3 : FVec Ideal S1x1024 .f32) (x : Fin 8192) (b : Fin 1024) :
    refDm d y x3 (ix2 x b) = Rms.grad (fun k => d (ix2 x k)) (fun k => y (ix2 x k)) (fun _ => 0) (fun k => x3 (ix2 0 k)) b := by
  unfold Rms.grad
  rw [Rms.back _ _ _ _ _ (Rms.var_nonneg _), zero_add]
  simp only [mul_comm _ (y (ix2 x _))]
  unfold Rms.var
  pointwise [refDm]
  simp only [one_sum]
  exact congrArg₂ (· + ·) rfl (mul_comm _ _)
theorem ref_dg (d y : FVec Ideal S8192x1024 .f32) (b : Fin 1024) :
    refDg d y (ix2 0 b) = ∑ x : Fin 8192, d (ix2 x b) * y (ix2 x b) * Ideal.rsqrt (Rms.var fun k => y (ix2 x k)) := by
  unfold Rms.var
  pointwise [refDg]
  simp only [one_sum]
  exact Finset.sum_congr rfl fun x _ => (mul_comm _ _).trans (mul_assoc _ _ _).symm
end

section
variable (m : (ℓ : Loc Cert.Kernel7Ideal.nD Cert.Kernel7Ideal.τ Cert.Kernel7Ideal.sig) → Buf (Elt Ideal) ℓ) (c : Dev Cert.Kernel7Ideal.nD)
open Cert.Kernel7Ideal Cert.Kernel7Ideal.Gen Cert.Kernel7Ideal.Val
/-- The arguments the call reads, as matrices, and the reference's arrays of them. -/
abbrev xA : FVec Ideal S8192x1024 .f32 := m ((c : Thread nD τ).loc main_arg0)
abbrev tA : FVec Ideal S8192x1024 .f32 := m ((c : Thread nD τ).loc main_arg1)
abbrev g3A : FVec Ideal S1x1024 .f32 := m ((c : Thread nD τ).loc main_arg2)
abbrev g4A : FVec Ideal S1x1024 .f32 := m ((c : Thread nD τ).loc main_arg3)
abbrev w1A : FVec Ideal S1024x4096 .f32 := m ((c : Thread nD τ).loc main_arg4)
abbrev w2A : FVec Ideal S4096x1024 .f32 := m ((c : Thread nD τ).loc main_arg5)
abbrev rH : FVec Ideal S8192x1024 .f32 := refH (xA m c) (g3A m c)
abbrev rA : FVec Ideal S8192x4096 .f32 := refA (rH m c) (w1A m c)
abbrev rY : FVec Ideal S8192x1024 .f32 := refY (rA m c) (w2A m c)
abbrev rE : FVec Ideal S8192x1024 .f32 := refE (xA m c) (tA m c) (rY m c) (g4A m c)
abbrev rD : FVec Ideal S8192x1024 .f32 := refDy (rE m c)

theorem x_eq (x : Fin 8192) : xT m c x = fun b => xA m c (ix2 x b) := funext fun b => congrFun (xV_eq m c) _
theorem t_eq (x : Fin 8192) : tT m c x = fun b => tA m c (ix2 x b) := funext fun b => congrFun (tV_eq m c) _
theorem g3_eq : g3T m c = fun b => g3A m c (ix2 0 b) := funext fun b => congrFun (g3V_eq m c) _
theorem g4_eq : g4T m c = fun b => g4A m c (ix2 0 b) := funext fun b => congrFun (g4V_eq m c) _
theorem w1_eq (b : Fin 1024) (s : Fin 4096) : w1T m c b s = w1A m c (ix2 b s) := by
  unfold w1T mat
  rw [w1V_eq]
  pointwise
theorem w2_eq (s : Fin 4096) (b : Fin 1024) : w2T m c s b = w2A m c (ix2 s b) := by
  unfold w2T
  rw [w2V_eq]
  pointwise

theorem h_at (x : Fin 8192) (b : Fin 1024) : rH m c (ix2 x b) = Mlp.h (xT m c x) (g3T m c) b := by
  rw [x_eq, g3_eq]
  exact ref_h _ _ x b
theorem a_at (x : Fin 8192) (s : Fin 4096) : rA m c (ix2 x s) = Mlp.act (xT m c x) (g3T m c) (w1T m c) s :=
  (ref_a _ _ x s).trans (congrArg (fun v : EReal => max v 0 * max v 0) (Finset.sum_congr rfl fun b _ => congrArg₂ (· * ·) (h_at m c x b) (w1_eq m c b s).symm))
theorem y_at (x : Fin 8192) (b : Fin 1024) : rY m c (ix2 x b) = Mlp.out (xT m c x) (g3T m c) (w1T m c) (w2T m c) b :=
  (ref_y _ _ x b).trans (Finset.sum_congr rfl fun s _ => congrArg₂ (· * ·) (a_at m c x s) (w2_eq m c s b).symm)
theorem y_row (x : Fin 8192) : (fun b => rY m c (ix2 x b)) = Mlp.out (xT m c x) (g3T m c) (w1T m c) (w2T m c) := funext fun b => y_at m c x b
theorem e_at (x : Fin 8192) (b : Fin 1024) : rE m c (ix2 x b) = Mlp.err (xT m c x) (tT m c x) (g3T m c) (g4T m c) (w1T m c) (w2T m c) b := by
  refine (ref_e _ _ _ _ x b).trans ?_
  unfold Mlp.err
  rw [y_row, y_at, t_eq, g4_eq]
  exact congrArg (fun v : EReal => v + _ * _ * _ - _) (congrFun (x_eq m c x) b).symm
theorem d_at (x : Fin 8192) (b : Fin 1024) : rD m c (ix2 x b) = Mlp.dy (xT m c x) (tT m c x) (g3T m c) (g4T m c) (w1T m c) (w2T m c) b :=
  (ref_dy _ x b).trans (congrArg (· * Ideal.ofBits .f32 0x3A800000#32) (e_at m c x b))

theorem pair {n k : ℕ} (y : (⟨2, ![n, k]⟩ : Shape).Idx) : ∃ (x : Fin n) (b : Fin k), y = ix2 x b := ⟨y 0, y 1, by funext k; fin_cases k <;> rfl⟩
theorem h_same : (truncf .bf16 (rH m c) bitsLt_bf16_f32 : FVec Ideal S8192x1024 .bf16) = hA m c := by
  funext y
  obtain ⟨x, b, rfl⟩ := pair y
  exact h_at m c x b
theorem a_same : (truncf .bf16 (rA m c) bitsLt_bf16_f32 : FVec Ideal S8192x4096 .bf16) = aA m c := by
  funext y
  obtain ⟨x, b, rfl⟩ := pair y
  exact a_at m c x b
theorem dy_same : rD m c = dyA m c := by
  funext y
  obtain ⟨x, b, rfl⟩ := pair y
  exact d_at m c x b
theorem dm_same : (truncf .bf16 (refDm (rD m c) (rY m c) (g4A m c)) bitsLt_bf16_f32 : FVec Ideal S8192x1024 .bf16) = dmA m c := by
  funext y
  obtain ⟨x, b, rfl⟩ := pair y
  refine (ref_dm _ _ _ x b).trans ?_
  show _ = Mlp.dm (xT m c x) (tT m c x) (g3T m c) (g4T m c) (w1T m c) (w2T m c) b
  unfold Mlp.dm
  rw [← g4_eq]
  exact Rms.grad_congr (fun k => d_at m c x k) (fun k => y_at m c x k) (fun _ => rfl) b
theorem first (y : S1x1024.Idx) : ∃ b : Fin 1024, y = ix2 0 b := ⟨y 1, funext fun a => by
    fin_cases a
    · exact Fin.ext (by show (y 0).val = 0; have : (y 0).val < 1 := (y 0).2; omega)
    · rfl⟩
theorem dg_same : refDg (rD m c) (rY m c) = dgA m c := by
  funext y
  obtain ⟨b, rfl⟩ := first y
  refine (ref_dg _ _ b).trans (Finset.sum_congr rfl fun x _ => ?_)
  show _ = Mlp.dg (xT m c x) (tT m c x) (g3T m c) (g4T m c) (w1T m c) (w2T m c) b
  unfold Mlp.dg
  rw [y_row, y_at, d_at]
theorem sq_same : refSq (rE m c) = sqA m c := by
  funext y
  obtain ⟨b, rfl⟩ := first y
  exact (ref_sq _ b).trans (Finset.sum_congr rfl fun x _ => congrArg (fun v : EReal => v * v) (e_at m c x b))
end

/-- The reference keeps its arguments and signals nothing. -/
theorem ref_frame (m : (ℓ : Loc Cert.Reference7Ideal.nD Cert.Reference7Ideal.τ Cert.Reference7Ideal.sig) → Buf (Elt Ideal) ℓ)
    (ρ : Dev Cert.Reference7Ideal.nD → PrngReg) :
    θ_run (Cert.Reference7Ideal.defs (F := Ideal)) (onTc (τ := Cert.Reference7Ideal.τ) (Cert.Reference7Ideal.main (F := Ideal))) ⟨m, fun _ => 0, ρ⟩
      (fun r => (∀ c : Dev Cert.Reference7Ideal.nD,
        r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
        ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
        ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
        ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
        ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
        ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5))
        ∧ r.2.sem = fun _ => 0) :=
  (θ_run (Cert.Reference7Ideal.defs (F := Ideal)) _ _).mono (fun r h => ⟨fun c => (h c).2.2.2.2.2.2, sem_eq_zero_of_no_sems (by decide) r.2⟩)
    (Cert.Reference7Ideal.Value.run (F := Ideal) m ρ)

theorem algebraic : Cert.algebraic_Kernel7Ideal_Reference7Ideal (hKernel7Ideal := Cert.Kernel7Ideal.Gen.facts)
    (hReference7Ideal := Cert.Reference7Ideal.Gen.facts) := by
  intro m g m' g' _ hargs
  refine ⟨fun c => Cert.Kernel7Ideal.Val.hA m c, fun c => Cert.Kernel7Ideal.Val.aA m c, fun c => Cert.Kernel7Ideal.Val.dyA m c, fun c => Cert.Kernel7Ideal.Val.dmA m c, fun c => Cert.Kernel7Ideal.Val.dgA m c, fun c => Cert.Kernel7Ideal.Val.sqA m c, ?_, ?_⟩
  · exact (θ_run (Cert.Kernel7Ideal.defs (F := Ideal)) _ _).mono (fun r h c => ⟨(h c).1.trans (Cert.Kernel7Ideal.Val.result6 m c), (h c).2.1.trans (Cert.Kernel7Ideal.Val.result7 m c), (h c).2.2.1.trans (Cert.Kernel7Ideal.Val.result8 m c), (h c).2.2.2.1.trans (Cert.Kernel7Ideal.Val.result9 m c), (h c).2.2.2.2.1.trans (Cert.Kernel7Ideal.Val.result10 m c), (h c).2.2.2.2.2.1.trans (Cert.Kernel7Ideal.Val.result11 m c), (h c).2.2.2.2.2.2⟩)
      (Cert.Kernel7Ideal.Value.run_blocks m g)
  · refine (θ_run (Cert.Reference7Ideal.defs (F := Ideal)) _ _).mono (fun r h c => ?_) (Cert.Reference7Ideal.Value.run (F := Ideal) m' g')
    obtain ⟨a0, a1, a2, a3, a4, a5⟩ := hargs c
    refine ⟨(h c).1.trans (Eq.trans ?_ (h_same m c)), (h c).2.1.trans (Eq.trans ?_ (a_same m c)), (h c).2.2.1.trans (Eq.trans ?_ (dy_same m c)), (h c).2.2.2.1.trans (Eq.trans ?_ (dm_same m c)), (h c).2.2.2.2.1.trans (Eq.trans ?_ (dg_same m c)), (h c).2.2.2.2.2.1.trans (Eq.trans ?_ (sq_same m c)), (h c).2.2.2.2.2.2⟩
    · rw [a0, a2]; rfl
    · rw [a0, a2, a4]; rfl
    · unfold Cert.Reference7Ideal.Value.res_main_v52; rw [a0, a1, a2, a3, a4, a5]; rfl
    · unfold Cert.Reference7Ideal.Value.res_main_v76; rw [a0, a1, a2, a3, a4, a5]; rfl
    · unfold Cert.Reference7Ideal.Value.res_main_v73; rw [a0, a1, a2, a3, a4, a5]; rfl
    · unfold Cert.Reference7Ideal.Value.res_main_v46; rw [a0, a1, a2, a3, a4, a5]; rfl

end Cert.Same7

end
-- ==== Proof.OutPieces.lean ====
/- What one grid point of the gradients of the weights that follow the heads stores. -/
module

public import proofs.«01_k».proof.Proof.Gen.Kernel5Ideal.Value
public import Idealize.ShloMosaic.Lib.Pipeline.ReadBack
public import Idealize.ShloMosaic.Lib.IdealHost

@[expose] public section

set_option maxRecDepth 16384

noncomputable section

namespace Cert.Kernel5Ideal.Val

open Idealize.ShloMosaic Idealize.ShloMosaic.TcCoe Idealize.ShloMosaic.StableHlo
open Cert.Kernel5Ideal Cert.Kernel5Ideal.Gen

theorem hz : (![0, 0] : Fin 2 → Nat) = fun _ => 0 := funext fun a => by fin_cases a <;> rfl
theorem hz3 : (![0, 0, 0] : Fin 3 → Nat) = fun _ => 0 := funext fun a => by fin_cases a <;> rfl

/-- A load of a part of what one store of the whole left reads that part of it. -/
theorem part {S : Shape} {e : EltTy} (v : View sig .tc .vmem S e) {off : Fin S.rank → Nat} (h : off = fun _ => 0) (inb : ∀ a, off a + S.size a ≤ S.size a)
    (w : S.Idx → Elt Ideal e) (L : List (View.Piece (Elt Ideal) S e)) (r : Rect S) :
    v.readCov ((⟨Rect.unit off S.size inb, w⟩ : View.Piece (Elt Ideal) S e) :: L) r.toLoadRect = View.ld w r := by
  subst h
  rw [View.readCov_eq_canon_ld _ _ _ (fun y => ⟨_, List.mem_cons_self, by show y ∈ (Rect.whole S).set; rw [Rect.set_whole]; exact Finset.mem_univ y⟩),
    View.canon_cons_unit_zero rfl]

/-- A load of the whole reads what the stores left. -/
theorem all {S : Shape} {e : EltTy} (v : View sig .tc .vmem S e) {off : Fin S.rank → Nat} (h : off = fun _ => 0) (inb : ∀ a, off a + S.size a ≤ S.size a)
    (L : List (View.Piece (Elt Ideal) S e)) : v.readCov L (Rect.unit off S.size inb).toLoadRect = View.canon L := by
  subst h
  rw [View.readCov_eq_canon']
  funext j
  exact congrArg (View.canon L) (funext fun a => Fin.ext (by show 0 + 1 * (j a).val = (j a).val; omega))

theorem in_rows (k : Fin 2) : ∀ a, (![512 * k.val, 0] : Fin 2 → ℕ) a + (![512, 1024] : Fin 2 → ℕ) a ≤ S1024x1024.size a := by
  intro a; fin_cases a
  · show 512 * k.val + 512 ≤ 1024; omega
  · show 0 + 1024 ≤ 1024; omega
/-- Half of the rows. -/
abbrev rows (k : Fin 2) : Rect S1024x1024 := Rect.unit (s := S1024x1024) ![512 * k.val, 0] ![512, 1024] (in_rows k)
/-- The two stores of one grid point over what was accumulated. -/
def two (x0 x1 : FVec Ideal S2048x512 .bf16) (x2 : FVec Ideal S2048x1024 .bf16) (z : S1024x1024.Idx → Elt Ideal .f32) : List (View.Piece (Elt Ideal) S1024x1024 .f32) :=
  [⟨rows 1, k0_pay8 (F := Ideal) x2 (View.ld z (rows 1)) x1⟩, ⟨rows 0, k0_pay7 (F := Ideal) x2 (View.ld z (rows 0)) x0⟩]

variable (x0 : Vec Ideal S2048x512 .bf16) (x1 : Vec Ideal S2048x512 .bf16) (x2 : Vec Ideal S2048x1024 .bf16) (x3 : Vec Ideal S2048x512 .bf16) (x4 : Vec Ideal S2048x1024 .bf16) (c : Dev nD) (i : grid0.Coords)
  (arg1 : Memref sig .tc .vmem S2048x512 .bf16) (harg1 : arg1.IsWhole) (arg2 : Memref sig .tc .vmem S2048x512 .bf16) (harg2 : arg2.IsWhole) (arg3 : Memref sig .tc .vmem S2048x1024 .bf16) (harg3 : arg3.IsWhole) (arg4 : Memref sig .tc .vmem S2048x512 .bf16) (harg4 : arg4.IsWhole) (arg5 : Memref sig .tc .vmem S2048x1024 .bf16) (harg5 : arg5.IsWhole) (arg6 : Memref sig .tc .vmem S1024x1024 .bf16) (harg6 : arg6.IsWhole) (arg7 : Memref sig .tc .vmem S512x1024 .bf16) (harg7 : arg7.IsWhole) (arg8 : Memref sig .tc .vmem S1024x1024 .f32) (harg8 : arg8.IsWhole) (arg9 : Memref sig .tc .vmem S512x1024 .f32) (harg9 : arg9.IsWhole)

theorem sout0_A_0_eq (hc0 : cond0_0 i) (hc1 : ¬cond0_1 i) :
    sout0_A_0 (F := Ideal) c i arg1 harg1 arg2 harg2 arg3 harg3 arg4 harg4 arg5 harg5 arg6 harg6 arg7 harg7 arg8 harg8 arg9 harg9 hc0 hc1 x0 x1 x2 x3 x4 = View.canon (two x0 x1 x2 (k0_pay4 (F := Ideal)) ++ [⟨Rect.unit (s := S1024x1024) ![0, 0] S1024x1024.size inb_S1024x1024_S1024x1024_0_0, k0_pay4 (F := Ideal)⟩]) := by
  unfold sout0_A_0
  rw [View.read_writes_eq_canon _ _ _ (scover0_A_0 c i arg1 harg1 arg2 harg2 arg3 harg3 arg4 harg4 arg5 harg5 arg6 harg6 arg7 harg7 arg8 harg8 arg9 harg9 hc0 hc1 x0 x1 x2 x3 x4)]
  unfold kernelRun0_A
  dsimp only
  sl_unfold_words
  simp (disch := first | rfl | decide) only [↓View.readCov_skip]
  simp only [part (S := S1024x1024) _ hz]
  simp only [View.canon_unit_zero (S := S1024x1024) hz, View.canon_cons_unit_zero (S := S1024x1024) hz, View.readCov_unit_zero (S := S1024x1024) _ hz, View.ld_unit_zero (S := S1024x1024) hz, View.canon_unit_zero (S := S2048x1024) hz, View.canon_cons_unit_zero (S := S2048x1024) hz, View.readCov_unit_zero (S := S2048x1024) _ hz, View.ld_unit_zero (S := S2048x1024) hz, View.canon_unit_zero (S := S2048x512) hz, View.canon_cons_unit_zero (S := S2048x512) hz, View.readCov_unit_zero (S := S2048x512) _ hz, View.ld_unit_zero (S := S2048x512) hz, View.canon_unit_zero (S := S512x1024) hz, View.canon_cons_unit_zero (S := S512x1024) hz, View.readCov_unit_zero (S := S512x1024) _ hz, View.ld_unit_zero (S := S512x1024) hz, View.readAt_eq_ld, harg1.read_unread, harg2.read_unread, harg3.read_unread, harg4.read_unread, harg5.read_unread, harg6.read_unread, harg7.read_unread, harg8.read_unread, harg9.read_unread]
  rfl
theorem sout0_B_0_eq (hc0 : ¬cond0_0 i) (hc1 : ¬cond0_1 i)
    (xs0 : Vec Ideal S1024x1024 .f32) (xs1 : Vec Ideal S512x1024 .f32) :
    sout0_B_0 (F := Ideal) c i arg1 harg1 arg2 harg2 arg3 harg3 arg4 harg4 arg5 harg5 arg6 harg6 arg7 harg7 arg8 harg8 arg9 harg9 hc0 hc1 x0 x1 x2 x3 x4 xs0 xs1 = View.canon (two x0 x1 x2 xs0) := by
  unfold sout0_B_0
  rw [View.read_writes_eq_canon _ _ _ (scover0_B_0 c i arg1 harg1 arg2 harg2 arg3 harg3 arg4 harg4 arg5 harg5 arg6 harg6 arg7 harg7 arg8 harg8 arg9 harg9 hc0 hc1 x0 x1 x2 x3 x4 xs0 xs1)]
  unfold kernelRun0_B
  dsimp only
  sl_unfold_words
  simp only [View.canon_unit_zero (S := S1024x1024) hz, View.canon_cons_unit_zero (S := S1024x1024) hz, View.readCov_unit_zero (S := S1024x1024) _ hz, View.ld_unit_zero (S := S1024x1024) hz, View.canon_unit_zero (S := S2048x1024) hz, View.canon_cons_unit_zero (S := S2048x1024) hz, View.readCov_unit_zero (S := S2048x1024) _ hz, View.ld_unit_zero (S := S2048x1024) hz, View.canon_unit_zero (S := S2048x512) hz, View.canon_cons_unit_zero (S := S2048x512) hz, View.readCov_unit_zero (S := S2048x512) _ hz, View.ld_unit_zero (S := S2048x512) hz, View.canon_unit_zero (S := S512x1024) hz, View.canon_cons_unit_zero (S := S512x1024) hz, View.readCov_unit_zero (S := S512x1024) _ hz, View.ld_unit_zero (S := S512x1024) hz, View.readAt_eq_ld, harg1.read_unread, harg2.read_unread, harg3.read_unread, harg4.read_unread, harg5.read_unread, harg6.read_unread, harg7.read_unread, harg8.read_unread, harg9.read_unread]
  rfl
theorem sout0_C_0_eq (hc0 : ¬cond0_0 i) (hc1 : cond0_1 i)
    (xs0 : Vec Ideal S1024x1024 .f32) (xs1 : Vec Ideal S512x1024 .f32) :
    sout0_C_0 (F := Ideal) c i arg1 harg1 arg2 harg2 arg3 harg3 arg4 harg4 arg5 harg5 arg6 harg6 arg7 harg7 arg8 harg8 arg9 harg9 hc0 hc1 x0 x1 x2 x3 x4 xs0 xs1 = View.canon (two x0 x1 x2 xs0) := by
  unfold sout0_C_0
  rw [View.read_writes_eq_canon _ _ _ (scover0_C_0 c i arg1 harg1 arg2 harg2 arg3 harg3 arg4 harg4 arg5 harg5 arg6 harg6 arg7 harg7 arg8 harg8 arg9 harg9 hc0 hc1 x0 x1 x2 x3 x4 xs0 xs1)]
  unfold kernelRun0_C
  dsimp only
  sl_unfold_words
  simp only [View.canon_unit_zero (S := S1024x1024) hz, View.canon_cons_unit_zero (S := S1024x1024) hz, View.readCov_unit_zero (S := S1024x1024) _ hz, View.ld_unit_zero (S := S1024x1024) hz, View.canon_unit_zero (S := S2048x1024) hz, View.canon_cons_unit_zero (S := S2048x1024) hz, View.readCov_unit_zero (S := S2048x1024) _ hz, View.ld_unit_zero (S := S2048x1024) hz, View.canon_unit_zero (S := S2048x512) hz, View.canon_cons_unit_zero (S := S2048x512) hz, View.readCov_unit_zero (S := S2048x512) _ hz, View.ld_unit_zero (S := S2048x512) hz, View.canon_unit_zero (S := S512x1024) hz, View.canon_cons_unit_zero (S := S512x1024) hz, View.readCov_unit_zero (S := S512x1024) _ hz, View.ld_unit_zero (S := S512x1024) hz, View.readAt_eq_ld, harg1.read_unread, harg2.read_unread, harg3.read_unread, harg4.read_unread, harg5.read_unread, harg6.read_unread, harg7.read_unread, harg8.read_unread, harg9.read_unread]
  rfl
theorem sout0_A_1_eq (hc0 : cond0_0 i) (hc1 : ¬cond0_1 i) :
    sout0_A_1 (F := Ideal) c i arg1 harg1 arg2 harg2 arg3 harg3 arg4 harg4 arg5 harg5 arg6 harg6 arg7 harg7 arg8 harg8 arg9 harg9 hc0 hc1 x0 x1 x2 x3 x4 = k0_pay1 (k0_pay9 (k0_pay5 (F := Ideal)) x3 x4) := by
  unfold sout0_A_1
  rw [View.read_writes_eq_canon _ _ _ (scover0_A_1 c i arg1 harg1 arg2 harg2 arg3 harg3 arg4 harg4 arg5 harg5 arg6 harg6 arg7 harg7 arg8 harg8 arg9 harg9 hc0 hc1 x0 x1 x2 x3 x4)]
  unfold kernelRun0_A
  dsimp only
  sl_unfold_words
  simp only [View.canon_unit_zero (S := S1024x1024) hz, View.canon_cons_unit_zero (S := S1024x1024) hz, View.readCov_unit_zero (S := S1024x1024) _ hz, View.ld_unit_zero (S := S1024x1024) hz, View.canon_unit_zero (S := S2048x1024) hz, View.canon_cons_unit_zero (S := S2048x1024) hz, View.readCov_unit_zero (S := S2048x1024) _ hz, View.ld_unit_zero (S := S2048x1024) hz, View.canon_unit_zero (S := S2048x512) hz, View.canon_cons_unit_zero (S := S2048x512) hz, View.readCov_unit_zero (S := S2048x512) _ hz, View.ld_unit_zero (S := S2048x512) hz, View.canon_unit_zero (S := S512x1024) hz, View.canon_cons_unit_zero (S := S512x1024) hz, View.readCov_unit_zero (S := S512x1024) _ hz, View.ld_unit_zero (S := S512x1024) hz, View.readAt_eq_ld, harg1.read_unread, harg2.read_unread, harg3.read_unread, harg4.read_unread, harg5.read_unread, harg6.read_unread, harg7.read_unread, harg8.read_unread, harg9.read_unread]
theorem sout0_B_1_eq (hc0 : ¬cond0_0 i) (hc1 : ¬cond0_1 i)
    (xs0 : Vec Ideal S1024x1024 .f32) (xs1 : Vec Ideal S512x1024 .f32) :
    sout0_B_1 (F := Ideal) c i arg1 harg1 arg2 harg2 arg3 harg3 arg4 harg4 arg5 harg5 arg6 harg6 arg7 harg7 arg8 harg8 arg9 harg9 hc0 hc1 x0 x1 x2 x3 x4 xs0 xs1 = k0_pay1 (k0_pay9 xs1 x3 x4) := by
  unfold sout0_B_1
  rw [View.read_writes_eq_canon _ _ _ (scover0_B_1 c i arg1 harg1 arg2 harg2 arg3 harg3 arg4 harg4 arg5 harg5 arg6 harg6 arg7 harg7 arg8 harg8 arg9 harg9 hc0 hc1 x0 x1 x2 x3 x4 xs0 xs1)]
  unfold kernelRun0_B
  dsimp only
  sl_unfold_words
  simp only [View.canon_unit_zero (S := S1024x1024) hz, View.canon_cons_unit_zero (S := S1024x1024) hz, View.readCov_unit_zero (S := S1024x1024) _ hz, View.ld_unit_zero (S := S1024x1024) hz, View.canon_unit_zero (S := S2048x1024) hz, View.canon_cons_unit_zero (S := S2048x1024) hz, View.readCov_unit_zero (S := S2048x1024) _ hz, View.ld_unit_zero (S := S2048x1024) hz, View.canon_unit_zero (S := S2048x512) hz, View.canon_cons_unit_zero (S := S2048x512) hz, View.readCov_unit_zero (S := S2048x512) _ hz, View.ld_unit_zero (S := S2048x512) hz, View.canon_unit_zero (S := S512x1024) hz, View.canon_cons_unit_zero (S := S512x1024) hz, View.readCov_unit_zero (S := S512x1024) _ hz, View.ld_unit_zero (S := S512x1024) hz, View.readAt_eq_ld, harg1.read_unread, harg2.read_unread, harg3.read_unread, harg4.read_unread, harg5.read_unread, harg6.read_unread, harg7.read_unread, harg8.read_unread, harg9.read_unread]
theorem sout0_C_1_eq (hc0 : ¬cond0_0 i) (hc1 : cond0_1 i)
    (xs0 : Vec Ideal S1024x1024 .f32) (xs1 : Vec Ideal S512x1024 .f32) :
    sout0_C_1 (F := Ideal) c i arg1 harg1 arg2 harg2 arg3 harg3 arg4 harg4 arg5 harg5 arg6 harg6 arg7 harg7 arg8 harg8 arg9 harg9 hc0 hc1 x0 x1 x2 x3 x4 xs0 xs1 = k0_pay1 (k0_pay9 xs1 x3 x4) := by
  unfold sout0_C_1
  rw [View.read_writes_eq_canon _ _ _ (scover0_C_1 c i arg1 harg1 arg2 harg2 arg3 harg3 arg4 harg4 arg5 harg5 arg6 harg6 arg7 harg7 arg8 harg8 arg9 harg9 hc0 hc1 x0 x1 x2 x3 x4 xs0 xs1)]
  unfold kernelRun0_C
  dsimp only
  sl_unfold_words
  simp only [View.canon_unit_zero (S := S1024x1024) hz, View.canon_cons_unit_zero (S := S1024x1024) hz, View.readCov_unit_zero (S := S1024x1024) _ hz, View.ld_unit_zero (S := S1024x1024) hz, View.canon_unit_zero (S := S2048x1024) hz, View.canon_cons_unit_zero (S := S2048x1024) hz, View.readCov_unit_zero (S := S2048x1024) _ hz, View.ld_unit_zero (S := S2048x1024) hz, View.canon_unit_zero (S := S2048x512) hz, View.canon_cons_unit_zero (S := S2048x512) hz, View.readCov_unit_zero (S := S2048x512) _ hz, View.ld_unit_zero (S := S2048x512) hz, View.canon_unit_zero (S := S512x1024) hz, View.canon_cons_unit_zero (S := S512x1024) hz, View.readCov_unit_zero (S := S512x1024) _ hz, View.ld_unit_zero (S := S512x1024) hz, View.readAt_eq_ld, harg1.read_unread, harg2.read_unread, harg3.read_unread, harg4.read_unread, harg5.read_unread, harg6.read_unread, harg7.read_unread, harg8.read_unread, harg9.read_unread]
theorem out0_C_5_eq (hc0 : ¬cond0_0 i) (hc1 : cond0_1 i)
    (xs0 : Vec Ideal S1024x1024 .f32) (xs1 : Vec Ideal S512x1024 .f32) :
    out0_C_5 (F := Ideal) c i arg1 harg1 arg2 harg2 arg3 harg3 arg4 harg4 arg5 harg5 arg6 harg6 arg7 harg7 arg8 harg8 arg9 harg9 hc0 hc1 x0 x1 x2 x3 x4 xs0 xs1 = k0_pay2 (View.canon (two x0 x1 x2 xs0)) := by
  unfold out0_C_5
  rw [View.read_writes_eq_canon _ _ _ (cover0_C_5 c i arg1 harg1 arg2 harg2 arg3 harg3 arg4 harg4 arg5 harg5 arg6 harg6 arg7 harg7 arg8 harg8 arg9 harg9 hc0 hc1 x0 x1 x2 x3 x4 xs0 xs1)]
  unfold kernelRun0_C
  dsimp only
  sl_unfold_words
  simp only [all (S := S1024x1024) _ hz, View.canon_unit_zero (S := S1024x1024) hz, View.canon_cons_unit_zero (S := S1024x1024) hz, View.readCov_unit_zero (S := S1024x1024) _ hz, View.ld_unit_zero (S := S1024x1024) hz, View.canon_unit_zero (S := S2048x1024) hz, View.canon_cons_unit_zero (S := S2048x1024) hz, View.readCov_unit_zero (S := S2048x1024) _ hz, View.ld_unit_zero (S := S2048x1024) hz, View.canon_unit_zero (S := S2048x512) hz, View.canon_cons_unit_zero (S := S2048x512) hz, View.readCov_unit_zero (S := S2048x512) _ hz, View.ld_unit_zero (S := S2048x512) hz, View.canon_unit_zero (S := S512x1024) hz, View.canon_cons_unit_zero (S := S512x1024) hz, View.readCov_unit_zero (S := S512x1024) _ hz, View.ld_unit_zero (S := S512x1024) hz, View.readAt_eq_ld, harg1.read_unread, harg2.read_unread, harg3.read_unread, harg4.read_unread, harg5.read_unread, harg6.read_unread, harg7.read_unread, harg8.read_unread, harg9.read_unread]
  rfl
theorem out0_C_6_eq (hc0 : ¬cond0_0 i) (hc1 : cond0_1 i)
    (xs0 : Vec Ideal S1024x1024 .f32) (xs1 : Vec Ideal S512x1024 .f32) :
    out0_C_6 (F := Ideal) c i arg1 harg1 arg2 harg2 arg3 harg3 arg4 harg4 arg5 harg5 arg6 harg6 arg7 harg7 arg8 harg8 arg9 harg9 hc0 hc1 x0 x1 x2 x3 x4 xs0 xs1 = k0_pay3 (k0_pay1 (k0_pay9 xs1 x3 x4)) := by
  unfold out0_C_6
  rw [View.read_writes_eq_canon _ _ _ (cover0_C_6 c i arg1 harg1 arg2 harg2 arg3 harg3 arg4 harg4 arg5 harg5 arg6 harg6 arg7 harg7 arg8 harg8 arg9 harg9 hc0 hc1 x0 x1 x2 x3 x4 xs0 xs1)]
  unfold kernelRun0_C
  dsimp only
  sl_unfold_words
  simp only [View.canon_unit_zero (S := S1024x1024) hz, View.canon_cons_unit_zero (S := S1024x1024) hz, View.readCov_unit_zero (S := S1024x1024) _ hz, View.ld_unit_zero (S := S1024x1024) hz, View.canon_unit_zero (S := S2048x1024) hz, View.canon_cons_unit_zero (S := S2048x1024) hz, View.readCov_unit_zero (S := S2048x1024) _ hz, View.ld_unit_zero (S := S2048x1024) hz, View.canon_unit_zero (S := S2048x512) hz, View.canon_cons_unit_zero (S := S2048x512) hz, View.readCov_unit_zero (S := S2048x512) _ hz, View.ld_unit_zero (S := S2048x512) hz, View.canon_unit_zero (S := S512x1024) hz, View.canon_cons_unit_zero (S := S512x1024) hz, View.readCov_unit_zero (S := S512x1024) _ hz, View.ld_unit_zero (S := S512x1024) hz, View.readAt_eq_ld, harg1.read_unread, harg2.read_unread, harg3.read_unread, harg4.read_unread, harg5.read_unread, harg6.read_unread, harg7.read_unread, harg8.read_unread, harg9.read_unread]

end Cert.Kernel5Ideal.Val

end
-- ==== Proof.OutVal.lean ====
/- The gradients of the weights that follow the heads: what their arrays end holding, entry by entry. -/
module

public import proofs.«01_k».proof.Proof.OutPieces
public import proofs.«01_k».proof.Proof.Tokens

@[expose] public section

set_option maxRecDepth 16384

noncomputable section

namespace Cert.Kernel5Ideal.Val

open Idealize.ShloMosaic Idealize.ShloMosaic.TcCoe Idealize.ShloMosaic.StableHlo
open Cert.Kernel5Ideal Cert.Kernel5Ideal.Gen

variable (m : (ℓ : Loc nD τ sig) → Buf (Elt Ideal) ℓ) (c : Dev nD)

theorem lt4 (t : Fin cfg0.N) : t.val < 4 := lt_of_lt_of_eq t.2 N_0

/-- The heads' outputs and what comes back, as the call finds them. -/
abbrev yV : FVec Ideal S8192x512 .bf16 := V m c main_v0
abbrev gV : FVec Ideal S8192x512 .bf16 := V m c main_v1
abbrev dmV : FVec Ideal S8192x1024 .bf16 := V m c main_v2
abbrev ysV : FVec Ideal S8192x512 .bf16 := V m c main_v3
abbrev dlV : FVec Ideal S8192x1024 .bf16 := V m c main_v4

theorem yV_eq : yV m c = truncf .bf16 (m ((c : Thread nD τ).loc main_arg0) : FVec Ideal S8192x512 .f32) bitsLt_bf16_f32 := by
  unfold yV V
  simp only [hostOps0, List.flatten_cons, List.flatten_nil, List.append_nil, List.cons_append, List.nil_append, TRef.binary, TRef.nullary, TRef.unary, TRef.toBuf, TRef.ofBuf, cast_eq]
  after_results
theorem gV_eq : gV m c = truncf .bf16 (m ((c : Thread nD τ).loc main_arg1) : FVec Ideal S8192x512 .f32) bitsLt_bf16_f32 := by
  unfold gV V
  simp only [hostOps0, List.flatten_cons, List.flatten_nil, List.append_nil, List.cons_append, List.nil_append, TRef.binary, TRef.nullary, TRef.unary, TRef.toBuf, TRef.ofBuf, cast_eq]
  after_results
theorem dmV_eq : dmV m c = truncf .bf16 (m ((c : Thread nD τ).loc main_arg3) : FVec Ideal S8192x1024 .f32) bitsLt_bf16_f32 := by
  unfold dmV V
  simp only [hostOps0, List.flatten_cons, List.flatten_nil, List.append_nil, List.cons_append, List.nil_append, TRef.binary, TRef.nullary, TRef.unary, TRef.toBuf, TRef.ofBuf, cast_eq]
  after_results
theorem ysV_eq : ysV m c = truncf .bf16 (m ((c : Thread nD τ).loc main_arg4) : FVec Ideal S8192x512 .f32) bitsLt_bf16_f32 := by
  unfold ysV V
  simp only [hostOps0, List.flatten_cons, List.flatten_nil, List.append_nil, List.cons_append, List.nil_append, TRef.binary, TRef.nullary, TRef.unary, TRef.toBuf, TRef.ofBuf, cast_eq]
  after_results
theorem dlV_eq : dlV m c = truncf .bf16 (m ((c : Thread nD τ).loc main_arg6) : FVec Ideal S8192x1024 .f32) bitsLt_bf16_f32 := by
  unfold dlV V
  simp only [hostOps0, List.flatten_cons, List.flatten_nil, List.append_nil, List.cons_append, List.nil_append, TRef.binary, TRef.nullary, TRef.unary, TRef.toBuf, TRef.ofBuf, cast_eq]
  after_results

/-- Entry `(x, r)` of block `k` of the columns of the two heads' outputs. -/
def pV (k : Fin 2) (x : Fin 8192) (r : Fin 512) : EReal := match k with
  | 0 => yV m c (ix2 x r) | 1 => gV m c (ix2 x r)

/-! ## The blocks of the operands -/

theorem idx0 : ∀ t : Fin grid0.N, win0_0.index t 0 = t.val ∧ win0_0.index t 1 = 0 := by decide +kernel
theorem b0 (t : Fin cfg0.N) (r : Fin 2048) (a : Fin 512) : (iblk m c 0 t : Vec Ideal S2048x512 .bf16) (ix2 r a)
    = yV m c (ix2 (⟨2048 * t.val + r, by have := lt4 t; omega⟩ : Fin 8192) a) := by
  unfold iblk
  rw [View.read_apply]
  refine congrArg (yV m c) (funext fun k => Fin.ext ?_)
  fin_cases k
  · show win0_0.index t 0 * 2048 + 1 * r.val = 2048 * t.val + r.val; rw [(idx0 t).1]; omega
  · show win0_0.index t 1 * 512 + 1 * a.val = a.val; rw [(idx0 t).2]; omega
theorem idx1 : ∀ t : Fin grid0.N, win0_1.index t 0 = t.val ∧ win0_1.index t 1 = 0 := by decide +kernel
theorem b1 (t : Fin cfg0.N) (r : Fin 2048) (a : Fin 512) : (iblk m c 1 t : Vec Ideal S2048x512 .bf16) (ix2 r a)
    = gV m c (ix2 (⟨2048 * t.val + r, by have := lt4 t; omega⟩ : Fin 8192) a) := by
  unfold iblk
  rw [View.read_apply]
  refine congrArg (gV m c) (funext fun k => Fin.ext ?_)
  fin_cases k
  · show win0_1.index t 0 * 2048 + 1 * r.val = 2048 * t.val + r.val; rw [(idx1 t).1]; omega
  · show win0_1.index t 1 * 512 + 1 * a.val = a.val; rw [(idx1 t).2]; omega
theorem idx2 : ∀ t : Fin grid0.N, win0_2.index t 0 = t.val ∧ win0_2.index t 1 = 0 := by decide +kernel
theorem b2 (t : Fin cfg0.N) (r : Fin 2048) (a : Fin 1024) : (iblk m c 2 t : Vec Ideal S2048x1024 .bf16) (ix2 r a)
    = dmV m c (ix2 (⟨2048 * t.val + r, by have := lt4 t; omega⟩ : Fin 8192) a) := by
  unfold iblk
  rw [View.read_apply]
  refine congrArg (dmV m c) (funext fun k => Fin.ext ?_)
  fin_cases k
  · show win0_2.index t 0 * 2048 + 1 * r.val = 2048 * t.val + r.val; rw [(idx2 t).1]; omega
  · show win0_2.index t 1 * 1024 + 1 * a.val = a.val; rw [(idx2 t).2]; omega
theorem idx3 : ∀ t : Fin grid0.N, win0_3.index t 0 = t.val ∧ win0_3.index t 1 = 0 := by decide +kernel
theorem b3 (t : Fin cfg0.N) (r : Fin 2048) (a : Fin 512) : (iblk m c 3 t : Vec Ideal S2048x512 .bf16) (ix2 r a)
    = ysV m c (ix2 (⟨2048 * t.val + r, by have := lt4 t; omega⟩ : Fin 8192) a) := by
  unfold iblk
  rw [View.read_apply]
  refine congrArg (ysV m c) (funext fun k => Fin.ext ?_)
  fin_cases k
  · show win0_3.index t 0 * 2048 + 1 * r.val = 2048 * t.val + r.val; rw [(idx3 t).1]; omega
  · show win0_3.index t 1 * 512 + 1 * a.val = a.val; rw [(idx3 t).2]; omega
theorem idx4 : ∀ t : Fin grid0.N, win0_4.index t 0 = t.val ∧ win0_4.index t 1 = 0 := by decide +kernel
theorem b4 (t : Fin cfg0.N) (r : Fin 2048) (a : Fin 1024) : (iblk m c 4 t : Vec Ideal S2048x1024 .bf16) (ix2 r a)
    = dlV m c (ix2 (⟨2048 * t.val + r, by have := lt4 t; omega⟩ : Fin 8192) a) := by
  unfold iblk
  rw [View.read_apply]
  refine congrArg (dlV m c) (funext fun k => Fin.ext ?_)
  fin_cases k
  · show win0_4.index t 0 * 2048 + 1 * r.val = 2048 * t.val + r.val; rw [(idx4 t).1]; omega
  · show win0_4.index t 1 * 1024 + 1 * a.val = a.val; rw [(idx4 t).2]; omega

/-! ## One grid point -/

theorem pay7_at (x2 : FVec Ideal S2048x1024 .bf16) (z : FVec Ideal S512x1024 .f32) (p : FVec Ideal S2048x512 .bf16) (r : Fin 512) (b : Fin 1024) :
    (k0_pay7 x2 z p : FVec Ideal S512x1024 .f32) (ix2 r b) = z (ix2 r b) + ∑ x, p (ix2 x r) * x2 (ix2 x b) := by
  pointwise [k0_pay7, k0_pay6]
theorem pay8_at (x2 : FVec Ideal S2048x1024 .bf16) (z : FVec Ideal S512x1024 .f32) (p : FVec Ideal S2048x512 .bf16) (r : Fin 512) (b : Fin 1024) :
    (k0_pay8 x2 z p : FVec Ideal S512x1024 .f32) (ix2 r b) = z (ix2 r b) + ∑ x, p (ix2 x r) * x2 (ix2 x b) := by
  pointwise [k0_pay8, k0_pay6]
theorem pay9_at (z : FVec Ideal S512x1024 .f32) (x3 : FVec Ideal S2048x512 .bf16) (x4 : FVec Ideal S2048x1024 .bf16) (r : Fin 512) (b : Fin 1024) :
    (k0_pay1 (k0_pay9 z x3 x4) : FVec Ideal S512x1024 .f32) (ix2 r b) = z (ix2 r b) + ∑ x, x3 (ix2 x r) * x4 (ix2 x b) := by
  pointwise [k0_pay1, k0_pay9]
theorem pay4_at (a b : Fin 1024) : (k0_pay4 : FVec Ideal S1024x1024 .f32) (ix2 a b) = 0 := by
  pointwise [k0_pay4]
theorem pay5_at (a : Fin 512) (b : Fin 1024) : (k0_pay5 : FVec Ideal S512x1024 .f32) (ix2 a b) = 0 := by
  pointwise [k0_pay5]
theorem pay2_at (z : FVec Ideal S1024x1024 .f32) (a b : Fin 1024) : (k0_pay2 z : FVec Ideal S1024x1024 .bf16) (ix2 a b) = z (ix2 a b) := by
  pointwise [k0_pay2]
theorem pay3_at (z : FVec Ideal S512x1024 .f32) (a : Fin 512) (b : Fin 1024) : (k0_pay3 z : FVec Ideal S512x1024 .bf16) (ix2 a b) = z (ix2 a b) := by
  pointwise [k0_pay3]

/-- Entry `(x, r)` of piece `k` of one grid point. -/
def pc (x0 x1 : FVec Ideal S2048x512 .bf16) (k : Fin 2) (x : Fin 2048) (r : Fin 512) : EReal := match k with
  | 0 => x0 (ix2 x r) | 1 => x1 (ix2 x r)

/-- What the first accumulator holds after one grid point. -/
def next (x0 x1 : FVec Ideal S2048x512 .bf16) (x2 : FVec Ideal S2048x1024 .bf16) (z : FVec Ideal S1024x1024 .f32) (s b : Fin 1024) : EReal :=
  z (ix2 s b) + ∑ x, pc x0 x1 (⟨s.val / 512, by omega⟩ : Fin 2) x (⟨s.val % 512, by omega⟩ : Fin 512) * x2 (ix2 x b)

theorem row_at (k : Fin 2) (x0 x1 : FVec Ideal S2048x512 .bf16) (x2 : FVec Ideal S2048x1024 .bf16) (z : FVec Ideal S1024x1024 .f32)
    (y : S1024x1024.Idx) (r : Fin 512) (b : Fin 1024) (h0 : (y 0).val = 512 * k.val + r.val) (h1 : (y 1).val = b.val) (v : EReal)
    (hv : v = (View.ld (Val := Elt Ideal) (e' := .f32) z (rows k) : FVec Ideal S512x1024 .f32) (ix2 r b) + ∑ x, pc x0 x1 k x r * x2 (ix2 x b)) :
    v = next x0 x1 x2 z (y 0) (y 1) := by
  subst hv
  unfold next
  have eb : (y 1 : Fin 1024) = b := Fin.ext h1
  have ek : (⟨(y 0).val / 512, by have : (y 0).val < 1024 := (y 0).2; omega⟩ : Fin 2) = k := Fin.ext (by dsimp only; omega)
  have er : (⟨(y 0).val % 512, by omega⟩ : Fin 512) = r := Fin.ext (by dsimp only; omega)
  refine congrArg₂ (· + ·) (congrArg z (funext fun a => Fin.ext ?_)) (Finset.sum_congr rfl fun x _ => ?_)
  · fin_cases a
    · show 512 * k.val + 1 * r.val = (y 0).val; omega
    · show 0 + 1 * b.val = (y 1).val; omega
  · exact congrArg₂ (· * ·) (congrArg₂ (fun i j => pc x0 x1 i x j) ek.symm er.symm) (congrArg (fun i => x2 (ix2 x i)) eb.symm)

theorem two_at (x0 x1 : FVec Ideal S2048x512 .bf16) (x2 : FVec Ideal S2048x1024 .bf16) (z : FVec Ideal S1024x1024 .f32)
    (L : List (View.Piece (Elt Ideal) S1024x1024 .f32)) (y : S1024x1024.Idx) :
    View.canon (two x0 x1 x2 z ++ L) y = next x0 x1 x2 z (y 0) (y 1) := by
  refine View.canon_append_of_pieces (Val := Elt Ideal) (e := .f32) (fun y => next x0 x1 x2 z (y 0) (y 1)) L (two x0 x1 x2 z) ?_ y ?_
  · unfold two
    simp only [List.forall_mem_cons]
    refine ⟨fun q => ?_, fun q => ?_, fun _ h => absurd h List.not_mem_nil⟩
    all_goals
      obtain ⟨r, b, rfl⟩ : ∃ (r : Fin 512) (b : Fin 1024), q = ix2 r b := ⟨q 0, q 1, funext fun a => by fin_cases a <;> rfl⟩
    · exact row_at 1 x0 x1 x2 z ((rows 1).emb (ix2 r b)) r b (by show 512 * 1 + 1 * r.val = _; rw [Nat.one_mul]; rfl) (by show 0 + 1 * b.val = _; omega) _ (pay8_at _ _ _ r b)
    · exact row_at 0 x0 x1 x2 z ((rows 0).emb (ix2 r b)) r b (by show 512 * 0 + 1 * r.val = _; rw [Nat.one_mul]; rfl) (by show 0 + 1 * b.val = _; omega) _ (pay7_at _ _ _ r b)
  · have h0 : (y 0).val < 1024 := (y 0).2
    have h1 : (y 1).val < 1024 := (y 1).2
    have hm : ∀ k : Fin 2, ∃ p ∈ two x0 x1 x2 z, p.1 = rows k := fun k => by
      unfold two; fin_cases k <;> simp
    obtain ⟨p, hp, e⟩ := hm ⟨(y 0).val / 512, by omega⟩
    refine ⟨p, hp, ?_⟩
    rw [e]
    refine (Rect.mem_set_unit (inb := in_rows _)).mpr fun a => ?_
    fin_cases a
    · show 512 * ((y 0).val / 512) ≤ (y 0).val ∧ (y 0).val < 512 * ((y 0).val / 512) + 512; omega
    · show 0 ≤ (y 1).val ∧ (y 1).val < 0 + 1024; omega

/-- A token's term of the gradient of entry `(s, b)` of the weight that mixes the heads. -/
def term (s b : Fin 1024) (x : Fin 8192) : EReal :=
  pV m c (⟨s.val / 512, by omega⟩ : Fin 2) x (⟨s.val % 512, by omega⟩ : Fin 512) * dmV m c (ix2 x b)
/-- A token's term of the gradient of entry `(s, b)` of the gate's weight. -/
def termG (s : Fin 512) (b : Fin 1024) (x : Fin 8192) : EReal := ysV m c (ix2 x s) * dlV m c (ix2 x b)

/-- The pieces of a grid point are blocks of the heads' outputs. -/
theorem pc_at (t : Fin cfg0.N) (k : Fin 2) (x : Fin 2048) (r : Fin 512) :
    pc (iblk m c 0 t) (iblk m c 1 t) k x r = pV m c k (⟨2048 * t.val + x, by have := lt4 t; omega⟩ : Fin 8192) r := by
  fin_cases k
  · exact b0 m c t x r
  · exact b1 m c t x r

/-- What is accumulated once point `n` is done: the sums over the tokens up to its block's end. -/
def accAt (n : ℕ) (a b : Fin 1024) : EReal := Tok.upTo (term m c a b) (2048 * n + 2048)
def accG (n : ℕ) (a : Fin 512) (b : Fin 1024) : EReal := Tok.upTo (termG m c a b) (2048 * n + 2048)

/-- The contents of the accumulators after point `t`, over `z`. -/
abbrev nextAt (t : Fin cfg0.N) (z : FVec Ideal S1024x1024 .f32) (a b : Fin 1024) : EReal :=
  next (iblk m c 0 t) (iblk m c 1 t) (iblk m c 2 t) z a b
abbrev nextG (t : Fin cfg0.N) (z : FVec Ideal S512x1024 .f32) : FVec Ideal S512x1024 .f32 :=
  k0_pay1 (k0_pay9 z (iblk m c 3 t) (iblk m c 4 t))

theorem step_first (t : Fin cfg0.N) (h : t.val = 0) (a b : Fin 1024) :
    nextAt m c t (k0_pay4 (F := Ideal)) a b = accAt m c t.val a b := by
  unfold nextAt next accAt
  rw [pay4_at, h]
  refine Tok.upTo_first _ 2048 _ (by omega) fun i => ?_
  refine congrArg₂ (· * ·) ((pc_at m c t _ i _).trans ?_) ((b2 m c t i b).trans ?_)
  · refine congrArg (fun x => pV m c _ x _) (Fin.ext ?_); dsimp only; omega
  · refine congrArg (fun x => dmV m c (ix2 x _)) (Fin.ext ?_); dsimp only; omega
theorem stepG_first (t : Fin cfg0.N) (h : t.val = 0) (a : Fin 512) (b : Fin 1024) :
    nextG m c t (k0_pay5 (F := Ideal)) (ix2 a b) = accG m c t.val a b := by
  unfold nextG accG
  rw [pay9_at, pay5_at, h]
  refine Tok.upTo_first _ 2048 _ (by omega) fun i => ?_
  refine congrArg₂ (· * ·) ((b3 m c t i a).trans ?_) ((b4 m c t i b).trans ?_)
  · refine congrArg (fun x => ysV m c (ix2 x _)) (Fin.ext ?_); dsimp only; omega
  · refine congrArg (fun x => dlV m c (ix2 x _)) (Fin.ext ?_); dsimp only; omega

theorem step_next (n : ℕ) (h : n + 1 < cfg0.N) (z : FVec Ideal S1024x1024 .f32)
    (hzz : ∀ a b, z (ix2 a b) = accAt m c n a b) (a b : Fin 1024) :
    nextAt m c ⟨n + 1, h⟩ z a b = accAt m c (n + 1) a b := by
  have hl := lt4 ⟨n + 1, h⟩
  dsimp only at hl
  unfold nextAt next accAt
  rw [hzz]
  unfold accAt
  rw [show 2048 * n + 2048 = 2048 * (n + 1) by omega]
  refine Tok.upTo_block _ _ 2048 _ (by omega) fun i => ?_
  exact congrArg₂ (· * ·) (pc_at m c ⟨n + 1, h⟩ _ i _) (b2 m c ⟨n + 1, h⟩ i b)
theorem stepG_next (n : ℕ) (h : n + 1 < cfg0.N) (z : FVec Ideal S512x1024 .f32)
    (hzz : ∀ a b, z (ix2 a b) = accG m c n a b) (a : Fin 512) (b : Fin 1024) :
    nextG m c ⟨n + 1, h⟩ z (ix2 a b) = accG m c (n + 1) a b := by
  have hl := lt4 ⟨n + 1, h⟩
  dsimp only at hl
  unfold nextG accG
  rw [pay9_at, hzz]
  unfold accG
  rw [show 2048 * n + 2048 = 2048 * (n + 1) by omega]
  refine Tok.upTo_block _ _ 2048 _ (by omega) fun i => ?_
  exact congrArg₂ (· * ·) (b3 m c ⟨n + 1, h⟩ i a) (b4 m c ⟨n + 1, h⟩ i b)

/-- What a point leaves: two outputs' blocks and two accumulators. -/
abbrev St := Vec Ideal S1024x1024 .bf16 × Vec Ideal S512x1024 .bf16 × Vec Ideal S1024x1024 .f32 × Vec Ideal S512x1024 .f32

/-- What accumulator 0 holds after every point. -/
theorem acc_eq : ∀ (n : ℕ) (h : n < cfg0.N) (a : Fin 1024) (b : Fin 1024), ((outsAt0 m c n h).2.2.1 : FVec Ideal S1024x1024 .f32) (ix2 a b) = accAt m c n a b
  | 0, h, a, b => by
    have e := congrArg (fun p : St => p.2.2.1) (outsAt0_A m c ⟨0, h⟩ rfl (by dsimp only; omega))
    dsimp only at e
    exact (congrFun (e.trans (sout0_A_0_eq ..)) (ix2 a b)).trans (((two_at _ _ _ _ _ _).trans (step_first m c ⟨0, h⟩ rfl a b)))
  | n + 1, h, a, b => by
    have hl := lt4 ⟨n + 1, h⟩
    dsimp only at hl
    have h0 : ¬(n + 1) % 4 = 0 := by omega
    have hr := step_next m c n h _ (acc_eq n (Nat.lt_of_succ_lt h)) a b
    by_cases h1 : (n + 1) % 4 = 3
    · have e := congrArg (fun p : St => p.2.2.1) (outsAt0_C m c ⟨n + 1, h⟩ h0 h1)
      dsimp only at e
      exact (congrFun (e.trans (sout0_C_0_eq ..)) (ix2 a b)).trans ((congrArg (fun L => View.canon L (ix2 a b)) (List.append_nil _).symm).trans ((two_at _ _ _ _ [] _).trans (hr)))
    · have e := congrArg (fun p : St => p.2.2.1) (outsAt0_B m c ⟨n + 1, h⟩ h0 h1)
      dsimp only at e
      exact (congrFun (e.trans (sout0_B_0_eq ..)) (ix2 a b)).trans ((congrArg (fun L => View.canon L (ix2 a b)) (List.append_nil _).symm).trans ((two_at _ _ _ _ [] _).trans (hr)))

/-- What accumulator 1 holds after every point. -/
theorem accG_eq : ∀ (n : ℕ) (h : n < cfg0.N) (a : Fin 512) (b : Fin 1024), ((outsAt0 m c n h).2.2.2 : FVec Ideal S512x1024 .f32) (ix2 a b) = accG m c n a b
  | 0, h, a, b => by
    have e := congrArg (fun p : St => p.2.2.2) (outsAt0_A m c ⟨0, h⟩ rfl (by dsimp only; omega))
    dsimp only at e
    exact (congrFun (e.trans (sout0_A_1_eq ..)) (ix2 a b)).trans (stepG_first m c ⟨0, h⟩ rfl a b)
  | n + 1, h, a, b => by
    have hl := lt4 ⟨n + 1, h⟩
    dsimp only at hl
    have h0 : ¬(n + 1) % 4 = 0 := by omega
    have hr := stepG_next m c n h _ (accG_eq n (Nat.lt_of_succ_lt h)) a b
    by_cases h1 : (n + 1) % 4 = 3
    · have e := congrArg (fun p : St => p.2.2.2) (outsAt0_C m c ⟨n + 1, h⟩ h0 h1)
      dsimp only at e
      exact (congrFun (e.trans (sout0_C_1_eq ..)) (ix2 a b)).trans (hr)
    · have e := congrArg (fun p : St => p.2.2.2) (outsAt0_B m c ⟨n + 1, h⟩ h0 h1)
      dsimp only at e
      exact (congrFun (e.trans (sout0_B_1_eq ..)) (ix2 a b)).trans (hr)

theorem out5_eq (t : Fin cfg0.N) (h1 : t.val = 3) (a : Fin 1024) (b : Fin 1024) :
    ((outsAt0 m c t.val t.isLt).1 : FVec Ideal S1024x1024 .bf16) (ix2 a b) = accAt m c t.val a b := by
  have h0 : ¬t.val % 4 = 0 := by omega
  have h1 : t.val % 4 = 3 := by omega
  have e := congrArg (fun p : St => p.1) (outsAt0_C m c t h0 h1)
  dsimp only at e
  have e' := congrArg (fun p : St => p.2.2.1) (outsAt0_C m c t h0 h1)
  dsimp only at e'
  refine (congrFun (e.trans (out0_C_5_eq ..)) (ix2 a b)).trans ((pay2_at _ a b).trans ?_)
  exact (congrFun (e'.trans (sout0_C_0_eq ..)) (ix2 a b)).symm.trans (acc_eq m c t.val t.isLt a b)
theorem out6_eq (t : Fin cfg0.N) (h1 : t.val = 3) (a : Fin 512) (b : Fin 1024) :
    ((outsAt0 m c t.val t.isLt).2.1 : FVec Ideal S512x1024 .bf16) (ix2 a b) = accG m c t.val a b := by
  have h0 : ¬t.val % 4 = 0 := by omega
  have h1 : t.val % 4 = 3 := by omega
  have e := congrArg (fun p : St => p.2.1) (outsAt0_C m c t h0 h1)
  dsimp only at e
  have e' := congrArg (fun p : St => p.2.2.2) (outsAt0_C m c t h0 h1)
  dsimp only at e'
  refine (congrFun (e.trans (out0_C_6_eq ..)) (ix2 a b)).trans ((pay3_at _ a b).trans ?_)
  exact (congrFun (e'.trans (sout0_C_1_eq ..)) (ix2 a b)).symm.trans (accG_eq m c t.val t.isLt a b)

/-! ## The arrays -/

/-- The gradient of the weight that mixes the heads. -/
def dwR (s b : Fin 1024) : EReal := ∑ x, term m c s b x
/-- The gradient of the gate's weight. -/
def dgR (s : Fin 512) (b : Fin 1024) : EReal := ∑ x, termG m c s b x

theorem dw_eq (a : Fin 1024) (b : Fin 1024) : Value.G5 m c (ix2 a b) = dwR m c a b := by
  have hv : Value.pt5Of (ix2 a b) = 3 := by
    show 4 * (1 * (a.val / 1024 - 0) + 1 * (b.val / 1024 - 0)) + 3 = _; omega
  have hp : Value.pt5Of (ix2 a b) < cfg0.N := lt_of_lt_of_eq (by rw [hv]; omega) N_0.symm
  unfold Value.G5
  rw [dif_pos hp, ← Value.outsAt0_sweep m c _ hp]
  have hl : Value.loc5Of (ix2 a b) = ix2 a b := by
    funext k; refine Fin.ext ?_; fin_cases k
    · show a.val % 1024 = a.val; omega
    · show b.val % 1024 = b.val; omega
  refine (congrArg _ hl).trans ((out5_eq m c ⟨_, hp⟩ hv a b).trans ?_)
  unfold accAt dwR
  rw [← Tok.upTo_all]
  dsimp only
  rw [hv]
theorem dg_eq (a : Fin 512) (b : Fin 1024) : Value.G6 m c (ix2 a b) = dgR m c a b := by
  have hv : Value.pt6Of (ix2 a b) = 3 := by
    show 4 * (1 * (a.val / 512 - 0) + 1 * (b.val / 1024 - 0)) + 3 = _; omega
  have hp : Value.pt6Of (ix2 a b) < cfg0.N := lt_of_lt_of_eq (by rw [hv]; omega) N_0.symm
  unfold Value.G6
  rw [dif_pos hp, ← Value.outsAt0_sweep m c _ hp]
  have hl : Value.loc6Of (ix2 a b) = ix2 a b := by
    funext k; refine Fin.ext ?_; fin_cases k
    · show a.val % 512 = a.val; omega
    · show b.val % 1024 = b.val; omega
  refine (congrArg _ hl).trans ((out6_eq m c ⟨_, hp⟩ hv a b).trans ?_)
  unfold accG dgR
  rw [← Tok.upTo_all]
  dsimp only
  rw [hv]

end Cert.Kernel5Ideal.Val

end
-- ==== Proof.OutSame.lean ====
/- The gradients of the weights that follow the heads: both programs end with the same arrays. -/
module

public import proofs.«01_k».proof.Proof.OutVal
public import proofs.«01_k».proof.Proof.Gen.Reference5Ideal.Run
public import proofs.«01_k».proof.Defs
public import Idealize.ShloMosaic.Lib.Quiescent

@[expose] public section

set_option maxRecDepth 16384

noncomputable section

namespace Cert.Same5

open Idealize.ShloMosaic Idealize.ShloMosaic.TcCoe Idealize.ShloMosaic.StableHlo Idealize.SL.Sem

section
open Cert.Reference5Ideal Cert.Reference5Ideal.Gen
/-- The reference's gradients. -/
def refDw (x0 x1 : FVec Ideal S8192x512 .f32) (x3 : FVec Ideal S8192x1024 .f32) : FVec Ideal S1024x1024 .bf16 := truncf .bf16 (transpose S1024x1024 [1, 0] (Host.dotGeneral dot_S8192x1024_S8192x1024_S1024x1024_0_0_1_1_n_n none x3 (concatenate S8192x1024 1 [⟨S8192x512, x0⟩, ⟨S8192x512, x1⟩] concatenates_S8192x512_S8192x512_S8192x1024_d1 : FVec Ideal S8192x1024 .f32)) transposes_S1024x1024_S1024x1024_1_0) bitsLt_bf16_f32
def refDg (x4 : FVec Ideal S8192x512 .f32) (x6 : FVec Ideal S8192x1024 .f32) : FVec Ideal S512x1024 .bf16 := truncf .bf16 (transpose S512x1024 [1, 0] (Host.dotGeneral dot_S8192x1024_S8192x512_S1024x512_0_0_1_1_n_n none x6 x4) transposes_S1024x512_S512x1024_1_0) bitsLt_bf16_f32
/-- Entry `(x, r)` of block `k` of the columns. -/
def pick (x0 x1 : FVec Ideal S8192x512 .f32) (k : Fin 2) (x : Fin 8192) (r : Fin 512) : EReal := match k with
  | 0 => x0 (ix2 x r) | 1 => x1 (ix2 x r)
theorem ref_dg (x4 : FVec Ideal S8192x512 .f32) (x6 : FVec Ideal S8192x1024 .f32) (s : Fin 512) (a : Fin 1024) :
    refDg x4 x6 (ix2 s a) = ∑ x : Fin 8192, x6 (ix2 x a) * x4 (ix2 x s) := by
  pointwise [refDg]
theorem ref_dw (x0 x1 : FVec Ideal S8192x512 .f32) (x3 : FVec Ideal S8192x1024 .f32) (s a : Fin 1024) :
    refDw x0 x1 x3 (ix2 s a)
      = ∑ x : Fin 8192, x3 (ix2 x a) * pick x0 x1 (⟨s.val / 512, by omega⟩ : Fin 2) x (⟨s.val % 512, by omega⟩ : Fin 512) := by
  pointwise [refDw]
  refine Finset.sum_congr rfl fun x _ => congrArg (x3 (ix2 x a) * ·) ?_
  obtain ⟨k, r, h⟩ : ∃ (k : Fin 2) (r : Fin 512), s.val = 512 * k.val + r.val := ⟨⟨s.val / 512, by omega⟩, ⟨s.val % 512, by omega⟩, by dsimp only; omega⟩
  rw [show (⟨s.val / 512, by omega⟩ : Fin 2) = k from Fin.ext (by dsimp only; omega),
    show (⟨s.val % 512, by omega⟩ : Fin 512) = r from Fin.ext (by dsimp only; omega)]
  have hr := r.2
  match k, h with
  | 0, h =>
    have h : s.val = 512 * 0 + r.val := h
    rw [dif_pos (by omega)]
    exact congrArg (fun i => x0 (ix2 x i)) (Fin.ext (by dsimp only; omega))
  | 1, h =>
    have h : s.val = 512 * 1 + r.val := h
    rw [dif_neg (by omega)]
    exact congrArg (fun i => x1 (ix2 x i)) (Fin.ext (by dsimp only; omega))
end

section
variable (m : (ℓ : Loc Cert.Kernel5Ideal.nD Cert.Kernel5Ideal.τ Cert.Kernel5Ideal.sig) → Buf (Elt Ideal) ℓ) (c : Dev Cert.Kernel5Ideal.nD)
open Cert.Kernel5Ideal Cert.Kernel5Ideal.Gen Cert.Kernel5Ideal.Val
/-- The arguments the call reads, as matrices. -/
abbrev pA0 : FVec Ideal S8192x512 .f32 := m ((c : Thread nD τ).loc main_arg0)
abbrev pA1 : FVec Ideal S8192x512 .f32 := m ((c : Thread nD τ).loc main_arg1)
abbrev pA3 : FVec Ideal S8192x1024 .f32 := m ((c : Thread nD τ).loc main_arg3)
abbrev pA4 : FVec Ideal S8192x512 .f32 := m ((c : Thread nD τ).loc main_arg4)
abbrev pA6 : FVec Ideal S8192x1024 .f32 := m ((c : Thread nD τ).loc main_arg6)
theorem p_at (k : Fin 2) (x : Fin 8192) (r : Fin 512) : pV m c k x r = pick (pA0 m c) (pA1 m c) k x r :=
  match k with
  | 0 => congrFun (yV_eq m c) _
  | 1 => congrFun (gV_eq m c) _
theorem dm_at (x : Fin 8192) (k : Fin 1024) : dmV m c (ix2 x k) = pA3 m c (ix2 x k) := congrFun (dmV_eq m c) _
theorem ys_at (x : Fin 8192) (k : Fin 512) : ysV m c (ix2 x k) = pA4 m c (ix2 x k) := congrFun (ysV_eq m c) _
theorem dl_at (x : Fin 8192) (k : Fin 1024) : dlV m c (ix2 x k) = pA6 m c (ix2 x k) := congrFun (dlV_eq m c) _

theorem dw_same : refDw (pA0 m c) (pA1 m c) (pA3 m c) = Value.G5 m c := by
  funext y
  obtain ⟨s, a, rfl⟩ : ∃ (s a : Fin 1024), y = ix2 s a := ⟨y 0, y 1, by funext k; fin_cases k <;> rfl⟩
  refine (ref_dw _ _ _ s a).trans (Eq.trans ?_ (Val.dw_eq m c s a).symm)
  unfold dwR term
  refine Finset.sum_congr rfl fun x _ => ?_
  rw [dm_at, p_at, mul_comm]
theorem dg_same : refDg (pA4 m c) (pA6 m c) = Value.G6 m c := by
  funext y
  obtain ⟨s, a, rfl⟩ : ∃ (s : Fin 512) (a : Fin 1024), y = ix2 s a := ⟨y 0, y 1, by funext k; fin_cases k <;> rfl⟩
  refine (ref_dg _ _ s a).trans (Eq.trans ?_ (Val.dg_eq m c s a).symm)
  unfold dgR termG
  refine Finset.sum_congr rfl fun x _ => ?_
  rw [ys_at, dl_at, mul_comm]
end

/-- The reference keeps its arguments and signals nothing. -/
theorem ref_frame (m : (ℓ : Loc Cert.Reference5Ideal.nD Cert.Reference5Ideal.τ Cert.Reference5Ideal.sig) → Buf (Elt Ideal) ℓ)
    (ρ : Dev Cert.Reference5Ideal.nD → PrngReg) :
    θ_run (Cert.Reference5Ideal.defs (F := Ideal)) (onTc (τ := Cert.Reference5Ideal.τ) (Cert.Reference5Ideal.main (F := Ideal))) ⟨m, fun _ => 0, ρ⟩
      (fun r => (∀ c : Dev Cert.Reference5Ideal.nD,
        r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
        ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
        ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
        ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
        ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
        ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
        ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
        ∧ r.2.sem = fun _ => 0) :=
  (θ_run (Cert.Reference5Ideal.defs (F := Ideal)) _ _).mono (fun r h => ⟨fun c => (h c).2.2, sem_eq_zero_of_no_sems (by decide) r.2⟩)
    (Cert.Reference5Ideal.Value.run (F := Ideal) m ρ)

theorem algebraic : Cert.algebraic_Kernel5Ideal_Reference5Ideal (hKernel5Ideal := Cert.Kernel5Ideal.Gen.facts)
    (hReference5Ideal := Cert.Reference5Ideal.Gen.facts) := by
  intro m g m' g' _ hargs
  refine ⟨fun c => Cert.Kernel5Ideal.Value.G5 m c, fun c => Cert.Kernel5Ideal.Value.G6 m c, ?_, ?_⟩
  · exact Cert.Kernel5Ideal.Value.run m g
  · refine (θ_run (Cert.Reference5Ideal.defs (F := Ideal)) _ _).mono (fun r h c => ?_) (Cert.Reference5Ideal.Value.run (F := Ideal) m' g')
    obtain ⟨a0, a1, a2, a3, a4, a5, a6⟩ := hargs c
    refine ⟨(h c).1.trans (Eq.trans ?_ (dw_same m c)), (h c).2.1.trans (Eq.trans ?_ (dg_same m c)), (h c).2.2⟩
    · rw [a3, a0, a1]; rfl
    · rw [a6, a4]; rfl

end Cert.Same5

end
-- ==== Proof.InPieces.lean ====
/- What one grid point of the gradient of the projections' weights stores. -/
module

public import proofs.«01_k».proof.Proof.Gen.Kernel4Ideal.Value
public import Idealize.ShloMosaic.Lib.Pipeline.ReadBack
public import Idealize.ShloMosaic.Lib.IdealHost

@[expose] public section

set_option maxRecDepth 16384

noncomputable section

namespace Cert.Kernel4Ideal.Val

open Idealize.ShloMosaic Idealize.ShloMosaic.TcCoe Idealize.ShloMosaic.StableHlo
open Cert.Kernel4Ideal Cert.Kernel4Ideal.Gen

theorem hz : (![0, 0] : Fin 2 → Nat) = fun _ => 0 := funext fun a => by fin_cases a <;> rfl
theorem hz3 : (![0, 0, 0] : Fin 3 → Nat) = fun _ => 0 := funext fun a => by fin_cases a <;> rfl

/-- A load of a part of what one store of the whole left reads that part of it. -/
theorem part {S : Shape} {e : EltTy} (v : View sig .tc .vmem S e) {off : Fin S.rank → Nat} (h : off = fun _ => 0) (inb : ∀ a, off a + S.size a ≤ S.size a)
    (w : S.Idx → Elt Ideal e) (L : List (View.Piece (Elt Ideal) S e)) (r : Rect S) :
    v.readCov ((⟨Rect.unit off S.size inb, w⟩ : View.Piece (Elt Ideal) S e) :: L) r.toLoadRect = View.ld w r := by
  subst h
  rw [View.readCov_eq_canon_ld _ _ _ (fun y => ⟨_, List.mem_cons_self, by show y ∈ (Rect.whole S).set; rw [Rect.set_whole]; exact Finset.mem_univ y⟩),
    View.canon_cons_unit_zero rfl]

/-- A load of the whole reads what the stores left. -/
theorem all {S : Shape} {e : EltTy} (v : View sig .tc .vmem S e) {off : Fin S.rank → Nat} (h : off = fun _ => 0) (inb : ∀ a, off a + S.size a ≤ S.size a)
    (L : List (View.Piece (Elt Ideal) S e)) : v.readCov L (Rect.unit off S.size inb).toLoadRect = View.canon L := by
  subst h
  rw [View.readCov_eq_canon']
  funext j
  exact congrArg (View.canon L) (funext fun a => Fin.ext (by show 0 + 1 * (j a).val = (j a).val; omega))

theorem in_rows (k : Fin 5) : ∀ a, (![512 * k.val, 0] : Fin 2 → ℕ) a + (![512, 1024] : Fin 2 → ℕ) a ≤ S2560x1024.size a := by
  intro a; fin_cases a
  · show 512 * k.val + 512 ≤ 2560; omega
  · show 0 + 1024 ≤ 1024; omega
/-- A fifth of the rows. -/
abbrev rows (k : Fin 5) : Rect S2560x1024 := Rect.unit (s := S2560x1024) ![512 * k.val, 0] ![512, 1024] (in_rows k)
/-- The five stores of one grid point over what was accumulated. -/
def five (x0 x1 x2 x3 : FVec Ideal S1024x512 .bf16) (x4 : FVec Ideal S1024x512 .f32) (x5 : FVec Ideal S1024x1024 .bf16) (z : S2560x1024.Idx → Elt Ideal .f32) : List (View.Piece (Elt Ideal) S2560x1024 .f32) :=
  [⟨rows 4, k0_pay2 (F := Ideal) (k0_pay5 x5) (View.ld z (rows 4)) x4⟩, ⟨rows 3, k0_pay1 (F := Ideal) (k0_pay5 x5) (View.ld z (rows 3)) x3⟩,
   ⟨rows 2, k0_pay8 (F := Ideal) x5 (View.ld z (rows 2)) x2⟩, ⟨rows 1, k0_pay7 (F := Ideal) x5 (View.ld z (rows 1)) x1⟩, ⟨rows 0, k0_pay6 (F := Ideal) x5 (View.ld z (rows 0)) x0⟩]

variable (x0 : Vec Ideal S1024x512 .bf16) (x1 : Vec Ideal S1024x512 .bf16) (x2 : Vec Ideal S1024x512 .bf16) (x3 : Vec Ideal S1024x512 .bf16) (x4 : Vec Ideal S1024x512 .f32) (x5 : Vec Ideal S1024x1024 .bf16) (c : Dev nD) (i : grid0.Coords)
  (arg1 : Memref sig .tc .vmem S1024x512 .bf16) (harg1 : arg1.IsWhole) (arg2 : Memref sig .tc .vmem S1024x512 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S1024x512 .f32) (harg5 : arg5.IsWhole) (arg6 : Memref sig .tc .vmem S1024x1024 .bf16) (harg6 : arg6.IsWhole) (arg7 : Memref sig .tc .vmem S2560x1024 .bf16) (harg7 : arg7.IsWhole) (arg8 : Memref sig .tc .vmem S2560x1024 .f32) (harg8 : arg8.IsWhole)

theorem sout0_A_0_eq (hc0 : cond0_0 i) (hc1 : ¬cond0_1 i) :
    sout0_A_0 (F := Ideal) c i arg1 harg1 arg2 harg2 arg3 harg3 arg4 harg4 arg5 harg5 arg6 harg6 arg7 harg7 arg8 harg8 hc0 hc1 x0 x1 x2 x3 x4 x5 = View.canon (five x0 x1 x2 x3 x4 x5 (k0_pay4 (F := Ideal)) ++ [⟨Rect.unit (s := S2560x1024) ![0, 0] S2560x1024.size inb_S2560x1024_S2560x1024_0_0, k0_pay4 (F := Ideal)⟩]) := by
  unfold sout0_A_0
  rw [View.read_writes_eq_canon _ _ _ (scover0_A_0 c i arg1 harg1 arg2 harg2 arg3 harg3 arg4 harg4 arg5 harg5 arg6 harg6 arg7 harg7 arg8 harg8 hc0 hc1 x0 x1 x2 x3 x4 x5)]
  unfold kernelRun0_A
  dsimp only
  sl_unfold_words
  simp (disch := first | rfl | decide) only [↓View.readCov_skip]
  simp only [part (S := S2560x1024) _ hz]
  simp only [View.canon_unit_zero (S := S1024x1024) hz, View.canon_cons_unit_zero (S := S1024x1024) hz, View.readCov_unit_zero (S := S1024x1024) _ hz, View.ld_unit_zero (S := S1024x1024) hz, View.canon_unit_zero (S := S1024x512) hz, View.canon_cons_unit_zero (S := S1024x512) hz, View.readCov_unit_zero (S := S1024x512) _ hz, View.ld_unit_zero (S := S1024x512) hz, View.canon_unit_zero (S := S2560x1024) hz, View.canon_cons_unit_zero (S := S2560x1024) hz, View.readCov_unit_zero (S := S2560x1024) _ hz, View.ld_unit_zero (S := S2560x1024) hz, View.readAt_eq_ld, harg1.read_unread, harg2.read_unread, harg3.read_unread, harg4.read_unread, harg5.read_unread, harg6.read_unread, harg7.read_unread, harg8.read_unread]
  rfl
theorem sout0_B_0_eq (hc0 : ¬cond0_0 i) (hc1 : ¬cond0_1 i)
    (xs0 : Vec Ideal S2560x1024 .f32) :
    sout0_B_0 (F := Ideal) c i arg1 harg1 arg2 harg2 arg3 harg3 arg4 harg4 arg5 harg5 arg6 harg6 arg7 harg7 arg8 harg8 hc0 hc1 x0 x1 x2 x3 x4 x5 xs0 = View.canon (five x0 x1 x2 x3 x4 x5 xs0) := by
  unfold sout0_B_0
  rw [View.read_writes_eq_canon _ _ _ (scover0_B_0 c i arg1 harg1 arg2 harg2 arg3 harg3 arg4 harg4 arg5 harg5 arg6 harg6 arg7 harg7 arg8 harg8 hc0 hc1 x0 x1 x2 x3 x4 x5 xs0)]
  unfold kernelRun0_B
  dsimp only
  sl_unfold_words
  simp only [View.canon_unit_zero (S := S1024x1024) hz, View.canon_cons_unit_zero (S := S1024x1024) hz, View.readCov_unit_zero (S := S1024x1024) _ hz, View.ld_unit_zero (S := S1024x1024) hz, View.canon_unit_zero (S := S1024x512) hz, View.canon_cons_unit_zero (S := S1024x512) hz, View.readCov_unit_zero (S := S1024x512) _ hz, View.ld_unit_zero (S := S1024x512) hz, View.canon_unit_zero (S := S2560x1024) hz, View.canon_cons_unit_zero (S := S2560x1024) hz, View.readCov_unit_zero (S := S2560x1024) _ hz, View.ld_unit_zero (S := S2560x1024) hz, View.readAt_eq_ld, harg1.read_unread, harg2.read_unread, harg3.read_unread, harg4.read_unread, harg5.read_unread, harg6.read_unread, harg7.read_unread, harg8.read_unread]
  rfl
theorem sout0_C_0_eq (hc0 : ¬cond0_0 i) (hc1 : cond0_1 i)
    (xs0 : Vec Ideal S2560x1024 .f32) :
    sout0_C_0 (F := Ideal) c i arg1 harg1 arg2 harg2 arg3 harg3 arg4 harg4 arg5 harg5 arg6 harg6 arg7 harg7 arg8 harg8 hc0 hc1 x0 x1 x2 x3 x4 x5 xs0 = View.canon (five x0 x1 x2 x3 x4 x5 xs0) := by
  unfold sout0_C_0
  rw [View.read_writes_eq_canon _ _ _ (scover0_C_0 c i arg1 harg1 arg2 harg2 arg3 harg3 arg4 harg4 arg5 harg5 arg6 harg6 arg7 harg7 arg8 harg8 hc0 hc1 x0 x1 x2 x3 x4 x5 xs0)]
  unfold kernelRun0_C
  dsimp only
  sl_unfold_words
  simp only [View.canon_unit_zero (S := S1024x1024) hz, View.canon_cons_unit_zero (S := S1024x1024) hz, View.readCov_unit_zero (S := S1024x1024) _ hz, View.ld_unit_zero (S := S1024x1024) hz, View.canon_unit_zero (S := S1024x512) hz, View.canon_cons_unit_zero (S := S1024x512) hz, View.readCov_unit_zero (S := S1024x512) _ hz, View.ld_unit_zero (S := S1024x512) hz, View.canon_unit_zero (S := S2560x1024) hz, View.canon_cons_unit_zero (S := S2560x1024) hz, View.readCov_unit_zero (S := S2560x1024) _ hz, View.ld_unit_zero (S := S2560x1024) hz, View.readAt_eq_ld, harg1.read_unread, harg2.read_unread, harg3.read_unread, harg4.read_unread, harg5.read_unread, harg6.read_unread, harg7.read_unread, harg8.read_unread]
  rfl
theorem out0_C_6_eq (hc0 : ¬cond0_0 i) (hc1 : cond0_1 i)
    (xs0 : Vec Ideal S2560x1024 .f32) :
    out0_C_6 (F := Ideal) c i arg1 harg1 arg2 harg2 arg3 harg3 arg4 harg4 arg5 harg5 arg6 harg6 arg7 harg7 arg8 harg8 hc0 hc1 x0 x1 x2 x3 x4 x5 xs0 = k0_pay3 (View.canon (five x0 x1 x2 x3 x4 x5 xs0)) := by
  unfold out0_C_6
  rw [View.read_writes_eq_canon _ _ _ (cover0_C_6 c i arg1 harg1 arg2 harg2 arg3 harg3 arg4 harg4 arg5 harg5 arg6 harg6 arg7 harg7 arg8 harg8 hc0 hc1 x0 x1 x2 x3 x4 x5 xs0)]
  unfold kernelRun0_C
  dsimp only
  sl_unfold_words
  simp only [all (S := S2560x1024) _ hz, View.canon_unit_zero (S := S1024x1024) hz, View.canon_cons_unit_zero (S := S1024x1024) hz, View.readCov_unit_zero (S := S1024x1024) _ hz, View.ld_unit_zero (S := S1024x1024) hz, View.canon_unit_zero (S := S1024x512) hz, View.canon_cons_unit_zero (S := S1024x512) hz, View.readCov_unit_zero (S := S1024x512) _ hz, View.ld_unit_zero (S := S1024x512) hz, View.canon_unit_zero (S := S2560x1024) hz, View.canon_cons_unit_zero (S := S2560x1024) hz, View.readCov_unit_zero (S := S2560x1024) _ hz, View.ld_unit_zero (S := S2560x1024) hz, View.readAt_eq_ld, harg1.read_unread, harg2.read_unread, harg3.read_unread, harg4.read_unread, harg5.read_unread, harg6.read_unread, harg7.read_unread, harg8.read_unread]
  rfl

end Cert.Kernel4Ideal.Val

end
-- ==== Proof.InVal.lean ====
/- The gradient of the projections' weights: what its array ends holding, entry by entry. -/
module

public import proofs.«01_k».proof.Proof.InPieces
public import proofs.«01_k».proof.Proof.Tokens

@[expose] public section

set_option maxRecDepth 16384

noncomputable section

namespace Cert.Kernel4Ideal.Val

open Idealize.ShloMosaic Idealize.ShloMosaic.TcCoe Idealize.ShloMosaic.StableHlo
open Cert.Kernel4Ideal Cert.Kernel4Ideal.Gen

variable (m : (ℓ : Loc nD τ sig) → Buf (Elt Ideal) ℓ) (c : Dev nD)

theorem lt8 (t : Fin cfg0.N) : t.val < 8 := lt_of_lt_of_eq t.2 N_0

/-- What comes back of each projection, and the inputs, as the call finds them. -/
abbrev dqV : FVec Ideal S8192x512 .bf16 := V m c main_v0
abbrev dkV : FVec Ideal S8192x512 .bf16 := V m c main_v1
abbrev dvV : FVec Ideal S8192x512 .bf16 := V m c main_v2
abbrev dgV : FVec Ideal S8192x512 .bf16 := V m c main_v3
abbrev duV : FVec Ideal S8192x512 .f32 := V m c main_arg6
abbrev hV : FVec Ideal S8192x1024 .bf16 := V m c main_v4

theorem dqV_eq : dqV m c = truncf .bf16 (m ((c : Thread nD τ).loc main_arg2) : FVec Ideal S8192x512 .f32) bitsLt_bf16_f32 := by
  unfold dqV V
  simp only [hostOps0, List.flatten_cons, List.flatten_nil, List.append_nil, List.cons_append, List.nil_append, TRef.binary, TRef.nullary, TRef.unary, TRef.toBuf, TRef.ofBuf, cast_eq]
  after_results
theorem dkV_eq : dkV m c = truncf .bf16 (m ((c : Thread nD τ).loc main_arg3) : FVec Ideal S8192x512 .f32) bitsLt_bf16_f32 := by
  unfold dkV V
  simp only [hostOps0, List.flatten_cons, List.flatten_nil, List.append_nil, List.cons_append, List.nil_append, TRef.binary, TRef.nullary, TRef.unary, TRef.toBuf, TRef.ofBuf, cast_eq]
  after_results
theorem dvV_eq : dvV m c = truncf .bf16 (m ((c : Thread nD τ).loc main_arg4) : FVec Ideal S8192x512 .f32) bitsLt_bf16_f32 := by
  unfold dvV V
  simp only [hostOps0, List.flatten_cons, List.flatten_nil, List.append_nil, List.cons_append, List.nil_append, TRef.binary, TRef.nullary, TRef.unary, TRef.toBuf, TRef.ofBuf, cast_eq]
  after_results
theorem dgV_eq : dgV m c = truncf .bf16 (m ((c : Thread nD τ).loc main_arg5) : FVec Ideal S8192x512 .f32) bitsLt_bf16_f32 := by
  unfold dgV V
  simp only [hostOps0, List.flatten_cons, List.flatten_nil, List.append_nil, List.cons_append, List.nil_append, TRef.binary, TRef.nullary, TRef.unary, TRef.toBuf, TRef.ofBuf, cast_eq]
  after_results
theorem duV_eq : duV m c = (m ((c : Thread nD τ).loc main_arg6) : FVec Ideal S8192x512 .f32) := by
  unfold duV V
  simp only [hostOps0, List.flatten_cons, List.flatten_nil, List.append_nil, List.cons_append, List.nil_append, TRef.binary, TRef.nullary, TRef.unary, TRef.toBuf, TRef.ofBuf, cast_eq]
  after_results
theorem hV_eq : hV m c = truncf .bf16 (m ((c : Thread nD τ).loc main_arg0) : FVec Ideal S8192x1024 .f32) bitsLt_bf16_f32 := by
  unfold hV V
  simp only [hostOps0, List.flatten_cons, List.flatten_nil, List.append_nil, List.cons_append, List.nil_append, TRef.binary, TRef.nullary, TRef.unary, TRef.toBuf, TRef.ofBuf, cast_eq]
  after_results

/-- Entry `(x, r)` of block `k` of the columns of what comes back. -/
def pV (k : Fin 5) (x : Fin 8192) (r : Fin 512) : EReal := match k with
  | 0 => dqV m c (ix2 x r) | 1 => dkV m c (ix2 x r) | 2 => dvV m c (ix2 x r) | 3 => dgV m c (ix2 x r) | 4 => duV m c (ix2 x r)

/-! ## The blocks of the operands -/

theorem idx0 : ∀ t : Fin grid0.N, win0_0.index t 0 = t.val ∧ win0_0.index t 1 = 0 := by decide +kernel
theorem b0 (t : Fin cfg0.N) (r : Fin 1024) (a : Fin 512) : (iblk m c 0 t : Vec Ideal S1024x512 .bf16) (ix2 r a)
    = dqV m c (ix2 (⟨1024 * t.val + r, by have := lt8 t; omega⟩ : Fin 8192) a) := by
  unfold iblk
  rw [View.read_apply]
  refine congrArg (dqV m c) (funext fun k => Fin.ext ?_)
  fin_cases k
  · show win0_0.index t 0 * 1024 + 1 * r.val = 1024 * t.val + r.val; rw [(idx0 t).1]; omega
  · show win0_0.index t 1 * 512 + 1 * a.val = a.val; rw [(idx0 t).2]; omega
theorem idx1 : ∀ t : Fin grid0.N, win0_1.index t 0 = t.val ∧ win0_1.index t 1 = 0 := by decide +kernel
theorem b1 (t : Fin cfg0.N) (r : Fin 1024) (a : Fin 512) : (iblk m c 1 t : Vec Ideal S1024x512 .bf16) (ix2 r a)
    = dkV m c (ix2 (⟨1024 * t.val + r, by have := lt8 t; omega⟩ : Fin 8192) a) := by
  unfold iblk
  rw [View.read_apply]
  refine congrArg (dkV m c) (funext fun k => Fin.ext ?_)
  fin_cases k
  · show win0_1.index t 0 * 1024 + 1 * r.val = 1024 * t.val + r.val; rw [(idx1 t).1]; omega
  · show win0_1.index t 1 * 512 + 1 * a.val = a.val; rw [(idx1 t).2]; omega
theorem idx2 : ∀ t : Fin grid0.N, win0_2.index t 0 = t.val ∧ win0_2.index t 1 = 0 := by decide +kernel
theorem b2 (t : Fin cfg0.N) (r : Fin 1024) (a : Fin 512) : (iblk m c 2 t : Vec Ideal S1024x512 .bf16) (ix2 r a)
    = dvV m c (ix2 (⟨1024 * t.val + r, by have := lt8 t; omega⟩ : Fin 8192) a) := by
  unfold iblk
  rw [View.read_apply]
  refine congrArg (dvV m c) (funext fun k => Fin.ext ?_)
  fin_cases k
  · show win0_2.index t 0 * 1024 + 1 * r.val = 1024 * t.val + r.val; rw [(idx2 t).1]; omega
  · show win0_2.index t 1 * 512 + 1 * a.val = a.val; rw [(idx2 t).2]; omega
theorem idx3 : ∀ t : Fin grid0.N, win0_3.index t 0 = t.val ∧ win0_3.index t 1 = 0 := by decide +kernel
theorem b3 (t : Fin cfg0.N) (r : Fin 1024) (a : Fin 512) : (iblk m c 3 t : Vec Ideal S1024x512 .bf16) (ix2 r a)
    = dgV m c (ix2 (⟨1024 * t.val + r, by have := lt8 t; omega⟩ : Fin 8192) a) := by
  unfold iblk
  rw [View.read_apply]
  refine congrArg (dgV m c) (funext fun k => Fin.ext ?_)
  fin_cases k
  · show win0_3.index t 0 * 1024 + 1 * r.val = 1024 * t.val + r.val; rw [(idx3 t).1]; omega
  · show win0_3.index t 1 * 512 + 1 * a.val = a.val; rw [(idx3 t).2]; omega
theorem idx4 : ∀ t : Fin grid0.N, win0_4.index t 0 = t.val ∧ win0_4.index t 1 = 0 := by decide +kernel
theorem b4 (t : Fin cfg0.N) (r : Fin 1024) (a : Fin 512) : (iblk m c 4 t : Vec Ideal S1024x512 .f32) (ix2 r a)
    = duV m c (ix2 (⟨1024 * t.val + r, by have := lt8 t; omega⟩ : Fin 8192) a) := by
  unfold iblk
  rw [View.read_apply]
  refine congrArg (duV m c) (funext fun k => Fin.ext ?_)
  fin_cases k
  · show win0_4.index t 0 * 1024 + 1 * r.val = 1024 * t.val + r.val; rw [(idx4 t).1]; omega
  · show win0_4.index t 1 * 512 + 1 * a.val = a.val; rw [(idx4 t).2]; omega
theorem idx5 : ∀ t : Fin grid0.N, win0_5.index t 0 = t.val ∧ win0_5.index t 1 = 0 := by decide +kernel
theorem b5 (t : Fin cfg0.N) (r : Fin 1024) (a : Fin 1024) : (iblk m c 5 t : Vec Ideal S1024x1024 .bf16) (ix2 r a)
    = hV m c (ix2 (⟨1024 * t.val + r, by have := lt8 t; omega⟩ : Fin 8192) a) := by
  unfold iblk
  rw [View.read_apply]
  refine congrArg (hV m c) (funext fun k => Fin.ext ?_)
  fin_cases k
  · show win0_5.index t 0 * 1024 + 1 * r.val = 1024 * t.val + r.val; rw [(idx5 t).1]; omega
  · show win0_5.index t 1 * 1024 + 1 * a.val = a.val; rw [(idx5 t).2]; omega

/-! ## One grid point -/

theorem pay6_at (x5 : FVec Ideal S1024x1024 .bf16) (z : FVec Ideal S512x1024 .f32) (p : FVec Ideal S1024x512 .bf16) (r : Fin 512) (b : Fin 1024) :
    (k0_pay6 x5 z p : FVec Ideal S512x1024 .f32) (ix2 r b) = z (ix2 r b) + ∑ x, p (ix2 x r) * x5 (ix2 x b) := by
  pointwise [k0_pay6, k0_pay5]
theorem pay7_at (x5 : FVec Ideal S1024x1024 .bf16) (z : FVec Ideal S512x1024 .f32) (p : FVec Ideal S1024x512 .bf16) (r : Fin 512) (b : Fin 1024) :
    (k0_pay7 x5 z p : FVec Ideal S512x1024 .f32) (ix2 r b) = z (ix2 r b) + ∑ x, p (ix2 x r) * x5 (ix2 x b) := by
  pointwise [k0_pay7, k0_pay5]
theorem pay8_at (x5 : FVec Ideal S1024x1024 .bf16) (z : FVec Ideal S512x1024 .f32) (p : FVec Ideal S1024x512 .bf16) (r : Fin 512) (b : Fin 1024) :
    (k0_pay8 x5 z p : FVec Ideal S512x1024 .f32) (ix2 r b) = z (ix2 r b) + ∑ x, p (ix2 x r) * x5 (ix2 x b) := by
  pointwise [k0_pay8, k0_pay5]
theorem pay1_at (x5 : FVec Ideal S1024x1024 .bf16) (z : FVec Ideal S512x1024 .f32) (p : FVec Ideal S1024x512 .bf16) (r : Fin 512) (b : Fin 1024) :
    (k0_pay1 (k0_pay5 x5) z p : FVec Ideal S512x1024 .f32) (ix2 r b) = z (ix2 r b) + ∑ x, p (ix2 x r) * x5 (ix2 x b) := by
  pointwise [k0_pay1, k0_pay5]
theorem pay2_at (x5 : FVec Ideal S1024x1024 .bf16) (z : FVec Ideal S512x1024 .f32) (p : FVec Ideal S1024x512 .f32) (r : Fin 512) (b : Fin 1024) :
    (k0_pay2 (k0_pay5 x5) z p : FVec Ideal S512x1024 .f32) (ix2 r b) = z (ix2 r b) + ∑ x, p (ix2 x r) * x5 (ix2 x b) := by
  pointwise [k0_pay2, k0_pay5]
theorem pay4_at (a : Fin 2560) (b : Fin 1024) : (k0_pay4 : FVec Ideal S2560x1024 .f32) (ix2 a b) = 0 := by
  pointwise [k0_pay4]
theorem pay3_at (z : FVec Ideal S2560x1024 .f32) (a : Fin 2560) (b : Fin 1024) : (k0_pay3 z : FVec Ideal S2560x1024 .bf16) (ix2 a b) = z (ix2 a b) := by
  pointwise [k0_pay3]

/-- Entry `(x, r)` of piece `k` of one grid point. -/
def pc (x0 x1 x2 x3 : FVec Ideal S1024x512 .bf16) (x4 : FVec Ideal S1024x512 .f32) (k : Fin 5) (x : Fin 1024) (r : Fin 512) : EReal := match k with
  | 0 => x0 (ix2 x r) | 1 => x1 (ix2 x r) | 2 => x2 (ix2 x r) | 3 => x3 (ix2 x r) | 4 => x4 (ix2 x r)

/-- What the accumulator holds after one grid point. -/
def next (x0 x1 x2 x3 : FVec Ideal S1024x512 .bf16) (x4 : FVec Ideal S1024x512 .f32) (x5 : FVec Ideal S1024x1024 .bf16) (z : FVec Ideal S2560x1024 .f32)
    (s : Fin 2560) (b : Fin 1024) : EReal :=
  z (ix2 s b) + ∑ x, pc x0 x1 x2 x3 x4 (⟨s.val / 512, by omega⟩ : Fin 5) x (⟨s.val % 512, by omega⟩ : Fin 512) * x5 (ix2 x b)

theorem row_at (k : Fin 5) (x0 x1 x2 x3 : FVec Ideal S1024x512 .bf16) (x4 : FVec Ideal S1024x512 .f32) (x5 : FVec Ideal S1024x1024 .bf16) (z : FVec Ideal S2560x1024 .f32)
    (y : S2560x1024.Idx) (r : Fin 512) (b : Fin 1024) (h0 : (y 0).val = 512 * k.val + r.val) (h1 : (y 1).val = b.val) (v : EReal)
    (hv : v = (View.ld (Val := Elt Ideal) (e' := .f32) z (rows k) : FVec Ideal S512x1024 .f32) (ix2 r b) + ∑ x, pc x0 x1 x2 x3 x4 k x r * x5 (ix2 x b)) :
    v = next x0 x1 x2 x3 x4 x5 z (y 0) (y 1) := by
  subst hv
  unfold next
  have e : y = ix2 (y 0 : Fin 2560) (y 1 : Fin 1024) := by funext a; fin_cases a <;> rfl
  have eb : (y 1 : Fin 1024) = b := Fin.ext h1
  have ek : (⟨(y 0).val / 512, by have : (y 0).val < 2560 := (y 0).2; omega⟩ : Fin 5) = k := Fin.ext (by dsimp only; omega)
  have er : (⟨(y 0).val % 512, by omega⟩ : Fin 512) = r := Fin.ext (by dsimp only; omega)
  refine congrArg₂ (· + ·) (congrArg z (funext fun a => Fin.ext ?_)) (Finset.sum_congr rfl fun x _ => ?_)
  · fin_cases a
    · show 512 * k.val + 1 * r.val = (y 0).val; omega
    · show 0 + 1 * b.val = (y 1).val; omega
  · exact congrArg₂ (· * ·) (congrArg₂ (fun i j => pc x0 x1 x2 x3 x4 i x j) ek.symm er.symm) (congrArg (fun i => x5 (ix2 x i)) eb.symm)

theorem five_at (x0 x1 x2 x3 : FVec Ideal S1024x512 .bf16) (x4 : FVec Ideal S1024x512 .f32) (x5 : FVec Ideal S1024x1024 .bf16) (z : FVec Ideal S2560x1024 .f32)
    (L : List (View.Piece (Elt Ideal) S2560x1024 .f32)) (y : S2560x1024.Idx) :
    View.canon (five x0 x1 x2 x3 x4 x5 z ++ L) y = next x0 x1 x2 x3 x4 x5 z (y 0) (y 1) := by
  refine View.canon_append_of_pieces (Val := Elt Ideal) (e := .f32) (fun y => next x0 x1 x2 x3 x4 x5 z (y 0) (y 1)) L (five x0 x1 x2 x3 x4 x5 z) ?_ y ?_
  · unfold five
    simp only [List.forall_mem_cons]
    refine ⟨fun q => ?_, fun q => ?_, fun q => ?_, fun q => ?_, fun q => ?_, fun _ h => absurd h List.not_mem_nil⟩
    all_goals
      obtain ⟨r, b, rfl⟩ : ∃ (r : Fin 512) (b : Fin 1024), q = ix2 r b := ⟨q 0, q 1, funext fun a => by fin_cases a <;> rfl⟩
    · exact row_at 4 x0 x1 x2 x3 x4 x5 z ((rows 4).emb (ix2 r b)) r b (by show 512 * 4 + 1 * r.val = _; rw [Nat.one_mul]; rfl) (by show 0 + 1 * b.val = _; omega) _ (pay2_at _ _ _ r b)
    · exact row_at 3 x0 x1 x2 x3 x4 x5 z ((rows 3).emb (ix2 r b)) r b (by show 512 * 3 + 1 * r.val = _; rw [Nat.one_mul]; rfl) (by show 0 + 1 * b.val = _; omega) _ (pay1_at _ _ _ r b)
    · exact row_at 2 x0 x1 x2 x3 x4 x5 z ((rows 2).emb (ix2 r b)) r b (by show 512 * 2 + 1 * r.val = _; rw [Nat.one_mul]; rfl) (by show 0 + 1 * b.val = _; omega) _ (pay8_at _ _ _ r b)
    · exact row_at 1 x0 x1 x2 x3 x4 x5 z ((rows 1).emb (ix2 r b)) r b (by show 512 * 1 + 1 * r.val = _; rw [Nat.one_mul]; rfl) (by show 0 + 1 * b.val = _; omega) _ (pay7_at _ _ _ r b)
    · exact row_at 0 x0 x1 x2 x3 x4 x5 z ((rows 0).emb (ix2 r b)) r b (by show 512 * 0 + 1 * r.val = _; rw [Nat.one_mul]; rfl) (by show 0 + 1 * b.val = _; omega) _ (pay6_at _ _ _ r b)
  · have h0 : (y 0).val < 2560 := (y 0).2
    have h1 : (y 1).val < 1024 := (y 1).2
    have hm : ∀ k : Fin 5, ∃ p ∈ five x0 x1 x2 x3 x4 x5 z, p.1 = rows k := fun k => by
      unfold five; fin_cases k <;> simp
    obtain ⟨p, hp, e⟩ := hm ⟨(y 0).val / 512, by omega⟩
    refine ⟨p, hp, ?_⟩
    rw [e]
    refine (Rect.mem_set_unit (inb := in_rows _)).mpr fun a => ?_
    fin_cases a
    · show 512 * ((y 0).val / 512) ≤ (y 0).val ∧ (y 0).val < 512 * ((y 0).val / 512) + 512; omega
    · show 0 ≤ (y 1).val ∧ (y 1).val < 0 + 1024; omega

/-- A token's term of the gradient of weight `(s, b)`. -/
def term (s : Fin 2560) (b : Fin 1024) (x : Fin 8192) : EReal :=
  pV m c (⟨s.val / 512, by omega⟩ : Fin 5) x (⟨s.val % 512, by omega⟩ : Fin 512) * hV m c (ix2 x b)

/-- The pieces of a grid point are blocks of what comes back. -/
theorem pc_at (t : Fin cfg0.N) (k : Fin 5) (x : Fin 1024) (r : Fin 512) :
    pc (iblk m c 0 t) (iblk m c 1 t) (iblk m c 2 t) (iblk m c 3 t) (iblk m c 4 t) k x r = pV m c k (⟨1024 * t.val + x, by have := lt8 t; omega⟩ : Fin 8192) r := by
  fin_cases k
  · exact b0 m c t x r
  · exact b1 m c t x r
  · exact b2 m c t x r
  · exact b3 m c t x r
  · exact b4 m c t x r

/-- What is accumulated once point `n` is done: the sum over the tokens up to its block's end. -/
def accAt (n : ℕ) (a : Fin 2560) (b : Fin 1024) : EReal := Tok.upTo (term m c a b) (1024 * n + 1024)

/-- The contents of the accumulator after point `t`, over `z`. -/
abbrev nextAt (t : Fin cfg0.N) (z : FVec Ideal S2560x1024 .f32) (a : Fin 2560) (b : Fin 1024) : EReal :=
  next (iblk m c 0 t) (iblk m c 1 t) (iblk m c 2 t) (iblk m c 3 t) (iblk m c 4 t) (iblk m c 5 t) z a b

theorem step_first (t : Fin cfg0.N) (h : t.val = 0) (a : Fin 2560) (b : Fin 1024) :
    nextAt m c t (k0_pay4 (F := Ideal)) a b = accAt m c t.val a b := by
  unfold nextAt next accAt
  rw [pay4_at, h]
  refine Tok.upTo_first _ 1024 _ (by omega) fun i => ?_
  refine congrArg₂ (· * ·) ((pc_at m c t _ i _).trans ?_) ((b5 m c t i b).trans ?_)
  · refine congrArg (fun x => pV m c _ x _) (Fin.ext ?_); dsimp only; omega
  · refine congrArg (fun x => hV m c (ix2 x _)) (Fin.ext ?_); dsimp only; omega

theorem step_next (n : ℕ) (h : n + 1 < cfg0.N) (z : FVec Ideal S2560x1024 .f32)
    (hzz : ∀ a b, z (ix2 a b) = accAt m c n a b) (a : Fin 2560) (b : Fin 1024) :
    nextAt m c ⟨n + 1, h⟩ z a b = accAt m c (n + 1) a b := by
  have hl := lt8 ⟨n + 1, h⟩
  dsimp only at hl
  unfold nextAt next accAt
  rw [hzz]
  unfold accAt
  rw [show 1024 * n + 1024 = 1024 * (n + 1) by omega]
  refine Tok.upTo_block _ _ 1024 _ (by omega) fun i => ?_
  exact congrArg₂ (· * ·) (pc_at m c ⟨n + 1, h⟩ _ i _) (b5 m c ⟨n + 1, h⟩ i b)

/-- What the accumulator holds after every point. -/
theorem acc_eq : ∀ (n : ℕ) (h : n < cfg0.N) (a : Fin 2560) (b : Fin 1024), ((outsAt0 m c n h).2 : FVec Ideal S2560x1024 .f32) (ix2 a b) = accAt m c n a b
  | 0, h, a, b => by
    have e := congrArg (fun p : Vec Ideal S2560x1024 .bf16 × Vec Ideal S2560x1024 .f32 => p.2) (outsAt0_A m c ⟨0, h⟩ rfl (by dsimp only; omega))
    dsimp only at e
    exact (congrFun (e.trans (sout0_A_0_eq ..)) (ix2 a b)).trans ((five_at _ _ _ _ _ _ _ _ _).trans (step_first m c ⟨0, h⟩ rfl a b))
  | n + 1, h, a, b => by
    have hl := lt8 ⟨n + 1, h⟩
    dsimp only at hl
    have h0 : ¬(n + 1) % 8 = 0 := by omega
    have hr := step_next m c n h _ (acc_eq n (Nat.lt_of_succ_lt h)) a b
    by_cases h1 : (n + 1) % 8 = 7
    · have e := congrArg (fun p : Vec Ideal S2560x1024 .bf16 × Vec Ideal S2560x1024 .f32 => p.2) (outsAt0_C m c ⟨n + 1, h⟩ h0 h1)
      dsimp only at e
      exact (congrFun (e.trans (sout0_C_0_eq ..)) (ix2 a b)).trans ((congrArg (fun L => View.canon L (ix2 a b)) (List.append_nil _).symm).trans ((five_at _ _ _ _ _ _ _ [] _).trans hr))
    · have e := congrArg (fun p : Vec Ideal S2560x1024 .bf16 × Vec Ideal S2560x1024 .f32 => p.2) (outsAt0_B m c ⟨n + 1, h⟩ h0 h1)
      dsimp only at e
      exact (congrFun (e.trans (sout0_B_0_eq ..)) (ix2 a b)).trans ((congrArg (fun L => View.canon L (ix2 a b)) (List.append_nil _).symm).trans ((five_at _ _ _ _ _ _ _ [] _).trans hr))

/-- What is written: the accumulator. -/
theorem out6_eq (t : Fin cfg0.N) (h1 : t.val = 7) (a : Fin 2560) (b : Fin 1024) :
    ((outsAt0 m c t.val t.isLt).1 : FVec Ideal S2560x1024 .bf16) (ix2 a b) = accAt m c t.val a b := by
  have h0 : ¬t.val % 8 = 0 := by omega
  have h1 : t.val % 8 = 7 := by omega
  have e := congrArg (fun p : Vec Ideal S2560x1024 .bf16 × Vec Ideal S2560x1024 .f32 => p.1) (outsAt0_C m c t h0 h1)
  dsimp only at e
  have e' := congrArg (fun p : Vec Ideal S2560x1024 .bf16 × Vec Ideal S2560x1024 .f32 => p.2) (outsAt0_C m c t h0 h1)
  dsimp only at e'
  refine (congrFun (e.trans (out0_C_6_eq ..)) (ix2 a b)).trans ((pay3_at _ a b).trans ?_)
  exact (congrFun (e'.trans (sout0_C_0_eq ..)) (ix2 a b)).symm.trans (acc_eq m c t.val t.isLt a b)

/-! ## The array -/

/-- The gradient of the weights, transposed. -/
def dwR (s : Fin 2560) (b : Fin 1024) : EReal := ∑ x, term m c s b x

theorem dw_eq (a : Fin 2560) (b : Fin 1024) : Value.G6 m c (ix2 a b) = dwR m c a b := by
  have hv : Value.pt6Of (ix2 a b) = 7 := by
    show 8 * (1 * (a.val / 2560 - 0) + 1 * (b.val / 1024 - 0)) + 7 = _; omega
  have hp : Value.pt6Of (ix2 a b) < cfg0.N := lt_of_lt_of_eq (by rw [hv]; omega) N_0.symm
  unfold Value.G6
  rw [dif_pos hp, ← Value.outsAt0_sweep m c _ hp]
  have hl : Value.loc6Of (ix2 a b) = ix2 a b := by
    funext k; refine Fin.ext ?_; fin_cases k
    · show a.val % 2560 = a.val; omega
    · show b.val % 1024 = b.val; omega
  refine (congrArg _ hl).trans ((out6_eq m c ⟨_, hp⟩ hv a b).trans ?_)
  unfold accAt dwR
  rw [← Tok.upTo_all]
  dsimp only
  rw [hv]

end Cert.Kernel4Ideal.Val

end
-- ==== Proof.InSame.lean ====
/- The gradient of the projections' weights: both programs end with the same arrays. -/
module

public import proofs.«01_k».proof.Proof.InVal
public import proofs.«01_k».proof.Proof.Gen.Reference4Ideal.Run
public import proofs.«01_k».proof.Defs
public import Idealize.ShloMosaic.Lib.Quiescent

@[expose] public section

set_option maxRecDepth 16384

noncomputable section

namespace Cert.Same4

open Idealize.ShloMosaic Idealize.ShloMosaic.TcCoe Idealize.ShloMosaic.StableHlo Idealize.SL.Sem

section
open Cert.Reference4Ideal Cert.Reference4Ideal.Gen
/-- The reference's gradient, transposed. -/
def refDw (x0 : FVec Ideal S8192x1024 .f32) (x2 x3 x4 x5 x6 : FVec Ideal S8192x512 .f32) : FVec Ideal S2560x1024 .bf16 := truncf .bf16 (transpose S2560x1024 [1, 0] (transpose S1024x2560 [1, 0] (Host.dotGeneral dot_S8192x2560_S8192x1024_S2560x1024_0_0_1_1_n_n none ((concatenate S8192x2560 1 [⟨S8192x512, (x2 : (⟨S8192x512, .f32⟩ : BufTy).Contents (Elt Ideal))⟩, ⟨S8192x512, (x3 : (⟨S8192x512, .f32⟩ : BufTy).Contents (Elt Ideal))⟩, ⟨S8192x512, (x4 : (⟨S8192x512, .f32⟩ : BufTy).Contents (Elt Ideal))⟩, ⟨S8192x512, (x5 : (⟨S8192x512, .f32⟩ : BufTy).Contents (Elt Ideal))⟩, ⟨S8192x512, (x6 : (⟨S8192x512, .f32⟩ : BufTy).Contents (Elt Ideal))⟩] concatenates_S8192x512_S8192x512_S8192x512_S8192x512_S8192x512_S8192x2560_d1) : FVec Ideal S8192x2560 .f32) x0) transposes_S2560x1024_S1024x2560_1_0) transposes_S1024x2560_S2560x1024_1_0) bitsLt_bf16_f32
/-- Entry `(x, r)` of block `k` of the columns. -/
def pick (x2 x3 x4 x5 x6 : FVec Ideal S8192x512 .f32) (k : Fin 5) (x : Fin 8192) (r : Fin 512) : EReal := match k with
  | 0 => x2 (ix2 x r) | 1 => x3 (ix2 x r) | 2 => x4 (ix2 x r) | 3 => x5 (ix2 x r) | 4 => x6 (ix2 x r)
theorem ref_dw (x0 : FVec Ideal S8192x1024 .f32) (x2 x3 x4 x5 x6 : FVec Ideal S8192x512 .f32) (s : Fin 2560) (a : Fin 1024) :
    refDw x0 x2 x3 x4 x5 x6 (ix2 s a)
      = ∑ x : Fin 8192, pick x2 x3 x4 x5 x6 (⟨s.val / 512, by omega⟩ : Fin 5) x (⟨s.val % 512, by omega⟩ : Fin 512) * x0 (ix2 x a) := by
  pointwise [refDw]
  refine Finset.sum_congr rfl fun x _ => congrArg (· * x0 (ix2 x a)) ?_
  obtain ⟨k, r, h⟩ : ∃ (k : Fin 5) (r : Fin 512), s.val = 512 * k.val + r.val := ⟨⟨s.val / 512, by omega⟩, ⟨s.val % 512, by omega⟩, by dsimp only; omega⟩
  rw [show (⟨s.val / 512, by omega⟩ : Fin 5) = k from Fin.ext (by dsimp only; omega),
    show (⟨s.val % 512, by omega⟩ : Fin 512) = r from Fin.ext (by dsimp only; omega)]
  have hr := r.2
  match k, h with
  | 0, h =>
    have h : s.val = 512 * 0 + r.val := h
    rw [dif_pos (by omega)]
    exact congrArg (fun i => x2 (ix2 x i)) (Fin.ext (by dsimp only; omega))
  | 1, h =>
    have h : s.val = 512 * 1 + r.val := h
    rw [dif_neg (by omega), dif_pos (by omega)]
    exact congrArg (fun i => x3 (ix2 x i)) (Fin.ext (by dsimp only; omega))
  | 2, h =>
    have h : s.val = 512 * 2 + r.val := h
    rw [dif_neg (by omega), dif_neg (by omega), dif_pos (by omega)]
    exact congrArg (fun i => x4 (ix2 x i)) (Fin.ext (by dsimp only; omega))
  | 3, h =>
    have h : s.val = 512 * 3 + r.val := h
    rw [dif_neg (by omega), dif_neg (by omega), dif_neg (by omega), dif_pos (by omega)]
    exact congrArg (fun i => x5 (ix2 x i)) (Fin.ext (by dsimp only; omega))
  | 4, h =>
    have h : s.val = 512 * 4 + r.val := h
    rw [dif_neg (by omega), dif_neg (by omega), dif_neg (by omega), dif_neg (by omega)]
    exact congrArg (fun i => x6 (ix2 x i)) (Fin.ext (by dsimp only; omega))
end

section
variable (m : (ℓ : Loc Cert.Kernel4Ideal.nD Cert.Kernel4Ideal.τ Cert.Kernel4Ideal.sig) → Buf (Elt Ideal) ℓ) (c : Dev Cert.Kernel4Ideal.nD)
open Cert.Kernel4Ideal Cert.Kernel4Ideal.Gen Cert.Kernel4Ideal.Val
/-- The arguments the call reads, as matrices. -/
abbrev hA : FVec Ideal S8192x1024 .f32 := m ((c : Thread nD τ).loc main_arg0)
abbrev pA2 : FVec Ideal S8192x512 .f32 := m ((c : Thread nD τ).loc main_arg2)
abbrev pA3 : FVec Ideal S8192x512 .f32 := m ((c : Thread nD τ).loc main_arg3)
abbrev pA4 : FVec Ideal S8192x512 .f32 := m ((c : Thread nD τ).loc main_arg4)
abbrev pA5 : FVec Ideal S8192x512 .f32 := m ((c : Thread nD τ).loc main_arg5)
abbrev pA6 : FVec Ideal S8192x512 .f32 := m ((c : Thread nD τ).loc main_arg6)
theorem h_at (x : Fin 8192) (k : Fin 1024) : hV m c (ix2 x k) = hA m c (ix2 x k) := congrFun (hV_eq m c) _
theorem p_at (k : Fin 5) (x : Fin 8192) (r : Fin 512) : pV m c k x r = pick (pA2 m c) (pA3 m c) (pA4 m c) (pA5 m c) (pA6 m c) k x r :=
  match k with
  | 0 => congrFun (dqV_eq m c) _
  | 1 => congrFun (dkV_eq m c) _
  | 2 => congrFun (dvV_eq m c) _
  | 3 => congrFun (dgV_eq m c) _
  | 4 => congrFun (duV_eq m c) _

theorem dw_same : refDw (hA m c) (pA2 m c) (pA3 m c) (pA4 m c) (pA5 m c) (pA6 m c) = Value.G6 m c := by
  funext y
  obtain ⟨s, a, rfl⟩ : ∃ (s : Fin 2560) (a : Fin 1024), y = ix2 s a := ⟨y 0, y 1, by funext k; fin_cases k <;> rfl⟩
  refine (ref_dw _ _ _ _ _ _ s a).trans (Eq.trans ?_ (Val.dw_eq m c s a).symm)
  unfold dwR term
  refine Finset.sum_congr rfl fun x _ => ?_
  rw [h_at, p_at]
end

/-- The reference keeps its arguments and signals nothing. -/
theorem ref_frame (m : (ℓ : Loc Cert.Reference4Ideal.nD Cert.Reference4Ideal.τ Cert.Reference4Ideal.sig) → Buf (Elt Ideal) ℓ)
    (ρ : Dev Cert.Reference4Ideal.nD → PrngReg) :
    θ_run (Cert.Reference4Ideal.defs (F := Ideal)) (onTc (τ := Cert.Reference4Ideal.τ) (Cert.Reference4Ideal.main (F := Ideal))) ⟨m, fun _ => 0, ρ⟩
      (fun r => (∀ c : Dev Cert.Reference4Ideal.nD,
        r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
        ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
        ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
        ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
        ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
        ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
        ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
        ∧ r.2.sem = fun _ => 0) :=
  (θ_run (Cert.Reference4Ideal.defs (F := Ideal)) _ _).mono (fun r h => ⟨fun c => (h c).2, sem_eq_zero_of_no_sems (by decide) r.2⟩)
    (Cert.Reference4Ideal.Value.run (F := Ideal) m ρ)

theorem algebraic : Cert.algebraic_Kernel4Ideal_Reference4Ideal (hKernel4Ideal := Cert.Kernel4Ideal.Gen.facts)
    (hReference4Ideal := Cert.Reference4Ideal.Gen.facts) := by
  intro m g m' g' _ hargs
  refine ⟨fun c => Cert.Kernel4Ideal.Value.G6 m c, ?_, ?_⟩
  · exact Cert.Kernel4Ideal.Value.run m g
  · refine (θ_run (Cert.Reference4Ideal.defs (F := Ideal)) _ _).mono (fun r h c => ?_) (Cert.Reference4Ideal.Value.run (F := Ideal) m' g')
    obtain ⟨a0, a1, a2, a3, a4, a5, a6⟩ := hargs c
    refine ⟨(h c).1.trans (Eq.trans ?_ (dw_same m c)), (h c).2⟩
    · rw [a0, a2, a3, a4, a5, a6]; rfl

end Cert.Same4

end
-- ==== Proof.DwPieces.lean ====
/- What one grid point of the gradient of the weights of the first product of the perceptron stores. -/
module

public import proofs.«01_k».proof.Proof.Gen.Kernel3Ideal.Value
public import Idealize.ShloMosaic.Lib.Pipeline.ReadBack
public import Idealize.ShloMosaic.Lib.IdealHost

@[expose] public section

set_option maxRecDepth 16384

noncomputable section

namespace Cert.Kernel3Ideal.Val

open Idealize.ShloMosaic Idealize.ShloMosaic.TcCoe Idealize.ShloMosaic.StableHlo
open Cert.Kernel3Ideal Cert.Kernel3Ideal.Gen

theorem hz : (![0, 0] : Fin 2 → Nat) = fun _ => 0 := funext fun a => by fin_cases a <;> rfl
theorem hz3 : (![0, 0, 0] : Fin 3 → Nat) = fun _ => 0 := funext fun a => by fin_cases a <;> rfl

/-- A load of a part of what one store of the whole left reads that part of it. -/
theorem part {S : Shape} {e : EltTy} (v : View sig .tc .vmem S e) {off : Fin S.rank → Nat} (h : off = fun _ => 0) (inb : ∀ a, off a + S.size a ≤ S.size a)
    (w : S.Idx → Elt Ideal e) (L : List (View.Piece (Elt Ideal) S e)) (r : Rect S) :
    v.readCov ((⟨Rect.unit off S.size inb, w⟩ : View.Piece (Elt Ideal) S e) :: L) r.toLoadRect = View.ld w r := by
  subst h
  rw [View.readCov_eq_canon_ld _ _ _ (fun y => ⟨_, List.mem_cons_self, by show y ∈ (Rect.whole S).set; rw [Rect.set_whole]; exact Finset.mem_univ y⟩),
    View.canon_cons_unit_zero rfl]

variable (x0 : Vec Ideal S2048x1024 .bf16) (x1 : Vec Ideal S2048x1024 .bf16) (c : Dev nD) (i : grid0.Coords)
  (arg2 : Memref sig .tc .vmem S2048x1024 .bf16) (harg2 : arg2.IsWhole) (arg3 : Memref sig .tc .vmem S2048x1024 .bf16) (harg3 : arg3.IsWhole) (arg4 : Memref sig .tc .vmem S2x1024x512 .bf16) (harg4 : arg4.IsWhole) (arg5 : Memref sig .tc .vmem S1024x1024 .f32) (harg5 : arg5.IsWhole)

theorem sout0_A_0_eq (hc0 : cond0_0 i) (hc1 : ¬cond0_1 i) :
    sout0_A_0 (F := Ideal) c i arg2 harg2 arg3 harg3 arg4 harg4 arg5 harg5 hc0 hc1 x0 x1 = k0_pay2 (k0_pay1 (F := Ideal)) x0 x1 := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  simp only [View.canon_unit_zero (S := S1024x1024) hz, View.canon_cons_unit_zero (S := S1024x1024) hz, View.readCov_unit_zero (S := S1024x1024) _ hz, View.ld_unit_zero (S := S1024x1024) hz, View.canon_unit_zero (S := S2048x1024) hz, View.canon_cons_unit_zero (S := S2048x1024) hz, View.readCov_unit_zero (S := S2048x1024) _ hz, View.ld_unit_zero (S := S2048x1024) hz, View.canon_unit_zero (S := S2x1024x512) hz3, View.canon_cons_unit_zero (S := S2x1024x512) hz3, View.readCov_unit_zero (S := S2x1024x512) _ hz3, View.ld_unit_zero (S := S2x1024x512) hz3, View.readAt_eq_ld, harg2.read_unread, harg3.read_unread, harg4.read_unread, harg5.read_unread]
theorem sout0_B_0_eq (hc0 : ¬cond0_0 i) (hc1 : ¬cond0_1 i)
    (xs0 : Vec Ideal S1024x1024 .f32) :
    sout0_B_0 (F := Ideal) c i arg2 harg2 arg3 harg3 arg4 harg4 arg5 harg5 hc0 hc1 x0 x1 xs0 = k0_pay2 xs0 x0 x1 := by
  unfold sout0_B_0
  rw [View.read_writes_eq_canon _ _ _ (scover0_B_0 c i arg2 harg2 arg3 harg3 arg4 harg4 arg5 harg5 hc0 hc1 x0 x1 xs0)]
  unfold kernelRun0_B
  dsimp only
  sl_unfold_words
  simp only [View.canon_unit_zero (S := S1024x1024) hz, View.canon_cons_unit_zero (S := S1024x1024) hz, View.readCov_unit_zero (S := S1024x1024) _ hz, View.ld_unit_zero (S := S1024x1024) hz, View.canon_unit_zero (S := S2048x1024) hz, View.canon_cons_unit_zero (S := S2048x1024) hz, View.readCov_unit_zero (S := S2048x1024) _ hz, View.ld_unit_zero (S := S2048x1024) hz, View.canon_unit_zero (S := S2x1024x512) hz3, View.canon_cons_unit_zero (S := S2x1024x512) hz3, View.readCov_unit_zero (S := S2x1024x512) _ hz3, View.ld_unit_zero (S := S2x1024x512) hz3, View.readAt_eq_ld, harg2.read_unread, harg3.read_unread, harg4.read_unread, harg5.read_unread]
theorem sout0_C_0_eq (hc0 : ¬cond0_0 i) (hc1 : cond0_1 i)
    (xs0 : Vec Ideal S1024x1024 .f32) :
    sout0_C_0 (F := Ideal) c i arg2 harg2 arg3 harg3 arg4 harg4 arg5 harg5 hc0 hc1 x0 x1 xs0 = k0_pay2 xs0 x0 x1 := by
  unfold sout0_C_0
  rw [View.read_writes_eq_canon _ _ _ (scover0_C_0 c i arg2 harg2 arg3 harg3 arg4 harg4 arg5 harg5 hc0 hc1 x0 x1 xs0)]
  unfold kernelRun0_C
  dsimp only
  sl_unfold_words
  simp only [View.canon_unit_zero (S := S1024x1024) hz, View.canon_cons_unit_zero (S := S1024x1024) hz, View.readCov_unit_zero (S := S1024x1024) _ hz, View.ld_unit_zero (S := S1024x1024) hz, View.canon_unit_zero (S := S2048x1024) hz, View.canon_cons_unit_zero (S := S2048x1024) hz, View.readCov_unit_zero (S := S2048x1024) _ hz, View.ld_unit_zero (S := S2048x1024) hz, View.canon_unit_zero (S := S2x1024x512) hz3, View.canon_cons_unit_zero (S := S2x1024x512) hz3, View.readCov_unit_zero (S := S2x1024x512) _ hz3, View.ld_unit_zero (S := S2x1024x512) hz3, View.readAt_eq_ld, harg2.read_unread, harg3.read_unread, harg4.read_unread, harg5.read_unread]
/-- The two slots, one store each. -/
def slots (z : FVec Ideal S1024x1024 .f32) : S2x1024x512.Idx → EReal := View.canon (Val := Elt Ideal) (e := .bf16)
  [⟨Rect.unit (s := S2x1024x512) ![1, 0, 0] S1x1024x512.size inb_S2x1024x512_S1x1024x512_1_0_0, k0_pay4 (View.ld (Val := Elt Ideal) (e' := .f32) z (Rect.unit (s := S1024x1024) ![0, 512] S1024x512.size inb_S1024x1024_S1024x512_0_512) )⟩,
   ⟨Rect.unit (s := S2x1024x512) ![0, 0, 0] S1x1024x512.size inb_S2x1024x512_S1x1024x512_0_0_0, k0_pay3 (View.ld (Val := Elt Ideal) (e' := .f32) z (Rect.unit (s := S1024x1024) ![0, 0] S1024x512.size inb_S1024x1024_S1024x512_0_0) )⟩]
theorem out0_C_2_eq (hc0 : ¬cond0_0 i) (hc1 : cond0_1 i)
    (xs0 : Vec Ideal S1024x1024 .f32) :
    out0_C_2 (F := Ideal) c i arg2 harg2 arg3 harg3 arg4 harg4 arg5 harg5 hc0 hc1 x0 x1 xs0 = slots (k0_pay2 xs0 x0 x1) := by
  unfold out0_C_2
  rw [View.read_writes_eq_canon _ _ _ (cover0_C_2 c i arg2 harg2 arg3 harg3 arg4 harg4 arg5 harg5 hc0 hc1 x0 x1 xs0)]
  unfold kernelRun0_C
  dsimp only
  sl_unfold_words
  simp only [part (S := S1024x1024) _ hz, View.canon_unit_zero (S := S1024x1024) hz, View.canon_cons_unit_zero (S := S1024x1024) hz, View.readCov_unit_zero (S := S1024x1024) _ hz, View.ld_unit_zero (S := S1024x1024) hz, View.canon_unit_zero (S := S2048x1024) hz, View.canon_cons_unit_zero (S := S2048x1024) hz, View.readCov_unit_zero (S := S2048x1024) _ hz, View.ld_unit_zero (S := S2048x1024) hz, View.canon_unit_zero (S := S2x1024x512) hz3, View.canon_cons_unit_zero (S := S2x1024x512) hz3, View.readCov_unit_zero (S := S2x1024x512) _ hz3, View.ld_unit_zero (S := S2x1024x512) hz3, View.readAt_eq_ld, harg2.read_unread, harg3.read_unread, harg4.read_unread, harg5.read_unread]
  rfl

end Cert.Kernel3Ideal.Val

end
-- ==== Proof.DwVal.lean ====
/- The gradient of the weights of the first product of the perceptron: what its array ends holding, entry by entry. -/
module

public import proofs.«01_k».proof.Proof.DwPieces
public import proofs.«01_k».proof.Proof.Tokens
public import Idealize.ShloMosaic.Lib.Pipeline.ValueKit.Tiles

@[expose] public section

set_option maxRecDepth 16384

noncomputable section

namespace Cert.Kernel3Ideal.Val

open Idealize.ShloMosaic Idealize.ShloMosaic.TcCoe Idealize.ShloMosaic.StableHlo
open Cert.Kernel3Ideal Cert.Kernel3Ideal.Gen

variable (m : (ℓ : Loc nD τ sig) → Buf (Elt Ideal) ℓ) (c : Dev nD)

theorem lt16 (t : Fin cfg0.N) : t.val < 16 := lt_of_lt_of_eq t.2 N_0

/-- The inputs and what comes back, as the call finds them. -/
abbrev hV : FVec Ideal S8192x1024 .bf16 := V m c main_v0
abbrev dfV : FVec Ideal S8192x4096 .bf16 := V m c main_v1

theorem hV_eq : hV m c = truncf .bf16 (m ((c : Thread nD τ).loc main_arg0) : FVec Ideal S8192x1024 .f32) bitsLt_bf16_f32 := by
  unfold hV V
  simp only [hostOps0, List.flatten_cons, List.flatten_nil, List.append_nil, List.cons_append, List.nil_append, TRef.binary, TRef.nullary, TRef.unary, TRef.toBuf, TRef.ofBuf, cast_eq]
  after_results
theorem dfV_eq : dfV m c = truncf .bf16 (m ((c : Thread nD τ).loc main_arg2) : FVec Ideal S8192x4096 .f32) bitsLt_bf16_f32 := by
  unfold dfV V
  simp only [hostOps0, List.flatten_cons, List.flatten_nil, List.append_nil, List.cons_append, List.nil_append, TRef.binary, TRef.nullary, TRef.unary, TRef.toBuf, TRef.ofBuf, cast_eq]
  after_results

/-! ## The blocks of the operands -/

theorem idx0 : ∀ t : Fin grid0.N, win0_0.index t 0 = t.val % 4 ∧ win0_0.index t 1 = 0 := by decide +kernel
theorem b0 (t : Fin cfg0.N) (r : Fin 2048) (a : Fin 1024) : (iblk m c 0 t : Vec Ideal S2048x1024 .bf16) (ix2 r a)
    = hV m c (ix2 (⟨2048 * (t.val % 4) + r, by omega⟩ : Fin 8192) a) := by
  unfold iblk
  rw [View.read_apply]
  refine congrArg (hV m c) (funext fun k => Fin.ext ?_)
  fin_cases k
  · show win0_0.index t 0 * 2048 + 1 * r.val = 2048 * (t.val % 4) + r.val; rw [(idx0 t).1]; omega
  · show win0_0.index t 1 * 1024 + 1 * a.val = a.val; rw [(idx0 t).2]; omega
theorem idx1 : ∀ t : Fin grid0.N, win0_1.index t 0 = t.val % 4 ∧ win0_1.index t 1 = t.val / 4 := by decide +kernel
theorem b1 (t : Fin cfg0.N) (r : Fin 2048) (a : Fin 1024) : (iblk m c 1 t : Vec Ideal S2048x1024 .bf16) (ix2 r a)
    = dfV m c (ix2 (⟨2048 * (t.val % 4) + r, by omega⟩ : Fin 8192) (⟨1024 * (t.val / 4) + a, by have := lt16 t; omega⟩ : Fin 4096)) := by
  unfold iblk
  rw [View.read_apply]
  refine congrArg (dfV m c) (funext fun k => Fin.ext ?_)
  fin_cases k
  · show win0_1.index t 0 * 2048 + 1 * r.val = 2048 * (t.val % 4) + r.val; rw [(idx1 t).1]; omega
  · show win0_1.index t 1 * 1024 + 1 * a.val = 1024 * (t.val / 4) + a.val; rw [(idx1 t).2]; omega

/-! ## One grid point -/

theorem pay2_at (x0 x1 : FVec Ideal S2048x1024 .bf16) (z : FVec Ideal S1024x1024 .f32) (a b : Fin 1024) :
    (k0_pay2 z x0 x1 : FVec Ideal S1024x1024 .f32) (ix2 a b) = z (ix2 a b) + ∑ k, x0 (ix2 k a) * x1 (ix2 k b) := by
  pointwise [k0_pay2]
theorem pay1_at (a b : Fin 1024) : (k0_pay1 : FVec Ideal S1024x1024 .f32) (ix2 a b) = 0 := by
  pointwise [k0_pay1]
theorem pay3_at (z : FVec Ideal S1024x512 .f32) (o : Fin 1) (a : Fin 1024) (b : Fin 512) : (k0_pay3 z : FVec Ideal S1x1024x512 .bf16) (ix3 o a b) = z (ix2 a b) := by
  pointwise [k0_pay3]
theorem pay4_at (z : FVec Ideal S1024x512 .f32) (o : Fin 1) (a : Fin 1024) (b : Fin 512) : (k0_pay4 z : FVec Ideal S1x1024x512 .bf16) (ix3 o a b) = z (ix2 a b) := by
  pointwise [k0_pay4]

/-- The two slots hold the two halves of the columns. -/
theorem slots_at (z : FVec Ideal S1024x1024 .f32) (y : S2x1024x512.Idx) : slots z y
    = z (ix2 (y 1 : Fin 1024) (⟨512 * (y 0).val + (y 2).val, by have : (y 0).val < 2 := (y 0).2; have : (y 2).val < 512 := (y 2).2; omega⟩ : Fin 1024)) := by
  have h0 : (y 0).val < 2 := (y 0).2
  have h1 : (y 1).val < 1024 := (y 1).2
  have h2 : (y 2).val < 512 := (y 2).2
  unfold slots
  refine View.canon_eq_of_allAt _ y _ ?_ (View.allAt_cons_unit _ _ _ _ _ ?_ (View.allAt_cons_unit _ _ _ _ _ ?_ (View.allAt_nil _ _)))
  · by_cases h : (y 0).val = 0
    · refine ⟨_, List.mem_cons_of_mem _ List.mem_cons_self, (Rect.mem_set_unit (inb := inb_S2x1024x512_S1x1024x512_0_0_0)).mpr fun a => ?_⟩
      fin_cases a
      · show 0 ≤ (y 0).val ∧ (y 0).val < 0 + 1; omega
      · show 0 ≤ (y 1).val ∧ (y 1).val < 0 + 1024; omega
      · show 0 ≤ (y 2).val ∧ (y 2).val < 0 + 512; omega
    · refine ⟨_, List.mem_cons_self, (Rect.mem_set_unit (inb := inb_S2x1024x512_S1x1024x512_1_0_0)).mpr fun a => ?_⟩
      fin_cases a
      · show 1 ≤ (y 0).val ∧ (y 0).val < 1 + 1; omega
      · show 0 ≤ (y 1).val ∧ (y 1).val < 0 + 1024; omega
      · show 0 ≤ (y 2).val ∧ (y 2).val < 0 + 512; omega
  · intro x hx
    obtain ⟨o, a, b, rfl⟩ : ∃ (o : Fin 1) (a : Fin 1024) (b : Fin 512), x = ix3 o a b := ⟨x 0, x 1, x 2, funext fun a => by fin_cases a <;> rfl⟩
    have e0 : (y 0).val = 1 + o.val := hx 0
    have e1 : (y 1).val = 0 + a.val := hx 1
    have e2 : (y 2).val = 0 + b.val := hx 2
    refine (pay4_at _ o a b).trans (congrArg z (funext fun k => Fin.ext ?_))
    fin_cases k
    · show 0 + 1 * a.val = (y 1).val; omega
    · show 512 + 1 * b.val = 512 * (y 0).val + (y 2).val; omega
  · intro x hx
    obtain ⟨o, a, b, rfl⟩ : ∃ (o : Fin 1) (a : Fin 1024) (b : Fin 512), x = ix3 o a b := ⟨x 0, x 1, x 2, funext fun a => by fin_cases a <;> rfl⟩
    have e0 : (y 0).val = 0 + o.val := hx 0
    have e1 : (y 1).val = 0 + a.val := hx 1
    have e2 : (y 2).val = 0 + b.val := hx 2
    refine (pay3_at _ o a b).trans (congrArg z (funext fun k => Fin.ext ?_))
    fin_cases k
    · show 0 + 1 * a.val = (y 1).val; omega
    · show 0 + 1 * b.val = 512 * (y 0).val + (y 2).val; omega

/-- A token's term of the gradient of weight `(a, s)`. -/
def term (a : Fin 1024) (s : Fin 4096) (x : Fin 8192) : EReal := hV m c (ix2 x a) * dfV m c (ix2 x s)

/-- What is accumulated once point `n` is done: the sum over the tokens up to its block's end. -/
def accAt (n : ℕ) (hn : n < 16) (a b : Fin 1024) : EReal :=
  Tok.upTo (term m c a ⟨1024 * (n / 4) + b, by omega⟩) (2048 * (n % 4) + 2048)

theorem step_first (t : Fin cfg0.N) (h : t.val % 4 = 0) (a b : Fin 1024) :
    (k0_pay2 (k0_pay1 (F := Ideal)) (iblk m c 0 t) (iblk m c 1 t) : FVec Ideal S1024x1024 .f32) (ix2 a b) = accAt m c t.val (lt16 t) a b := by
  refine (pay2_at _ _ _ a b).trans ?_
  rw [pay1_at]
  unfold accAt
  rw [show 2048 * (t.val % 4) + 2048 = 2048 by omega]
  refine Tok.upTo_first _ 2048 _ (by omega) fun i => ?_
  refine congrArg₂ (· * ·) ((b0 m c t i a).trans ?_) ((b1 m c t i b).trans ?_)
  · refine congrArg (fun x => hV m c (ix2 x _)) (Fin.ext ?_); dsimp only; omega
  · refine congrArg (fun x => dfV m c (ix2 x _)) (Fin.ext ?_); dsimp only; omega

theorem step_next (n : ℕ) (h : n + 1 < cfg0.N) (h0 : ¬(n + 1) % 4 = 0) (z : FVec Ideal S1024x1024 .f32)
    (hzz : ∀ a b, z (ix2 a b) = accAt m c n (by have := lt16 ⟨n + 1, h⟩; dsimp only at this; omega) a b) (a b : Fin 1024) :
    (k0_pay2 z (iblk m c 0 ⟨n + 1, h⟩) (iblk m c 1 ⟨n + 1, h⟩) : FVec Ideal S1024x1024 .f32) (ix2 a b) = accAt m c (n + 1) (lt16 ⟨n + 1, h⟩) a b := by
  refine (pay2_at _ _ _ a b).trans ?_
  rw [hzz]
  unfold accAt
  have e : n / 4 = (n + 1) / 4 := by omega
  have e' : 2048 * (n % 4) + 2048 = 2048 * ((n + 1) % 4) := by omega
  simp only [e, e']
  refine Tok.upTo_block _ _ 2048 _ (by omega) fun i => ?_
  exact congrArg₂ (· * ·) (b0 m c ⟨n + 1, h⟩ i a) (b1 m c ⟨n + 1, h⟩ i b)

/-- What the accumulator holds after every point. -/
theorem acc_eq : ∀ (n : ℕ) (h : n < cfg0.N) (a b : Fin 1024), ((outsAt0 m c n h).2 : FVec Ideal S1024x1024 .f32) (ix2 a b) = accAt m c n (lt16 ⟨n, h⟩) a b
  | 0, h, a, b => by
    have e := congrArg (fun p : Vec Ideal S2x1024x512 .bf16 × Vec Ideal S1024x1024 .f32 => p.2) (outsAt0_A m c ⟨0, h⟩ rfl (by dsimp only; omega))
    dsimp only at e
    exact (congrFun (e.trans (sout0_A_0_eq ..)) (ix2 a b)).trans (step_first m c ⟨0, h⟩ rfl a b)
  | n + 1, h, a, b => by
    by_cases h0 : (n + 1) % 4 = 0
    · have e := congrArg (fun p : Vec Ideal S2x1024x512 .bf16 × Vec Ideal S1024x1024 .f32 => p.2) (outsAt0_A m c ⟨n + 1, h⟩ h0 (by dsimp only; omega))
      dsimp only at e
      exact (congrFun (e.trans (sout0_A_0_eq ..)) (ix2 a b)).trans (step_first m c ⟨n + 1, h⟩ h0 a b)
    · have hr := step_next m c n h h0 _ (acc_eq n (Nat.lt_of_succ_lt h)) a b
      by_cases h1 : (n + 1) % 4 = 3
      · have e := congrArg (fun p : Vec Ideal S2x1024x512 .bf16 × Vec Ideal S1024x1024 .f32 => p.2) (outsAt0_C m c ⟨n + 1, h⟩ h0 h1)
        dsimp only at e
        exact (congrFun (e.trans (sout0_C_0_eq ..)) (ix2 a b)).trans hr
      · have e := congrArg (fun p : Vec Ideal S2x1024x512 .bf16 × Vec Ideal S1024x1024 .f32 => p.2) (outsAt0_B m c ⟨n + 1, h⟩ h0 h1)
        dsimp only at e
        exact (congrFun (e.trans (sout0_B_0_eq ..)) (ix2 a b)).trans hr

/-- What is written: the two halves of the accumulator. -/
theorem out2_eq (t : Fin cfg0.N) (h1 : t.val % 4 = 3) (y : S2x1024x512.Idx) :
    ((outsAt0 m c t.val t.isLt).1 : S2x1024x512.Idx → EReal) y = accAt m c t.val (lt16 t) (y 1 : Fin 1024)
      ⟨512 * (y 0).val + (y 2).val, by have : (y 0).val < 2 := (y 0).2; have : (y 2).val < 512 := (y 2).2; omega⟩ := by
  have h0 : ¬t.val % 4 = 0 := by omega
  have e := congrArg (fun p : Vec Ideal S2x1024x512 .bf16 × Vec Ideal S1024x1024 .f32 => p.1) (outsAt0_C m c t h0 h1)
  dsimp only at e
  have e' := congrArg (fun p : Vec Ideal S2x1024x512 .bf16 × Vec Ideal S1024x1024 .f32 => p.2) (outsAt0_C m c t h0 h1)
  dsimp only at e'
  refine (congrFun (e.trans (out0_C_2_eq ..)) y).trans ((slots_at _ y).trans ?_)
  exact (congrFun (e'.trans (sout0_C_0_eq ..)) _).symm.trans (acc_eq m c t.val t.isLt _ _)

/-! ## The array -/

/-- The gradient of the weights. -/
def dwR (a : Fin 1024) (s : Fin 4096) : EReal := ∑ x, term m c a s x

theorem dw_eq (y : S8x1024x512.Idx) : Value.G2 m c y = dwR m c (y 1 : Fin 1024)
    ⟨512 * (y 0).val + (y 2).val, by have : (y 0).val < 8 := (y 0).2; have : (y 2).val < 512 := (y 2).2; omega⟩ := by
  have h0 : (y 0).val < 8 := (y 0).2
  have h1 : (y 1).val < 1024 := (y 1).2
  have h2 : (y 2).val < 512 := (y 2).2
  have hv : Value.pt2Of y = 4 * ((y 0).val / 2) + 3 := by
    show 4 * (1 * ((y 0).val / 2 - 0) + 1 * ((y 1).val / 1024 - 0) + 1 * ((y 2).val / 512 - 0)) + 3 = _; omega
  have hp : Value.pt2Of y < cfg0.N := lt_of_lt_of_eq (by rw [hv]; omega) N_0.symm
  unfold Value.G2
  rw [dif_pos hp, ← Value.outsAt0_sweep m c _ hp]
  refine (out2_eq m c ⟨_, hp⟩ (by dsimp only; omega) _).trans ?_
  unfold accAt dwR
  rw [← Tok.upTo_all]
  dsimp only
  rw [show 2048 * (Value.pt2Of y % 4) + 2048 = 8192 by omega]
  refine congrArg₂ (fun a s => Tok.upTo (term m c a s) 8192) (Fin.ext ?_) (Fin.ext ?_)
  · show (y 1).val % 1024 = (y 1).val; omega
  · show 1024 * (Value.pt2Of y / 4) + (512 * ((y 0).val % 2) + (y 2).val % 512) = 512 * (y 0).val + (y 2).val; omega

end Cert.Kernel3Ideal.Val

end
-- ==== Proof.DwSame.lean ====
/- The gradient of the weights of the first product of the perceptron: both programs end with the same arrays. -/
module

public import proofs.«01_k».proof.Proof.DwVal
public import proofs.«01_k».proof.Proof.Gen.Reference3Ideal.Run
public import proofs.«01_k».proof.Defs
public import Idealize.ShloMosaic.Lib.Quiescent

@[expose] public section

set_option maxRecDepth 16384

noncomputable section

namespace Cert.Same3

open Idealize.ShloMosaic Idealize.ShloMosaic.TcCoe Idealize.ShloMosaic.StableHlo Idealize.SL.Sem

section
open Cert.Reference3Ideal Cert.Reference3Ideal.Gen
/-- The reference's gradient, one slot of columns after another. -/
def refDw (x0 : FVec Ideal S8192x1024 .f32) (x2 : FVec Ideal S8192x4096 .f32) : FVec Ideal S8x1024x512 .bf16 := truncf .bf16 (transpose S8x1024x512 [1, 0, 2] (shapeCast _ (transpose S1024x4096 [1, 0] (Host.dotGeneral dot_S8192x4096_S8192x1024_S4096x1024_0_0_1_1_n_n none x2 x0) transposes_S4096x1024_S1024x4096_1_0) shapeCasts_S1024x4096_S1024x8x512) transposes_S1024x8x512_S8x1024x512_1_0_2) bitsLt_bf16_f32
theorem ref_dw (x0 : FVec Ideal S8192x1024 .f32) (x2 : FVec Ideal S8192x4096 .f32) (k : Fin 8) (a : Fin 1024) (b : Fin 512) :
    refDw x0 x2 (ix3 k a b) = ∑ x : Fin 8192, x2 (ix2 x (⟨512 * k.val + b.val, by omega⟩ : Fin 4096)) * x0 (ix2 x a) := by
  pointwise [refDw]
  simp only [Nat.mul_comm k.val 512]
end

section
variable (m : (ℓ : Loc Cert.Kernel3Ideal.nD Cert.Kernel3Ideal.τ Cert.Kernel3Ideal.sig) → Buf (Elt Ideal) ℓ) (c : Dev Cert.Kernel3Ideal.nD)
open Cert.Kernel3Ideal Cert.Kernel3Ideal.Gen Cert.Kernel3Ideal.Val
/-- The two arguments the call reads, as matrices. -/
abbrev hA : FVec Ideal S8192x1024 .f32 := m ((c : Thread nD τ).loc main_arg0)
abbrev dA : FVec Ideal S8192x4096 .f32 := m ((c : Thread nD τ).loc main_arg2)
theorem h_at (r : Fin 8192) (k : Fin 1024) : hV m c (ix2 r k) = hA m c (ix2 r k) := congrFun (hV_eq m c) _
theorem d_at (r : Fin 8192) (k : Fin 4096) : dfV m c (ix2 r k) = dA m c (ix2 r k) := congrFun (dfV_eq m c) _

theorem dw_same : refDw (hA m c) (dA m c) = Value.G2 m c := by
  funext y
  obtain ⟨k, a, b, rfl⟩ : ∃ (k : Fin 8) (a : Fin 1024) (b : Fin 512), y = ix3 k a b := ⟨y 0, y 1, y 2, by funext k; fin_cases k <;> rfl⟩
  refine (ref_dw _ _ k a b).trans (Eq.trans ?_ (Val.dw_eq m c (ix3 k a b)).symm)
  refine Eq.trans ?_ (show (_ : EReal) = dwR m c a (⟨512 * k.val + b.val, by omega⟩ : Fin 4096) from rfl)
  unfold dwR term
  refine Finset.sum_congr rfl fun x _ => ?_
  rw [h_at, d_at, mul_comm]
end

/-- The reference keeps its arguments and signals nothing. -/
theorem ref_frame (m : (ℓ : Loc Cert.Reference3Ideal.nD Cert.Reference3Ideal.τ Cert.Reference3Ideal.sig) → Buf (Elt Ideal) ℓ)
    (ρ : Dev Cert.Reference3Ideal.nD → PrngReg) :
    θ_run (Cert.Reference3Ideal.defs (F := Ideal)) (onTc (τ := Cert.Reference3Ideal.τ) (Cert.Reference3Ideal.main (F := Ideal))) ⟨m, fun _ => 0, ρ⟩
      (fun r => (∀ c : Dev Cert.Reference3Ideal.nD,
        r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
        ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
        ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
        ∧ r.2.sem = fun _ => 0) :=
  (θ_run (Cert.Reference3Ideal.defs (F := Ideal)) _ _).mono (fun r h => ⟨fun c => (h c).2, sem_eq_zero_of_no_sems (by decide) r.2⟩)
    (Cert.Reference3Ideal.Value.run (F := Ideal) m ρ)

theorem algebraic : Cert.algebraic_Kernel3Ideal_Reference3Ideal (hKernel3Ideal := Cert.Kernel3Ideal.Gen.facts)
    (hReference3Ideal := Cert.Reference3Ideal.Gen.facts) := by
  intro m g m' g' _ hargs
  refine ⟨fun c => Cert.Kernel3Ideal.Value.G2 m c, ?_, ?_⟩
  · exact Cert.Kernel3Ideal.Value.run m g
  · refine (θ_run (Cert.Reference3Ideal.defs (F := Ideal)) _ _).mono (fun r h c => ?_) (Cert.Reference3Ideal.Value.run (F := Ideal) m' g')
    obtain ⟨a0, a1, a2⟩ := hargs c
    refine ⟨(h c).1.trans (Eq.trans ?_ (dw_same m c)), (h c).2⟩
    · rw [a0, a2]; rfl

end Cert.Same3

end
-- ==== Proof.FfPieces.lean ====
/- What one grid point of the gradient of the second product of the perceptron stores. -/
module

public import proofs.«01_k».proof.Proof.Gen.Kernel2Ideal.Value
public import Idealize.ShloMosaic.Lib.Pipeline.ReadBack
public import Idealize.ShloMosaic.Lib.IdealHost

@[expose] public section

set_option maxRecDepth 16384

noncomputable section

namespace Cert.Kernel2Ideal.Val

open Idealize.ShloMosaic Idealize.ShloMosaic.TcCoe Idealize.ShloMosaic.StableHlo
open Cert.Kernel2Ideal Cert.Kernel2Ideal.Gen

theorem hz : (![0, 0] : Fin 2 → Nat) = fun _ => 0 := funext fun a => by fin_cases a <;> rfl

variable (x0 : Vec Ideal S1024x1024 .bf16) (x1 : Vec Ideal S1024x1024 .bf16) (x2 : Vec Ideal S1024x1024 .bf16) (c : Dev nD) (i : grid0.Coords)
  (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole)

theorem out0_A_3_eq (hc0 : cond0_0 i) (hc1 : ¬cond0_1 i) :
    out0_A_3 (F := Ideal) c i arg2 harg2 arg3 harg3 arg4 harg4 arg5 harg5 arg6 harg6 arg7 harg7 hc0 hc1 x0 x1 x2 = k0_pay4 x0 x1 x2 := by
  unfold out0_A_3
  rw [View.read_writes_eq_canon _ _ _ (cover0_A_3 c i arg2 harg2 arg3 harg3 arg4 harg4 arg5 harg5 arg6 harg6 arg7 harg7 hc0 hc1 x0 x1 x2)]
  unfold kernelRun0_A
  dsimp only
  sl_unfold_words
  simp only [View.canon_unit_zero (S := S1024x1024) hz, View.canon_cons_unit_zero (S := S1024x1024) hz, View.readCov_unit_zero (S := S1024x1024) _ hz, View.ld_unit_zero (S := S1024x1024) hz, View.readAt_eq_ld, harg2.read_unread, harg3.read_unread, harg4.read_unread, harg5.read_unread, harg6.read_unread, harg7.read_unread]
theorem out0_B_3_eq (hc0 : ¬cond0_0 i) (hc1 : ¬cond0_1 i)
    (xs0 : Vec Ideal S1024x1024 .f32) :
    out0_B_3 (F := Ideal) c i arg2 harg2 arg3 harg3 arg4 harg4 arg5 harg5 arg6 harg6 arg7 harg7 hc0 hc1 x0 x1 x2 xs0 = k0_pay4 x0 x1 x2 := by
  unfold out0_B_3
  rw [View.read_writes_eq_canon _ _ _ (cover0_B_3 c i arg2 harg2 arg3 harg3 arg4 harg4 arg5 harg5 arg6 harg6 arg7 harg7 hc0 hc1 x0 x1 x2 xs0)]
  unfold kernelRun0_B
  dsimp only
  sl_unfold_words
  simp only [View.canon_unit_zero (S := S1024x1024) hz, View.canon_cons_unit_zero (S := S1024x1024) hz, View.readCov_unit_zero (S := S1024x1024) _ hz, View.ld_unit_zero (S := S1024x1024) hz, View.readAt_eq_ld, harg2.read_unread, harg3.read_unread, harg4.read_unread, harg5.read_unread, harg6.read_unread, harg7.read_unread]
theorem out0_C_3_eq (hc0 : ¬cond0_0 i) (hc1 : cond0_1 i)
    (xs0 : Vec Ideal S1024x1024 .f32) :
    out0_C_3 (F := Ideal) c i arg2 harg2 arg3 harg3 arg4 harg4 arg5 harg5 arg6 harg6 arg7 harg7 hc0 hc1 x0 x1 x2 xs0 = k0_pay4 x0 x1 x2 := by
  unfold out0_C_3
  rw [View.read_writes_eq_canon _ _ _ (cover0_C_3 c i arg2 harg2 arg3 harg3 arg4 harg4 arg5 harg5 arg6 harg6 arg7 harg7 hc0 hc1 x0 x1 x2 xs0)]
  unfold kernelRun0_C
  dsimp only
  sl_unfold_words
  simp only [View.canon_unit_zero (S := S1024x1024) hz, View.canon_cons_unit_zero (S := S1024x1024) hz, View.readCov_unit_zero (S := S1024x1024) _ hz, View.ld_unit_zero (S := S1024x1024) hz, View.readAt_eq_ld, harg2.read_unread, harg3.read_unread, harg4.read_unread, harg5.read_unread, harg6.read_unread, harg7.read_unread]
theorem out0_C_4_eq (hc0 : ¬cond0_0 i) (hc1 : cond0_1 i)
    (xs0 : Vec Ideal S1024x1024 .f32) :
    out0_C_4 (F := Ideal) c i arg2 harg2 arg3 harg3 arg4 harg4 arg5 harg5 arg6 harg6 arg7 harg7 hc0 hc1 x0 x1 x2 xs0 = k0_pay6 (k0_pay5 x0 x1 xs0) := by
  unfold out0_C_4
  rw [View.read_writes_eq_canon _ _ _ (cover0_C_4 c i arg2 harg2 arg3 harg3 arg4 harg4 arg5 harg5 arg6 harg6 arg7 harg7 hc0 hc1 x0 x1 x2 xs0)]
  unfold kernelRun0_C
  dsimp only
  sl_unfold_words
  simp only [View.canon_unit_zero (S := S1024x1024) hz, View.canon_cons_unit_zero (S := S1024x1024) hz, View.readCov_unit_zero (S := S1024x1024) _ hz, View.ld_unit_zero (S := S1024x1024) hz, View.readAt_eq_ld, harg2.read_unread, harg3.read_unread, harg4.read_unread, harg5.read_unread, harg6.read_unread, harg7.read_unread]
theorem sout0_A_0_eq (hc0 : cond0_0 i) (hc1 : ¬cond0_1 i) :
    sout0_A_0 (F := Ideal) c i arg2 harg2 arg3 harg3 arg4 harg4 arg5 harg5 arg6 harg6 arg7 harg7 hc0 hc1 x0 x1 x2 = k0_pay5 x0 x1 (k0_pay1 (F := Ideal)) := by
  unfold sout0_A_0
  rw [View.read_writes_eq_canon _ _ _ (scover0_A_0 c i arg2 harg2 arg3 harg3 arg4 harg4 arg5 harg5 arg6 harg6 arg7 harg7 hc0 hc1 x0 x1 x2)]
  unfold kernelRun0_A
  dsimp only
  sl_unfold_words
  simp only [View.canon_unit_zero (S := S1024x1024) hz, View.canon_cons_unit_zero (S := S1024x1024) hz, View.readCov_unit_zero (S := S1024x1024) _ hz, View.ld_unit_zero (S := S1024x1024) hz, View.readAt_eq_ld, harg2.read_unread, harg3.read_unread, harg4.read_unread, harg5.read_unread, harg6.read_unread, harg7.read_unread]
theorem sout0_B_0_eq (hc0 : ¬cond0_0 i) (hc1 : ¬cond0_1 i)
    (xs0 : Vec Ideal S1024x1024 .f32) :
    sout0_B_0 (F := Ideal) c i arg2 harg2 arg3 harg3 arg4 harg4 arg5 harg5 arg6 harg6 arg7 harg7 hc0 hc1 x0 x1 x2 xs0 = k0_pay5 x0 x1 xs0 := by
  unfold sout0_B_0
  rw [View.read_writes_eq_canon _ _ _ (scover0_B_0 c i arg2 harg2 arg3 harg3 arg4 harg4 arg5 harg5 arg6 harg6 arg7 harg7 hc0 hc1 x0 x1 x2 xs0)]
  unfold kernelRun0_B
  dsimp only
  sl_unfold_words
  simp only [View.canon_unit_zero (S := S1024x1024) hz, View.canon_cons_unit_zero (S := S1024x1024) hz, View.readCov_unit_zero (S := S1024x1024) _ hz, View.ld_unit_zero (S := S1024x1024) hz, View.readAt_eq_ld, harg2.read_unread, harg3.read_unread, harg4.read_unread, harg5.read_unread, harg6.read_unread, harg7.read_unread]
theorem sout0_C_0_eq (hc0 : ¬cond0_0 i) (hc1 : cond0_1 i)
    (xs0 : Vec Ideal S1024x1024 .f32) :
    sout0_C_0 (F := Ideal) c i arg2 harg2 arg3 harg3 arg4 harg4 arg5 harg5 arg6 harg6 arg7 harg7 hc0 hc1 x0 x1 x2 xs0 = k0_pay5 x0 x1 xs0 := by
  unfold sout0_C_0
  rw [View.read_writes_eq_canon _ _ _ (scover0_C_0 c i arg2 harg2 arg3 harg3 arg4 harg4 arg5 harg5 arg6 harg6 arg7 harg7 hc0 hc1 x0 x1 x2 xs0)]
  unfold kernelRun0_C
  dsimp only
  sl_unfold_words
  simp only [View.canon_unit_zero (S := S1024x1024) hz, View.canon_cons_unit_zero (S := S1024x1024) hz, View.readCov_unit_zero (S := S1024x1024) _ hz, View.ld_unit_zero (S := S1024x1024) hz, View.readAt_eq_ld, harg2.read_unread, harg3.read_unread, harg4.read_unread, harg5.read_unread, harg6.read_unread, harg7.read_unread]

end Cert.Kernel2Ideal.Val

end
-- ==== Proof.FfVal.lean ====
/- The gradient of the second product of the perceptron: what its two arrays end holding, entry by entry. -/
module

public import proofs.«01_k».proof.Proof.FfPieces
public import proofs.«01_k».proof.Proof.Tokens

@[expose] public section

set_option maxRecDepth 16384

noncomputable section

namespace Cert.Kernel2Ideal.Val

open Idealize.ShloMosaic Idealize.ShloMosaic.TcCoe Idealize.ShloMosaic.StableHlo
open Cert.Kernel2Ideal Cert.Kernel2Ideal.Gen

variable (m : (ℓ : Loc nD τ sig) → Buf (Elt Ideal) ℓ) (c : Dev nD)

theorem lt32 (t : Fin cfg0.N) : t.val < 32 := lt_of_lt_of_eq t.2 N_0

/-- What comes back, the activations and the weights, as the call finds them. -/
abbrev dmV : FVec Ideal S8192x1024 .bf16 := V m c main_v2
abbrev actV : FVec Ideal S8192x4096 .bf16 := V m c main_v3
abbrev wV : FVec Ideal S4096x1024 .bf16 := V m c main_v4

theorem dmV_eq : dmV m c = truncf .bf16 (m ((c : Thread nD τ).loc main_arg2) : FVec Ideal S8192x1024 .f32) bitsLt_bf16_f32 := by
  unfold dmV V
  simp only [hostOps0, hostOps0_1, List.flatten_cons, List.flatten_nil, List.append_nil, List.cons_append, List.nil_append, TRef.binary, TRef.nullary, TRef.unary, TRef.toBuf, TRef.ofBuf, cast_eq]
  after_results
theorem wV_eq : wV m c = truncf .bf16 (m ((c : Thread nD τ).loc main_arg1) : FVec Ideal S4096x1024 .f32) bitsLt_bf16_f32 := by
  unfold wV V
  simp only [hostOps0, hostOps0_1, List.flatten_cons, List.flatten_nil, List.append_nil, List.cons_append, List.nil_append, TRef.binary, TRef.nullary, TRef.unary, TRef.toBuf, TRef.ofBuf, cast_eq]
  after_results
/-- The positive part. -/
def pos (z : FVec Ideal S8192x4096 .f32) : FVec Ideal S8192x4096 .f32 := maximumf z (broadcastInDim S8192x4096 ![] bcast_S_S8192x4096 (constant (F := Ideal) S_ .f32 0x00000000#32))
theorem actV_eq : actV m c = truncf .bf16 (mulf (pos (m ((c : Thread nD τ).loc main_arg0))) (pos (m ((c : Thread nD τ).loc main_arg0)))) bitsLt_bf16_f32 := by
  unfold actV V
  simp only [hostOps0, hostOps0_1, List.flatten_cons, List.flatten_nil, List.append_nil, List.cons_append, List.nil_append, TRef.binary, TRef.nullary, TRef.unary, TRef.toBuf, TRef.ofBuf, cast_eq]
  after_results
  rfl

/-! ## The blocks of the operands -/

theorem idx0 : ∀ t : Fin grid0.N, win0_0.index t 0 = t.val % 8 ∧ win0_0.index t 1 = 0 := by decide +kernel
theorem b0 (t : Fin cfg0.N) (r a : Fin 1024) : (iblk m c 0 t : Vec Ideal S1024x1024 .bf16) (ix2 r a)
    = dmV m c (ix2 (⟨1024 * (t.val % 8) + r, by omega⟩ : Fin 8192) a) := by
  unfold iblk
  rw [View.read_apply]
  refine congrArg (dmV m c) (funext fun k => Fin.ext ?_)
  fin_cases k
  · show win0_0.index t 0 * 1024 + 1 * r.val = 1024 * (t.val % 8) + r.val; rw [(idx0 t).1]; omega
  · show win0_0.index t 1 * 1024 + 1 * a.val = a.val; rw [(idx0 t).2]; omega
theorem idx1 : ∀ t : Fin grid0.N, win0_1.index t 0 = t.val % 8 ∧ win0_1.index t 1 = t.val / 8 := by decide +kernel
theorem b1 (t : Fin cfg0.N) (r a : Fin 1024) : (iblk m c 1 t : Vec Ideal S1024x1024 .bf16) (ix2 r a)
    = actV m c (ix2 (⟨1024 * (t.val % 8) + r, by omega⟩ : Fin 8192) (⟨1024 * (t.val / 8) + a, by have := lt32 t; omega⟩ : Fin 4096)) := by
  unfold iblk
  rw [View.read_apply]
  refine congrArg (actV m c) (funext fun k => Fin.ext ?_)
  fin_cases k
  · show win0_1.index t 0 * 1024 + 1 * r.val = 1024 * (t.val % 8) + r.val; rw [(idx1 t).1]; omega
  · show win0_1.index t 1 * 1024 + 1 * a.val = 1024 * (t.val / 8) + a.val; rw [(idx1 t).2]; omega
theorem idx2 : ∀ t : Fin grid0.N, win0_2.index t 0 = t.val / 8 ∧ win0_2.index t 1 = 0 := by decide +kernel
theorem b2 (t : Fin cfg0.N) (r a : Fin 1024) : (iblk m c 2 t : Vec Ideal S1024x1024 .bf16) (ix2 r a)
    = wV m c (ix2 (⟨1024 * (t.val / 8) + r, by have := lt32 t; omega⟩ : Fin 4096) a) := by
  unfold iblk
  rw [View.read_apply]
  refine congrArg (wV m c) (funext fun k => Fin.ext ?_)
  fin_cases k
  · show win0_2.index t 0 * 1024 + 1 * r.val = 1024 * (t.val / 8) + r.val; rw [(idx2 t).1]; omega
  · show win0_2.index t 1 * 1024 + 1 * a.val = a.val; rw [(idx2 t).2]; omega

/-! ## One grid point -/

theorem pay4_at (x0 x1 x2 : FVec Ideal S1024x1024 .bf16) (r s : Fin 1024) :
    (k0_pay4 x0 x1 x2 : FVec Ideal S1024x1024 .bf16) (ix2 r s)
      = (∑ k, x0 (ix2 r k) * x2 (ix2 s k)) * Ideal.sqrt (Ideal.ofBits .f32 0x40800000#32 * x1 (ix2 r s)) := by
  pointwise [k0_pay4, k0_pay2, k0_pay3]
theorem pay5_at (x0 x1 : FVec Ideal S1024x1024 .bf16) (z : FVec Ideal S1024x1024 .f32) (a b : Fin 1024) :
    (k0_pay5 x0 x1 z : FVec Ideal S1024x1024 .f32) (ix2 a b) = z (ix2 a b) + ∑ k, x1 (ix2 k a) * x0 (ix2 k b) := by
  pointwise [k0_pay5, k0_pay2, k0_pay3]
theorem pay1_at (a b : Fin 1024) : (k0_pay1 : FVec Ideal S1024x1024 .f32) (ix2 a b) = 0 := by
  pointwise [k0_pay1]
theorem pay6_at (z : FVec Ideal S1024x1024 .f32) (a b : Fin 1024) : (k0_pay6 z : FVec Ideal S1024x1024 .bf16) (ix2 a b) = z (ix2 a b) := by
  pointwise [k0_pay6]

/-- A token's term of the gradient of weight `(s, b)`. -/
def term (s : Fin 4096) (b : Fin 1024) (x : Fin 8192) : EReal := actV m c (ix2 x s) * dmV m c (ix2 x b)

/-- What is accumulated once point `n` is done: the sum over the tokens up to its block's end. -/
def accAt (n : ℕ) (hn : n < 32) (a b : Fin 1024) : EReal :=
  Tok.upTo (term m c ⟨1024 * (n / 8) + a, by omega⟩ b) (1024 * (n % 8) + 1024)

theorem step_first (t : Fin cfg0.N) (h : t.val % 8 = 0) (a b : Fin 1024) :
    (k0_pay5 (iblk m c 0 t) (iblk m c 1 t) (k0_pay1 (F := Ideal)) : FVec Ideal S1024x1024 .f32) (ix2 a b) = accAt m c t.val (lt32 t) a b := by
  refine (pay5_at _ _ _ a b).trans ?_
  rw [pay1_at]
  unfold accAt
  rw [show 1024 * (t.val % 8) + 1024 = 1024 by omega]
  refine Tok.upTo_first _ 1024 _ (by omega) fun i => ?_
  refine congrArg₂ (· * ·) ((b1 m c t i a).trans ?_) ((b0 m c t i b).trans ?_)
  · refine congrArg (fun x => actV m c (ix2 x _)) (Fin.ext ?_); dsimp only; omega
  · refine congrArg (fun x => dmV m c (ix2 x _)) (Fin.ext ?_); dsimp only; omega

theorem step_next (n : ℕ) (h : n + 1 < cfg0.N) (h0 : ¬(n + 1) % 8 = 0) (z : FVec Ideal S1024x1024 .f32)
    (hzz : ∀ a b, z (ix2 a b) = accAt m c n (by have := lt32 ⟨n + 1, h⟩; dsimp only at this; omega) a b) (a b : Fin 1024) :
    (k0_pay5 (iblk m c 0 ⟨n + 1, h⟩) (iblk m c 1 ⟨n + 1, h⟩) z : FVec Ideal S1024x1024 .f32) (ix2 a b) = accAt m c (n + 1) (lt32 ⟨n + 1, h⟩) a b := by
  refine (pay5_at _ _ _ a b).trans ?_
  rw [hzz]
  unfold accAt
  have e : n / 8 = (n + 1) / 8 := by omega
  have e' : 1024 * (n % 8) + 1024 = 1024 * ((n + 1) % 8) := by omega
  simp only [e, e']
  refine Tok.upTo_block _ _ 1024 _ (by omega) fun i => ?_
  exact congrArg₂ (· * ·) (b1 m c ⟨n + 1, h⟩ i a) (b0 m c ⟨n + 1, h⟩ i b)

/-- What the accumulator holds after every point. -/
theorem acc_eq : ∀ (n : ℕ) (h : n < cfg0.N) (a b : Fin 1024), ((outsAt0 m c n h).2.2 : FVec Ideal S1024x1024 .f32) (ix2 a b) = accAt m c n (lt32 ⟨n, h⟩) a b
  | 0, h, a, b => by
    have e := congrArg (fun p : Vec Ideal S1024x1024 .bf16 × Vec Ideal S1024x1024 .bf16 × Vec Ideal S1024x1024 .f32 => p.2.2) (outsAt0_A m c ⟨0, h⟩ rfl (by dsimp only; omega))
    dsimp only at e
    exact (congrFun (e.trans (sout0_A_0_eq ..)) (ix2 a b)).trans (step_first m c ⟨0, h⟩ rfl a b)
  | n + 1, h, a, b => by
    by_cases h0 : (n + 1) % 8 = 0
    · have e := congrArg (fun p : Vec Ideal S1024x1024 .bf16 × Vec Ideal S1024x1024 .bf16 × Vec Ideal S1024x1024 .f32 => p.2.2) (outsAt0_A m c ⟨n + 1, h⟩ h0 (by dsimp only; omega))
      dsimp only at e
      exact (congrFun (e.trans (sout0_A_0_eq ..)) (ix2 a b)).trans (step_first m c ⟨n + 1, h⟩ h0 a b)
    · have hr := step_next m c n h h0 _ (acc_eq n (Nat.lt_of_succ_lt h)) a b
      by_cases h1 : (n + 1) % 8 = 7
      · have e := congrArg (fun p : Vec Ideal S1024x1024 .bf16 × Vec Ideal S1024x1024 .bf16 × Vec Ideal S1024x1024 .f32 => p.2.2) (outsAt0_C m c ⟨n + 1, h⟩ h0 h1)
        dsimp only at e
        exact (congrFun (e.trans (sout0_C_0_eq ..)) (ix2 a b)).trans hr
      · have e := congrArg (fun p : Vec Ideal S1024x1024 .bf16 × Vec Ideal S1024x1024 .bf16 × Vec Ideal S1024x1024 .f32 => p.2.2) (outsAt0_B m c ⟨n + 1, h⟩ h0 h1)
        dsimp only at e
        exact (congrFun (e.trans (sout0_B_0_eq ..)) (ix2 a b)).trans hr

/-- What is written of the gradient of the preactivations. -/
theorem out3_eq (t : Fin cfg0.N) : (outsAt0 m c t.val t.isLt).1 = (k0_pay4 (iblk m c 0 t) (iblk m c 1 t) (iblk m c 2 t) : FVec Ideal S1024x1024 .bf16) := by
  by_cases h0 : t.val % 8 = 0
  · have e := congrArg (fun p : Vec Ideal S1024x1024 .bf16 × Vec Ideal S1024x1024 .bf16 × Vec Ideal S1024x1024 .f32 => p.1) (outsAt0_A m c t h0 (by omega))
    dsimp only at e
    exact e.trans (out0_A_3_eq ..)
  · by_cases h1 : t.val % 8 = 7
    · have e := congrArg (fun p : Vec Ideal S1024x1024 .bf16 × Vec Ideal S1024x1024 .bf16 × Vec Ideal S1024x1024 .f32 => p.1) (outsAt0_C m c t h0 h1)
      dsimp only at e
      exact e.trans (out0_C_3_eq ..)
    · have e := congrArg (fun p : Vec Ideal S1024x1024 .bf16 × Vec Ideal S1024x1024 .bf16 × Vec Ideal S1024x1024 .f32 => p.1) (outsAt0_B m c t h0 h1)
      dsimp only at e
      exact e.trans (out0_B_3_eq ..)
/-- What is written of the gradient of the weights: the accumulator. -/
theorem out4_eq (t : Fin cfg0.N) (h1 : t.val % 8 = 7) (a b : Fin 1024) :
    ((outsAt0 m c t.val t.isLt).2.1 : FVec Ideal S1024x1024 .bf16) (ix2 a b) = accAt m c t.val (lt32 t) a b := by
  have h0 : ¬t.val % 8 = 0 := by omega
  have e := congrArg (fun p : Vec Ideal S1024x1024 .bf16 × Vec Ideal S1024x1024 .bf16 × Vec Ideal S1024x1024 .f32 => p.2.1) (outsAt0_C m c t h0 h1)
  dsimp only at e
  have e' := congrArg (fun p : Vec Ideal S1024x1024 .bf16 × Vec Ideal S1024x1024 .bf16 × Vec Ideal S1024x1024 .f32 => p.2.2) (outsAt0_C m c t h0 h1)
  dsimp only at e'
  refine (congrFun (e.trans (out0_C_4_eq ..)) (ix2 a b)).trans ((pay6_at _ a b).trans ?_)
  exact (congrFun (e'.trans (sout0_C_0_eq ..)) (ix2 a b)).symm.trans (acc_eq m c t.val t.isLt a b)

/-! ## The two arrays -/

/-- The gradient of the preactivations. -/
def dzR (r : Fin 8192) (s : Fin 4096) : EReal :=
  (∑ k, dmV m c (ix2 r k) * wV m c (ix2 s k)) * Ideal.sqrt (Ideal.ofBits .f32 0x40800000#32 * actV m c (ix2 r s))
/-- The gradient of the weights. -/
def dwR (s : Fin 4096) (b : Fin 1024) : EReal := ∑ x, term m c s b x

theorem dz_eq (y : S8192x4096.Idx) : Value.G3 m c y = dzR m c (y 0) (y 1) := by
  have h0 : (y 0).val < 8192 := (y 0).2
  have h1 : (y 1).val < 4096 := (y 1).2
  have hp : Value.pt3Of y < cfg0.N := lt_of_lt_of_eq (by show 1 * ((y 0).val / 1024 - 0) + 8 * ((y 1).val / 1024 - 0) < 32; omega) N_0.symm
  have hv : (⟨Value.pt3Of y, hp⟩ : Fin cfg0.N).val = (y 0).val / 1024 + 8 * ((y 1).val / 1024) := by
    show 1 * ((y 0).val / 1024 - 0) + 8 * ((y 1).val / 1024 - 0) = _; omega
  unfold Value.G3
  rw [dif_pos hp, ← Value.outsAt0_sweep m c _ hp]
  have hl : Value.loc3Of y = ix2 (⟨(y 0).val % 1024, Nat.mod_lt _ (by decide)⟩ : Fin 1024) (⟨(y 1).val % 1024, Nat.mod_lt _ (by decide)⟩ : Fin 1024) := by
    funext k; fin_cases k <;> rfl
  refine (congrFun (out3_eq m c ⟨_, hp⟩) _).trans ((congrArg _ hl).trans ((pay4_at _ _ _ _ _).trans ?_))
  unfold dzR
  have e0 : ∀ z, (⟨1024 * ((⟨Value.pt3Of y, hp⟩ : Fin cfg0.N).val % 8) + (y 0).val % 1024, z⟩ : Fin 8192) = y 0 := fun z => Fin.ext (by dsimp only at hv ⊢; omega)
  have e1 : ∀ z, (⟨1024 * ((⟨Value.pt3Of y, hp⟩ : Fin cfg0.N).val / 8) + (y 1).val % 1024, z⟩ : Fin 4096) = y 1 := fun z => Fin.ext (by dsimp only at hv ⊢; omega)
  refine congrArg₂ (fun p q => p * Ideal.sqrt (Ideal.ofBits .f32 0x40800000#32 * q)) (Finset.sum_congr rfl fun k _ => congrArg₂ (· * ·) ((b0 m c _ _ k).trans ?_) ((b2 m c _ _ k).trans ?_)) ((b1 m c _ _ _).trans ?_)
  · exact congrArg (fun x => dmV m c (ix2 x k)) (e0 _)
  · exact congrArg (fun x => wV m c (ix2 x k)) (e1 _)
  · exact congrArg₂ (fun x x' => actV m c (ix2 x x')) (e0 _) (e1 _)

theorem dw_eq (y : S4096x1024.Idx) : Value.G4 m c y = dwR m c (y 0) (y 1) := by
  have h0 : (y 0).val < 4096 := (y 0).2
  have h1 : (y 1).val < 1024 := (y 1).2
  have hv : Value.pt4Of y = 8 * ((y 0).val / 1024) + 7 := by
    show 8 * (1 * ((y 0).val / 1024 - 0) + 1 * ((y 1).val / 1024 - 0)) + 7 = _; omega
  have hp : Value.pt4Of y < cfg0.N := lt_of_lt_of_eq (by rw [hv]; omega) N_0.symm
  unfold Value.G4
  rw [dif_pos hp, ← Value.outsAt0_sweep m c _ hp]
  have hl : Value.loc4Of y = ix2 (⟨(y 0).val % 1024, Nat.mod_lt _ (by decide)⟩ : Fin 1024) (⟨(y 1).val % 1024, Nat.mod_lt _ (by decide)⟩ : Fin 1024) := by
    funext k; fin_cases k <;> rfl
  refine (congrArg _ hl).trans ((out4_eq m c ⟨_, hp⟩ (by dsimp only; omega) _ _).trans ?_)
  unfold accAt dwR
  rw [← Tok.upTo_all]
  dsimp only
  have e0 : ∀ z, (⟨1024 * (Value.pt4Of y / 8) + (y 0).val % 1024, z⟩ : Fin 4096) = y 0 := fun z => Fin.ext (by dsimp only; rw [hv]; omega)
  have e1 : ∀ z, (⟨(y 1).val % 1024, z⟩ : Fin 1024) = y 1 := fun z => Fin.ext (by dsimp only; omega)
  rw [e0, e1, show 1024 * (Value.pt4Of y % 8) + 1024 = 8192 by omega]

end Cert.Kernel2Ideal.Val

end
-- ==== Proof.FfSame.lean ====
/- The gradient of the second product of the perceptron: both programs end with the same arrays. -/
module

public import proofs.«01_k».proof.Proof.FfVal
public import proofs.«01_k».proof.Proof.Gen.Reference2Ideal.Run
public import proofs.«01_k».proof.Defs
public import Idealize.ShloMosaic.Lib.Quiescent

@[expose] public section

set_option maxRecDepth 16384

noncomputable section

namespace Cert.Same2

open Idealize.ShloMosaic Idealize.ShloMosaic.TcCoe Idealize.ShloMosaic.StableHlo Idealize.SL.Sem

/-- The square root of four times the square of the positive part is twice the positive part. -/
theorem four : (Ideal.ofBits .f32 0x40800000#32 : EReal) = ((4 : ℝ) : EReal) := by
  simp [Ideal.ofBits, Ideal.ieee, -EReal.coe_mul]; norm_num
theorem two : (Ideal.ofBits .f32 0x40000000#32 : EReal) = ((2 : ℝ) : EReal) := by
  simp [Ideal.ofBits, Ideal.ieee, -EReal.coe_mul]; norm_num
theorem sqrt_top : Ideal.sqrt (⊤ : EReal) = ⊤ := rfl
theorem sqrt_coe (r : ℝ) (h : 0 ≤ r) : Ideal.sqrt (r : EReal) = ((Real.sqrt r : ℝ) : EReal) := by
  show (if r < 0 then (⊥ : EReal) else ((Real.sqrt r : ℝ) : EReal)) = _
  rw [if_neg (not_lt.mpr h)]
theorem sqrt_zero : Ideal.sqrt (0 : EReal) = 0 := by
  have := sqrt_coe 0 le_rfl
  simpa using this
theorem root (z : EReal) (D : EReal) : D * Ideal.sqrt (Ideal.ofBits .f32 0x40800000#32 * (max z 0 * max z 0))
    = if 0 < z then D * (Ideal.ofBits .f32 0x40000000#32 * max z 0) else 0 := by
  rw [four, two]
  by_cases h : 0 < z
  · rw [if_pos h, max_eq_left h.le]
    congr 1
    induction z using EReal.rec with
    | bot => exact absurd h (by simp)
    | top => rw [EReal.top_mul_top, EReal.coe_mul_top_of_pos (by norm_num), EReal.coe_mul_top_of_pos (by norm_num), sqrt_top]
    | coe z =>
      have hz : 0 < z := by exact_mod_cast h
      rw [← EReal.coe_mul, ← EReal.coe_mul, ← EReal.coe_mul]
      have e : (4 : ℝ) * (z * z) = (2 * z) ^ 2 := by ring
      have e2 : Real.sqrt (4 * (z * z)) = 2 * z := by rw [e]; exact Real.sqrt_sq (by positivity)
      have e3 : (0 : ℝ) ≤ 4 * (z * z) := by positivity
      rw [sqrt_coe _ e3, e2]
  · rw [if_neg h, max_eq_right (not_lt.mp h)]
    rw [mul_zero, mul_zero, sqrt_zero, mul_zero]

section
open Cert.Reference2Ideal Cert.Reference2Ideal.Gen
/-- The reference's gradients of the preactivations and of the weights. -/
def refDz (z : FVec Ideal S8192x4096 .f32) (w : FVec Ideal S4096x1024 .f32) (d : FVec Ideal S8192x1024 .f32) : FVec Ideal S8192x4096 .bf16 := truncf .bf16 (select (cmpf .ogt z (broadcastInDim S8192x4096 ![] bcast_S_S8192x4096 (constant (F := Ideal) S_ .f32 0x00000000#32))) (mulf (Host.dotGeneral dot_S8192x1024_S4096x1024_S8192x4096_1_1_0_0_n_n none d w) (mulf (broadcastInDim S8192x4096 ![] bcast_S_S8192x4096 (constant (F := Ideal) S_ .f32 0x40000000#32)) (maximumf z (broadcastInDim S8192x4096 ![] bcast_S_S8192x4096 (constant (F := Ideal) S_ .f32 0x00000000#32))))) (broadcastInDim S8192x4096 ![] bcast_S_S8192x4096 (constant (F := Ideal) S_ .f32 0x00000000#32))) bitsLt_bf16_f32
def refDw (z : FVec Ideal S8192x4096 .f32) (d : FVec Ideal S8192x1024 .f32) : FVec Ideal S4096x1024 .bf16 := truncf .bf16 (transpose S4096x1024 [1, 0] (Host.dotGeneral dot_S8192x1024_S8192x4096_S1024x4096_0_0_1_1_n_n none d (mulf (maximumf z (broadcastInDim S8192x4096 ![] bcast_S_S8192x4096 (constant (F := Ideal) S_ .f32 0x00000000#32))) (maximumf z (broadcastInDim S8192x4096 ![] bcast_S_S8192x4096 (constant (F := Ideal) S_ .f32 0x00000000#32))))) transposes_S1024x4096_S4096x1024_1_0) bitsLt_bf16_f32
theorem ref_dz (z : FVec Ideal S8192x4096 .f32) (w : FVec Ideal S4096x1024 .f32) (d : FVec Ideal S8192x1024 .f32) (r : Fin 8192) (s : Fin 4096) :
    refDz z w d (ix2 r s)
      = if 0 < z (ix2 r s) then (∑ k : Fin 1024, d (ix2 r k) * w (ix2 s k)) * (Ideal.ofBits .f32 0x40000000#32 * max (z (ix2 r s)) 0) else 0 := by
  pointwise [refDz]
theorem ref_dw (z : FVec Ideal S8192x4096 .f32) (d : FVec Ideal S8192x1024 .f32) (s : Fin 4096) (b : Fin 1024) :
    refDw z d (ix2 s b)
      = ∑ x : Fin 8192, d (ix2 x b) * (max (z (ix2 x s)) 0 * max (z (ix2 x s)) 0) := by
  pointwise [refDw]
end

section
variable (m : (ℓ : Loc Cert.Kernel2Ideal.nD Cert.Kernel2Ideal.τ Cert.Kernel2Ideal.sig) → Buf (Elt Ideal) ℓ) (c : Dev Cert.Kernel2Ideal.nD)
open Cert.Kernel2Ideal Cert.Kernel2Ideal.Gen Cert.Kernel2Ideal.Val
/-- The three arguments, as matrices. -/
abbrev zA : FVec Ideal S8192x4096 .f32 := m ((c : Thread nD τ).loc main_arg0)
abbrev wA : FVec Ideal S4096x1024 .f32 := m ((c : Thread nD τ).loc main_arg1)
abbrev dA : FVec Ideal S8192x1024 .f32 := m ((c : Thread nD τ).loc main_arg2)
theorem sq_at (z : FVec Ideal S8192x4096 .f32) (r : Fin 8192) (s : Fin 4096) :
    (truncf .bf16 (mulf (pos z) (pos z)) bitsLt_bf16_f32 : FVec Ideal S8192x4096 .bf16) (ix2 r s) = max (z (ix2 r s)) 0 * max (z (ix2 r s)) 0 := by
  pointwise [pos]
theorem act_at (r : Fin 8192) (s : Fin 4096) : actV m c (ix2 r s) = max (zA m c (ix2 r s)) 0 * max (zA m c (ix2 r s)) 0 :=
  (congrFun (actV_eq m c) _).trans (sq_at _ r s)
theorem dm_at (r : Fin 8192) (k : Fin 1024) : dmV m c (ix2 r k) = dA m c (ix2 r k) := congrFun (dmV_eq m c) _
theorem w_at (r : Fin 4096) (k : Fin 1024) : wV m c (ix2 r k) = wA m c (ix2 r k) := congrFun (wV_eq m c) _

theorem dz_same : refDz (zA m c) (wA m c) (dA m c) = Value.G3 m c := by
  funext y
  obtain ⟨r, s, rfl⟩ : ∃ (r : Fin 8192) (s : Fin 4096), y = ix2 r s := ⟨y 0, y 1, by funext k; fin_cases k <;> rfl⟩
  refine (ref_dz _ _ _ r s).trans (Eq.trans ?_ (Val.dz_eq m c (ix2 r s)).symm)
  refine Eq.trans ?_ (show (_ : EReal) = dzR m c r s from rfl)
  unfold dzR
  rw [act_at, root]
  rw [show (∑ k, dmV m c (ix2 r k) * wV m c (ix2 s k)) = ∑ k : Fin 1024, dA m c (ix2 r k) * wA m c (ix2 s k) from
    Finset.sum_congr rfl fun k _ => congrArg₂ (· * ·) (dm_at m c r k) (w_at m c s k)]
theorem dw_same : refDw (zA m c) (dA m c) = Value.G4 m c := by
  funext y
  obtain ⟨s, b, rfl⟩ : ∃ (s : Fin 4096) (b : Fin 1024), y = ix2 s b := ⟨y 0, y 1, by funext k; fin_cases k <;> rfl⟩
  refine (ref_dw _ _ s b).trans (Eq.trans ?_ (Val.dw_eq m c (ix2 s b)).symm)
  refine Eq.trans ?_ (show (_ : EReal) = dwR m c s b from rfl)
  unfold dwR term
  refine Finset.sum_congr rfl fun x _ => ?_
  rw [act_at, dm_at, mul_comm]
end

/-- The reference keeps its arguments and signals nothing. -/
theorem ref_frame (m : (ℓ : Loc Cert.Reference2Ideal.nD Cert.Reference2Ideal.τ Cert.Reference2Ideal.sig) → Buf (Elt Ideal) ℓ)
    (ρ : Dev Cert.Reference2Ideal.nD → PrngReg) :
    θ_run (Cert.Reference2Ideal.defs (F := Ideal)) (onTc (τ := Cert.Reference2Ideal.τ) (Cert.Reference2Ideal.main (F := Ideal))) ⟨m, fun _ => 0, ρ⟩
      (fun r => (∀ c : Dev Cert.Reference2Ideal.nD,
        r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
        ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
        ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
        ∧ r.2.sem = fun _ => 0) :=
  (θ_run (Cert.Reference2Ideal.defs (F := Ideal)) _ _).mono (fun r h => ⟨fun c => (h c).2.2, sem_eq_zero_of_no_sems (by decide) r.2⟩)
    (Cert.Reference2Ideal.Value.run (F := Ideal) m ρ)

theorem algebraic : Cert.algebraic_Kernel2Ideal_Reference2Ideal (hKernel2Ideal := Cert.Kernel2Ideal.Gen.facts)
    (hReference2Ideal := Cert.Reference2Ideal.Gen.facts) := by
  intro m g m' g' _ hargs
  refine ⟨fun c => Cert.Kernel2Ideal.Value.G3 m c, fun c => Cert.Kernel2Ideal.Value.G4 m c, ?_, ?_⟩
  · exact Cert.Kernel2Ideal.Value.run m g
  · refine (θ_run (Cert.Reference2Ideal.defs (F := Ideal)) _ _).mono (fun r h c => ?_) (Cert.Reference2Ideal.Value.run (F := Ideal) m' g')
    obtain ⟨a0, a1, a2⟩ := hargs c
    refine ⟨(h c).1.trans (Eq.trans ?_ (dz_same m c)), (h c).2.1.trans (Eq.trans ?_ (dw_same m c)), (h c).2.2⟩
    · rw [a0, a1, a2]; rfl
    · rw [a0, a2]; rfl

end Cert.Same2

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Kernel6.Frame
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Gen.Kernel7.Frame
public import proofs.«01_k».proof.Proof.Gen.Kernel7Ideal.Frame
public import proofs.«01_k».proof.Proof.Gen.Kernel7Ideal.Value
public import proofs.«01_k».proof.Proof.Gen.Reference7Ideal.Run
public import proofs.«01_k».proof.Proof.Same
public import proofs.«01_k».proof.Proof.IbSame
public import proofs.«01_k».proof.Proof.MlSame
public import proofs.«01_k».proof.Proof.OutSame
public import proofs.«01_k».proof.Proof.InSame
public import proofs.«01_k».proof.Proof.DwSame
public import proofs.«01_k».proof.Proof.FfSame
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Pre_finite.facts,
  fun m ρ _ => Cert.Kernel.Gen.frame m ρ, fun m ρ _ => Cert.KernelIdeal.Gen.frame m ρ, fun m ρ _ => Cert.KernelIdeal.Gen.frame m ρ,
  fun m ρ _ => Cert.Same.ref_frame m ρ, fun m ρ _ => Cert.Same.ref_frame m ρ,
  fun m ρ _ => Cert.Kernel2.Gen.frame m ρ, fun m ρ _ => Cert.Kernel2Ideal.Gen.frame m ρ, fun m ρ _ => Cert.Same2.ref_frame m ρ,
  fun m ρ _ => Cert.Kernel3.Gen.frame m ρ, fun m ρ _ => Cert.Kernel3Ideal.Gen.frame m ρ, fun m ρ _ => Cert.Same3.ref_frame m ρ,
  fun m ρ _ => Cert.Kernel4.Gen.frame m ρ, fun m ρ _ => Cert.Kernel4Ideal.Gen.frame m ρ, fun m ρ _ => Cert.Same4.ref_frame m ρ,
  fun m ρ _ => Cert.Kernel5.Gen.frame m ρ, fun m ρ _ => Cert.Kernel5Ideal.Gen.frame m ρ, fun m ρ _ => Cert.Same5.ref_frame m ρ,
  fun m ρ _ => Cert.Kernel6.Gen.frame m ρ, fun m ρ _ => Cert.Kernel6Ideal.Gen.frame m ρ, fun m ρ _ => Cert.Same6.ref_frame m ρ,
  fun m ρ _ => Cert.Kernel7.Gen.frame m ρ, fun m ρ _ => Cert.Kernel7Ideal.Gen.frame m ρ, fun m ρ _ => Cert.Same7.ref_frame m ρ,
  trivial, Cert.Same.algebraic,
  trivial, Cert.Same2.algebraic,
  trivial, Cert.Same3.algebraic,
  trivial, Cert.Same4.algebraic,
  trivial, Cert.Same5.algebraic,
  trivial, Cert.Same6.algebraic,
  trivial, Cert.Same7.algebraic⟩

end Cert.Proof

end
